-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdIdeal_finite_bwd [hPre_finite_bwd : Cert.Pre_finite_bwd.Facts] (m : (ℓ : Loc Cert.BwdIdeal.nD Cert.BwdIdeal.τ Cert.BwdIdeal.sig) → Buf (Elt Ideal) ℓ) : Prop :=
  ∀ c : Dev Cert.BwdIdeal.nD,
    (Cert.Pre_finite_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6))).1 = (fun _ => 1#1)
    ∧ (Cert.Pre_finite_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6))).2.1 = (fun _ => 1#1)
    ∧ (Cert.Pre_finite_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6))).2.2.1 = (fun _ => 1#1)
    ∧ (Cert.Pre_finite_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6))).2.2.2.1 = (fun _ => 1#1)
    ∧ (Cert.Pre_finite_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6))).2.2.2.2 = (fun _ => 1#1)

def Pre_BwdRefIdeal (m : (ℓ : Loc Cert.BwdRefIdeal.nD Cert.BwdRefIdeal.τ Cert.BwdRefIdeal.sig) → Buf (Elt Ideal) ℓ) : Prop :=
  True

def Pre_BwdRefIdeal_finite_bwd [hPre_finite_bwd : Cert.Pre_finite_bwd.Facts] (m : (ℓ : Loc Cert.BwdRefIdeal.nD Cert.BwdRefIdeal.τ Cert.BwdRefIdeal.sig) → Buf (Elt Ideal) ℓ) : Prop :=
  ∀ c : Dev Cert.BwdRefIdeal.nD,
    (Cert.Pre_finite_bwd.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6))).1 = (fun _ => 1#1)
    ∧ (Cert.Pre_finite_bwd.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6))).2.1 = (fun _ => 1#1)
    ∧ (Cert.Pre_finite_bwd.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6))).2.2.1 = (fun _ => 1#1)
    ∧ (Cert.Pre_finite_bwd.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6))).2.2.2.1 = (fun _ => 1#1)
    ∧ (Cert.Pre_finite_bwd.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6))).2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.2.2 = (fun _ => 1#1)

def Pre_Wg (m : (ℓ : Loc Cert.Wg.nD Cert.Wg.τ Cert.Wg.sig) → Buf (Elt Bits) ℓ) : Prop :=
  True

def Pre_WgIdeal (m : (ℓ : Loc Cert.WgIdeal.nD Cert.WgIdeal.τ Cert.WgIdeal.sig) → Buf (Elt Ideal) ℓ) : Prop :=
  True

def Pre_WgRefIdeal (m : (ℓ : Loc Cert.WgRefIdeal.nD Cert.WgRefIdeal.τ Cert.WgRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpIdeal_finite_inp [hPre_finite_inp : Cert.Pre_finite_inp.Facts] (m : (ℓ : Loc Cert.InpIdeal.nD Cert.InpIdeal.τ Cert.InpIdeal.sig) → Buf (Elt Ideal) ℓ) : Prop :=
  ∀ c : Dev Cert.InpIdeal.nD,
    (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5))).1 = (fun _ => 1#1)
    ∧ (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5))).2.1 = (fun _ => 1#1)
    ∧ (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5))).2.2.1 = (fun _ => 1#1)
    ∧ (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5))).2.2.2.1 = (fun _ => 1#1)
    ∧ (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5))).2.2.2.2 = (fun _ => 1#1)

def Pre_InpRefIdeal (m : (ℓ : Loc Cert.InpRefIdeal.nD Cert.InpRefIdeal.τ Cert.InpRefIdeal.sig) → Buf (Elt Ideal) ℓ) : Prop :=
  True

def Pre_InpRefIdeal_finite_inp [hPre_finite_inp : Cert.Pre_finite_inp.Facts] (m : (ℓ : Loc Cert.InpRefIdeal.nD Cert.InpRefIdeal.τ Cert.InpRefIdeal.sig) → Buf (Elt Ideal) ℓ) : Prop :=
  ∀ c : Dev Cert.InpRefIdeal.nD,
    (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5))).1 = (fun _ => 1#1)
    ∧ (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5))).2.1 = (fun _ => 1#1)
    ∧ (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5))).2.2.1 = (fun _ => 1#1)
    ∧ (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5))).2.2.2.1 = (fun _ => 1#1)
    ∧ (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5))).2.2.2.2 = (fun _ => 1#1)

def Pre_Inz (m : (ℓ : Loc Cert.Inz.nD Cert.Inz.τ Cert.Inz.sig) → Buf (Elt Bits) ℓ) : Prop :=
  True

def Pre_InzIdeal (m : (ℓ : Loc Cert.InzIdeal.nD Cert.InzIdeal.τ Cert.InzIdeal.sig) → Buf (Elt Ideal) ℓ) : Prop :=
  True

def Pre_InzRefIdeal (m : (ℓ : Loc Cert.InzRefIdeal.nD Cert.InzRefIdeal.τ Cert.InzRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttRefIdeal (m : (ℓ : Loc Cert.AttRefIdeal.nD Cert.AttRefIdeal.τ Cert.AttRefIdeal.sig) → Buf (Elt Ideal) ℓ) : Prop :=
  True

def Pre_Rln (m : (ℓ : Loc Cert.Rln.nD Cert.Rln.τ Cert.Rln.sig) → Buf (Elt Bits) ℓ) : Prop :=
  True

def Pre_RlnIdeal (m : (ℓ : Loc Cert.RlnIdeal.nD Cert.RlnIdeal.τ Cert.RlnIdeal.sig) → Buf (Elt Ideal) ℓ) : Prop :=
  True

def Pre_RlnRefIdeal (m : (ℓ : Loc Cert.RlnRefIdeal.nD Cert.RlnRefIdeal.τ Cert.RlnRefIdeal.sig) → Buf (Elt Ideal) ℓ) : Prop :=
  True

def Pre_Rlr (m : (ℓ : Loc Cert.Rlr.nD Cert.Rlr.τ Cert.Rlr.sig) → Buf (Elt Bits) ℓ) : Prop :=
  True

def Pre_RlrIdeal (m : (ℓ : Loc Cert.RlrIdeal.nD Cert.RlrIdeal.τ Cert.RlrIdeal.sig) → Buf (Elt Ideal) ℓ) : Prop :=
  True

def Pre_RlrRefIdeal (m : (ℓ : Loc Cert.RlrRefIdeal.nD Cert.RlrRefIdeal.τ Cert.RlrRefIdeal.sig) → Buf (Elt Ideal) ℓ) : Prop :=
  True

def Pre_Mxf (m : (ℓ : Loc Cert.Mxf.nD Cert.Mxf.τ Cert.Mxf.sig) → Buf (Elt Bits) ℓ) : Prop :=
  True

def Pre_MxfIdeal (m : (ℓ : Loc Cert.MxfIdeal.nD Cert.MxfIdeal.τ Cert.MxfIdeal.sig) → Buf (Elt Ideal) ℓ) : Prop :=
  True

def Pre_MxfRefIdeal (m : (ℓ : Loc Cert.MxfRefIdeal.nD Cert.MxfRefIdeal.τ Cert.MxfRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1)
      ∧ r.2.mem ((c.tc : Thread Cert.Ff2RefIdeal.nD Cert.Ff2RefIdeal.τ).loc Cert.Ff2RefIdeal.main_arg2) = m ((c.tc : Thread Cert.Ff2RefIdeal.nD Cert.Ff2RefIdeal.τ).loc Cert.Ff2RefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5)
      ∧ r.2.mem ((c.tc : Thread Cert.Bwd.nD Cert.Bwd.τ).loc Cert.Bwd.main_arg6) = m ((c.tc : Thread Cert.Bwd.nD Cert.Bwd.τ).loc Cert.Bwd.main_arg6))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6))
      ∧ r.2.sem = fun _ => 0)

def quiescent_BwdIdeal_pre_finite_bwd [hBwdIdeal : Cert.BwdIdeal.Facts] [hPre_finite_bwd : Cert.Pre_finite_bwd.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal_finite_bwd m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6))
      ∧ r.2.sem = fun _ => 0)

def quiescent_BwdRefIdeal_pre_finite_bwd [hBwdRefIdeal : Cert.BwdRefIdeal.Facts] [hPre_finite_bwd : Cert.Pre_finite_bwd.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal_finite_bwd m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Wg [hWg : Cert.Wg.Facts] : Prop :=
  ∀ (m : (ℓ : Loc Cert.Wg.nD Cert.Wg.τ Cert.Wg.sig) → Buf (Elt Bits) ℓ) (g : Dev Cert.Wg.nD → PrngReg), Pre_Wg m →
    θ_run (Cert.Wg.defs (F := Bits)) (onTc (τ := Cert.Wg.τ) (Cert.Wg.main (F := Bits))) ⟨m, fun _ => 0, g⟩ (fun r => (∀ c : Dev Cert.Wg.nD,
      r.2.mem ((c.tc : Thread Cert.Wg.nD Cert.Wg.τ).loc Cert.Wg.main_arg0) = m ((c.tc : Thread Cert.Wg.nD Cert.Wg.τ).loc Cert.Wg.main_arg0)
      ∧ r.2.mem ((c.tc : Thread Cert.Wg.nD Cert.Wg.τ).loc Cert.Wg.main_arg1) = m ((c.tc : Thread Cert.Wg.nD Cert.Wg.τ).loc Cert.Wg.main_arg1))
      ∧ r.2.sem = fun _ => 0)

def quiescent_WgIdeal [hWgIdeal : Cert.WgIdeal.Facts] : Prop :=
  ∀ (m : (ℓ : Loc Cert.WgIdeal.nD Cert.WgIdeal.τ Cert.WgIdeal.sig) → Buf (Elt Ideal) ℓ) (g : Dev Cert.WgIdeal.nD → PrngReg), Pre_WgIdeal m →
    θ_run (Cert.WgIdeal.defs (F := Ideal)) (onTc (τ := Cert.WgIdeal.τ) (Cert.WgIdeal.main (F := Ideal))) ⟨m, fun _ => 0, g⟩ (fun r => (∀ c : Dev Cert.WgIdeal.nD,
      r.2.mem ((c.tc : Thread Cert.WgIdeal.nD Cert.WgIdeal.τ).loc Cert.WgIdeal.main_arg0) = m ((c.tc : Thread Cert.WgIdeal.nD Cert.WgIdeal.τ).loc Cert.WgIdeal.main_arg0)
      ∧ r.2.mem ((c.tc : Thread Cert.WgIdeal.nD Cert.WgIdeal.τ).loc Cert.WgIdeal.main_arg1) = m ((c.tc : Thread Cert.WgIdeal.nD Cert.WgIdeal.τ).loc Cert.WgIdeal.main_arg1))
      ∧ r.2.sem = fun _ => 0)

def quiescent_WgRefIdeal [hWgRefIdeal : Cert.WgRefIdeal.Facts] : Prop :=
  ∀ (m : (ℓ : Loc Cert.WgRefIdeal.nD Cert.WgRefIdeal.τ Cert.WgRefIdeal.sig) → Buf (Elt Ideal) ℓ) (g : Dev Cert.WgRefIdeal.nD → PrngReg), Pre_WgRefIdeal m →
    θ_run (Cert.WgRefIdeal.defs (F := Ideal)) (onTc (τ := Cert.WgRefIdeal.τ) (Cert.WgRefIdeal.main (F := Ideal))) ⟨m, fun _ => 0, g⟩ (fun r => (∀ c : Dev Cert.WgRefIdeal.nD,
      r.2.mem ((c.tc : Thread Cert.WgRefIdeal.nD Cert.WgRefIdeal.τ).loc Cert.WgRefIdeal.main_arg0) = m ((c.tc : Thread Cert.WgRefIdeal.nD Cert.WgRefIdeal.τ).loc Cert.WgRefIdeal.main_arg0)
      ∧ r.2.mem ((c.tc : Thread Cert.WgRefIdeal.nD Cert.WgRefIdeal.τ).loc Cert.WgRefIdeal.main_arg1) = m ((c.tc : Thread Cert.WgRefIdeal.nD Cert.WgRefIdeal.τ).loc Cert.WgRefIdeal.main_arg1))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5))
      ∧ r.2.sem = fun _ => 0)

def quiescent_InpIdeal_pre_finite_inp [hInpIdeal : Cert.InpIdeal.Facts] [hPre_finite_inp : Cert.Pre_finite_inp.Facts] : Prop :=
  ∀ (m : (ℓ : Loc Cert.InpIdeal.nD Cert.InpIdeal.τ Cert.InpIdeal.sig) → Buf (Elt Ideal) ℓ) (g : Dev Cert.InpIdeal.nD → PrngReg), Pre_InpIdeal_finite_inp m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5))
      ∧ r.2.sem = fun _ => 0)

def quiescent_InpRefIdeal_pre_finite_inp [hInpRefIdeal : Cert.InpRefIdeal.Facts] [hPre_finite_inp : Cert.Pre_finite_inp.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal_finite_inp m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5))
      ∧ r.2.sem = fun _ => 0)

def quiescent_Inz [hInz : Cert.Inz.Facts] : Prop :=
  ∀ (m : (ℓ : Loc Cert.Inz.nD Cert.Inz.τ Cert.Inz.sig) → Buf (Elt Bits) ℓ) (g : Dev Cert.Inz.nD → PrngReg), Pre_Inz m →
    θ_run (Cert.Inz.defs (F := Bits)) (onTc (τ := Cert.Inz.τ) (Cert.Inz.main (F := Bits))) ⟨m, fun _ => 0, g⟩ (fun r => (∀ c : Dev Cert.Inz.nD,
      r.2.mem ((c.tc : Thread Cert.Inz.nD Cert.Inz.τ).loc Cert.Inz.main_arg0) = m ((c.tc : Thread Cert.Inz.nD Cert.Inz.τ).loc Cert.Inz.main_arg0)
      ∧ r.2.mem ((c.tc : Thread Cert.Inz.nD Cert.Inz.τ).loc Cert.Inz.main_arg1) = m ((c.tc : Thread Cert.Inz.nD Cert.Inz.τ).loc Cert.Inz.main_arg1)
      ∧ r.2.mem ((c.tc : Thread Cert.Inz.nD Cert.Inz.τ).loc Cert.Inz.main_arg2) = m ((c.tc : Thread Cert.Inz.nD Cert.Inz.τ).loc Cert.Inz.main_arg2))
      ∧ r.2.sem = fun _ => 0)

def quiescent_InzIdeal [hInzIdeal : Cert.InzIdeal.Facts] : Prop :=
  ∀ (m : (ℓ : Loc Cert.InzIdeal.nD Cert.InzIdeal.τ Cert.InzIdeal.sig) → Buf (Elt Ideal) ℓ) (g : Dev Cert.InzIdeal.nD → PrngReg), Pre_InzIdeal m →
    θ_run (Cert.InzIdeal.defs (F := Ideal)) (onTc (τ := Cert.InzIdeal.τ) (Cert.InzIdeal.main (F := Ideal))) ⟨m, fun _ => 0, g⟩ (fun r => (∀ c : Dev Cert.InzIdeal.nD,
      r.2.mem ((c.tc : Thread Cert.InzIdeal.nD Cert.InzIdeal.τ).loc Cert.InzIdeal.main_arg0) = m ((c.tc : Thread Cert.InzIdeal.nD Cert.InzIdeal.τ).loc Cert.InzIdeal.main_arg0)
      ∧ r.2.mem ((c.tc : Thread Cert.InzIdeal.nD Cert.InzIdeal.τ).loc Cert.InzIdeal.main_arg1) = m ((c.tc : Thread Cert.InzIdeal.nD Cert.InzIdeal.τ).loc Cert.InzIdeal.main_arg1)
      ∧ r.2.mem ((c.tc : Thread Cert.InzIdeal.nD Cert.InzIdeal.τ).loc Cert.InzIdeal.main_arg2) = m ((c.tc : Thread Cert.InzIdeal.nD Cert.InzIdeal.τ).loc Cert.InzIdeal.main_arg2))
      ∧ r.2.sem = fun _ => 0)

def quiescent_InzRefIdeal [hInzRefIdeal : Cert.InzRefIdeal.Facts] : Prop :=
  ∀ (m : (ℓ : Loc Cert.InzRefIdeal.nD Cert.InzRefIdeal.τ Cert.InzRefIdeal.sig) → Buf (Elt Ideal) ℓ) (g : Dev Cert.InzRefIdeal.nD → PrngReg), Pre_InzRefIdeal m →
    θ_run (Cert.InzRefIdeal.defs (F := Ideal)) (onTc (τ := Cert.InzRefIdeal.τ) (Cert.InzRefIdeal.main (F := Ideal))) ⟨m, fun _ => 0, g⟩ (fun r => (∀ c : Dev Cert.InzRefIdeal.nD,
      r.2.mem ((c.tc : Thread Cert.InzRefIdeal.nD Cert.InzRefIdeal.τ).loc Cert.InzRefIdeal.main_arg0) = m ((c.tc : Thread Cert.InzRefIdeal.nD Cert.InzRefIdeal.τ).loc Cert.InzRefIdeal.main_arg0)
      ∧ r.2.mem ((c.tc : Thread Cert.InzRefIdeal.nD Cert.InzRefIdeal.τ).loc Cert.InzRefIdeal.main_arg1) = m ((c.tc : Thread Cert.InzRefIdeal.nD Cert.InzRefIdeal.τ).loc Cert.InzRefIdeal.main_arg1)
      ∧ r.2.mem ((c.tc : Thread Cert.InzRefIdeal.nD Cert.InzRefIdeal.τ).loc Cert.InzRefIdeal.main_arg2) = m ((c.tc : Thread Cert.InzRefIdeal.nD Cert.InzRefIdeal.τ).loc Cert.InzRefIdeal.main_arg2))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1))
      ∧ r.2.sem = fun _ => 0)

def quiescent_Rln [hRln : Cert.Rln.Facts] : Prop :=
  ∀ (m : (ℓ : Loc Cert.Rln.nD Cert.Rln.τ Cert.Rln.sig) → Buf (Elt Bits) ℓ) (g : Dev Cert.Rln.nD → PrngReg), Pre_Rln m →
    θ_run (Cert.Rln.defs (F := Bits)) (onTc (τ := Cert.Rln.τ) (Cert.Rln.main (F := Bits))) ⟨m, fun _ => 0, g⟩ (fun r => (∀ c : Dev Cert.Rln.nD,
      r.2.mem ((c.tc : Thread Cert.Rln.nD Cert.Rln.τ).loc Cert.Rln.main_arg0) = m ((c.tc : Thread Cert.Rln.nD Cert.Rln.τ).loc Cert.Rln.main_arg0)
      ∧ r.2.mem ((c.tc : Thread Cert.Rln.nD Cert.Rln.τ).loc Cert.Rln.main_arg1) = m ((c.tc : Thread Cert.Rln.nD Cert.Rln.τ).loc Cert.Rln.main_arg1)
      ∧ r.2.mem ((c.tc : Thread Cert.Rln.nD Cert.Rln.τ).loc Cert.Rln.main_arg2) = m ((c.tc : Thread Cert.Rln.nD Cert.Rln.τ).loc Cert.Rln.main_arg2)
      ∧ r.2.mem ((c.tc : Thread Cert.Rln.nD Cert.Rln.τ).loc Cert.Rln.main_arg3) = m ((c.tc : Thread Cert.Rln.nD Cert.Rln.τ).loc Cert.Rln.main_arg3)
      ∧ r.2.mem ((c.tc : Thread Cert.Rln.nD Cert.Rln.τ).loc Cert.Rln.main_arg4) = m ((c.tc : Thread Cert.Rln.nD Cert.Rln.τ).loc Cert.Rln.main_arg4)
      ∧ r.2.mem ((c.tc : Thread Cert.Rln.nD Cert.Rln.τ).loc Cert.Rln.main_arg5) = m ((c.tc : Thread Cert.Rln.nD Cert.Rln.τ).loc Cert.Rln.main_arg5))
      ∧ r.2.sem = fun _ => 0)

def quiescent_RlnIdeal [hRlnIdeal : Cert.RlnIdeal.Facts] : Prop :=
  ∀ (m : (ℓ : Loc Cert.RlnIdeal.nD Cert.RlnIdeal.τ Cert.RlnIdeal.sig) → Buf (Elt Ideal) ℓ) (g : Dev Cert.RlnIdeal.nD → PrngReg), Pre_RlnIdeal m →
    θ_run (Cert.RlnIdeal.defs (F := Ideal)) (onTc (τ := Cert.RlnIdeal.τ) (Cert.RlnIdeal.main (F := Ideal))) ⟨m, fun _ => 0, g⟩ (fun r => (∀ c : Dev Cert.RlnIdeal.nD,
      r.2.mem ((c.tc : Thread Cert.RlnIdeal.nD Cert.RlnIdeal.τ).loc Cert.RlnIdeal.main_arg0) = m ((c.tc : Thread Cert.RlnIdeal.nD Cert.RlnIdeal.τ).loc Cert.RlnIdeal.main_arg0)
      ∧ r.2.mem ((c.tc : Thread Cert.RlnIdeal.nD Cert.RlnIdeal.τ).loc Cert.RlnIdeal.main_arg1) = m ((c.tc : Thread Cert.RlnIdeal.nD Cert.RlnIdeal.τ).loc Cert.RlnIdeal.main_arg1)
      ∧ r.2.mem ((c.tc : Thread Cert.RlnIdeal.nD Cert.RlnIdeal.τ).loc Cert.RlnIdeal.main_arg2) = m ((c.tc : Thread Cert.RlnIdeal.nD Cert.RlnIdeal.τ).loc Cert.RlnIdeal.main_arg2)
      ∧ r.2.mem ((c.tc : Thread Cert.RlnIdeal.nD Cert.RlnIdeal.τ).loc Cert.RlnIdeal.main_arg3) = m ((c.tc : Thread Cert.RlnIdeal.nD Cert.RlnIdeal.τ).loc Cert.RlnIdeal.main_arg3)
      ∧ r.2.mem ((c.tc : Thread Cert.RlnIdeal.nD Cert.RlnIdeal.τ).loc Cert.RlnIdeal.main_arg4) = m ((c.tc : Thread Cert.RlnIdeal.nD Cert.RlnIdeal.τ).loc Cert.RlnIdeal.main_arg4)
      ∧ r.2.mem ((c.tc : Thread Cert.RlnIdeal.nD Cert.RlnIdeal.τ).loc Cert.RlnIdeal.main_arg5) = m ((c.tc : Thread Cert.RlnIdeal.nD Cert.RlnIdeal.τ).loc Cert.RlnIdeal.main_arg5))
      ∧ r.2.sem = fun _ => 0)

def quiescent_RlnRefIdeal [hRlnRefIdeal : Cert.RlnRefIdeal.Facts] : Prop :=
  ∀ (m : (ℓ : Loc Cert.RlnRefIdeal.nD Cert.RlnRefIdeal.τ Cert.RlnRefIdeal.sig) → Buf (Elt Ideal) ℓ) (g : Dev Cert.RlnRefIdeal.nD → PrngReg), Pre_RlnRefIdeal m →
    θ_run (Cert.RlnRefIdeal.defs (F := Ideal)) (onTc (τ := Cert.RlnRefIdeal.τ) (Cert.RlnRefIdeal.main (F := Ideal))) ⟨m, fun _ => 0, g⟩ (fun r => (∀ c : Dev Cert.RlnRefIdeal.nD,
      r.2.mem ((c.tc : Thread Cert.RlnRefIdeal.nD Cert.RlnRefIdeal.τ).loc Cert.RlnRefIdeal.main_arg0) = m ((c.tc : Thread Cert.RlnRefIdeal.nD Cert.RlnRefIdeal.τ).loc Cert.RlnRefIdeal.main_arg0)
      ∧ r.2.mem ((c.tc : Thread Cert.RlnRefIdeal.nD Cert.RlnRefIdeal.τ).loc Cert.RlnRefIdeal.main_arg1) = m ((c.tc : Thread Cert.RlnRefIdeal.nD Cert.RlnRefIdeal.τ).loc Cert.RlnRefIdeal.main_arg1)
      ∧ r.2.mem ((c.tc : Thread Cert.RlnRefIdeal.nD Cert.RlnRefIdeal.τ).loc Cert.RlnRefIdeal.main_arg2) = m ((c.tc : Thread Cert.RlnRefIdeal.nD Cert.RlnRefIdeal.τ).loc Cert.RlnRefIdeal.main_arg2)
      ∧ r.2.mem ((c.tc : Thread Cert.RlnRefIdeal.nD Cert.RlnRefIdeal.τ).loc Cert.RlnRefIdeal.main_arg3) = m ((c.tc : Thread Cert.RlnRefIdeal.nD Cert.RlnRefIdeal.τ).loc Cert.RlnRefIdeal.main_arg3)
      ∧ r.2.mem ((c.tc : Thread Cert.RlnRefIdeal.nD Cert.RlnRefIdeal.τ).loc Cert.RlnRefIdeal.main_arg4) = m ((c.tc : Thread Cert.RlnRefIdeal.nD Cert.RlnRefIdeal.τ).loc Cert.RlnRefIdeal.main_arg4)
      ∧ r.2.mem ((c.tc : Thread Cert.RlnRefIdeal.nD Cert.RlnRefIdeal.τ).loc Cert.RlnRefIdeal.main_arg5) = m ((c.tc : Thread Cert.RlnRefIdeal.nD Cert.RlnRefIdeal.τ).loc Cert.RlnRefIdeal.main_arg5))
      ∧ r.2.sem = fun _ => 0)

def quiescent_Rlr [hRlr : Cert.Rlr.Facts] : Prop :=
  ∀ (m : (ℓ : Loc Cert.Rlr.nD Cert.Rlr.τ Cert.Rlr.sig) → Buf (Elt Bits) ℓ) (g : Dev Cert.Rlr.nD → PrngReg), Pre_Rlr m →
    θ_run (Cert.Rlr.defs (F := Bits)) (onTc (τ := Cert.Rlr.τ) (Cert.Rlr.main (F := Bits))) ⟨m, fun _ => 0, g⟩ (fun r => (∀ c : Dev Cert.Rlr.nD,
      r.2.mem ((c.tc : Thread Cert.Rlr.nD Cert.Rlr.τ).loc Cert.Rlr.main_arg0) = m ((c.tc : Thread Cert.Rlr.nD Cert.Rlr.τ).loc Cert.Rlr.main_arg0)
      ∧ r.2.mem ((c.tc : Thread Cert.Rlr.nD Cert.Rlr.τ).loc Cert.Rlr.main_arg1) = m ((c.tc : Thread Cert.Rlr.nD Cert.Rlr.τ).loc Cert.Rlr.main_arg1)
      ∧ r.2.mem ((c.tc : Thread Cert.Rlr.nD Cert.Rlr.τ).loc Cert.Rlr.main_arg2) = m ((c.tc : Thread Cert.Rlr.nD Cert.Rlr.τ).loc Cert.Rlr.main_arg2)
      ∧ r.2.mem ((c.tc : Thread Cert.Rlr.nD Cert.Rlr.τ).loc Cert.Rlr.main_arg3) = m ((c.tc : Thread Cert.Rlr.nD Cert.Rlr.τ).loc Cert.Rlr.main_arg3)
      ∧ r.2.mem ((c.tc : Thread Cert.Rlr.nD Cert.Rlr.τ).loc Cert.Rlr.main_arg4) = m ((c.tc : Thread Cert.Rlr.nD Cert.Rlr.τ).loc Cert.Rlr.main_arg4))
      ∧ r.2.sem = fun _ => 0)

def quiescent_RlrIdeal [hRlrIdeal : Cert.RlrIdeal.Facts] : Prop :=
  ∀ (m : (ℓ : Loc Cert.RlrIdeal.nD Cert.RlrIdeal.τ Cert.RlrIdeal.sig) → Buf (Elt Ideal) ℓ) (g : Dev Cert.RlrIdeal.nD → PrngReg), Pre_RlrIdeal m →
    θ_run (Cert.RlrIdeal.defs (F := Ideal)) (onTc (τ := Cert.RlrIdeal.τ) (Cert.RlrIdeal.main (F := Ideal))) ⟨m, fun _ => 0, g⟩ (fun r => (∀ c : Dev Cert.RlrIdeal.nD,
      r.2.mem ((c.tc : Thread Cert.RlrIdeal.nD Cert.RlrIdeal.τ).loc Cert.RlrIdeal.main_arg0) = m ((c.tc : Thread Cert.RlrIdeal.nD Cert.RlrIdeal.τ).loc Cert.RlrIdeal.main_arg0)
      ∧ r.2.mem ((c.tc : Thread Cert.RlrIdeal.nD Cert.RlrIdeal.τ).loc Cert.RlrIdeal.main_arg1) = m ((c.tc : Thread Cert.RlrIdeal.nD Cert.RlrIdeal.τ).loc Cert.RlrIdeal.main_arg1)
      ∧ r.2.mem ((c.tc : Thread Cert.RlrIdeal.nD Cert.RlrIdeal.τ).loc Cert.RlrIdeal.main_arg2) = m ((c.tc : Thread Cert.RlrIdeal.nD Cert.RlrIdeal.τ).loc Cert.RlrIdeal.main_arg2)
      ∧ r.2.mem ((c.tc : Thread Cert.RlrIdeal.nD Cert.RlrIdeal.τ).loc Cert.RlrIdeal.main_arg3) = m ((c.tc : Thread Cert.RlrIdeal.nD Cert.RlrIdeal.τ).loc Cert.RlrIdeal.main_arg3)
      ∧ r.2.mem ((c.tc : Thread Cert.RlrIdeal.nD Cert.RlrIdeal.τ).loc Cert.RlrIdeal.main_arg4) = m ((c.tc : Thread Cert.RlrIdeal.nD Cert.RlrIdeal.τ).loc Cert.RlrIdeal.main_arg4))
      ∧ r.2.sem = fun _ => 0)

def quiescent_RlrRefIdeal [hRlrRefIdeal : Cert.RlrRefIdeal.Facts] : Prop :=
  ∀ (m : (ℓ : Loc Cert.RlrRefIdeal.nD Cert.RlrRefIdeal.τ Cert.RlrRefIdeal.sig) → Buf (Elt Ideal) ℓ) (g : Dev Cert.RlrRefIdeal.nD → PrngReg), Pre_RlrRefIdeal m →
    θ_run (Cert.RlrRefIdeal.defs (F := Ideal)) (onTc (τ := Cert.RlrRefIdeal.τ) (Cert.RlrRefIdeal.main (F := Ideal))) ⟨m, fun _ => 0, g⟩ (fun r => (∀ c : Dev Cert.RlrRefIdeal.nD,
      r.2.mem ((c.tc : Thread Cert.RlrRefIdeal.nD Cert.RlrRefIdeal.τ).loc Cert.RlrRefIdeal.main_arg0) = m ((c.tc : Thread Cert.RlrRefIdeal.nD Cert.RlrRefIdeal.τ).loc Cert.RlrRefIdeal.main_arg0)
      ∧ r.2.mem ((c.tc : Thread Cert.RlrRefIdeal.nD Cert.RlrRefIdeal.τ).loc Cert.RlrRefIdeal.main_arg1) = m ((c.tc : Thread Cert.RlrRefIdeal.nD Cert.RlrRefIdeal.τ).loc Cert.RlrRefIdeal.main_arg1)
      ∧ r.2.mem ((c.tc : Thread Cert.RlrRefIdeal.nD Cert.RlrRefIdeal.τ).loc Cert.RlrRefIdeal.main_arg2) = m ((c.tc : Thread Cert.RlrRefIdeal.nD Cert.RlrRefIdeal.τ).loc Cert.RlrRefIdeal.main_arg2)
      ∧ r.2.mem ((c.tc : Thread Cert.RlrRefIdeal.nD Cert.RlrRefIdeal.τ).loc Cert.RlrRefIdeal.main_arg3) = m ((c.tc : Thread Cert.RlrRefIdeal.nD Cert.RlrRefIdeal.τ).loc Cert.RlrRefIdeal.main_arg3)
      ∧ r.2.mem ((c.tc : Thread Cert.RlrRefIdeal.nD Cert.RlrRefIdeal.τ).loc Cert.RlrRefIdeal.main_arg4) = m ((c.tc : Thread Cert.RlrRefIdeal.nD Cert.RlrRefIdeal.τ).loc Cert.RlrRefIdeal.main_arg4))
      ∧ r.2.sem = fun _ => 0)

def quiescent_Mxf [hMxf : Cert.Mxf.Facts] : Prop :=
  ∀ (m : (ℓ : Loc Cert.Mxf.nD Cert.Mxf.τ Cert.Mxf.sig) → Buf (Elt Bits) ℓ) (g : Dev Cert.Mxf.nD → PrngReg), Pre_Mxf m →
    θ_run (Cert.Mxf.defs (F := Bits)) (onTc (τ := Cert.Mxf.τ) (Cert.Mxf.main (F := Bits))) ⟨m, fun _ => 0, g⟩ (fun r => (∀ c : Dev Cert.Mxf.nD,
      r.2.mem ((c.tc : Thread Cert.Mxf.nD Cert.Mxf.τ).loc Cert.Mxf.main_arg0) = m ((c.tc : Thread Cert.Mxf.nD Cert.Mxf.τ).loc Cert.Mxf.main_arg0)
      ∧ r.2.mem ((c.tc : Thread Cert.Mxf.nD Cert.Mxf.τ).loc Cert.Mxf.main_arg1) = m ((c.tc : Thread Cert.Mxf.nD Cert.Mxf.τ).loc Cert.Mxf.main_arg1)
      ∧ r.2.mem ((c.tc : Thread Cert.Mxf.nD Cert.Mxf.τ).loc Cert.Mxf.main_arg2) = m ((c.tc : Thread Cert.Mxf.nD Cert.Mxf.τ).loc Cert.Mxf.main_arg2)
      ∧ r.2.mem ((c.tc : Thread Cert.Mxf.nD Cert.Mxf.τ).loc Cert.Mxf.main_arg3) = m ((c.tc : Thread Cert.Mxf.nD Cert.Mxf.τ).loc Cert.Mxf.main_arg3)
      ∧ r.2.mem ((c.tc : Thread Cert.Mxf.nD Cert.Mxf.τ).loc Cert.Mxf.main_arg4) = m ((c.tc : Thread Cert.Mxf.nD Cert.Mxf.τ).loc Cert.Mxf.main_arg4)
      ∧ r.2.mem ((c.tc : Thread Cert.Mxf.nD Cert.Mxf.τ).loc Cert.Mxf.main_arg5) = m ((c.tc : Thread Cert.Mxf.nD Cert.Mxf.τ).loc Cert.Mxf.main_arg5)
      ∧ r.2.mem ((c.tc : Thread Cert.Mxf.nD Cert.Mxf.τ).loc Cert.Mxf.main_arg6) = m ((c.tc : Thread Cert.Mxf.nD Cert.Mxf.τ).loc Cert.Mxf.main_arg6)
      ∧ r.2.mem ((c.tc : Thread Cert.Mxf.nD Cert.Mxf.τ).loc Cert.Mxf.main_arg7) = m ((c.tc : Thread Cert.Mxf.nD Cert.Mxf.τ).loc Cert.Mxf.main_arg7)
      ∧ r.2.mem ((c.tc : Thread Cert.Mxf.nD Cert.Mxf.τ).loc Cert.Mxf.main_arg8) = m ((c.tc : Thread Cert.Mxf.nD Cert.Mxf.τ).loc Cert.Mxf.main_arg8)
      ∧ r.2.mem ((c.tc : Thread Cert.Mxf.nD Cert.Mxf.τ).loc Cert.Mxf.main_arg9) = m ((c.tc : Thread Cert.Mxf.nD Cert.Mxf.τ).loc Cert.Mxf.main_arg9))
      ∧ r.2.sem = fun _ => 0)

def quiescent_MxfIdeal [hMxfIdeal : Cert.MxfIdeal.Facts] : Prop :=
  ∀ (m : (ℓ : Loc Cert.MxfIdeal.nD Cert.MxfIdeal.τ Cert.MxfIdeal.sig) → Buf (Elt Ideal) ℓ) (g : Dev Cert.MxfIdeal.nD → PrngReg), Pre_MxfIdeal m →
    θ_run (Cert.MxfIdeal.defs (F := Ideal)) (onTc (τ := Cert.MxfIdeal.τ) (Cert.MxfIdeal.main (F := Ideal))) ⟨m, fun _ => 0, g⟩ (fun r => (∀ c : Dev Cert.MxfIdeal.nD,
      r.2.mem ((c.tc : Thread Cert.MxfIdeal.nD Cert.MxfIdeal.τ).loc Cert.MxfIdeal.main_arg0) = m ((c.tc : Thread Cert.MxfIdeal.nD Cert.MxfIdeal.τ).loc Cert.MxfIdeal.main_arg0)
      ∧ r.2.mem ((c.tc : Thread Cert.MxfIdeal.nD Cert.MxfIdeal.τ).loc Cert.MxfIdeal.main_arg1) = m ((c.tc : Thread Cert.MxfIdeal.nD Cert.MxfIdeal.τ).loc Cert.MxfIdeal.main_arg1)
      ∧ r.2.mem ((c.tc : Thread Cert.MxfIdeal.nD Cert.MxfIdeal.τ).loc Cert.MxfIdeal.main_arg2) = m ((c.tc : Thread Cert.MxfIdeal.nD Cert.MxfIdeal.τ).loc Cert.MxfIdeal.main_arg2)
      ∧ r.2.mem ((c.tc : Thread Cert.MxfIdeal.nD Cert.MxfIdeal.τ).loc Cert.MxfIdeal.main_arg3) = m ((c.tc : Thread Cert.MxfIdeal.nD Cert.MxfIdeal.τ).loc Cert.MxfIdeal.main_arg3)
      ∧ r.2.mem ((c.tc : Thread Cert.MxfIdeal.nD Cert.MxfIdeal.τ).loc Cert.MxfIdeal.main_arg4) = m ((c.tc : Thread Cert.MxfIdeal.nD Cert.MxfIdeal.τ).loc Cert.MxfIdeal.main_arg4)
      ∧ r.2.mem ((c.tc : Thread Cert.MxfIdeal.nD Cert.MxfIdeal.τ).loc Cert.MxfIdeal.main_arg5) = m ((c.tc : Thread Cert.MxfIdeal.nD Cert.MxfIdeal.τ).loc Cert.MxfIdeal.main_arg5)
      ∧ r.2.mem ((c.tc : Thread Cert.MxfIdeal.nD Cert.MxfIdeal.τ).loc Cert.MxfIdeal.main_arg6) = m ((c.tc : Thread Cert.MxfIdeal.nD Cert.MxfIdeal.τ).loc Cert.MxfIdeal.main_arg6)
      ∧ r.2.mem ((c.tc : Thread Cert.MxfIdeal.nD Cert.MxfIdeal.τ).loc Cert.MxfIdeal.main_arg7) = m ((c.tc : Thread Cert.MxfIdeal.nD Cert.MxfIdeal.τ).loc Cert.MxfIdeal.main_arg7)
      ∧ r.2.mem ((c.tc : Thread Cert.MxfIdeal.nD Cert.MxfIdeal.τ).loc Cert.MxfIdeal.main_arg8) = m ((c.tc : Thread Cert.MxfIdeal.nD Cert.MxfIdeal.τ).loc Cert.MxfIdeal.main_arg8)
      ∧ r.2.mem ((c.tc : Thread Cert.MxfIdeal.nD Cert.MxfIdeal.τ).loc Cert.MxfIdeal.main_arg9) = m ((c.tc : Thread Cert.MxfIdeal.nD Cert.MxfIdeal.τ).loc Cert.MxfIdeal.main_arg9))
      ∧ r.2.sem = fun _ => 0)

def quiescent_MxfRefIdeal [hMxfRefIdeal : Cert.MxfRefIdeal.Facts] : Prop :=
  ∀ (m : (ℓ : Loc Cert.MxfRefIdeal.nD Cert.MxfRefIdeal.τ Cert.MxfRefIdeal.sig) → Buf (Elt Ideal) ℓ) (g : Dev Cert.MxfRefIdeal.nD → PrngReg), Pre_MxfRefIdeal m →
    θ_run (Cert.MxfRefIdeal.defs (F := Ideal)) (onTc (τ := Cert.MxfRefIdeal.τ) (Cert.MxfRefIdeal.main (F := Ideal))) ⟨m, fun _ => 0, g⟩ (fun r => (∀ c : Dev Cert.MxfRefIdeal.nD,
      r.2.mem ((c.tc : Thread Cert.MxfRefIdeal.nD Cert.MxfRefIdeal.τ).loc Cert.MxfRefIdeal.main_arg0) = m ((c.tc : Thread Cert.MxfRefIdeal.nD Cert.MxfRefIdeal.τ).loc Cert.MxfRefIdeal.main_arg0)
      ∧ r.2.mem ((c.tc : Thread Cert.MxfRefIdeal.nD Cert.MxfRefIdeal.τ).loc Cert.MxfRefIdeal.main_arg1) = m ((c.tc : Thread Cert.MxfRefIdeal.nD Cert.MxfRefIdeal.τ).loc Cert.MxfRefIdeal.main_arg1)
      ∧ r.2.mem ((c.tc : Thread Cert.MxfRefIdeal.nD Cert.MxfRefIdeal.τ).loc Cert.MxfRefIdeal.main_arg2) = m ((c.tc : Thread Cert.MxfRefIdeal.nD Cert.MxfRefIdeal.τ).loc Cert.MxfRefIdeal.main_arg2)
      ∧ r.2.mem ((c.tc : Thread Cert.MxfRefIdeal.nD Cert.MxfRefIdeal.τ).loc Cert.MxfRefIdeal.main_arg3) = m ((c.tc : Thread Cert.MxfRefIdeal.nD Cert.MxfRefIdeal.τ).loc Cert.MxfRefIdeal.main_arg3)
      ∧ r.2.mem ((c.tc : Thread Cert.MxfRefIdeal.nD Cert.MxfRefIdeal.τ).loc Cert.MxfRefIdeal.main_arg4) = m ((c.tc : Thread Cert.MxfRefIdeal.nD Cert.MxfRefIdeal.τ).loc Cert.MxfRefIdeal.main_arg4)
      ∧ r.2.mem ((c.tc : Thread Cert.MxfRefIdeal.nD Cert.MxfRefIdeal.τ).loc Cert.MxfRefIdeal.main_arg5) = m ((c.tc : Thread Cert.MxfRefIdeal.nD Cert.MxfRefIdeal.τ).loc Cert.MxfRefIdeal.main_arg5)
      ∧ r.2.mem ((c.tc : Thread Cert.MxfRefIdeal.nD Cert.MxfRefIdeal.τ).loc Cert.MxfRefIdeal.main_arg6) = m ((c.tc : Thread Cert.MxfRefIdeal.nD Cert.MxfRefIdeal.τ).loc Cert.MxfRefIdeal.main_arg6)
      ∧ r.2.mem ((c.tc : Thread Cert.MxfRefIdeal.nD Cert.MxfRefIdeal.τ).loc Cert.MxfRefIdeal.main_arg7) = m ((c.tc : Thread Cert.MxfRefIdeal.nD Cert.MxfRefIdeal.τ).loc Cert.MxfRefIdeal.main_arg7)
      ∧ r.2.mem ((c.tc : Thread Cert.MxfRefIdeal.nD Cert.MxfRefIdeal.τ).loc Cert.MxfRefIdeal.main_arg8) = m ((c.tc : Thread Cert.MxfRefIdeal.nD Cert.MxfRefIdeal.τ).loc Cert.MxfRefIdeal.main_arg8)
      ∧ r.2.mem ((c.tc : Thread Cert.MxfRefIdeal.nD Cert.MxfRefIdeal.τ).loc Cert.MxfRefIdeal.main_arg9) = m ((c.tc : Thread Cert.MxfRefIdeal.nD Cert.MxfRefIdeal.τ).loc Cert.MxfRefIdeal.main_arg9))
      ∧ r.2.sem = fun _ => 0)

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v71) = v0 c
          ∧ r.2.mem ((c.tc : Thread Cert.AttnRefIdeal.nD Cert.AttnRefIdeal.τ).loc Cert.AttnRefIdeal.main_v69) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)
      ∧ m' ((c.tc : Thread Cert.Ff2RefIdeal.nD Cert.Ff2RefIdeal.τ).loc Cert.Ff2RefIdeal.main_arg2) = m ((c.tc : Thread Cert.Ff2Ideal.nD Cert.Ff2Ideal.τ).loc Cert.Ff2Ideal.main_arg2)) →
    ∃ (v0 : (c : Dev Cert.Ff2Ideal.nD) → Buf (Elt Ideal) ((c.tc : Thread Cert.Ff2Ideal.nD Cert.Ff2Ideal.τ).loc Cert.Ff2Ideal.main_v0)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v0) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v14) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1)
          ∧ r.2.mem ((c.tc : Thread Cert.Ff2RefIdeal.nD Cert.Ff2RefIdeal.τ).loc Cert.Ff2RefIdeal.main_arg2) = m' ((c.tc : Thread Cert.Ff2RefIdeal.nD Cert.Ff2RefIdeal.τ).loc Cert.Ff2RefIdeal.main_arg2))

def preserves_Mix_MixIdeal : Prop :=
  True

def preserves_Bwd_BwdIdeal : Prop :=
  True

def algebraic_BwdIdeal_BwdRefIdeal_pre_finite_bwd [hBwdIdeal : Cert.BwdIdeal.Facts] [hBwdRefIdeal : Cert.BwdRefIdeal.Facts] [hPre_finite_bwd : Cert.Pre_finite_bwd.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal_finite_bwd m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)
      ∧ m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4)
      ∧ m' ((c.tc : Thread Cert.BwdRefIdeal.nD Cert.BwdRefIdeal.τ).loc Cert.BwdRefIdeal.main_arg5) = m ((c.tc : Thread Cert.BwdIdeal.nD Cert.BwdIdeal.τ).loc Cert.BwdIdeal.main_arg5)
      ∧ m' ((c.tc : Thread Cert.BwdRefIdeal.nD Cert.BwdRefIdeal.τ).loc Cert.BwdRefIdeal.main_arg6) = m ((c.tc : Thread Cert.BwdIdeal.nD Cert.BwdIdeal.τ).loc Cert.BwdIdeal.main_arg6)) →
    ∃ (v0 : (c : Dev Cert.BwdIdeal.nD) → Buf (Elt Ideal) ((c.tc : Thread Cert.BwdIdeal.nD Cert.BwdIdeal.τ).loc Cert.BwdIdeal.main_v17_0)) (v1 : (c : Dev Cert.BwdIdeal.nD) → Buf (Elt Ideal) ((c.tc : Thread Cert.BwdIdeal.nD Cert.BwdIdeal.τ).loc Cert.BwdIdeal.main_v18)) (v2 : (c : Dev Cert.BwdIdeal.nD) → Buf (Elt Ideal) ((c.tc : Thread Cert.BwdIdeal.nD Cert.BwdIdeal.τ).loc Cert.BwdIdeal.main_v19)) (v3 : (c : Dev Cert.BwdIdeal.nD) → Buf (Elt Ideal) ((c.tc : Thread Cert.BwdIdeal.nD Cert.BwdIdeal.τ).loc Cert.BwdIdeal.main_v17_3)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v17_0) = v0 c
          ∧ r.2.mem ((c.tc : Thread Cert.BwdIdeal.nD Cert.BwdIdeal.τ).loc Cert.BwdIdeal.main_v18) = v1 c
          ∧ r.2.mem ((c.tc : Thread Cert.BwdIdeal.nD Cert.BwdIdeal.τ).loc Cert.BwdIdeal.main_v19) = v2 c
          ∧ r.2.mem ((c.tc : Thread Cert.BwdIdeal.nD Cert.BwdIdeal.τ).loc Cert.BwdIdeal.main_v17_3) = v3 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
          ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v70) = v0 c
          ∧ r.2.mem ((c.tc : Thread Cert.BwdRefIdeal.nD Cert.BwdRefIdeal.τ).loc Cert.BwdRefIdeal.main_v46) = v1 c
          ∧ r.2.mem ((c.tc : Thread Cert.BwdRefIdeal.nD Cert.BwdRefIdeal.τ).loc Cert.BwdRefIdeal.main_v40) = v2 c
          ∧ r.2.mem ((c.tc : Thread Cert.BwdRefIdeal.nD Cert.BwdRefIdeal.τ).loc Cert.BwdRefIdeal.main_v75) = v3 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4)
          ∧ r.2.mem ((c.tc : Thread Cert.BwdRefIdeal.nD Cert.BwdRefIdeal.τ).loc Cert.BwdRefIdeal.main_arg5) = m' ((c.tc : Thread Cert.BwdRefIdeal.nD Cert.BwdRefIdeal.τ).loc Cert.BwdRefIdeal.main_arg5)
          ∧ r.2.mem ((c.tc : Thread Cert.BwdRefIdeal.nD Cert.BwdRefIdeal.τ).loc Cert.BwdRefIdeal.main_arg6) = m' ((c.tc : Thread Cert.BwdRefIdeal.nD Cert.BwdRefIdeal.τ).loc Cert.BwdRefIdeal.main_arg6))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v26)) (v1 : (c : Dev Cert.LossIdeal.nD) → Buf (Elt Ideal) ((c.tc : Thread Cert.LossIdeal.nD Cert.LossIdeal.τ).loc Cert.LossIdeal.main_v23_1)) (v2 : (c : Dev Cert.LossIdeal.nD) → Buf (Elt Ideal) ((c.tc : Thread Cert.LossIdeal.nD Cert.LossIdeal.τ).loc Cert.LossIdeal.main_v27)) (v3 : (c : Dev Cert.LossIdeal.nD) → Buf (Elt Ideal) ((c.tc : Thread Cert.LossIdeal.nD Cert.LossIdeal.τ).loc Cert.LossIdeal.main_v28)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v26) = v0 c
          ∧ r.2.mem ((c.tc : Thread Cert.LossIdeal.nD Cert.LossIdeal.τ).loc Cert.LossIdeal.main_v23_1) = v1 c
          ∧ r.2.mem ((c.tc : Thread Cert.LossIdeal.nD Cert.LossIdeal.τ).loc Cert.LossIdeal.main_v27) = v2 c
          ∧ r.2.mem ((c.tc : Thread Cert.LossIdeal.nD Cert.LossIdeal.τ).loc Cert.LossIdeal.main_v28) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v37) = v0 c
          ∧ r.2.mem ((c.tc : Thread Cert.LossRefIdeal.nD Cert.LossRefIdeal.τ).loc Cert.LossRefIdeal.main_v76) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v46) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Wg_WgIdeal : Prop :=
  True

def algebraic_WgIdeal_WgRefIdeal [hWgIdeal : Cert.WgIdeal.Facts] [hWgRefIdeal : Cert.WgRefIdeal.Facts] : Prop :=
  ∀ (m : (ℓ : Loc Cert.WgIdeal.nD Cert.WgIdeal.τ Cert.WgIdeal.sig) → Buf (Elt Ideal) ℓ) (g : Dev Cert.WgIdeal.nD → PrngReg)
    (m' : (ℓ : Loc Cert.WgRefIdeal.nD Cert.WgRefIdeal.τ Cert.WgRefIdeal.sig) → Buf (Elt Ideal) ℓ) (g' : Dev Cert.WgRefIdeal.nD → PrngReg), Pre_WgIdeal m →
    (∀ c : Dev Cert.WgIdeal.nD,
      m' ((c.tc : Thread Cert.WgRefIdeal.nD Cert.WgRefIdeal.τ).loc Cert.WgRefIdeal.main_arg0) = m ((c.tc : Thread Cert.WgIdeal.nD Cert.WgIdeal.τ).loc Cert.WgIdeal.main_arg0)
      ∧ m' ((c.tc : Thread Cert.WgRefIdeal.nD Cert.WgRefIdeal.τ).loc Cert.WgRefIdeal.main_arg1) = m ((c.tc : Thread Cert.WgIdeal.nD Cert.WgIdeal.τ).loc Cert.WgIdeal.main_arg1)) →
    ∃ (v0 : (c : Dev Cert.WgIdeal.nD) → Buf (Elt Ideal) ((c.tc : Thread Cert.WgIdeal.nD Cert.WgIdeal.τ).loc Cert.WgIdeal.main_v0)),
      θ_run (Cert.WgIdeal.defs (F := Ideal)) (onTc (τ := Cert.WgIdeal.τ) (Cert.WgIdeal.main (F := Ideal))) ⟨m, fun _ => 0, g⟩ (fun r => ∀ c : Dev Cert.WgIdeal.nD,
          r.2.mem ((c.tc : Thread Cert.WgIdeal.nD Cert.WgIdeal.τ).loc Cert.WgIdeal.main_v0) = v0 c
          ∧ r.2.mem ((c.tc : Thread Cert.WgIdeal.nD Cert.WgIdeal.τ).loc Cert.WgIdeal.main_arg0) = m ((c.tc : Thread Cert.WgIdeal.nD Cert.WgIdeal.τ).loc Cert.WgIdeal.main_arg0)
          ∧ r.2.mem ((c.tc : Thread Cert.WgIdeal.nD Cert.WgIdeal.τ).loc Cert.WgIdeal.main_arg1) = m ((c.tc : Thread Cert.WgIdeal.nD Cert.WgIdeal.τ).loc Cert.WgIdeal.main_arg1))
      ∧ θ_run (Cert.WgRefIdeal.defs (F := Ideal)) (onTc (τ := Cert.WgRefIdeal.τ) (Cert.WgRefIdeal.main (F := Ideal))) ⟨m', fun _ => 0, g'⟩ (fun r => ∀ c : Dev Cert.WgRefIdeal.nD,
          r.2.mem ((c.tc : Thread Cert.WgRefIdeal.nD Cert.WgRefIdeal.τ).loc Cert.WgRefIdeal.main_v6) = v0 c
          ∧ r.2.mem ((c.tc : Thread Cert.WgRefIdeal.nD Cert.WgRefIdeal.τ).loc Cert.WgRefIdeal.main_arg0) = m' ((c.tc : Thread Cert.WgRefIdeal.nD Cert.WgRefIdeal.τ).loc Cert.WgRefIdeal.main_arg0)
          ∧ r.2.mem ((c.tc : Thread Cert.WgRefIdeal.nD Cert.WgRefIdeal.τ).loc Cert.WgRefIdeal.main_arg1) = m' ((c.tc : Thread Cert.WgRefIdeal.nD Cert.WgRefIdeal.τ).loc Cert.WgRefIdeal.main_arg1))

def preserves_Inp_InpIdeal : Prop :=
  True

def algebraic_InpIdeal_InpRefIdeal_pre_finite_inp [hInpIdeal : Cert.InpIdeal.Facts] [hInpRefIdeal : Cert.InpRefIdeal.Facts] [hPre_finite_inp : Cert.Pre_finite_inp.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal_finite_inp m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)) →
    ∃ (v0 : (c : Dev Cert.InpIdeal.nD) → Buf (Elt Ideal) ((c.tc : Thread Cert.InpIdeal.nD Cert.InpIdeal.τ).loc Cert.InpIdeal.main_v17_0)) (v1 : (c : Dev Cert.InpIdeal.nD) → Buf (Elt Ideal) ((c.tc : Thread Cert.InpIdeal.nD Cert.InpIdeal.τ).loc Cert.InpIdeal.main_v18)) (v2 : (c : Dev Cert.InpIdeal.nD) → Buf (Elt Ideal) ((c.tc : Thread Cert.InpIdeal.nD Cert.InpIdeal.τ).loc Cert.InpIdeal.main_v19)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v17_0) = v0 c
          ∧ r.2.mem ((c.tc : Thread Cert.InpIdeal.nD Cert.InpIdeal.τ).loc Cert.InpIdeal.main_v18) = v1 c
          ∧ r.2.mem ((c.tc : Thread Cert.InpIdeal.nD Cert.InpIdeal.τ).loc Cert.InpIdeal.main_v19) = v2 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v70) = v0 c
          ∧ r.2.mem ((c.tc : Thread Cert.InpRefIdeal.nD Cert.InpRefIdeal.τ).loc Cert.InpRefIdeal.main_v46) = v1 c
          ∧ r.2.mem ((c.tc : Thread Cert.InpRefIdeal.nD Cert.InpRefIdeal.τ).loc Cert.InpRefIdeal.main_v40) = v2 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5))

def preserves_Inz_InzIdeal : Prop :=
  True

def algebraic_InzIdeal_InzRefIdeal [hInzIdeal : Cert.InzIdeal.Facts] [hInzRefIdeal : Cert.InzRefIdeal.Facts] : Prop :=
  ∀ (m : (ℓ : Loc Cert.InzIdeal.nD Cert.InzIdeal.τ Cert.InzIdeal.sig) → Buf (Elt Ideal) ℓ) (g : Dev Cert.InzIdeal.nD → PrngReg)
    (m' : (ℓ : Loc Cert.InzRefIdeal.nD Cert.InzRefIdeal.τ Cert.InzRefIdeal.sig) → Buf (Elt Ideal) ℓ) (g' : Dev Cert.InzRefIdeal.nD → PrngReg), Pre_InzIdeal m →
    (∀ c : Dev Cert.InzIdeal.nD,
      m' ((c.tc : Thread Cert.InzRefIdeal.nD Cert.InzRefIdeal.τ).loc Cert.InzRefIdeal.main_arg0) = m ((c.tc : Thread Cert.InzIdeal.nD Cert.InzIdeal.τ).loc Cert.InzIdeal.main_arg0)
      ∧ m' ((c.tc : Thread Cert.InzRefIdeal.nD Cert.InzRefIdeal.τ).loc Cert.InzRefIdeal.main_arg1) = m ((c.tc : Thread Cert.InzIdeal.nD Cert.InzIdeal.τ).loc Cert.InzIdeal.main_arg1)
      ∧ m' ((c.tc : Thread Cert.InzRefIdeal.nD Cert.InzRefIdeal.τ).loc Cert.InzRefIdeal.main_arg2) = m ((c.tc : Thread Cert.InzIdeal.nD Cert.InzIdeal.τ).loc Cert.InzIdeal.main_arg2)) →
    ∃ (v0 : (c : Dev Cert.InzIdeal.nD) → Buf (Elt Ideal) ((c.tc : Thread Cert.InzIdeal.nD Cert.InzIdeal.τ).loc Cert.InzIdeal.main_v0)),
      θ_run (Cert.InzIdeal.defs (F := Ideal)) (onTc (τ := Cert.InzIdeal.τ) (Cert.InzIdeal.main (F := Ideal))) ⟨m, fun _ => 0, g⟩ (fun r => ∀ c : Dev Cert.InzIdeal.nD,
          r.2.mem ((c.tc : Thread Cert.InzIdeal.nD Cert.InzIdeal.τ).loc Cert.InzIdeal.main_v0) = v0 c
          ∧ r.2.mem ((c.tc : Thread Cert.InzIdeal.nD Cert.InzIdeal.τ).loc Cert.InzIdeal.main_arg0) = m ((c.tc : Thread Cert.InzIdeal.nD Cert.InzIdeal.τ).loc Cert.InzIdeal.main_arg0)
          ∧ r.2.mem ((c.tc : Thread Cert.InzIdeal.nD Cert.InzIdeal.τ).loc Cert.InzIdeal.main_arg1) = m ((c.tc : Thread Cert.InzIdeal.nD Cert.InzIdeal.τ).loc Cert.InzIdeal.main_arg1)
          ∧ r.2.mem ((c.tc : Thread Cert.InzIdeal.nD Cert.InzIdeal.τ).loc Cert.InzIdeal.main_arg2) = m ((c.tc : Thread Cert.InzIdeal.nD Cert.InzIdeal.τ).loc Cert.InzIdeal.main_arg2))
      ∧ θ_run (Cert.InzRefIdeal.defs (F := Ideal)) (onTc (τ := Cert.InzRefIdeal.τ) (Cert.InzRefIdeal.main (F := Ideal))) ⟨m', fun _ => 0, g'⟩ (fun r => ∀ c : Dev Cert.InzRefIdeal.nD,
          r.2.mem ((c.tc : Thread Cert.InzRefIdeal.nD Cert.InzRefIdeal.τ).loc Cert.InzRefIdeal.main_v9) = v0 c
          ∧ r.2.mem ((c.tc : Thread Cert.InzRefIdeal.nD Cert.InzRefIdeal.τ).loc Cert.InzRefIdeal.main_arg0) = m' ((c.tc : Thread Cert.InzRefIdeal.nD Cert.InzRefIdeal.τ).loc Cert.InzRefIdeal.main_arg0)
          ∧ r.2.mem ((c.tc : Thread Cert.InzRefIdeal.nD Cert.InzRefIdeal.τ).loc Cert.InzRefIdeal.main_arg1) = m' ((c.tc : Thread Cert.InzRefIdeal.nD Cert.InzRefIdeal.τ).loc Cert.InzRefIdeal.main_arg1)
          ∧ r.2.mem ((c.tc : Thread Cert.InzRefIdeal.nD Cert.InzRefIdeal.τ).loc Cert.InzRefIdeal.main_arg2) = m' ((c.tc : Thread Cert.InzRefIdeal.nD Cert.InzRefIdeal.τ).loc Cert.InzRefIdeal.main_arg2))

def preserves_Att_AttIdeal : Prop :=
  True

def algebraic_AttIdeal_AttRefIdeal [hAttIdeal : Cert.AttIdeal.Facts] [hAttRefIdeal : Cert.AttRefIdeal.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)) →
    ∃ (v0 : (c : Dev Cert.AttIdeal.nD) → Buf (Elt Ideal) ((c.tc : Thread Cert.AttIdeal.nD Cert.AttIdeal.τ).loc Cert.AttIdeal.main_v0)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v0) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v25) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1))

def preserves_Rln_RlnIdeal : Prop :=
  True

def algebraic_RlnIdeal_RlnRefIdeal [hRlnIdeal : Cert.RlnIdeal.Facts] [hRlnRefIdeal : Cert.RlnRefIdeal.Facts] : Prop :=
  ∀ (m : (ℓ : Loc Cert.RlnIdeal.nD Cert.RlnIdeal.τ Cert.RlnIdeal.sig) → Buf (Elt Ideal) ℓ) (g : Dev Cert.RlnIdeal.nD → PrngReg)
    (m' : (ℓ : Loc Cert.RlnRefIdeal.nD Cert.RlnRefIdeal.τ Cert.RlnRefIdeal.sig) → Buf (Elt Ideal) ℓ) (g' : Dev Cert.RlnRefIdeal.nD → PrngReg), Pre_RlnIdeal m →
    (∀ c : Dev Cert.RlnIdeal.nD,
      m' ((c.tc : Thread Cert.RlnRefIdeal.nD Cert.RlnRefIdeal.τ).loc Cert.RlnRefIdeal.main_arg0) = m ((c.tc : Thread Cert.RlnIdeal.nD Cert.RlnIdeal.τ).loc Cert.RlnIdeal.main_arg0)
      ∧ m' ((c.tc : Thread Cert.RlnRefIdeal.nD Cert.RlnRefIdeal.τ).loc Cert.RlnRefIdeal.main_arg1) = m ((c.tc : Thread Cert.RlnIdeal.nD Cert.RlnIdeal.τ).loc Cert.RlnIdeal.main_arg1)
      ∧ m' ((c.tc : Thread Cert.RlnRefIdeal.nD Cert.RlnRefIdeal.τ).loc Cert.RlnRefIdeal.main_arg2) = m ((c.tc : Thread Cert.RlnIdeal.nD Cert.RlnIdeal.τ).loc Cert.RlnIdeal.main_arg2)
      ∧ m' ((c.tc : Thread Cert.RlnRefIdeal.nD Cert.RlnRefIdeal.τ).loc Cert.RlnRefIdeal.main_arg3) = m ((c.tc : Thread Cert.RlnIdeal.nD Cert.RlnIdeal.τ).loc Cert.RlnIdeal.main_arg3)
      ∧ m' ((c.tc : Thread Cert.RlnRefIdeal.nD Cert.RlnRefIdeal.τ).loc Cert.RlnRefIdeal.main_arg4) = m ((c.tc : Thread Cert.RlnIdeal.nD Cert.RlnIdeal.τ).loc Cert.RlnIdeal.main_arg4)
      ∧ m' ((c.tc : Thread Cert.RlnRefIdeal.nD Cert.RlnRefIdeal.τ).loc Cert.RlnRefIdeal.main_arg5) = m ((c.tc : Thread Cert.RlnIdeal.nD Cert.RlnIdeal.τ).loc Cert.RlnIdeal.main_arg5)) →
    ∃ (v0 : (c : Dev Cert.RlnIdeal.nD) → Buf (Elt Ideal) ((c.tc : Thread Cert.RlnIdeal.nD Cert.RlnIdeal.τ).loc Cert.RlnIdeal.main_v2_0)) (v1 : (c : Dev Cert.RlnIdeal.nD) → Buf (Elt Ideal) ((c.tc : Thread Cert.RlnIdeal.nD Cert.RlnIdeal.τ).loc Cert.RlnIdeal.main_v2_1)) (v2 : (c : Dev Cert.RlnIdeal.nD) → Buf (Elt Ideal) ((c.tc : Thread Cert.RlnIdeal.nD Cert.RlnIdeal.τ).loc Cert.RlnIdeal.main_v2_2)) (v3 : (c : Dev Cert.RlnIdeal.nD) → Buf (Elt Ideal) ((c.tc : Thread Cert.RlnIdeal.nD Cert.RlnIdeal.τ).loc Cert.RlnIdeal.main_v2_3)),
      θ_run (Cert.RlnIdeal.defs (F := Ideal)) (onTc (τ := Cert.RlnIdeal.τ) (Cert.RlnIdeal.main (F := Ideal))) ⟨m, fun _ => 0, g⟩ (fun r => ∀ c : Dev Cert.RlnIdeal.nD,
          r.2.mem ((c.tc : Thread Cert.RlnIdeal.nD Cert.RlnIdeal.τ).loc Cert.RlnIdeal.main_v2_0) = v0 c
          ∧ r.2.mem ((c.tc : Thread Cert.RlnIdeal.nD Cert.RlnIdeal.τ).loc Cert.RlnIdeal.main_v2_1) = v1 c
          ∧ r.2.mem ((c.tc : Thread Cert.RlnIdeal.nD Cert.RlnIdeal.τ).loc Cert.RlnIdeal.main_v2_2) = v2 c
          ∧ r.2.mem ((c.tc : Thread Cert.RlnIdeal.nD Cert.RlnIdeal.τ).loc Cert.RlnIdeal.main_v2_3) = v3 c
          ∧ r.2.mem ((c.tc : Thread Cert.RlnIdeal.nD Cert.RlnIdeal.τ).loc Cert.RlnIdeal.main_arg0) = m ((c.tc : Thread Cert.RlnIdeal.nD Cert.RlnIdeal.τ).loc Cert.RlnIdeal.main_arg0)
          ∧ r.2.mem ((c.tc : Thread Cert.RlnIdeal.nD Cert.RlnIdeal.τ).loc Cert.RlnIdeal.main_arg1) = m ((c.tc : Thread Cert.RlnIdeal.nD Cert.RlnIdeal.τ).loc Cert.RlnIdeal.main_arg1)
          ∧ r.2.mem ((c.tc : Thread Cert.RlnIdeal.nD Cert.RlnIdeal.τ).loc Cert.RlnIdeal.main_arg2) = m ((c.tc : Thread Cert.RlnIdeal.nD Cert.RlnIdeal.τ).loc Cert.RlnIdeal.main_arg2)
          ∧ r.2.mem ((c.tc : Thread Cert.RlnIdeal.nD Cert.RlnIdeal.τ).loc Cert.RlnIdeal.main_arg3) = m ((c.tc : Thread Cert.RlnIdeal.nD Cert.RlnIdeal.τ).loc Cert.RlnIdeal.main_arg3)
          ∧ r.2.mem ((c.tc : Thread Cert.RlnIdeal.nD Cert.RlnIdeal.τ).loc Cert.RlnIdeal.main_arg4) = m ((c.tc : Thread Cert.RlnIdeal.nD Cert.RlnIdeal.τ).loc Cert.RlnIdeal.main_arg4)
          ∧ r.2.mem ((c.tc : Thread Cert.RlnIdeal.nD Cert.RlnIdeal.τ).loc Cert.RlnIdeal.main_arg5) = m ((c.tc : Thread Cert.RlnIdeal.nD Cert.RlnIdeal.τ).loc Cert.RlnIdeal.main_arg5))
      ∧ θ_run (Cert.RlnRefIdeal.defs (F := Ideal)) (onTc (τ := Cert.RlnRefIdeal.τ) (Cert.RlnRefIdeal.main (F := Ideal))) ⟨m', fun _ => 0, g'⟩ (fun r => ∀ c : Dev Cert.RlnRefIdeal.nD,
          r.2.mem ((c.tc : Thread Cert.RlnRefIdeal.nD Cert.RlnRefIdeal.τ).loc Cert.RlnRefIdeal.main_v29) = v0 c
          ∧ r.2.mem ((c.tc : Thread Cert.RlnRefIdeal.nD Cert.RlnRefIdeal.τ).loc Cert.RlnRefIdeal.main_v47) = v1 c
          ∧ r.2.mem ((c.tc : Thread Cert.RlnRefIdeal.nD Cert.RlnRefIdeal.τ).loc Cert.RlnRefIdeal.main_v43) = v2 c
          ∧ r.2.mem ((c.tc : Thread Cert.RlnRefIdeal.nD Cert.RlnRefIdeal.τ).loc Cert.RlnRefIdeal.main_v50) = v3 c
          ∧ r.2.mem ((c.tc : Thread Cert.RlnRefIdeal.nD Cert.RlnRefIdeal.τ).loc Cert.RlnRefIdeal.main_arg0) = m' ((c.tc : Thread Cert.RlnRefIdeal.nD Cert.RlnRefIdeal.τ).loc Cert.RlnRefIdeal.main_arg0)
          ∧ r.2.mem ((c.tc : Thread Cert.RlnRefIdeal.nD Cert.RlnRefIdeal.τ).loc Cert.RlnRefIdeal.main_arg1) = m' ((c.tc : Thread Cert.RlnRefIdeal.nD Cert.RlnRefIdeal.τ).loc Cert.RlnRefIdeal.main_arg1)
          ∧ r.2.mem ((c.tc : Thread Cert.RlnRefIdeal.nD Cert.RlnRefIdeal.τ).loc Cert.RlnRefIdeal.main_arg2) = m' ((c.tc : Thread Cert.RlnRefIdeal.nD Cert.RlnRefIdeal.τ).loc Cert.RlnRefIdeal.main_arg2)
          ∧ r.2.mem ((c.tc : Thread Cert.RlnRefIdeal.nD Cert.RlnRefIdeal.τ).loc Cert.RlnRefIdeal.main_arg3) = m' ((c.tc : Thread Cert.RlnRefIdeal.nD Cert.RlnRefIdeal.τ).loc Cert.RlnRefIdeal.main_arg3)
          ∧ r.2.mem ((c.tc : Thread Cert.RlnRefIdeal.nD Cert.RlnRefIdeal.τ).loc Cert.RlnRefIdeal.main_arg4) = m' ((c.tc : Thread Cert.RlnRefIdeal.nD Cert.RlnRefIdeal.τ).loc Cert.RlnRefIdeal.main_arg4)
          ∧ r.2.mem ((c.tc : Thread Cert.RlnRefIdeal.nD Cert.RlnRefIdeal.τ).loc Cert.RlnRefIdeal.main_arg5) = m' ((c.tc : Thread Cert.RlnRefIdeal.nD Cert.RlnRefIdeal.τ).loc Cert.RlnRefIdeal.main_arg5))

def preserves_Rlr_RlrIdeal : Prop :=
  True

def algebraic_RlrIdeal_RlrRefIdeal [hRlrIdeal : Cert.RlrIdeal.Facts] [hRlrRefIdeal : Cert.RlrRefIdeal.Facts] : Prop :=
  ∀ (m : (ℓ : Loc Cert.RlrIdeal.nD Cert.RlrIdeal.τ Cert.RlrIdeal.sig) → Buf (Elt Ideal) ℓ) (g : Dev Cert.RlrIdeal.nD → PrngReg)
    (m' : (ℓ : Loc Cert.RlrRefIdeal.nD Cert.RlrRefIdeal.τ Cert.RlrRefIdeal.sig) → Buf (Elt Ideal) ℓ) (g' : Dev Cert.RlrRefIdeal.nD → PrngReg), Pre_RlrIdeal m →
    (∀ c : Dev Cert.RlrIdeal.nD,
      m' ((c.tc : Thread Cert.RlrRefIdeal.nD Cert.RlrRefIdeal.τ).loc Cert.RlrRefIdeal.main_arg0) = m ((c.tc : Thread Cert.RlrIdeal.nD Cert.RlrIdeal.τ).loc Cert.RlrIdeal.main_arg0)
      ∧ m' ((c.tc : Thread Cert.RlrRefIdeal.nD Cert.RlrRefIdeal.τ).loc Cert.RlrRefIdeal.main_arg1) = m ((c.tc : Thread Cert.RlrIdeal.nD Cert.RlrIdeal.τ).loc Cert.RlrIdeal.main_arg1)
      ∧ m' ((c.tc : Thread Cert.RlrRefIdeal.nD Cert.RlrRefIdeal.τ).loc Cert.RlrRefIdeal.main_arg2) = m ((c.tc : Thread Cert.RlrIdeal.nD Cert.RlrIdeal.τ).loc Cert.RlrIdeal.main_arg2)
      ∧ m' ((c.tc : Thread Cert.RlrRefIdeal.nD Cert.RlrRefIdeal.τ).loc Cert.RlrRefIdeal.main_arg3) = m ((c.tc : Thread Cert.RlrIdeal.nD Cert.RlrIdeal.τ).loc Cert.RlrIdeal.main_arg3)
      ∧ m' ((c.tc : Thread Cert.RlrRefIdeal.nD Cert.RlrRefIdeal.τ).loc Cert.RlrRefIdeal.main_arg4) = m ((c.tc : Thread Cert.RlrIdeal.nD Cert.RlrIdeal.τ).loc Cert.RlrIdeal.main_arg4)) →
    ∃ (v0 : (c : Dev Cert.RlrIdeal.nD) → Buf (Elt Ideal) ((c.tc : Thread Cert.RlrIdeal.nD Cert.RlrIdeal.τ).loc Cert.RlrIdeal.main_v2_0)) (v1 : (c : Dev Cert.RlrIdeal.nD) → Buf (Elt Ideal) ((c.tc : Thread Cert.RlrIdeal.nD Cert.RlrIdeal.τ).loc Cert.RlrIdeal.main_v2_1)) (v2 : (c : Dev Cert.RlrIdeal.nD) → Buf (Elt Ideal) ((c.tc : Thread Cert.RlrIdeal.nD Cert.RlrIdeal.τ).loc Cert.RlrIdeal.main_v2_2)),
      θ_run (Cert.RlrIdeal.defs (F := Ideal)) (onTc (τ := Cert.RlrIdeal.τ) (Cert.RlrIdeal.main (F := Ideal))) ⟨m, fun _ => 0, g⟩ (fun r => ∀ c : Dev Cert.RlrIdeal.nD,
          r.2.mem ((c.tc : Thread Cert.RlrIdeal.nD Cert.RlrIdeal.τ).loc Cert.RlrIdeal.main_v2_0) = v0 c
          ∧ r.2.mem ((c.tc : Thread Cert.RlrIdeal.nD Cert.RlrIdeal.τ).loc Cert.RlrIdeal.main_v2_1) = v1 c
          ∧ r.2.mem ((c.tc : Thread Cert.RlrIdeal.nD Cert.RlrIdeal.τ).loc Cert.RlrIdeal.main_v2_2) = v2 c
          ∧ r.2.mem ((c.tc : Thread Cert.RlrIdeal.nD Cert.RlrIdeal.τ).loc Cert.RlrIdeal.main_arg0) = m ((c.tc : Thread Cert.RlrIdeal.nD Cert.RlrIdeal.τ).loc Cert.RlrIdeal.main_arg0)
          ∧ r.2.mem ((c.tc : Thread Cert.RlrIdeal.nD Cert.RlrIdeal.τ).loc Cert.RlrIdeal.main_arg1) = m ((c.tc : Thread Cert.RlrIdeal.nD Cert.RlrIdeal.τ).loc Cert.RlrIdeal.main_arg1)
          ∧ r.2.mem ((c.tc : Thread Cert.RlrIdeal.nD Cert.RlrIdeal.τ).loc Cert.RlrIdeal.main_arg2) = m ((c.tc : Thread Cert.RlrIdeal.nD Cert.RlrIdeal.τ).loc Cert.RlrIdeal.main_arg2)
          ∧ r.2.mem ((c.tc : Thread Cert.RlrIdeal.nD Cert.RlrIdeal.τ).loc Cert.RlrIdeal.main_arg3) = m ((c.tc : Thread Cert.RlrIdeal.nD Cert.RlrIdeal.τ).loc Cert.RlrIdeal.main_arg3)
          ∧ r.2.mem ((c.tc : Thread Cert.RlrIdeal.nD Cert.RlrIdeal.τ).loc Cert.RlrIdeal.main_arg4) = m ((c.tc : Thread Cert.RlrIdeal.nD Cert.RlrIdeal.τ).loc Cert.RlrIdeal.main_arg4))
      ∧ θ_run (Cert.RlrRefIdeal.defs (F := Ideal)) (onTc (τ := Cert.RlrRefIdeal.τ) (Cert.RlrRefIdeal.main (F := Ideal))) ⟨m', fun _ => 0, g'⟩ (fun r => ∀ c : Dev Cert.RlrRefIdeal.nD,
          r.2.mem ((c.tc : Thread Cert.RlrRefIdeal.nD Cert.RlrRefIdeal.τ).loc Cert.RlrRefIdeal.main_v31) = v0 c
          ∧ r.2.mem ((c.tc : Thread Cert.RlrRefIdeal.nD Cert.RlrRefIdeal.τ).loc Cert.RlrRefIdeal.main_v49) = v1 c
          ∧ r.2.mem ((c.tc : Thread Cert.RlrRefIdeal.nD Cert.RlrRefIdeal.τ).loc Cert.RlrRefIdeal.main_v45) = v2 c
          ∧ r.2.mem ((c.tc : Thread Cert.RlrRefIdeal.nD Cert.RlrRefIdeal.τ).loc Cert.RlrRefIdeal.main_arg0) = m' ((c.tc : Thread Cert.RlrRefIdeal.nD Cert.RlrRefIdeal.τ).loc Cert.RlrRefIdeal.main_arg0)
          ∧ r.2.mem ((c.tc : Thread Cert.RlrRefIdeal.nD Cert.RlrRefIdeal.τ).loc Cert.RlrRefIdeal.main_arg1) = m' ((c.tc : Thread Cert.RlrRefIdeal.nD Cert.RlrRefIdeal.τ).loc Cert.RlrRefIdeal.main_arg1)
          ∧ r.2.mem ((c.tc : Thread Cert.RlrRefIdeal.nD Cert.RlrRefIdeal.τ).loc Cert.RlrRefIdeal.main_arg2) = m' ((c.tc : Thread Cert.RlrRefIdeal.nD Cert.RlrRefIdeal.τ).loc Cert.RlrRefIdeal.main_arg2)
          ∧ r.2.mem ((c.tc : Thread Cert.RlrRefIdeal.nD Cert.RlrRefIdeal.τ).loc Cert.RlrRefIdeal.main_arg3) = m' ((c.tc : Thread Cert.RlrRefIdeal.nD Cert.RlrRefIdeal.τ).loc Cert.RlrRefIdeal.main_arg3)
          ∧ r.2.mem ((c.tc : Thread Cert.RlrRefIdeal.nD Cert.RlrRefIdeal.τ).loc Cert.RlrRefIdeal.main_arg4) = m' ((c.tc : Thread Cert.RlrRefIdeal.nD Cert.RlrRefIdeal.τ).loc Cert.RlrRefIdeal.main_arg4))

def preserves_Mxf_MxfIdeal : Prop :=
  True

def algebraic_MxfIdeal_MxfRefIdeal [hMxfIdeal : Cert.MxfIdeal.Facts] [hMxfRefIdeal : Cert.MxfRefIdeal.Facts] : Prop :=
  ∀ (m : (ℓ : Loc Cert.MxfIdeal.nD Cert.MxfIdeal.τ Cert.MxfIdeal.sig) → Buf (Elt Ideal) ℓ) (g : Dev Cert.MxfIdeal.nD → PrngReg)
    (m' : (ℓ : Loc Cert.MxfRefIdeal.nD Cert.MxfRefIdeal.τ Cert.MxfRefIdeal.sig) → Buf (Elt Ideal) ℓ) (g' : Dev Cert.MxfRefIdeal.nD → PrngReg), Pre_MxfIdeal m →
    (∀ c : Dev Cert.MxfIdeal.nD,
      m' ((c.tc : Thread Cert.MxfRefIdeal.nD Cert.MxfRefIdeal.τ).loc Cert.MxfRefIdeal.main_arg0) = m ((c.tc : Thread Cert.MxfIdeal.nD Cert.MxfIdeal.τ).loc Cert.MxfIdeal.main_arg0)
      ∧ m' ((c.tc : Thread Cert.MxfRefIdeal.nD Cert.MxfRefIdeal.τ).loc Cert.MxfRefIdeal.main_arg1) = m ((c.tc : Thread Cert.MxfIdeal.nD Cert.MxfIdeal.τ).loc Cert.MxfIdeal.main_arg1)
      ∧ m' ((c.tc : Thread Cert.MxfRefIdeal.nD Cert.MxfRefIdeal.τ).loc Cert.MxfRefIdeal.main_arg2) = m ((c.tc : Thread Cert.MxfIdeal.nD Cert.MxfIdeal.τ).loc Cert.MxfIdeal.main_arg2)
      ∧ m' ((c.tc : Thread Cert.MxfRefIdeal.nD Cert.MxfRefIdeal.τ).loc Cert.MxfRefIdeal.main_arg3) = m ((c.tc : Thread Cert.MxfIdeal.nD Cert.MxfIdeal.τ).loc Cert.MxfIdeal.main_arg3)
      ∧ m' ((c.tc : Thread Cert.MxfRefIdeal.nD Cert.MxfRefIdeal.τ).loc Cert.MxfRefIdeal.main_arg4) = m ((c.tc : Thread Cert.MxfIdeal.nD Cert.MxfIdeal.τ).loc Cert.MxfIdeal.main_arg4)
      ∧ m' ((c.tc : Thread Cert.MxfRefIdeal.nD Cert.MxfRefIdeal.τ).loc Cert.MxfRefIdeal.main_arg5) = m ((c.tc : Thread Cert.MxfIdeal.nD Cert.MxfIdeal.τ).loc Cert.MxfIdeal.main_arg5)
      ∧ m' ((c.tc : Thread Cert.MxfRefIdeal.nD Cert.MxfRefIdeal.τ).loc Cert.MxfRefIdeal.main_arg6) = m ((c.tc : Thread Cert.MxfIdeal.nD Cert.MxfIdeal.τ).loc Cert.MxfIdeal.main_arg6)
      ∧ m' ((c.tc : Thread Cert.MxfRefIdeal.nD Cert.MxfRefIdeal.τ).loc Cert.MxfRefIdeal.main_arg7) = m ((c.tc : Thread Cert.MxfIdeal.nD Cert.MxfIdeal.τ).loc Cert.MxfIdeal.main_arg7)
      ∧ m' ((c.tc : Thread Cert.MxfRefIdeal.nD Cert.MxfRefIdeal.τ).loc Cert.MxfRefIdeal.main_arg8) = m ((c.tc : Thread Cert.MxfIdeal.nD Cert.MxfIdeal.τ).loc Cert.MxfIdeal.main_arg8)
      ∧ m' ((c.tc : Thread Cert.MxfRefIdeal.nD Cert.MxfRefIdeal.τ).loc Cert.MxfRefIdeal.main_arg9) = m ((c.tc : Thread Cert.MxfIdeal.nD Cert.MxfIdeal.τ).loc Cert.MxfIdeal.main_arg9)) →
    ∃ (v0 : (c : Dev Cert.MxfIdeal.nD) → Buf (Elt Ideal) ((c.tc : Thread Cert.MxfIdeal.nD Cert.MxfIdeal.τ).loc Cert.MxfIdeal.main_v15_0)) (v1 : (c : Dev Cert.MxfIdeal.nD) → Buf (Elt Ideal) ((c.tc : Thread Cert.MxfIdeal.nD Cert.MxfIdeal.τ).loc Cert.MxfIdeal.main_v15_1)),
      θ_run (Cert.MxfIdeal.defs (F := Ideal)) (onTc (τ := Cert.MxfIdeal.τ) (Cert.MxfIdeal.main (F := Ideal))) ⟨m, fun _ => 0, g⟩ (fun r => ∀ c : Dev Cert.MxfIdeal.nD,
          r.2.mem ((c.tc : Thread Cert.MxfIdeal.nD Cert.MxfIdeal.τ).loc Cert.MxfIdeal.main_v15_0) = v0 c
          ∧ r.2.mem ((c.tc : Thread Cert.MxfIdeal.nD Cert.MxfIdeal.τ).loc Cert.MxfIdeal.main_v15_1) = v1 c
          ∧ r.2.mem ((c.tc : Thread Cert.MxfIdeal.nD Cert.MxfIdeal.τ).loc Cert.MxfIdeal.main_arg0) = m ((c.tc : Thread Cert.MxfIdeal.nD Cert.MxfIdeal.τ).loc Cert.MxfIdeal.main_arg0)
          ∧ r.2.mem ((c.tc : Thread Cert.MxfIdeal.nD Cert.MxfIdeal.τ).loc Cert.MxfIdeal.main_arg1) = m ((c.tc : Thread Cert.MxfIdeal.nD Cert.MxfIdeal.τ).loc Cert.MxfIdeal.main_arg1)
          ∧ r.2.mem ((c.tc : Thread Cert.MxfIdeal.nD Cert.MxfIdeal.τ).loc Cert.MxfIdeal.main_arg2) = m ((c.tc : Thread Cert.MxfIdeal.nD Cert.MxfIdeal.τ).loc Cert.MxfIdeal.main_arg2)
          ∧ r.2.mem ((c.tc : Thread Cert.MxfIdeal.nD Cert.MxfIdeal.τ).loc Cert.MxfIdeal.main_arg3) = m ((c.tc : Thread Cert.MxfIdeal.nD Cert.MxfIdeal.τ).loc Cert.MxfIdeal.main_arg3)
          ∧ r.2.mem ((c.tc : Thread Cert.MxfIdeal.nD Cert.MxfIdeal.τ).loc Cert.MxfIdeal.main_arg4) = m ((c.tc : Thread Cert.MxfIdeal.nD Cert.MxfIdeal.τ).loc Cert.MxfIdeal.main_arg4)
          ∧ r.2.mem ((c.tc : Thread Cert.MxfIdeal.nD Cert.MxfIdeal.τ).loc Cert.MxfIdeal.main_arg5) = m ((c.tc : Thread Cert.MxfIdeal.nD Cert.MxfIdeal.τ).loc Cert.MxfIdeal.main_arg5)
          ∧ r.2.mem ((c.tc : Thread Cert.MxfIdeal.nD Cert.MxfIdeal.τ).loc Cert.MxfIdeal.main_arg6) = m ((c.tc : Thread Cert.MxfIdeal.nD Cert.MxfIdeal.τ).loc Cert.MxfIdeal.main_arg6)
          ∧ r.2.mem ((c.tc : Thread Cert.MxfIdeal.nD Cert.MxfIdeal.τ).loc Cert.MxfIdeal.main_arg7) = m ((c.tc : Thread Cert.MxfIdeal.nD Cert.MxfIdeal.τ).loc Cert.MxfIdeal.main_arg7)
          ∧ r.2.mem ((c.tc : Thread Cert.MxfIdeal.nD Cert.MxfIdeal.τ).loc Cert.MxfIdeal.main_arg8) = m ((c.tc : Thread Cert.MxfIdeal.nD Cert.MxfIdeal.τ).loc Cert.MxfIdeal.main_arg8)
          ∧ r.2.mem ((c.tc : Thread Cert.MxfIdeal.nD Cert.MxfIdeal.τ).loc Cert.MxfIdeal.main_arg9) = m ((c.tc : Thread Cert.MxfIdeal.nD Cert.MxfIdeal.τ).loc Cert.MxfIdeal.main_arg9))
      ∧ θ_run (Cert.MxfRefIdeal.defs (F := Ideal)) (onTc (τ := Cert.MxfRefIdeal.τ) (Cert.MxfRefIdeal.main (F := Ideal))) ⟨m', fun _ => 0, g'⟩ (fun r => ∀ c : Dev Cert.MxfRefIdeal.nD,
          r.2.mem ((c.tc : Thread Cert.MxfRefIdeal.nD Cert.MxfRefIdeal.τ).loc Cert.MxfRefIdeal.main_v172) = v0 c
          ∧ r.2.mem ((c.tc : Thread Cert.MxfRefIdeal.nD Cert.MxfRefIdeal.τ).loc Cert.MxfRefIdeal.main_v173) = v1 c
          ∧ r.2.mem ((c.tc : Thread Cert.MxfRefIdeal.nD Cert.MxfRefIdeal.τ).loc Cert.MxfRefIdeal.main_arg0) = m' ((c.tc : Thread Cert.MxfRefIdeal.nD Cert.MxfRefIdeal.τ).loc Cert.MxfRefIdeal.main_arg0)
          ∧ r.2.mem ((c.tc : Thread Cert.MxfRefIdeal.nD Cert.MxfRefIdeal.τ).loc Cert.MxfRefIdeal.main_arg1) = m' ((c.tc : Thread Cert.MxfRefIdeal.nD Cert.MxfRefIdeal.τ).loc Cert.MxfRefIdeal.main_arg1)
          ∧ r.2.mem ((c.tc : Thread Cert.MxfRefIdeal.nD Cert.MxfRefIdeal.τ).loc Cert.MxfRefIdeal.main_arg2) = m' ((c.tc : Thread Cert.MxfRefIdeal.nD Cert.MxfRefIdeal.τ).loc Cert.MxfRefIdeal.main_arg2)
          ∧ r.2.mem ((c.tc : Thread Cert.MxfRefIdeal.nD Cert.MxfRefIdeal.τ).loc Cert.MxfRefIdeal.main_arg3) = m' ((c.tc : Thread Cert.MxfRefIdeal.nD Cert.MxfRefIdeal.τ).loc Cert.MxfRefIdeal.main_arg3)
          ∧ r.2.mem ((c.tc : Thread Cert.MxfRefIdeal.nD Cert.MxfRefIdeal.τ).loc Cert.MxfRefIdeal.main_arg4) = m' ((c.tc : Thread Cert.MxfRefIdeal.nD Cert.MxfRefIdeal.τ).loc Cert.MxfRefIdeal.main_arg4)
          ∧ r.2.mem ((c.tc : Thread Cert.MxfRefIdeal.nD Cert.MxfRefIdeal.τ).loc Cert.MxfRefIdeal.main_arg5) = m' ((c.tc : Thread Cert.MxfRefIdeal.nD Cert.MxfRefIdeal.τ).loc Cert.MxfRefIdeal.main_arg5)
          ∧ r.2.mem ((c.tc : Thread Cert.MxfRefIdeal.nD Cert.MxfRefIdeal.τ).loc Cert.MxfRefIdeal.main_arg6) = m' ((c.tc : Thread Cert.MxfRefIdeal.nD Cert.MxfRefIdeal.τ).loc Cert.MxfRefIdeal.main_arg6)
          ∧ r.2.mem ((c.tc : Thread Cert.MxfRefIdeal.nD Cert.MxfRefIdeal.τ).loc Cert.MxfRefIdeal.main_arg7) = m' ((c.tc : Thread Cert.MxfRefIdeal.nD Cert.MxfRefIdeal.τ).loc Cert.MxfRefIdeal.main_arg7)
          ∧ r.2.mem ((c.tc : Thread Cert.MxfRefIdeal.nD Cert.MxfRefIdeal.τ).loc Cert.MxfRefIdeal.main_arg8) = m' ((c.tc : Thread Cert.MxfRefIdeal.nD Cert.MxfRefIdeal.τ).loc Cert.MxfRefIdeal.main_arg8)
          ∧ r.2.mem ((c.tc : Thread Cert.MxfRefIdeal.nD Cert.MxfRefIdeal.τ).loc Cert.MxfRefIdeal.main_arg9) = m' ((c.tc : Thread Cert.MxfRefIdeal.nD Cert.MxfRefIdeal.τ).loc Cert.MxfRefIdeal.main_arg9))

def Claim : Prop :=
  ∃ (hAttn : Cert.Attn.Facts) (hAttnIdeal : Cert.AttnIdeal.Facts) (hAttnRefIdeal : Cert.AttnRefIdeal.Facts) (hFf2 : Cert.Ff2.Facts) (hFf2Ideal : Cert.Ff2Ideal.Facts) (hFf2RefIdeal : Cert.Ff2RefIdeal.Facts) (hMix : Cert.Mix.Facts) (hMixIdeal : Cert.MixIdeal.Facts) (hMixRefIdeal : Cert.MixRefIdeal.Facts) (hBwd : Cert.Bwd.Facts) (hBwdIdeal : Cert.BwdIdeal.Facts) (hBwdRefIdeal : Cert.BwdRefIdeal.Facts) (hLoss : Cert.Loss.Facts) (hLossIdeal : Cert.LossIdeal.Facts) (hLossRefIdeal : Cert.LossRefIdeal.Facts) (hWg : Cert.Wg.Facts) (hWgIdeal : Cert.WgIdeal.Facts) (hWgRefIdeal : Cert.WgRefIdeal.Facts) (hInp : Cert.Inp.Facts) (hInpIdeal : Cert.InpIdeal.Facts) (hInpRefIdeal : Cert.InpRefIdeal.Facts) (hInz : Cert.Inz.Facts) (hInzIdeal : Cert.InzIdeal.Facts) (hInzRefIdeal : Cert.InzRefIdeal.Facts) (hAtt : Cert.Att.Facts) (hAttIdeal : Cert.AttIdeal.Facts) (hAttRefIdeal : Cert.AttRefIdeal.Facts) (hRln : Cert.Rln.Facts) (hRlnIdeal : Cert.RlnIdeal.Facts) (hRlnRefIdeal : Cert.RlnRefIdeal.Facts) (hRlr : Cert.Rlr.Facts) (hRlrIdeal : Cert.RlrIdeal.Facts) (hRlrRefIdeal : Cert.RlrRefIdeal.Facts) (hMxf : Cert.Mxf.Facts) (hMxfIdeal : Cert.MxfIdeal.Facts) (hMxfRefIdeal : Cert.MxfRefIdeal.Facts) (hPre_finite_attn : Cert.Pre_finite_attn.Facts) (hPre_finite_bwd : Cert.Pre_finite_bwd.Facts) (hPre_finite_loss : Cert.Pre_finite_loss.Facts) (hPre_finite_inp : Cert.Pre_finite_inp.Facts),
    quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Ff2 (hFf2 := hFf2)
    ∧ quiescent_Ff2Ideal (hFf2Ideal := hFf2Ideal)
    ∧ quiescent_Ff2RefIdeal (hFf2RefIdeal := hFf2RefIdeal)
    ∧ quiescent_Mix (hMix := hMix)
    ∧ quiescent_MixIdeal (hMixIdeal := hMixIdeal)
    ∧ quiescent_MixRefIdeal (hMixRefIdeal := hMixRefIdeal)
    ∧ quiescent_Bwd (hBwd := hBwd)
    ∧ quiescent_BwdIdeal (hBwdIdeal := hBwdIdeal)
    ∧ quiescent_BwdIdeal_pre_finite_bwd (hBwdIdeal := hBwdIdeal) (hPre_finite_bwd := hPre_finite_bwd)
    ∧ quiescent_BwdRefIdeal (hBwdRefIdeal := hBwdRefIdeal)
    ∧ quiescent_BwdRefIdeal_pre_finite_bwd (hBwdRefIdeal := hBwdRefIdeal) (hPre_finite_bwd := hPre_finite_bwd)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Wg (hWg := hWg)
    ∧ quiescent_WgIdeal (hWgIdeal := hWgIdeal)
    ∧ quiescent_WgRefIdeal (hWgRefIdeal := hWgRefIdeal)
    ∧ quiescent_Inp (hInp := hInp)
    ∧ quiescent_InpIdeal (hInpIdeal := hInpIdeal)
    ∧ quiescent_InpIdeal_pre_finite_inp (hInpIdeal := hInpIdeal) (hPre_finite_inp := hPre_finite_inp)
    ∧ quiescent_InpRefIdeal (hInpRefIdeal := hInpRefIdeal)
    ∧ quiescent_InpRefIdeal_pre_finite_inp (hInpRefIdeal := hInpRefIdeal) (hPre_finite_inp := hPre_finite_inp)
    ∧ quiescent_Inz (hInz := hInz)
    ∧ quiescent_InzIdeal (hInzIdeal := hInzIdeal)
    ∧ quiescent_InzRefIdeal (hInzRefIdeal := hInzRefIdeal)
    ∧ quiescent_Att (hAtt := hAtt)
    ∧ quiescent_AttIdeal (hAttIdeal := hAttIdeal)
    ∧ quiescent_AttRefIdeal (hAttRefIdeal := hAttRefIdeal)
    ∧ quiescent_Rln (hRln := hRln)
    ∧ quiescent_RlnIdeal (hRlnIdeal := hRlnIdeal)
    ∧ quiescent_RlnRefIdeal (hRlnRefIdeal := hRlnRefIdeal)
    ∧ quiescent_Rlr (hRlr := hRlr)
    ∧ quiescent_RlrIdeal (hRlrIdeal := hRlrIdeal)
    ∧ quiescent_RlrRefIdeal (hRlrRefIdeal := hRlrRefIdeal)
    ∧ quiescent_Mxf (hMxf := hMxf)
    ∧ quiescent_MxfIdeal (hMxfIdeal := hMxfIdeal)
    ∧ quiescent_MxfRefIdeal (hMxfRefIdeal := hMxfRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Ff2_Ff2Ideal
    ∧ algebraic_Ff2Ideal_Ff2RefIdeal (hFf2Ideal := hFf2Ideal) (hFf2RefIdeal := hFf2RefIdeal)
    ∧ preserves_Mix_MixIdeal
    ∧ preserves_Bwd_BwdIdeal
    ∧ algebraic_BwdIdeal_BwdRefIdeal_pre_finite_bwd (hBwdIdeal := hBwdIdeal) (hBwdRefIdeal := hBwdRefIdeal) (hPre_finite_bwd := hPre_finite_bwd)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Wg_WgIdeal
    ∧ algebraic_WgIdeal_WgRefIdeal (hWgIdeal := hWgIdeal) (hWgRefIdeal := hWgRefIdeal)
    ∧ preserves_Inp_InpIdeal
    ∧ algebraic_InpIdeal_InpRefIdeal_pre_finite_inp (hInpIdeal := hInpIdeal) (hInpRefIdeal := hInpRefIdeal) (hPre_finite_inp := hPre_finite_inp)
    ∧ preserves_Inz_InzIdeal
    ∧ algebraic_InzIdeal_InzRefIdeal (hInzIdeal := hInzIdeal) (hInzRefIdeal := hInzRefIdeal)
    ∧ preserves_Att_AttIdeal
    ∧ algebraic_AttIdeal_AttRefIdeal (hAttIdeal := hAttIdeal) (hAttRefIdeal := hAttRefIdeal)
    ∧ preserves_Rln_RlnIdeal
    ∧ algebraic_RlnIdeal_RlnRefIdeal (hRlnIdeal := hRlnIdeal) (hRlnRefIdeal := hRlnRefIdeal)
    ∧ preserves_Rlr_RlrIdeal
    ∧ algebraic_RlrIdeal_RlrRefIdeal (hRlrIdeal := hRlrIdeal) (hRlrRefIdeal := hRlrRefIdeal)
    ∧ preserves_Mxf_MxfIdeal
    ∧ algebraic_MxfIdeal_MxfRefIdeal (hMxfIdeal := hMxfIdeal) (hMxfRefIdeal := hMxfRefIdeal)
-- ==== Pre_finite_attn.lean ====
abbrev S8192x1024 : Shape := ⟨2, ![8192, 1024]⟩
abbrev S1024x2048 : Shape := ⟨2, ![1024, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024x2048 : S_.BroadcastsInDim S1024x2048 (![] : Fin 0 → Fin S1024x2048.rank)

variable [Facts]

def fn {F : FTy → Type} [FloatOps F] (main_arg0 : FVec F S8192x1024 .bf16) (main_arg1 : FVec F S1024x2048 .bf16) (main_arg2 : FVec F S8192x1024 .bf16) : IVec S8192x1024 1 × IVec S1024x2048 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1024x2048 .f32 := (extf .f32 · bitsLt_bf16_f32) main_arg1
  let main_v5 : FVec F S1024x2048 .f32 := Host.absf main_v4
  let main_cst_0 : FVec F S_ .f32 := constant S_ .f32 0x7F800000#32
  let main_v6 : FVec F S1024x2048 .f32 := broadcastInDim S1024x2048 ![] bcast_S_S1024x2048 main_cst_0
  let main_v7 : IVec S1024x2048 1 := cmpf .olt main_v5 main_v6
  let main_v8 : FVec F S8192x1024 .f32 := (extf .f32 · bitsLt_bf16_f32) main_arg2
  let main_v9 : FVec F S8192x1024 .f32 := Host.absf main_v8
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  (main_v3, main_v7, main_v11)
-- ==== Pre_finite_bwd.lean ====
abbrev S8192x1024 : Shape := ⟨2, ![8192, 1024]⟩
abbrev S1024 : Shape := ⟨1, ![1024]⟩
abbrev S1024x4096 : Shape := ⟨2, ![1024, 4096]⟩
abbrev S1024x1024 : Shape := ⟨2, ![1024, 1024]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bitsLt_bf16_f32 : FTy.bits .bf16 < FTy.bits .f32
  bcast_S_S1024x4096 : S_.BroadcastsInDim S1024x4096 (![] : Fin 0 → Fin S1024x4096.rank)
  bcast_S_S8192x4096 : S_.BroadcastsInDim S8192x4096 (![] : Fin 0 → Fin S8192x4096.rank)

variable [Facts]

def fn {F : FTy → Type} [FloatOps F] (main_arg0 : FVec F S8192x1024 .f32) (main_arg1 : FVec F S1024 .f32) (main_arg2 : FVec F S1024 .f32) (main_arg3 : FVec F S1024x4096 .bf16) (main_arg4 : FVec F S1024x1024 .bf16) (main_arg5 : FVec F S8192x1024 .f32) (main_arg6 : FVec F S8192x4096 .bf16) : IVec S8192x1024 1 × IVec S1024 1 × IVec S1024x4096 1 × IVec S8192x1024 1 × IVec S8192x4096 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := (extf .f32 · bitsLt_bf16_f32) main_arg3
  let main_v7 : FVec F S1024x4096 .f32 := Host.absf main_v6
  let main_cst_1 : FVec F S_ .f32 := constant S_ .f32 0x7F800000#32
  let main_v8 : FVec F S1024x4096 .f32 := broadcastInDim S1024x4096 ![] bcast_S_S1024x4096 main_cst_1
  let main_v9 : IVec S1024x4096 1 := cmpf .olt main_v7 main_v8
  let main_v10 : FVec F S8192x1024 .f32 := Host.absf main_arg5
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_v13 : FVec F S8192x4096 .f32 := (extf .f32 · bitsLt_bf16_f32) main_arg6
  let main_v14 : FVec F S8192x4096 .f32 := Host.absf main_v13
  let main_cst_3 : FVec F S_ .f32 := constant S_ .f32 0x7F800000#32
  let main_v15 : FVec F S8192x4096 .f32 := broadcastInDim S8192x4096 ![] bcast_S_S8192x4096 main_cst_3
  let main_v16 : IVec S8192x4096 1 := cmpf .olt main_v14 main_v15
  (main_v2, main_v5, main_v9, main_v12, main_v16)
-- ==== Pre_finite_inp.lean ====
abbrev S8192x1024 : Shape := ⟨2, ![8192, 1024]⟩
abbrev S1024 : Shape := ⟨1, ![1024]⟩
abbrev S1024x2432 : Shape := ⟨2, ![1024, 2432]⟩
abbrev S8192x2432 : Shape := ⟨2, ![8192, 2432]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bitsLt_bf16_f32 : FTy.bits .bf16 < FTy.bits .f32
  bcast_S_S1024x2432 : S_.BroadcastsInDim S1024x2432 (![] : Fin 0 → Fin S1024x2432.rank)
  bcast_S_S8192x2432 : S_.BroadcastsInDim S8192x2432 (![] : Fin 0 → Fin S8192x2432.rank)

variable [Facts]

def fn {F : FTy → Type} [FloatOps F] (main_arg0 : FVec F S8192x1024 .f32) (main_arg1 : FVec F S1024 .f32) (main_arg2 : FVec F S1024 .f32) (main_arg3 : FVec F S1024x2432 .bf16) (main_arg4 : FVec F S8192x1024 .f32) (main_arg5 : FVec F S8192x2432 .bf16) : IVec S8192x1024 1 × IVec S1024 1 × IVec S1024x2432 1 × IVec S8192x1024 1 × IVec S8192x2432 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2432 .f32 := (extf .f32 · bitsLt_bf16_f32) main_arg3
  let main_v7 : FVec F S1024x2432 .f32 := Host.absf main_v6
  let main_cst_1 : FVec F S_ .f32 := constant S_ .f32 0x7F800000#32
  let main_v8 : FVec F S1024x2432 .f32 := broadcastInDim S1024x2432 ![] bcast_S_S1024x2432 main_cst_1
  let main_v9 : IVec S1024x2432 1 := cmpf .olt main_v7 main_v8
  let main_v10 : FVec F S8192x1024 .f32 := Host.absf main_arg4
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_v13 : FVec F S8192x2432 .f32 := (extf .f32 · bitsLt_bf16_f32) main_arg5
  let main_v14 : FVec F S8192x2432 .f32 := Host.absf main_v13
  let main_cst_3 : FVec F S_ .f32 := constant S_ .f32 0x7F800000#32
  let main_v15 : FVec F S8192x2432 .f32 := broadcastInDim S8192x2432 ![] bcast_S_S8192x2432 main_cst_3
  let main_v16 : IVec S8192x2432 1 := cmpf .olt main_v14 main_v15
  (main_v2, main_v5, main_v9, main_v12, main_v16)
-- ==== Pre_finite_loss.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S1024 .f32) (main_arg3 : FVec F S8192x1024 .f32) : IVec S8192x1024 1 × IVec S1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Attn.lean ====
abbrev S8192x1024 : Shape := ⟨2, ![8192, 1024]⟩
abbrev S1024x2048 : Shape := ⟨2, ![1024, 2048]⟩
abbrev S512x1024 : Shape := ⟨2, ![512, 1024]⟩
abbrev S256x1024 : Shape := ⟨2, ![256, 1024]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .bf16⟩
  | .hbm, ⟨4, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S256x2048, .f32⟩
  | .local _ .vmem, ⟨11, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== AttnRefIdeal.lean ====
abbrev S8192x1024 : Shape := ⟨2, ![8192, 1024]⟩
abbrev S1024x2048 : Shape := ⟨2, ![1024, 2048]⟩
abbrev S4x2048x4x256 : Shape := ⟨4, ![4, 2048, 4, 256]⟩
abbrev S4x256x2048 : Shape := ⟨3, ![4, 256, 2048]⟩
abbrev S4x256x1024 : Shape := ⟨3, ![4, 256, 1024]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S4x4x256x256 : Shape := ⟨4, ![4, 4, 256, 256]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .f32⟩
  | .hbm, ⟨4, _⟩ => ⟨S1024x2048, .f32⟩
  | .hbm, ⟨5, _⟩ => ⟨S4x2048x4x256, .f32⟩
  | .hbm, ⟨6, _⟩ => ⟨S4x256x2048, .f32⟩
  | .hbm, ⟨7, _⟩ => ⟨S4x256x1024, .f32⟩
  | .hbm, ⟨8, _⟩ => ⟨S4x256x1024, .f32⟩
  | .hbm, ⟨9, _⟩ => ⟨S4x256x4x256, .f32⟩
  | .hbm, ⟨10, _⟩ => ⟨S4x256x4x256, .f32⟩
  | .hbm, ⟨11, _⟩ => ⟨S4x4x2048x256, .f32⟩
  | .hbm, ⟨12, _⟩ => ⟨S_, .f32⟩
  | .hbm, ⟨13, _⟩ => ⟨S4x4x2048x256, .f32⟩
  | .hbm, ⟨14, _⟩ => ⟨S4x4x2048x256, .f32⟩
  | .hbm, ⟨15, _⟩ => ⟨S_, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .i1⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S_, .f32⟩
  | .hbm, ⟨24, _⟩ => ⟨S4x4x2048, .f32⟩
  | .hbm, ⟨25, _⟩ => ⟨S4x4x2048, .f32⟩
  | .hbm, ⟨26, _⟩ => ⟨S_, .f32⟩
  | .hbm, ⟨27, _⟩ => ⟨S4x4x2048, .f32⟩
  | .hbm, ⟨28, _⟩ => ⟨S4x4x2048, .i1⟩
  | .hbm, ⟨29, _⟩ => ⟨S_, .f32⟩
  | .hbm, ⟨30, _⟩ => ⟨S4x4x2048, .f32⟩
  | .hbm, ⟨31, _⟩ => ⟨S4x4x2048, .i1⟩
  | .hbm, ⟨32, _⟩ => ⟨S_, .f32⟩
  | .hbm, ⟨33, _⟩ => ⟨S4x4x2048, .f32⟩
  | .hbm, ⟨34, _⟩ => ⟨S_, .f32⟩
  | .hbm, ⟨35, _⟩ => ⟨S4x4x2048, .f32⟩
  | .hbm, ⟨36, _⟩ => ⟨S_, .f32⟩
  | .hbm, ⟨37, _⟩ => ⟨S4x4x2048, .f32⟩
  | .hbm, ⟨38, _⟩ => ⟨S4x4x2048, .f32⟩
  | .hbm, ⟨39, _⟩ => ⟨S4x4x2048, .f32⟩
  | .hbm, ⟨40, _⟩ => ⟨S4x4x2048x1, .f32⟩
  | .hbm, ⟨41, _⟩ => ⟨S4x4x2048x256, .f32⟩
  | .hbm, ⟨42, _⟩ => ⟨S4x4x2048x256, .f32⟩
  | .hbm, ⟨43, _⟩ => ⟨S4x4x2048x256, .f32⟩
  | .hbm, ⟨44, _⟩ => ⟨S_, .f32⟩
  | .hbm, ⟨45, _⟩ => ⟨S4x4x2048, .f32⟩
  | .hbm, ⟨46, _⟩ => ⟨S4x4x2048x1, .f32⟩
  | .hbm, ⟨47, _⟩ => ⟨S4x4x2048x256, .f32⟩
  | .hbm, ⟨48, _⟩ => ⟨S4x4x2048x256, .f32⟩
  | .hbm, ⟨49, _⟩ => ⟨S4x4x2048x1, .f32⟩
  | .hbm, ⟨50, _⟩ => ⟨S_, .f32⟩
  | .hbm, ⟨51, _⟩ => ⟨S4x4x2048x1, .f32⟩
  | .hbm, ⟨52, _⟩ => ⟨S4x4x2048x1, .f32⟩
  | .hbm, ⟨53, _⟩ => ⟨S4x4x256x2048, .f32⟩
  | .hbm, ⟨54, _⟩ => ⟨S4x2048x4x256, .f32⟩
  | .hbm, ⟨55, _⟩ => ⟨S8192x1024, .f32⟩
  | .hbm, ⟨56, _⟩ => ⟨S8192x1024, .f32⟩
  | .hbm, ⟨57, _⟩ => ⟨S4x2048x4x256, .f32⟩
  | .hbm, ⟨58, _⟩ => ⟨S4x4x256x2048, .f32⟩
  | .hbm, ⟨59, _⟩ => ⟨S4x4x2048x256, .f32⟩
  | .hbm, ⟨60, _⟩ => ⟨S4x4x256x256, .f32⟩
  | .hbm, ⟨61, _⟩ => ⟨S4x256x4x256, .f32⟩
  | .hbm, ⟨62, _⟩ => ⟨S4x4x2048x256, .f32⟩
  | .hbm, ⟨63, _⟩ => ⟨S4x4x2048x256, .f32⟩
  | .hbm, ⟨64, _⟩ => ⟨S4x4x2048x256, .f32⟩
  | .hbm, ⟨65, _⟩ => ⟨S_, .f32⟩
  | .hbm, ⟨66, _⟩ => ⟨S4x4x2048, .f32⟩
  | .hbm, ⟨67, _⟩ => ⟨S4x4x2048x1, .f32⟩
  | .hbm, ⟨68, _⟩ => ⟨S4x4x2048x1, .f32⟩
  | .hbm, ⟨69, _⟩ => ⟨S4x4x2048x256, .f32⟩
  | .hbm, ⟨70, _⟩ => ⟨S4x4x2048x256, .f32⟩
  | .hbm, ⟨71, _⟩ => ⟨S_, .f32⟩
  | .hbm, ⟨72, _⟩ => ⟨S4x4x2048, .f32⟩
  | .hbm, ⟨73, _⟩ => ⟨S4x4x2048x256, .f32⟩
  | .hbm, ⟨74, _⟩ => ⟨S4x4x2048x256, .f32⟩
  | .hbm, ⟨75, _⟩ => ⟨S4x4x2048x256, .f32⟩
  | .hbm, ⟨76, _⟩ => ⟨S_, .f32⟩
  | .hbm, ⟨77, _⟩ => ⟨S4x4x2048x256, .f32⟩
  | .hbm, ⟨78, _⟩ => ⟨S4x4x2048x256, .f32⟩
  | .hbm, ⟨79, _⟩ => ⟨S4x4x256x256, .f32⟩
  | .hbm, ⟨80, _⟩ => ⟨S4x256x4x256, .f32⟩
  | .hbm, ⟨81, _⟩ => ⟨S4x4x2048x256, .f32⟩
  | .hbm, ⟨82, _⟩ => ⟨S4x2048x4x256, .f32⟩
  | .hbm, ⟨83, _⟩ => ⟨S4x256x1024, .f32⟩
  | .hbm, ⟨84, _⟩ => ⟨S4x256x1024, .f32⟩
  | .hbm, ⟨85, _⟩ => ⟨S4x256x2048, .f32⟩
  | .hbm, ⟨86, _⟩ => ⟨S1024x2048, .f32⟩
  | .hbm, ⟨87, _⟩ => ⟨S8192x1024, .f32⟩
  | .hbm, ⟨88, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Ff2.lean ====
abbrev S8192x4096 : Shape := ⟨2, ![8192, 4096]⟩
abbrev S4096x1024 : Shape := ⟨2, ![4096, 1024]⟩
abbrev S8192x1024 : Shape := ⟨2, ![8192, 1024]⟩
abbrev S512x1024 : Shape := ⟨2, ![512, 1024]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Ff2RefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Mix.lean ====
abbrev S8192x2432 : Shape := ⟨2, ![8192, 2432]⟩
abbrev S31x384 : Shape := ⟨2, ![31, 384]⟩
abbrev S384 : Shape := ⟨1, ![384]⟩
abbrev S256 : Shape := ⟨1, ![256]⟩
abbrev S4x128x128 : Shape := ⟨3, ![4, 128, 128]⟩
abbrev S4x128 : Shape := ⟨2, ![4, 128]⟩
abbrev S3x384 : Shape := ⟨2, ![3, 384]⟩
abbrev S8192x1024 : Shape := ⟨2, ![8192, 1024]⟩
abbrev S_ : Shape := ⟨0, ![]⟩
abbrev S128x128 : Shape := ⟨2, ![128, 128]⟩
abbrev S32x384 : Shape := ⟨2, ![32, 384]⟩
abbrev S1x384 : Shape := ⟨2, ![1, 384]⟩
abbrev S1x256 : Shape := ⟨2, ![1, 256]⟩
abbrev S1x128x128 : Shape := ⟨3, ![1, 128, 128]⟩
abbrev S128x4 : Shape := ⟨2, ![128, 4]⟩
abbrev S128x4x64 : Shape := ⟨3, ![128, 4, 64]⟩
abbrev S128x256 : Shape := ⟨2, ![128, 256]⟩
abbrev S8x384 : Shape := ⟨2, ![8, 384]⟩
abbrev S4x2048x2432 : Shape := ⟨3, ![4, 2048, 2432]⟩
abbrev S4x2048x384 : Shape := ⟨3, ![4, 2048, 384]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S4x30x384 : Shape := ⟨3, ![4, 30, 384]⟩
abbrev S4x2078x384 : Shape := ⟨3, ![4, 2078, 384]⟩
abbrev S2048x31x1 : Shape := ⟨3, ![2048, 31, 1]⟩
abbrev S4x2048x31x384 : Shape := ⟨4, ![4, 2048, 31, 384]⟩
abbrev S1x1x31x384 : Shape := ⟨4, ![1, 1, 31, 384]⟩
abbrev S1x1x384 : Shape := ⟨3, ![1, 1, 384]⟩
abbrev S8192x384 : Shape := ⟨2, ![8192, 384]⟩
abbrev S4x32x384 : Shape := ⟨3, ![4, 32, 384]⟩
abbrev S4x8x384 : Shape := ⟨3, ![4, 8, 384]⟩
abbrev S4x8x256 : Shape := ⟨3, ![4, 8, 256]⟩
abbrev S4x4x128x128 : Shape := ⟨4, ![4, 4, 128, 128]⟩
abbrev S2048x2432 : Shape := ⟨2, ![2048, 2432]⟩
abbrev S2048x1024 : Shape := ⟨2, ![2048, 1024]⟩
abbrev S2048x384 : Shape := ⟨2, ![2048, 384]⟩
abbrev S1x32x384 : Shape := ⟨3, ![1, 32, 384]⟩
abbrev S1x8x384 : Shape := ⟨3, ![1, 8, 384]⟩
abbrev S1x8x256 : Shape := ⟨3, ![1, 8, 256]⟩
abbrev S1x4x128x128 : Shape := ⟨4, ![1, 4, 128, 128]⟩
abbrev S2080x384 : Shape := ⟨2, ![2080, 384]⟩
abbrev S2056x384 : Shape := ⟨2, ![2056, 384]⟩
abbrev S248x384 : Shape := ⟨2, ![248, 384]⟩
abbrev S8x256 : Shape := ⟨2, ![8, 256]⟩
abbrev S24x384 : Shape := ⟨2, ![24, 384]⟩
abbrev S136x128 : Shape := ⟨2, ![136, 128]⟩
abbrev S1x128 : Shape := ⟨2, ![1, 128]⟩
abbrev S128x384 : Shape := ⟨2, ![128, 384]⟩
abbrev S128 : Shape := ⟨1, ![128]⟩
abbrev S128x1 : Shape := ⟨2, ![128, 1]⟩
abbrev S16x8x384 : Shape := ⟨3, ![16, 8, 384]⟩
abbrev S8x128 : Shape := ⟨2, ![8, 128]⟩
abbrev S144x128 : Shape := ⟨2, ![144, 128]⟩
abbrev S16x8x128 : Shape := ⟨3, ![16, 8, 128]⟩
abbrev S17x8x128 : Shape := ⟨3, ![17, 8, 128]⟩
abbrev S1x1x128x128 : Shape := ⟨4, ![1, 1, 128, 128]⟩
abbrev S16x8x256 : Shape := ⟨3, ![16, 8, 256]⟩

abbrev nBuf : Space → Nat
  | .hbm => 133
  | .vmem => 43
  | .smem => 0
  | _ => 0

abbrev hbmTy0_0 (i : Nat) : BufTy := match i % 128 with
  | 0 => ⟨S8192x2432, .bf16⟩
  | 1 => ⟨S31x384, .f32⟩
  | 2 => ⟨S384, .f32⟩
  | 3 => ⟨S384, .f32⟩
  | 4 => ⟨S384, .f32⟩
  | 5 => ⟨S256, .f32⟩
  | 6 => ⟨S256, .f32⟩
  | 7 => ⟨S4x128x128, .f32⟩
  | 8 => ⟨S4x128, .f32⟩
  | 9 => ⟨S3x384, .f32⟩
  | 10 => ⟨S8192x1024, .bf16⟩
  | 11 => ⟨S_, .i1⟩
  | 12 => ⟨S128x128, .i1⟩
  | 13 => ⟨S128x128, .i32⟩
  | 14 => ⟨S_, .i32⟩
  | 15 => ⟨S128x128, .i32⟩
  | 16 => ⟨S128x128, .i32⟩
  | 17 => ⟨S128x128, .i32⟩
  | 18 => ⟨S128x128, .i1⟩
  | 19 => ⟨S_, .i1⟩
  | 20 => ⟨S128x128, .i1⟩
  | 21 => ⟨S128x128, .i1⟩
  | 22 => ⟨S_, .i32⟩
  | 23 => ⟨S_, .f32⟩
  | 24 => ⟨S32x384, .f32⟩
  | 25 => ⟨S1x384, .f32⟩
  | 26 => ⟨S1x384, .f32⟩
  | 27 => ⟨S1x384, .f32⟩
  | 28 => ⟨S1x256, .f32⟩
  | 29 => ⟨S1x256, .f32⟩
  | 30 => ⟨S1x128x128, .i1⟩
  | 31 => ⟨S_, .f32⟩
  | 32 => ⟨S_, .f32⟩
  | 33 => ⟨S4x128x128, .i1⟩
  | 34 => ⟨S4x128x128, .f32⟩
  | 35 => ⟨S4x128x128, .f32⟩
  | 36 => ⟨S4x128x128, .bf16⟩
  | 37 => ⟨S128x4, .f32⟩
  | 38 => ⟨S128x4x64, .f32⟩
  | 39 => ⟨S128x256, .f32⟩
  | 40 => ⟨S_, .i32⟩
  | 41 => ⟨S_, .f32⟩
  | 42 => ⟨S8x384, .f32⟩
  | 43 => ⟨S8192x2432, .f32⟩
  | 44 => ⟨S4x2048x2432, .f32⟩
  | 45 => ⟨S4x2048x384, .f32⟩
  | 46 => ⟨S4x2048x384, .f32⟩
  | 47 => ⟨S4x2048x384, .f32⟩
  | 48 => ⟨S4x2048x384, .f32⟩
  | 49 => ⟨S_, .f32⟩
  | 50 => ⟨S4x2048x384, .f32⟩
  | 51 => ⟨S4x2048x384, .f32⟩
  | 52 => ⟨S_, .f32⟩
  | 53 => ⟨S4x2048x384, .f32⟩
  | 54 => ⟨S4x2048x384, .f32⟩
  | 55 => ⟨S4x2048x384, .f32⟩
  | 56 => ⟨S2048, .i32⟩
  | 57 => ⟨S2048x1, .i32⟩
  | 58 => ⟨S31, .i32⟩
  | 59 => ⟨S1x31, .i32⟩
  | 60 => ⟨S2048x31, .i32⟩
  | 61 => ⟨S2048x31, .i32⟩
  | 62 => ⟨S2048x31, .i32⟩
  | 63 => ⟨S_, .f32⟩
  | 64 => ⟨S4x30x384, .f32⟩
  | 65 => ⟨S4x2078x384, .f32⟩
  | 66 => ⟨S_, .i32⟩
  | 67 => ⟨S2048x31, .i32⟩
  | 68 => ⟨S2048x31, .i1⟩
  | 69 => ⟨S_, .i32⟩
  | 70 => ⟨S2048x31, .i32⟩
  | 71 => ⟨S2048x31, .i32⟩
  | 72 => ⟨S2048x31, .i32⟩
  | 73 => ⟨S2048x31x1, .i32⟩
  | 74 => ⟨S4x2048x31x384, .f32⟩
  | 75 => ⟨S1x1x31x384, .f32⟩
  | 76 => ⟨S4x2048x31x384, .f32⟩
  | 77 => ⟨S4x2048x31x384, .f32⟩
  | 78 => ⟨S_, .f32⟩
  | 79 => ⟨S4x2048x384, .f32⟩
  | 80 => ⟨S1x1x384, .f32⟩
  | 81 => ⟨S4x2048x384, .f32⟩
  | 82 => ⟨S4x2048x384, .f32⟩
  | 83 => ⟨S8192x384, .f32⟩
  | 84 => ⟨S8192x2432, .bf16⟩
  | 85 => ⟨S4x32x384, .f32⟩
  | 86 => ⟨S4x8x384, .f32⟩
  | 87 => ⟨S4x8x384, .f32⟩
  | 88 => ⟨S4x8x384, .f32⟩
  | 89 => ⟨S4x8x256, .f32⟩
  | 90 => ⟨S4x8x256, .f32⟩
  | 91 => ⟨S4x4x128x128, .f32⟩
  | 92 => ⟨S4x128x128, .f32⟩
  | 93 => ⟨S4x8x384, .f32⟩
  | 94 => ⟨S_, .i1⟩
  | 95 => ⟨S128x128, .i1⟩
  | 96 => ⟨S128x128, .i32⟩
  | 97 => ⟨S_, .i32⟩
  | 98 => ⟨S128x128, .i32⟩
  | 99 => ⟨S128x128, .i32⟩
  | 100 => ⟨S128x128, .i32⟩
  | 101 => ⟨S128x128, .i1⟩
  | 102 => ⟨S_, .i1⟩
  | 103 => ⟨S128x128, .i1⟩
  | 104 => ⟨S128x128, .i1⟩
  | 105 => ⟨S_, .f32⟩
  | 106 => ⟨S32x384, .f32⟩
  | 107 => ⟨S31x384, .f32⟩
  | 108 => ⟨S_, .f32⟩
  | 109 => ⟨S384, .f32⟩
  | 110 => ⟨S_, .f32⟩
  | 111 => ⟨S384, .f32⟩
  | 112 => ⟨S_, .f32⟩
  | 113 => ⟨S384, .f32⟩
  | 114 => ⟨S_, .f32⟩
  | 115 => ⟨S256, .f32⟩
  | 116 => ⟨S_, .f32⟩
  | 117 => ⟨S256, .f32⟩
  | 118 => ⟨S1x128x128, .i1⟩
  | 119 => ⟨S_, .f32⟩
  | 120 => ⟨S4x128x128, .f32⟩
  | 121 => ⟨S_, .f32⟩
  | 122 => ⟨S_, .f32⟩
  | 123 => ⟨S4x128x128, .i1⟩
  | 124 => ⟨S4x128x128, .f32⟩
  | 125 => ⟨S4x128x128, .f32⟩
  | 126 => ⟨S_, .f32⟩
  | 127 => ⟨S128x128, .f32⟩
  | _ => ⟨S8192x2432, .bf16⟩

abbrev hbmTy0_1 (i : Nat) : BufTy := match i % 128 with
  | 0 => ⟨S128x4, .f32⟩
  | 1 => ⟨S4x128, .f32⟩
  | 2 => ⟨S_, .f32⟩
  | 3 => ⟨S8x384, .f32⟩
  | 4 => ⟨S3x384, .f32⟩
  | _ => ⟨S8192x2432, .bf16⟩

abbrev hbmTy (i : Nat) : BufTy := match i / 128 with
  | 0 => hbmTy0_0 i
  | 1 => hbmTy0_1 i
  | _ => ⟨S8192x2432, .bf16⟩

abbrev bufTy : (tb : Table) → Fin (tcTables nBuf tb) → BufTy
  | .hbm, ⟨i, _⟩ => hbmTy i
  | .local _ .vmem, ⟨0, _⟩ => ⟨S2048x2432, .bf16⟩
  | .local _ .vmem, ⟨1, _⟩ => ⟨S2048x1024, .bf16⟩
  | .local _ .vmem, ⟨2, _⟩ => ⟨S2048x384, .f32⟩
  | .local _ .vmem, ⟨3, _⟩ => ⟨S32x384, .f32⟩
  | .local _ .vmem, ⟨4, _⟩ => ⟨S1x384, .f32⟩
  | .local _ .vmem, ⟨5, _⟩ => ⟨S1x384, .f32⟩
  | .local _ .vmem, ⟨6, _⟩ => ⟨S1x384, .f32⟩
  | .local _ .vmem, ⟨7, _⟩ => ⟨S1x256, .f32⟩
  | .local _ .vmem, ⟨8, _⟩ => ⟨S1x256, .f32⟩
  | .local _ .vmem, ⟨9, _⟩ => ⟨S4x128x128, .bf16⟩
  | .local _ .vmem, ⟨10, _⟩ => ⟨S128x256, .f32⟩
  | .local _ .vmem, ⟨11, _⟩ => ⟨S8x384, .f32⟩
  | .local _ .vmem, ⟨12, _⟩ => ⟨S2048x2432, .bf16⟩
  | .local _ .vmem, ⟨13, _⟩ => ⟨S1x32x384, .f32⟩
  | .local _ .vmem, ⟨14, _⟩ => ⟨S1x32x384, .f32⟩
  | .local _ .vmem, ⟨15, _⟩ => ⟨S1x8x384, .f32⟩
  | .local _ .vmem, ⟨16, _⟩ => ⟨S1x8x384, .f32⟩
  | .local _ .vmem, ⟨17, _⟩ => ⟨S1x8x384, .f32⟩
  | .local _ .vmem, ⟨18, _⟩ => ⟨S1x8x384, .f32⟩
  | .local _ .vmem, ⟨19, _⟩ => ⟨S1x8x384, .f32⟩
  | .local _ .vmem, ⟨20, _⟩ => ⟨S1x8x384, .f32⟩
  | .local _ .vmem, ⟨21, _⟩ => ⟨S1x8x256, .f32⟩
  | .local _ .vmem, ⟨22, _⟩ => ⟨S1x8x256, .f32⟩
  | .local _ .vmem, ⟨23, _⟩ => ⟨S1x8x256, .f32⟩
  | .local _ .vmem, ⟨24, _⟩ => ⟨S1x8x256, .f32⟩
  | .local _ .vmem, ⟨25, _⟩ => ⟨S1x4x128x128, .f32⟩
  | .local _ .vmem, ⟨26, _⟩ => ⟨S1x4x128x128, .f32⟩
  | .local _ .vmem, ⟨27, _⟩ => ⟨S1x128x128, .f32⟩
  | .local _ .vmem, ⟨28, _⟩ => ⟨S1x128x128, .f32⟩
  | .local _ .vmem, ⟨29, _⟩ => ⟨S1x8x384, .f32⟩
  | .local _ .vmem, ⟨30, _⟩ => ⟨S1x8x384, .f32⟩
  | .local _ .vmem, ⟨31, _⟩ => ⟨S2080x384, .f32⟩
  | .local _ .vmem, ⟨32, _⟩ => ⟨S2080x384, .f32⟩
  | .local _ .vmem, ⟨33, _⟩ => ⟨S2056x384, .f32⟩
  | .local _ .vmem, ⟨34, _⟩ => ⟨S2056x384, .f32⟩
  | .local _ .vmem, ⟨35, _⟩ => ⟨S248x384, .f32⟩
  | .local _ .vmem, ⟨36, _⟩ => ⟨S8x384, .f32⟩
  | .local _ .vmem, ⟨37, _⟩ => ⟨S8x384, .f32⟩
  | .local _ .vmem, ⟨38, _⟩ => ⟨S8x384, .f32⟩
  | .local _ .vmem, ⟨39, _⟩ => ⟨S8x256, .f32⟩
  | .local _ .vmem, ⟨40, _⟩ => ⟨S8x256, .f32⟩
  | .local _ .vmem, ⟨41, _⟩ => ⟨S24x384, .f32⟩
  | .local _ .vmem, ⟨42, _⟩ => ⟨S136x128, .f32⟩
  | _, _ => ⟨S8192x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v1 : Ref sig .tc := ⟨.hbm, 21, rfl⟩
abbrev main_c_0 : Ref sig .tc := ⟨.hbm, 22, rfl⟩
abbrev main_call1_v0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_1 : Ref sig .tc := ⟨.hbm, 40, rfl⟩
abbrev main_call3_v0 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_cst_3 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_4 : Ref sig .tc := ⟨.hbm, 63, rfl⟩
abbrev main_v33 : Ref sig .tc := ⟨.hbm, 64, rfl⟩
abbrev main_v34 : Ref sig .tc := ⟨.hbm, 65, rfl⟩
abbrev main_c_5 : Ref sig .tc := ⟨.hbm, 66, rfl⟩
abbrev main_v35 : Ref sig .tc := ⟨.hbm, 67, rfl⟩
abbrev main_v36 : Ref sig .tc := ⟨.hbm, 68, rfl⟩
abbrev main_c_6 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_7 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50_0 : Ref sig .tc := ⟨.hbm, 84, rfl⟩
abbrev main_v50_1 : Ref sig .tc := ⟨.hbm, 85, rfl⟩
abbrev main_v50_2 : Ref sig .tc := ⟨.hbm, 86, rfl⟩
abbrev main_v50_3 : Ref sig .tc := ⟨.hbm, 87, rfl⟩
abbrev main_v50_4 : Ref sig .tc := ⟨.hbm, 88, rfl⟩
abbrev main_v50_5 : Ref sig .tc := ⟨.hbm, 89, rfl⟩
abbrev main_v50_6 : Ref sig .tc := ⟨.hbm, 90, rfl⟩
abbrev main_v50_7 : Ref sig .tc := ⟨.hbm, 91, rfl⟩
abbrev main_v50_8 : Ref sig .tc := ⟨.hbm, 92, rfl⟩
abbrev main_v50_9 : Ref sig .tc := ⟨.hbm, 93, rfl⟩
abbrev main_c_8 : Ref sig .tc := ⟨.hbm, 94, rfl⟩
abbrev main_v51 : Ref sig .tc := ⟨.hbm, 95, rfl⟩
abbrev main_call4_v0 : Ref sig .tc := ⟨.hbm, 96, rfl⟩
abbrev main_call4_c : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_c_0 : Ref sig .tc := ⟨.hbm, 102, rfl⟩
abbrev main_call4_v5 : Ref sig .tc := ⟨.hbm, 103, rfl⟩
abbrev main_v52 : Ref sig .tc := ⟨.hbm, 104, rfl⟩
abbrev main_cst_9 : Ref sig .tc := ⟨.hbm, 105, rfl⟩
abbrev main_v53 : Ref sig .tc := ⟨.hbm, 106, rfl⟩
abbrev main_v54 : Ref sig .tc := ⟨.hbm, 107, rfl⟩
abbrev main_cst_10 : Ref sig .tc := ⟨.hbm, 108, rfl⟩
abbrev main_v55 : Ref sig .tc := ⟨.hbm, 109, rfl⟩
abbrev main_cst_11 : Ref sig .tc := ⟨.hbm, 110, rfl⟩
abbrev main_v56 : Ref sig .tc := ⟨.hbm, 111, rfl⟩
abbrev main_cst_12 : Ref sig .tc := ⟨.hbm, 112, rfl⟩
abbrev main_v57 : Ref sig .tc := ⟨.hbm, 113, rfl⟩
abbrev main_cst_13 : Ref sig .tc := ⟨.hbm, 114, rfl⟩
abbrev main_v58 : Ref sig .tc := ⟨.hbm, 115, rfl⟩
abbrev main_cst_14 : Ref sig .tc := ⟨.hbm, 116, rfl⟩
abbrev main_v59 : Ref sig .tc := ⟨.hbm, 117, rfl⟩
abbrev main_v60 : Ref sig .tc := ⟨.hbm, 118, rfl⟩
abbrev main_cst_15 : Ref sig .tc := ⟨.hbm, 119, rfl⟩
abbrev main_v61 : Ref sig .tc := ⟨.hbm, 120, rfl⟩
abbrev main_cst_16 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_v62 : Ref sig .tc := ⟨.hbm, 125, rfl⟩
abbrev main_cst_17 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_cst_18 : Ref sig .tc := ⟨.hbm, 130, rfl⟩
abbrev main_v66 : Ref sig .tc := ⟨.hbm, 131, rfl⟩
abbrev main_v67 : Ref sig .tc := ⟨.hbm, 132, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg13_1 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_scratch7 : Ref sig .tc := ⟨.vmem, 38, rfl⟩
abbrev cc0_scratch8 : Ref sig .tc := ⟨.vmem, 39, rfl⟩
abbrev cc0_scratch9 : Ref sig .tc := ⟨.vmem, 40, rfl⟩
abbrev cc0_scratch10 : Ref sig .tc := ⟨.vmem, 41, rfl⟩
abbrev cc0_scratch11 : Ref sig .tc := ⟨.vmem, 42, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem13_1 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_43 : BitVec 32 := 0#32
  let c16_i32 : BitVec 32 := 16#32
  let v78 : BitVec 32 := Scalar.addi c0_i32_43 c16_i32
  let c1_i32_44 : BitVec 32 := 1#32
  ⟨c0_i32_43, v78, c1_i32_44⟩
def k0_mult1 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  v328
def k0_off1 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v330 : Index := Scalar.indexCast v329
  let c0_245 : Index := 0#32
  ![v330.toNat, 0]
def k0_off2 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v333 : Index := Scalar.indexCast v329
  let c384 : Index := 384#32
  ![v333.toNat, 384]
def k0_off3 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c32_i32 : BitVec 32 := 32#32
  let v338 : BitVec 32 := Scalar.addi v329 c32_i32
  let v339 : Index := Scalar.indexCast v338
  let c0_246 : Index := 0#32
  ![v339.toNat, 0]
def k0_off4 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v343 : Index := Scalar.indexCast v329
  let c0_247 : Index := 0#32
  ![v343.toNat, 0]
def k0_off5 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v371 : Index := Scalar.indexCast v329
  let c0_257 : Index := 0#32
  ![v371.toNat, 0]
def k0_off6 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v416 : Index := Scalar.indexCast v329
  let c0_276 : Index := 0#32
  ![v416.toNat, 0]
def k0_mult2 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32 : BitVec 32 := 8#32
  let v433 : BitVec 32 := Scalar.addi v329 c8_i32
  v433
def k0_off7 (k0_t1 : Fin k0_t1_loop.trips) (c8_i32 : BitVec 32) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v433 : BitVec 32 := Scalar.addi v329 c8_i32
  let v434 : BitVec 32 := v433
  let v435 : Index := Scalar.indexCast v434
  let c0_286 : Index := 0#32
  ![v435.toNat, 0]
def k0_mult3 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_292 : BitVec 32 := 16#32
  let v445 : BitVec 32 := Scalar.addi v329 c16_i32_292
  v445
def k0_mult4 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32 : BitVec 32 := 24#32
  let v457 : BitVec 32 := Scalar.addi v329 c24_i32
  v457
def k0_mult5 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c32_i32_305 : BitVec 32 := 32#32
  let v469 : BitVec 32 := Scalar.addi v329 c32_i32_305
  v469
def k0_mult6 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_316 : BitVec 32 := 8#32
  let v486 : BitVec 32 := Scalar.addi v329 c8_i32_316
  v486
def k0_off8 (k0_t1 : Fin k0_t1_loop.trips) (c8_i32_316 : BitVec 32) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v486 : BitVec 32 := Scalar.addi v329 c8_i32_316
  let v487 : BitVec 32 := v486
  let v488 : Index := Scalar.indexCast v487
  let c0_317 : Index := 0#32
  ![v488.toNat, 0]
def k0_mult7 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_323 : BitVec 32 := 16#32
  let v498 : BitVec 32 := Scalar.addi v329 c16_i32_323
  v498
def k0_mult8 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_330 : BitVec 32 := 24#32
  let v510 : BitVec 32 := Scalar.addi v329 c24_i32_330
  v510
def k0_mult9 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_341 : BitVec 32 := 0#32
  let v527 : BitVec 32 := Scalar.addi v329 c0_i32_341
  v527
def k0_mult10 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_348 : BitVec 32 := 8#32
  let v539 : BitVec 32 := Scalar.addi v329 c8_i32_348
  v539
def k0_mult11 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_355 : BitVec 32 := 16#32
  let v551 : BitVec 32 := Scalar.addi v329 c16_i32_355
  v551
def k0_mult12 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_362 : BitVec 32 := 24#32
  let v563 : BitVec 32 := Scalar.addi v329 c24_i32_362
  v563
def k0_mult13 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_373 : BitVec 32 := 0#32
  let v580 : BitVec 32 := Scalar.addi v329 c0_i32_373
  v580
def k0_mult14 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_380 : BitVec 32 := 8#32
  let v592 : BitVec 32 := Scalar.addi v329 c8_i32_380
  v592
def k0_mult15 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_387 : BitVec 32 := 16#32
  let v604 : BitVec 32 := Scalar.addi v329 c16_i32_387
  v604
def k0_mult16 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_394 : BitVec 32 := 24#32
  let v616 : BitVec 32 := Scalar.addi v329 c24_i32_394
  v616
def k0_mult17 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_405 : BitVec 32 := 0#32
  let v633 : BitVec 32 := Scalar.addi v329 c0_i32_405
  v633
def k0_mult18 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_412 : BitVec 32 := 8#32
  let v645 : BitVec 32 := Scalar.addi v329 c8_i32_412
  v645
def k0_mult19 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_419 : BitVec 32 := 16#32
  let v657 : BitVec 32 := Scalar.addi v329 c16_i32_419
  v657
def k0_mult20 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_426 : BitVec 32 := 24#32
  let v669 : BitVec 32 := Scalar.addi v329 c24_i32_426
  v669
def k0_mult21 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_437 : BitVec 32 := 0#32
  let v686 : BitVec 32 := Scalar.addi v329 c0_i32_437
  v686
def k0_mult22 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_444 : BitVec 32 := 8#32
  let v698 : BitVec 32 := Scalar.addi v329 c8_i32_444
  v698
def k0_mult23 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_451 : BitVec 32 := 16#32
  let v710 : BitVec 32 := Scalar.addi v329 c16_i32_451
  v710
def k0_mult24 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_458 : BitVec 32 := 24#32
  let v722 : BitVec 32 := Scalar.addi v329 c24_i32_458
  v722
def k0_mult25 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_469 : BitVec 32 := 0#32
  let v739 : BitVec 32 := Scalar.addi v329 c0_i32_469
  v739
def k0_mult26 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_476 : BitVec 32 := 8#32
  let v751 : BitVec 32 := Scalar.addi v329 c8_i32_476
  v751
def k0_mult27 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_483 : BitVec 32 := 16#32
  let v763 : BitVec 32 := Scalar.addi v329 c16_i32_483
  v763
def k0_mult28 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_490 : BitVec 32 := 24#32
  let v775 : BitVec 32 := Scalar.addi v329 c24_i32_490
  v775
def k0_mult29 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_501 : BitVec 32 := 0#32
  let v792 : BitVec 32 := Scalar.addi v329 c0_i32_501
  v792
def k0_mult30 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_508 : BitVec 32 := 8#32
  let v804 : BitVec 32 := Scalar.addi v329 c8_i32_508
  v804
def k0_mult31 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_515 : BitVec 32 := 16#32
  let v816 : BitVec 32 := Scalar.addi v329 c16_i32_515
  v816
def k0_mult32 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_522 : BitVec 32 := 24#32
  let v828 : BitVec 32 := Scalar.addi v329 c24_i32_522
  v828
def k0_mult33 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_531 : BitVec 32 := 8#32
  let v845 : BitVec 32 := Scalar.addi v329 c8_i32_531
  v845
def k0_off9 (k0_t1 : Fin k0_t1_loop.trips) (c8_i32_531 : BitVec 32) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v845 : BitVec 32 := Scalar.addi v329 c8_i32_531
  let v846 : BitVec 32 := v845
  let v847 : Index := Scalar.indexCast v846
  let c128_532 : Index := 128#32
  ![v847.toNat, 128]
def k0_mult34 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_538 : BitVec 32 := 16#32
  let v857 : BitVec 32 := Scalar.addi v329 c16_i32_538
  v857
def k0_mult35 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_545 : BitVec 32 := 24#32
  let v869 : BitVec 32 := Scalar.addi v329 c24_i32_545
  v869
def k0_mult36 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c32_i32_552 : BitVec 32 := 32#32
  let v881 : BitVec 32 := Scalar.addi v329 c32_i32_552
  v881
def k0_mult37 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_563 : BitVec 32 := 8#32
  let v898 : BitVec 32 := Scalar.addi v329 c8_i32_563
  v898
def k0_off10 (k0_t1 : Fin k0_t1_loop.trips) (c8_i32_563 : BitVec 32) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v898 : BitVec 32 := Scalar.addi v329 c8_i32_563
  let v899 : BitVec 32 := v898
  let v900 : Index := Scalar.indexCast v899
  let c128_564 : Index := 128#32
  ![v900.toNat, 128]
def k0_mult38 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_570 : BitVec 32 := 16#32
  let v910 : BitVec 32 := Scalar.addi v329 c16_i32_570
  v910
def k0_mult39 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_577 : BitVec 32 := 24#32
  let v922 : BitVec 32 := Scalar.addi v329 c24_i32_577
  v922
def k0_mult40 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_588 : BitVec 32 := 0#32
  let v939 : BitVec 32 := Scalar.addi v329 c0_i32_588
  v939
def k0_mult41 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_595 : BitVec 32 := 8#32
  let v951 : BitVec 32 := Scalar.addi v329 c8_i32_595
  v951
def k0_mult42 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_602 : BitVec 32 := 16#32
  let v963 : BitVec 32 := Scalar.addi v329 c16_i32_602
  v963
def k0_mult43 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_609 : BitVec 32 := 24#32
  let v975 : BitVec 32 := Scalar.addi v329 c24_i32_609
  v975
def k0_mult44 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_620 : BitVec 32 := 0#32
  let v992 : BitVec 32 := Scalar.addi v329 c0_i32_620
  v992
def k0_mult45 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_627 : BitVec 32 := 8#32
  let v1004 : BitVec 32 := Scalar.addi v329 c8_i32_627
  v1004
def k0_mult46 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_634 : BitVec 32 := 16#32
  let v1016 : BitVec 32 := Scalar.addi v329 c16_i32_634
  v1016
def k0_mult47 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_641 : BitVec 32 := 24#32
  let v1028 : BitVec 32 := Scalar.addi v329 c24_i32_641
  v1028
def k0_mult48 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_652 : BitVec 32 := 0#32
  let v1045 : BitVec 32 := Scalar.addi v329 c0_i32_652
  v1045
def k0_mult49 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_659 : BitVec 32 := 8#32
  let v1057 : BitVec 32 := Scalar.addi v329 c8_i32_659
  v1057
def k0_mult50 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_666 : BitVec 32 := 16#32
  let v1069 : BitVec 32 := Scalar.addi v329 c16_i32_666
  v1069
def k0_mult51 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_673 : BitVec 32 := 24#32
  let v1081 : BitVec 32 := Scalar.addi v329 c24_i32_673
  v1081
def k0_mult52 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_684 : BitVec 32 := 0#32
  let v1098 : BitVec 32 := Scalar.addi v329 c0_i32_684
  v1098
def k0_mult53 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_691 : BitVec 32 := 8#32
  let v1110 : BitVec 32 := Scalar.addi v329 c8_i32_691
  v1110
def k0_mult54 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_698 : BitVec 32 := 16#32
  let v1122 : BitVec 32 := Scalar.addi v329 c16_i32_698
  v1122
def k0_mult55 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_705 : BitVec 32 := 24#32
  let v1134 : BitVec 32 := Scalar.addi v329 c24_i32_705
  v1134
def k0_mult56 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_716 : BitVec 32 := 0#32
  let v1151 : BitVec 32 := Scalar.addi v329 c0_i32_716
  v1151
def k0_mult57 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_723 : BitVec 32 := 8#32
  let v1163 : BitVec 32 := Scalar.addi v329 c8_i32_723
  v1163
def k0_mult58 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_730 : BitVec 32 := 16#32
  let v1175 : BitVec 32 := Scalar.addi v329 c16_i32_730
  v1175
def k0_mult59 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_737 : BitVec 32 := 24#32
  let v1187 : BitVec 32 := Scalar.addi v329 c24_i32_737
  v1187
def k0_mult60 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_748 : BitVec 32 := 0#32
  let v1204 : BitVec 32 := Scalar.addi v329 c0_i32_748
  v1204
def k0_mult61 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_755 : BitVec 32 := 8#32
  let v1216 : BitVec 32 := Scalar.addi v329 c8_i32_755
  v1216
def k0_mult62 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_762 : BitVec 32 := 16#32
  let v1228 : BitVec 32 := Scalar.addi v329 c16_i32_762
  v1228
def k0_mult63 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_769 : BitVec 32 := 24#32
  let v1240 : BitVec 32 := Scalar.addi v329 c24_i32_769
  v1240
def k0_mult64 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_777 : BitVec 32 := 8#32
  let v1257 : BitVec 32 := Scalar.addi v329 c8_i32_777
  v1257
def k0_off11 (k0_t1 : Fin k0_t1_loop.trips) (c8_i32_777 : BitVec 32) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v1257 : BitVec 32 := Scalar.addi v329 c8_i32_777
  let v1258 : BitVec 32 := v1257
  let v1259 : Index := Scalar.indexCast v1258
  let c256_778 : Index := 256#32
  ![v1259.toNat, 256]
def k0_mult65 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_784 : BitVec 32 := 16#32
  let v1269 : BitVec 32 := Scalar.addi v329 c16_i32_784
  v1269
def k0_mult66 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_791 : BitVec 32 := 24#32
  let v1281 : BitVec 32 := Scalar.addi v329 c24_i32_791
  v1281
def k0_mult67 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c32_i32_798 : BitVec 32 := 32#32
  let v1293 : BitVec 32 := Scalar.addi v329 c32_i32_798
  v1293
def k0_mult68 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_809 : BitVec 32 := 8#32
  let v1310 : BitVec 32 := Scalar.addi v329 c8_i32_809
  v1310
def k0_off12 (k0_t1 : Fin k0_t1_loop.trips) (c8_i32_809 : BitVec 32) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v1310 : BitVec 32 := Scalar.addi v329 c8_i32_809
  let v1311 : BitVec 32 := v1310
  let v1312 : Index := Scalar.indexCast v1311
  let c256_810 : Index := 256#32
  ![v1312.toNat, 256]
def k0_mult69 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_816 : BitVec 32 := 16#32
  let v1322 : BitVec 32 := Scalar.addi v329 c16_i32_816
  v1322
def k0_mult70 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_823 : BitVec 32 := 24#32
  let v1334 : BitVec 32 := Scalar.addi v329 c24_i32_823
  v1334
def k0_mult71 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_834 : BitVec 32 := 0#32
  let v1351 : BitVec 32 := Scalar.addi v329 c0_i32_834
  v1351
def k0_mult72 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_841 : BitVec 32 := 8#32
  let v1363 : BitVec 32 := Scalar.addi v329 c8_i32_841
  v1363
def k0_mult73 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_848 : BitVec 32 := 16#32
  let v1375 : BitVec 32 := Scalar.addi v329 c16_i32_848
  v1375
def k0_mult74 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_855 : BitVec 32 := 24#32
  let v1387 : BitVec 32 := Scalar.addi v329 c24_i32_855
  v1387
def k0_mult75 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_866 : BitVec 32 := 0#32
  let v1404 : BitVec 32 := Scalar.addi v329 c0_i32_866
  v1404
def k0_mult76 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_873 : BitVec 32 := 8#32
  let v1416 : BitVec 32 := Scalar.addi v329 c8_i32_873
  v1416
def k0_mult77 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_880 : BitVec 32 := 16#32
  let v1428 : BitVec 32 := Scalar.addi v329 c16_i32_880
  v1428
def k0_mult78 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_887 : BitVec 32 := 24#32
  let v1440 : BitVec 32 := Scalar.addi v329 c24_i32_887
  v1440
def k0_mult79 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_898 : BitVec 32 := 0#32
  let v1457 : BitVec 32 := Scalar.addi v329 c0_i32_898
  v1457
def k0_mult80 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_905 : BitVec 32 := 8#32
  let v1469 : BitVec 32 := Scalar.addi v329 c8_i32_905
  v1469
def k0_mult81 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_912 : BitVec 32 := 16#32
  let v1481 : BitVec 32 := Scalar.addi v329 c16_i32_912
  v1481
def k0_mult82 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_919 : BitVec 32 := 24#32
  let v1493 : BitVec 32 := Scalar.addi v329 c24_i32_919
  v1493
def k0_mult83 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_930 : BitVec 32 := 0#32
  let v1510 : BitVec 32 := Scalar.addi v329 c0_i32_930
  v1510
def k0_mult84 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_937 : BitVec 32 := 8#32
  let v1522 : BitVec 32 := Scalar.addi v329 c8_i32_937
  v1522
def k0_mult85 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_944 : BitVec 32 := 16#32
  let v1534 : BitVec 32 := Scalar.addi v329 c16_i32_944
  v1534
def k0_mult86 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_951 : BitVec 32 := 24#32
  let v1546 : BitVec 32 := Scalar.addi v329 c24_i32_951
  v1546
def k0_mult87 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_962 : BitVec 32 := 0#32
  let v1563 : BitVec 32 := Scalar.addi v329 c0_i32_962
  v1563
def k0_mult88 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_969 : BitVec 32 := 8#32
  let v1575 : BitVec 32 := Scalar.addi v329 c8_i32_969
  v1575
def k0_mult89 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_976 : BitVec 32 := 16#32
  let v1587 : BitVec 32 := Scalar.addi v329 c16_i32_976
  v1587
def k0_mult90 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_983 : BitVec 32 := 24#32
  let v1599 : BitVec 32 := Scalar.addi v329 c24_i32_983
  v1599
def k0_mult91 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_994 : BitVec 32 := 0#32
  let v1616 : BitVec 32 := Scalar.addi v329 c0_i32_994
  v1616
def k0_mult92 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_1001 : BitVec 32 := 8#32
  let v1628 : BitVec 32 := Scalar.addi v329 c8_i32_1001
  v1628
def k0_mult93 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c16_i32_1008 : BitVec 32 := 16#32
  let v1640 : BitVec 32 := Scalar.addi v329 c16_i32_1008
  v1640
def k0_mult94 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c24_i32_1015 : BitVec 32 := 24#32
  let v1652 : BitVec 32 := Scalar.addi v329 c24_i32_1015
  v1652
def k0_off13 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v1663 : Index := Scalar.indexCast v329
  let c768 : Index := 768#32
  ![v1663.toNat, 768]
def k0_off14 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v1666 : Index := Scalar.indexCast v329
  let c1024 : Index := 1024#32
  ![v1666.toNat, 1024]
def k0_off15 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v1762 : Index := Scalar.indexCast v329
  let c384_1060 : Index := 384#32
  ![v1762.toNat, 384]
def k0_off16 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v1950 : Index := Scalar.indexCast v329
  let c1664 : Index := 1664#32
  ![v1950.toNat, 1664]
def k0_off17 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v1953 : Index := Scalar.indexCast v329
  let c2048_1163 : Index := 2048#32
  ![v1953.toNat, 2048]
def k0_off18 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_1164 : BitVec 32 := 8#32
  let v1957 : BitVec 32 := Scalar.addi v329 c8_i32_1164
  let v1958 : Index := Scalar.indexCast v1957
  let c0_1165 : Index := 0#32
  ![v1958.toNat, 0]
def k0_mult95 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_1168 : BitVec 32 := 8#32
  let v1964 : BitVec 32 := Scalar.addi v329 c8_i32_1168
  v1964
def k0_off19 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_1168 : BitVec 32 := 8#32
  let v1964 : BitVec 32 := Scalar.addi v329 c8_i32_1168
  let v1965 : BitVec 32 := v1964
  let v1966 : Index := Scalar.indexCast v1965
  let c0_1169 : Index := 0#32
  ![v1966.toNat, 0]
def k0_mult96 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_1173 : BitVec 32 := 0#32
  let v1975 : BitVec 32 := Scalar.addi v329 c0_i32_1173
  v1975
def k0_off20 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_1173 : BitVec 32 := 0#32
  let v1975 : BitVec 32 := Scalar.addi v329 c0_i32_1173
  let v1976 : BitVec 32 := v1975
  let v1977 : Index := Scalar.indexCast v1976
  let c0_1174 : Index := 0#32
  ![v1977.toNat, 0]
def k0_mult97 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_1178 : BitVec 32 := 0#32
  let v1987 : BitVec 32 := Scalar.addi v329 c0_i32_1178
  v1987
def k0_mult98 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_1184 : BitVec 32 := 8#32
  let v2000 : BitVec 32 := Scalar.addi v329 c8_i32_1184
  v2000
def k0_off21 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_1184 : BitVec 32 := 8#32
  let v2000 : BitVec 32 := Scalar.addi v329 c8_i32_1184
  let v2001 : BitVec 32 := v2000
  let v2002 : Index := Scalar.indexCast v2001
  let c128_1185 : Index := 128#32
  ![v2002.toNat, 128]
def k0_mult99 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_1189 : BitVec 32 := 0#32
  let v2011 : BitVec 32 := Scalar.addi v329 c0_i32_1189
  v2011
def k0_off22 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_1189 : BitVec 32 := 0#32
  let v2011 : BitVec 32 := Scalar.addi v329 c0_i32_1189
  let v2012 : BitVec 32 := v2011
  let v2013 : Index := Scalar.indexCast v2012
  let c128_1190 : Index := 128#32
  ![v2013.toNat, 128]
def k0_mult100 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_1194 : BitVec 32 := 0#32
  let v2023 : BitVec 32 := Scalar.addi v329 c0_i32_1194
  v2023
def k0_mult101 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_1200 : BitVec 32 := 8#32
  let v2036 : BitVec 32 := Scalar.addi v329 c8_i32_1200
  v2036
def k0_off23 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_1200 : BitVec 32 := 8#32
  let v2036 : BitVec 32 := Scalar.addi v329 c8_i32_1200
  let v2037 : BitVec 32 := v2036
  let v2038 : Index := Scalar.indexCast v2037
  let c256_1201 : Index := 256#32
  ![v2038.toNat, 256]
def k0_mult102 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_1205 : BitVec 32 := 0#32
  let v2047 : BitVec 32 := Scalar.addi v329 c0_i32_1205
  v2047
def k0_off24 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_1205 : BitVec 32 := 0#32
  let v2047 : BitVec 32 := Scalar.addi v329 c0_i32_1205
  let v2048 : BitVec 32 := v2047
  let v2049 : Index := Scalar.indexCast v2048
  let c256_1206 : Index := 256#32
  ![v2049.toNat, 256]
def k0_mult103 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_1210 : BitVec 32 := 0#32
  let v2059 : BitVec 32 := Scalar.addi v329 c0_i32_1210
  v2059
def k0_off25 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v2071 : Index := Scalar.indexCast v329
  let c640 : Index := 640#32
  ![v2071.toNat, 640]
def k0_off26 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v2076 : Index := Scalar.indexCast v329
  let c1280 : Index := 1280#32
  ![v2076.toNat, 1280]
def k0_off27 (k0_t1 : Fin k0_t1_loop.trips) : Fin 2 → Nat :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let v2082 : Index := Scalar.indexCast v329
  let c0_1215 : Index := 0#32
  ![v2082.toNat, 0]
def k0_mult104 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_1220 : BitVec 32 := 8#32
  let v2092 : BitVec 32 := Scalar.addi v329 c8_i32_1220
  v2092
def k0_mult105 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_1231 : BitVec 32 := 0#32
  let v2109 : BitVec 32 := Scalar.addi v329 c0_i32_1231
  v2109
def k0_mult106 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_1242 : BitVec 32 := 0#32
  let v2126 : BitVec 32 := Scalar.addi v329 c0_i32_1242
  v2126
def k0_mult107 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_1251 : BitVec 32 := 8#32
  let v2143 : BitVec 32 := Scalar.addi v329 c8_i32_1251
  v2143
def k0_mult108 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_1262 : BitVec 32 := 0#32
  let v2160 : BitVec 32 := Scalar.addi v329 c0_i32_1262
  v2160
def k0_mult109 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_1273 : BitVec 32 := 0#32
  let v2177 : BitVec 32 := Scalar.addi v329 c0_i32_1273
  v2177
def k0_mult110 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c8_i32_1282 : BitVec 32 := 8#32
  let v2194 : BitVec 32 := Scalar.addi v329 c8_i32_1282
  v2194
def k0_mult111 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_1293 : BitVec 32 := 0#32
  let v2211 : BitVec 32 := Scalar.addi v329 c0_i32_1293
  v2211
def k0_mult112 (k0_t1 : Fin k0_t1_loop.trips) : BitVec 32 :=
  let c0_i32_43 : BitVec 32 := 0#32
  let c1_i32_44 : BitVec 32 := 1#32
  let arg35 : BitVec 32 := Scf.iv c0_i32_43 c1_i32_44 k0_t1
  let c128_i32 : BitVec 32 := 128#32
  let v328 : BitVec 32 := Scalar.muli arg35 c128_i32
  let v329 : BitVec 32 := v328
  let c0_i32_1304 : BitVec 32 := 0#32
  let v2228 : BitVec 32 := Scalar.addi v329 c0_i32_1304
  v2228
@[reducible] def k0_t2_loop : Scf.Loop 32 :=
  let c0_i32_46 : BitVec 32 := 0#32
  let c16_i32_47 : BitVec 32 := 16#32
  let v79 : BitVec 32 := Scalar.addi c0_i32_46 c16_i32_47
  let c1_i32_48 : BitVec 32 := 1#32
  ⟨c0_i32_46, v79, c1_i32_48⟩
def k0_mult113 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  v328
def k0_mult114 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32 : BitVec 32 := 24#32
  let v332 : BitVec 32 := Scalar.addi v329 c24_i32
  v332
def k0_off28 (k0_t2 : Fin k0_t2_loop.trips) (c24_i32 : BitVec 32) : Fin 2 → Nat :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let v332 : BitVec 32 := Scalar.addi v329 c24_i32
  let v333 : BitVec 32 := v332
  let v334 : Index := Scalar.indexCast v333
  let c0_247 : Index := 0#32
  ![v334.toNat, 0]
def k0_mult115 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_250 : BitVec 32 := 16#32
  let v341 : BitVec 32 := Scalar.addi v329 c16_i32_250
  v341
def k0_mult116 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32 : BitVec 32 := 8#32
  let v350 : BitVec 32 := Scalar.addi v329 c8_i32
  v350
def k0_mult117 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_257 : BitVec 32 := 0#32
  let v359 : BitVec 32 := Scalar.addi v329 c0_i32_257
  v359
def k0_mult118 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_262 : BitVec 32 := 24#32
  let v370 : BitVec 32 := Scalar.addi v329 c24_i32_262
  v370
def k0_off29 (k0_t2 : Fin k0_t2_loop.trips) (c24_i32_262 : BitVec 32) : Fin 2 → Nat :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let v370 : BitVec 32 := Scalar.addi v329 c24_i32_262
  let v371 : BitVec 32 := v370
  let v372 : Index := Scalar.indexCast v371
  let c0_263 : Index := 0#32
  ![v372.toNat, 0]
def k0_mult119 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_266 : BitVec 32 := 16#32
  let v379 : BitVec 32 := Scalar.addi v329 c16_i32_266
  v379
def k0_mult120 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_270 : BitVec 32 := 8#32
  let v388 : BitVec 32 := Scalar.addi v329 c8_i32_270
  v388
def k0_mult121 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_274 : BitVec 32 := 0#32
  let v397 : BitVec 32 := Scalar.addi v329 c0_i32_274
  v397
def k0_mult122 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_279 : BitVec 32 := 24#32
  let v409 : BitVec 32 := Scalar.addi v329 c24_i32_279
  v409
def k0_mult123 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_283 : BitVec 32 := 16#32
  let v418 : BitVec 32 := Scalar.addi v329 c16_i32_283
  v418
def k0_mult124 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_287 : BitVec 32 := 8#32
  let v427 : BitVec 32 := Scalar.addi v329 c8_i32_287
  v427
def k0_mult125 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_291 : BitVec 32 := 0#32
  let v436 : BitVec 32 := Scalar.addi v329 c0_i32_291
  v436
def k0_mult126 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_296 : BitVec 32 := 24#32
  let v448 : BitVec 32 := Scalar.addi v329 c24_i32_296
  v448
def k0_mult127 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_300 : BitVec 32 := 16#32
  let v457 : BitVec 32 := Scalar.addi v329 c16_i32_300
  v457
def k0_mult128 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_304 : BitVec 32 := 8#32
  let v466 : BitVec 32 := Scalar.addi v329 c8_i32_304
  v466
def k0_mult129 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_308 : BitVec 32 := 0#32
  let v475 : BitVec 32 := Scalar.addi v329 c0_i32_308
  v475
def k0_mult130 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_313 : BitVec 32 := 24#32
  let v487 : BitVec 32 := Scalar.addi v329 c24_i32_313
  v487
def k0_mult131 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_317 : BitVec 32 := 16#32
  let v496 : BitVec 32 := Scalar.addi v329 c16_i32_317
  v496
def k0_mult132 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_321 : BitVec 32 := 8#32
  let v505 : BitVec 32 := Scalar.addi v329 c8_i32_321
  v505
def k0_mult133 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_325 : BitVec 32 := 0#32
  let v514 : BitVec 32 := Scalar.addi v329 c0_i32_325
  v514
def k0_mult134 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_330 : BitVec 32 := 24#32
  let v526 : BitVec 32 := Scalar.addi v329 c24_i32_330
  v526
def k0_mult135 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_334 : BitVec 32 := 16#32
  let v535 : BitVec 32 := Scalar.addi v329 c16_i32_334
  v535
def k0_mult136 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_338 : BitVec 32 := 8#32
  let v544 : BitVec 32 := Scalar.addi v329 c8_i32_338
  v544
def k0_mult137 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_342 : BitVec 32 := 0#32
  let v553 : BitVec 32 := Scalar.addi v329 c0_i32_342
  v553
def k0_mult138 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_347 : BitVec 32 := 24#32
  let v565 : BitVec 32 := Scalar.addi v329 c24_i32_347
  v565
def k0_mult139 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_351 : BitVec 32 := 16#32
  let v574 : BitVec 32 := Scalar.addi v329 c16_i32_351
  v574
def k0_mult140 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_355 : BitVec 32 := 8#32
  let v583 : BitVec 32 := Scalar.addi v329 c8_i32_355
  v583
def k0_mult141 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_359 : BitVec 32 := 0#32
  let v592 : BitVec 32 := Scalar.addi v329 c0_i32_359
  v592
def k0_mult142 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_364 : BitVec 32 := 16#32
  let v604 : BitVec 32 := Scalar.addi v329 c16_i32_364
  v604
def k0_mult143 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_368 : BitVec 32 := 8#32
  let v613 : BitVec 32 := Scalar.addi v329 c8_i32_368
  v613
def k0_mult144 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_372 : BitVec 32 := 0#32
  let v622 : BitVec 32 := Scalar.addi v329 c0_i32_372
  v622
def k0_mult145 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_378 : BitVec 32 := 24#32
  let v635 : BitVec 32 := Scalar.addi v329 c24_i32_378
  v635
def k0_off30 (k0_t2 : Fin k0_t2_loop.trips) (c24_i32_378 : BitVec 32) : Fin 2 → Nat :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let v635 : BitVec 32 := Scalar.addi v329 c24_i32_378
  let v636 : BitVec 32 := v635
  let v637 : Index := Scalar.indexCast v636
  let c128_379 : Index := 128#32
  ![v637.toNat, 128]
def k0_mult146 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_382 : BitVec 32 := 16#32
  let v644 : BitVec 32 := Scalar.addi v329 c16_i32_382
  v644
def k0_mult147 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_386 : BitVec 32 := 8#32
  let v653 : BitVec 32 := Scalar.addi v329 c8_i32_386
  v653
def k0_mult148 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_390 : BitVec 32 := 0#32
  let v662 : BitVec 32 := Scalar.addi v329 c0_i32_390
  v662
def k0_mult149 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_395 : BitVec 32 := 24#32
  let v673 : BitVec 32 := Scalar.addi v329 c24_i32_395
  v673
def k0_off31 (k0_t2 : Fin k0_t2_loop.trips) (c24_i32_395 : BitVec 32) : Fin 2 → Nat :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let v673 : BitVec 32 := Scalar.addi v329 c24_i32_395
  let v674 : BitVec 32 := v673
  let v675 : Index := Scalar.indexCast v674
  let c128_396 : Index := 128#32
  ![v675.toNat, 128]
def k0_mult150 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_399 : BitVec 32 := 16#32
  let v682 : BitVec 32 := Scalar.addi v329 c16_i32_399
  v682
def k0_mult151 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_403 : BitVec 32 := 8#32
  let v691 : BitVec 32 := Scalar.addi v329 c8_i32_403
  v691
def k0_mult152 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_407 : BitVec 32 := 0#32
  let v700 : BitVec 32 := Scalar.addi v329 c0_i32_407
  v700
def k0_mult153 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_412 : BitVec 32 := 24#32
  let v712 : BitVec 32 := Scalar.addi v329 c24_i32_412
  v712
def k0_mult154 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_416 : BitVec 32 := 16#32
  let v721 : BitVec 32 := Scalar.addi v329 c16_i32_416
  v721
def k0_mult155 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_420 : BitVec 32 := 8#32
  let v730 : BitVec 32 := Scalar.addi v329 c8_i32_420
  v730
def k0_mult156 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_424 : BitVec 32 := 0#32
  let v739 : BitVec 32 := Scalar.addi v329 c0_i32_424
  v739
def k0_mult157 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_429 : BitVec 32 := 24#32
  let v751 : BitVec 32 := Scalar.addi v329 c24_i32_429
  v751
def k0_mult158 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_433 : BitVec 32 := 16#32
  let v760 : BitVec 32 := Scalar.addi v329 c16_i32_433
  v760
def k0_mult159 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_437 : BitVec 32 := 8#32
  let v769 : BitVec 32 := Scalar.addi v329 c8_i32_437
  v769
def k0_mult160 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_441 : BitVec 32 := 0#32
  let v778 : BitVec 32 := Scalar.addi v329 c0_i32_441
  v778
def k0_mult161 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_446 : BitVec 32 := 24#32
  let v790 : BitVec 32 := Scalar.addi v329 c24_i32_446
  v790
def k0_mult162 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_450 : BitVec 32 := 16#32
  let v799 : BitVec 32 := Scalar.addi v329 c16_i32_450
  v799
def k0_mult163 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_454 : BitVec 32 := 8#32
  let v808 : BitVec 32 := Scalar.addi v329 c8_i32_454
  v808
def k0_mult164 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_458 : BitVec 32 := 0#32
  let v817 : BitVec 32 := Scalar.addi v329 c0_i32_458
  v817
def k0_mult165 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_463 : BitVec 32 := 24#32
  let v829 : BitVec 32 := Scalar.addi v329 c24_i32_463
  v829
def k0_mult166 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_467 : BitVec 32 := 16#32
  let v838 : BitVec 32 := Scalar.addi v329 c16_i32_467
  v838
def k0_mult167 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_471 : BitVec 32 := 8#32
  let v847 : BitVec 32 := Scalar.addi v329 c8_i32_471
  v847
def k0_mult168 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_475 : BitVec 32 := 0#32
  let v856 : BitVec 32 := Scalar.addi v329 c0_i32_475
  v856
def k0_mult169 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_480 : BitVec 32 := 24#32
  let v868 : BitVec 32 := Scalar.addi v329 c24_i32_480
  v868
def k0_mult170 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_484 : BitVec 32 := 16#32
  let v877 : BitVec 32 := Scalar.addi v329 c16_i32_484
  v877
def k0_mult171 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_488 : BitVec 32 := 8#32
  let v886 : BitVec 32 := Scalar.addi v329 c8_i32_488
  v886
def k0_mult172 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_492 : BitVec 32 := 0#32
  let v895 : BitVec 32 := Scalar.addi v329 c0_i32_492
  v895
def k0_mult173 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_497 : BitVec 32 := 16#32
  let v907 : BitVec 32 := Scalar.addi v329 c16_i32_497
  v907
def k0_mult174 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_501 : BitVec 32 := 8#32
  let v916 : BitVec 32 := Scalar.addi v329 c8_i32_501
  v916
def k0_mult175 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_505 : BitVec 32 := 0#32
  let v925 : BitVec 32 := Scalar.addi v329 c0_i32_505
  v925
def k0_mult176 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_511 : BitVec 32 := 24#32
  let v938 : BitVec 32 := Scalar.addi v329 c24_i32_511
  v938
def k0_off32 (k0_t2 : Fin k0_t2_loop.trips) (c24_i32_511 : BitVec 32) : Fin 2 → Nat :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let v938 : BitVec 32 := Scalar.addi v329 c24_i32_511
  let v939 : BitVec 32 := v938
  let v940 : Index := Scalar.indexCast v939
  let c256 : Index := 256#32
  ![v940.toNat, 256]
def k0_mult177 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_514 : BitVec 32 := 16#32
  let v947 : BitVec 32 := Scalar.addi v329 c16_i32_514
  v947
def k0_mult178 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_518 : BitVec 32 := 8#32
  let v956 : BitVec 32 := Scalar.addi v329 c8_i32_518
  v956
def k0_mult179 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_522 : BitVec 32 := 0#32
  let v965 : BitVec 32 := Scalar.addi v329 c0_i32_522
  v965
def k0_mult180 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_527 : BitVec 32 := 24#32
  let v976 : BitVec 32 := Scalar.addi v329 c24_i32_527
  v976
def k0_off33 (k0_t2 : Fin k0_t2_loop.trips) (c24_i32_527 : BitVec 32) : Fin 2 → Nat :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let v976 : BitVec 32 := Scalar.addi v329 c24_i32_527
  let v977 : BitVec 32 := v976
  let v978 : Index := Scalar.indexCast v977
  let c256_528 : Index := 256#32
  ![v978.toNat, 256]
def k0_mult181 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_531 : BitVec 32 := 16#32
  let v985 : BitVec 32 := Scalar.addi v329 c16_i32_531
  v985
def k0_mult182 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_535 : BitVec 32 := 8#32
  let v994 : BitVec 32 := Scalar.addi v329 c8_i32_535
  v994
def k0_mult183 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_539 : BitVec 32 := 0#32
  let v1003 : BitVec 32 := Scalar.addi v329 c0_i32_539
  v1003
def k0_mult184 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_544 : BitVec 32 := 24#32
  let v1015 : BitVec 32 := Scalar.addi v329 c24_i32_544
  v1015
def k0_mult185 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_548 : BitVec 32 := 16#32
  let v1024 : BitVec 32 := Scalar.addi v329 c16_i32_548
  v1024
def k0_mult186 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_552 : BitVec 32 := 8#32
  let v1033 : BitVec 32 := Scalar.addi v329 c8_i32_552
  v1033
def k0_mult187 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_556 : BitVec 32 := 0#32
  let v1042 : BitVec 32 := Scalar.addi v329 c0_i32_556
  v1042
def k0_mult188 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_561 : BitVec 32 := 24#32
  let v1054 : BitVec 32 := Scalar.addi v329 c24_i32_561
  v1054
def k0_mult189 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_565 : BitVec 32 := 16#32
  let v1063 : BitVec 32 := Scalar.addi v329 c16_i32_565
  v1063
def k0_mult190 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_569 : BitVec 32 := 8#32
  let v1072 : BitVec 32 := Scalar.addi v329 c8_i32_569
  v1072
def k0_mult191 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_573 : BitVec 32 := 0#32
  let v1081 : BitVec 32 := Scalar.addi v329 c0_i32_573
  v1081
def k0_mult192 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_578 : BitVec 32 := 24#32
  let v1093 : BitVec 32 := Scalar.addi v329 c24_i32_578
  v1093
def k0_mult193 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_582 : BitVec 32 := 16#32
  let v1102 : BitVec 32 := Scalar.addi v329 c16_i32_582
  v1102
def k0_mult194 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_586 : BitVec 32 := 8#32
  let v1111 : BitVec 32 := Scalar.addi v329 c8_i32_586
  v1111
def k0_mult195 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_590 : BitVec 32 := 0#32
  let v1120 : BitVec 32 := Scalar.addi v329 c0_i32_590
  v1120
def k0_mult196 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_595 : BitVec 32 := 24#32
  let v1132 : BitVec 32 := Scalar.addi v329 c24_i32_595
  v1132
def k0_mult197 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_599 : BitVec 32 := 16#32
  let v1141 : BitVec 32 := Scalar.addi v329 c16_i32_599
  v1141
def k0_mult198 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_603 : BitVec 32 := 8#32
  let v1150 : BitVec 32 := Scalar.addi v329 c8_i32_603
  v1150
def k0_mult199 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_607 : BitVec 32 := 0#32
  let v1159 : BitVec 32 := Scalar.addi v329 c0_i32_607
  v1159
def k0_mult200 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c24_i32_612 : BitVec 32 := 24#32
  let v1171 : BitVec 32 := Scalar.addi v329 c24_i32_612
  v1171
def k0_mult201 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_616 : BitVec 32 := 16#32
  let v1180 : BitVec 32 := Scalar.addi v329 c16_i32_616
  v1180
def k0_mult202 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_620 : BitVec 32 := 8#32
  let v1189 : BitVec 32 := Scalar.addi v329 c8_i32_620
  v1189
def k0_mult203 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_624 : BitVec 32 := 0#32
  let v1198 : BitVec 32 := Scalar.addi v329 c0_i32_624
  v1198
def k0_mult204 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c16_i32_629 : BitVec 32 := 16#32
  let v1210 : BitVec 32 := Scalar.addi v329 c16_i32_629
  v1210
def k0_mult205 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c8_i32_633 : BitVec 32 := 8#32
  let v1219 : BitVec 32 := Scalar.addi v329 c8_i32_633
  v1219
def k0_mult206 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_637 : BitVec 32 := 0#32
  let v1228 : BitVec 32 := Scalar.addi v329 c0_i32_637
  v1228
def k0_off34 (k0_t2 : Fin k0_t2_loop.trips) : Fin 2 → Nat :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let v1240 : Index := Scalar.indexCast v329
  let c0_641 : Index := 0#32
  ![v1240.toNat, 0]
def k0_off35 (k0_t2 : Fin k0_t2_loop.trips) : Fin 2 → Nat :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let v1243 : Index := Scalar.indexCast v329
  let c384 : Index := 384#32
  ![v1243.toNat, 384]
def k0_mult207 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_647 : BitVec 32 := 0#32
  let v1261 : BitVec 32 := Scalar.addi v329 c0_i32_647
  v1261
def k0_off36 (k0_t2 : Fin k0_t2_loop.trips) : Fin 2 → Nat :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_647 : BitVec 32 := 0#32
  let v1261 : BitVec 32 := Scalar.addi v329 c0_i32_647
  let v1262 : BitVec 32 := v1261
  let v1263 : Index := Scalar.indexCast v1262
  let c0_648 : Index := 0#32
  ![v1263.toNat, 0]
def k0_mult208 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_652 : BitVec 32 := 0#32
  let v1272 : BitVec 32 := Scalar.addi v329 c0_i32_652
  v1272
def k0_off37 (k0_t2 : Fin k0_t2_loop.trips) : Fin 2 → Nat :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_652 : BitVec 32 := 0#32
  let v1272 : BitVec 32 := Scalar.addi v329 c0_i32_652
  let v1273 : BitVec 32 := v1272
  let v1274 : Index := Scalar.indexCast v1273
  let c0_653 : Index := 0#32
  ![v1274.toNat, 0]
def k0_mult209 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_657 : BitVec 32 := 0#32
  let v1284 : BitVec 32 := Scalar.addi v329 c0_i32_657
  v1284
def k0_mult210 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_663 : BitVec 32 := 0#32
  let v1297 : BitVec 32 := Scalar.addi v329 c0_i32_663
  v1297
def k0_off38 (k0_t2 : Fin k0_t2_loop.trips) : Fin 2 → Nat :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_663 : BitVec 32 := 0#32
  let v1297 : BitVec 32 := Scalar.addi v329 c0_i32_663
  let v1298 : BitVec 32 := v1297
  let v1299 : Index := Scalar.indexCast v1298
  let c128_664 : Index := 128#32
  ![v1299.toNat, 128]
def k0_mult211 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_668 : BitVec 32 := 0#32
  let v1308 : BitVec 32 := Scalar.addi v329 c0_i32_668
  v1308
def k0_off39 (k0_t2 : Fin k0_t2_loop.trips) : Fin 2 → Nat :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_668 : BitVec 32 := 0#32
  let v1308 : BitVec 32 := Scalar.addi v329 c0_i32_668
  let v1309 : BitVec 32 := v1308
  let v1310 : Index := Scalar.indexCast v1309
  let c128_669 : Index := 128#32
  ![v1310.toNat, 128]
def k0_mult212 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_673 : BitVec 32 := 0#32
  let v1320 : BitVec 32 := Scalar.addi v329 c0_i32_673
  v1320
def k0_mult213 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_679 : BitVec 32 := 0#32
  let v1333 : BitVec 32 := Scalar.addi v329 c0_i32_679
  v1333
def k0_off40 (k0_t2 : Fin k0_t2_loop.trips) : Fin 2 → Nat :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_679 : BitVec 32 := 0#32
  let v1333 : BitVec 32 := Scalar.addi v329 c0_i32_679
  let v1334 : BitVec 32 := v1333
  let v1335 : Index := Scalar.indexCast v1334
  let c256_680 : Index := 256#32
  ![v1335.toNat, 256]
def k0_mult214 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_684 : BitVec 32 := 0#32
  let v1344 : BitVec 32 := Scalar.addi v329 c0_i32_684
  v1344
def k0_off41 (k0_t2 : Fin k0_t2_loop.trips) : Fin 2 → Nat :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_684 : BitVec 32 := 0#32
  let v1344 : BitVec 32 := Scalar.addi v329 c0_i32_684
  let v1345 : BitVec 32 := v1344
  let v1346 : Index := Scalar.indexCast v1345
  let c256_685 : Index := 256#32
  ![v1346.toNat, 256]
def k0_mult215 (k0_t2 : Fin k0_t2_loop.trips) : BitVec 32 :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let c0_i32_689 : BitVec 32 := 0#32
  let v1356 : BitVec 32 := Scalar.addi v329 c0_i32_689
  v1356
def k0_off42 (k0_t2 : Fin k0_t2_loop.trips) : Fin 2 → Nat :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let v1368 : Index := Scalar.indexCast v329
  let c2048_693 : Index := 2048#32
  ![v1368.toNat, 2048]
def k0_off43 (k0_t2 : Fin k0_t2_loop.trips) : Fin 2 → Nat :=
  let c0_i32_46 : BitVec 32 := 0#32
  let c1_i32_48 : BitVec 32 := 1#32
  let arg35 : BitVec 32 := Scf.iv c0_i32_46 c1_i32_48 k0_t2
  let c128_i32 : BitVec 32 := 128#32
  let v328 : BitVec 32 := Scalar.muli arg35 c128_i32
  let v329 : BitVec 32 := v328
  let v1373 : Index := Scalar.indexCast v329
  let c1664 : Index := 1664#32
  ![v1373.toNat, 1664]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x2432 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2432 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 2 → Memref sig .tc .vmem S1x32x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x384 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x8x384 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MixRefIdeal.lean ====
abbrev S8192x2432 : Shape := ⟨2, ![8192, 2432]⟩
abbrev S31x384 : Shape := ⟨2, ![31, 384]⟩
abbrev S384 : Shape := ⟨1, ![384]⟩
abbrev S256 : Shape := ⟨1, ![256]⟩
abbrev S4x128x128 : Shape := ⟨3, ![4, 128, 128]⟩
abbrev S4x128 : Shape := ⟨2, ![4, 128]⟩
abbrev S3x384 : Shape := ⟨2, ![3, 384]⟩
abbrev S8192x1024 : Shape := ⟨2, ![8192, 1024]⟩
abbrev S4x2048x2432 : Shape := ⟨3, ![4, 2048, 2432]⟩
abbrev S4x2048x1024 : Shape := ⟨3, ![4, 2048, 1024]⟩
abbrev S4x2048x384 : Shape := ⟨3, ![4, 2048, 384]⟩
abbrev S4x2048x256 : Shape := ⟨3, ![4, 2048, 256]⟩
abbrev S_ : Shape := ⟨0, ![]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S4x30x384 : Shape := ⟨3, ![4, 30, 384]⟩
abbrev S4x2078x384 : Shape := ⟨3, ![4, 2078, 384]⟩
abbrev S2048x31x1 : Shape := ⟨3, ![2048, 31, 1]⟩
abbrev S4x2048x31x384 : Shape := ⟨4, ![4, 2048, 31, 384]⟩
abbrev S1x1x31x384 : Shape := ⟨4, ![1, 1, 31, 384]⟩
abbrev S1x1x384 : Shape := ⟨3, ![1, 1, 384]⟩
abbrev S4x2048 : Shape := ⟨2, ![4, 2048]⟩
abbrev S4x2048x1 : Shape := ⟨3, ![4, 2048, 1]⟩
abbrev S1x1x256 : Shape := ⟨3, ![1, 1, 256]⟩
abbrev S4x16x128x4x64 : Shape := ⟨5, ![4, 16, 128, 4, 64]⟩
abbrev S128x128 : Shape := ⟨2, ![128, 128]⟩
abbrev S1x128x128 : Shape := ⟨3, ![1, 128, 128]⟩
abbrev S4x4x16x64x128 : Shape := ⟨5, ![4, 4, 16, 64, 128]⟩
abbrev S128x4 : Shape := ⟨2, ![128, 4]⟩
abbrev S1x1x128x4x1 : Shape := ⟨5, ![1, 1, 128, 4, 1]⟩
abbrev S3 : Shape := ⟨1, ![3]⟩
abbrev S1x3 : Shape := ⟨2, ![1, 3]⟩
abbrev S2048x3 : Shape := ⟨2, ![2048, 3]⟩
abbrev S4x2x384 : Shape := ⟨3, ![4, 2, 384]⟩
abbrev S4x2050x384 : Shape := ⟨3, ![4, 2050, 384]⟩
abbrev S2048x3x1 : Shape := ⟨3, ![2048, 3, 1]⟩
abbrev S4x2048x3x384 : Shape := ⟨4, ![4, 2048, 3, 384]⟩
abbrev S1x1x3x384 : Shape := ⟨4, ![1, 1, 3, 384]⟩

abbrev nBuf : Space → Nat
  | .hbm => 412
  | .vmem => 0
  | .smem => 0
  | _ => 0

abbrev hbmTy0_0 (i : Nat) : BufTy := match i % 128 with
  | 0 => ⟨S8192x2432, .bf16⟩
  | 1 => ⟨S31x384, .f32⟩
  | 2 => ⟨S384, .f32⟩
  | 3 => ⟨S384, .f32⟩
  | 4 => ⟨S384, .f32⟩
  | 5 => ⟨S256, .f32⟩
  | 6 => ⟨S256, .f32⟩
  | 7 => ⟨S4x128x128, .f32⟩
  | 8 => ⟨S4x128, .f32⟩
  | 9 => ⟨S3x384, .f32⟩
  | 10 => ⟨S8192x1024, .bf16⟩
  | 11 => ⟨S8192x2432, .f32⟩
  | 12 => ⟨S4x2048x2432, .f32⟩
  | 13 => ⟨S8192x1024, .f32⟩
  | 14 => ⟨S4x2048x1024, .f32⟩
  | 15 => ⟨S4x2048x384, .f32⟩
  | 16 => ⟨S4x2048x384, .f32⟩
  | 17 => ⟨S4x2048x256, .f32⟩
  | 18 => ⟨S4x2048x256, .f32⟩
  | 19 => ⟨S4x2048x384, .f32⟩
  | 20 => ⟨S4x2048x384, .f32⟩
  | 21 => ⟨S4x2048x384, .f32⟩
  | 22 => ⟨S4x2048x384, .f32⟩
  | 23 => ⟨S4x2048x384, .f32⟩
  | 24 => ⟨S_, .f32⟩
  | 25 => ⟨S4x2048x384, .f32⟩
  | 26 => ⟨S4x2048x384, .f32⟩
  | 27 => ⟨S_, .f32⟩
  | 28 => ⟨S4x2048x384, .f32⟩
  | 29 => ⟨S4x2048x384, .f32⟩
  | 30 => ⟨S_, .f32⟩
  | 31 => ⟨S4x2048x384, .f32⟩
  | 32 => ⟨S4x2048x384, .f32⟩
  | 33 => ⟨S4x2048x384, .f32⟩
  | 34 => ⟨S4x2048x384, .f32⟩
  | 35 => ⟨S2048, .i32⟩
  | 36 => ⟨S2048x1, .i32⟩
  | 37 => ⟨S31, .i32⟩
  | 38 => ⟨S1x31, .i32⟩
  | 39 => ⟨S2048x31, .i32⟩
  | 40 => ⟨S2048x31, .i32⟩
  | 41 => ⟨S2048x31, .i32⟩
  | 42 => ⟨S_, .f32⟩
  | 43 => ⟨S4x30x384, .f32⟩
  | 44 => ⟨S4x2078x384, .f32⟩
  | 45 => ⟨S_, .f32⟩
  | 46 => ⟨S4x30x384, .f32⟩
  | 47 => ⟨S_, .i32⟩
  | 48 => ⟨S2048x31, .i32⟩
  | 49 => ⟨S2048x31, .i1⟩
  | 50 => ⟨S_, .i32⟩
  | 51 => ⟨S2048x31, .i32⟩
  | 52 => ⟨S2048x31, .i32⟩
  | 53 => ⟨S2048x31, .i32⟩
  | 54 => ⟨S2048x31x1, .i32⟩
  | 55 => ⟨S4x2048x31x384, .f32⟩
  | 56 => ⟨S1x1x31x384, .f32⟩
  | 57 => ⟨S4x2048x31x384, .f32⟩
  | 58 => ⟨S4x2048x31x384, .f32⟩
  | 59 => ⟨S_, .f32⟩
  | 60 => ⟨S4x2048x384, .f32⟩
  | 61 => ⟨S1x1x384, .f32⟩
  | 62 => ⟨S4x2048x384, .f32⟩
  | 63 => ⟨S4x2048x384, .f32⟩
  | 64 => ⟨S_, .f32⟩
  | 65 => ⟨S4x2048, .f32⟩
  | 66 => ⟨S4x2048x1, .f32⟩
  | 67 => ⟨S_, .f32⟩
  | 68 => ⟨S4x2048x1, .f32⟩
  | 69 => ⟨S4x2048x1, .f32⟩
  | 70 => ⟨S4x2048x384, .f32⟩
  | 71 => ⟨S4x2048x384, .f32⟩
  | 72 => ⟨S4x2048x384, .f32⟩
  | 73 => ⟨S_, .f32⟩
  | 74 => ⟨S4x2048x384, .f32⟩
  | 75 => ⟨S4x2048x384, .f32⟩
  | 76 => ⟨S_, .f32⟩
  | 77 => ⟨S4x2048, .f32⟩
  | 78 => ⟨S4x2048x1, .f32⟩
  | 79 => ⟨S_, .f32⟩
  | 80 => ⟨S4x2048x1, .f32⟩
  | 81 => ⟨S4x2048x1, .f32⟩
  | 82 => ⟨S4x2048x384, .f32⟩
  | 83 => ⟨S4x2048x384, .f32⟩
  | 84 => ⟨S_, .f32⟩
  | 85 => ⟨S4x2048x1, .f32⟩
  | 86 => ⟨S4x2048x1, .f32⟩
  | 87 => ⟨S4x2048x1, .f32⟩
  | 88 => ⟨S4x2048x1, .f32⟩
  | 89 => ⟨S_, .f32⟩
  | 90 => ⟨S4x2048x1, .f32⟩
  | 91 => ⟨S4x2048x1, .f32⟩
  | 92 => ⟨S4x2048x384, .f32⟩
  | 93 => ⟨S4x2048x384, .f32⟩
  | 94 => ⟨S1x1x384, .f32⟩
  | 95 => ⟨S4x2048x384, .f32⟩
  | 96 => ⟨S4x2048x384, .f32⟩
  | 97 => ⟨S1x1x384, .f32⟩
  | 98 => ⟨S4x2048x384, .f32⟩
  | 99 => ⟨S4x2048x384, .f32⟩
  | 100 => ⟨S4x2048x384, .f32⟩
  | 101 => ⟨S4x2048x384, .f32⟩
  | 102 => ⟨S_, .f32⟩
  | 103 => ⟨S4x2048x384, .f32⟩
  | 104 => ⟨S4x2048x384, .f32⟩
  | 105 => ⟨S_, .f32⟩
  | 106 => ⟨S4x2048x384, .f32⟩
  | 107 => ⟨S4x2048x384, .f32⟩
  | 108 => ⟨S_, .f32⟩
  | 109 => ⟨S4x2048x384, .f32⟩
  | 110 => ⟨S4x2048x384, .f32⟩
  | 111 => ⟨S4x2048x384, .f32⟩
  | 112 => ⟨S4x2048x384, .f32⟩
  | 113 => ⟨S_, .f32⟩
  | 114 => ⟨S4x2048x256, .f32⟩
  | 115 => ⟨S4x2048x256, .f32⟩
  | 116 => ⟨S4x2048x256, .f32⟩
  | 117 => ⟨S_, .f32⟩
  | 118 => ⟨S4x2048x256, .f32⟩
  | 119 => ⟨S4x2048x256, .f32⟩
  | 120 => ⟨S4x2048x256, .f32⟩
  | 121 => ⟨S4x2048x256, .f32⟩
  | 122 => ⟨S4x2048x256, .f32⟩
  | 123 => ⟨S4x2048x256, .f32⟩
  | 124 => ⟨S4x2048x256, .f32⟩
  | 125 => ⟨S_, .f32⟩
  | 126 => ⟨S4x2048x256, .f32⟩
  | 127 => ⟨S4x2048x256, .f32⟩
  | _ => ⟨S8192x2432, .bf16⟩

abbrev hbmTy0_1 (i : Nat) : BufTy := match i % 128 with
  | 0 => ⟨S4x2048x256, .f32⟩
  | 1 => ⟨S_, .f32⟩
  | 2 => ⟨S4x2048x256, .f32⟩
  | 3 => ⟨S4x2048x256, .f32⟩
  | 4 => ⟨S4x2048x256, .f32⟩
  | 5 => ⟨S4x2048x256, .f32⟩
  | 6 => ⟨S4x2048x256, .f32⟩
  | 7 => ⟨S4x2048x256, .f32⟩
  | 8 => ⟨S4x2048x256, .f32⟩
  | 9 => ⟨S_, .f32⟩
  | 10 => ⟨S4x2048, .f32⟩
  | 11 => ⟨S4x2048x1, .f32⟩
  | 12 => ⟨S_, .f32⟩
  | 13 => ⟨S4x2048x1, .f32⟩
  | 14 => ⟨S4x2048x1, .f32⟩
  | 15 => ⟨S4x2048x256, .f32⟩
  | 16 => ⟨S4x2048x256, .f32⟩
  | 17 => ⟨S4x2048x256, .f32⟩
  | 18 => ⟨S_, .f32⟩
  | 19 => ⟨S4x2048x256, .f32⟩
  | 20 => ⟨S4x2048x256, .f32⟩
  | 21 => ⟨S_, .f32⟩
  | 22 => ⟨S4x2048, .f32⟩
  | 23 => ⟨S4x2048x1, .f32⟩
  | 24 => ⟨S_, .f32⟩
  | 25 => ⟨S4x2048x1, .f32⟩
  | 26 => ⟨S4x2048x1, .f32⟩
  | 27 => ⟨S4x2048x256, .f32⟩
  | 28 => ⟨S4x2048x256, .f32⟩
  | 29 => ⟨S_, .f32⟩
  | 30 => ⟨S4x2048x1, .f32⟩
  | 31 => ⟨S4x2048x1, .f32⟩
  | 32 => ⟨S4x2048x1, .f32⟩
  | 33 => ⟨S4x2048x1, .f32⟩
  | 34 => ⟨S_, .f32⟩
  | 35 => ⟨S4x2048x1, .f32⟩
  | 36 => ⟨S4x2048x1, .f32⟩
  | 37 => ⟨S4x2048x256, .f32⟩
  | 38 => ⟨S4x2048x256, .f32⟩
  | 39 => ⟨S1x1x256, .f32⟩
  | 40 => ⟨S4x2048x256, .f32⟩
  | 41 => ⟨S4x2048x256, .f32⟩
  | 42 => ⟨S1x1x256, .f32⟩
  | 43 => ⟨S4x2048x256, .f32⟩
  | 44 => ⟨S4x2048x256, .f32⟩
  | 45 => ⟨S4x16x128x4x64, .f32⟩
  | 46 => ⟨S_, .i1⟩
  | 47 => ⟨S128x128, .i1⟩
  | 48 => ⟨S128x128, .i32⟩
  | 49 => ⟨S_, .i32⟩
  | 50 => ⟨S128x128, .i32⟩
  | 51 => ⟨S128x128, .i32⟩
  | 52 => ⟨S128x128, .i32⟩
  | 53 => ⟨S128x128, .i1⟩
  | 54 => ⟨S_, .i1⟩
  | 55 => ⟨S128x128, .i1⟩
  | 56 => ⟨S128x128, .i1⟩
  | 57 => ⟨S1x128x128, .i1⟩
  | 58 => ⟨S_, .f32⟩
  | 59 => ⟨S4x128x128, .f32⟩
  | 60 => ⟨S4x128x128, .i1⟩
  | 61 => ⟨S4x128x128, .f32⟩
  | 62 => ⟨S_, .f32⟩
  | 63 => ⟨S4x128x128, .f32⟩
  | 64 => ⟨S4x4x16x64x128, .f32⟩
  | 65 => ⟨S4x16x128x4x64, .f32⟩
  | 66 => ⟨S128x4, .f32⟩
  | 67 => ⟨S1x1x128x4x1, .f32⟩
  | 68 => ⟨S4x16x128x4x64, .f32⟩
  | 69 => ⟨S4x16x128x4x64, .f32⟩
  | 70 => ⟨S4x2048x256, .f32⟩
  | 71 => ⟨S4x2048x256, .f32⟩
  | 72 => ⟨S4x2048x384, .f32⟩
  | 73 => ⟨S2048, .i32⟩
  | 74 => ⟨S2048x1, .i32⟩
  | 75 => ⟨S3, .i32⟩
  | 76 => ⟨S1x3, .i32⟩
  | 77 => ⟨S2048x3, .i32⟩
  | 78 => ⟨S2048x3, .i32⟩
  | 79 => ⟨S2048x3, .i32⟩
  | 80 => ⟨S_, .f32⟩
  | 81 => ⟨S4x2x384, .f32⟩
  | 82 => ⟨S4x2050x384, .f32⟩
  | 83 => ⟨S_, .f32⟩
  | 84 => ⟨S4x2x384, .f32⟩
  | 85 => ⟨S_, .i32⟩
  | 86 => ⟨S2048x3, .i32⟩
  | 87 => ⟨S2048x3, .i1⟩
  | 88 => ⟨S_, .i32⟩
  | 89 => ⟨S2048x3, .i32⟩
  | 90 => ⟨S2048x3, .i32⟩
  | 91 => ⟨S2048x3, .i32⟩
  | 92 => ⟨S2048x3x1, .i32⟩
  | 93 => ⟨S4x2048x3x384, .f32⟩
  | 94 => ⟨S1x1x3x384, .f32⟩
  | 95 => ⟨S4x2048x3x384, .f32⟩
  | 96 => ⟨S4x2048x3x384, .f32⟩
  | 97 => ⟨S_, .f32⟩
  | 98 => ⟨S4x2048x384, .f32⟩
  | 99 => ⟨S4x2048x384, .f32⟩
  | 100 => ⟨S4x2048x1024, .f32⟩
  | 101 => ⟨S4x2048x384, .f32⟩
  | 102 => ⟨S4x2048x256, .f32⟩
  | 103 => ⟨S4x2048x384, .f32⟩
  | 104 => ⟨S4x2048x384, .f32⟩
  | 105 => ⟨S4x2048x384, .f32⟩
  | 106 => ⟨S4x2048x3x384, .f32⟩
  | 107 => ⟨S4x2048x3x384, .f32⟩
  | 108 => ⟨S_, .f32⟩
  | 109 => ⟨S3x384, .f32⟩
  | 110 => ⟨S1x1x3x384, .f32⟩
  | 111 => ⟨S4x2048x3x384, .f32⟩
  | 112 => ⟨S4x2048x3x384, .f32⟩
  | 113 => ⟨S_, .f32⟩
  | 114 => ⟨S3x384, .f32⟩
  | 115 => ⟨S_, .f32⟩
  | 116 => ⟨S4x2050x384, .f32⟩
  | 117 => ⟨S4x2050x384, .f32⟩
  | 118 => ⟨S4x2x384, .f32⟩
  | 119 => ⟨S4x2048x384, .f32⟩
  | 120 => ⟨S4x2048x384, .f32⟩
  | 121 => ⟨S4x2048x384, .f32⟩
  | 122 => ⟨S4x2048x256, .f32⟩
  | 123 => ⟨S4x2048x256, .f32⟩
  | 124 => ⟨S4x16x128x4x64, .f32⟩
  | 125 => ⟨S_, .f32⟩
  | 126 => ⟨S128x4, .f32⟩
  | 127 => ⟨S1x1x128x4x1, .f32⟩
  | _ => ⟨S8192x2432, .bf16⟩

abbrev hbmTy0_2 (i : Nat) : BufTy := match i % 128 with
  | 0 => ⟨S_, .f32⟩
  | 1 => ⟨S128x4, .f32⟩
  | 2 => ⟨S4x128, .f32⟩
  | 3 => ⟨S4x4x16x64x128, .f32⟩
  | 4 => ⟨S4x128x128, .f32⟩
  | 5 => ⟨S4x4x16x64x128, .f32⟩
  | 6 => ⟨S4x16x128x4x64, .f32⟩
  | 7 => ⟨S_, .f32⟩
  | 8 => ⟨S4x128x128, .f32⟩
  | 9 => ⟨S4x128x128, .f32⟩
  | 10 => ⟨S4x2048x256, .f32⟩
  | 11 => ⟨S_, .f32⟩
  | 12 => ⟨S256, .f32⟩
  | 13 => ⟨S1x1x256, .f32⟩
  | 14 => ⟨S_, .f32⟩
  | 15 => ⟨S256, .f32⟩
  | 16 => ⟨S4x2048x256, .f32⟩
  | 17 => ⟨S_, .f32⟩
  | 18 => ⟨S256, .f32⟩
  | 19 => ⟨S1x1x256, .f32⟩
  | 20 => ⟨S4x2048x256, .f32⟩
  | 21 => ⟨S4x2048x256, .f32⟩
  | 22 => ⟨S_, .f32⟩
  | 23 => ⟨S256, .f32⟩
  | 24 => ⟨S4x2048x256, .f32⟩
  | 25 => ⟨S_, .f32⟩
  | 26 => ⟨S4x2048, .f32⟩
  | 27 => ⟨S4x2048x1, .f32⟩
  | 28 => ⟨S4x2048x256, .f32⟩
  | 29 => ⟨S4x2048x256, .f32⟩
  | 30 => ⟨S4x2048x1, .f32⟩
  | 31 => ⟨S4x2048x256, .f32⟩
  | 32 => ⟨S_, .f32⟩
  | 33 => ⟨S4x2048, .f32⟩
  | 34 => ⟨S4x2048x1, .f32⟩
  | 35 => ⟨S_, .f32⟩
  | 36 => ⟨S4x2048x1, .f32⟩
  | 37 => ⟨S4x2048x1, .f32⟩
  | 38 => ⟨S_, .f32⟩
  | 39 => ⟨S4x2048, .f32⟩
  | 40 => ⟨S4x2048x256, .f32⟩
  | 41 => ⟨S4x2048x256, .f32⟩
  | 42 => ⟨S4x2048x256, .f32⟩
  | 43 => ⟨S_, .f32⟩
  | 44 => ⟨S4x2048, .f32⟩
  | 45 => ⟨S4x2048x1, .f32⟩
  | 46 => ⟨S4x2048x256, .f32⟩
  | 47 => ⟨S4x2048x1, .f32⟩
  | 48 => ⟨S_, .f32⟩
  | 49 => ⟨S4x2048x1, .f32⟩
  | 50 => ⟨S4x2048x1, .f32⟩
  | 51 => ⟨S_, .f32⟩
  | 52 => ⟨S4x2048, .f32⟩
  | 53 => ⟨S4x2048x256, .f32⟩
  | 54 => ⟨S4x2048x256, .f32⟩
  | 55 => ⟨S4x2048x256, .f32⟩
  | 56 => ⟨S4x2048x256, .f32⟩
  | 57 => ⟨S_, .f32⟩
  | 58 => ⟨S4x2048x256, .f32⟩
  | 59 => ⟨S4x2048x256, .f32⟩
  | 60 => ⟨S4x2048x256, .f32⟩
  | 61 => ⟨S_, .f32⟩
  | 62 => ⟨S4x2048x256, .f32⟩
  | 63 => ⟨S4x2048x256, .f32⟩
  | 64 => ⟨S4x2048x256, .f32⟩
  | 65 => ⟨S_, .f32⟩
  | 66 => ⟨S4x2048x256, .f32⟩
  | 67 => ⟨S4x2048x256, .f32⟩
  | 68 => ⟨S4x2048x256, .f32⟩
  | 69 => ⟨S4x2048x256, .f32⟩
  | 70 => ⟨S4x2048x256, .f32⟩
  | 71 => ⟨S_, .f32⟩
  | 72 => ⟨S4x2048x256, .f32⟩
  | 73 => ⟨S4x2048x256, .f32⟩
  | 74 => ⟨S4x2048x256, .f32⟩
  | 75 => ⟨S_, .f32⟩
  | 76 => ⟨S4x2048x256, .f32⟩
  | 77 => ⟨S4x2048x256, .f32⟩
  | 78 => ⟨S4x2048x256, .f32⟩
  | 79 => ⟨S_, .f32⟩
  | 80 => ⟨S4x2048x256, .f32⟩
  | 81 => ⟨S4x2048x256, .f32⟩
  | 82 => ⟨S4x2048x256, .f32⟩
  | 83 => ⟨S4x2048x384, .f32⟩
  | 84 => ⟨S4x2048x384, .f32⟩
  | 85 => ⟨S4x2048x384, .f32⟩
  | 86 => ⟨S4x2048x384, .f32⟩
  | 87 => ⟨S_, .f32⟩
  | 88 => ⟨S384, .f32⟩
  | 89 => ⟨S1x1x384, .f32⟩
  | 90 => ⟨S_, .f32⟩
  | 91 => ⟨S384, .f32⟩
  | 92 => ⟨S4x2048x384, .f32⟩
  | 93 => ⟨S_, .f32⟩
  | 94 => ⟨S384, .f32⟩
  | 95 => ⟨S1x1x384, .f32⟩
  | 96 => ⟨S4x2048x384, .f32⟩
  | 97 => ⟨S4x2048x384, .f32⟩
  | 98 => ⟨S_, .f32⟩
  | 99 => ⟨S384, .f32⟩
  | 100 => ⟨S4x2048x384, .f32⟩
  | 101 => ⟨S_, .f32⟩
  | 102 => ⟨S4x2048, .f32⟩
  | 103 => ⟨S4x2048x1, .f32⟩
  | 104 => ⟨S4x2048x384, .f32⟩
  | 105 => ⟨S4x2048x384, .f32⟩
  | 106 => ⟨S4x2048x1, .f32⟩
  | 107 => ⟨S4x2048x384, .f32⟩
  | 108 => ⟨S_, .f32⟩
  | 109 => ⟨S4x2048, .f32⟩
  | 110 => ⟨S4x2048x1, .f32⟩
  | 111 => ⟨S_, .f32⟩
  | 112 => ⟨S4x2048x1, .f32⟩
  | 113 => ⟨S4x2048x1, .f32⟩
  | 114 => ⟨S_, .f32⟩
  | 115 => ⟨S4x2048, .f32⟩
  | 116 => ⟨S4x2048x384, .f32⟩
  | 117 => ⟨S4x2048x384, .f32⟩
  | 118 => ⟨S4x2048x384, .f32⟩
  | 119 => ⟨S_, .f32⟩
  | 120 => ⟨S4x2048, .f32⟩
  | 121 => ⟨S4x2048x1, .f32⟩
  | 122 => ⟨S4x2048x384, .f32⟩
  | 123 => ⟨S4x2048x1, .f32⟩
  | 124 => ⟨S_, .f32⟩
  | 125 => ⟨S4x2048x1, .f32⟩
  | 126 => ⟨S4x2048x1, .f32⟩
  | 127 => ⟨S_, .f32⟩
  | _ => ⟨S8192x2432, .bf16⟩

abbrev hbmTy0_3 (i : Nat) : BufTy := match i % 128 with
  | 0 => ⟨S4x2048, .f32⟩
  | 1 => ⟨S4x2048x384, .f32⟩
  | 2 => ⟨S4x2048x384, .f32⟩
  | 3 => ⟨S_, .f32⟩
  | 4 => ⟨S384, .f32⟩
  | 5 => ⟨S1x1x384, .f32⟩
  | 6 => ⟨S_, .f32⟩
  | 7 => ⟨S384, .f32⟩
  | 8 => ⟨S4x2048x31x384, .f32⟩
  | 9 => ⟨S4x2048x31x384, .f32⟩
  | 10 => ⟨S_, .f32⟩
  | 11 => ⟨S31x384, .f32⟩
  | 12 => ⟨S1x1x31x384, .f32⟩
  | 13 => ⟨S4x2048x31x384, .f32⟩
  | 14 => ⟨S4x2048x31x384, .f32⟩
  | 15 => ⟨S_, .f32⟩
  | 16 => ⟨S31x384, .f32⟩
  | 17 => ⟨S_, .f32⟩
  | 18 => ⟨S4x2078x384, .f32⟩
  | 19 => ⟨S4x2078x384, .f32⟩
  | 20 => ⟨S4x30x384, .f32⟩
  | 21 => ⟨S4x2048x384, .f32⟩
  | 22 => ⟨S4x2048x384, .f32⟩
  | 23 => ⟨S4x2048x384, .f32⟩
  | 24 => ⟨S4x2048x384, .f32⟩
  | 25 => ⟨S4x2048x2432, .f32⟩
  | 26 => ⟨S8192x2432, .f32⟩
  | 27 => ⟨S8192x2432, .bf16⟩
  | _ => ⟨S8192x2432, .bf16⟩

abbrev hbmTy (i : Nat) : BufTy := match i / 128 with
  | 0 => hbmTy0_0 i
  | 1 => hbmTy0_1 i
  | 2 => hbmTy0_2 i
  | 3 => hbmTy0_3 i
  | _ => ⟨S8192x2432, .bf16⟩

abbrev bufTy : (tb : Table) → Fin (tcTables nBuf tb) → BufTy
  | .hbm, ⟨i, _⟩ => hbmTy i
  | _, _ => ⟨S8192x2432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_c : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_call0_v0 : Ref sig .tc := ⟨.hbm, 100, rfl⟩
abbrev main_call0_v1 : Ref sig .tc := ⟨.hbm, 101, rfl⟩
abbrev main_call0_cst : Ref sig .tc := ⟨.hbm, 102, rfl⟩
abbrev main_call0_v2 : Ref sig .tc := ⟨.hbm, 103, rfl⟩
abbrev main_call0_v3 : Ref sig .tc := ⟨.hbm, 104, rfl⟩
abbrev main_call0_cst_0 : Ref sig .tc := ⟨.hbm, 105, rfl⟩
abbrev main_call0_v4 : Ref sig .tc := ⟨.hbm, 106, rfl⟩
abbrev main_v74_2 : Ref sig .tc := ⟨.hbm, 107, rfl⟩
abbrev main_call0_cst_1 : Ref sig .tc := ⟨.hbm, 108, rfl⟩
abbrev main_call0_v6 : Ref sig .tc := ⟨.hbm, 109, rfl⟩
abbrev main_call0_v7 : Ref sig .tc := ⟨.hbm, 110, rfl⟩
abbrev main_v74_1 : Ref sig .tc := ⟨.hbm, 111, rfl⟩
abbrev main_v74_0 : Ref sig .tc := ⟨.hbm, 112, rfl⟩
abbrev main_cst_13 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_14 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_15 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_16 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_17 : Ref sig .tc := ⟨.hbm, 137, rfl⟩
abbrev main_v95 : Ref sig .tc := ⟨.hbm, 138, rfl⟩
abbrev main_v96 : Ref sig .tc := ⟨.hbm, 139, rfl⟩
abbrev main_cst_18 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_19 : Ref sig .tc := ⟨.hbm, 146, rfl⟩
abbrev main_v102 : Ref sig .tc := ⟨.hbm, 147, rfl⟩
abbrev main_v103 : Ref sig .tc := ⟨.hbm, 148, rfl⟩
abbrev main_cst_20 : Ref sig .tc := ⟨.hbm, 149, rfl⟩
abbrev main_v104 : Ref sig .tc := ⟨.hbm, 150, rfl⟩
abbrev main_v105 : Ref sig .tc := ⟨.hbm, 151, rfl⟩
abbrev main_cst_21 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_22 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_23 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_c_24 : Ref sig .tc := ⟨.hbm, 174, rfl⟩
abbrev main_v125 : Ref sig .tc := ⟨.hbm, 175, rfl⟩
abbrev main_call1_v0 : Ref sig .tc := ⟨.hbm, 176, rfl⟩
abbrev main_call1_c : Ref sig .tc := ⟨.hbm, 177, rfl⟩
abbrev main_call1_v1 : Ref sig .tc := ⟨.hbm, 178, rfl⟩
abbrev main_call1_v2 : Ref sig .tc := ⟨.hbm, 179, rfl⟩
abbrev main_call1_v3 : Ref sig .tc := ⟨.hbm, 180, rfl⟩
abbrev main_call1_v4 : Ref sig .tc := ⟨.hbm, 181, rfl⟩
abbrev main_call1_c_0 : Ref sig .tc := ⟨.hbm, 182, rfl⟩
abbrev main_call1_v5 : Ref sig .tc := ⟨.hbm, 183, rfl⟩
abbrev main_v126 : Ref sig .tc := ⟨.hbm, 184, rfl⟩
abbrev main_v127 : Ref sig .tc := ⟨.hbm, 185, rfl⟩
abbrev main_cst_25 : Ref sig .tc := ⟨.hbm, 186, rfl⟩
abbrev main_v128 : Ref sig .tc := ⟨.hbm, 187, rfl⟩
abbrev main_v129_1 : Ref sig .tc := ⟨.hbm, 188, rfl⟩
abbrev main_v129_0 : Ref sig .tc := ⟨.hbm, 189, rfl⟩
abbrev main_call2_cst : Ref sig .tc := ⟨.hbm, 190, rfl⟩
abbrev main_v129_2 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_cst_26 : Ref sig .tc := ⟨.hbm, 208, rfl⟩
abbrev main_v146 : Ref sig .tc := ⟨.hbm, 209, rfl⟩
abbrev main_v147 : Ref sig .tc := ⟨.hbm, 210, rfl⟩
abbrev main_cst_27 : Ref sig .tc := ⟨.hbm, 211, rfl⟩
abbrev main_v148 : Ref sig .tc := ⟨.hbm, 212, rfl⟩
abbrev main_c_28 : Ref sig .tc := ⟨.hbm, 213, rfl⟩
abbrev main_v149 : Ref sig .tc := ⟨.hbm, 214, rfl⟩
abbrev main_v150 : Ref sig .tc := ⟨.hbm, 215, rfl⟩
abbrev main_c_29 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_cst_30 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_cst_31 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_cst_32 : Ref sig .tc := ⟨.hbm, 241, rfl⟩
abbrev main_v173 : Ref sig .tc := ⟨.hbm, 242, rfl⟩
abbrev main_cst_33 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_cst_34 : Ref sig .tc := ⟨.hbm, 253, rfl⟩
abbrev main_v183 : Ref sig .tc := ⟨.hbm, 254, rfl⟩
abbrev main_v184 : Ref sig .tc := ⟨.hbm, 255, rfl⟩
abbrev main_cst_35 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_call3_cst : Ref sig .tc := ⟨.hbm, 263, rfl⟩
abbrev main_call3_v0 : Ref sig .tc := ⟨.hbm, 264, rfl⟩
abbrev main_v191 : Ref sig .tc := ⟨.hbm, 265, rfl⟩
abbrev main_v192 : Ref sig .tc := ⟨.hbm, 266, rfl⟩
abbrev main_cst_36 : Ref sig .tc := ⟨.hbm, 267, rfl⟩
abbrev main_v193 : Ref sig .tc := ⟨.hbm, 268, rfl⟩
abbrev main_v194 : Ref sig .tc := ⟨.hbm, 269, rfl⟩
abbrev main_cst_37 : Ref sig .tc := ⟨.hbm, 270, rfl⟩
abbrev main_v195 : Ref sig .tc := ⟨.hbm, 271, rfl⟩
abbrev main_v196 : Ref sig .tc := ⟨.hbm, 272, rfl⟩
abbrev main_cst_38 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_cst_39 : Ref sig .tc := ⟨.hbm, 278, rfl⟩
abbrev main_v201 : Ref sig .tc := ⟨.hbm, 279, rfl⟩
abbrev main_v202 : Ref sig .tc := ⟨.hbm, 280, rfl⟩
abbrev main_cst_40 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_cst_41 : Ref sig .tc := ⟨.hbm, 288, rfl⟩
abbrev main_v209 : Ref sig .tc := ⟨.hbm, 289, rfl⟩
abbrev main_v210 : Ref sig .tc := ⟨.hbm, 290, rfl⟩
abbrev main_cst_42 : Ref sig .tc := ⟨.hbm, 291, rfl⟩
abbrev main_v211 : Ref sig .tc := ⟨.hbm, 292, rfl⟩
abbrev main_v212 : Ref sig .tc := ⟨.hbm, 293, rfl⟩
abbrev main_cst_43 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_cst_44 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_cst_45 : Ref sig .tc := ⟨.hbm, 304, rfl⟩
abbrev main_v221 : Ref sig .tc := ⟨.hbm, 305, rfl⟩
abbrev main_v222 : Ref sig .tc := ⟨.hbm, 306, rfl⟩
abbrev main_cst_46 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_cst_47 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_cst_48 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_cst_49 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_v238 : Ref sig .tc := ⟨.hbm, 326, rfl⟩
abbrev main_cst_50 : Ref sig .tc := ⟨.hbm, 327, rfl⟩
abbrev main_v239 : Ref sig .tc := ⟨.hbm, 328, rfl⟩
abbrev main_v240 : Ref sig .tc := ⟨.hbm, 329, rfl⟩
abbrev main_v241 : Ref sig .tc := ⟨.hbm, 330, rfl⟩
abbrev main_cst_51 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_cst_52 : Ref sig .tc := ⟨.hbm, 335, rfl⟩
abbrev main_v245 : Ref sig .tc := ⟨.hbm, 336, rfl⟩
abbrev main_v246 : Ref sig .tc := ⟨.hbm, 337, rfl⟩
abbrev main_v247 : Ref sig .tc := ⟨.hbm, 338, rfl⟩
abbrev main_call4_v0 : Ref sig .tc := ⟨.hbm, 339, rfl⟩
abbrev main_call4_v1 : Ref sig .tc := ⟨.hbm, 340, rfl⟩
abbrev main_call4_v2 : Ref sig .tc := ⟨.hbm, 341, rfl⟩
abbrev main_v248 : Ref sig .tc := ⟨.hbm, 342, rfl⟩
abbrev main_cst_53 : Ref sig .tc := ⟨.hbm, 343, rfl⟩
abbrev main_v249 : Ref sig .tc := ⟨.hbm, 344, rfl⟩
abbrev main_v250 : Ref sig .tc := ⟨.hbm, 345, rfl⟩
abbrev main_cst_54 : Ref sig .tc := ⟨.hbm, 346, rfl⟩
abbrev main_v251 : Ref sig .tc := ⟨.hbm, 347, rfl⟩
abbrev main_v252 : Ref sig .tc := ⟨.hbm, 348, rfl⟩
abbrev main_cst_55 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_cst_56 : Ref sig .tc := ⟨.hbm, 354, rfl⟩
abbrev main_v257 : Ref sig .tc := ⟨.hbm, 355, rfl⟩
abbrev main_v258 : Ref sig .tc := ⟨.hbm, 356, rfl⟩
abbrev main_cst_57 : Ref sig .tc := ⟨.hbm, 357, rfl⟩
abbrev main_v259 : Ref sig .tc := ⟨.hbm, 358, rfl⟩
abbrev main_v260 : Ref sig .tc := ⟨.hbm, 359, rfl⟩
abbrev main_v261 : Ref sig .tc := ⟨.hbm, 360, rfl⟩
abbrev main_v262 : Ref sig .tc := ⟨.hbm, 361, rfl⟩
abbrev main_v263 : Ref sig .tc := ⟨.hbm, 362, rfl⟩
abbrev main_v264 : Ref sig .tc := ⟨.hbm, 363, rfl⟩
abbrev main_cst_58 : Ref sig .tc := ⟨.hbm, 364, rfl⟩
abbrev main_v265 : Ref sig .tc := ⟨.hbm, 365, rfl⟩
abbrev main_v266 : Ref sig .tc := ⟨.hbm, 366, rfl⟩
abbrev main_cst_59 : Ref sig .tc := ⟨.hbm, 367, rfl⟩
abbrev main_v267 : Ref sig .tc := ⟨.hbm, 368, rfl⟩
abbrev main_v268 : Ref sig .tc := ⟨.hbm, 369, rfl⟩
abbrev main_cst_60 : Ref sig .tc := ⟨.hbm, 370, rfl⟩
abbrev main_v269 : Ref sig .tc := ⟨.hbm, 371, rfl⟩
abbrev main_v270 : Ref sig .tc := ⟨.hbm, 372, rfl⟩
abbrev main_v271 : Ref sig .tc := ⟨.hbm, 373, rfl⟩
abbrev main_v272 : Ref sig .tc := ⟨.hbm, 374, rfl⟩
abbrev main_cst_61 : Ref sig .tc := ⟨.hbm, 375, rfl⟩
abbrev main_v273 : Ref sig .tc := ⟨.hbm, 376, rfl⟩
abbrev main_v274 : Ref sig .tc := ⟨.hbm, 377, rfl⟩
abbrev main_v275 : Ref sig .tc := ⟨.hbm, 378, rfl⟩
abbrev main_v276 : Ref sig .tc := ⟨.hbm, 379, rfl⟩
abbrev main_cst_62 : Ref sig .tc := ⟨.hbm, 380, rfl⟩
abbrev main_v277 : Ref sig .tc := ⟨.hbm, 381, rfl⟩
abbrev main_v278 : Ref sig .tc := ⟨.hbm, 382, rfl⟩
abbrev main_cst_63 : Ref sig .tc := ⟨.hbm, 383, rfl⟩
abbrev main_v279 : Ref sig .tc := ⟨.hbm, 384, rfl⟩
abbrev main_v280 : Ref sig .tc := ⟨.hbm, 385, rfl⟩
abbrev main_v281 : Ref sig .tc := ⟨.hbm, 386, rfl⟩
abbrev main_cst_64 : Ref sig .tc := ⟨.hbm, 387, rfl⟩
abbrev main_v282 : Ref sig .tc := ⟨.hbm, 388, rfl⟩
abbrev main_v283 : Ref sig .tc := ⟨.hbm, 389, rfl⟩
abbrev main_cst_65 : Ref sig .tc := ⟨.hbm, 390, rfl⟩
abbrev main_v284 : Ref sig .tc := ⟨.hbm, 391, rfl⟩
abbrev main_v285 : Ref sig .tc := ⟨.hbm, 392, rfl⟩
abbrev main_v286 : Ref sig .tc := ⟨.hbm, 393, rfl⟩
abbrev main_cst_66 : Ref sig .tc := ⟨.hbm, 394, rfl⟩
abbrev main_v287 : Ref sig .tc := ⟨.hbm, 395, rfl⟩
abbrev main_v288 : Ref sig .tc := ⟨.hbm, 396, rfl⟩
abbrev main_v289 : Ref sig .tc := ⟨.hbm, 397, rfl⟩
abbrev main_v290 : Ref sig .tc := ⟨.hbm, 398, rfl⟩
abbrev main_cst_67 : Ref sig .tc := ⟨.hbm, 399, rfl⟩
abbrev main_v291 : Ref sig .tc := ⟨.hbm, 400, rfl⟩
abbrev main_cst_68 : Ref sig .tc := ⟨.hbm, 401, rfl⟩
abbrev main_v292 : Ref sig .tc := ⟨.hbm, 402, rfl⟩
abbrev main_v293 : Ref sig .tc := ⟨.hbm, 403, rfl⟩
abbrev main_v294 : Ref sig .tc := ⟨.hbm, 404, rfl⟩
abbrev main_v295 : Ref sig .tc := ⟨.hbm, 405, rfl⟩
abbrev main_v296 : Ref sig .tc := ⟨.hbm, 406, rfl⟩
abbrev main_v297 : Ref sig .tc := ⟨.hbm, 407, rfl⟩
abbrev main_v298 : Ref sig .tc := ⟨.hbm, 408, rfl⟩
abbrev main_v299 : Ref sig .tc := ⟨.hbm, 409, rfl⟩
abbrev main_v300 : Ref sig .tc := ⟨.hbm, 410, rfl⟩
abbrev main_v301 : Ref sig .tc := ⟨.hbm, 411, rfl⟩

abbrev nD : Nat := 1
abbrev τ : Topo := Topo.v7x

variable {F : FTy → Type} [FloatOps F]
-- ==== Bwd.lean ====
abbrev S8192x1024 : Shape := ⟨2, ![8192, 1024]⟩
abbrev S1024 : Shape := ⟨1, ![1024]⟩
abbrev S1024x4096 : Shape := ⟨2, ![1024, 4096]⟩
abbrev S1024x1024 : Shape := ⟨2, ![1024, 1024]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩
abbrev S512x1024 : Shape := ⟨2, ![512, 1024]⟩
abbrev S512x4096 : Shape := ⟨2, ![512, 4096]⟩
abbrev S512x1 : Shape := ⟨2, ![512, 1]⟩
abbrev S64x8x1024 : Shape := ⟨3, ![64, 8, 1024]⟩
abbrev S512 : Shape := ⟨1, ![512]⟩

abbrev nBuf : Space → Nat
  | .hbm => 37
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x4096, .bf16⟩
  | .hbm, ⟨4, _⟩ => ⟨S1024x1024, .bf16⟩
  | .hbm, ⟨5, _⟩ => ⟨S8192x1024, .f32⟩
  | .hbm, ⟨6, _⟩ => ⟨S8192x4096, .bf16⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8x1024, .f32⟩
  | .hbm, ⟨31, _⟩ => ⟨S8x1024, .f32⟩
  | .hbm, ⟨32, _⟩ => ⟨S8192x1024, .bf16⟩
  | .hbm, ⟨33, _⟩ => ⟨S_, .f32⟩
  | .hbm, ⟨34, _⟩ => ⟨S1024, .f32⟩
  | .hbm, ⟨35, _⟩ => ⟨S_, .f32⟩
  | .hbm, ⟨36, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S1024x4096, .bf16⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S8x1024, .f32⟩
  | .local _ .vmem, ⟨15, _⟩ => ⟨S512x1024, .bf16⟩
  | .local _ .vmem, ⟨16, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev main_v17_3 : Ref sig .tc := ⟨.hbm, 32, rfl⟩
abbrev main_cst_4 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== BwdRefIdeal.lean ====
abbrev S8192x1024 : Shape := ⟨2, ![8192, 1024]⟩
abbrev S1024 : Shape := ⟨1, ![1024]⟩
abbrev S1024x4096 : Shape := ⟨2, ![1024, 4096]⟩
abbrev S1024x1024 : Shape := ⟨2, ![1024, 1024]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x4096, .bf16⟩
  | .hbm, ⟨4, _⟩ => ⟨S1024x1024, .bf16⟩
  | .hbm, ⟨5, _⟩ => ⟨S8192x1024, .f32⟩
  | .hbm, ⟨6, _⟩ => ⟨S8192x4096, .bf16⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S1024x4096, .f32⟩
  | .hbm, ⟨47, _⟩ => ⟨S8192x4096, .f32⟩
  | .hbm, ⟨48, _⟩ => ⟨S8192x4096, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S8192x1024, .f32⟩
  | .hbm, ⟨100, _⟩ => ⟨S1024x1024, .f32⟩
  | .hbm, ⟨101, _⟩ => ⟨S8192x1024, .f32⟩
  | .hbm, ⟨102, _⟩ => ⟨S8192x1024, .f32⟩
  | .hbm, ⟨103, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_cst_15 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_16 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_17 : Ref sig .tc := ⟨.hbm, 91, rfl⟩
abbrev main_v66 : Ref sig .tc := ⟨.hbm, 92, rfl⟩
abbrev main_v67 : Ref sig .tc := ⟨.hbm, 93, rfl⟩
abbrev main_cst_18 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_19 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩
abbrev S512x1024 : Shape := ⟨2, ![512, 1024]⟩
abbrev S512x1 : Shape := ⟨2, ![512, 1]⟩
abbrev S64x8x1024 : Shape := ⟨3, ![64, 8, 1024]⟩
abbrev S512 : Shape := ⟨1, ![512]⟩

abbrev nBuf : Space → Nat
  | .hbm => 46
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8x1024, .f32⟩
  | .hbm, ⟨33, _⟩ => ⟨S8192x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1024, .f32⟩
  | .hbm, ⟨44, _⟩ => ⟨S_, .f32⟩
  | .hbm, ⟨45, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1, .f32⟩
  | .local _ .vmem, ⟨7, _⟩ => ⟨S512x1, .f32⟩
  | .local _ .vmem, ⟨8, _⟩ => ⟨S1x1024, .f32⟩
  | .local _ .vmem, ⟨9, _⟩ => ⟨S8x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_cst_4 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S8192, .f32⟩
  | .hbm, ⟨97, _⟩ => ⟨S8192x1, .f32⟩
  | .hbm, ⟨98, _⟩ => ⟨S8192x1024, .f32⟩
  | .hbm, ⟨99, _⟩ => ⟨S8192x1, .f32⟩
  | .hbm, ⟨100, _⟩ => ⟨S_, .f32⟩
  | .hbm, ⟨101, _⟩ => ⟨S8192x1, .f32⟩
  | .hbm, ⟨102, _⟩ => ⟨S8192x1, .f32⟩
  | .hbm, ⟨103, _⟩ => ⟨S_, .f32⟩
  | .hbm, ⟨104, _⟩ => ⟨S8192, .f32⟩
  | .hbm, ⟨105, _⟩ => ⟨S8192x1024, .f32⟩
  | .hbm, ⟨106, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_cst_11 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_cst_16 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_17 : Ref sig .tc := ⟨.hbm, 74, rfl⟩
abbrev main_v52 : Ref sig .tc := ⟨.hbm, 75, rfl⟩
abbrev main_v53 : Ref sig .tc := ⟨.hbm, 76, rfl⟩
abbrev main_cst_18 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_cst_20 : Ref sig .tc := ⟨.hbm, 87, rfl⟩
abbrev main_v62 : Ref sig .tc := ⟨.hbm, 88, rfl⟩
abbrev main_v63 : Ref sig .tc := ⟨.hbm, 89, rfl⟩
abbrev main_cst_21 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_22 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_23 : Ref sig .tc := ⟨.hbm, 100, rfl⟩
abbrev main_v72 : Ref sig .tc := ⟨.hbm, 101, rfl⟩
abbrev main_v73 : Ref sig .tc := ⟨.hbm, 102, rfl⟩
abbrev main_cst_24 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== Wg.lean ====
abbrev S8192x4096 : Shape := ⟨2, ![8192, 4096]⟩
abbrev S8192x1024 : Shape := ⟨2, ![8192, 1024]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .f32⟩
  | .local _ .vmem, ⟨5, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S1024x4096, .f32⟩
  | .hbm, ⟨11, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Inp.lean ====
abbrev S8192x1024 : Shape := ⟨2, ![8192, 1024]⟩
abbrev S1024 : Shape := ⟨1, ![1024]⟩
abbrev S1024x2432 : Shape := ⟨2, ![1024, 2432]⟩
abbrev S8192x2432 : Shape := ⟨2, ![8192, 2432]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩
abbrev S512x1024 : Shape := ⟨2, ![512, 1024]⟩
abbrev S512x2432 : Shape := ⟨2, ![512, 2432]⟩
abbrev S512x1 : Shape := ⟨2, ![512, 1]⟩
abbrev S64x8x1024 : Shape := ⟨3, ![64, 8, 1024]⟩
abbrev S512 : Shape := ⟨1, ![512]⟩

abbrev nBuf : Space → Nat
  | .hbm => 35
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2432, .bf16⟩
  | .hbm, ⟨4, _⟩ => ⟨S8192x1024, .f32⟩
  | .hbm, ⟨5, _⟩ => ⟨S8192x2432, .bf16⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8x1024, .f32⟩
  | .hbm, ⟨30, _⟩ => ⟨S8x1024, .f32⟩
  | .hbm, ⟨31, _⟩ => ⟨S_, .f32⟩
  | .hbm, ⟨32, _⟩ => ⟨S1024, .f32⟩
  | .hbm, ⟨33, _⟩ => ⟨S_, .f32⟩
  | .hbm, ⟨34, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x2432, .bf16⟩
  | .local _ .vmem, ⟨3, _⟩ => ⟨S512x2432, .bf16⟩
  | .local _ .vmem, ⟨4, _⟩ => ⟨S1024x2432, .bf16⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_cst_4 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InpRefIdeal.lean ====
abbrev S8192x1024 : Shape := ⟨2, ![8192, 1024]⟩
abbrev S1024 : Shape := ⟨1, ![1024]⟩
abbrev S1024x2432 : Shape := ⟨2, ![1024, 2432]⟩
abbrev S8192x2432 : Shape := ⟨2, ![8192, 2432]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2432, .bf16⟩
  | .hbm, ⟨4, _⟩ => ⟨S8192x1024, .f32⟩
  | .hbm, ⟨5, _⟩ => ⟨S8192x2432, .bf16⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S1024x2432, .f32⟩
  | .hbm, ⟨46, _⟩ => ⟨S8192x2432, .f32⟩
  | .hbm, ⟨47, _⟩ => ⟨S8192x2432, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩
abbrev main_cst_18 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== Inz.lean ====
abbrev S1024x2432 : Shape := ⟨2, ![1024, 2432]⟩
abbrev S8192x1024 : Shape := ⟨2, ![8192, 1024]⟩
abbrev S8192x2432 : Shape := ⟨2, ![8192, 2432]⟩
abbrev S512x1024 : Shape := ⟨2, ![512, 1024]⟩
abbrev S512x2432 : Shape := ⟨2, ![512, 2432]⟩

abbrev nBuf : Space → Nat
  | .hbm => 4
  | .vmem => 7
  | .smem => 0
  | _ => 0

abbrev bufTy : (tb : Table) → Fin (tcTables nBuf tb) → BufTy
  | .hbm, ⟨0, _⟩ => ⟨S1024x2432, .bf16⟩
  | .hbm, ⟨1, _⟩ => ⟨S8192x1024, .f32⟩
  | .hbm, ⟨2, _⟩ => ⟨S8192x2432, .bf16⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x2432, .bf16⟩
  | .local _ .vmem, ⟨3, _⟩ => ⟨S512x2432, .bf16⟩
  | .local _ .vmem, ⟨4, _⟩ => ⟨S1024x2432, .bf16⟩
  | .local _ .vmem, ⟨5, _⟩ => ⟨S512x1024, .f32⟩
  | .local _ .vmem, ⟨6, _⟩ => ⟨S512x1024, .f32⟩
  | _, _ => ⟨S1024x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InzRefIdeal.lean ====
abbrev S1024x2432 : Shape := ⟨2, ![1024, 2432]⟩
abbrev S8192x1024 : Shape := ⟨2, ![8192, 1024]⟩
abbrev S8192x2432 : Shape := ⟨2, ![8192, 2432]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S1024x2432, .bf16⟩
  | .hbm, ⟨1, _⟩ => ⟨S8192x1024, .f32⟩
  | .hbm, ⟨2, _⟩ => ⟨S8192x2432, .bf16⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S1024x2432, .f32⟩
  | .hbm, ⟨9, _⟩ => ⟨S8192x2432, .f32⟩
  | .hbm, ⟨10, _⟩ => ⟨S8192x2432, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S1024x2432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Att.lean ====
abbrev S8192x1024 : Shape := ⟨2, ![8192, 1024]⟩
abbrev S1024x2048 : Shape := ⟨2, ![1024, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S512x1024, .bf16⟩
  | .local _ .vmem, ⟨7, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttRefIdeal.lean ====
abbrev S8192x1024 : Shape := ⟨2, ![8192, 1024]⟩
abbrev S1024x2048 : Shape := ⟨2, ![1024, 2048]⟩
abbrev S4x2048x4x256 : Shape := ⟨4, ![4, 2048, 4, 256]⟩
abbrev S4x256x2048 : Shape := ⟨3, ![4, 256, 2048]⟩
abbrev S4x256x1024 : Shape := ⟨3, ![4, 256, 1024]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S4x2048x4x256, .f32⟩
  | .hbm, ⟨5, _⟩ => ⟨S4x256x2048, .f32⟩
  | .hbm, ⟨6, _⟩ => ⟨S4x256x1024, .f32⟩
  | .hbm, ⟨7, _⟩ => ⟨S4x256x1024, .f32⟩
  | .hbm, ⟨8, _⟩ => ⟨S4x256x4x256, .f32⟩
  | .hbm, ⟨9, _⟩ => ⟨S4x256x4x256, .f32⟩
  | .hbm, ⟨10, _⟩ => ⟨S4x4x2048x256, .f32⟩
  | .hbm, ⟨11, _⟩ => ⟨S_, .f32⟩
  | .hbm, ⟨12, _⟩ => ⟨S4x4x2048x256, .f32⟩
  | .hbm, ⟨13, _⟩ => ⟨S4x4x2048x256, .f32⟩
  | .hbm, ⟨14, _⟩ => ⟨S_, .f32⟩
  | .hbm, ⟨15, _⟩ => ⟨S4x4x2048, .f32⟩
  | .hbm, ⟨16, _⟩ => ⟨S_, .f32⟩
  | .hbm, ⟨17, _⟩ => ⟨S4x4x2048, .f32⟩
  | .hbm, ⟨18, _⟩ => ⟨S4x4x2048, .f32⟩
  | .hbm, ⟨19, _⟩ => ⟨S4x4x2048x1, .f32⟩
  | .hbm, ⟨20, _⟩ => ⟨S4x4x2048x256, .f32⟩
  | .hbm, ⟨21, _⟩ => ⟨S4x4x2048x256, .f32⟩
  | .hbm, ⟨22, _⟩ => ⟨S4x4x2048x256, .f32⟩
  | .hbm, ⟨23, _⟩ => ⟨S_, .f32⟩
  | .hbm, ⟨24, _⟩ => ⟨S4x4x2048, .f32⟩
  | .hbm, ⟨25, _⟩ => ⟨S4x4x2048x1, .f32⟩
  | .hbm, ⟨26, _⟩ => ⟨S4x4x2048x256, .f32⟩
  | .hbm, ⟨27, _⟩ => ⟨S4x4x2048x256, .f32⟩
  | .hbm, ⟨28, _⟩ => ⟨S4x4x256x2048, .f32⟩
  | .hbm, ⟨29, _⟩ => ⟨S4x2048x4x256, .f32⟩
  | .hbm, ⟨30, _⟩ => ⟨S8192x1024, .f32⟩
  | .hbm, ⟨31, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Rln.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S1x1024 : Shape := ⟨2, ![1, 1024]⟩
abbrev S8192x1 : Shape := ⟨2, ![8192, 1]⟩
abbrev S8192x4096 : Shape := ⟨2, ![8192, 4096]⟩
abbrev S512x1024 : Shape := ⟨2, ![512, 1024]⟩
abbrev S512x1 : Shape := ⟨2, ![512, 1]⟩
abbrev S512x4096 : Shape := ⟨2, ![512, 4096]⟩
abbrev S512 : Shape := ⟨1, ![512]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024x4096, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1, .f32⟩
  | .hbm, ⟨11, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S512x4096, .bf16⟩
  | .local _ .vmem, ⟨15, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RlnRefIdeal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024x4096, .bf16⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1024x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S1024x4096, .f32⟩
  | .hbm, ⟨66, _⟩ => ⟨S8192x4096, .f32⟩
  | .hbm, ⟨67, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Rlr.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S8192x1 : Shape := ⟨2, ![8192, 1]⟩
abbrev S512x4096 : Shape := ⟨2, ![512, 4096]⟩
abbrev S512x1024 : Shape := ⟨2, ![512, 1024]⟩
abbrev S512x1 : Shape := ⟨2, ![512, 1]⟩
abbrev S512 : Shape := ⟨1, ![512]⟩

abbrev nBuf : Space → Nat
  | .hbm => 10
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RlrRefIdeal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S4096x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Mxf.lean ====
abbrev S8192x2432 : Shape := ⟨2, ![8192, 2432]⟩
abbrev S31x384 : Shape := ⟨2, ![31, 384]⟩
abbrev S384 : Shape := ⟨1, ![384]⟩
abbrev S256 : Shape := ⟨1, ![256]⟩
abbrev S4x128x128 : Shape := ⟨3, ![4, 128, 128]⟩
abbrev S4x128 : Shape := ⟨2, ![4, 128]⟩
abbrev S3x384 : Shape := ⟨2, ![3, 384]⟩
abbrev S_ : Shape := ⟨0, ![]⟩
abbrev S128x128 : Shape := ⟨2, ![128, 128]⟩
abbrev S32x384 : Shape := ⟨2, ![32, 384]⟩
abbrev S1x384 : Shape := ⟨2, ![1, 384]⟩
abbrev S1x256 : Shape := ⟨2, ![1, 256]⟩
abbrev S1x128x128 : Shape := ⟨3, ![1, 128, 128]⟩
abbrev S128x4 : Shape := ⟨2, ![128, 4]⟩
abbrev S128x4x64 : Shape := ⟨3, ![128, 4, 64]⟩
abbrev S128x256 : Shape := ⟨2, ![128, 256]⟩
abbrev S8x384 : Shape := ⟨2, ![8, 384]⟩
abbrev S8192x1024 : Shape := ⟨2, ![8192, 1024]⟩
abbrev S8192x384 : Shape := ⟨2, ![8192, 384]⟩
abbrev S2048x2432 : Shape := ⟨2, ![2048, 2432]⟩
abbrev S2048x1024 : Shape := ⟨2, ![2048, 1024]⟩
abbrev S2048x384 : Shape := ⟨2, ![2048, 384]⟩
abbrev S2080x384 : Shape := ⟨2, ![2080, 384]⟩
abbrev S2056x384 : Shape := ⟨2, ![2056, 384]⟩
abbrev S128x384 : Shape := ⟨2, ![128, 384]⟩
abbrev S1x128 : Shape := ⟨2, ![1, 128]⟩
abbrev S136x128 : Shape := ⟨2, ![136, 128]⟩
abbrev S128 : Shape := ⟨1, ![128]⟩
abbrev S128x1 : Shape := ⟨2, ![128, 1]⟩

abbrev nBuf : Space → Nat
  | .hbm => 44
  | .vmem => 17
  | .smem => 0
  | _ => 0

abbrev bufTy : (tb : Table) → Fin (tcTables nBuf tb) → BufTy
  | .hbm, ⟨0, _⟩ => ⟨S8192x2432, .bf16⟩
  | .hbm, ⟨1, _⟩ => ⟨S31x384, .f32⟩
  | .hbm, ⟨2, _⟩ => ⟨S384, .f32⟩
  | .hbm, ⟨3, _⟩ => ⟨S384, .f32⟩
  | .hbm, ⟨4, _⟩ => ⟨S384, .f32⟩
  | .hbm, ⟨5, _⟩ => ⟨S256, .f32⟩
  | .hbm, ⟨6, _⟩ => ⟨S256, .f32⟩
  | .hbm, ⟨7, _⟩ => ⟨S4x128x128, .f32⟩
  | .hbm, ⟨8, _⟩ => ⟨S4x128, .f32⟩
  | .hbm, ⟨9, _⟩ => ⟨S3x384, .f32⟩
  | .hbm, ⟨10, _⟩ => ⟨S_, .i1⟩
  | .hbm, ⟨11, _⟩ => ⟨S128x128, .i1⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .i32⟩
  | .hbm, ⟨17, _⟩ => ⟨S128x128, .i1⟩
  | .hbm, ⟨18, _⟩ => ⟨S_, .i1⟩
  | .hbm, ⟨19, _⟩ => ⟨S128x128, .i1⟩
  | .hbm, ⟨20, _⟩ => ⟨S128x128, .i1⟩
  | .hbm, ⟨21, _⟩ => ⟨S_, .i32⟩
  | .hbm, ⟨22, _⟩ => ⟨S_, .f32⟩
  | .hbm, ⟨23, _⟩ => ⟨S32x384, .f32⟩
  | .hbm, ⟨24, _⟩ => ⟨S1x384, .f32⟩
  | .hbm, ⟨25, _⟩ => ⟨S1x384, .f32⟩
  | .hbm, ⟨26, _⟩ => ⟨S1x384, .f32⟩
  | .hbm, ⟨27, _⟩ => ⟨S1x256, .f32⟩
  | .hbm, ⟨28, _⟩ => ⟨S1x256, .f32⟩
  | .hbm, ⟨29, _⟩ => ⟨S1x128x128, .i1⟩
  | .hbm, ⟨30, _⟩ => ⟨S_, .f32⟩
  | .hbm, ⟨31, _⟩ => ⟨S_, .f32⟩
  | .hbm, ⟨32, _⟩ => ⟨S4x128x128, .i1⟩
  | .hbm, ⟨33, _⟩ => ⟨S4x128x128, .f32⟩
  | .hbm, ⟨34, _⟩ => ⟨S4x128x128, .f32⟩
  | .hbm, ⟨35, _⟩ => ⟨S4x128x128, .bf16⟩
  | .hbm, ⟨36, _⟩ => ⟨S128x4, .f32⟩
  | .hbm, ⟨37, _⟩ => ⟨S128x4x64, .f32⟩
  | .hbm, ⟨38, _⟩ => ⟨S128x256, .f32⟩
  | .hbm, ⟨39, _⟩ => ⟨S_, .i32⟩
  | .hbm, ⟨40, _⟩ => ⟨S_, .f32⟩
  | .hbm, ⟨41, _⟩ => ⟨S8x384, .f32⟩
  | .hbm, ⟨42, _⟩ => ⟨S8192x1024, .bf16⟩
  | .hbm, ⟨43, _⟩ => ⟨S8192x384, .f32⟩
  | .local _ .vmem, ⟨0, _⟩ => ⟨S2048x2432, .bf16⟩
  | .local _ .vmem, ⟨1, _⟩ => ⟨S2048x2432, .bf16⟩
  | .local _ .vmem, ⟨2, _⟩ => ⟨S32x384, .f32⟩
  | .local _ .vmem, ⟨3, _⟩ => ⟨S1x384, .f32⟩
  | .local _ .vmem, ⟨4, _⟩ => ⟨S1x384, .f32⟩
  | .local _ .vmem, ⟨5, _⟩ => ⟨S1x384, .f32⟩
  | .local _ .vmem, ⟨6, _⟩ => ⟨S1x256, .f32⟩
  | .local _ .vmem, ⟨7, _⟩ => ⟨S1x256, .f32⟩
  | .local _ .vmem, ⟨8, _⟩ => ⟨S4x128x128, .bf16⟩
  | .local _ .vmem, ⟨9, _⟩ => ⟨S128x256, .f32⟩
  | .local _ .vmem, ⟨10, _⟩ => ⟨S8x384, .f32⟩
  | .local _ .vmem, ⟨11, _⟩ => ⟨S2048x1024, .bf16⟩
  | .local _ .vmem, ⟨12, _⟩ => ⟨S2048x1024, .bf16⟩
  | .local _ .vmem, ⟨13, _⟩ => ⟨S2048x384, .f32⟩
  | .local _ .vmem, ⟨14, _⟩ => ⟨S2048x384, .f32⟩
  | .local _ .vmem, ⟨15, _⟩ => ⟨S2080x384, .f32⟩
  | .local _ .vmem, ⟨16, _⟩ => ⟨S2056x384, .f32⟩
  | _, _ => ⟨S8192x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_0 : Ref sig .tc := ⟨.hbm, 18, rfl⟩
abbrev main_call0_v5 : Ref sig .tc := ⟨.hbm, 19, rfl⟩
abbrev main_v1 : Ref sig .tc := ⟨.hbm, 20, rfl⟩
abbrev main_c_0 : Ref sig .tc := ⟨.hbm, 21, rfl⟩
abbrev main_call1_v0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_call3_v0 : Ref sig .tc := ⟨.hbm, 40, rfl⟩
abbrev main_v14 : Ref sig .tc := ⟨.hbm, 41, rfl⟩
abbrev main_v15_0 : Ref sig .tc := ⟨.hbm, 42, rfl⟩
abbrev main_v15_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_8 : BitVec 32 := 0#32
  let c16_i32 : BitVec 32 := 16#32
  let v33 : BitVec 32 := Scalar.addi c0_i32_8 c16_i32
  let c1_i32_9 : BitVec 32 := 1#32
  ⟨c0_i32_8, v33, c1_i32_9⟩
def k0_mult1 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  v34
def k0_off1 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v36 : Index := Scalar.indexCast v35
  let c0_11 : Index := 0#32
  ![v36.toNat, 0]
def k0_off2 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v39 : Index := Scalar.indexCast v35
  let c384 : Index := 384#32
  ![v39.toNat, 384]
def k0_off3 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c32_i32 : BitVec 32 := 32#32
  let v44 : BitVec 32 := Scalar.addi v35 c32_i32
  let v45 : Index := Scalar.indexCast v44
  let c0_12 : Index := 0#32
  ![v45.toNat, 0]
def k0_mult2 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32 : BitVec 32 := 8#32
  let v51 : BitVec 32 := Scalar.addi v35 c8_i32
  v51
def k0_off4 (k0_t1 : Fin k0_t1_loop.trips) (c8_i32 : BitVec 32) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v51 : BitVec 32 := Scalar.addi v35 c8_i32
  let v52 : BitVec 32 := v51
  let v53 : Index := Scalar.indexCast v52
  let c0_15 : Index := 0#32
  ![v53.toNat, 0]
def k0_mult3 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_17 : BitVec 32 := 16#32
  let v60 : BitVec 32 := Scalar.addi v35 c16_i32_17
  v60
def k0_mult4 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32 : BitVec 32 := 24#32
  let v69 : BitVec 32 := Scalar.addi v35 c24_i32
  v69
def k0_mult5 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c32_i32_22 : BitVec 32 := 32#32
  let v78 : BitVec 32 := Scalar.addi v35 c32_i32_22
  v78
def k0_mult6 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_26 : BitVec 32 := 8#32
  let v89 : BitVec 32 := Scalar.addi v35 c8_i32_26
  v89
def k0_off5 (k0_t1 : Fin k0_t1_loop.trips) (c8_i32_26 : BitVec 32) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v89 : BitVec 32 := Scalar.addi v35 c8_i32_26
  let v90 : BitVec 32 := v89
  let v91 : Index := Scalar.indexCast v90
  let c0_27 : Index := 0#32
  ![v91.toNat, 0]
def k0_mult7 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_29 : BitVec 32 := 16#32
  let v98 : BitVec 32 := Scalar.addi v35 c16_i32_29
  v98
def k0_mult8 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_32 : BitVec 32 := 24#32
  let v107 : BitVec 32 := Scalar.addi v35 c24_i32_32
  v107
def k0_mult9 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_36 : BitVec 32 := 0#32
  let v119 : BitVec 32 := Scalar.addi v35 c0_i32_36
  v119
def k0_mult10 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_40 : BitVec 32 := 8#32
  let v128 : BitVec 32 := Scalar.addi v35 c8_i32_40
  v128
def k0_mult11 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_43 : BitVec 32 := 16#32
  let v137 : BitVec 32 := Scalar.addi v35 c16_i32_43
  v137
def k0_mult12 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_46 : BitVec 32 := 24#32
  let v146 : BitVec 32 := Scalar.addi v35 c24_i32_46
  v146
def k0_mult13 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_50 : BitVec 32 := 0#32
  let v158 : BitVec 32 := Scalar.addi v35 c0_i32_50
  v158
def k0_mult14 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_53 : BitVec 32 := 8#32
  let v167 : BitVec 32 := Scalar.addi v35 c8_i32_53
  v167
def k0_mult15 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_56 : BitVec 32 := 16#32
  let v176 : BitVec 32 := Scalar.addi v35 c16_i32_56
  v176
def k0_mult16 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_59 : BitVec 32 := 24#32
  let v185 : BitVec 32 := Scalar.addi v35 c24_i32_59
  v185
def k0_mult17 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_63 : BitVec 32 := 0#32
  let v197 : BitVec 32 := Scalar.addi v35 c0_i32_63
  v197
def k0_mult18 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_66 : BitVec 32 := 8#32
  let v206 : BitVec 32 := Scalar.addi v35 c8_i32_66
  v206
def k0_mult19 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_69 : BitVec 32 := 16#32
  let v215 : BitVec 32 := Scalar.addi v35 c16_i32_69
  v215
def k0_mult20 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_72 : BitVec 32 := 24#32
  let v224 : BitVec 32 := Scalar.addi v35 c24_i32_72
  v224
def k0_mult21 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_76 : BitVec 32 := 0#32
  let v236 : BitVec 32 := Scalar.addi v35 c0_i32_76
  v236
def k0_mult22 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_79 : BitVec 32 := 8#32
  let v245 : BitVec 32 := Scalar.addi v35 c8_i32_79
  v245
def k0_mult23 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_82 : BitVec 32 := 16#32
  let v254 : BitVec 32 := Scalar.addi v35 c16_i32_82
  v254
def k0_mult24 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_85 : BitVec 32 := 24#32
  let v263 : BitVec 32 := Scalar.addi v35 c24_i32_85
  v263
def k0_mult25 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_89 : BitVec 32 := 0#32
  let v275 : BitVec 32 := Scalar.addi v35 c0_i32_89
  v275
def k0_mult26 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_92 : BitVec 32 := 8#32
  let v284 : BitVec 32 := Scalar.addi v35 c8_i32_92
  v284
def k0_mult27 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_95 : BitVec 32 := 16#32
  let v293 : BitVec 32 := Scalar.addi v35 c16_i32_95
  v293
def k0_mult28 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_98 : BitVec 32 := 24#32
  let v302 : BitVec 32 := Scalar.addi v35 c24_i32_98
  v302
def k0_mult29 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_102 : BitVec 32 := 0#32
  let v314 : BitVec 32 := Scalar.addi v35 c0_i32_102
  v314
def k0_mult30 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_105 : BitVec 32 := 8#32
  let v323 : BitVec 32 := Scalar.addi v35 c8_i32_105
  v323
def k0_mult31 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_108 : BitVec 32 := 16#32
  let v332 : BitVec 32 := Scalar.addi v35 c16_i32_108
  v332
def k0_mult32 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_111 : BitVec 32 := 24#32
  let v341 : BitVec 32 := Scalar.addi v35 c24_i32_111
  v341
def k0_mult33 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_116 : BitVec 32 := 8#32
  let v354 : BitVec 32 := Scalar.addi v35 c8_i32_116
  v354
def k0_off6 (k0_t1 : Fin k0_t1_loop.trips) (c8_i32_116 : BitVec 32) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v354 : BitVec 32 := Scalar.addi v35 c8_i32_116
  let v355 : BitVec 32 := v354
  let v356 : Index := Scalar.indexCast v355
  let c128 : Index := 128#32
  ![v356.toNat, 128]
def k0_mult34 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_119 : BitVec 32 := 16#32
  let v363 : BitVec 32 := Scalar.addi v35 c16_i32_119
  v363
def k0_mult35 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_123 : BitVec 32 := 24#32
  let v372 : BitVec 32 := Scalar.addi v35 c24_i32_123
  v372
def k0_mult36 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c32_i32_127 : BitVec 32 := 32#32
  let v381 : BitVec 32 := Scalar.addi v35 c32_i32_127
  v381
def k0_mult37 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_132 : BitVec 32 := 8#32
  let v392 : BitVec 32 := Scalar.addi v35 c8_i32_132
  v392
def k0_off7 (k0_t1 : Fin k0_t1_loop.trips) (c8_i32_132 : BitVec 32) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v392 : BitVec 32 := Scalar.addi v35 c8_i32_132
  let v393 : BitVec 32 := v392
  let v394 : Index := Scalar.indexCast v393
  let c128_133 : Index := 128#32
  ![v394.toNat, 128]
def k0_mult38 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_136 : BitVec 32 := 16#32
  let v401 : BitVec 32 := Scalar.addi v35 c16_i32_136
  v401
def k0_mult39 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_140 : BitVec 32 := 24#32
  let v410 : BitVec 32 := Scalar.addi v35 c24_i32_140
  v410
def k0_mult40 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_145 : BitVec 32 := 0#32
  let v422 : BitVec 32 := Scalar.addi v35 c0_i32_145
  v422
def k0_mult41 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_149 : BitVec 32 := 8#32
  let v431 : BitVec 32 := Scalar.addi v35 c8_i32_149
  v431
def k0_mult42 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_153 : BitVec 32 := 16#32
  let v440 : BitVec 32 := Scalar.addi v35 c16_i32_153
  v440
def k0_mult43 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_157 : BitVec 32 := 24#32
  let v449 : BitVec 32 := Scalar.addi v35 c24_i32_157
  v449
def k0_mult44 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_162 : BitVec 32 := 0#32
  let v461 : BitVec 32 := Scalar.addi v35 c0_i32_162
  v461
def k0_mult45 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_166 : BitVec 32 := 8#32
  let v470 : BitVec 32 := Scalar.addi v35 c8_i32_166
  v470
def k0_mult46 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_170 : BitVec 32 := 16#32
  let v479 : BitVec 32 := Scalar.addi v35 c16_i32_170
  v479
def k0_mult47 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_174 : BitVec 32 := 24#32
  let v488 : BitVec 32 := Scalar.addi v35 c24_i32_174
  v488
def k0_mult48 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_179 : BitVec 32 := 0#32
  let v500 : BitVec 32 := Scalar.addi v35 c0_i32_179
  v500
def k0_mult49 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_183 : BitVec 32 := 8#32
  let v509 : BitVec 32 := Scalar.addi v35 c8_i32_183
  v509
def k0_mult50 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_187 : BitVec 32 := 16#32
  let v518 : BitVec 32 := Scalar.addi v35 c16_i32_187
  v518
def k0_mult51 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_191 : BitVec 32 := 24#32
  let v527 : BitVec 32 := Scalar.addi v35 c24_i32_191
  v527
def k0_mult52 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_196 : BitVec 32 := 0#32
  let v539 : BitVec 32 := Scalar.addi v35 c0_i32_196
  v539
def k0_mult53 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_200 : BitVec 32 := 8#32
  let v548 : BitVec 32 := Scalar.addi v35 c8_i32_200
  v548
def k0_mult54 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_204 : BitVec 32 := 16#32
  let v557 : BitVec 32 := Scalar.addi v35 c16_i32_204
  v557
def k0_mult55 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_208 : BitVec 32 := 24#32
  let v566 : BitVec 32 := Scalar.addi v35 c24_i32_208
  v566
def k0_mult56 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_213 : BitVec 32 := 0#32
  let v578 : BitVec 32 := Scalar.addi v35 c0_i32_213
  v578
def k0_mult57 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_217 : BitVec 32 := 8#32
  let v587 : BitVec 32 := Scalar.addi v35 c8_i32_217
  v587
def k0_mult58 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_221 : BitVec 32 := 16#32
  let v596 : BitVec 32 := Scalar.addi v35 c16_i32_221
  v596
def k0_mult59 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_225 : BitVec 32 := 24#32
  let v605 : BitVec 32 := Scalar.addi v35 c24_i32_225
  v605
def k0_mult60 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_230 : BitVec 32 := 0#32
  let v617 : BitVec 32 := Scalar.addi v35 c0_i32_230
  v617
def k0_mult61 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_234 : BitVec 32 := 8#32
  let v626 : BitVec 32 := Scalar.addi v35 c8_i32_234
  v626
def k0_mult62 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_238 : BitVec 32 := 16#32
  let v635 : BitVec 32 := Scalar.addi v35 c16_i32_238
  v635
def k0_mult63 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_242 : BitVec 32 := 24#32
  let v644 : BitVec 32 := Scalar.addi v35 c24_i32_242
  v644
def k0_mult64 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_248 : BitVec 32 := 8#32
  let v657 : BitVec 32 := Scalar.addi v35 c8_i32_248
  v657
def k0_off8 (k0_t1 : Fin k0_t1_loop.trips) (c8_i32_248 : BitVec 32) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v657 : BitVec 32 := Scalar.addi v35 c8_i32_248
  let v658 : BitVec 32 := v657
  let v659 : Index := Scalar.indexCast v658
  let c256 : Index := 256#32
  ![v659.toNat, 256]
def k0_mult65 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_251 : BitVec 32 := 16#32
  let v666 : BitVec 32 := Scalar.addi v35 c16_i32_251
  v666
def k0_mult66 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_255 : BitVec 32 := 24#32
  let v675 : BitVec 32 := Scalar.addi v35 c24_i32_255
  v675
def k0_mult67 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c32_i32_259 : BitVec 32 := 32#32
  let v684 : BitVec 32 := Scalar.addi v35 c32_i32_259
  v684
def k0_mult68 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_264 : BitVec 32 := 8#32
  let v695 : BitVec 32 := Scalar.addi v35 c8_i32_264
  v695
def k0_off9 (k0_t1 : Fin k0_t1_loop.trips) (c8_i32_264 : BitVec 32) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v695 : BitVec 32 := Scalar.addi v35 c8_i32_264
  let v696 : BitVec 32 := v695
  let v697 : Index := Scalar.indexCast v696
  let c256_265 : Index := 256#32
  ![v697.toNat, 256]
def k0_mult69 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_268 : BitVec 32 := 16#32
  let v704 : BitVec 32 := Scalar.addi v35 c16_i32_268
  v704
def k0_mult70 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_272 : BitVec 32 := 24#32
  let v713 : BitVec 32 := Scalar.addi v35 c24_i32_272
  v713
def k0_mult71 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_277 : BitVec 32 := 0#32
  let v725 : BitVec 32 := Scalar.addi v35 c0_i32_277
  v725
def k0_mult72 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_281 : BitVec 32 := 8#32
  let v734 : BitVec 32 := Scalar.addi v35 c8_i32_281
  v734
def k0_mult73 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_285 : BitVec 32 := 16#32
  let v743 : BitVec 32 := Scalar.addi v35 c16_i32_285
  v743
def k0_mult74 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_289 : BitVec 32 := 24#32
  let v752 : BitVec 32 := Scalar.addi v35 c24_i32_289
  v752
def k0_mult75 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_294 : BitVec 32 := 0#32
  let v764 : BitVec 32 := Scalar.addi v35 c0_i32_294
  v764
def k0_mult76 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_298 : BitVec 32 := 8#32
  let v773 : BitVec 32 := Scalar.addi v35 c8_i32_298
  v773
def k0_mult77 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_302 : BitVec 32 := 16#32
  let v782 : BitVec 32 := Scalar.addi v35 c16_i32_302
  v782
def k0_mult78 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_306 : BitVec 32 := 24#32
  let v791 : BitVec 32 := Scalar.addi v35 c24_i32_306
  v791
def k0_mult79 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_311 : BitVec 32 := 0#32
  let v803 : BitVec 32 := Scalar.addi v35 c0_i32_311
  v803
def k0_mult80 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_315 : BitVec 32 := 8#32
  let v812 : BitVec 32 := Scalar.addi v35 c8_i32_315
  v812
def k0_mult81 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_319 : BitVec 32 := 16#32
  let v821 : BitVec 32 := Scalar.addi v35 c16_i32_319
  v821
def k0_mult82 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_323 : BitVec 32 := 24#32
  let v830 : BitVec 32 := Scalar.addi v35 c24_i32_323
  v830
def k0_mult83 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_328 : BitVec 32 := 0#32
  let v842 : BitVec 32 := Scalar.addi v35 c0_i32_328
  v842
def k0_mult84 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_332 : BitVec 32 := 8#32
  let v851 : BitVec 32 := Scalar.addi v35 c8_i32_332
  v851
def k0_mult85 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_336 : BitVec 32 := 16#32
  let v860 : BitVec 32 := Scalar.addi v35 c16_i32_336
  v860
def k0_mult86 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_340 : BitVec 32 := 24#32
  let v869 : BitVec 32 := Scalar.addi v35 c24_i32_340
  v869
def k0_mult87 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_345 : BitVec 32 := 0#32
  let v881 : BitVec 32 := Scalar.addi v35 c0_i32_345
  v881
def k0_mult88 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_349 : BitVec 32 := 8#32
  let v890 : BitVec 32 := Scalar.addi v35 c8_i32_349
  v890
def k0_mult89 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_353 : BitVec 32 := 16#32
  let v899 : BitVec 32 := Scalar.addi v35 c16_i32_353
  v899
def k0_mult90 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_357 : BitVec 32 := 24#32
  let v908 : BitVec 32 := Scalar.addi v35 c24_i32_357
  v908
def k0_mult91 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_362 : BitVec 32 := 0#32
  let v920 : BitVec 32 := Scalar.addi v35 c0_i32_362
  v920
def k0_mult92 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_366 : BitVec 32 := 8#32
  let v929 : BitVec 32 := Scalar.addi v35 c8_i32_366
  v929
def k0_mult93 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c16_i32_370 : BitVec 32 := 16#32
  let v938 : BitVec 32 := Scalar.addi v35 c16_i32_370
  v938
def k0_mult94 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c24_i32_374 : BitVec 32 := 24#32
  let v947 : BitVec 32 := Scalar.addi v35 c24_i32_374
  v947
def k0_off10 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v963 : Index := Scalar.indexCast v35
  let c0_380 : Index := 0#32
  ![v963.toNat, 0]
def k0_off11 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v992 : Index := Scalar.indexCast v35
  let c0_390 : Index := 0#32
  ![v992.toNat, 0]
def k0_off12 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v994 : Index := Scalar.indexCast v35
  let c768 : Index := 768#32
  ![v994.toNat, 768]
def k0_off13 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v1005 : Index := Scalar.indexCast v35
  let c1024 : Index := 1024#32
  ![v1005.toNat, 1024]
def k0_off14 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v1079 : Index := Scalar.indexCast v35
  let c384_427 : Index := 384#32
  ![v1079.toNat, 384]
def k0_off15 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v1081 : Index := Scalar.indexCast v35
  let c1664 : Index := 1664#32
  ![v1081.toNat, 1664]
def k0_off16 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v1084 : Index := Scalar.indexCast v35
  let c2048 : Index := 2048#32
  ![v1084.toNat, 2048]
def k0_off17 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_428 : BitVec 32 := 8#32
  let v1088 : BitVec 32 := Scalar.addi v35 c8_i32_428
  let v1089 : Index := Scalar.indexCast v1088
  let c0_429 : Index := 0#32
  ![v1089.toNat, 0]
def k0_mult95 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_432 : BitVec 32 := 8#32
  let v1095 : BitVec 32 := Scalar.addi v35 c8_i32_432
  v1095
def k0_off18 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_432 : BitVec 32 := 8#32
  let v1095 : BitVec 32 := Scalar.addi v35 c8_i32_432
  let v1096 : BitVec 32 := v1095
  let v1097 : Index := Scalar.indexCast v1096
  let c0_433 : Index := 0#32
  ![v1097.toNat, 0]
def k0_mult96 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_437 : BitVec 32 := 0#32
  let v1106 : BitVec 32 := Scalar.addi v35 c0_i32_437
  v1106
def k0_off19 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_437 : BitVec 32 := 0#32
  let v1106 : BitVec 32 := Scalar.addi v35 c0_i32_437
  let v1107 : BitVec 32 := v1106
  let v1108 : Index := Scalar.indexCast v1107
  let c0_438 : Index := 0#32
  ![v1108.toNat, 0]
def k0_mult97 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_442 : BitVec 32 := 0#32
  let v1118 : BitVec 32 := Scalar.addi v35 c0_i32_442
  v1118
def k0_mult98 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_448 : BitVec 32 := 8#32
  let v1131 : BitVec 32 := Scalar.addi v35 c8_i32_448
  v1131
def k0_off20 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_448 : BitVec 32 := 8#32
  let v1131 : BitVec 32 := Scalar.addi v35 c8_i32_448
  let v1132 : BitVec 32 := v1131
  let v1133 : Index := Scalar.indexCast v1132
  let c128_449 : Index := 128#32
  ![v1133.toNat, 128]
def k0_mult99 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_453 : BitVec 32 := 0#32
  let v1142 : BitVec 32 := Scalar.addi v35 c0_i32_453
  v1142
def k0_off21 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_453 : BitVec 32 := 0#32
  let v1142 : BitVec 32 := Scalar.addi v35 c0_i32_453
  let v1143 : BitVec 32 := v1142
  let v1144 : Index := Scalar.indexCast v1143
  let c128_454 : Index := 128#32
  ![v1144.toNat, 128]
def k0_mult100 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_458 : BitVec 32 := 0#32
  let v1154 : BitVec 32 := Scalar.addi v35 c0_i32_458
  v1154
def k0_mult101 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_464 : BitVec 32 := 8#32
  let v1167 : BitVec 32 := Scalar.addi v35 c8_i32_464
  v1167
def k0_off22 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c8_i32_464 : BitVec 32 := 8#32
  let v1167 : BitVec 32 := Scalar.addi v35 c8_i32_464
  let v1168 : BitVec 32 := v1167
  let v1169 : Index := Scalar.indexCast v1168
  let c256_465 : Index := 256#32
  ![v1169.toNat, 256]
def k0_mult102 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_469 : BitVec 32 := 0#32
  let v1178 : BitVec 32 := Scalar.addi v35 c0_i32_469
  v1178
def k0_off23 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_469 : BitVec 32 := 0#32
  let v1178 : BitVec 32 := Scalar.addi v35 c0_i32_469
  let v1179 : BitVec 32 := v1178
  let v1180 : Index := Scalar.indexCast v1179
  let c256_470 : Index := 256#32
  ![v1180.toNat, 256]
def k0_mult103 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let c0_i32_474 : BitVec 32 := 0#32
  let v1190 : BitVec 32 := Scalar.addi v35 c0_i32_474
  v1190
def k0_off24 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v1202 : Index := Scalar.indexCast v35
  let c1280 : Index := 1280#32
  ![v1202.toNat, 1280]
def k0_off25 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c128_i32 : BitVec 32 := 128#32
  let v34 : BitVec 32 := Scalar.muli arg15 c128_i32
  let v35 : BitVec 32 := v34
  let v1207 : Index := Scalar.indexCast v35
  let c640 : Index := 640#32
  ![v1207.toNat, 640]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MxfRefIdeal.lean ====
abbrev S8192x2432 : Shape := ⟨2, ![8192, 2432]⟩
abbrev S31x384 : Shape := ⟨2, ![31, 384]⟩
abbrev S384 : Shape := ⟨1, ![384]⟩
abbrev S256 : Shape := ⟨1, ![256]⟩
abbrev S4x128x128 : Shape := ⟨3, ![4, 128, 128]⟩
abbrev S4x128 : Shape := ⟨2, ![4, 128]⟩
abbrev S3x384 : Shape := ⟨2, ![3, 384]⟩
abbrev S4x2048x2432 : Shape := ⟨3, ![4, 2048, 2432]⟩
abbrev S4x2048x384 : Shape := ⟨3, ![4, 2048, 384]⟩
abbrev S_ : Shape := ⟨0, ![]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S4x30x384 : Shape := ⟨3, ![4, 30, 384]⟩
abbrev S4x2078x384 : Shape := ⟨3, ![4, 2078, 384]⟩
abbrev S2048x31x1 : Shape := ⟨3, ![2048, 31, 1]⟩
abbrev S4x2048x31x384 : Shape := ⟨4, ![4, 2048, 31, 384]⟩
abbrev S1x1x31x384 : Shape := ⟨4, ![1, 1, 31, 384]⟩
abbrev S1x1x384 : Shape := ⟨3, ![1, 1, 384]⟩
abbrev S4x2048x256 : Shape := ⟨3, ![4, 2048, 256]⟩
abbrev S4x2048 : Shape := ⟨2, ![4, 2048]⟩
abbrev S4x2048x1 : Shape := ⟨3, ![4, 2048, 1]⟩
abbrev S1x1x256 : Shape := ⟨3, ![1, 1, 256]⟩
abbrev S4x16x128x4x64 : Shape := ⟨5, ![4, 16, 128, 4, 64]⟩
abbrev S128x128 : Shape := ⟨2, ![128, 128]⟩
abbrev S1x128x128 : Shape := ⟨3, ![1, 128, 128]⟩
abbrev S4x4x16x64x128 : Shape := ⟨5, ![4, 4, 16, 64, 128]⟩
abbrev S128x4 : Shape := ⟨2, ![128, 4]⟩
abbrev S1x1x128x4x1 : Shape := ⟨5, ![1, 1, 128, 4, 1]⟩
abbrev S3 : Shape := ⟨1, ![3]⟩
abbrev S1x3 : Shape := ⟨2, ![1, 3]⟩
abbrev S2048x3 : Shape := ⟨2, ![2048, 3]⟩
abbrev S4x2x384 : Shape := ⟨3, ![4, 2, 384]⟩
abbrev S4x2050x384 : Shape := ⟨3, ![4, 2050, 384]⟩
abbrev S2048x3x1 : Shape := ⟨3, ![2048, 3, 1]⟩
abbrev S4x2048x3x384 : Shape := ⟨4, ![4, 2048, 3, 384]⟩
abbrev S1x1x3x384 : Shape := ⟨4, ![1, 1, 3, 384]⟩
abbrev S4x2048x1024 : Shape := ⟨3, ![4, 2048, 1024]⟩
abbrev S8192x1024 : Shape := ⟨2, ![8192, 1024]⟩
abbrev S8192x384 : Shape := ⟨2, ![8192, 384]⟩

abbrev nBuf : Space → Nat
  | .hbm => 233
  | .vmem => 0
  | .smem => 0
  | _ => 0

abbrev hbmTy0_0 (i : Nat) : BufTy := match i % 128 with
  | 0 => ⟨S8192x2432, .bf16⟩
  | 1 => ⟨S31x384, .f32⟩
  | 2 => ⟨S384, .f32⟩
  | 3 => ⟨S384, .f32⟩
  | 4 => ⟨S384, .f32⟩
  | 5 => ⟨S256, .f32⟩
  | 6 => ⟨S256, .f32⟩
  | 7 => ⟨S4x128x128, .f32⟩
  | 8 => ⟨S4x128, .f32⟩
  | 9 => ⟨S3x384, .f32⟩
  | 10 => ⟨S8192x2432, .f32⟩
  | 11 => ⟨S4x2048x2432, .f32⟩
  | 12 => ⟨S4x2048x384, .f32⟩
  | 13 => ⟨S4x2048x384, .f32⟩
  | 14 => ⟨S4x2048x384, .f32⟩
  | 15 => ⟨S4x2048x384, .f32⟩
  | 16 => ⟨S_, .f32⟩
  | 17 => ⟨S4x2048x384, .f32⟩
  | 18 => ⟨S4x2048x384, .f32⟩
  | 19 => ⟨S_, .f32⟩
  | 20 => ⟨S4x2048x384, .f32⟩
  | 21 => ⟨S4x2048x384, .f32⟩
  | 22 => ⟨S4x2048x384, .f32⟩
  | 23 => ⟨S2048, .i32⟩
  | 24 => ⟨S2048x1, .i32⟩
  | 25 => ⟨S31, .i32⟩
  | 26 => ⟨S1x31, .i32⟩
  | 27 => ⟨S2048x31, .i32⟩
  | 28 => ⟨S2048x31, .i32⟩
  | 29 => ⟨S2048x31, .i32⟩
  | 30 => ⟨S_, .f32⟩
  | 31 => ⟨S4x30x384, .f32⟩
  | 32 => ⟨S4x2078x384, .f32⟩
  | 33 => ⟨S_, .i32⟩
  | 34 => ⟨S2048x31, .i32⟩
  | 35 => ⟨S2048x31, .i1⟩
  | 36 => ⟨S_, .i32⟩
  | 37 => ⟨S2048x31, .i32⟩
  | 38 => ⟨S2048x31, .i32⟩
  | 39 => ⟨S2048x31, .i32⟩
  | 40 => ⟨S2048x31x1, .i32⟩
  | 41 => ⟨S4x2048x31x384, .f32⟩
  | 42 => ⟨S1x1x31x384, .f32⟩
  | 43 => ⟨S4x2048x31x384, .f32⟩
  | 44 => ⟨S4x2048x31x384, .f32⟩
  | 45 => ⟨S_, .f32⟩
  | 46 => ⟨S4x2048x384, .f32⟩
  | 47 => ⟨S1x1x384, .f32⟩
  | 48 => ⟨S4x2048x384, .f32⟩
  | 49 => ⟨S4x2048x384, .f32⟩
  | 50 => ⟨S4x2048x384, .f32⟩
  | 51 => ⟨S4x2048x384, .f32⟩
  | 52 => ⟨S4x2048x256, .f32⟩
  | 53 => ⟨S4x2048x256, .f32⟩
  | 54 => ⟨S4x2048x384, .f32⟩
  | 55 => ⟨S4x2048x384, .f32⟩
  | 56 => ⟨S4x2048x384, .f32⟩
  | 57 => ⟨S4x2048x384, .f32⟩
  | 58 => ⟨S4x2048x384, .f32⟩
  | 59 => ⟨S_, .f32⟩
  | 60 => ⟨S4x2048x384, .f32⟩
  | 61 => ⟨S4x2048x384, .f32⟩
  | 62 => ⟨S_, .f32⟩
  | 63 => ⟨S4x2048x384, .f32⟩
  | 64 => ⟨S4x2048x384, .f32⟩
  | 65 => ⟨S4x2048x384, .f32⟩
  | 66 => ⟨S2048, .i32⟩
  | 67 => ⟨S2048x1, .i32⟩
  | 68 => ⟨S31, .i32⟩
  | 69 => ⟨S1x31, .i32⟩
  | 70 => ⟨S2048x31, .i32⟩
  | 71 => ⟨S2048x31, .i32⟩
  | 72 => ⟨S2048x31, .i32⟩
  | 73 => ⟨S_, .f32⟩
  | 74 => ⟨S4x30x384, .f32⟩
  | 75 => ⟨S4x2078x384, .f32⟩
  | 76 => ⟨S_, .i32⟩
  | 77 => ⟨S2048x31, .i32⟩
  | 78 => ⟨S2048x31, .i1⟩
  | 79 => ⟨S_, .i32⟩
  | 80 => ⟨S2048x31, .i32⟩
  | 81 => ⟨S2048x31, .i32⟩
  | 82 => ⟨S2048x31, .i32⟩
  | 83 => ⟨S2048x31x1, .i32⟩
  | 84 => ⟨S4x2048x31x384, .f32⟩
  | 85 => ⟨S1x1x31x384, .f32⟩
  | 86 => ⟨S4x2048x31x384, .f32⟩
  | 87 => ⟨S4x2048x31x384, .f32⟩
  | 88 => ⟨S_, .f32⟩
  | 89 => ⟨S4x2048x384, .f32⟩
  | 90 => ⟨S1x1x384, .f32⟩
  | 91 => ⟨S4x2048x384, .f32⟩
  | 92 => ⟨S4x2048x384, .f32⟩
  | 93 => ⟨S_, .f32⟩
  | 94 => ⟨S4x2048, .f32⟩
  | 95 => ⟨S4x2048x1, .f32⟩
  | 96 => ⟨S_, .f32⟩
  | 97 => ⟨S4x2048x1, .f32⟩
  | 98 => ⟨S4x2048x1, .f32⟩
  | 99 => ⟨S4x2048x384, .f32⟩
  | 100 => ⟨S4x2048x384, .f32⟩
  | 101 => ⟨S4x2048x384, .f32⟩
  | 102 => ⟨S_, .f32⟩
  | 103 => ⟨S4x2048, .f32⟩
  | 104 => ⟨S4x2048x1, .f32⟩
  | 105 => ⟨S_, .f32⟩
  | 106 => ⟨S4x2048x1, .f32⟩
  | 107 => ⟨S4x2048x1, .f32⟩
  | 108 => ⟨S4x2048x384, .f32⟩
  | 109 => ⟨S4x2048x384, .f32⟩
  | 110 => ⟨S_, .f32⟩
  | 111 => ⟨S4x2048x1, .f32⟩
  | 112 => ⟨S4x2048x1, .f32⟩
  | 113 => ⟨S4x2048x1, .f32⟩
  | 114 => ⟨S4x2048x384, .f32⟩
  | 115 => ⟨S4x2048x384, .f32⟩
  | 116 => ⟨S1x1x384, .f32⟩
  | 117 => ⟨S4x2048x384, .f32⟩
  | 118 => ⟨S4x2048x384, .f32⟩
  | 119 => ⟨S1x1x384, .f32⟩
  | 120 => ⟨S4x2048x384, .f32⟩
  | 121 => ⟨S4x2048x384, .f32⟩
  | 122 => ⟨S4x2048x384, .f32⟩
  | 123 => ⟨S4x2048x384, .f32⟩
  | 124 => ⟨S_, .f32⟩
  | 125 => ⟨S4x2048x384, .f32⟩
  | 126 => ⟨S4x2048x384, .f32⟩
  | 127 => ⟨S_, .f32⟩
  | _ => ⟨S8192x2432, .bf16⟩

abbrev hbmTy0_1 (i : Nat) : BufTy := match i % 128 with
  | 0 => ⟨S4x2048x384, .f32⟩
  | 1 => ⟨S4x2048x384, .f32⟩
  | 2 => ⟨S4x2048x384, .f32⟩
  | 3 => ⟨S_, .f32⟩
  | 4 => ⟨S4x2048x256, .f32⟩
  | 5 => ⟨S4x2048x256, .f32⟩
  | 6 => ⟨S4x2048x256, .f32⟩
  | 7 => ⟨S_, .f32⟩
  | 8 => ⟨S4x2048x256, .f32⟩
  | 9 => ⟨S4x2048x256, .f32⟩
  | 10 => ⟨S4x2048x256, .f32⟩
  | 11 => ⟨S4x2048x256, .f32⟩
  | 12 => ⟨S_, .f32⟩
  | 13 => ⟨S4x2048x256, .f32⟩
  | 14 => ⟨S4x2048x256, .f32⟩
  | 15 => ⟨S4x2048x256, .f32⟩
  | 16 => ⟨S_, .f32⟩
  | 17 => ⟨S4x2048x256, .f32⟩
  | 18 => ⟨S4x2048x256, .f32⟩
  | 19 => ⟨S4x2048x256, .f32⟩
  | 20 => ⟨S4x2048x256, .f32⟩
  | 21 => ⟨S_, .f32⟩
  | 22 => ⟨S4x2048, .f32⟩
  | 23 => ⟨S4x2048x1, .f32⟩
  | 24 => ⟨S_, .f32⟩
  | 25 => ⟨S4x2048x1, .f32⟩
  | 26 => ⟨S4x2048x1, .f32⟩
  | 27 => ⟨S4x2048x256, .f32⟩
  | 28 => ⟨S4x2048x256, .f32⟩
  | 29 => ⟨S4x2048x256, .f32⟩
  | 30 => ⟨S_, .f32⟩
  | 31 => ⟨S4x2048, .f32⟩
  | 32 => ⟨S4x2048x1, .f32⟩
  | 33 => ⟨S_, .f32⟩
  | 34 => ⟨S4x2048x1, .f32⟩
  | 35 => ⟨S4x2048x1, .f32⟩
  | 36 => ⟨S4x2048x256, .f32⟩
  | 37 => ⟨S4x2048x256, .f32⟩
  | 38 => ⟨S_, .f32⟩
  | 39 => ⟨S4x2048x1, .f32⟩
  | 40 => ⟨S4x2048x1, .f32⟩
  | 41 => ⟨S4x2048x1, .f32⟩
  | 42 => ⟨S4x2048x256, .f32⟩
  | 43 => ⟨S4x2048x256, .f32⟩
  | 44 => ⟨S1x1x256, .f32⟩
  | 45 => ⟨S4x2048x256, .f32⟩
  | 46 => ⟨S4x2048x256, .f32⟩
  | 47 => ⟨S1x1x256, .f32⟩
  | 48 => ⟨S4x2048x256, .f32⟩
  | 49 => ⟨S4x2048x256, .f32⟩
  | 50 => ⟨S4x16x128x4x64, .f32⟩
  | 51 => ⟨S_, .i1⟩
  | 52 => ⟨S128x128, .i1⟩
  | 53 => ⟨S128x128, .i32⟩
  | 54 => ⟨S_, .i32⟩
  | 55 => ⟨S128x128, .i32⟩
  | 56 => ⟨S128x128, .i32⟩
  | 57 => ⟨S128x128, .i32⟩
  | 58 => ⟨S128x128, .i1⟩
  | 59 => ⟨S_, .i1⟩
  | 60 => ⟨S128x128, .i1⟩
  | 61 => ⟨S128x128, .i1⟩
  | 62 => ⟨S1x128x128, .i1⟩
  | 63 => ⟨S_, .f32⟩
  | 64 => ⟨S4x128x128, .f32⟩
  | 65 => ⟨S4x128x128, .i1⟩
  | 66 => ⟨S4x128x128, .f32⟩
  | 67 => ⟨S4x4x16x64x128, .f32⟩
  | 68 => ⟨S4x16x128x4x64, .f32⟩
  | 69 => ⟨S128x4, .f32⟩
  | 70 => ⟨S1x1x128x4x1, .f32⟩
  | 71 => ⟨S4x16x128x4x64, .f32⟩
  | 72 => ⟨S4x16x128x4x64, .f32⟩
  | 73 => ⟨S4x2048x256, .f32⟩
  | 74 => ⟨S4x2048x256, .f32⟩
  | 75 => ⟨S4x2048x384, .f32⟩
  | 76 => ⟨S2048, .i32⟩
  | 77 => ⟨S2048x1, .i32⟩
  | 78 => ⟨S3, .i32⟩
  | 79 => ⟨S1x3, .i32⟩
  | 80 => ⟨S2048x3, .i32⟩
  | 81 => ⟨S2048x3, .i32⟩
  | 82 => ⟨S2048x3, .i32⟩
  | 83 => ⟨S_, .f32⟩
  | 84 => ⟨S4x2x384, .f32⟩
  | 85 => ⟨S4x2050x384, .f32⟩
  | 86 => ⟨S_, .i32⟩
  | 87 => ⟨S2048x3, .i32⟩
  | 88 => ⟨S2048x3, .i1⟩
  | 89 => ⟨S_, .i32⟩
  | 90 => ⟨S2048x3, .i32⟩
  | 91 => ⟨S2048x3, .i32⟩
  | 92 => ⟨S2048x3, .i32⟩
  | 93 => ⟨S2048x3x1, .i32⟩
  | 94 => ⟨S4x2048x3x384, .f32⟩
  | 95 => ⟨S1x1x3x384, .f32⟩
  | 96 => ⟨S4x2048x3x384, .f32⟩
  | 97 => ⟨S4x2048x3x384, .f32⟩
  | 98 => ⟨S_, .f32⟩
  | 99 => ⟨S4x2048x384, .f32⟩
  | 100 => ⟨S4x2048x384, .f32⟩
  | 101 => ⟨S4x2048x1024, .f32⟩
  | 102 => ⟨S8192x1024, .f32⟩
  | 103 => ⟨S8192x1024, .bf16⟩
  | 104 => ⟨S8192x384, .f32⟩
  | _ => ⟨S8192x2432, .bf16⟩

abbrev hbmTy (i : Nat) : BufTy := match i / 128 with
  | 0 => hbmTy0_0 i
  | 1 => hbmTy0_1 i
  | _ => ⟨S8192x2432, .bf16⟩

abbrev bufTy : (tb : Table) → Fin (tcTables nBuf tb) → BufTy
  | .hbm, ⟨i, _⟩ => hbmTy i
  | _, _ => ⟨S8192x2432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_v56 : Ref sig .tc := ⟨.hbm, 75, rfl⟩
abbrev main_c_7 : Ref sig .tc := ⟨.hbm, 76, rfl⟩
abbrev main_v57 : Ref sig .tc := ⟨.hbm, 77, rfl⟩
abbrev main_v58 : Ref sig .tc := ⟨.hbm, 78, rfl⟩
abbrev main_c_8 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_9 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_10 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev main_cst_13 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_14 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_call0_v0 : Ref sig .tc := ⟨.hbm, 122, rfl⟩
abbrev main_call0_v1 : Ref sig .tc := ⟨.hbm, 123, rfl⟩
abbrev main_call0_cst : Ref sig .tc := ⟨.hbm, 124, rfl⟩
abbrev main_call0_v2 : Ref sig .tc := ⟨.hbm, 125, rfl⟩
abbrev main_call0_v3 : Ref sig .tc := ⟨.hbm, 126, rfl⟩
abbrev main_call0_cst_0 : Ref sig .tc := ⟨.hbm, 127, rfl⟩
abbrev main_call0_v4 : Ref sig .tc := ⟨.hbm, 128, rfl⟩
abbrev main_call0_v5 : Ref sig .tc := ⟨.hbm, 129, rfl⟩
abbrev main_v95 : Ref sig .tc := ⟨.hbm, 130, rfl⟩
abbrev main_cst_15 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_16 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_17 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_18 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_19 : Ref sig .tc := ⟨.hbm, 149, rfl⟩
abbrev main_v110 : Ref sig .tc := ⟨.hbm, 150, rfl⟩
abbrev main_v111 : Ref sig .tc := ⟨.hbm, 151, rfl⟩
abbrev main_cst_20 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_21 : Ref sig .tc := ⟨.hbm, 158, rfl⟩
abbrev main_v117 : Ref sig .tc := ⟨.hbm, 159, rfl⟩
abbrev main_v118 : Ref sig .tc := ⟨.hbm, 160, rfl⟩
abbrev main_cst_22 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_23 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_c_24 : Ref sig .tc := ⟨.hbm, 179, rfl⟩
abbrev main_v135 : Ref sig .tc := ⟨.hbm, 180, rfl⟩
abbrev main_call1_v0 : Ref sig .tc := ⟨.hbm, 181, rfl⟩
abbrev main_call1_c : Ref sig .tc := ⟨.hbm, 182, rfl⟩
abbrev main_call1_v1 : Ref sig .tc := ⟨.hbm, 183, rfl⟩
abbrev main_call1_v2 : Ref sig .tc := ⟨.hbm, 184, rfl⟩
abbrev main_call1_v3 : Ref sig .tc := ⟨.hbm, 185, rfl⟩
abbrev main_call1_v4 : Ref sig .tc := ⟨.hbm, 186, rfl⟩
abbrev main_call1_c_0 : Ref sig .tc := ⟨.hbm, 187, rfl⟩
abbrev main_call1_v5 : Ref sig .tc := ⟨.hbm, 188, rfl⟩
abbrev main_v136 : Ref sig .tc := ⟨.hbm, 189, rfl⟩
abbrev main_v137 : Ref sig .tc := ⟨.hbm, 190, rfl⟩
abbrev main_cst_25 : Ref sig .tc := ⟨.hbm, 191, rfl⟩
abbrev main_v138 : Ref sig .tc := ⟨.hbm, 192, rfl⟩
abbrev main_call2_v0 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_cst_26 : Ref sig .tc := ⟨.hbm, 211, rfl⟩
abbrev main_v156 : Ref sig .tc := ⟨.hbm, 212, rfl⟩
abbrev main_v157 : Ref sig .tc := ⟨.hbm, 213, rfl⟩
abbrev main_c_27 : Ref sig .tc := ⟨.hbm, 214, rfl⟩
abbrev main_v158 : Ref sig .tc := ⟨.hbm, 215, rfl⟩
abbrev main_v159 : Ref sig .tc := ⟨.hbm, 216, rfl⟩
abbrev main_c_28 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_cst_29 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩

abbrev nD : Nat := 1
abbrev τ : Topo := Topo.v7x

variable {F : FTy → Type} [FloatOps F]
-- ==== Proof.Reals.lean ====
module

public import Idealize.ShloMosaic.Lib.Pipeline.ValueKit
public import Idealize.ShloMosaic.Lib.Pointwise
public import Idealize.ShloMosaic.Lib.IdealHost

/-!
# Real entries

The derivative rules hold on real numbers. An array whose entries are finite has real entries, and sums, products and
quotients of them are real.
-/

@[expose] public section
noncomputable section
namespace Cert.Reals

open Idealize.ShloMosaic

/-- A value that is a real number. -/
def IsReal (x : EReal) : Prop := ∃ r : ℝ, x = r

theorem IsReal.mul {x y : EReal} : IsReal x → IsReal y → IsReal (x * y) := by
  rintro ⟨a, rfl⟩ ⟨b, rfl⟩; exact ⟨a * b, (EReal.coe_mul a b).symm⟩

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) {f : ι → EReal} (h : ∀ i, IsReal (f i)) : IsReal (∑ i ∈ s, f i) := by
  choose g hg using h
  exact ⟨∑ i ∈ s, g i, by rw [← coe_sum]; exact Finset.sum_congr rfl fun i _ => hg i⟩

theorem div_coe (x y : ℝ) (hy : y ≠ 0) : Ideal.div (x : EReal) (y : EReal) = ((x / y : ℝ) : EReal) := by
  rw [Ideal.div, if_neg (by exact_mod_cast hy), div_eq_mul_inv, EReal.coe_mul, EReal.coe_inv]

/-- What the precondition says of one entry. -/
theorem IsReal.of_finite {x : EReal} (h : BitVec.ofBool (decide (FloatOps.absf (F := Ideal) (φ := .f32) x < Ideal.ofBits .f32 0x7F800000#32)) = 1#1) : IsReal x := by
  have t : Ideal.ofBits .f32 0x7F800000#32 = ⊤ := by simp [Ideal.ofBits, Ideal.ieee]
  rw [t] at h
  induction x using EReal.rec with
  | bot => exact absurd h (by simp [Ideal.absf_def])
  | top => exact absurd h (by simp [Ideal.absf_def])
  | coe r => exact ⟨r, rfl⟩

end Cert.Reals
-- ==== Proof.Attn.Row.lean ====
module

public import proofs.«01_k».proof.Proof.Reals

/-!
# One row of the attention's backward pass

The scores of one query row, their softmax, and the gradient of the scores in two forms: the one that
subtracts the row's mean and the one that differentiates the quotient. They agree on real rows.
-/

@[expose] public section
noncomputable section
namespace Cert.AttnRow

open Idealize.ShloMosaic Cert.Reals

/-- The scale of the scores, 1/16. -/
abbrev scale : EReal := Ideal.ofBits .f32 0x3D800000#32

/-- The largest score of a row. -/
def top (S : Fin 256 → EReal) : EReal := Finset.fold max (Ideal.ofBits .f32 0xFF800000#32) S Finset.univ

/-- The exponentials of a row. -/
def ex (S : Fin 256 → EReal) (j : Fin 256) : EReal := Ideal.exp (S j - top S)

/-- The softmax of a row. -/
def soft (S : Fin 256 → EReal) (j : Fin 256) : EReal := Ideal.div (ex S j) (∑ l, ex S l)

/-- The gradient of the scores, from the row's probabilities. -/
def grad (S D : Fin 256 → EReal) (j : Fin 256) : EReal := soft S j * (D j - ∑ l, D l * soft S l) * scale

/-- The gradient of the scores, as the derivative of the quotient. -/
def quot (S D : Fin 256 → EReal) (j : Fin 256) : EReal :=
  (Ideal.div (D j) (∑ l, ex S l) + -(∑ l, D l * Ideal.div 1 ((∑ l, ex S l) * ∑ l, ex S l) * ex S l)) * ex S j * scale

theorem ofBits_neg_inf : Ideal.ofBits .f32 0xFF800000#32 = ⊥ := by simp [Ideal.ofBits, Ideal.ieee]

theorem scale_real : IsReal scale := ⟨1 / 16, by
  simp [Ideal.ofBits, Ideal.ieee, -EReal.coe_mul]; norm_num⟩

theorem top_real {S : Fin 256 → EReal} (h : ∀ j, IsReal (S j)) : IsReal (top S) := by
  choose s hs using h
  have hlt : top S < ⊤ := (Finset.fold_max_lt _).mpr ⟨by rw [ofBits_neg_inf]; exact bot_lt_top, fun x _ => by rw [hs x]; exact EReal.coe_lt_top _⟩
  have hgt : ⊥ < top S := (Finset.lt_fold_max _).mpr (.inr ⟨0, Finset.mem_univ _, by rw [hs 0]; exact EReal.bot_lt_coe _⟩)
  exact ⟨(top S).toReal, (EReal.coe_toReal hlt.ne hgt.ne').symm⟩

/-- Taking the maximum with the fold's own start once more changes nothing. -/
theorem max_top (S : Fin 256 → EReal) : max (Ideal.ofBits .f32 0xFF800000#32) (top S) = top S := by
  rw [ofBits_neg_inf]; exact max_eq_right bot_le

/-- On a real row the two gradients of the scores agree. -/
theorem quot_eq_grad {S D : Fin 256 → EReal} (hS : ∀ j, IsReal (S j)) (hD : ∀ j, IsReal (D j)) (j : Fin 256) :
    quot S D j = grad S D j := by
  obtain ⟨M, hM⟩ := top_real hS
  choose s hs using hS
  choose d hd using hD
  obtain ⟨c, hc⟩ := scale_real
  have he : ∀ l, ex S l = ((Real.exp (s l - M) : ℝ) : EReal) := fun l => by
    rw [ex, hM, hs l, ← EReal.coe_sub]; rfl
  have hL : ∑ l, ex S l = ((∑ l, Real.exp (s l - M) : ℝ) : EReal) := by
    rw [← coe_sum]; exact Finset.sum_congr rfl fun l _ => he l
  have hpos : (∑ l : Fin 256, Real.exp (s l - M)) ≠ 0 := (Finset.sum_pos (fun l _ => Real.exp_pos _) ⟨0, Finset.mem_univ _⟩).ne'
  have hp : ∀ l, soft S l = ((Real.exp (s l - M) / ∑ l, Real.exp (s l - M) : ℝ) : EReal) := fun l => by
    rw [soft, he, hL, div_coe _ _ hpos]
  unfold quot grad
  rw [hL]
  simp only [hp, he, hd, hc]
  rw [← EReal.coe_mul, ← EReal.coe_one, div_coe _ _ (mul_ne_zero hpos hpos), div_coe _ _ hpos]
  simp only [← EReal.coe_mul, coe_sum, ← EReal.coe_neg, ← EReal.coe_add, ← EReal.coe_sub]
  congr 1
  generalize (∑ l : Fin 256, Real.exp (s l - M)) = L at hpos
  have h1 : ∑ x, d x * (1 / (L * L)) * Real.exp (s x - M) = (∑ x, d x * Real.exp (s x - M)) / (L * L) := by
    rw [Finset.sum_div]; exact Finset.sum_congr rfl fun x _ => by ring
  have h2 : ∑ x, d x * (Real.exp (s x - M) / L) = (∑ x, d x * Real.exp (s x - M)) / L := by
    rw [Finset.sum_div]; exact Finset.sum_congr rfl fun x _ => by ring
  rw [h1, h2]
  field_simp
  ring

/-! ## The whole attention, over arrays read by coordinates -/

variable (q o : Fin 8192 → Fin 1024 → EReal) (kv : Fin 1024 → Fin 2048 → EReal)

/-- The scores of sequence `b`, head `h`, query row `s`. -/
def score (b h : Fin 4) (s : Fin 2048) (j : Fin 256) : EReal :=
  (∑ x : Fin 256, q ⟨b.val * 2048 + s.val, by omega⟩ ⟨h.val * 256 + x.val, by omega⟩ * kv ⟨b.val * 256 + j.val, by omega⟩ ⟨h.val * 256 + x.val, by omega⟩) * scale

/-- The products of the row's cotangent with the values. -/
def dots (b h : Fin 4) (s : Fin 2048) (j : Fin 256) : EReal :=
  ∑ x : Fin 256, o ⟨b.val * 2048 + s.val, by omega⟩ ⟨h.val * 256 + x.val, by omega⟩ * kv ⟨b.val * 256 + j.val, by omega⟩ ⟨1024 + h.val * 256 + x.val, by omega⟩

/-- The gradient of the queries. -/
def dq (b h : Fin 4) (s : Fin 2048) (d : Fin 256) : EReal :=
  ∑ j : Fin 256, grad (score q kv b h s) (dots o kv b h s) j * kv ⟨b.val * 256 + j.val, by omega⟩ ⟨h.val * 256 + d.val, by omega⟩

/-- The gradient of the keys. -/
def dk (b h : Fin 4) (j d : Fin 256) : EReal :=
  ∑ s : Fin 2048, grad (score q kv b h s) (dots o kv b h s) j * q ⟨b.val * 2048 + s.val, by omega⟩ ⟨h.val * 256 + d.val, by omega⟩

/-- The gradient of the values. -/
def dv (b h : Fin 4) (j d : Fin 256) : EReal :=
  ∑ s : Fin 2048, soft (score q kv b h s) j * o ⟨b.val * 2048 + s.val, by omega⟩ ⟨h.val * 256 + d.val, by omega⟩

theorem score_real (hq : ∀ r x, IsReal (q r x)) (hk : ∀ r x, IsReal (kv r x)) (b h : Fin 4) (s : Fin 2048) (j : Fin 256) : IsReal (score q kv b h s j) :=
  (IsReal.sum _ fun _ => (hq _ _).mul (hk _ _)).mul scale_real

theorem dots_real (ho : ∀ r x, IsReal (o r x)) (hk : ∀ r x, IsReal (kv r x)) (b h : Fin 4) (s : Fin 2048) (j : Fin 256) : IsReal (dots o kv b h s j) :=
  IsReal.sum _ fun _ => (ho _ _).mul (hk _ _)

end Cert.AttnRow
-- ==== Proof.Attn.Ref.lean ====
module

public import proofs.«01_k».proof.Proof.Gen.AttnRefIdeal.Run
public import proofs.«01_k».proof.Proof.Attn.Row

/-!
# The reference's gradients of the attention

The reference's two results, opened into their steps, and each step at an index: the gradients of the queries, the keys
and the values as sums over rows.
-/

@[expose] public section
set_option maxRecDepth 16384
noncomputable section
namespace Cert.AttnRefIdeal.Bridge

open Idealize.ShloMosaic Idealize.ShloMosaic.TcCoe Idealize.SL.Sem
open Cert.AttnRefIdeal Cert.AttnRefIdeal.Gen Cert.AttnRow Cert.Reals

section ops
variable {F : FTy → Type} [FloatOps F]

/-- The queries by sequence and head. -/
def heads (a : Vec F S8192x1024 .bf16) : FVec F S4x2048x4x256 .f32 := shapeCast _ (extf .f32 a bitsLt_bf16_f32) shapeCasts_S8192x1024_S4x2048x4x256
/-- The keys by sequence and head. -/
def keys (kv : Vec F S1024x2048 .bf16) : FVec F S4x256x4x256 .f32 :=
  shapeCast _ (extractStridedSlice S4x256x1024 ![0, 0, 0] (shapeCast _ (extf .f32 kv bitsLt_bf16_f32) shapeCasts_S1024x2048_S4x256x2048) slices_S4x256x2048_S4x256x1024_0_0_0) shapeCasts_S4x256x1024_S4x256x4x256
/-- The values by sequence and head. -/
def vals (kv : Vec F S1024x2048 .bf16) : FVec F S4x256x4x256 .f32 :=
  shapeCast _ (extractStridedSlice S4x256x1024 ![0, 0, 1024] (shapeCast _ (extf .f32 kv bitsLt_bf16_f32) shapeCasts_S1024x2048_S4x256x2048) slices_S4x256x2048_S4x256x1024_0_0_1024) shapeCasts_S4x256x1024_S4x256x4x256
/-- The scaled scores. -/
def scores (q : Vec F S8192x1024 .bf16) (kv : Vec F S1024x2048 .bf16) : FVec F S4x4x2048x256 .f32 :=
  mulf (Host.dotGeneral dot_S4x2048x4x256_S4x256x4x256_S4x4x2048x256_3_3_1_1_02_02 none (heads q) (keys kv)) (broadcastInDim S4x4x2048x256 ![] bcast_S_S4x4x2048x256 (constant S_ .f32 0x3D800000#32))
/-- The largest score of each row. -/
def maxes (s : FVec F S4x4x2048x256 .f32) : FVec F S4x4x2048 .f32 :=
  Host.reduce FloatOps.maximumf s (constant S_ .f32 0xFF800000#32) reducesTo_S4x4x2048x256_S4x4x2048_d3 h_S_
/-- The exponentials of the scores, once each row's largest score is given. -/
def shifted (s : FVec F S4x4x2048x256 .f32) (t : FVec F S4x4x2048 .f32) : FVec F S4x4x2048x256 .f32 :=
  Host.exp (subf s (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) t))))
/-- The exponentials of the scores. -/
def exps (s : FVec F S4x4x2048x256 .f32) : FVec F S4x4x2048x256 .f32 := shifted s (maxes s)
/-- The sum of each row. -/
def total (e : FVec F S4x4x2048x256 .f32) : FVec F S4x4x2048x1 .f32 :=
  broadcastInDim S4x4x2048x1 ![0, 1, 2] bcast_S4x4x2048_S4x4x2048x1_0_1_2 (Host.reduceAdd e (constant S_ .f32 0x00000000#32) reducesTo_S4x4x2048x256_S4x4x2048_d3 h_S_)
/-- The cotangents, the row index last. -/
def cots (o : Vec F S8192x1024 .bf16) : FVec F S4x4x256x2048 .f32 := transpose S4x4x256x2048 [0, 2, 3, 1] (heads o) transposes_S4x2048x4x256_S4x4x256x2048_0_2_3_1
/-- The cotangents times the values. -/
def prods (o : Vec F S8192x1024 .bf16) (kv : Vec F S1024x2048 .bf16) : FVec F S4x4x2048x256 .f32 :=
  Host.dotGeneral dot_S4x4x256x2048_S4x256x4x256_S4x4x2048x256_2_3_3_1_01_02 none (cots o) (vals kv)
/-- The gradient of the scores, as the derivative of the quotient. -/
def dscores (d e : FVec F S4x4x2048x256 .f32) (l : FVec F S4x4x2048x1 .f32) : FVec F S4x4x2048x256 .f32 :=
  mulf (mulf (addf (Host.divf d (broadcastInDim S4x4x2048x256 ![0, 1, 2, 3] bcast_S4x4x2048x1_S4x4x2048x256_0_1_2_3 l)) (broadcastInDim S4x4x2048x256 ![0, 1, 2] bcast_S4x4x2048_S4x4x2048x256_0_1_2 (Host.reduceAdd (Host.negf (shapeCast _ (Host.reduceAdd (mulf (mulf d (broadcastInDim S4x4x2048x256 ![0, 1, 2, 3] bcast_S4x4x2048x1_S4x4x2048x256_0_1_2_3 (Host.divf (broadcastInDim S4x4x2048x1 ![] bcast_S_S4x4x2048x1 (constant S_ .f32 0x3F800000#32)) (mulf l l)))) e) (constant S_ .f32 0x00000000#32) reducesTo_S4x4x2048x256_S4x4x2048_d3 h_S_) shapeCasts_S4x4x2048_S4x4x2048x1)) (constant S_ .f32 0x00000000#32) reducesTo_S4x4x2048x1_S4x4x2048_d3 h_S_))) e) (broadcastInDim S4x4x2048x256 ![] bcast_S_S4x4x2048x256 (constant S_ .f32 0x3D800000#32))
/-- The gradient of the queries. -/
def outQ (g : FVec F S4x4x2048x256 .f32) (kv : Vec F S1024x2048 .bf16) : FVec F S8192x1024 .bf16 :=
  truncf .bf16 (shapeCast _ (transpose S4x2048x4x256 [0, 2, 1, 3] (Host.dotGeneral dot_S4x4x2048x256_S4x256x4x256_S4x4x2048x256_3_1_2_3_01_02 none g (keys kv)) transposes_S4x4x2048x256_S4x2048x4x256_0_2_1_3) shapeCasts_S4x2048x4x256_S8192x1024) bitsLt_bf16_f32
/-- The gradient of the keys. -/
def outK (g : FVec F S4x4x2048x256 .f32) (q : Vec F S8192x1024 .bf16) : FVec F S4x256x1024 .f32 :=
  shapeCast _ (transpose S4x256x4x256 [0, 2, 1, 3] (Host.dotGeneral dot_S4x4x2048x256_S4x2048x4x256_S4x4x256x256_2_1_3_3_01_02 none g (heads q)) transposes_S4x4x256x256_S4x256x4x256_0_2_1_3) shapeCasts_S4x256x4x256_S4x256x1024
/-- The gradient of the values. -/
def outV (e : FVec F S4x4x2048x256 .f32) (l : FVec F S4x4x2048x1 .f32) (o : Vec F S8192x1024 .bf16) : FVec F S4x256x1024 .f32 :=
  shapeCast _ (transpose S4x256x4x256 [0, 3, 1, 2] (Host.dotGeneral dot_S4x4x256x2048_S4x4x2048x256_S4x4x256x256_3_2_2_3_01_01 none (cots o) (Host.divf e (broadcastInDim S4x4x2048x256 ![0, 1, 2, 3] bcast_S4x4x2048x1_S4x4x2048x256_0_1_2_3 l))) transposes_S4x4x256x256_S4x256x4x256_0_3_1_2) shapeCasts_S4x256x4x256_S4x256x1024

variable (m : (ℓ : Loc nD τ sig) → Buf (Elt F) ℓ) (c : Dev nD)
abbrev argQ : Vec F S8192x1024 .bf16 := m ((c.tc : Thread nD τ).loc main_arg0)
abbrev argKV : Vec F S1024x2048 .bf16 := m ((c.tc : Thread nD τ).loc main_arg1)
abbrev argO : Vec F S8192x1024 .bf16 := m ((c.tc : Thread nD τ).loc main_arg2)

/-- The gradient of the scores. -/
def dsc : FVec F S4x4x2048x256 .f32 :=
  dscores (prods (argO m c) (argKV m c)) (exps (scores (argQ m c) (argKV m c))) (total (exps (scores (argQ m c) (argKV m c))))

theorem res0_eq : Value.res_main_v71 m c = outQ (dsc m c) (argKV m c) := rfl
theorem res1_eq : Value.res_main_v69 m c = shapeCast _ (concatenate S4x256x2048 2 [⟨S4x256x1024, outK (dsc m c) (argQ m c)⟩, ⟨S4x256x1024, outV (exps (scores (argQ m c) (argKV m c))) (total (exps (scores (argQ m c) (argKV m c)))) (argO m c)⟩] concatenates_S4x256x1024_S4x256x1024_S4x256x2048_d2) shapeCasts_S4x256x2048_S1024x2048 := rfl
end ops

variable (q o : Vec Ideal S8192x1024 .bf16) (kv : Vec Ideal S1024x2048 .bf16)

theorem scores_at (b h : Fin 4) (s : Fin 2048) (j : Fin 256) : scores q kv (ix4 b h s j) = score (fun r x => q (ix2 r x)) (fun r x => kv (ix2 r x)) b h s j := by
  pointwise [scores, heads, keys, score]

theorem prods_at (b h : Fin 4) (s : Fin 2048) (j : Fin 256) : prods o kv (ix4 b h s j) = dots (fun r x => o (ix2 r x)) (fun r x => kv (ix2 r x)) b h s j := by
  pointwise [prods, heads, vals, cots, dots]
  refine Finset.sum_congr rfl fun x _ => ?_
  congr 1
  blk_ext

/-- A maximum along the last axis, at shapes left open. -/
theorem maxes_open {n0 n1 n2 : ℕ} (S : FVec Ideal ⟨4, ![n0, n1, n2, 256]⟩ .f32) (hr : (⟨4, ![n0, n1, n2, 256]⟩ : Shape).ReducesTo [3] ⟨3, ![n0, n1, n2]⟩)
    (b : Fin n0) (h : Fin n1) (s : Fin n2) :
    Host.reduce FloatOps.maximumf S (constant S_ .f32 0xFF800000#32) hr h_S_ (ix3 b h s) = top (fun l => S (ix4 b h s l)) := by
  pointwise [top]

theorem maxes_at (S : FVec Ideal S4x4x2048x256 .f32) (b h : Fin 4) (s : Fin 2048) : maxes S (ix3 b h s) = top (fun l => S (ix4 b h s l)) := by
  rw [maxes]
  exact maxes_open S _ b h s

theorem shifted_at (S : FVec Ideal S4x4x2048x256 .f32) (M : FVec Ideal S4x4x2048 .f32) (b h : Fin 4) (s : Fin 2048) (j : Fin 256) :
    shifted S M (ix4 b h s j) = Ideal.exp (S (ix4 b h s j) - max (Ideal.ofBits .f32 0xFF800000#32) (M (ix3 b h s))) := by
  pointwise [shifted]

theorem exps_at (S : FVec Ideal S4x4x2048x256 .f32) (b h : Fin 4) (s : Fin 2048) (j : Fin 256) : exps S (ix4 b h s j) = ex (fun l => S (ix4 b h s l)) j := by
  rw [exps, shifted_at, maxes_at, max_top, ex]

theorem total_at (E : FVec Ideal S4x4x2048x256 .f32) (b h : Fin 4) (s : Fin 2048) (z : Fin 1) : total E (ix4 b h s z) = ∑ l, E (ix4 b h s l) := by
  pointwise [total]

theorem dscores_at (S D : FVec Ideal S4x4x2048x256 .f32) (b h : Fin 4) (s : Fin 2048) (j : Fin 256) :
    dscores D (exps S) (total (exps S)) (ix4 b h s j) = quot (fun l => S (ix4 b h s l)) (fun l => D (ix4 b h s l)) j := by
  have e := total_at (exps S) b h s
  simp only [exps_at] at e
  pointwise [dscores, quot, exps_at]
  rw [e, Fin.sum_univ_one]

section real
variable (hq : ∀ i, IsReal (q i)) (hk : ∀ i, IsReal (kv i)) (ho : ∀ i, IsReal (o i))
include hq hk ho

/-- The gradient of the scores, in the form without a quotient's derivative. -/
theorem grad_at (b h : Fin 4) (s : Fin 2048) (j : Fin 256) :
    dscores (prods o kv) (exps (scores q kv)) (total (exps (scores q kv))) (ix4 b h s j)
      = grad (score (fun r x => q (ix2 r x)) (fun r x => kv (ix2 r x)) b h s) (dots (fun r x => o (ix2 r x)) (fun r x => kv (ix2 r x)) b h s) j := by
  rw [dscores_at]
  simp only [scores_at, prods_at]
  exact quot_eq_grad (score_real _ _ (fun _ _ => hq _) (fun _ _ => hk _) b h s) (dots_real _ _ (fun _ _ => ho _) (fun _ _ => hk _) b h s) j

theorem outQ_at (r : Fin 8192) (x : Fin 1024) :
    outQ (dscores (prods o kv) (exps (scores q kv)) (total (exps (scores q kv)))) kv (ix2 r x)
      = dq (fun r x => q (ix2 r x)) (fun r x => o (ix2 r x)) (fun r x => kv (ix2 r x)) ⟨r / 2048, by omega⟩ ⟨x / 256, by omega⟩ ⟨r % 2048, by omega⟩ ⟨x % 256, by omega⟩ := by
  pointwise [outQ, keys, dq]
  refine Finset.sum_congr rfl fun k _ => ?_
  rw [grad_at q o kv hq hk ho]
  congr 1
  blk_ext

theorem outK_at (b : Fin 4) (r : Fin 256) (x : Fin 1024) :
    outK (dscores (prods o kv) (exps (scores q kv)) (total (exps (scores q kv)))) q (ix3 b r x)
      = dk (fun r x => q (ix2 r x)) (fun r x => o (ix2 r x)) (fun r x => kv (ix2 r x)) b ⟨x / 256, by omega⟩ r ⟨x % 256, by omega⟩ := by
  pointwise [outK, heads, dk]
  refine Finset.sum_congr rfl fun k _ => ?_
  rw [grad_at q o kv hq hk ho]
  congr 1
  blk_ext
end real

theorem outV_at (b : Fin 4) (r : Fin 256) (x : Fin 1024) :
    outV (exps (scores q kv)) (total (exps (scores q kv))) o (ix3 b r x)
      = dv (fun r x => q (ix2 r x)) (fun r x => o (ix2 r x)) (fun r x => kv (ix2 r x)) b ⟨x / 256, by omega⟩ r ⟨x % 256, by omega⟩ := by
  pointwise [outV, heads, cots, dv, soft]
  refine Finset.sum_congr rfl fun k _ => ?_
  rw [total_at]
  simp only [exps_at, scores_at]
  rw [mul_comm]
  congr 1
  blk_ext

theorem cat_at (A B : FVec Ideal S4x256x1024 .f32) (r : Fin 1024) (x : Fin 2048) :
    (shapeCast S1024x2048 (concatenate S4x256x2048 2 [⟨S4x256x1024, A⟩, ⟨S4x256x1024, B⟩] concatenates_S4x256x1024_S4x256x1024_S4x256x2048_d2) shapeCasts_S4x256x2048_S1024x2048) (ix2 r x)
      = if h : x.val < 1024 then A (ix3 ⟨r / 256, by omega⟩ ⟨r % 256, by omega⟩ ⟨x, h⟩) else B (ix3 ⟨r / 256, by omega⟩ ⟨r % 256, by omega⟩ ⟨x - 1024, by omega⟩) := by
  pointwise

end Cert.AttnRefIdeal.Bridge
-- ==== Proof.Attn.Kernel.lean ====
module

public import proofs.«01_k».proof.Proof.Gen.AttnIdeal.Frame
public import proofs.«01_k».proof.Proof.Attn.Row
public import Idealize.ShloMosaic.Lib.Pipeline.ReadBack

/-!
# The attention's backward kernel

Each grid point handles a tile of 512 query rows of one sequence. It writes that tile's gradient of the queries, and
adds the tile's part to the gradients of the keys and the values, which gather over the sequence's four tiles.
-/

@[expose] public section
set_option maxRecDepth 16384
noncomputable section
namespace Cert.AttnIdeal.Bridge

open Idealize.ShloMosaic Idealize.ShloMosaic.TcCoe Idealize.SL.Sem
open Cert.AttnIdeal Cert.AttnIdeal.Gen Cert.AttnRow
open Idealize.ShloMosaic.Pipeline (Dat)

/-! ## One head's tile -/

section tiles
variable (q o : Vec Ideal S512x256 .bf16) (k v : Vec Ideal S256x256 .bf16) (acc : Vec Ideal S256x256 .f32)

/-- The scores of a tile's row. -/
def rowS (s : Fin 512) (j : Fin 256) : EReal := (∑ x : Fin 256, q (ix2 s x) * k (ix2 j x)) * scale
/-- The products of a tile's row of cotangents with the values. -/
def rowD (s : Fin 512) (j : Fin 256) : EReal := ∑ x : Fin 256, o (ix2 s x) * v (ix2 j x)

theorem probs_at (s : Fin 512) (j : Fin 256) : k0_pay7 (F := Ideal) q k (ix2 s j) = soft (rowS q k s) j := by
  pointwise [k0_pay7, soft, ex, top, rowS]

theorem ds_at (s : Fin 512) (j : Fin 256) : k0_pay9 (F := Ideal) q k v o (ix2 s j) = grad (rowS q k s) (rowD o v s) j := by
  pointwise [k0_pay9, grad, probs_at, rowD]

theorem dq_at (x : S512x256.Idx) : k0_pay11 (F := Ideal) k (k0_pay9 (F := Ideal) q k v o) x = ∑ j : Fin 256, grad (rowS q k (x 0)) (rowD o v (x 0)) j * k (ix2 j (x 1)) := by
  pointwise [k0_pay11, k0_pay10, ds_at]

theorem dk_at (x : S256x256.Idx) : k0_pay12 (F := Ideal) q (k0_pay9 (F := Ideal) q k v o) acc x = acc x + ∑ s : Fin 512, grad (rowS q k s) (rowD o v s) (x 0) * q (ix2 s (x 1)) := by
  pointwise [k0_pay12, k0_pay10, ds_at]

theorem dv_at (x : S256x256.Idx) : k0_pay8 (F := Ideal) q k o acc x = acc x + ∑ s : Fin 512, soft (rowS q k s) (x 0) * o (ix2 s (x 1)) := by
  pointwise [k0_pay8, probs_at]

theorem dq1 : k0_pay17 (F := Ideal) k (k0_pay13 (F := Ideal) q k) (k0_pay14 (F := Ideal) v o) = k0_pay11 (F := Ideal) k (k0_pay9 (F := Ideal) q k v o) := rfl
theorem dq2 : k0_pay23 (F := Ideal) k v o (k0_pay19 (F := Ideal) q k) (constant S512x256 .f32 0#32) = k0_pay11 (F := Ideal) k (k0_pay9 (F := Ideal) q k v o) := rfl
theorem dq3 : k0_pay4 (F := Ideal) k v o (k0_pay25 (F := Ideal) q k) (k0_pay26 (F := Ideal) q k) = k0_pay11 (F := Ideal) k (k0_pay9 (F := Ideal) q k v o) := rfl
theorem dk1 : k0_pay18 (F := Ideal) q (k0_pay13 (F := Ideal) q k) (k0_pay14 (F := Ideal) v o) acc = k0_pay12 (F := Ideal) q (k0_pay9 (F := Ideal) q k v o) acc := rfl
theorem dk2 : k0_pay24 (F := Ideal) q v o (k0_pay19 (F := Ideal) q k) (constant S512x256 .f32 0#32) acc = k0_pay12 (F := Ideal) q (k0_pay9 (F := Ideal) q k v o) acc := rfl
theorem dk3 : k0_pay5 (F := Ideal) q v o (k0_pay25 (F := Ideal) q k) (k0_pay26 (F := Ideal) q k) acc = k0_pay12 (F := Ideal) q (k0_pay9 (F := Ideal) q k v o) acc := rfl
theorem dv1 : k0_pay15 (F := Ideal) q k o acc = k0_pay8 (F := Ideal) q k o acc := rfl
theorem dv2 : k0_pay21 (F := Ideal) o (k0_pay20 (F := Ideal) q k) acc = k0_pay8 (F := Ideal) q k o acc := rfl
theorem dv3 : k0_pay2 (F := Ideal) o (k0_pay25 (F := Ideal) q k) (k0_pay26 (F := Ideal) q k) acc = k0_pay8 (F := Ideal) q k o acc := rfl

/-- The tiles of head `h` are rows `p * 512 …` of sequence `b` of the arrays. -/
structure Tiles (Q O : Fin 8192 → Fin 1024 → EReal) (KV : Fin 1024 → Fin 2048 → EReal) (b h p : Fin 4) : Prop where
  hq : ∀ (s : Fin 512) (x : Fin 256), q (ix2 s x) = Q ⟨b.val * 2048 + (p.val * 512 + s.val), by omega⟩ ⟨h.val * 256 + x.val, by omega⟩
  hk : ∀ (j : Fin 256) (x : Fin 256), k (ix2 j x) = KV ⟨b.val * 256 + j.val, by omega⟩ ⟨h.val * 256 + x.val, by omega⟩
  hv : ∀ (j : Fin 256) (x : Fin 256), v (ix2 j x) = KV ⟨b.val * 256 + j.val, by omega⟩ ⟨1024 + h.val * 256 + x.val, by omega⟩
  ho : ∀ (s : Fin 512) (x : Fin 256), o (ix2 s x) = O ⟨b.val * 2048 + (p.val * 512 + s.val), by omega⟩ ⟨h.val * 256 + x.val, by omega⟩

/-- A tile's part of the gradient of the keys. -/
def partK (Q O : Fin 8192 → Fin 1024 → EReal) (KV : Fin 1024 → Fin 2048 → EReal) (b h p : Fin 4) (j d : Fin 256) : EReal :=
  ∑ s : Fin 512, grad (score Q KV b h ⟨p.val * 512 + s.val, by omega⟩) (dots O KV b h ⟨p.val * 512 + s.val, by omega⟩) j
    * Q ⟨b.val * 2048 + (p.val * 512 + s.val), by omega⟩ ⟨h.val * 256 + d.val, by omega⟩

/-- A tile's part of the gradient of the values. -/
def partV (Q O : Fin 8192 → Fin 1024 → EReal) (KV : Fin 1024 → Fin 2048 → EReal) (b h p : Fin 4) (j d : Fin 256) : EReal :=
  ∑ s : Fin 512, soft (score Q KV b h ⟨p.val * 512 + s.val, by omega⟩) j
    * O ⟨b.val * 2048 + (p.val * 512 + s.val), by omega⟩ ⟨h.val * 256 + d.val, by omega⟩

variable {q o k v} {Q O : Fin 8192 → Fin 1024 → EReal} {KV : Fin 1024 → Fin 2048 → EReal} {b h p : Fin 4} (T : Tiles q o k v Q O KV b h p)
include T

theorem Tiles.rowS (s : Fin 512) : rowS q k s = score Q KV b h ⟨p.val * 512 + s.val, by omega⟩ := by
  funext j; unfold Bridge.rowS score; simp only [T.hq, T.hk]

theorem Tiles.rowD (s : Fin 512) : rowD o v s = dots O KV b h ⟨p.val * 512 + s.val, by omega⟩ := by
  funext j; unfold Bridge.rowD dots; simp only [T.ho, T.hv]

theorem Tiles.dq (x : S512x256.Idx) (s : Fin 2048) (d : Fin 256) (e0 : s.val = p.val * 512 + (x 0).val) (e1 : d.val = (x 1).val) :
    k0_pay11 (F := Ideal) k (k0_pay9 (F := Ideal) q k v o) x = AttnRow.dq Q O KV b h s d := by
  obtain rfl : d = x 1 := Fin.ext e1
  rw [dq_at]; unfold AttnRow.dq
  have eS : Bridge.rowS q k (x 0) = score Q KV b h s := (T.rowS (x 0)).trans (congrArg _ (Fin.ext e0.symm))
  have eD : Bridge.rowD o v (x 0) = dots O KV b h s := (T.rowD (x 0)).trans (congrArg _ (Fin.ext e0.symm))
  exact Finset.sum_congr rfl fun j _ => congrArg₂ _ (congrArg₂ (fun S D => grad S D j) eS eD) (T.hk j (x 1))

theorem Tiles.dk (x : S256x256.Idx) (j d : Fin 256) (e0 : j.val = (x 0).val) (e1 : d.val = (x 1).val) :
    k0_pay12 (F := Ideal) q (k0_pay9 (F := Ideal) q k v o) acc x = acc x + partK Q O KV b h p j d := by
  obtain rfl : d = x 1 := Fin.ext e1
  obtain rfl : j = x 0 := Fin.ext e0
  rw [dk_at]; unfold partK
  congr 1
  exact Finset.sum_congr rfl fun s _ => by rw [T.rowS, T.rowD]; exact congrArg _ (T.hq s (x 1))

omit T in
/-- The values' gradient needs no tile of the values. -/
theorem dv_tiles (hq : ∀ (s : Fin 512) (x : Fin 256), q (ix2 s x) = Q ⟨b.val * 2048 + (p.val * 512 + s.val), by omega⟩ ⟨h.val * 256 + x.val, by omega⟩)
    (hk : ∀ (j : Fin 256) (x : Fin 256), k (ix2 j x) = KV ⟨b.val * 256 + j.val, by omega⟩ ⟨h.val * 256 + x.val, by omega⟩)
    (ho : ∀ (s : Fin 512) (x : Fin 256), o (ix2 s x) = O ⟨b.val * 2048 + (p.val * 512 + s.val), by omega⟩ ⟨h.val * 256 + x.val, by omega⟩)
    (x : S256x256.Idx) (j d : Fin 256) (e0 : j.val = (x 0).val) (e1 : d.val = (x 1).val) :
    k0_pay8 (F := Ideal) q k o acc x = acc x + partV Q O KV b h p j d := by
  obtain rfl : d = x 1 := Fin.ext e1
  obtain rfl : j = x 0 := Fin.ext e0
  have eS (s : Fin 512) : Bridge.rowS q k s = score Q KV b h ⟨p.val * 512 + s.val, by omega⟩ := by
    funext j; unfold Bridge.rowS score; simp only [hq, hk]
  rw [dv_at]; unfold partV
  congr 1
  exact Finset.sum_congr rfl fun s _ => by rw [eS]; exact congrArg _ (ho s (x 1))

end tiles

/-- The four tiles' parts make the whole gradient of the keys. -/
theorem sum_partK (Q O : Fin 8192 → Fin 1024 → EReal) (KV : Fin 1024 → Fin 2048 → EReal) (b h : Fin 4) (j d : Fin 256) :
    ∑ p : Fin 4, partK Q O KV b h p j d = AttnRow.dk Q O KV b h j d := by
  unfold partK AttnRow.dk
  exact Fin.sum_mul_add_congr fun p s _ => rfl

theorem sum_partV (Q O : Fin 8192 → Fin 1024 → EReal) (KV : Fin 1024 → Fin 2048 → EReal) (b h : Fin 4) (j d : Fin 256) :
    ∑ p : Fin 4, partV Q O KV b h p j d = AttnRow.dv Q O KV b h j d := by
  unfold partV AttnRow.dv
  exact Fin.sum_mul_add_congr fun p s _ => rfl

variable (m : (ℓ : Loc nD τ sig) → Buf (Elt Ideal) ℓ)

theorem index_maps : ∀ t : Fin cfg0.N, win0_0.index t = ![t.val, 0] ∧ win0_1.index t = ![t.val / 4, 0] ∧ win0_2.index t = ![t.val / 4, 1]
    ∧ win0_3.index t = ![t.val, 0] ∧ win0_4.index t = ![t.val, 0] ∧ win0_5.index t = ![t.val / 4, 0] :=
  (by decide +kernel : ∀ t : Fin grid0.N, _)

/-- The arguments by coordinates. -/
def aQ (c : Dev nD) (r : Fin 8192) (x : Fin 1024) : EReal := m ((c.tc : Thread nD τ).loc main_arg0) (ix2 r x)
def aKV (c : Dev nD) (r : Fin 1024) (x : Fin 2048) : EReal := m ((c.tc : Thread nD τ).loc main_arg1) (ix2 r x)
def aO (c : Dev nD) (r : Fin 8192) (x : Fin 1024) : EReal := m ((c.tc : Thread nD τ).loc main_arg2) (ix2 r x)

/-- The sequence and the tile of a grid point. -/
def seqOf (t : Fin cfg0.N) : Fin 4 := ⟨t.val / 4, by have := lt_of_lt_of_eq t.isLt N_0; omega⟩
def tileOf (t : Fin cfg0.N) : Fin 4 := ⟨t.val % 4, by omega⟩

set_option maxHeartbeats 4000000 in
theorem out4 (c : Dev nD) (t : Fin cfg0.N) (y : S512x1024.Idx) (s : Fin 2048) (x : Fin 1024) (e0 : s.val = t.val % 4 * 512 + (y 0).val) (e1 : x.val = (y 1).val) :
    (outsAt0 (F := Ideal) m c t.val t.isLt).1 y
      = AttnRow.dq (aQ m c) (aO m c) (aKV m c) (seqOf t) ⟨x.val / 256, by omega⟩ s ⟨x.val % 256, by omega⟩ := by
  have lt : t.val < 16 := lt_of_lt_of_eq t.isLt N_0
  by_cases e : t.val % 4 = 0
  · rw [outsAt0_A m c t e]; frame_out
    simp only [dq1, dq2, dq3]
    clear e
    canon_tiles z h
    all_goals
      refine Tiles.dq (p := tileOf t) ⟨fun s' x' => ?_, fun s' x' => ?_, fun s' x' => ?_, fun s' x' => ?_⟩ z s _ ?_ ?_
      all_goals first | (dsimp only [tileOf]; omega) | (dsimp only [aQ, aO, aKV, seqOf, tileOf]; pointwise; blk_ext [iblk, V, index_maps t])
  · rw [outsAt0_B m c t e]; frame_out
    simp only [dq1, dq2, dq3]
    clear e
    canon_tiles z h
    all_goals
      refine Tiles.dq (p := tileOf t) ⟨fun s' x' => ?_, fun s' x' => ?_, fun s' x' => ?_, fun s' x' => ?_⟩ z s _ ?_ ?_
      all_goals first | (dsimp only [tileOf]; omega) | (dsimp only [aQ, aO, aKV, seqOf, tileOf]; pointwise; blk_ext [iblk, V, index_maps t])

/-- What one grid point adds to the gradients of the keys and the values. -/
def part (c : Dev nD) (t : Fin cfg0.N) (y : S256x2048.Idx) : EReal :=
  have lt : (y 1).val < 2048 := (y 1).isLt
  if (y 1).val < 1024 then
    partK (aQ m c) (aO m c) (aKV m c) (seqOf t) ⟨(y 1).val / 256 % 4, by omega⟩ (tileOf t) (y 0) ⟨(y 1).val % 256, by omega⟩
  else partV (aQ m c) (aO m c) (aKV m c) (seqOf t) ⟨(y 1).val / 256 % 4, by omega⟩ (tileOf t) (y 0) ⟨(y 1).val % 256, by omega⟩

open Idealize.ShloMosaic.View in
/-- Stores that later stores cover don't show. -/
theorem canon_append_of_mem {Val : EltTy → Type} {S : Shape} {e : EltTy} [∀ e, Nonempty (Val e)] (y : S.Idx) (L' : List (Piece Val S e)) :
    ∀ L : List (Piece Val S e), (∃ p ∈ L, y ∈ p.1.set) → canon (L ++ L') y = canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, canon_cons_emb, canon_cons_emb]
    · rw [List.cons_append, canon_cons_of_not_mem _ _ hm, canon_cons_of_not_mem _ _ hm]
      refine canon_append_of_mem y L' L ?_
      obtain ⟨q, hq, hy⟩ := h
      rcases List.mem_cons.mp hq with rfl | hq'
      · exact absurd hy hm
      · exact ⟨q, hq', hy⟩

set_option maxHeartbeats 4000000 in
theorem out5A (c : Dev nD) (t : Fin cfg0.N) (y : S256x2048.Idx) (e : t.val % 4 = 0) : (outsAt0 (F := Ideal) m c t.val t.isLt).2 y = 0 + part m c t y := by
  rw [outsAt0_A m c t e]; frame_out
  clear e
  simp (discharger := first | decide | (intro a; fin_cases a <;> rfl)) only [↓View.readCov_skip, ↓View.readCov_fill, dk1, dk2, dk3, dv1, dv2, dv3]
  have lt : t.val < 16 := lt_of_lt_of_eq t.isLt N_0
  unfold part
  refine (canon_append_of_mem y [_] [_, _, _, _, _, _, _, _] (View.cover_of_tiled_head _ _ _ (by rfl) y)).trans ?_
  canon_tiles z h
  all_goals first
    | (rw [if_pos (by omega)]
       refine (Tiles.dk (p := tileOf t) _ ⟨fun s' x' => ?_, fun s' x' => ?_, fun s' x' => ?_, fun s' x' => ?_⟩ z _ _ ?_ ?_).trans (congrArg₂ _ ?_ rfl))
    | (rw [if_neg (by omega)]
       refine (dv_tiles (p := tileOf t) _ (fun s' x' => ?_) (fun s' x' => ?_) (fun s' x' => ?_) z _ _ ?_ ?_).trans (congrArg₂ _ ?_ rfl))
  all_goals first
    | omega | (dsimp only [tileOf]; omega)
    | (dsimp only [aQ, aO, aKV, seqOf, tileOf]; pointwise; blk_ext [iblk, V, index_maps t])
    | pointwise [k0_pay6]

set_option maxHeartbeats 4000000 in
theorem out5B (c : Dev nD) (t : Fin cfg0.N) (y : S256x2048.Idx) (e : ¬ t.val % 4 = 0) (lt' : t.val - 1 < cfg0.N) : (outsAt0 (F := Ideal) m c t.val t.isLt).2 y = (outsAt0 (F := Ideal) m c (t.val - 1) lt').2 y + part m c t y := by
  rw [outsAt0_B m c t e]; frame_out
  clear e
  simp (discharger := first | decide | (intro a; fin_cases a <;> rfl)) only [↓View.readCov_skip, ↓View.readCov_fill, dk1, dk2, dk3, dv1, dv2, dv3]
  have lt : t.val < 16 := lt_of_lt_of_eq t.isLt N_0
  unfold part
  canon_tiles z h
  all_goals first
    | (rw [if_pos (by omega)]
       refine (Tiles.dk (p := tileOf t) _ ⟨fun s' x' => ?_, fun s' x' => ?_, fun s' x' => ?_, fun s' x' => ?_⟩ z _ _ ?_ ?_).trans (congrArg₂ _ ?_ rfl))
    | (rw [if_neg (by omega)]
       refine (dv_tiles (p := tileOf t) _ (fun s' x' => ?_) (fun s' x' => ?_) (fun s' x' => ?_) z _ _ ?_ ?_).trans (congrArg₂ _ ?_ rfl))
  all_goals first
    | (show View.ld (outsAt0 (F := Ideal) m c (t.val - 1) _).2 _ _ = _; pointwise; blk_ext)
    | omega | (dsimp only [tileOf]; omega)
    | (dsimp only [aQ, aO, aKV, seqOf, tileOf]; pointwise; blk_ext [iblk, V, index_maps t])

/-- The gradient of the queries, index by index. -/
theorem final4 (c : Dev nD) (r : Fin 8192) (x : Fin 1024) : (dats (F := Ideal) m 0 c).arrAt 4 (cfgs 0).N (ix2 r x)
    = AttnRow.dq (aQ m c) (aO m c) (aKV m c) ⟨r.val / 2048, by omega⟩ ⟨x.val / 256, by omega⟩ ⟨r.val % 2048, by omega⟩ ⟨x.val % 256, by omega⟩ := by
  have h : (dats (F := Ideal) m 0 c).arrAt 4 (cfgs 0).N = fun i : S8192x1024.Idx =>
      AttnRow.dq (aQ m c) (aO m c) (aKV m c) ⟨(i 0).val / 2048, by have : (i 0).val < 8192 := (i 0).isLt; omega⟩
        ⟨(i 1).val / 256, by have : (i 1).val < 1024 := (i 1).isLt; omega⟩ ⟨(i 0).val % 2048, by omega⟩ ⟨(i 1).val % 256, by omega⟩ := by
    refine (dats (F := Ideal) m 0 c).arrAt_eq_of_covers 4 _ (by decide +kernel) fun t hf y => ?_
    blk_simp
    rw [after0_4]
    have lt : t.val < 16 := lt_of_lt_of_eq t.isLt N_0
    have y0 : (y 0).val < 512 := (y 0).isLt
    have y1 : (y 1).val < 1024 := (y 1).isLt
    have e0 : win0_4.index t 0 = t.val := by rw [(index_maps t).2.2.2.2.1]; rfl
    have e1 : win0_4.index t 1 = 0 := by rw [(index_maps t).2.2.2.2.1]; rfl
    simp only [e0, e1]
    refine (out4 m c t y ⟨(t.val * 512 + (y 0).val) % 2048, by omega⟩ ⟨0 * 1024 + (y 1).val, by omega⟩ (by dsimp only; omega) (by dsimp only; omega)).trans ?_
    congr 1
    exact Fin.ext (by dsimp only [seqOf]; omega)
  exact congrFun h (ix2 r x)

/-- The gradients of the keys and of the values side by side. -/
def dkv (Q O : Fin 8192 → Fin 1024 → EReal) (KV : Fin 1024 → Fin 2048 → EReal) (r : Fin 1024) (x : Fin 2048) : EReal :=
  if x.val < 1024 then AttnRow.dk Q O KV ⟨r.val / 256, by omega⟩ ⟨x.val / 256 % 4, by omega⟩ ⟨r.val % 256, by omega⟩ ⟨x.val % 256, by omega⟩
  else AttnRow.dv Q O KV ⟨r.val / 256, by omega⟩ ⟨x.val / 256 % 4, by omega⟩ ⟨r.val % 256, by omega⟩ ⟨x.val % 256, by omega⟩

theorem final5 (c : Dev nD) (r : Fin 1024) (x : Fin 2048) : (dats (F := Ideal) m 0 c).arrAt 5 (cfgs 0).N (ix2 r x) = dkv (aQ m c) (aO m c) (aKV m c) r x := by
  have h : (dats (F := Ideal) m 0 c).arrAt 5 (cfgs 0).N = fun i : S1024x2048.Idx => dkv (aQ m c) (aO m c) (aKV m c) (i 0) (i 1) := by
    refine (dats (F := Ideal) m 0 c).arrAt_eq_of_covers 5 _ (by decide +kernel) fun t hf y => ?_
    blk_simp
    rw [after0_5, Pipeline.eq_sum_fin_of_reset_step_apply_of_flush (fun n h => (outsAt0 (F := Ideal) m c n h).2) 4 (fun _ => 0) _
      (fun t h j => out5A m c t j h) (fun t h j => out5B m c t j h _) t ((flush0_5 t).mp hf) _, zero_add]
    have lt : t.val < 16 := lt_of_lt_of_eq t.isLt N_0
    have y0 : (y 0).val < 256 := (y 0).isLt
    have y1 : (y 1).val < 2048 := (y 1).isLt
    have i0 : win0_5.index t 0 = t.val / 4 := by rw [(index_maps t).2.2.2.2.2]; rfl
    have i1 : win0_5.index t 1 = 0 := by rw [(index_maps t).2.2.2.2.2]; rfl
    have e0 : ((win0_5.blk t).view.emb y 0).val = t.val / 4 * 256 + (y 0).val := by blk_simp; rw [i0]
    have e1 : ((win0_5.blk t).view.emb y 1).val = (y 1).val := by blk_simp; rw [i1]; omega
    show (∑ s : Fin 4, part m c ⟨4 * (t.val / 4) + s.val, Pipeline.run_point_lt_of_flush t ((flush0_5 t).mp hf) s⟩ y : EReal) = (_ : EReal)
    unfold dkv part
    simp only [e0, e1]
    split
    · refine Eq.trans (Finset.sum_congr rfl fun s _ => ?_) ((sum_partK (aQ m c) (aO m c) (aKV m c) ⟨t.val / 4, by omega⟩ ⟨(y 1).val / 256 % 4, by omega⟩ (y 0) ⟨(y 1).val % 256, by omega⟩).trans ?_)
      · exact congrArg₂ (fun b p => partK _ _ _ b _ p _ _) (Fin.ext (b := ⟨t.val / 4, by omega⟩) (by dsimp only [seqOf]; omega)) (Fin.ext (by dsimp only [tileOf]; omega))
      · exact congrArg₂ (fun b j => AttnRow.dk _ _ _ b _ j _) (Fin.ext (by dsimp only; omega)) (Fin.ext (by dsimp only; omega))
    · refine Eq.trans (Finset.sum_congr rfl fun s _ => ?_) ((sum_partV (aQ m c) (aO m c) (aKV m c) ⟨t.val / 4, by omega⟩ ⟨(y 1).val / 256 % 4, by omega⟩ (y 0) ⟨(y 1).val % 256, by omega⟩).trans ?_)
      · exact congrArg₂ (fun b p => partV _ _ _ b _ p _ _) (Fin.ext (b := ⟨t.val / 4, by omega⟩) (by dsimp only [seqOf]; omega)) (Fin.ext (by dsimp only [tileOf]; omega))
      · exact congrArg₂ (fun b j => AttnRow.dv _ _ _ b _ j _) (Fin.ext (by dsimp only; omega)) (Fin.ext (by dsimp only; omega))
  exact congrFun h (ix2 r x)
end Cert.AttnIdeal.Bridge
-- ==== Proof.Attn.Value.lean ====
module

public import proofs.«01_k».proof.Pre_finite_attn
public import proofs.«01_k».proof.Proof.Attn.Ref
public import proofs.«01_k».proof.Proof.Attn.Kernel

/-!
# The attention's backward pass: kernel and reference agree

On finite arguments the kernel's two result arrays are the reference's, index by index.
-/

@[expose] public section
set_option maxRecDepth 16384
noncomputable section

open Idealize.ShloMosaic Idealize.ShloMosaic.TcCoe Idealize.SL.Sem

namespace Cert.Pre_finite_attn

open Cert.Reals

instance facts : Cert.Pre_finite_attn.Facts := ⟨by decide, by decide, by decide⟩

variable (q : FVec Ideal S8192x1024 .bf16) (kv : FVec Ideal S1024x2048 .bf16) (o : FVec Ideal S8192x1024 .bf16)

theorem real0 (i) (h : (fn (F := Ideal) q kv o).1 i = 1#1) : IsReal (q i) := by
  refine IsReal.of_finite (Eq.trans ?_ h); unfold fn; pointwise

theorem real1 (i) (h : (fn (F := Ideal) q kv o).2.1 i = 1#1) : IsReal (kv i) := by
  refine IsReal.of_finite (Eq.trans ?_ h); unfold fn; pointwise

theorem real2 (i) (h : (fn (F := Ideal) q kv o).2.2 i = 1#1) : IsReal (o i) := by
  refine IsReal.of_finite (Eq.trans ?_ h); unfold fn; pointwise

end Cert.Pre_finite_attn

namespace Cert.AttnRefIdeal.Bridge

open Cert.Reals Cert.AttnRefIdeal Cert.AttnRefIdeal.Gen

variable (m : (ℓ : Loc nD τ sig) → Buf (Elt Ideal) ℓ) (c : Dev nD)
  (hq : ∀ i, IsReal (argQ m c i)) (hk : ∀ i, IsReal (argKV m c i)) (ho : ∀ i, IsReal (argO m c i))

include hq hk ho in
/-- The reference's gradient of the queries at an index. -/
theorem res0_at (r : Fin 8192) (x : Fin 1024) : Value.res_main_v71 m c (ix2 r x)
    = AttnRow.dq (fun r x => argQ m c (ix2 r x)) (fun r x => argO m c (ix2 r x)) (fun r x => argKV m c (ix2 r x))
      ⟨r.val / 2048, by omega⟩ ⟨x.val / 256, by omega⟩ ⟨r.val % 2048, by omega⟩ ⟨x.val % 256, by omega⟩ := by
  rw [res0_eq]; exact outQ_at _ _ _ hq hk ho r x

include hq hk ho in
/-- The reference's gradients of the keys and the values at an index. -/
theorem res1_at (r : Fin 1024) (x : Fin 2048) : Value.res_main_v69 m c (ix2 r x)
    = AttnIdeal.Bridge.dkv (fun r x => argQ m c (ix2 r x)) (fun r x => argO m c (ix2 r x)) (fun r x => argKV m c (ix2 r x)) r x := by
  rw [res1_eq, cat_at]; unfold AttnIdeal.Bridge.dkv
  split
  · next h =>
    rw [dsc, outK_at _ _ _ hq hk ho]
    congr 1
    exact Fin.ext (by dsimp only; omega)
  · rw [outV_at]
    congr 1 <;> exact Fin.ext (by dsimp only; omega)

end Cert.AttnRefIdeal.Bridge

namespace Cert.AttnIdeal.Bridge

open Cert.Reals Cert.AttnIdeal Cert.AttnIdeal.Gen

variable (m : (ℓ : Loc nD τ sig) → Buf (Elt Ideal) ℓ)
  (m' : (ℓ : Loc Cert.AttnRefIdeal.nD Cert.AttnRefIdeal.τ Cert.AttnRefIdeal.sig) → Buf (Elt Ideal) ℓ) (c : Dev nD)
  (h0 : AttnRefIdeal.Bridge.argQ m' c = m ((c.tc : Thread nD τ).loc main_arg0))
  (h1 : AttnRefIdeal.Bridge.argKV m' c = m ((c.tc : Thread nD τ).loc main_arg1))
  (h2 : AttnRefIdeal.Bridge.argO m' c = m ((c.tc : Thread nD τ).loc main_arg2))
  (hq : ∀ i, IsReal (m ((c.tc : Thread nD τ).loc main_arg0) i)) (hk : ∀ i, IsReal (m ((c.tc : Thread nD τ).loc main_arg1) i))
  (ho : ∀ i, IsReal (m ((c.tc : Thread nD τ).loc main_arg2) i))
include h0 h1 h2 hq hk ho

/-- The gradients of the queries agree. -/
theorem agree0 : Cert.AttnRefIdeal.Value.res_main_v71 m' c = (dats (F := Ideal) m 0 c).arrAt 4 (cfgs 0).N := by
  funext i
  have e : i = ix2 (i 0) (i 1) := by funext a; fin_cases a <;> rfl
  rw [e]
  refine (AttnRefIdeal.Bridge.res0_at m' c (h0 ▸ hq) (h1 ▸ hk) (h2 ▸ ho) (i 0) (i 1)).trans ?_
  rw [h0, h1, h2]
  exact (final4 m c (i 0) (i 1)).symm

/-- The gradients of the keys and the values agree. -/
theorem agree1 : Cert.AttnRefIdeal.Value.res_main_v69 m' c = (dats (F := Ideal) m 0 c).arrAt 5 (cfgs 0).N := by
  funext i
  have e : i = ix2 (i 0) (i 1) := by funext a; fin_cases a <;> rfl
  rw [e]
  refine (AttnRefIdeal.Bridge.res1_at m' c (h0 ▸ hq) (h1 ▸ hk) (h2 ▸ ho) (i 0) (i 1)).trans ?_
  rw [h0, h1, h2]
  exact (final5 m c (i 0) (i 1)).symm

end Cert.AttnIdeal.Bridge
-- ==== Proof.Ff2Value.lean ====
/- The gradient of the squared-ReLU layer with respect to its pre-activation: the kernel's result array is the
   reference's term, index by index. -/
module

public import proofs.«01_k».proof.Proof.Gen.Ff2Ideal.Frame
public import proofs.«01_k».proof.Proof.Gen.Ff2RefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Ff2Ideal.Bridge

open Cert.Ff2Ideal Cert.Ff2Ideal.Gen

variable (m : (ℓ : Loc nD τ sig) → Buf (Elt Ideal) ℓ)

/-- The reference's term over the pre-activation `h`, the weight `w` and the cotangent `dz`. -/
def ref (h : FVec Ideal S8192x4096 .bf16) (w : FVec Ideal S4096x1024 .bf16) (dz : FVec Ideal S8192x1024 .f32) :
    FVec Ideal S8192x4096 .bf16 :=
  truncf .bf16 (select (cmpf .ogt (extf .f32 h Cert.Ff2RefIdeal.Gen.bitsLt_bf16_f32)
      (broadcastInDim Cert.Ff2RefIdeal.S8192x4096 ![] Cert.Ff2RefIdeal.Gen.bcast_S_S8192x4096 (constant (F := Ideal) Cert.Ff2RefIdeal.S_ .f32 0x00000000#32)))
    (mulf (Host.dotGeneral (F := Ideal) (φ₁ := .f32) (φ₂ := .f32) Cert.Ff2RefIdeal.dot_S8192x1024_S4096x1024_S8192x4096_1_1_0_0_n_n none dz (extf .f32 w Cert.Ff2RefIdeal.Gen.bitsLt_bf16_f32))
      (mulf (broadcastInDim Cert.Ff2RefIdeal.S8192x4096 ![] Cert.Ff2RefIdeal.Gen.bcast_S_S8192x4096 (constant (F := Ideal) Cert.Ff2RefIdeal.S_ .f32 0x40000000#32))
        (maximumf (extf .f32 h Cert.Ff2RefIdeal.Gen.bitsLt_bf16_f32)
          (broadcastInDim Cert.Ff2RefIdeal.S8192x4096 ![] Cert.Ff2RefIdeal.Gen.bcast_S_S8192x4096 (constant (F := Ideal) Cert.Ff2RefIdeal.S_ .f32 0x00000000#32)))))
    (broadcastInDim Cert.Ff2RefIdeal.S8192x4096 ![] Cert.Ff2RefIdeal.Gen.bcast_S_S8192x4096 (constant (F := Ideal) Cert.Ff2RefIdeal.S_ .f32 0x00000000#32))) Cert.Ff2RefIdeal.Gen.bitsLt_bf16_f32

theorem index_maps : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- Where the pre-activation is positive the reference's branch is the kernel's product; elsewhere the factor
    `2 max(h, 0)` is zero, and zero times any extended real is zero. -/
theorem relu_branch (s x c : EReal) : s * (c * max x 0) = if 0 < x then s * (c * max x 0) else 0 := by
  split
  · rfl
  · next h => rw [max_eq_right (not_lt.mp h), mul_zero, mul_zero]

theorem point (c : Dev nD) (t : Fin cfg0.N) (y) : k0_pay1 (iblk m c 0 t) (iblk m c 1 t) (iblk m c 2 t) y
    = ref (m ((c : Thread nD τ).loc main_arg0)) (m ((c : Thread nD τ).loc main_arg1)) (m ((c : Thread nD τ).loc main_arg2))
      (((cfg0.win 3).blk t).view.emb y) := by
  pointwise [k0_pay1, ref]
  refine (relu_branch _ _ _).trans ?_
  blk_point [iblk, V, index_maps t]

theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Ff2Ideal.Bridge

end
-- ==== Proof.Mix.Trip.lean ====
module

public import proofs.«01_k».proof.Proof.Gen.MixIdeal.Loops

/-!
# One trip of the mixer's first backward pass

The kernel's first loop walks over the chunks of the sequence. One trip is run here from the contents of the buffers it
finds to the contents it leaves.
-/

@[expose] public section
set_option maxRecDepth 16384
set_option maxHeartbeats 40000000
noncomputable section
namespace Cert.MixIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixIdeal.Gen
variable {F : FTy → Type} [FloatOps F]
local notation "𝕄" => MT nD τ sig Unit (Elt F) ℕ (UR sig nD τ) ℕ

/-- A buffer held whole at its contents. -/
abbrev holds (c : Dev nD) {s : Shape} {e : EltTy} (M : Memref sig .tc .vmem s e) (f : BufTy.Contents (Elt F) M.view.ty) : sProp 𝕄 :=
  iprop(M.view.loc (c : Thread nD τ) ↦[M.view.set]{fullShare} f)

variable (𝒱 : Variants) (c : Dev nD) (bd : Option 𝒱.V) (i : grid0.Coords)
  (arg1 : Memref sig .tc .vmem S2048x2432 .bf16) (harg1 : arg1.IsWhole) (arg2 : Memref sig .tc .vmem S2048x1024
  .bf16) (harg2 : arg2.IsWhole) (arg3 : Memref sig .tc .vmem S2048x384 .f32) (harg3 : arg3.IsWhole) (arg4 : Memref
  sig .tc .vmem S32x384 .f32) (harg4 : arg4.IsWhole) (arg5 : Memref sig .tc .vmem S1x384 .f32) (harg5 : arg5.IsWhole)
  (arg6 : Memref sig .tc .vmem S1x384 .f32) (harg6 : arg6.IsWhole) (arg7 : Memref sig .tc .vmem S1x384 .f32) (harg7 :
  arg7.IsWhole) (arg8 : Memref sig .tc .vmem S1x256 .f32) (harg8 : arg8.IsWhole) (arg9 : Memref sig .tc .vmem S1x256
  .f32) (harg9 : arg9.IsWhole) (arg10 : Memref sig .tc .vmem S4x128x128 .bf16) (harg10 : arg10.IsWhole) (arg11 :
  Memref sig .tc .vmem S128x256 .f32) (harg11 : arg11.IsWhole) (arg12 : Memref sig .tc .vmem S8x384 .f32) (harg12 :
  arg12.IsWhole) (arg13 : Memref sig .tc .vmem S2048x2432 .bf16) (harg13 : arg13.IsWhole) (arg14 : Memref sig .tc
  .vmem S1x32x384 .f32) (harg14 : arg14.IsWhole) (arg15 : Memref sig .tc .vmem S1x8x384 .f32) (harg15 :
  arg15.IsWhole) (arg16 : Memref sig .tc .vmem S1x8x384 .f32) (harg16 : arg16.IsWhole) (arg17 : Memref sig .tc .vmem
  S1x8x384 .f32) (harg17 : arg17.IsWhole) (arg18 : Memref sig .tc .vmem S1x8x256 .f32) (harg18 : arg18.IsWhole)
  (arg19 : Memref sig .tc .vmem S1x8x256 .f32) (harg19 : arg19.IsWhole) (arg20 : Memref sig .tc .vmem S1x4x128x128
  .f32) (harg20 : arg20.IsWhole) (arg21 : Memref sig .tc .vmem S1x128x128 .f32) (harg21 : arg21.IsWhole) (arg22 :
  Memref sig .tc .vmem S1x8x384 .f32) (harg22 : arg22.IsWhole) (arg23 : Memref sig .tc .vmem S2080x384 .f32) (harg23
  : arg23.IsWhole) (arg24 : Memref sig .tc .vmem S2080x384 .f32) (harg24 : arg24.IsWhole) (arg25 : Memref sig .tc
  .vmem S2056x384 .f32) (harg25 : arg25.IsWhole) (arg26 : Memref sig .tc .vmem S2056x384 .f32) (harg26 :
  arg26.IsWhole) (arg27 : Memref sig .tc .vmem S248x384 .f32) (harg27 : arg27.IsWhole) (arg28 : Memref sig .tc .vmem
  S8x384 .f32) (harg28 : arg28.IsWhole) (arg29 : Memref sig .tc .vmem S8x384 .f32) (harg29 : arg29.IsWhole) (arg30 :
  Memref sig .tc .vmem S8x384 .f32) (harg30 : arg30.IsWhole) (arg31 : Memref sig .tc .vmem S8x256 .f32) (harg31 :
  arg31.IsWhole) (arg32 : Memref sig .tc .vmem S8x256 .f32) (harg32 : arg32.IsWhole) (arg33 : Memref sig .tc .vmem
  S24x384 .f32) (harg33 : arg33.IsWhole) (arg34 : Memref sig .tc .vmem S136x128 .f32) (harg34 : arg34.IsWhole)
  (v52 : IVec S1x256 32) (c64_i32 : BitVec 32) (v54 : IVec S1x256 32) (v57 : IVec S1x256 32) (v60 : IVec S1x256 32) (v77 : IVec S1x128 32)

/-- What the first pass writes: the buffers' contents before a trip. -/
structure St (F : FTy → Type) [FloatOps F]
   (arg13 : Memref sig .tc .vmem S2048x2432 .bf16) (arg20 : Memref sig .tc .vmem S1x4x128x128 .f32) (arg21 : Memref
  sig .tc .vmem S1x128x128 .f32) (arg23 : Memref sig .tc .vmem S2080x384 .f32) (arg24 : Memref sig .tc .vmem
  S2080x384 .f32) (arg25 : Memref sig .tc .vmem S2056x384 .f32) (arg26 : Memref sig .tc .vmem S2056x384 .f32) (arg27
  : Memref sig .tc .vmem S248x384 .f32) (arg28 : Memref sig .tc .vmem S8x384 .f32) (arg29 : Memref sig .tc .vmem
  S8x384 .f32) (arg30 : Memref sig .tc .vmem S8x384 .f32) (arg31 : Memref sig .tc .vmem S8x256 .f32) (arg32 : Memref
  sig .tc .vmem S8x256 .f32) (arg33 : Memref sig .tc .vmem S24x384 .f32) (arg34 : Memref sig .tc .vmem S136x128 .f32) where
  f13 : BufTy.Contents (Elt F) arg13.view.ty
  f20 : BufTy.Contents (Elt F) arg20.view.ty
  f21 : BufTy.Contents (Elt F) arg21.view.ty
  f23 : BufTy.Contents (Elt F) arg23.view.ty
  f24 : BufTy.Contents (Elt F) arg24.view.ty
  f25 : BufTy.Contents (Elt F) arg25.view.ty
  f26 : BufTy.Contents (Elt F) arg26.view.ty
  f27 : BufTy.Contents (Elt F) arg27.view.ty
  f28 : BufTy.Contents (Elt F) arg28.view.ty
  f29 : BufTy.Contents (Elt F) arg29.view.ty
  f30 : BufTy.Contents (Elt F) arg30.view.ty
  f31 : BufTy.Contents (Elt F) arg31.view.ty
  f32 : BufTy.Contents (Elt F) arg32.view.ty
  f33 : BufTy.Contents (Elt F) arg33.view.ty
  f34 : BufTy.Contents (Elt F) arg34.view.ty

/-- The buffers of a trip: those only read at their contents, those written at a state. -/
abbrev held (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (S : St F arg13 arg20 arg21 arg23 arg24 arg25 arg26 arg27 arg28 arg29 arg30 arg31 arg32 arg33 arg34) : sProp 𝕄 :=
  iprop(holds c arg1 X1 ∗ holds c arg2 X2 ∗ holds c arg3 X3 ∗ holds c arg5 X5 ∗ holds c arg6 X6 ∗ holds c arg7 X7 ∗
  holds c arg8 X8 ∗ holds c arg9 X9 ∗ holds c arg10 X10 ∗ holds c arg11 X11 ∗ holds c arg12 X12 ∗ holds c arg13 S.f13
  ∗ holds c arg20 S.f20 ∗ holds c arg21 S.f21 ∗ holds c arg23 S.f23 ∗ holds c arg24 S.f24 ∗ holds c arg25 S.f25 ∗
  holds c arg26 S.f26 ∗ holds c arg27 S.f27 ∗ holds c arg28 S.f28 ∗ holds c arg29 S.f29 ∗ holds c arg30 S.f30 ∗ holds
  c arg31 S.f31 ∗ holds c arg32 S.f32 ∗ holds c arg33 S.f33 ∗ holds c arg34 S.f34)

/-- One trip of the first pass: the state it leaves, from the state it finds. -/
@[irreducible] def trip (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) (S : St F arg13 arg20 arg21 arg23 arg24 arg25 arg26 arg27 arg28 arg29 arg30 arg31 arg32 arg33 arg34) :
    { S' : St F arg13 arg20 arg21 arg23 arg24 arg25 arg26 arg27 arg28 arg29 arg30 arg31 arg32 arg33 arg34 // ∀ E : Set ℕ, (held c arg1 arg2 arg3 arg5 arg6 arg7 arg8 arg9 arg10 arg11 arg12 arg13 arg20 arg21 arg23 arg24 arg25 arg26 arg27 arg28 arg29 arg30 arg31 arg32 arg33 arg34 X1 X2 X3 X5 X6 X7 X8 X9 X10 X11 X12 S : sProp 𝕄)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 k PUnit.unit)
        (fun _ => held c arg1 arg2 arg3 arg5 arg6 arg7 arg8 arg9 arg10 arg11 arg12 arg13 arg20 arg21 arg23 arg24 arg25 arg26 arg27 arg28 arg29 arg30 arg31 arg32 arg33 arg34 X1 X2 X3 X5 X6 X7 X8 X9 X10 X11 X12 S') } := by
  have hk : k.val < 16 := Nat.lt_of_lt_of_le k.isLt k0_t1_abs.2.1
  obtain ⟨f13, f20, f21, f23, f24, f25, f26, f27, f28, f29, f30, f31, f32, f33, f34⟩ := S
  refine ⟨⟨?_, ?_, ?_, ?_, ?_, ?_, ?_, ?_, ?_, ?_, ?_, ?_, ?_, ?_, ?_⟩, fun E => ?run⟩
  case run =>
    unfold k0_t1_body
    dsimp only [holds, held]
    iintro ⟨H1, H2, H3, H5, H6, H7, H8, H9, H10, H11, H12, H13, H20, H21, H23, H24, H25, H26, H27, H28, H29, H30, H31, H32, H33, H34⟩
    sl_exec
    sl_step
    sl_close
-- ==== Proof.Mix.Pass.lean ====
module

public import proofs.«01_k».proof.Proof.Mix.Trip

/-!
# The first pass of the mixer's backward kernel

The loop over the chunks, by an invariant that follows the written buffers from trip to trip.
-/

@[expose] public section
set_option maxRecDepth 16384
set_option maxHeartbeats 40000000
noncomputable section
namespace Cert.MixIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixIdeal.Gen
variable {F : FTy → Type} [FloatOps F]
local notation "𝕄" => MT nD τ sig Unit (Elt F) ℕ (UR sig nD τ) ℕ

/-- A sequence read at `k`, its first member given apart. -/
abbrev from0 {α : Type} (g : α) (s : ℕ → α) (k : ℕ) : α := Nat.casesOn (motive := fun _ => α) k g fun j => s (j + 1)

theorem from0_eq {α : Type} (g : α) (s : ℕ → α) (k : ℕ) (h : s 0 = g) : from0 g s k = s k := by
  cases k
  · exact h.symm
  · rfl

variable (𝒱 : Variants) (c : Dev nD) (bd : Option 𝒱.V) (i : grid0.Coords)
  (arg1 : Memref sig .tc .vmem S2048x2432 .bf16) (harg1 : arg1.IsWhole) (arg2 : Memref sig .tc .vmem S2048x1024
  .bf16) (harg2 : arg2.IsWhole) (arg3 : Memref sig .tc .vmem S2048x384 .f32) (harg3 : arg3.IsWhole) (arg4 : Memref
  sig .tc .vmem S32x384 .f32) (harg4 : arg4.IsWhole) (arg5 : Memref sig .tc .vmem S1x384 .f32) (harg5 : arg5.IsWhole)
  (arg6 : Memref sig .tc .vmem S1x384 .f32) (harg6 : arg6.IsWhole) (arg7 : Memref sig .tc .vmem S1x384 .f32) (harg7 :
  arg7.IsWhole) (arg8 : Memref sig .tc .vmem S1x256 .f32) (harg8 : arg8.IsWhole) (arg9 : Memref sig .tc .vmem S1x256
  .f32) (harg9 : arg9.IsWhole) (arg10 : Memref sig .tc .vmem S4x128x128 .bf16) (harg10 : arg10.IsWhole) (arg11 :
  Memref sig .tc .vmem S128x256 .f32) (harg11 : arg11.IsWhole) (arg12 : Memref sig .tc .vmem S8x384 .f32) (harg12 :
  arg12.IsWhole) (arg13 : Memref sig .tc .vmem S2048x2432 .bf16) (harg13 : arg13.IsWhole) (arg14 : Memref sig .tc
  .vmem S1x32x384 .f32) (harg14 : arg14.IsWhole) (arg15 : Memref sig .tc .vmem S1x8x384 .f32) (harg15 :
  arg15.IsWhole) (arg16 : Memref sig .tc .vmem S1x8x384 .f32) (harg16 : arg16.IsWhole) (arg17 : Memref sig .tc .vmem
  S1x8x384 .f32) (harg17 : arg17.IsWhole) (arg18 : Memref sig .tc .vmem S1x8x256 .f32) (harg18 : arg18.IsWhole)
  (arg19 : Memref sig .tc .vmem S1x8x256 .f32) (harg19 : arg19.IsWhole) (arg20 : Memref sig .tc .vmem S1x4x128x128
  .f32) (harg20 : arg20.IsWhole) (arg21 : Memref sig .tc .vmem S1x128x128 .f32) (harg21 : arg21.IsWhole) (arg22 :
  Memref sig .tc .vmem S1x8x384 .f32) (harg22 : arg22.IsWhole) (arg23 : Memref sig .tc .vmem S2080x384 .f32) (harg23
  : arg23.IsWhole) (arg24 : Memref sig .tc .vmem S2080x384 .f32) (harg24 : arg24.IsWhole) (arg25 : Memref sig .tc
  .vmem S2056x384 .f32) (harg25 : arg25.IsWhole) (arg26 : Memref sig .tc .vmem S2056x384 .f32) (harg26 :
  arg26.IsWhole) (arg27 : Memref sig .tc .vmem S248x384 .f32) (harg27 : arg27.IsWhole) (arg28 : Memref sig .tc .vmem
  S8x384 .f32) (harg28 : arg28.IsWhole) (arg29 : Memref sig .tc .vmem S8x384 .f32) (harg29 : arg29.IsWhole) (arg30 :
  Memref sig .tc .vmem S8x384 .f32) (harg30 : arg30.IsWhole) (arg31 : Memref sig .tc .vmem S8x256 .f32) (harg31 :
  arg31.IsWhole) (arg32 : Memref sig .tc .vmem S8x256 .f32) (harg32 : arg32.IsWhole) (arg33 : Memref sig .tc .vmem
  S24x384 .f32) (harg33 : arg33.IsWhole) (arg34 : Memref sig .tc .vmem S136x128 .f32) (harg34 : arg34.IsWhole)
  (v52 : IVec S1x256 32) (c64_i32 : BitVec 32) (v54 : IVec S1x256 32) (v57 : IVec S1x256 32) (v60 : IVec S1x256 32) (v77 : IVec S1x128 32)

/-- The state before trip `k`. -/
def iter (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (S : St F arg13 arg20 arg21 arg23 arg24 arg25 arg26 arg27 arg28 arg29 arg30 arg31 arg32 arg33 arg34) : ℕ → St F arg13 arg20 arg21 arg23 arg24 arg25 arg26 arg27 arg28 arg29 arg30 arg31 arg32 arg33 arg34
  | 0 => S
  | k + 1 => if h : k < k0_t1_loop.trips then (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 ⟨k, h⟩ (iter X1 X2 X3 X5 X6 X7 X8 X9 X10 X11 X12 S k)).1 else iter X1 X2 X3 X5 X6 X7 X8 X9 X10 X11 X12 S k

theorem iter_succ (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (S : St F arg13 arg20 arg21 arg23 arg24 arg25 arg26 arg27 arg28 arg29 arg30 arg31 arg32 arg33 arg34) (k : Fin k0_t1_loop.trips) :
    iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 S (k.val + 1)
      = (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 k (iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 S k.val)).1 := by
  rw [iter.eq_2]; exact dif_pos k.isLt

/-- The first pass by its invariant. -/
@[sl_loop] def loop (E : Set ℕ) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (G13 : BufTy.Contents (Elt F) arg13.view.ty) (G20 : BufTy.Contents (Elt F) arg20.view.ty) (G21 : BufTy.Contents (Elt F) arg21.view.ty) (G23 : BufTy.Contents (Elt F) arg23.view.ty) (G24 : BufTy.Contents (Elt F) arg24.view.ty) (G25 : BufTy.Contents (Elt F) arg25.view.ty) (G26 : BufTy.Contents (Elt F) arg26.view.ty) (G27 : BufTy.Contents (Elt F) arg27.view.ty) (G28 : BufTy.Contents (Elt F) arg28.view.ty) (G29 : BufTy.Contents (Elt F) arg29.view.ty) (G30 : BufTy.Contents (Elt F) arg30.view.ty) (G31 : BufTy.Contents (Elt F) arg31.view.ty) (G32 : BufTy.Contents (Elt F) arg32.view.ty) (G33 : BufTy.Contents (Elt F) arg33.view.ty) (G34 : BufTy.Contents (Elt F) arg34.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 where
  inv k _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (∃ f, (arg13.view.loc (c : Thread nD τ) ↦[arg13.view.set]{fullShare} f) ∗ ⌜f = from0 G13 (fun j => (iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 ⟨G13, G20, G21, G23, G24, G25, G26, G27, G28, G29, G30, G31, G32, G33, G34⟩ j).f13) k⌝) ∗ (∃ f, (arg20.view.loc (c : Thread nD τ) ↦[arg20.view.set]{fullShare} f) ∗ ⌜f = from0 G20 (fun j => (iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 ⟨G13, G20, G21, G23, G24, G25, G26, G27, G28, G29, G30, G31, G32, G33, G34⟩ j).f20) k⌝) ∗ (∃ f, (arg21.view.loc (c : Thread nD τ) ↦[arg21.view.set]{fullShare} f) ∗ ⌜f = from0 G21 (fun j => (iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 ⟨G13, G20, G21, G23, G24, G25, G26, G27, G28, G29, G30, G31, G32, G33, G34⟩ j).f21) k⌝) ∗ (∃ f, (arg23.view.loc (c : Thread nD τ) ↦[arg23.view.set]{fullShare} f) ∗ ⌜f = from0 G23 (fun j => (iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 ⟨G13, G20, G21, G23, G24, G25, G26, G27, G28, G29, G30, G31, G32, G33, G34⟩ j).f23) k⌝) ∗ (∃ f, (arg24.view.loc (c : Thread nD τ) ↦[arg24.view.set]{fullShare} f) ∗ ⌜f = from0 G24 (fun j => (iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 ⟨G13, G20, G21, G23, G24, G25, G26, G27, G28, G29, G30, G31, G32, G33, G34⟩ j).f24) k⌝) ∗ (∃ f, (arg25.view.loc (c : Thread nD τ) ↦[arg25.view.set]{fullShare} f) ∗ ⌜f = from0 G25 (fun j => (iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 ⟨G13, G20, G21, G23, G24, G25, G26, G27, G28, G29, G30, G31, G32, G33, G34⟩ j).f25) k⌝) ∗ (∃ f, (arg26.view.loc (c : Thread nD τ) ↦[arg26.view.set]{fullShare} f) ∗ ⌜f = from0 G26 (fun j => (iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 ⟨G13, G20, G21, G23, G24, G25, G26, G27, G28, G29, G30, G31, G32, G33, G34⟩ j).f26) k⌝) ∗ (∃ f, (arg27.view.loc (c : Thread nD τ) ↦[arg27.view.set]{fullShare} f) ∗ ⌜f = from0 G27 (fun j => (iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 ⟨G13, G20, G21, G23, G24, G25, G26, G27, G28, G29, G30, G31, G32, G33, G34⟩ j).f27) k⌝) ∗ (∃ f, (arg28.view.loc (c : Thread nD τ) ↦[arg28.view.set]{fullShare} f) ∗ ⌜f = from0 G28 (fun j => (iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 ⟨G13, G20, G21, G23, G24, G25, G26, G27, G28, G29, G30, G31, G32, G33, G34⟩ j).f28) k⌝) ∗ (∃ f, (arg29.view.loc (c : Thread nD τ) ↦[arg29.view.set]{fullShare} f) ∗ ⌜f = from0 G29 (fun j => (iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 ⟨G13, G20, G21, G23, G24, G25, G26, G27, G28, G29, G30, G31, G32, G33, G34⟩ j).f29) k⌝) ∗ (∃ f, (arg30.view.loc (c : Thread nD τ) ↦[arg30.view.set]{fullShare} f) ∗ ⌜f = from0 G30 (fun j => (iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 ⟨G13, G20, G21, G23, G24, G25, G26, G27, G28, G29, G30, G31, G32, G33, G34⟩ j).f30) k⌝) ∗ (∃ f, (arg31.view.loc (c : Thread nD τ) ↦[arg31.view.set]{fullShare} f) ∗ ⌜f = from0 G31 (fun j => (iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 ⟨G13, G20, G21, G23, G24, G25, G26, G27, G28, G29, G30, G31, G32, G33, G34⟩ j).f31) k⌝) ∗ (∃ f, (arg32.view.loc (c : Thread nD τ) ↦[arg32.view.set]{fullShare} f) ∗ ⌜f = from0 G32 (fun j => (iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 ⟨G13, G20, G21, G23, G24, G25, G26, G27, G28, G29, G30, G31, G32, G33, G34⟩ j).f32) k⌝) ∗ (∃ f, (arg33.view.loc (c : Thread nD τ) ↦[arg33.view.set]{fullShare} f) ∗ ⌜f = from0 G33 (fun j => (iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 ⟨G13, G20, G21, G23, G24, G25, G26, G27, G28, G29, G30, G31, G32, G33, G34⟩ j).f33) k⌝) ∗ (∃ f, (arg34.view.loc (c : Thread nD τ) ↦[arg34.view.set]{fullShare} f) ∗ ⌜f = from0 G34 (fun j => (iter (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 ⟨G13, G20, G21, G23, G24, G25, G26, G27, G28, G29, G30, G31, G32, G33, G34⟩ j).f34) k⌝))
  step k acc := by
    iintro ⟨H1, H2, H3, H5, H6, H7, H8, H9, H10, H11, H12, ⟨%f13, H13, %e13⟩, ⟨%f20, H20, %e20⟩, ⟨%f21, H21, %e21⟩, ⟨%f23, H23, %e23⟩, ⟨%f24, H24, %e24⟩, ⟨%f25, H25, %e25⟩, ⟨%f26, H26, %e26⟩, ⟨%f27, H27, %e27⟩, ⟨%f28, H28, %e28⟩, ⟨%f29, H29, %e29⟩, ⟨%f30, H30, %e30⟩, ⟨%f31, H31, %e31⟩, ⟨%f32, H32, %e32⟩, ⟨%f33, H33, %e33⟩, ⟨%f34, H34, %e34⟩⟩
    replace e13 := e13.trans (from0_eq G13 _ k.val (by rfl))
    replace e20 := e20.trans (from0_eq G20 _ k.val (by rfl))
    replace e21 := e21.trans (from0_eq G21 _ k.val (by rfl))
    replace e23 := e23.trans (from0_eq G23 _ k.val (by rfl))
    replace e24 := e24.trans (from0_eq G24 _ k.val (by rfl))
    replace e25 := e25.trans (from0_eq G25 _ k.val (by rfl))
    replace e26 := e26.trans (from0_eq G26 _ k.val (by rfl))
    replace e27 := e27.trans (from0_eq G27 _ k.val (by rfl))
    replace e28 := e28.trans (from0_eq G28 _ k.val (by rfl))
    replace e29 := e29.trans (from0_eq G29 _ k.val (by rfl))
    replace e30 := e30.trans (from0_eq G30 _ k.val (by rfl))
    replace e31 := e31.trans (from0_eq G31 _ k.val (by rfl))
    replace e32 := e32.trans (from0_eq G32 _ k.val (by rfl))
    replace e33 := e33.trans (from0_eq G33 _ k.val (by rfl))
    replace e34 := e34.trans (from0_eq G34 _ k.val (by rfl))
    subst e13 e20 e21 e23 e24 e25 e26 e27 e28 e29 e30 e31 e32 e33 e34
    iapply (wp_wand_r Idealize.ShloMosaic.frame (wpE (defs₀ (F := F)) 𝒱 (c : Thread nD τ) bd) E)
    isplitl [H1 H2 H3 H5 H6 H7 H8 H9 H10 H11 H12 H13 H20 H21 H23 H24 H25 H26 H27 H28 H29 H30 H31 H32 H33 H34]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v52 c64_i32 v54 v57 v60 v77 X1 X2 X3 X5 X6 X7 X8 X9 X10 X11 X12 k _).2 E)
      dsimp only [held]
      sl_close
    · iintro %_ H
      dsimp only [held]
      icases H with ⟨H1, H2, H3, H5, H6, H7, H8, H9, H10, H11, H12, H13, H20, H21, H23, H24, H25, H26, H27, H28, H29, H30, H31, H32, H33, H34⟩
      dsimp only [from0]
      rw [iter_succ]
      sl_close
-- ==== Proof.Mix.Body.lean ====
module

public import proofs.«01_k».proof.Proof.Mix.Pass

/-!
# The body of the mixer's backward kernel

The body at one grid point: what it leaves in every buffer it writes, from what it finds there.
-/

@[expose] public section
set_option maxRecDepth 16384
set_option maxHeartbeats 40000000
noncomputable section
namespace Cert.MixIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixIdeal.Gen
variable {F : FTy → Type} [FloatOps F]
local notation "𝕄" => MT nD τ sig Unit (Elt F) ℕ (UR sig nD τ) ℕ

variable (𝒱 : Variants) (c : Dev nD) (bd : Option 𝒱.V) (i : grid0.Coords)
  (arg1 : Memref sig .tc .vmem S2048x2432 .bf16) (harg1 : arg1.IsWhole) (arg2 : Memref sig .tc .vmem S2048x1024
  .bf16) (harg2 : arg2.IsWhole) (arg3 : Memref sig .tc .vmem S2048x384 .f32) (harg3 : arg3.IsWhole) (arg4 : Memref
  sig .tc .vmem S32x384 .f32) (harg4 : arg4.IsWhole) (arg5 : Memref sig .tc .vmem S1x384 .f32) (harg5 : arg5.IsWhole)
  (arg6 : Memref sig .tc .vmem S1x384 .f32) (harg6 : arg6.IsWhole) (arg7 : Memref sig .tc .vmem S1x384 .f32) (harg7 :
  arg7.IsWhole) (arg8 : Memref sig .tc .vmem S1x256 .f32) (harg8 : arg8.IsWhole) (arg9 : Memref sig .tc .vmem S1x256
  .f32) (harg9 : arg9.IsWhole) (arg10 : Memref sig .tc .vmem S4x128x128 .bf16) (harg10 : arg10.IsWhole) (arg11 :
  Memref sig .tc .vmem S128x256 .f32) (harg11 : arg11.IsWhole) (arg12 : Memref sig .tc .vmem S8x384 .f32) (harg12 :
  arg12.IsWhole) (arg13 : Memref sig .tc .vmem S2048x2432 .bf16) (harg13 : arg13.IsWhole) (arg14 : Memref sig .tc
  .vmem S1x32x384 .f32) (harg14 : arg14.IsWhole) (arg15 : Memref sig .tc .vmem S1x8x384 .f32) (harg15 :
  arg15.IsWhole) (arg16 : Memref sig .tc .vmem S1x8x384 .f32) (harg16 : arg16.IsWhole) (arg17 : Memref sig .tc .vmem
  S1x8x384 .f32) (harg17 : arg17.IsWhole) (arg18 : Memref sig .tc .vmem S1x8x256 .f32) (harg18 : arg18.IsWhole)
  (arg19 : Memref sig .tc .vmem S1x8x256 .f32) (harg19 : arg19.IsWhole) (arg20 : Memref sig .tc .vmem S1x4x128x128
  .f32) (harg20 : arg20.IsWhole) (arg21 : Memref sig .tc .vmem S1x128x128 .f32) (harg21 : arg21.IsWhole) (arg22 :
  Memref sig .tc .vmem S1x8x384 .f32) (harg22 : arg22.IsWhole) (arg23 : Memref sig .tc .vmem S2080x384 .f32) (harg23
  : arg23.IsWhole) (arg24 : Memref sig .tc .vmem S2080x384 .f32) (harg24 : arg24.IsWhole) (arg25 : Memref sig .tc
  .vmem S2056x384 .f32) (harg25 : arg25.IsWhole) (arg26 : Memref sig .tc .vmem S2056x384 .f32) (harg26 :
  arg26.IsWhole) (arg27 : Memref sig .tc .vmem S248x384 .f32) (harg27 : arg27.IsWhole) (arg28 : Memref sig .tc .vmem
  S8x384 .f32) (harg28 : arg28.IsWhole) (arg29 : Memref sig .tc .vmem S8x384 .f32) (harg29 : arg29.IsWhole) (arg30 :
  Memref sig .tc .vmem S8x384 .f32) (harg30 : arg30.IsWhole) (arg31 : Memref sig .tc .vmem S8x256 .f32) (harg31 :
  arg31.IsWhole) (arg32 : Memref sig .tc .vmem S8x256 .f32) (harg32 : arg32.IsWhole) (arg33 : Memref sig .tc .vmem
  S24x384 .f32) (harg33 : arg33.IsWhole) (arg34 : Memref sig .tc .vmem S136x128 .f32) (harg34 : arg34.IsWhole)

/-- The contents of the buffers the body writes: its ten results and its scratch. -/
structure Bufs (F : FTy → Type) [FloatOps F]
  (arg13 : Memref sig .tc .vmem S2048x2432 .bf16) (arg14 : Memref sig .tc .vmem S1x32x384 .f32) (arg15 : Memref sig
  .tc .vmem S1x8x384 .f32) (arg16 : Memref sig .tc .vmem S1x8x384 .f32) (arg17 : Memref sig .tc .vmem S1x8x384 .f32)
  (arg18 : Memref sig .tc .vmem S1x8x256 .f32) (arg19 : Memref sig .tc .vmem S1x8x256 .f32) (arg20 : Memref sig .tc
  .vmem S1x4x128x128 .f32) (arg21 : Memref sig .tc .vmem S1x128x128 .f32) (arg22 : Memref sig .tc .vmem S1x8x384
  .f32) (arg23 : Memref sig .tc .vmem S2080x384 .f32) (arg24 : Memref sig .tc .vmem S2080x384 .f32) (arg25 : Memref
  sig .tc .vmem S2056x384 .f32) (arg26 : Memref sig .tc .vmem S2056x384 .f32) (arg27 : Memref sig .tc .vmem S248x384
  .f32) (arg28 : Memref sig .tc .vmem S8x384 .f32) (arg29 : Memref sig .tc .vmem S8x384 .f32) (arg30 : Memref sig .tc
  .vmem S8x384 .f32) (arg31 : Memref sig .tc .vmem S8x256 .f32) (arg32 : Memref sig .tc .vmem S8x256 .f32) (arg33 :
  Memref sig .tc .vmem S24x384 .f32) (arg34 : Memref sig .tc .vmem S136x128 .f32) where
  f13 : BufTy.Contents (Elt F) arg13.view.ty
  f14 : BufTy.Contents (Elt F) arg14.view.ty
  f15 : BufTy.Contents (Elt F) arg15.view.ty
  f16 : BufTy.Contents (Elt F) arg16.view.ty
  f17 : BufTy.Contents (Elt F) arg17.view.ty
  f18 : BufTy.Contents (Elt F) arg18.view.ty
  f19 : BufTy.Contents (Elt F) arg19.view.ty
  f20 : BufTy.Contents (Elt F) arg20.view.ty
  f21 : BufTy.Contents (Elt F) arg21.view.ty
  f22 : BufTy.Contents (Elt F) arg22.view.ty
  f23 : BufTy.Contents (Elt F) arg23.view.ty
  f24 : BufTy.Contents (Elt F) arg24.view.ty
  f25 : BufTy.Contents (Elt F) arg25.view.ty
  f26 : BufTy.Contents (Elt F) arg26.view.ty
  f27 : BufTy.Contents (Elt F) arg27.view.ty
  f28 : BufTy.Contents (Elt F) arg28.view.ty
  f29 : BufTy.Contents (Elt F) arg29.view.ty
  f30 : BufTy.Contents (Elt F) arg30.view.ty
  f31 : BufTy.Contents (Elt F) arg31.view.ty
  f32 : BufTy.Contents (Elt F) arg32.view.ty
  f33 : BufTy.Contents (Elt F) arg33.view.ty
  f34 : BufTy.Contents (Elt F) arg34.view.ty

/-- The body's buffers: the arguments at their contents, the rest at `B`. -/
abbrev all (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (B : Bufs F arg13 arg14 arg15 arg16 arg17 arg18 arg19 arg20 arg21 arg22 arg23 arg24 arg25 arg26 arg27 arg28 arg29 arg30 arg31 arg32 arg33 arg34) : sProp 𝕄 :=
  iprop(holds c arg1 X1 ∗ holds c arg2 X2 ∗ holds c arg3 X3 ∗ holds c arg4 X4 ∗ holds c arg5 X5 ∗ holds c arg6 X6 ∗
  holds c arg7 X7 ∗ holds c arg8 X8 ∗ holds c arg9 X9 ∗ holds c arg10 X10 ∗ holds c arg11 X11 ∗ holds c arg12 X12 ∗
  holds c arg13 B.f13 ∗ holds c arg14 B.f14 ∗ holds c arg15 B.f15 ∗ holds c arg16 B.f16 ∗ holds c arg17 B.f17 ∗ holds
  c arg18 B.f18 ∗ holds c arg19 B.f19 ∗ holds c arg20 B.f20 ∗ holds c arg21 B.f21 ∗ holds c arg22 B.f22 ∗ holds c
  arg23 B.f23 ∗ holds c arg24 B.f24 ∗ holds c arg25 B.f25 ∗ holds c arg26 B.f26 ∗ holds c arg27 B.f27 ∗ holds c arg28
  B.f28 ∗ holds c arg29 B.f29 ∗ holds c arg30 B.f30 ∗ holds c arg31 B.f31 ∗ holds c arg32 B.f32 ∗ holds c arg33 B.f33
  ∗ holds c arg34 B.f34)

/-- The body's run: what it leaves in every buffer it writes, from what it finds. -/
@[irreducible] def body (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (B : Bufs F arg13 arg14 arg15 arg16 arg17 arg18 arg19 arg20 arg21 arg22 arg23 arg24 arg25 arg26 arg27 arg28 arg29 arg30 arg31 arg32 arg33 arg34) :
    { B' : Bufs F arg13 arg14 arg15 arg16 arg17 arg18 arg19 arg20 arg21 arg22 arg23 arg24 arg25 arg26 arg27 arg28 arg29 arg30 arg31 arg32 arg33 arg34 // ∀ E : Set ℕ, (all c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 X1 X2 X3 X4 X5 X6 X7 X8 X9 X10 X11 X12 B : sProp 𝕄)
      ⊢ wp frame (wpE (defs₀ (F := F)) 𝒱 (c : Thread nD τ) bd) E (cc0_mixer_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34)
        (fun _ => all c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 X1 X2 X3 X4 X5 X6 X7 X8 X9 X10 X11 X12 B') } := by
  obtain ⟨f13, f14, f15, f16, f17, f18, f19, f20, f21, f22, f23, f24, f25, f26, f27, f28, f29, f30, f31, f32, f33, f34⟩ := B
  refine ⟨⟨?_, ?_, ?_, ?_, ?_, ?_, ?_, ?_, ?_, ?_, ?_, ?_, ?_, ?_, ?_, ?_, ?_, ?_, ?_, ?_, ?_, ?_⟩, fun E => ?run⟩
  case run =>
    dsimp only [all, holds]
    iintro ⟨H1, H2, H3, H4, H5, H6, H7, H8, H9, H10, H11, H12, H13, H14, H15, H16, H17, H18, H19, H20, H21, H22, H23, H24, H25, H26, H27, H28, H29, H30, H31, H32, H33, H34⟩
    sl_unfold [cc0_mixer_bwd]
    sl_exec
    sl_step
    sl_close
-- ==== Proof.Mix.Owned.lean ====
module

public import proofs.«01_k».proof.Proof.Mix.Body
public import proofs.«01_k».proof.Proof.Gen.MixIdeal.Frame

/-!
# The body on the buffers it owns

The body runs from any contents of its results and its scratch, and leaves its arguments as they were.
-/

@[expose] public section
set_option maxRecDepth 16384
set_option maxHeartbeats 40000000
noncomputable section
namespace Cert.MixIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixIdeal.Gen
variable {F : FTy → Type} [FloatOps F]
local notation "𝕄" => MT nD τ sig Unit (Elt F) ℕ (UR sig nD τ) ℕ

variable (𝒱 : Variants) (c : Dev nD) (bd : Option 𝒱.V) (i : grid0.Coords)
  (arg1 : Memref sig .tc .vmem S2048x2432 .bf16) (harg1 : arg1.IsWhole) (arg2 : Memref sig .tc .vmem S2048x1024
  .bf16) (harg2 : arg2.IsWhole) (arg3 : Memref sig .tc .vmem S2048x384 .f32) (harg3 : arg3.IsWhole) (arg4 : Memref
  sig .tc .vmem S32x384 .f32) (harg4 : arg4.IsWhole) (arg5 : Memref sig .tc .vmem S1x384 .f32) (harg5 : arg5.IsWhole)
  (arg6 : Memref sig .tc .vmem S1x384 .f32) (harg6 : arg6.IsWhole) (arg7 : Memref sig .tc .vmem S1x384 .f32) (harg7 :
  arg7.IsWhole) (arg8 : Memref sig .tc .vmem S1x256 .f32) (harg8 : arg8.IsWhole) (arg9 : Memref sig .tc .vmem S1x256
  .f32) (harg9 : arg9.IsWhole) (arg10 : Memref sig .tc .vmem S4x128x128 .bf16) (harg10 : arg10.IsWhole) (arg11 :
  Memref sig .tc .vmem S128x256 .f32) (harg11 : arg11.IsWhole) (arg12 : Memref sig .tc .vmem S8x384 .f32) (harg12 :
  arg12.IsWhole) (arg13 : Memref sig .tc .vmem S2048x2432 .bf16) (harg13 : arg13.IsWhole) (arg14 : Memref sig .tc
  .vmem S1x32x384 .f32) (harg14 : arg14.IsWhole) (arg15 : Memref sig .tc .vmem S1x8x384 .f32) (harg15 :
  arg15.IsWhole) (arg16 : Memref sig .tc .vmem S1x8x384 .f32) (harg16 : arg16.IsWhole) (arg17 : Memref sig .tc .vmem
  S1x8x384 .f32) (harg17 : arg17.IsWhole) (arg18 : Memref sig .tc .vmem S1x8x256 .f32) (harg18 : arg18.IsWhole)
  (arg19 : Memref sig .tc .vmem S1x8x256 .f32) (harg19 : arg19.IsWhole) (arg20 : Memref sig .tc .vmem S1x4x128x128
  .f32) (harg20 : arg20.IsWhole) (arg21 : Memref sig .tc .vmem S1x128x128 .f32) (harg21 : arg21.IsWhole) (arg22 :
  Memref sig .tc .vmem S1x8x384 .f32) (harg22 : arg22.IsWhole) (arg23 : Memref sig .tc .vmem S2080x384 .f32) (harg23
  : arg23.IsWhole) (arg24 : Memref sig .tc .vmem S2080x384 .f32) (harg24 : arg24.IsWhole) (arg25 : Memref sig .tc
  .vmem S2056x384 .f32) (harg25 : arg25.IsWhole) (arg26 : Memref sig .tc .vmem S2056x384 .f32) (harg26 :
  arg26.IsWhole) (arg27 : Memref sig .tc .vmem S248x384 .f32) (harg27 : arg27.IsWhole) (arg28 : Memref sig .tc .vmem
  S8x384 .f32) (harg28 : arg28.IsWhole) (arg29 : Memref sig .tc .vmem S8x384 .f32) (harg29 : arg29.IsWhole) (arg30 :
  Memref sig .tc .vmem S8x384 .f32) (harg30 : arg30.IsWhole) (arg31 : Memref sig .tc .vmem S8x256 .f32) (harg31 :
  arg31.IsWhole) (arg32 : Memref sig .tc .vmem S8x256 .f32) (harg32 : arg32.IsWhole) (arg33 : Memref sig .tc .vmem
  S24x384 .f32) (harg33 : arg33.IsWhole) (arg34 : Memref sig .tc .vmem S136x128 .f32) (harg34 : arg34.IsWhole)

/-- What the body is run on: its arguments at their contents, its results and its scratch at any. -/
abbrev owned (x1 : Vec F S2048x2432 .bf16) (x2 : Vec F S2048x1024 .bf16) (x3 : Vec F S2048x384 .f32) (x4 : Vec F S32x384 .f32) (x5 : Vec F S1x384 .f32) (x6 : Vec F S1x384 .f32) (x7 : Vec F S1x384 .f32) (x8 : Vec F S1x256 .f32) (x9 : Vec F S1x256 .f32) (x10 : Vec F S4x128x128 .bf16) (x11 : Vec F S128x256 .f32) (x12 : Vec F S8x384 .f32) : sProp 𝕄 :=
  iprop(owns (c : Thread nD τ) arg1 fullShare x1 ∗ owns (c : Thread nD τ) arg2 fullShare x2 ∗ owns (c : Thread nD τ)
  arg3 fullShare x3 ∗ owns (c : Thread nD τ) arg4 fullShare x4 ∗ owns (c : Thread nD τ) arg5 fullShare x5 ∗ owns (c :
  Thread nD τ) arg6 fullShare x6 ∗ owns (c : Thread nD τ) arg7 fullShare x7 ∗ owns (c : Thread nD τ) arg8 fullShare
  x8 ∗ owns (c : Thread nD τ) arg9 fullShare x9 ∗ owns (c : Thread nD τ) arg10 fullShare x10 ∗ owns (c : Thread nD τ)
  arg11 fullShare x11 ∗ owns (c : Thread nD τ) arg12 fullShare x12 ∗ (∃ d, owns (c : Thread nD τ) arg13 fullShare d)
  ∗ (∃ d, owns (c : Thread nD τ) arg14 fullShare d) ∗ (∃ d, owns (c : Thread nD τ) arg15 fullShare d) ∗ (∃ d, owns (c
  : Thread nD τ) arg16 fullShare d) ∗ (∃ d, owns (c : Thread nD τ) arg17 fullShare d) ∗ (∃ d, owns (c : Thread nD τ)
  arg18 fullShare d) ∗ (∃ d, owns (c : Thread nD τ) arg19 fullShare d) ∗ (∃ d, owns (c : Thread nD τ) arg20 fullShare
  d) ∗ (∃ d, owns (c : Thread nD τ) arg21 fullShare d) ∗ (∃ d, owns (c : Thread nD τ) arg22 fullShare d) ∗ (∃ f,
  holds c arg23 f) ∗ (∃ f, holds c arg24 f) ∗ (∃ f, holds c arg25 f) ∗ (∃ f, holds c arg26 f) ∗ (∃ f, holds c arg27
  f) ∗ (∃ f, holds c arg28 f) ∗ (∃ f, holds c arg29 f) ∗ (∃ f, holds c arg30 f) ∗ (∃ f, holds c arg31 f) ∗ (∃ f,
  holds c arg32 f) ∗ (∃ f, holds c arg33 f) ∗ (∃ f, holds c arg34 f))

/-- The body runs, and leaves its arguments as they were. -/
theorem owned_run (x1 : Vec F S2048x2432 .bf16) (x2 : Vec F S2048x1024 .bf16) (x3 : Vec F S2048x384 .f32) (x4 : Vec F S32x384 .f32) (x5 : Vec F S1x384 .f32) (x6 : Vec F S1x384 .f32) (x7 : Vec F S1x384 .f32) (x8 : Vec F S1x256 .f32) (x9 : Vec F S1x256 .f32) (x10 : Vec F S4x128x128 .bf16) (x11 : Vec F S128x256 .f32) (x12 : Vec F S8x384 .f32) (E : Set ℕ) :
    (owned c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 x1 x2 x3 x4 x5 x6 x7 x8 x9 x10 x11 x12 : sProp 𝕄)
      ⊢ wp frame (wpE (defs₀ (F := F)) 𝒱 (c : Thread nD τ) bd) E (cc0_mixer_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34)
        (fun _ => owned c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 x1 x2 x3 x4 x5 x6 x7 x8 x9 x10 x11 x12) := by
  dsimp only [owned]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩, ⟨%d19, %f19, %e19, H19⟩, ⟨%d20, %f20, %e20, H20⟩, ⟨%d21, %f21, %e21, H21⟩, ⟨%d22, %f22, %e22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩, ⟨%f34, H34⟩⟩
  iapply (wp_wand_r Idealize.ShloMosaic.frame (wpE (defs₀ (F := F)) 𝒱 (c : Thread nD τ) bd) E)
  isplitl [H1 H2 H3 H4 H5 H6 H7 H8 H9 H10 H11 H12 H13 H14 H15 H16 H17 H18 H19 H20 H21 H22 H23 H24 H25 H26 H27 H28 H29 H30 H31 H32 H33 H34]
  · iapply ((body (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 ⟨f13, f14, f15, f16, f17, f18, f19, f20, f21, f22, f23, f24, f25, f26, f27, f28, f29, f30, f31, f32, f33, f34⟩).2 E)
    dsimp only [all]
    sl_close
  · iintro %_ H
    dsimp only [all]
    icases H with ⟨H1, H2, H3, H4, H5, H6, H7, H8, H9, H10, H11, H12, H13, H14, H15, H16, H17, H18, H19, H20, H21, H22, H23, H24, H25, H26, H27, H28, H29, H30, H31, H32, H33, H34⟩
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    isplitl [H7]
    · iexists f7; isplitr; · ipureintro; exact e7
      iexact H7
    isplitl [H8]
    · iexists f8; isplitr; · ipureintro; exact e8
      iexact H8
    isplitl [H9]
    · iexists f9; isplitr; · ipureintro; exact e9
      iexact H9
    isplitl [H10]
    · iexists f10; isplitr; · ipureintro; exact e10
      iexact H10
    isplitl [H11]
    · iexists f11; isplitr; · ipureintro; exact e11
      iexact H11
    isplitl [H12]
    · iexists f12; isplitr; · ipureintro; exact e12
      iexact H12
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    isplitl [H19]
    · iexists _; iexists _; isplitr; swap; · iexact H19
      ipureintro; rfl
    isplitl [H20]
    · iexists _; iexists _; isplitr; swap; · iexact H20
      ipureintro; rfl
    isplitl [H21]
    · iexists _; iexists _; isplitr; swap; · iexact H21
      ipureintro; rfl
    isplitl [H22]
    · iexists _; iexists _; isplitr; swap; · iexact H22
      ipureintro; rfl
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    iexists _; iexact H34
-- ==== Proof.Mix.Frame.lean ====
module

public import proofs.«01_k».proof.Proof.Mix.Owned
public import Idealize.ShloMosaic.Lib.Pipeline.FrameSuffix
public import Idealize.ShloMosaic.Lib.Pipeline.FrameBody
public import Idealize.ShloMosaic.Lib.Pipeline.ValueKit

/-!
# The frame of the mixer's backward kernel

The program runs to its end without a fault, keeps its arguments, and leaves every semaphore at zero.
-/

@[expose] public section
set_option maxRecDepth 16384
set_option maxHeartbeats 40000000
noncomputable section
namespace Cert.MixIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.MixIdeal.Gen
variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The windows of the results: nothing is said of what the body leaves in them. -/
def forgets (w : Fin cfg0.W) : Bool := decide (12 ≤ w.val)

/-- The arrays as the region finds them; each argument's buffer at its block; the scratch at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨n + 22, h⟩ => (Nat.not_lt.2 (Nat.le_add_left 22 n) h).elim
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- The body at a grid point, on the staging buffers and the scratch. -/
theorem sound_body (c : Dev nD) (t : Fin cfg0.N) :
    (owned (F := F) c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : sProp 𝕄)
    ⊢ wp frame (wpE (defs₀ (F := F)) Variants.none (c : Thread nD τ) none) Set.univ (bodyAt0 t) (fun _ => owned (F := F) c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) :=
  owned_run Variants.none c none (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ Set.univ

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The scratch buffers in the invariant are what the body is given. -/
theorem scratch_eq (c : Dev nD) : (Pipeline.scopedRest (Ix := Unit) (Name := ℕ) (U := UR sig nD τ) (Lvl := ℕ) (Val := Elt F) spec0 c : sProp 𝕄)
    = iprop((∃ f, holds (F := F) c (Memref.whole cc0_scratch0) f) ∗ (∃ f, holds (F := F) c (Memref.whole cc0_scratch1) f) ∗ (∃ f, holds (F := F) c (Memref.whole cc0_scratch2) f) ∗ (∃ f, holds (F := F) c (Memref.whole cc0_scratch3) f) ∗ (∃ f, holds (F := F) c (Memref.whole cc0_scratch4) f) ∗ (∃ f, holds (F := F) c (Memref.whole cc0_scratch5) f) ∗ (∃ f, holds (F := F) c (Memref.whole cc0_scratch6) f) ∗ (∃ f, holds (F := F) c (Memref.whole cc0_scratch7) f) ∗ (∃ f, holds (F := F) c (Memref.whole cc0_scratch8) f) ∗ (∃ f, holds (F := F) c (Memref.whole cc0_scratch9) f) ∗ (∃ f, holds (F := F) c (Memref.whole cc0_scratch10) f) ∗ (∃ f, holds (F := F) c (Memref.whole cc0_scratch11) f)) := by
  rw [scopedRest0_eq]
  dsimp only [holds]
  simp only [Memref.view_whole, View.set_whole]

/-- What the body is called with at a point, and what it returns. -/
def bodyPre (c : Dev nD) (t : Fin cfg0.N) : sProp 𝕄 :=
  iprop((dats m 0 c).Φ t.castSucc ∗ (dats m 0 c).owesAt () t.castSucc ∗ (∃ d, owns (c : Thread nD τ) (st0_0 t)
  fullShare ((dats m 0 c).before 0 t d)) ∗ (∃ d, owns (c : Thread nD τ) (st0_1 t) fullShare ((dats m 0 c).before 1 t
  d)) ∗ (∃ d, owns (c : Thread nD τ) (st0_2 t) fullShare ((dats m 0 c).before 2 t d)) ∗ (∃ d, owns (c : Thread nD τ)
  (st0_3 t) fullShare ((dats m 0 c).before 3 t d)) ∗ (∃ d, owns (c : Thread nD τ) (st0_4 t) fullShare ((dats m 0
  c).before 4 t d)) ∗ (∃ d, owns (c : Thread nD τ) (st0_5 t) fullShare ((dats m 0 c).before 5 t d)) ∗ (∃ d, owns (c :
  Thread nD τ) (st0_6 t) fullShare ((dats m 0 c).before 6 t d)) ∗ (∃ d, owns (c : Thread nD τ) (st0_7 t) fullShare
  ((dats m 0 c).before 7 t d)) ∗ (∃ d, owns (c : Thread nD τ) (st0_8 t) fullShare ((dats m 0 c).before 8 t d)) ∗ (∃
  d, owns (c : Thread nD τ) (st0_9 t) fullShare ((dats m 0 c).before 9 t d)) ∗ (∃ d, owns (c : Thread nD τ) (st0_10
  t) fullShare ((dats m 0 c).before 10 t d)) ∗ (∃ d, owns (c : Thread nD τ) (st0_11 t) fullShare ((dats m 0 c).before
  11 t d)) ∗ (∃ d, owns (c : Thread nD τ) (st0_12 t) fullShare d) ∗ (∃ d, owns (c : Thread nD τ) (st0_13 t) fullShare
  d) ∗ (∃ d, owns (c : Thread nD τ) (st0_14 t) fullShare d) ∗ (∃ d, owns (c : Thread nD τ) (st0_15 t) fullShare d) ∗
  (∃ d, owns (c : Thread nD τ) (st0_16 t) fullShare d) ∗ (∃ d, owns (c : Thread nD τ) (st0_17 t) fullShare d) ∗ (∃ d,
  owns (c : Thread nD τ) (st0_18 t) fullShare d) ∗ (∃ d, owns (c : Thread nD τ) (st0_19 t) fullShare d) ∗ (∃ d, owns
  (c : Thread nD τ) (st0_20 t) fullShare d) ∗ (∃ d, owns (c : Thread nD τ) (st0_21 t) fullShare d))
def bodyPost (c : Dev nD) (t : Fin cfg0.N) : sProp 𝕄 :=
  iprop((dats m 0 c).Φ t.succ ∗ (dats m 0 c).owesAt () t.succ ∗ owns (c : Thread nD τ) (st0_0 t) fullShare ((dats m 0
  c).after 0 t) ∗ owns (c : Thread nD τ) (st0_1 t) fullShare ((dats m 0 c).after 1 t) ∗ owns (c : Thread nD τ) (st0_2
  t) fullShare ((dats m 0 c).after 2 t) ∗ owns (c : Thread nD τ) (st0_3 t) fullShare ((dats m 0 c).after 3 t) ∗ owns
  (c : Thread nD τ) (st0_4 t) fullShare ((dats m 0 c).after 4 t) ∗ owns (c : Thread nD τ) (st0_5 t) fullShare ((dats
  m 0 c).after 5 t) ∗ owns (c : Thread nD τ) (st0_6 t) fullShare ((dats m 0 c).after 6 t) ∗ owns (c : Thread nD τ)
  (st0_7 t) fullShare ((dats m 0 c).after 7 t) ∗ owns (c : Thread nD τ) (st0_8 t) fullShare ((dats m 0 c).after 8 t)
  ∗ owns (c : Thread nD τ) (st0_9 t) fullShare ((dats m 0 c).after 9 t) ∗ owns (c : Thread nD τ) (st0_10 t) fullShare
  ((dats m 0 c).after 10 t) ∗ owns (c : Thread nD τ) (st0_11 t) fullShare ((dats m 0 c).after 11 t) ∗ (∃ d, owns (c :
  Thread nD τ) (st0_12 t) fullShare d) ∗ (∃ d, owns (c : Thread nD τ) (st0_13 t) fullShare d) ∗ (∃ d, owns (c :
  Thread nD τ) (st0_14 t) fullShare d) ∗ (∃ d, owns (c : Thread nD τ) (st0_15 t) fullShare d) ∗ (∃ d, owns (c :
  Thread nD τ) (st0_16 t) fullShare d) ∗ (∃ d, owns (c : Thread nD τ) (st0_17 t) fullShare d) ∗ (∃ d, owns (c :
  Thread nD τ) (st0_18 t) fullShare d) ∗ (∃ d, owns (c : Thread nD τ) (st0_19 t) fullShare d) ∗ (∃ d, owns (c :
  Thread nD τ) (st0_20 t) fullShare d) ∗ (∃ d, owns (c : Thread nD τ) (st0_21 t) fullShare d))

theorem sound_point (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scratch_eq]
  iintro ⟨⟨⟨S0, S1, S2, S3, S4, S5, S6, S7, S8, S9, S10, S11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13, H14, H15, H16, H17, H18, H19, H20, H21⟩
  iapply (wp_wand_r Idealize.ShloMosaic.frame (wpE (defs₀ (F := F)) Variants.none (c : Thread nD τ) none) Set.univ)
  isplitl [H0 H1 H2 H3 H4 H5 H6 H7 H8 H9 H10 H11 H12 H13 H14 H15 H16 H17 H18 H19 H20 H21 S0 S1 S2 S3 S4 S5 S6 S7 S8 S9 S10 S11]
  · iapply (sound_body m c t)
    dsimp only [owned]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  · iintro %_ H
    dsimp only [owned]
    icases H with ⟨H0, H1, H2, H3, H4, H5, H6, H7, H8, H9, H10, H11, H12, H13, H14, H15, H16, H17, H18, H19, H20, H21, S0, S1, S2, S3, S4, S5, S6, S7, S8, S9, S10, S11⟩
    isplitl [Hg S0 S1 S2 S3 S4 S5 S6 S7 S8 S9 S10 S11]
    · isplitr [Hg]; swap; · iexact Hg
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

theorem body_obligation (c : Dev nD) : Pipeline.BodyObligationLoose (dats (F := F) m 0 c) (defs₀ (F := F)) Variants.none () Set.univ forgets := fun t => by
  rw [bigSep_W0, bigSep_W0, defs₀_row]
  exact triple_restated (sound_point m c t) rfl .rfl fun _ => .rfl

/-- The lines after the region, in their groups. -/
abbrev tail : List (List (HloOp τ sig (Elt F))) := [hostOps1, hostOps1_1, hostOps1_2, hostOps1_3, hostOps1_4]

open Classical in
/-- The buffers those lines write. -/
def written : Finset (Ref sig .tc) := Finset.univ.filter fun b => ∃ ops ∈ tail (F := F), ∃ op ∈ ops, Proc.devRef .tc b ∈ op.writes

set_option backward.isDefEq.respectTransparency.types false in
theorem run_main : θ_run defs (onTc (τ := τ) (main (F := F))) (s₀ m ρ)
    (fun r => Pipeline.RDat.FramePostR (cfgs 0) (fun c => (dats m 0 c).toRForget forgets) (written (F := F)) (V m) r ∧ r.2.sem = fun _ => 0) :=
  Pipeline.θ_run_frame_around_T_forget (Q' := _) cfgs (dats m) (0 : Fin 1) launch0 defs₀ Variants.none forgets (written (F := F)) m ρ main
    (hbody := fun c => body_obligation m c) (hshare := fun c => (dats m 0 c).share_full fun _ => rfl)
    (howed := fun _ _ => rfl) (V₀ := V0 m) (opss := tail) (hsub := sfx_sub) (hfresh := sfx_fresh) (hkeep := sfx_keeps)
    (hT := fun ops ho op hop b hb => by unfold written; exact Finset.mem_filter.2 ⟨Finset.mem_univ _, ops, ho, op, hop, hb⟩)
    (hmain := hmain m Variants.none) (hA := fun _ _ => rfl) (hΦ := fun _ _ => rfl)

/-- A buffer no line after the region writes. -/
theorem not_written {b : Ref sig .tc} (h : (List.flatten (tail (F := F))).Forall fun op => Proc.devRef .tc b ∉ op.writes) : b ∉ written (F := F) := by
  unfold written
  intro hb
  obtain ⟨ops, ho, op, hop, hw⟩ := (Finset.mem_filter.1 hb).2
  exact List.forall_iff_forall_mem.mp h op (List.mem_flatten.2 ⟨ops, ho, hop⟩) hw

theorem arg1_kept : (main_arg1 : Ref sig .tc) ∉ written (F := F) := not_written (by
  simp only [tail, hostOps1, hostOps1_1, hostOps1_2, hostOps1_3, hostOps1_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))
theorem arg2_kept : (main_arg2 : Ref sig .tc) ∉ written (F := F) := not_written (by
  simp only [tail, hostOps1, hostOps1_1, hostOps1_2, hostOps1_3, hostOps1_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))
theorem arg3_kept : (main_arg3 : Ref sig .tc) ∉ written (F := F) := not_written (by
  simp only [tail, hostOps1, hostOps1_1, hostOps1_2, hostOps1_3, hostOps1_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))
theorem arg4_kept : (main_arg4 : Ref sig .tc) ∉ written (F := F) := not_written (by
  simp only [tail, hostOps1, hostOps1_1, hostOps1_2, hostOps1_3, hostOps1_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))
theorem arg5_kept : (main_arg5 : Ref sig .tc) ∉ written (F := F) := not_written (by
  simp only [tail, hostOps1, hostOps1_1, hostOps1_2, hostOps1_3, hostOps1_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))
theorem arg6_kept : (main_arg6 : Ref sig .tc) ∉ written (F := F) := not_written (by
  simp only [tail, hostOps1, hostOps1_1, hostOps1_2, hostOps1_3, hostOps1_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))
theorem arg7_kept : (main_arg7 : Ref sig .tc) ∉ written (F := F) := not_written (by
  simp only [tail, hostOps1, hostOps1_1, hostOps1_2, hostOps1_3, hostOps1_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))
theorem arg8_kept : (main_arg8 : Ref sig .tc) ∉ written (F := F) := not_written (by
  simp only [tail, hostOps1, hostOps1_1, hostOps1_2, hostOps1_3, hostOps1_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))
theorem arg9_kept : (main_arg9 : Ref sig .tc) ∉ written (F := F) := not_written (by
  simp only [tail, hostOps1, hostOps1_1, hostOps1_2, hostOps1_3, hostOps1_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))

/-- The arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨(h.1.arr_in c 0 rfl).trans (V_main_arg0 m c),
      ((h.1 c).2 main_arg1 (Finset.mem_sdiff.2 ⟨Pipeline.mem_restRefs_of main_arg1 (by decide) (by decide), arg1_kept⟩)).trans (V_main_arg1 m c),
      ((h.1 c).2 main_arg2 (Finset.mem_sdiff.2 ⟨Pipeline.mem_restRefs_of main_arg2 (by decide) (by decide), arg2_kept⟩)).trans (V_main_arg2 m c),
      ((h.1 c).2 main_arg3 (Finset.mem_sdiff.2 ⟨Pipeline.mem_restRefs_of main_arg3 (by decide) (by decide), arg3_kept⟩)).trans (V_main_arg3 m c),
      ((h.1 c).2 main_arg4 (Finset.mem_sdiff.2 ⟨Pipeline.mem_restRefs_of main_arg4 (by decide) (by decide), arg4_kept⟩)).trans (V_main_arg4 m c),
      ((h.1 c).2 main_arg5 (Finset.mem_sdiff.2 ⟨Pipeline.mem_restRefs_of main_arg5 (by decide) (by decide), arg5_kept⟩)).trans (V_main_arg5 m c),
      ((h.1 c).2 main_arg6 (Finset.mem_sdiff.2 ⟨Pipeline.mem_restRefs_of main_arg6 (by decide) (by decide), arg6_kept⟩)).trans (V_main_arg6 m c),
      ((h.1 c).2 main_arg7 (Finset.mem_sdiff.2 ⟨Pipeline.mem_restRefs_of main_arg7 (by decide) (by decide), arg7_kept⟩)).trans (V_main_arg7 m c),
      ((h.1 c).2 main_arg8 (Finset.mem_sdiff.2 ⟨Pipeline.mem_restRefs_of main_arg8 (by decide) (by decide), arg8_kept⟩)).trans (V_main_arg8 m c),
      ((h.1 c).2 main_arg9 (Finset.mem_sdiff.2 ⟨Pipeline.mem_restRefs_of main_arg9 (by decide) (by decide), arg9_kept⟩)).trans (V_main_arg9 m c),
      (h.1.arr_in c 1 rfl).trans (V_main_arg10 m c)⟩, h.2⟩) (run_main m ρ)

end Cert.MixIdeal.Pass
-- ==== Proof.Mix.Rounded.lean ====
/- The frame of the mixer's backward call at the printed floats: the run is the one proved for any reading of the floats. -/
module

public import proofs.«01_k».proof.Defs
public import proofs.«01_k».proof.Proof.Gen.Mix
public import proofs.«01_k».proof.Proof.Mix.Frame
public import Idealize.ShloMosaic.Lib.Tactic

@[expose] public section

noncomputable section

namespace Cert.Mix

open Idealize.ShloMosaic Idealize.SL.Sem

/-- The call leaves its arguments as they were, at the printed floats. -/
theorem frame : Cert.quiescent_Mix (hMix := Cert.Mix.Gen.facts) :=
  Eq.mp (by sl_kernel_rfl) fun m ρ (_ : True) => Cert.MixIdeal.Pass.frame (F := Bits) m ρ

end Cert.Mix

end
-- ==== Proof.Mxf.Body.lean ====
module

public import proofs.«01_k».proof.Proof.Gen.MxfIdeal.Loops
public import proofs.«01_k».proof.Proof.Gen.MxfIdeal.Frame

/-!
# The mixer's forward kernel on the buffers it owns

The two scratch buffers begin with zeroed rows; then sixteen chunks are worked through one after the other.
-/

@[expose] public section
set_option maxRecDepth 16384
set_option maxHeartbeats 40000000
noncomputable section
namespace Cert.MxfIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MxfIdeal.Gen
variable {F : FTy → Type} [FloatOps F]
local notation "𝕄" => MT nD τ sig Unit (Elt F) ℕ (UR sig nD τ) ℕ

variable (𝒱 : Variants) (c : Dev nD) (bd : Option 𝒱.V) (i : grid0.Coords)
  (arg1 : Memref sig .tc .vmem S2048x2432 .bf16) (harg1 : arg1.IsWhole) (arg2 : Memref sig .tc .vmem S32x384 .f32) (harg2 : arg2.IsWhole) (arg3 :
  Memref sig .tc .vmem S1x384 .f32) (harg3 : arg3.IsWhole) (arg4 : Memref sig .tc .vmem S1x384 .f32) (harg4 : arg4.IsWhole) (arg5 : Memref sig .tc
  .vmem S1x384 .f32) (harg5 : arg5.IsWhole) (arg6 : Memref sig .tc .vmem S1x256 .f32) (harg6 : arg6.IsWhole) (arg7 : Memref sig .tc .vmem S1x256 .f32)
  (harg7 : arg7.IsWhole) (arg8 : Memref sig .tc .vmem S4x128x128 .bf16) (harg8 : arg8.IsWhole) (arg9 : Memref sig .tc .vmem S128x256 .f32) (harg9 :
  arg9.IsWhole) (arg10 : Memref sig .tc .vmem S8x384 .f32) (harg10 : arg10.IsWhole) (arg11 : Memref sig .tc .vmem S2048x1024 .bf16) (harg11 :
  arg11.IsWhole) (arg12 : Memref sig .tc .vmem S2048x384 .f32) (harg12 : arg12.IsWhole) (arg13 : Memref sig .tc .vmem S2080x384 .f32) (harg13 :
  arg13.IsWhole) (arg14 : Memref sig .tc .vmem S2056x384 .f32) (harg14 : arg14.IsWhole)

/-- The scratch of the long convolution, its halo rows zeroed. -/
abbrev zeroed13 (f13 : BufTy.Contents (Elt F) arg13.view.ty) : BufTy.Contents (Elt F) arg13.view.ty :=
  arg13.view.writes (Elt F) f13 [⟨Rect.unit (s := S2080x384) ![0, 0] S32x384.size inb_S2080x384_S32x384_0_0, k0_pay1⟩]

/-- The scratch of the short convolution, its halo rows zeroed. -/
abbrev zeroed14 (f14 : BufTy.Contents (Elt F) arg14.view.ty) : BufTy.Contents (Elt F) arg14.view.ty :=
  arg14.view.writes (Elt F) f14 [⟨Rect.unit (s := S2056x384) ![0, 0] S8x384.size inb_S2056x384_S8x384_0_0, k0_pay2⟩]

/-- The pieces written by the chunks before `n`, from what the buffers held. -/
abbrev pieces
  (X1 : BufTy.Contents (Elt F) arg1.view.ty) (X2 : BufTy.Contents (Elt F) arg2.view.ty) (X3 : BufTy.Contents (Elt F) arg3.view.ty) (X4 :
  BufTy.Contents (Elt F) arg4.view.ty) (X5 : BufTy.Contents (Elt F) arg5.view.ty) (X6 : BufTy.Contents (Elt F) arg6.view.ty) (X7 : BufTy.Contents (Elt
  F) arg7.view.ty) (X8 : BufTy.Contents (Elt F) arg8.view.ty) (X9 : BufTy.Contents (Elt F) arg9.view.ty) (X10 : BufTy.Contents (Elt F) arg10.view.ty)
    (f11 : BufTy.Contents (Elt F) arg11.view.ty) (f12 : BufTy.Contents (Elt F) arg12.view.ty) (f13 : BufTy.Contents (Elt F) arg13.view.ty) (f14 : BufTy.Contents (Elt F) arg14.view.ty) (n : ℕ) :=
  pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 f11 f12 (zeroed13 arg13 f13) (zeroed14 arg14 f14) n

/-- What the body is run on, at the contents of its buffers. -/
abbrev all
  (X1 : BufTy.Contents (Elt F) arg1.view.ty) (X2 : BufTy.Contents (Elt F) arg2.view.ty) (X3 : BufTy.Contents (Elt F) arg3.view.ty) (X4 :
  BufTy.Contents (Elt F) arg4.view.ty) (X5 : BufTy.Contents (Elt F) arg5.view.ty) (X6 : BufTy.Contents (Elt F) arg6.view.ty) (X7 : BufTy.Contents (Elt
  F) arg7.view.ty) (X8 : BufTy.Contents (Elt F) arg8.view.ty) (X9 : BufTy.Contents (Elt F) arg9.view.ty) (X10 : BufTy.Contents (Elt F) arg10.view.ty)
    (f11 : BufTy.Contents (Elt F) arg11.view.ty) (f12 : BufTy.Contents (Elt F) arg12.view.ty) (f13 : BufTy.Contents (Elt F) arg13.view.ty) (f14 : BufTy.Contents (Elt F) arg14.view.ty) : sProp 𝕄 :=
  Trip_k0_t1 (F := F) c arg1 arg2 arg3 arg4 arg5 arg6 arg7 arg8 arg9 arg10 arg11 arg12 arg13 arg14 X1 X2 X3 X4 X5 X6 X7 X8 X9 X10 f11 f12 f13 f14

/-- The body's run: the chunks' pieces are over what the buffers held. -/
theorem body
  (X1 : BufTy.Contents (Elt F) arg1.view.ty) (X2 : BufTy.Contents (Elt F) arg2.view.ty) (X3 : BufTy.Contents (Elt F) arg3.view.ty) (X4 :
  BufTy.Contents (Elt F) arg4.view.ty) (X5 : BufTy.Contents (Elt F) arg5.view.ty) (X6 : BufTy.Contents (Elt F) arg6.view.ty) (X7 : BufTy.Contents (Elt
  F) arg7.view.ty) (X8 : BufTy.Contents (Elt F) arg8.view.ty) (X9 : BufTy.Contents (Elt F) arg9.view.ty) (X10 : BufTy.Contents (Elt F) arg10.view.ty)
    (f11 : BufTy.Contents (Elt F) arg11.view.ty) (f12 : BufTy.Contents (Elt F) arg12.view.ty) (f13 : BufTy.Contents (Elt F) arg13.view.ty) (f14 : BufTy.Contents (Elt F) arg14.view.ty) (E : Set ℕ) :
    (all c arg1 arg2 arg3 arg4 arg5 arg6 arg7 arg8 arg9 arg10 arg11 arg12 arg13 arg14 X1 X2 X3 X4 X5 X6 X7 X8 X9 X10 f11 f12 f13 f14 : sProp 𝕄)
      ⊢ wp frame (wpE (defs₀ (F := F)) 𝒱 (c : Thread nD τ) bd) E (cc0_mixer_fwd (F := F) i arg1 harg1 arg2 harg2 arg3 harg3 arg4 harg4 arg5 harg5 arg6 harg6 arg7 harg7 arg8 harg8 arg9 harg9 arg10 harg10 arg11 harg11 arg12 harg12 arg13 harg13 arg14 harg14)
        (fun _ => all c arg1 arg2 arg3 arg4 arg5 arg6 arg7 arg8 arg9 arg10 arg11 arg12 arg13 arg14 X1 X2 X3 X4 X5 X6 X7 X8 X9 X10
          (arg11.view.writes (Elt F) f11 (pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 f11 f12 f13 f14 k0_t1_loop.trips).1)
          (arg12.view.writes (Elt F) f12 (pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 f11 f12 f13 f14 k0_t1_loop.trips).2.1)
          (arg13.view.writes (Elt F) (zeroed13 arg13 f13) (pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 f11 f12 f13 f14 k0_t1_loop.trips).2.2.1)
          (arg14.view.writes (Elt F) (zeroed14 arg14 f14) (pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 f11 f12 f13 f14 k0_t1_loop.trips).2.2.2)) := by
  rw [← View.writes_append arg13.view, ← View.writes_append arg14.view]
  dsimp only [all, pieces, zeroed13, zeroed14]
  iintro ⟨H1, H2, H3, H4, H5, H6, H7, H8, H9, H10, H11, H12, H13, H14⟩
  sl_unfold [cc0_mixer_fwd]
  sl_exec
  sl_step
  sl_close

end Cert.MxfIdeal.Mixer

end
-- ==== Proof.Mxf.Owned.lean ====
module

public import proofs.«01_k».proof.Proof.Mxf.Body

/-!
# What the body leaves in the results

The results' buffers hold something the arguments' contents answer for; the scratch ends at any contents.
-/

@[expose] public section
set_option maxRecDepth 16384
set_option maxHeartbeats 40000000
noncomputable section
namespace Cert.MxfIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MxfIdeal.Gen
variable {F : FTy → Type} [FloatOps F]
local notation "𝕄" => MT nD τ sig Unit (Elt F) ℕ (UR sig nD τ) ℕ

/-- `P` holds of whatever the body leaves in its two results, run on arguments holding `x1` to `x10`. -/
def Leaves (c : Dev nD)
  (x1 : Vec F S2048x2432 .bf16) (x2 : Vec F S32x384 .f32) (x3 : Vec F S1x384 .f32) (x4 : Vec F S1x384 .f32) (x5 : Vec F S1x384 .f32) (x6 : Vec F
  S1x256 .f32) (x7 : Vec F S1x256 .f32) (x8 : Vec F S4x128x128 .bf16) (x9 : Vec F S128x256 .f32) (x10 : Vec F S8x384 .f32)
    (P : Vec F S2048x1024 .bf16 → Vec F S2048x384 .f32 → Prop) : Prop :=
  ∀ (𝒱 : Variants) (bd : Option 𝒱.V) (i : grid0.Coords)
  (arg1 : Memref sig .tc .vmem S2048x2432 .bf16) (harg1 : arg1.IsWhole) (arg2 : Memref sig .tc .vmem S32x384 .f32) (harg2 : arg2.IsWhole) (arg3 :
  Memref sig .tc .vmem S1x384 .f32) (harg3 : arg3.IsWhole) (arg4 : Memref sig .tc .vmem S1x384 .f32) (harg4 : arg4.IsWhole) (arg5 : Memref sig .tc
  .vmem S1x384 .f32) (harg5 : arg5.IsWhole) (arg6 : Memref sig .tc .vmem S1x256 .f32) (harg6 : arg6.IsWhole) (arg7 : Memref sig .tc .vmem S1x256 .f32)
  (harg7 : arg7.IsWhole) (arg8 : Memref sig .tc .vmem S4x128x128 .bf16) (harg8 : arg8.IsWhole) (arg9 : Memref sig .tc .vmem S128x256 .f32) (harg9 :
  arg9.IsWhole) (arg10 : Memref sig .tc .vmem S8x384 .f32) (harg10 : arg10.IsWhole) (arg11 : Memref sig .tc .vmem S2048x1024 .bf16) (harg11 :
  arg11.IsWhole) (arg12 : Memref sig .tc .vmem S2048x384 .f32) (harg12 : arg12.IsWhole) (arg13 : Memref sig .tc .vmem S2080x384 .f32) (harg13 :
  arg13.IsWhole) (arg14 : Memref sig .tc .vmem S2056x384 .f32) (harg14 : arg14.IsWhole)
  (X1 : BufTy.Contents (Elt F) arg1.view.ty) (X2 : BufTy.Contents (Elt F) arg2.view.ty) (X3 : BufTy.Contents (Elt F) arg3.view.ty) (X4 :
  BufTy.Contents (Elt F) arg4.view.ty) (X5 : BufTy.Contents (Elt F) arg5.view.ty) (X6 : BufTy.Contents (Elt F) arg6.view.ty) (X7 : BufTy.Contents (Elt
  F) arg7.view.ty) (X8 : BufTy.Contents (Elt F) arg8.view.ty) (X9 : BufTy.Contents (Elt F) arg9.view.ty) (X10 : BufTy.Contents (Elt F) arg10.view.ty)
    (f11 : BufTy.Contents (Elt F) arg11.view.ty) (f12 : BufTy.Contents (Elt F) arg12.view.ty) (f13 : BufTy.Contents (Elt F) arg13.view.ty) (f14 : BufTy.Contents (Elt F) arg14.view.ty),
    arg1.view.read (Elt F) X1 = x1 → arg2.view.read (Elt F) X2 = x2 → arg3.view.read (Elt F) X3 = x3 → arg4.view.read (Elt F) X4 = x4 → arg5.view.read (Elt F) X5 = x5 → arg6.view.read (Elt F) X6 = x6 → arg7.view.read (Elt F) X7 = x7 → arg8.view.read (Elt F) X8 = x8 → arg9.view.read (Elt F) X9 = x9 → arg10.view.read (Elt F) X10 = x10 →
    P (arg11.view.read (Elt F) (arg11.view.writes (Elt F) f11 (pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 f11 f12 f13 f14 k0_t1_loop.trips).1))
      (arg12.view.read (Elt F) (arg12.view.writes (Elt F) f12 (pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 f11 f12 f13 f14 k0_t1_loop.trips).2.1))

variable (𝒱 : Variants) (c : Dev nD) (bd : Option 𝒱.V) (i : grid0.Coords)
  (arg1 : Memref sig .tc .vmem S2048x2432 .bf16) (harg1 : arg1.IsWhole) (arg2 : Memref sig .tc .vmem S32x384 .f32) (harg2 : arg2.IsWhole) (arg3 :
  Memref sig .tc .vmem S1x384 .f32) (harg3 : arg3.IsWhole) (arg4 : Memref sig .tc .vmem S1x384 .f32) (harg4 : arg4.IsWhole) (arg5 : Memref sig .tc
  .vmem S1x384 .f32) (harg5 : arg5.IsWhole) (arg6 : Memref sig .tc .vmem S1x256 .f32) (harg6 : arg6.IsWhole) (arg7 : Memref sig .tc .vmem S1x256 .f32)
  (harg7 : arg7.IsWhole) (arg8 : Memref sig .tc .vmem S4x128x128 .bf16) (harg8 : arg8.IsWhole) (arg9 : Memref sig .tc .vmem S128x256 .f32) (harg9 :
  arg9.IsWhole) (arg10 : Memref sig .tc .vmem S8x384 .f32) (harg10 : arg10.IsWhole) (arg11 : Memref sig .tc .vmem S2048x1024 .bf16) (harg11 :
  arg11.IsWhole) (arg12 : Memref sig .tc .vmem S2048x384 .f32) (harg12 : arg12.IsWhole) (arg13 : Memref sig .tc .vmem S2080x384 .f32) (harg13 :
  arg13.IsWhole) (arg14 : Memref sig .tc .vmem S2056x384 .f32) (harg14 : arg14.IsWhole)

/-- The arguments' buffers at their contents. -/
abbrev inputs
  (x1 : Vec F S2048x2432 .bf16) (x2 : Vec F S32x384 .f32) (x3 : Vec F S1x384 .f32) (x4 : Vec F S1x384 .f32) (x5 : Vec F S1x384 .f32) (x6 : Vec F
  S1x256 .f32) (x7 : Vec F S1x256 .f32) (x8 : Vec F S4x128x128 .bf16) (x9 : Vec F S128x256 .f32) (x10 : Vec F S8x384 .f32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10)

/-- The scratch at any contents. -/
abbrev scratch : sProp 𝕄 := iprop((∃ f : BufTy.Contents (Elt F) arg13.view.ty, arg13.view.loc (c : Thread nD τ) ↦[arg13.view.set]{fullShare} f) ∗ (∃ f : BufTy.Contents (Elt F) arg14.view.ty, arg14.view.loc (c : Thread nD τ) ↦[arg14.view.set]{fullShare} f))

/-- The body runs from any contents of its results and its scratch, and leaves its arguments as they were. -/
theorem owned_run
  (x1 : Vec F S2048x2432 .bf16) (x2 : Vec F S32x384 .f32) (x3 : Vec F S1x384 .f32) (x4 : Vec F S1x384 .f32) (x5 : Vec F S1x384 .f32) (x6 : Vec F
  S1x256 .f32) (x7 : Vec F S1x256 .f32) (x8 : Vec F S4x128x128 .bf16) (x9 : Vec F S128x256 .f32) (x10 : Vec F S8x384 .f32)
    (P : Vec F S2048x1024 .bf16 → Vec F S2048x384 .f32 → Prop) (hP : Leaves c x1 x2 x3 x4 x5 x6 x7 x8 x9 x10 P) (E : Set ℕ) :
    (iprop(inputs c arg1 arg2 arg3 arg4 arg5 arg6 arg7 arg8 arg9 arg10 x1 x2 x3 x4 x5 x6 x7 x8 x9 x10 ∗ (∃ d, owns (c : Thread nD τ) arg11 fullShare d) ∗ (∃ d, owns (c : Thread nD τ) arg12 fullShare d) ∗ scratch c arg13 arg14) : sProp 𝕄)
      ⊢ wp frame (wpE (defs₀ (F := F)) 𝒱 (c : Thread nD τ) bd) E (cc0_mixer_fwd (F := F) i arg1 harg1 arg2 harg2 arg3 harg3 arg4 harg4 arg5 harg5 arg6 harg6 arg7 harg7 arg8 harg8 arg9 harg9 arg10 harg10 arg11 harg11 arg12 harg12 arg13 harg13 arg14 harg14)
        (fun _ => iprop(inputs c arg1 arg2 arg3 arg4 arg5 arg6 arg7 arg8 arg9 arg10 x1 x2 x3 x4 x5 x6 x7 x8 x9 x10 ∗ (∃ d e, ⌜P d e⌝ ∗ owns (c : Thread nD τ) arg11 fullShare d ∗ owns (c : Thread nD τ) arg12 fullShare e) ∗ scratch c arg13 arg14)) := by
  dsimp only [inputs, scratch]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨%d11, %f11, %e11, H11⟩, ⟨%d12, %f12, %e12, H12⟩, ⟨%f13, H13⟩, ⟨%f14, H14⟩⟩
  iapply (wp_wand_r Idealize.ShloMosaic.frame (wpE (defs₀ (F := F)) 𝒱 (c : Thread nD τ) bd) E)
  isplitl [H1 H2 H3 H4 H5 H6 H7 H8 H9 H10 H11 H12 H13 H14]
  · iapply (body (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 E)
    dsimp only [all]
    sl_close
  · iintro %_ H
    dsimp only [all]
    icases H with ⟨H1, H2, H3, H4, H5, H6, H7, H8, H9, H10, H11, H12, H13, H14⟩
    isplitl [H1 H2 H3 H4 H5 H6 H7 H8 H9 H10]
    · isplitl [H1]
      · iexists f1; isplitr; · ipureintro; exact e1
        iexact H1
      isplitl [H2]
      · iexists f2; isplitr; · ipureintro; exact e2
        iexact H2
      isplitl [H3]
      · iexists f3; isplitr; · ipureintro; exact e3
        iexact H3
      isplitl [H4]
      · iexists f4; isplitr; · ipureintro; exact e4
        iexact H4
      isplitl [H5]
      · iexists f5; isplitr; · ipureintro; exact e5
        iexact H5
      isplitl [H6]
      · iexists f6; isplitr; · ipureintro; exact e6
        iexact H6
      isplitl [H7]
      · iexists f7; isplitr; · ipureintro; exact e7
        iexact H7
      isplitl [H8]
      · iexists f8; isplitr; · ipureintro; exact e8
        iexact H8
      isplitl [H9]
      · iexists f9; isplitr; · ipureintro; exact e9
        iexact H9
      iexists f10; isplitr; · ipureintro; exact e10
      iexact H10
    isplitl [H11 H12]
    · iexists _; iexists _
      isplitr
      · ipureintro
        exact hP 𝒱 bd i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 e1 e2 e3 e4 e5 e6 e7 e8 e9 e10
      isplitl [H11]
      · iexists _; isplitr; swap; · iexact H11
        ipureintro; rfl
      iexists _; isplitr; swap; · iexact H12
      ipureintro; rfl
    isplitl [H13]; · iexists _; iexact H13
    iexists _; iexact H14

end Cert.MxfIdeal.Mixer

end
-- ==== Proof.Mxf.Frame.lean ====
module

public import proofs.«01_k».proof.Proof.Mxf.Owned
public import Idealize.ShloMosaic.Lib.Pipeline.FrameBody
public import Idealize.ShloMosaic.Lib.Pipeline.ValueKit
public import Idealize.ShloMosaic.Lib.Pipeline.Cells

/-!
# The run of the mixer's forward kernel

The program runs to its end without a fault, keeps its arguments, and leaves every semaphore at zero; where the body's
two results are named, the arrays hold them.
-/

@[expose] public section
set_option maxRecDepth 16384
set_option maxHeartbeats 40000000
noncomputable section
namespace Cert.MxfIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf ΦA)
open Cert.MxfIdeal.Gen
variable {F : FTy → Type} [FloatOps F]
local notation "𝕄" => MT nD τ sig Unit (Elt F) ℕ (UR sig nD τ) ℕ

variable (m : (ℓ : Loc nD τ sig) → Buf (Elt F) ℓ) (ρ : Dev nD → PrngReg)
  (o10 : Dev nD → Fin cfg0.N → Vec F S2048x1024 .bf16) (o11 : Dev nD → Fin cfg0.N → Vec F S2048x384 .f32) (g : Bool)

/-- The windows of the results are left open where `g` says so. -/
def forgets (w : Fin cfg0.W) : Bool := decide (10 ≤ w.val) && g

/-- The arrays as the region finds them; each argument's buffer at its block; the results at the names given. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => o10 c t
    | ⟨11, _⟩ => o11 c t
    | ⟨n + 12, h⟩ => (Nat.not_lt.2 (Nat.le_add_left 12 n) h).elim
  Φ _ := Pipeline.ΦA spec0 c
  q _ := fullShare
  owed _ := 0

theorem A_eq (c : Dev nD) (w : Fin cfg0.W) : (dats m o10 o11 0 c).A w = V m c (Pipeline.arrRef spec0 w) := rfl

theorem after0_0 (c : Dev nD) (t : Fin cfg0.N) : (dats m o10 o11 0 c).after 0 t = iblk m c 0 t := by dsimp only [dats]
theorem after0_1 (c : Dev nD) (t : Fin cfg0.N) : (dats m o10 o11 0 c).after 1 t = iblk m c 1 t := by dsimp only [dats]
theorem after0_2 (c : Dev nD) (t : Fin cfg0.N) : (dats m o10 o11 0 c).after 2 t = iblk m c 2 t := by dsimp only [dats]
theorem after0_3 (c : Dev nD) (t : Fin cfg0.N) : (dats m o10 o11 0 c).after 3 t = iblk m c 3 t := by dsimp only [dats]
theorem after0_4 (c : Dev nD) (t : Fin cfg0.N) : (dats m o10 o11 0 c).after 4 t = iblk m c 4 t := by dsimp only [dats]
theorem after0_5 (c : Dev nD) (t : Fin cfg0.N) : (dats m o10 o11 0 c).after 5 t = iblk m c 5 t := by dsimp only [dats]
theorem after0_6 (c : Dev nD) (t : Fin cfg0.N) : (dats m o10 o11 0 c).after 6 t = iblk m c 6 t := by dsimp only [dats]
theorem after0_7 (c : Dev nD) (t : Fin cfg0.N) : (dats m o10 o11 0 c).after 7 t = iblk m c 7 t := by dsimp only [dats]
theorem after0_8 (c : Dev nD) (t : Fin cfg0.N) : (dats m o10 o11 0 c).after 8 t = iblk m c 8 t := by dsimp only [dats]
theorem after0_9 (c : Dev nD) (t : Fin cfg0.N) : (dats m o10 o11 0 c).after 9 t = iblk m c 9 t := by dsimp only [dats]
theorem after0_10 (c : Dev nD) (t : Fin cfg0.N) : (dats m o10 o11 0 c).after 10 t = o10 c t := by dsimp only [dats]
theorem after0_11 (c : Dev nD) (t : Fin cfg0.N) : (dats m o10 o11 0 c).after 11 t = o11 c t := by dsimp only [dats]
theorem before0_0 (c : Dev nD) (t : Fin cfg0.N) (d) : (dats m o10 o11 0 c).before 0 t d = iblk m c 0 t :=
  before0_0_of m (dats m o10 o11 0 c) (A_eq m o10 o11 c 0) (after0_0 m o10 o11 c) t d
theorem before0_1 (c : Dev nD) (t : Fin cfg0.N) (d) : (dats m o10 o11 0 c).before 1 t d = iblk m c 1 t :=
  before0_1_of m (dats m o10 o11 0 c) (A_eq m o10 o11 c 1) (after0_1 m o10 o11 c) t d
theorem before0_2 (c : Dev nD) (t : Fin cfg0.N) (d) : (dats m o10 o11 0 c).before 2 t d = iblk m c 2 t :=
  before0_2_of m (dats m o10 o11 0 c) (A_eq m o10 o11 c 2) (after0_2 m o10 o11 c) t d
theorem before0_3 (c : Dev nD) (t : Fin cfg0.N) (d) : (dats m o10 o11 0 c).before 3 t d = iblk m c 3 t :=
  before0_3_of m (dats m o10 o11 0 c) (A_eq m o10 o11 c 3) (after0_3 m o10 o11 c) t d
theorem before0_4 (c : Dev nD) (t : Fin cfg0.N) (d) : (dats m o10 o11 0 c).before 4 t d = iblk m c 4 t :=
  before0_4_of m (dats m o10 o11 0 c) (A_eq m o10 o11 c 4) (after0_4 m o10 o11 c) t d
theorem before0_5 (c : Dev nD) (t : Fin cfg0.N) (d) : (dats m o10 o11 0 c).before 5 t d = iblk m c 5 t :=
  before0_5_of m (dats m o10 o11 0 c) (A_eq m o10 o11 c 5) (after0_5 m o10 o11 c) t d
theorem before0_6 (c : Dev nD) (t : Fin cfg0.N) (d) : (dats m o10 o11 0 c).before 6 t d = iblk m c 6 t :=
  before0_6_of m (dats m o10 o11 0 c) (A_eq m o10 o11 c 6) (after0_6 m o10 o11 c) t d
theorem before0_7 (c : Dev nD) (t : Fin cfg0.N) (d) : (dats m o10 o11 0 c).before 7 t d = iblk m c 7 t :=
  before0_7_of m (dats m o10 o11 0 c) (A_eq m o10 o11 c 7) (after0_7 m o10 o11 c) t d
theorem before0_8 (c : Dev nD) (t : Fin cfg0.N) (d) : (dats m o10 o11 0 c).before 8 t d = iblk m c 8 t :=
  before0_8_of m (dats m o10 o11 0 c) (A_eq m o10 o11 c 8) (after0_8 m o10 o11 c) t d
theorem before0_9 (c : Dev nD) (t : Fin cfg0.N) (d) : (dats m o10 o11 0 c).before 9 t d = iblk m c 9 t :=
  before0_9_of m (dats m o10 o11 0 c) (A_eq m o10 o11 c 9) (after0_9 m o10 o11 c) t d

/-- Where the results are named, the body leaves the names. -/
def Named : Prop := ∀ (c : Dev nD) (t : Fin cfg0.N),
  Leaves c (iblk m c 0 t) (iblk m c 1 t) (iblk m c 2 t) (iblk m c 3 t) (iblk m c 4 t) (iblk m c 5 t) (iblk m c 6 t) (iblk m c 7 t) (iblk m c 8 t) (iblk m c 9 t)
    fun d e => g = false → d = o10 c t ∧ e = o11 c t

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The scratch buffers in the invariant are what the body is given. -/
theorem scratch_eq (c : Dev nD) : (Pipeline.scopedRest (Ix := Unit) (Name := ℕ) (U := UR sig nD τ) (Lvl := ℕ) (Val := Elt F) spec0 c : sProp 𝕄)
    = scratch c (Memref.whole cc0_scratch0) (Memref.whole cc0_scratch1) := by
  rw [scopedRest0_eq]
  dsimp only [scratch]
  simp only [Memref.view_whole, View.set_whole]

/-- A result's buffer after the body: at its name, or at anything. -/
def left10 (c : Dev nD) (t : Fin cfg0.N) : sProp 𝕄 := match g with
  | true => iprop(∃ d, owns (c : Thread nD τ) (st0_10 t) fullShare d)
  | false => owns (c : Thread nD τ) (st0_10 t) fullShare ((dats m o10 o11 0 c).after 10 t)
def left11 (c : Dev nD) (t : Fin cfg0.N) : sProp 𝕄 := match g with
  | true => iprop(∃ d, owns (c : Thread nD τ) (st0_11 t) fullShare d)
  | false => owns (c : Thread nD τ) (st0_11 t) fullShare ((dats m o10 o11 0 c).after 11 t)
/-- A result's buffer before the body. -/
def found10 (c : Dev nD) (t : Fin cfg0.N) : sProp 𝕄 := match g with
  | true => iprop(∃ d, owns (c : Thread nD τ) (st0_10 t) fullShare d)
  | false => iprop(∃ d, owns (c : Thread nD τ) (st0_10 t) fullShare ((dats m o10 o11 0 c).before 10 t d))
def found11 (c : Dev nD) (t : Fin cfg0.N) : sProp 𝕄 := match g with
  | true => iprop(∃ d, owns (c : Thread nD τ) (st0_11 t) fullShare d)
  | false => iprop(∃ d, owns (c : Thread nD τ) (st0_11 t) fullShare ((dats m o10 o11 0 c).before 11 t d))

/-- Before the body a result's buffer holds something. -/
theorem found10_any (c : Dev nD) (t : Fin cfg0.N) :
    (found10 m o10 o11 g c t : sProp 𝕄) ⊢ iprop(∃ d, owns (c : Thread nD τ) (st0_10 t) fullShare d) := by
  cases g
  · dsimp only [found10]; iintro ⟨%d, H⟩; iexists _; iexact H
  · dsimp only [found10]; iintro H; iexact H
theorem found11_any (c : Dev nD) (t : Fin cfg0.N) :
    (found11 m o10 o11 g c t : sProp 𝕄) ⊢ iprop(∃ d, owns (c : Thread nD τ) (st0_11 t) fullShare d) := by
  cases g
  · dsimp only [found11]; iintro ⟨%d, H⟩; iexists _; iexact H
  · dsimp only [found11]; iintro H; iexact H

/-- After the body a result's buffer is as claimed. -/
theorem left10_of (c : Dev nD) (t : Fin cfg0.N) (d : Vec F S2048x1024 .bf16) (h : g = false → d = o10 c t) :
    (owns (c : Thread nD τ) (st0_10 t) fullShare d : sProp 𝕄) ⊢ left10 m o10 o11 g c t := by
  cases g
  · obtain rfl := h rfl
    dsimp only [left10]; rw [after0_10]
  · dsimp only [left10]; iintro H; iexists _; iexact H
theorem left11_of (c : Dev nD) (t : Fin cfg0.N) (d : Vec F S2048x384 .f32) (h : g = false → d = o11 c t) :
    (owns (c : Thread nD τ) (st0_11 t) fullShare d : sProp 𝕄) ⊢ left11 m o10 o11 g c t := by
  cases g
  · obtain rfl := h rfl
    dsimp only [left11]; rw [after0_11]
  · dsimp only [left11]; iintro H; iexists _; iexact H

/-- What the body is called with at a point, and what it returns. -/
def bodyPre (c : Dev nD) (t : Fin cfg0.N) : sProp 𝕄 :=
  iprop((dats m o10 o11 0 c).Φ t.castSucc ∗ (dats m o10 o11 0 c).owesAt () t.castSucc
    ∗ (∃ d, owns (c : Thread nD τ) (st0_0 t) fullShare ((dats m o10 o11 0 c).before 0 t d))
    ∗ (∃ d, owns (c : Thread nD τ) (st0_1 t) fullShare ((dats m o10 o11 0 c).before 1 t d))
    ∗ (∃ d, owns (c : Thread nD τ) (st0_2 t) fullShare ((dats m o10 o11 0 c).before 2 t d))
    ∗ (∃ d, owns (c : Thread nD τ) (st0_3 t) fullShare ((dats m o10 o11 0 c).before 3 t d))
    ∗ (∃ d, owns (c : Thread nD τ) (st0_4 t) fullShare ((dats m o10 o11 0 c).before 4 t d))
    ∗ (∃ d, owns (c : Thread nD τ) (st0_5 t) fullShare ((dats m o10 o11 0 c).before 5 t d))
    ∗ (∃ d, owns (c : Thread nD τ) (st0_6 t) fullShare ((dats m o10 o11 0 c).before 6 t d))
    ∗ (∃ d, owns (c : Thread nD τ) (st0_7 t) fullShare ((dats m o10 o11 0 c).before 7 t d))
    ∗ (∃ d, owns (c : Thread nD τ) (st0_8 t) fullShare ((dats m o10 o11 0 c).before 8 t d))
    ∗ (∃ d, owns (c : Thread nD τ) (st0_9 t) fullShare ((dats m o10 o11 0 c).before 9 t d))
    ∗ found10 m o10 o11 g c t ∗ found11 m o10 o11 g c t)
def bodyPost (c : Dev nD) (t : Fin cfg0.N) : sProp 𝕄 :=
  iprop((dats m o10 o11 0 c).Φ t.succ ∗ (dats m o10 o11 0 c).owesAt () t.succ
    ∗ owns (c : Thread nD τ) (st0_0 t) fullShare ((dats m o10 o11 0 c).after 0 t)
    ∗ owns (c : Thread nD τ) (st0_1 t) fullShare ((dats m o10 o11 0 c).after 1 t)
    ∗ owns (c : Thread nD τ) (st0_2 t) fullShare ((dats m o10 o11 0 c).after 2 t)
    ∗ owns (c : Thread nD τ) (st0_3 t) fullShare ((dats m o10 o11 0 c).after 3 t)
    ∗ owns (c : Thread nD τ) (st0_4 t) fullShare ((dats m o10 o11 0 c).after 4 t)
    ∗ owns (c : Thread nD τ) (st0_5 t) fullShare ((dats m o10 o11 0 c).after 5 t)
    ∗ owns (c : Thread nD τ) (st0_6 t) fullShare ((dats m o10 o11 0 c).after 6 t)
    ∗ owns (c : Thread nD τ) (st0_7 t) fullShare ((dats m o10 o11 0 c).after 7 t)
    ∗ owns (c : Thread nD τ) (st0_8 t) fullShare ((dats m o10 o11 0 c).after 8 t)
    ∗ owns (c : Thread nD τ) (st0_9 t) fullShare ((dats m o10 o11 0 c).after 9 t)
    ∗ left10 m o10 o11 g c t ∗ left11 m o10 o11 g c t)

theorem sound_point (hn : Named m o10 o11 g) (c : Dev nD) (t : Fin cfg0.N) :
    bodyPre m o10 o11 g c t ⊢ wp frame (wpE (defs₀ (F := F)) Variants.none (c : Thread nD τ) none) Set.univ (bodyAt0 t)
      (fun _ => bodyPost m o10 o11 g c t) := by
  unfold bodyPre bodyPost
  simp only [before0_0, after0_0, before0_1, after0_1, before0_2, after0_2, before0_3, after0_3, before0_4, after0_4, before0_5, after0_5, before0_6, after0_6, before0_7, after0_7, before0_8, after0_8, before0_9, after0_9]
  rw [show (dats m o10 o11 0 c).Φ t.succ = (dats m o10 o11 0 c).Φ t.castSucc from rfl,
    show (dats m o10 o11 0 c).owesAt () t.succ = (dats m o10 o11 0 c).owesAt () t.castSucc from rfl,
    show (dats m o10 o11 0 c).Φ t.castSucc = Pipeline.ΦA spec0 c from rfl]
  unfold Pipeline.ΦA
  rw [scratch_eq]
  iintro ⟨⟨S, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply (wp_wand_r Idealize.ShloMosaic.frame (wpE (defs₀ (F := F)) Variants.none (c : Thread nD τ) none) Set.univ)
  isplitl [H0 H1 H2 H3 H4 H5 H6 H7 H8 H9 H10 H11 S]
  · iapply (owned_run Variants.none c none (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _ (hn c t) Set.univ)
    isplitl [H0 H1 H2 H3 H4 H5 H6 H7 H8 H9]
    · dsimp only [inputs]
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iapply (found10_any m o10 o11 g c t); iexact H10
    isplitl [H11]; · iapply (found11_any m o10 o11 g c t); iexact H11
    iexact S
  · iintro %_ ⟨H, ⟨%d, %e, %h, H10, H11⟩, S⟩
    dsimp only [inputs]
    icases H with ⟨H0, H1, H2, H3, H4, H5, H6, H7, H8, H9⟩
    isplitl [Hg S]
    · isplitr [Hg]; swap; · iexact Hg
      iexact S
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (left10_of m o10 o11 g c t d fun hg => (h hg).1); iexact H10
    iapply (left11_of m o10 o11 g c t e fun hg => (h hg).2); iexact H11

theorem body_obligation (hn : Named m o10 o11 g) (c : Dev nD) :
    Pipeline.BodyObligationLoose (dats (F := F) m o10 o11 0 c) (defs₀ (F := F)) Variants.none () Set.univ (forgets g) := fun t => by
  rw [bigSep_W0, bigSep_W0, defs₀_row]
  cases g
  · exact triple_restated (sound_point m o10 o11 false hn c t) rfl .rfl fun _ => .rfl
  · exact triple_restated (sound_point m o10 o11 true hn c t) rfl .rfl fun _ => .rfl

set_option backward.isDefEq.respectTransparency.types false in
/-- The run, the results as named or left open. -/
theorem run_main (hn : Named m o10 o11 g) : θ_run defs (onTc (τ := τ) (main (F := F))) (s₀ m ρ)
    (fun r => Pipeline.RDat.FramePost (cfgs 0) (fun c => (dats m o10 o11 0 c).toRForget (forgets g)) (V m) r ∧ r.2.sem = fun _ => 0) :=
  Pipeline.θ_run_frame_forget (Q' := _) cfgs (dats m o10 o11) (0 : Fin 1) launch0 defs₀ Variants.none (forgets g) m ρ main
    (hbody := fun c => body_obligation m o10 o11 g hn c) (hshare := fun c => (dats m o10 o11 0 c).share_full fun _ => rfl)
    (howed := fun _ _ => rfl) (V := V m) (hmain := hmain m Variants.none) (hA := fun _ _ => rfl) (hΦ := fun _ _ => rfl)

/-- The arguments end as they began. -/
theorem kept (hn : Named m o10 o11 g) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1.arr_in c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run_main m ρ o10 o11 g hn)

/-- The frame, the results left open. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  kept m ρ (fun _ t => Pipeline.Dat.unnamed (cfg := cfg0) 10 t) (fun _ t => Pipeline.Dat.unnamed (cfg := cfg0) 11 t) true
    fun _ _ _ _ _ _ _ _ _ _ _ _ _ _ _ _ _ _ _ _ _ _ _ _ _ _ _ _ _ _ _ _ _ _ _ _ _ _ _ _ _ _ _ _ _ _ _ _ _ _ _ _ _ _ _ _ _ h => absurd h (by decide)

/-- The run, the results named: each array ends at what the names make of it. -/
theorem named (hn : Named m o10 o11 false) : θ_run defs (onTc (τ := τ) (main (F := F))) ⟨m, fun _ => 0, ρ⟩ (fun r => ∀ c : Dev nD,
      r.2.mem ((spec0 10).arr.view.loc (c.tc : Thread nD τ)) = (dats m o10 o11 0 c).arrAt 10 cfg0.N
      ∧ r.2.mem ((spec0 11).arr.view.loc (c.tc : Thread nD τ)) = (dats m o10 o11 0 c).arrAt 11 cfg0.N) :=
  (θ_run defs _ _).mono (fun _ h c => ⟨((dats m o10 o11 0 c).toRForget_arrAt_iff (by rfl) _ _).1 ((h.1 c).1 10),
    ((dats m o10 o11 0 c).toRForget_arrAt_iff (by rfl) _ _).1 ((h.1 c).1 11)⟩) (run_main m ρ o10 o11 false hn)

end Cert.MxfIdeal.Mixer

end
-- ==== Proof.Mxf.Rounded.lean ====
/- The frame of the mixer's forward call at the printed floats: the run is the one proved for any reading of the floats. -/
module

public import proofs.«01_k».proof.Defs
public import proofs.«01_k».proof.Proof.Gen.Mxf
public import proofs.«01_k».proof.Proof.Mxf.Frame
public import Idealize.ShloMosaic.Lib.Tactic

@[expose] public section

noncomputable section

namespace Cert.Mxf

open Idealize.ShloMosaic Idealize.SL.Sem

/-- The call leaves its arguments as they were, at the printed floats. -/
theorem frame : Cert.quiescent_Mxf (hMxf := Cert.Mxf.Gen.facts) :=
  Eq.mp (by sl_kernel_rfl) fun m ρ (_ : True) => Cert.MxfIdeal.Mixer.frame (F := Bits) m ρ

end Cert.Mxf

end
-- ==== Proof.Mxf.Spec.lean ====
module

public import proofs.«01_k».proof.Proof.Gen.MxfIdeal.Loops
public import Idealize.ShloMosaic.Lib.Pipeline.ValueKit
public import Idealize.ShloMosaic.Lib.Pipeline.ReadBack

/-!
# The mixer's mathematics for one sequence
-/

@[expose] public section
set_option maxRecDepth 16384
set_option maxHeartbeats 40000000
noncomputable section
namespace Cert.MxfIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MxfIdeal.Gen

/-- An entry of a matrix at a row and a column given as numbers. -/
def ent {n m : ℕ} {e : EltTy} (x : Vec Ideal ⟨2, ![n, m]⟩ e) (d : Elt Ideal e) (r j : ℕ) : Elt Ideal e := if h : r < n ∧ j < m then x (ix2 ⟨r, h.1⟩ ⟨j, h.2⟩) else d

theorem ent_mk {n m : ℕ} {e : EltTy} (x : Vec Ideal ⟨2, ![n, m]⟩ e) (d : Elt Ideal e) (r : Fin n) (j : Fin m) : ent x d r.val j.val = x (ix2 r j) := dif_pos ⟨r.isLt, j.isLt⟩

/-- One product of a convolution: the window's row `r` moved on by `t`, times the tap `t`. -/
def prod {n m w : ℕ} (G : Vec Ideal ⟨2, ![n, w]⟩ .f32) (W : Vec Ideal ⟨2, ![m, w]⟩ .f32) (r j t : ℕ) : EReal :=
  ent (e := .f32) G (0 : EReal) (r + t) j * ent (e := .f32) W (0 : EReal) t j

/-- A convolution of `T` taps. -/
def conv {n m w : ℕ} (T : ℕ) (G : Vec Ideal ⟨2, ![n, w]⟩ .f32) (W : Vec Ideal ⟨2, ![m, w]⟩ .f32) (r j : ℕ) : EReal :=
  ∑ t ∈ Finset.range T, prod G W r j t

/-- One sequence's arguments, as functions of the numbers of rows and columns. -/
structure Args where
  x : ℕ → ℕ → EReal
  wA : ℕ → ℕ → EReal
  bA : ℕ → EReal
  gA : ℕ → EReal
  hA : ℕ → EReal
  gV : ℕ → EReal
  hV : ℕ → EReal
  wS : ℕ → ℕ → ℕ → EReal
  bS : ℕ → ℕ → EReal
  wC : ℕ → ℕ → EReal

/-- The mean of a row, `N` its length. -/
def mean {n : ℕ} (N : EReal) (f : Fin n → EReal) : EReal := Ideal.div (∑ k, f k) N

/-- The normed row. -/
def normed {n : ℕ} (N : EReal) (f : Fin n → EReal) (q : Fin n) : EReal :=
  (f q - mean N f) * Ideal.rsqrt (mean N (fun k => (f k - mean N f) * (f k - mean N f)) + Ideal.ofBits .f32 0x3727C5AC#32)

/-- The gaussian error unit. -/
def gelu (x : EReal) : EReal := Ideal.ofBits .f32 0x3F000000#32 * x * (Ideal.ofBits .f32 0x3F800000#32 + Ideal.erf (x * Ideal.ofBits .f32 0x3F3504F3#32))

abbrev len384 : EReal := Ideal.ofBits .f32 0x43C00000#32
abbrev len256 : EReal := Ideal.ofBits .f32 0x43800000#32

namespace Args
variable (a : Args)

/-- The long convolution's argument, 32 zero rows before it. -/
def gs (r j : ℕ) : EReal := if r < 32 then 0 else a.x (r - 32) j * Ideal.logistic (a.x (r - 32) (384 + j))
/-- The short convolution's argument, 8 zero rows before it. -/
def ccs (r j : ℕ) : EReal := if r < 8 then 0 else a.x (r - 8) (1664 + j) * a.x (r - 8) (2048 + j)
/-- The long convolution and its bias. -/
def ca (r j : ℕ) : EReal := ∑ t ∈ Finset.range 31, a.gs (r + 2 + t) j * a.wA t j + a.bA j
def lna (r : ℕ) (q : Fin 384) : EReal := normed len384 (fun k : Fin 384 => a.ca r k.val) q * a.gA q.val + a.hA q.val
/-- The first columns of the result. -/
def ao (r : ℕ) (q : Fin 384) : EReal := a.lna r q * Ideal.logistic (a.lna r q)
def v (r : ℕ) (q : Fin 256) : EReal := normed len256 (fun k : Fin 256 => gelu (a.x r (1024 + k.val))) q * a.gV q.val + a.hV q.val
/-- The middle columns of the result: row `p` of chunk `k`. -/
def bo (k p : ℕ) (q : Fin 256) : EReal :=
  gelu (a.x (128 * k + p) (768 + q.val)) * (∑ s : Fin 128, a.wS (q.val / 64) p s.val * a.v (128 * k + s.val) q + a.bS p q.val)
/-- The last columns of the result. -/
def co (r j : ℕ) : EReal := a.x r (1280 + j) * ∑ t ∈ Finset.range 3, a.ccs (r + 6 + t) j * a.wC t j
/-- The result's row `p` of chunk `k`. -/
def cat (k p j : ℕ) : EReal :=
  if h : j < 384 then a.ao (128 * k + p) ⟨j, h⟩ else if h : j - 384 < 256 then a.bo k p ⟨j - 384, h⟩ else a.co (128 * k + p) (j - 640)
end Args

end Cert.MxfIdeal.Mixer
end
-- ==== Proof.Mxf.Conv.lean ====
module

public import proofs.«01_k».proof.Proof.Mxf.Spec
public import Idealize.ShloMosaic.Lib.Pipeline.ValueKit
public import Idealize.ShloMosaic.Lib.Pipeline.ReadBack

/-!
# The mixer's convolutions over the windows of a chunk
-/

@[expose] public section
set_option maxRecDepth 16384
set_option maxHeartbeats 40000000
noncomputable section
namespace Cert.MxfIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MxfIdeal.Gen

/-- A window of a buffer, entry by entry. -/
theorem window {n m a b : ℕ} {sp : Space} (M : Memref sig .tc sp ⟨2, ![n, m]⟩ .f32) (f : BufTy.Contents (Elt Ideal) M.view.ty) (off : Fin 2 → ℕ)
    (inb : ∀ x, off x + (![a, b] : Fin 2 → ℕ) x ≤ (![n, m] : Fin 2 → ℕ) x) (p : Fin a) (q : Fin b) :
    (M.view.readAt (Elt Ideal) (Rect.unit (s := ⟨2, ![n, m]⟩) off ![a, b] inb).toLoadRect f (ix2 p q) : EReal) = ent (e := .f32) (M.view.read (Elt Ideal) f) (0 : EReal) (off 0 + p.val) (off 1 + q.val) := by
  have h0 : off 0 + p.val < n := lt_of_lt_of_le (Nat.add_lt_add_left p.isLt _) (inb 0)
  have h1 : off 1 + q.val < m := lt_of_lt_of_le (Nat.add_lt_add_left q.isLt _) (inb 1)
  rw [ent, dif_pos ⟨h0, h1⟩]
  show M.view.read (Elt Ideal) f _ = M.view.read (Elt Ideal) f _
  congr 1
  funext x
  fin_cases x <;> exact Fin.ext (by show off _ + 1 * _ = _; rw [Nat.one_mul]; rfl)

/-- Where the windows begin: at a multiple of eight rows past the chunk's first, in each block of columns. -/
theorem begins : ∀ (k : Fin k0_t1_loop.trips) (j : Fin 5), let a := BitVec.ofNat 32 (8 * j.val)
    k0_off4 k a = ![128 * k.val + 8 * j.val, 0] ∧ k0_off5 k a = ![128 * k.val + 8 * j.val, 0]
    ∧ k0_off6 k a = ![128 * k.val + 8 * j.val, 128] ∧ k0_off7 k a = ![128 * k.val + 8 * j.val, 128]
    ∧ k0_off8 k a = ![128 * k.val + 8 * j.val, 256] ∧ k0_off9 k a = ![128 * k.val + 8 * j.val, 256] := by decide +kernel

theorem begins' : ∀ k : Fin k0_t1_loop.trips, k0_off18 k = ![128 * k.val + 8, 0] ∧ k0_off19 k = ![128 * k.val, 0]
    ∧ k0_off20 k = ![128 * k.val + 8, 128] ∧ k0_off21 k = ![128 * k.val, 128]
    ∧ k0_off22 k = ![128 * k.val + 8, 256] ∧ k0_off23 k = ![128 * k.val, 256] := by decide +kernel

/-- The taps taken together by the remainder of their rows modulo eight. -/
theorem grouped (h : ℕ → EReal) : ∑ t ∈ Finset.range 31, h t
    = h 6 + h 14 + h 22 + h 30 + (h 7 + h 15 + h 23) + (h 0 + h 8 + h 16 + h 24) + (h 1 + h 9 + h 17 + h 25)
      + (h 2 + h 10 + h 18 + h 26) + (h 3 + h 11 + h 19 + h 27) + (h 4 + h 12 + h 20 + h 28) + (h 5 + h 13 + h 21 + h 29) := by
  simp only [Finset.sum_range_succ, Finset.sum_range_zero]
  abel

theorem grouped' (h : ℕ → EReal) : ∑ t ∈ Finset.range 3, h t = h 2 + h 0 + h 1 := by
  simp only [Finset.sum_range_succ, Finset.sum_range_zero]
  abel

variable (𝒱 : Variants) (c : Dev nD) (bd : Option 𝒱.V) (i : grid0.Coords)
  (arg1 : Memref sig .tc .vmem S2048x2432 .bf16) (harg1 : arg1.IsWhole) (arg2 : Memref sig .tc .vmem S32x384 .f32) (harg2 : arg2.IsWhole) (arg3 :
  Memref sig .tc .vmem S1x384 .f32) (harg3 : arg3.IsWhole) (arg4 : Memref sig .tc .vmem S1x384 .f32) (harg4 : arg4.IsWhole) (arg5 : Memref sig .tc
  .vmem S1x384 .f32) (harg5 : arg5.IsWhole) (arg6 : Memref sig .tc .vmem S1x256 .f32) (harg6 : arg6.IsWhole) (arg7 : Memref sig .tc .vmem S1x256 .f32)
  (harg7 : arg7.IsWhole) (arg8 : Memref sig .tc .vmem S4x128x128 .bf16) (harg8 : arg8.IsWhole) (arg9 : Memref sig .tc .vmem S128x256 .f32) (harg9 :
  arg9.IsWhole) (arg10 : Memref sig .tc .vmem S8x384 .f32) (harg10 : arg10.IsWhole) (arg11 : Memref sig .tc .vmem S2048x1024 .bf16) (harg11 :
  arg11.IsWhole) (arg12 : Memref sig .tc .vmem S2048x384 .f32) (harg12 : arg12.IsWhole) (arg13 : Memref sig .tc .vmem S2080x384 .f32) (harg13 :
  arg13.IsWhole) (arg14 : Memref sig .tc .vmem S2056x384 .f32) (harg14 : arg14.IsWhole)

/-- What a load reads inside a piece just written does not depend on what the buffer held. -/
theorem inside {s : Shape} {e : EltTy} {sp : Space} (M : Memref sig .tc sp s e) (f : BufTy.Contents (Elt Ideal) M.view.ty) (r : Rect s) (w : r.shape.Idx → Elt Ideal e) (B : LoadRect s)
    (h : LoadRect.within r B = true) : M.view.readCov [⟨r, w⟩] B = M.view.readAt (Elt Ideal) B (M.view.writes (Elt Ideal) f [⟨r, w⟩]) :=
  (View.readAt_writes_of_cover M.view f _ B fun j => ⟨_, List.mem_singleton_self _, LoadRect.idx_mem_of_within h j⟩).symm

theorem in_v81 (X1 : BufTy.Contents (Elt Ideal) arg1.view.ty) (f13 : BufTy.Contents (Elt Ideal) arg13.view.ty) (k : Fin k0_t1_loop.trips) (p q : Fin 128) :
    (trip_k0_t1.sl.v81 arg1 arg13 X1 k (ix2 p q) : EReal) = ent (e := .f32) (n := 2080) (m := 384) (arg13.view.read (Elt Ideal) (arg13.view.writes (Elt Ideal) f13 (trip_k0_t1.sl.HW_arg13_1 arg1 X1 k))) (0 : EReal) ((k0_off4 k 32#32) 0 + p.val) ((k0_off4 k 32#32) 1 + q.val) := by
  have h : ∀ k, LoadRect.within (Rect.unit (s := S2080x384) (k0_off3 k) S128x384.size (k0_off3_inb k)) (Rect.unit (s := S2080x384) (k0_off4 k 32#32) S128x128.size (k0_off4_inb k 3)).toLoadRect = true := by decide +kernel
  unfold trip_k0_t1.sl.v81 trip_k0_t1.sl.HW_arg13_1
  rw [inside arg13 f13 _ _ _ (h k)]
  exact window arg13 _ _ _ p q

theorem in_v384 (X1 : BufTy.Contents (Elt Ideal) arg1.view.ty) (f13 : BufTy.Contents (Elt Ideal) arg13.view.ty) (k : Fin k0_t1_loop.trips) (p q : Fin 128) :
    (trip_k0_t1.sl.v384 arg1 arg13 X1 k (ix2 p q) : EReal) = ent (e := .f32) (n := 2080) (m := 384) (arg13.view.read (Elt Ideal) (arg13.view.writes (Elt Ideal) f13 (trip_k0_t1.sl.HW_arg13_1 arg1 X1 k))) (0 : EReal) ((k0_off6 k 32#32) 0 + p.val) ((k0_off6 k 32#32) 1 + q.val) := by
  have h : ∀ k, LoadRect.within (Rect.unit (s := S2080x384) (k0_off3 k) S128x384.size (k0_off3_inb k)) (Rect.unit (s := S2080x384) (k0_off6 k 32#32) S128x128.size (k0_off6_inb k 3)).toLoadRect = true := by decide +kernel
  unfold trip_k0_t1.sl.v384 trip_k0_t1.sl.HW_arg13_1
  rw [inside arg13 f13 _ _ _ (h k)]
  exact window arg13 _ _ _ p q

theorem in_v687 (X1 : BufTy.Contents (Elt Ideal) arg1.view.ty) (f13 : BufTy.Contents (Elt Ideal) arg13.view.ty) (k : Fin k0_t1_loop.trips) (p q : Fin 128) :
    (trip_k0_t1.sl.v687 arg1 arg13 X1 k (ix2 p q) : EReal) = ent (e := .f32) (n := 2080) (m := 384) (arg13.view.read (Elt Ideal) (arg13.view.writes (Elt Ideal) f13 (trip_k0_t1.sl.HW_arg13_1 arg1 X1 k))) (0 : EReal) ((k0_off8 k 32#32) 0 + p.val) ((k0_off8 k 32#32) 1 + q.val) := by
  have h : ∀ k, LoadRect.within (Rect.unit (s := S2080x384) (k0_off3 k) S128x384.size (k0_off3_inb k)) (Rect.unit (s := S2080x384) (k0_off8 k 32#32) S128x128.size (k0_off8_inb k 3)).toLoadRect = true := by decide +kernel
  unfold trip_k0_t1.sl.v687 trip_k0_t1.sl.HW_arg13_1
  rw [inside arg13 f13 _ _ _ (h k)]
  exact window arg13 _ _ _ p q

theorem in_v1098 (X1 : BufTy.Contents (Elt Ideal) arg1.view.ty) (f14 : BufTy.Contents (Elt Ideal) arg14.view.ty) (k : Fin k0_t1_loop.trips) (p q : Fin 128) :
    (trip_k0_t1.sl.v1098 arg1 arg14 X1 k (ix2 p q) : EReal) = ent (e := .f32) (n := 2056) (m := 384) (arg14.view.read (Elt Ideal) (arg14.view.writes (Elt Ideal) f14 (trip_k0_t1.sl.HW_arg14_1 arg1 X1 k))) (0 : EReal) ((k0_off18 k) 0 + p.val) ((k0_off18 k) 1 + q.val) := by
  have h : ∀ k, LoadRect.within (Rect.unit (s := S2056x384) (k0_off17 k) S128x384.size (k0_off17_inb k)) (Rect.unit (s := S2056x384) (k0_off18 k) S128x128.size (k0_off18_inb k)).toLoadRect = true := by decide +kernel
  unfold trip_k0_t1.sl.v1098 trip_k0_t1.sl.HW_arg14_1
  rw [inside arg14 f14 _ _ _ (h k)]
  exact window arg14 _ _ _ p q

theorem in_v1134 (X1 : BufTy.Contents (Elt Ideal) arg1.view.ty) (f14 : BufTy.Contents (Elt Ideal) arg14.view.ty) (k : Fin k0_t1_loop.trips) (p q : Fin 128) :
    (trip_k0_t1.sl.v1134 arg1 arg14 X1 k (ix2 p q) : EReal) = ent (e := .f32) (n := 2056) (m := 384) (arg14.view.read (Elt Ideal) (arg14.view.writes (Elt Ideal) f14 (trip_k0_t1.sl.HW_arg14_1 arg1 X1 k))) (0 : EReal) ((k0_off20 k) 0 + p.val) ((k0_off20 k) 1 + q.val) := by
  have h : ∀ k, LoadRect.within (Rect.unit (s := S2056x384) (k0_off17 k) S128x384.size (k0_off17_inb k)) (Rect.unit (s := S2056x384) (k0_off20 k) S128x128.size (k0_off20_inb k)).toLoadRect = true := by decide +kernel
  unfold trip_k0_t1.sl.v1134 trip_k0_t1.sl.HW_arg14_1
  rw [inside arg14 f14 _ _ _ (h k)]
  exact window arg14 _ _ _ p q

theorem in_v1170 (X1 : BufTy.Contents (Elt Ideal) arg1.view.ty) (f14 : BufTy.Contents (Elt Ideal) arg14.view.ty) (k : Fin k0_t1_loop.trips) (p q : Fin 128) :
    (trip_k0_t1.sl.v1170 arg1 arg14 X1 k (ix2 p q) : EReal) = ent (e := .f32) (n := 2056) (m := 384) (arg14.view.read (Elt Ideal) (arg14.view.writes (Elt Ideal) f14 (trip_k0_t1.sl.HW_arg14_1 arg1 X1 k))) (0 : EReal) ((k0_off22 k) 0 + p.val) ((k0_off22 k) 1 + q.val) := by
  have h : ∀ k, LoadRect.within (Rect.unit (s := S2056x384) (k0_off17 k) S128x384.size (k0_off17_inb k)) (Rect.unit (s := S2056x384) (k0_off22 k) S128x128.size (k0_off22_inb k)).toLoadRect = true := by decide +kernel
  unfold trip_k0_t1.sl.v1170 trip_k0_t1.sl.HW_arg14_1
  rw [inside arg14 f14 _ _ _ (h k)]
  exact window arg14 _ _ _ p q

/-- The long convolution's first block of columns. -/
theorem conv_lo (X1 : BufTy.Contents (Elt Ideal) arg1.view.ty) (X2 : BufTy.Contents (Elt Ideal) arg2.view.ty)
    (f13 : BufTy.Contents (Elt Ideal) arg13.view.ty) (k : Fin k0_t1_loop.trips) (p q : Fin 128) :
    (trip_k0_t1.sl.r_12 arg1 arg2 arg13 X1 X2 k f13 (ix2 p q) : EReal) = conv (n := 2080) (m := 32) (w := 384) 31 (arg13.view.read (Elt Ideal) (arg13.view.writes (Elt Ideal) f13 (trip_k0_t1.sl.HW_arg13_1 arg1 X1 k))) (arg2.view.read (Elt Ideal) X2) (128 * k.val + p.val + 2) (0 + q.val) := by
  have a1 := (begins k 1).1
  have a2 := (begins k 2).1
  have a3 := (begins k 3).1
  have a4 := (begins k 4).1
  have b0 := (begins k 0).2.1
  have b1 := (begins k 1).2.1
  have b2 := (begins k 2).2.1
  have b3 := (begins k 3).2.1
  norm_num at a1 a2 a3 a4 b0 b1 b2 b3
  unfold trip_k0_t1.sl.r_12 trip_k0_t1.sl.r_11 trip_k0_t1.sl.r_10 trip_k0_t1.sl.r_9 trip_k0_t1.sl.r_8 trip_k0_t1.sl.r_7 trip_k0_t1.sl.r_6 trip_k0_t1.sl.r_5 trip_k0_t1.sl.r_4 trip_k0_t1.sl.r_3 trip_k0_t1.sl.r_2 trip_k0_t1.sl.r_1 trip_k0_t1.sl.r
  pointwise [k0_pay6, k0_pay7, k0_pay8, k0_pay9, k0_pay10, k0_pay11, k0_pay12, k0_pay13, k0_pay14, k0_pay15, k0_pay16, k0_pay17, k0_pay18, k0_pay19, k0_pay20, k0_pay21]
  simp only [in_v81 arg1 arg13 X1 f13 k, window, a1, a2, a3, a4, b0, b1, b2, b3, Matrix.cons_val_zero, Matrix.cons_val_one, Matrix.cons_val_fin_one, Fin.val_eq_zero]
  refine Eq.trans ?_ (grouped _).symm
  unfold prod
  repeat' first
    | refine congrArg₂ (HAdd.hAdd (α := EReal) (β := EReal)) ?_ ?_
    | refine congrArg₂ (HMul.hMul (α := EReal) (β := EReal)) ?_ ?_
    | refine congrArg₂ (ent (e := .f32) _ _) ?_ ?_
    | omega

/-- The long convolution's second block of columns. -/
theorem conv_mid (X1 : BufTy.Contents (Elt Ideal) arg1.view.ty) (X2 : BufTy.Contents (Elt Ideal) arg2.view.ty)
    (f13 : BufTy.Contents (Elt Ideal) arg13.view.ty) (k : Fin k0_t1_loop.trips) (p q : Fin 128) :
    (trip_k0_t1.sl.r_29 arg1 arg2 arg13 X1 X2 k f13 (ix2 p q) : EReal) = conv (n := 2080) (m := 32) (w := 384) 31 (arg13.view.read (Elt Ideal) (arg13.view.writes (Elt Ideal) f13 (trip_k0_t1.sl.HW_arg13_1 arg1 X1 k))) (arg2.view.read (Elt Ideal) X2) (128 * k.val + p.val + 2) (128 + q.val) := by
  have a1 := (begins k 1).2.2.1
  have a2 := (begins k 2).2.2.1
  have a3 := (begins k 3).2.2.1
  have a4 := (begins k 4).2.2.1
  have b0 := (begins k 0).2.2.2.1
  have b1 := (begins k 1).2.2.2.1
  have b2 := (begins k 2).2.2.2.1
  have b3 := (begins k 3).2.2.2.1
  norm_num at a1 a2 a3 a4 b0 b1 b2 b3
  unfold trip_k0_t1.sl.r_29 trip_k0_t1.sl.r_28 trip_k0_t1.sl.r_27 trip_k0_t1.sl.r_26 trip_k0_t1.sl.r_25 trip_k0_t1.sl.r_24 trip_k0_t1.sl.r_23 trip_k0_t1.sl.r_22 trip_k0_t1.sl.r_21 trip_k0_t1.sl.r_20 trip_k0_t1.sl.r_19 trip_k0_t1.sl.r_18 trip_k0_t1.sl.r_17 trip_k0_t1.sl.r_16 trip_k0_t1.sl.r_15 trip_k0_t1.sl.r_14 trip_k0_t1.sl.r_13
  pointwise [k0_pay22, k0_pay23, k0_pay24, k0_pay25, k0_pay26, k0_pay27, k0_pay28, k0_pay29, k0_pay30, k0_pay31, k0_pay32, k0_pay33, k0_pay34, k0_pay35, k0_pay36, k0_pay37]
  simp only [in_v384 arg1 arg13 X1 f13 k, window, a1, a2, a3, a4, b0, b1, b2, b3, Matrix.cons_val_zero, Matrix.cons_val_one, Matrix.cons_val_fin_one, Fin.val_eq_zero]
  refine Eq.trans ?_ (grouped _).symm
  unfold prod
  repeat' first
    | refine congrArg₂ (HAdd.hAdd (α := EReal) (β := EReal)) ?_ ?_
    | refine congrArg₂ (HMul.hMul (α := EReal) (β := EReal)) ?_ ?_
    | refine congrArg₂ (ent (e := .f32) _ _) ?_ ?_
    | omega

/-- The short convolution's first block of columns. -/
theorem short_lo (X1 : BufTy.Contents (Elt Ideal) arg1.view.ty) (X10 : BufTy.Contents (Elt Ideal) arg10.view.ty) (f14 : BufTy.Contents (Elt Ideal) arg14.view.ty) (k : Fin k0_t1_loop.trips) (p q : Fin 128) :
    (trip_k0_t1.sl.r_53 arg1 arg10 arg14 X1 X10 k f14 (ix2 p q) : EReal) = conv (n := 2056) (m := 8) (w := 384) 3 (arg14.view.read (Elt Ideal) (arg14.view.writes (Elt Ideal) f14 (trip_k0_t1.sl.HW_arg14_1 arg1 X1 k))) (arg10.view.read (Elt Ideal) X10) (128 * k.val + p.val + 6) (0 + q.val) := by
  have a := begins' k
  unfold trip_k0_t1.sl.r_53 trip_k0_t1.sl.r_52 trip_k0_t1.sl.r_51
  pointwise [k0_pay63, k0_pay64, k0_pay65]
  simp only [in_v1098 arg1 arg14 X1 f14 k, window, a.1, a.2.1, Matrix.cons_val_zero, Matrix.cons_val_one, Matrix.cons_val_fin_one, Fin.val_eq_zero]
  refine Eq.trans ?_ (grouped' _).symm
  unfold prod
  repeat' first
    | refine congrArg₂ (HAdd.hAdd (α := EReal) (β := EReal)) ?_ ?_
    | refine congrArg₂ (HMul.hMul (α := EReal) (β := EReal)) ?_ ?_
    | refine congrArg₂ (ent (e := .f32) _ _) ?_ ?_
    | omega

/-- The short convolution's second block of columns. -/
theorem short_mid (X1 : BufTy.Contents (Elt Ideal) arg1.view.ty) (X10 : BufTy.Contents (Elt Ideal) arg10.view.ty) (f14 : BufTy.Contents (Elt Ideal) arg14.view.ty) (k : Fin k0_t1_loop.trips) (p q : Fin 128) :
    (trip_k0_t1.sl.r_55 arg1 arg10 arg14 X1 X10 k f14 (ix2 p q) : EReal) = conv (n := 2056) (m := 8) (w := 384) 3 (arg14.view.read (Elt Ideal) (arg14.view.writes (Elt Ideal) f14 (trip_k0_t1.sl.HW_arg14_1 arg1 X1 k))) (arg10.view.read (Elt Ideal) X10) (128 * k.val + p.val + 6) (128 + q.val) := by
  have a := begins' k
  unfold trip_k0_t1.sl.r_55 trip_k0_t1.sl.r_54
  pointwise [k0_pay66, k0_pay67, k0_pay68]
  simp only [in_v1134 arg1 arg14 X1 f14 k, window, a.2.2.1, a.2.2.2.1, Matrix.cons_val_zero, Matrix.cons_val_one, Matrix.cons_val_fin_one, Fin.val_eq_zero]
  refine Eq.trans ?_ (grouped' _).symm
  unfold prod
  repeat' first
    | refine congrArg₂ (HAdd.hAdd (α := EReal) (β := EReal)) ?_ ?_
    | refine congrArg₂ (HMul.hMul (α := EReal) (β := EReal)) ?_ ?_
    | refine congrArg₂ (ent (e := .f32) _ _) ?_ ?_
    | omega

/-- The short convolution's third block of columns, times its gate. -/
theorem short_hi (X1 : BufTy.Contents (Elt Ideal) arg1.view.ty) (X10 : BufTy.Contents (Elt Ideal) arg10.view.ty) (f14 : BufTy.Contents (Elt Ideal) arg14.view.ty) (k : Fin k0_t1_loop.trips) (gate : Vec Ideal S128x384 .bf16) (p q : Fin 128) :
    (k0_pay4 (F := Ideal) (trip_k0_t1.sl.r_53 arg1 arg10 arg14 X1 X10 k f14) (trip_k0_t1.sl.r_55 arg1 arg10 arg14 X1 X10 k f14) (trip_k0_t1.sl.r_56 arg1 arg10 arg14 X1 X10 k f14) k0_pay70 (trip_k0_t1.sl.r_57 arg1 arg10 arg14 X1 X10 k f14) gate (ix2 p ⟨256 + q.val, by omega⟩) : EReal)
      = gate (ix2 p ⟨256 + q.val, by omega⟩) * conv (n := 2056) (m := 8) (w := 384) 3 (arg14.view.read (Elt Ideal) (arg14.view.writes (Elt Ideal) f14 (trip_k0_t1.sl.HW_arg14_1 arg1 X1 k))) (arg10.view.read (Elt Ideal) X10) (128 * k.val + p.val + 6) (256 + q.val) := by
  have a := begins' k
  unfold trip_k0_t1.sl.r_57 trip_k0_t1.sl.r_56
  pointwise [k0_pay4, k0_pay69, k0_pay70, k0_pay71]
  simp only [in_v1170 arg1 arg14 X1 f14 k, window, a.2.2.2.2.1, a.2.2.2.2.2, Matrix.cons_val_zero, Matrix.cons_val_one, Matrix.cons_val_fin_one, Fin.val_eq_zero]
  rw [dif_neg (by omega), dif_neg (by omega)]
  refine congrArg (HMul.hMul (α := EReal) (β := EReal) _) (Eq.trans ?_ (grouped' _).symm)
  unfold prod
  repeat' first
    | refine congrArg₂ (HAdd.hAdd (α := EReal) (β := EReal)) ?_ ?_
    | refine congrArg₂ (HMul.hMul (α := EReal) (β := EReal)) ?_ ?_
    | refine congrArg₂ (ent (e := .f32) _ _) ?_ ?_
    | omega

/-- The short convolution times its gate, at every column. -/
theorem short_all (X1 : BufTy.Contents (Elt Ideal) arg1.view.ty) (X10 : BufTy.Contents (Elt Ideal) arg10.view.ty) (f14 : BufTy.Contents (Elt Ideal) arg14.view.ty) (k : Fin k0_t1_loop.trips) (gate : Vec Ideal S128x384 .bf16) (p : Fin 128) (q : Fin 384) :
    (k0_pay4 (F := Ideal) (trip_k0_t1.sl.r_53 arg1 arg10 arg14 X1 X10 k f14) (trip_k0_t1.sl.r_55 arg1 arg10 arg14 X1 X10 k f14) (trip_k0_t1.sl.r_56 arg1 arg10 arg14 X1 X10 k f14) k0_pay70 (trip_k0_t1.sl.r_57 arg1 arg10 arg14 X1 X10 k f14) gate (ix2 p q) : EReal)
      = gate (ix2 p q) * conv (n := 2056) (m := 8) (w := 384) 3 (arg14.view.read (Elt Ideal) (arg14.view.writes (Elt Ideal) f14 (trip_k0_t1.sl.HW_arg14_1 arg1 X1 k))) (arg10.view.read (Elt Ideal) X10) (128 * k.val + p.val + 6) q.val := by
  by_cases h0 : q.val < 128
  · pointwise [k0_pay4]
    rw [dif_pos h0, short_lo arg1 arg10 arg14 X1 X10 f14 k p ⟨q.val, h0⟩, Nat.zero_add]
  by_cases h1 : q.val - 128 < 128
  · pointwise [k0_pay4]
    rw [dif_neg h0, dif_pos h1, short_mid arg1 arg10 arg14 X1 X10 f14 k p ⟨q.val - 128, h1⟩, show 128 + (q.val - 128) = q.val by omega]
  · have e : q = (⟨256 + (q.val - 256), by omega⟩ : Fin 384) := Fin.ext (by show q.val = 256 + (q.val - 256); omega)
    have hs := short_hi arg1 arg10 arg14 X1 X10 f14 k gate p ⟨q.val - 256, by omega⟩
    simp only [← e] at hs
    rw [hs, show 256 + (q.val - 256) = q.val by omega]
end Cert.MxfIdeal.Mixer
end
-- ==== Proof.Mxf.ConvAll.lean ====
module

public import proofs.«01_k».proof.Proof.Mxf.Conv
public import Idealize.ShloMosaic.Lib.Pipeline.ValueKit
public import Idealize.ShloMosaic.Lib.Pipeline.ReadBack

/-!
# The mixer's convolutions taken together
-/

@[expose] public section
set_option maxRecDepth 16384
set_option maxHeartbeats 40000000
noncomputable section
namespace Cert.MxfIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MxfIdeal.Gen

variable (𝒱 : Variants) (c : Dev nD) (bd : Option 𝒱.V) (i : grid0.Coords)
  (arg1 : Memref sig .tc .vmem S2048x2432 .bf16) (harg1 : arg1.IsWhole) (arg2 : Memref sig .tc .vmem S32x384 .f32) (harg2 : arg2.IsWhole) (arg3 :
  Memref sig .tc .vmem S1x384 .f32) (harg3 : arg3.IsWhole) (arg4 : Memref sig .tc .vmem S1x384 .f32) (harg4 : arg4.IsWhole) (arg5 : Memref sig .tc
  .vmem S1x384 .f32) (harg5 : arg5.IsWhole) (arg6 : Memref sig .tc .vmem S1x256 .f32) (harg6 : arg6.IsWhole) (arg7 : Memref sig .tc .vmem S1x256 .f32)
  (harg7 : arg7.IsWhole) (arg8 : Memref sig .tc .vmem S4x128x128 .bf16) (harg8 : arg8.IsWhole) (arg9 : Memref sig .tc .vmem S128x256 .f32) (harg9 :
  arg9.IsWhole) (arg10 : Memref sig .tc .vmem S8x384 .f32) (harg10 : arg10.IsWhole) (arg11 : Memref sig .tc .vmem S2048x1024 .bf16) (harg11 :
  arg11.IsWhole) (arg12 : Memref sig .tc .vmem S2048x384 .f32) (harg12 : arg12.IsWhole) (arg13 : Memref sig .tc .vmem S2080x384 .f32) (harg13 :
  arg13.IsWhole) (arg14 : Memref sig .tc .vmem S2056x384 .f32) (harg14 : arg14.IsWhole)

/-- The long convolution's third block of columns, as the norm's argument takes it. -/
theorem conv_hi (X1 : BufTy.Contents (Elt Ideal) arg1.view.ty) (X2 : BufTy.Contents (Elt Ideal) arg2.view.ty) (X3 : BufTy.Contents (Elt Ideal) arg3.view.ty)
    (f13 : BufTy.Contents (Elt Ideal) arg13.view.ty) (k : Fin k0_t1_loop.trips) (p q : Fin 128) :
    ((k0_pay56 (F := Ideal) (trip_k0_t1.sl.r_12 arg1 arg2 arg13 X1 X2 k f13) (trip_k0_t1.sl.r_29 arg1 arg2 arg13 X1 X2 k f13) (trip_k0_t1.sl.r_45 arg1 arg2 arg13 X1 X2 k f13) (trip_k0_t1.sl.r_46 arg1 arg2 arg13 X1 X2 k f13) (View.readAt (Elt Ideal) arg13.view (Rect.unit (s := S2080x384) (k0_off9 k 24#32) S136x128.size (k0_off9_inb k 3)).toLoadRect (arg13.view.writes (Elt Ideal) f13 (trip_k0_t1.sl.HW_arg13_1 arg1 X1 k))) (View.readAt (Elt Ideal) arg2.view (Rect.unit (s := S32x384) ![29, 256] S1x128.size inb_S32x384_S1x128_29_256).toLoadRect X2) (View.readAt (Elt Ideal) arg3.view (Rect.unit (s := S1x384) ![0, 0] S1x384.size inb_S1x384_S1x384_0_0).toLoadRect X3)) (ix2 p ⟨256 + q.val, by omega⟩) : EReal) = conv (n := 2080) (m := 32) (w := 384) 31 (arg13.view.read (Elt Ideal) (arg13.view.writes (Elt Ideal) f13 (trip_k0_t1.sl.HW_arg13_1 arg1 X1 k))) (arg2.view.read (Elt Ideal) X2) (128 * k.val + p.val + 2) (256 + q.val) + ent (e := .f32) (arg3.view.read (Elt Ideal) X3) (0 : EReal) 0 (256 + q.val) := by
  have a1 := (begins k 1).2.2.2.2.1
  have a2 := (begins k 2).2.2.2.2.1
  have a3 := (begins k 3).2.2.2.2.1
  have a4 := (begins k 4).2.2.2.2.1
  have b0 := (begins k 0).2.2.2.2.2
  have b1 := (begins k 1).2.2.2.2.2
  have b2 := (begins k 2).2.2.2.2.2
  have b3 := (begins k 3).2.2.2.2.2
  norm_num at a1 a2 a3 a4 b0 b1 b2 b3
  unfold trip_k0_t1.sl.r_46 trip_k0_t1.sl.r_45 trip_k0_t1.sl.r_44 trip_k0_t1.sl.r_43 trip_k0_t1.sl.r_42 trip_k0_t1.sl.r_41 trip_k0_t1.sl.r_40 trip_k0_t1.sl.r_39 trip_k0_t1.sl.r_38 trip_k0_t1.sl.r_37 trip_k0_t1.sl.r_36 trip_k0_t1.sl.r_35 trip_k0_t1.sl.r_34 trip_k0_t1.sl.r_33 trip_k0_t1.sl.r_32 trip_k0_t1.sl.r_31 trip_k0_t1.sl.r_30
  pointwise [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
  simp only [in_v687 arg1 arg13 X1 f13 k, window, a1, a2, a3, a4, b0, b1, b2, b3, Matrix.cons_val_zero, Matrix.cons_val_one, Matrix.cons_val_fin_one, Fin.val_eq_zero]
  rw [dif_neg (by omega), dif_neg (by omega)]
  refine congrArg₂ (HAdd.hAdd (α := EReal) (β := EReal)) (Eq.trans ?_ (grouped _).symm) (congrArg (ent (e := .f32) _ _ _) (by omega))
  unfold prod
  repeat' first
    | refine congrArg₂ (HAdd.hAdd (α := EReal) (β := EReal)) ?_ ?_
    | refine congrArg₂ (HMul.hMul (α := EReal) (β := EReal)) ?_ ?_
    | refine congrArg₂ (ent (e := .f32) _ _) ?_ ?_
    | omega

/-- The long convolution and its bias, at every column. -/
theorem conv_all  (X1 : BufTy.Contents (Elt Ideal) arg1.view.ty) (X2 : BufTy.Contents (Elt Ideal) arg2.view.ty) (X3 : BufTy.Contents (Elt Ideal) arg3.view.ty)
    (f13 : BufTy.Contents (Elt Ideal) arg13.view.ty) (k : Fin k0_t1_loop.trips) (p : Fin 128) (q : Fin 384) :
    ((k0_pay56 (F := Ideal) (trip_k0_t1.sl.r_12 arg1 arg2 arg13 X1 X2 k f13) (trip_k0_t1.sl.r_29 arg1 arg2 arg13 X1 X2 k f13) (trip_k0_t1.sl.r_45 arg1 arg2 arg13 X1 X2 k f13) (trip_k0_t1.sl.r_46 arg1 arg2 arg13 X1 X2 k f13) (View.readAt (Elt Ideal) arg13.view (Rect.unit (s := S2080x384) (k0_off9 k 24#32) S136x128.size (k0_off9_inb k 3)).toLoadRect (arg13.view.writes (Elt Ideal) f13 (trip_k0_t1.sl.HW_arg13_1 arg1 X1 k))) (View.readAt (Elt Ideal) arg2.view (Rect.unit (s := S32x384) ![29, 256] S1x128.size inb_S32x384_S1x128_29_256).toLoadRect X2) (View.readAt (Elt Ideal) arg3.view (Rect.unit (s := S1x384) ![0, 0] S1x384.size inb_S1x384_S1x384_0_0).toLoadRect X3)) (ix2 p q) : EReal)
      = conv (n := 2080) (m := 32) (w := 384) 31 (arg13.view.read (Elt Ideal) (arg13.view.writes (Elt Ideal) f13 (trip_k0_t1.sl.HW_arg13_1 arg1 X1 k))) (arg2.view.read (Elt Ideal) X2) (128 * k.val + p.val + 2) q.val + ent (e := .f32) (arg3.view.read (Elt Ideal) X3) (0 : EReal) 0 q.val := by
  by_cases h0 : q.val < 128
  · have hl := conv_lo arg1 arg2 arg13 X1 X2 f13 k p ⟨q.val, h0⟩
    pointwise [k0_pay56]
    rw [dif_pos h0, hl, Nat.zero_add]
    simp only [window, Matrix.cons_val_zero, Matrix.cons_val_one, Matrix.cons_val_fin_one, Fin.val_eq_zero, Nat.zero_add]
  by_cases h1 : q.val - 128 < 128
  · have hl := conv_mid arg1 arg2 arg13 X1 X2 f13 k p ⟨q.val - 128, h1⟩
    pointwise [k0_pay56]
    rw [dif_neg h0, dif_pos h1, hl, show 128 + (q.val - 128) = q.val by omega]
    simp only [window, Matrix.cons_val_zero, Matrix.cons_val_one, Matrix.cons_val_fin_one, Fin.val_eq_zero, Nat.zero_add]
  · have e : q = (⟨256 + (q.val - 256), by omega⟩ : Fin 384) := Fin.ext (by show q.val = 256 + (q.val - 256); omega)
    have hs := conv_hi arg1 arg2 arg3 arg13 X1 X2 X3 f13 k p ⟨q.val - 256, by omega⟩
    simp only [← e] at hs
    rw [hs, show 256 + (q.val - 256) = q.val by omega]
end Cert.MxfIdeal.Mixer
end
-- ==== Proof.Mxf.Tile.lean ====
module

public import proofs.«01_k».proof.Proof.Mxf.Spec
public import Idealize.ShloMosaic.Lib.Pipeline.ValueKit
public import Idealize.ShloMosaic.Lib.Pipeline.ReadBack

/-!
# The mixer's norms, gates and chunk product on one chunk
-/

@[expose] public section
set_option maxRecDepth 16384
set_option maxHeartbeats 40000000
noncomputable section
namespace Cert.MxfIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MxfIdeal.Gen

theorem gs_tile (u v : Vec Ideal S128x384 .bf16) (p : Fin 128) (q : Fin 384) : k0_pay5 (F := Ideal) u v (ix2 p q) = (u (ix2 p q) : EReal) * Ideal.logistic (v (ix2 p q)) := by
  pointwise [k0_pay5]

theorem ccs_tile (u v : Vec Ideal S128x384 .bf16) (p : Fin 128) (q : Fin 384) : k0_pay62 (F := Ideal) u v (ix2 p q) = (u (ix2 p q) : EReal) * v (ix2 p q) := by
  pointwise [k0_pay62]

theorem ao_tile (v351 v654 v918 : FVec Ideal S128x128 .f32) (v946 : FVec Ideal S136x128 .f32) (v950 : Vec Ideal S136x128 .f32) (v951 : Vec Ideal S1x128 .f32) (v959 g h : Vec Ideal S1x384 .f32)
    (C : Fin 128 → Fin 384 → EReal) (hC : ∀ p q, k0_pay56 (F := Ideal) v351 v654 v918 v946 v950 v951 v959 (ix2 p q) = C p q) (p : Fin 128) (q : Fin 384) :
    k0_pay57 (F := Ideal) v351 v654 v918 v946 v950 v951 v959 g h (ix2 p q)
      = (normed len384 (C p) q * g (ix2 0 q) + h (ix2 0 q)) * Ideal.logistic (normed len384 (C p) q * g (ix2 0 q) + h (ix2 0 q)) := by
  pointwise [k0_pay57, hC, normed, mean]

theorem u_tile (x : Vec Ideal S128x256 .bf16) (p : Fin 128) (q : Fin 256) : k0_pay58 (F := Ideal) x (ix2 p q) = gelu (x (ix2 p q)) := by
  pointwise [k0_pay58, gelu]
  rfl

theorem vn_tile (x : Vec Ideal S128x256 .bf16) (g : Vec Ideal S1x256 .f32) (p : Fin 128) (q : Fin 256) :
    k0_pay59 (F := Ideal) x g (ix2 p q) = normed len256 (fun k => gelu (x (ix2 p k))) q * g (ix2 0 q) := by
  pointwise [k0_pay59, normed, mean, gelu]
  rfl

theorem head_tile : ∀ q : Fin 256, k0_pay3 (ix2 0 q) = BitVec.ofNat 32 (q.val / 64) := by decide +kernel

theorem mixed_tile (n : FVec Ideal S128x256 .f32) (b : Vec Ideal S1x256 .f32) (w0 w1 w2 w3 : Vec Ideal S1x128x128 .bf16) (W : ℕ → ℕ → ℕ → EReal)
    (h0 : ∀ p s, w0 (ix3 0 p s) = W 0 p.val s.val) (h1 : ∀ p s, w1 (ix3 0 p s) = W 1 p.val s.val) (h2 : ∀ p s, w2 (ix3 0 p s) = W 2 p.val s.val)
    (h3 : ∀ p s, w3 (ix3 0 p s) = W 3 p.val s.val) (p : Fin 128) (q : Fin 256) :
    k0_pay60 (F := Ideal) k0_pay3 n b w0 w1 w2 w3 (ix2 p q) = ∑ s : Fin 128, W (q.val / 64) p.val s.val * (n (ix2 s q) + b (ix2 0 q)) := by
  pointwise [k0_pay60, head_tile]
  simp only [h0, h1, h2, h3]
  have hq : q.val / 64 = 0 ∨ q.val / 64 = 1 ∨ q.val / 64 = 2 ∨ q.val / 64 = 3 := by omega
  rcases hq with h | h | h | h <;> rw [h] <;> rfl

theorem bo_tile (u m : FVec Ideal S128x256 .f32) (b : Vec Ideal S128x256 .f32) (p : Fin 128) (q : Fin 256) :
    k0_pay61 (F := Ideal) u m b (ix2 p q) = u (ix2 p q) * (m (ix2 p q) + b (ix2 p q)) := by
  pointwise [k0_pay61]

end Cert.MxfIdeal.Mixer
end
-- ==== Proof.Mxf.Trip.lean ====
module

public import proofs.«01_k».proof.Proof.Mxf.ConvAll
public import proofs.«01_k».proof.Proof.Mxf.Tile
public import proofs.«01_k».proof.Proof.Mxf.Body
public import Idealize.ShloMosaic.Lib.WritesUnit
public import Idealize.ShloMosaic.Lib.Pipeline.ValueKit
public import Idealize.ShloMosaic.Lib.Pipeline.ReadBack

/-!
# What one chunk leaves
-/

@[expose] public section
set_option maxRecDepth 16384
set_option maxHeartbeats 40000000
noncomputable section
namespace Cert.MxfIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MxfIdeal.Gen

/-- An entry of a block of matrices. -/
def entW (x : Vec Ideal S4x128x128 .bf16) (h p s : ℕ) : EReal := if b : h < 4 ∧ p < 128 ∧ s < 128 then x (ix3 ⟨h, b.1⟩ ⟨p, b.2.1⟩ ⟨s, b.2.2⟩) else 0

/-- The arguments a sequence's blocks hold. -/
def argsOf
  (x1 : Vec Ideal S2048x2432 .bf16) (x2 : Vec Ideal S32x384 .f32) (x3 : Vec Ideal S1x384 .f32) (x4 : Vec Ideal S1x384 .f32) (x5 : Vec Ideal S1x384 .f32)
  (x6 : Vec Ideal S1x256 .f32) (x7 : Vec Ideal S1x256 .f32) (x8 : Vec Ideal S4x128x128 .bf16) (x9 : Vec Ideal S128x256 .f32) (x10 : Vec Ideal S8x384 .f32) : Args where
  x := ent (e := .bf16) x1 (0 : EReal)
  wA := ent (e := .f32) x2 (0 : EReal)
  bA := ent (e := .f32) x3 (0 : EReal) 0
  gA := ent (e := .f32) x4 (0 : EReal) 0
  hA := ent (e := .f32) x5 (0 : EReal) 0
  gV := ent (e := .f32) x6 (0 : EReal) 0
  hV := ent (e := .f32) x7 (0 : EReal) 0
  wS := entW x8
  bS := ent (e := .f32) x9 (0 : EReal)
  wC := ent (e := .f32) x10 (0 : EReal)

/-- What holds after `n` chunks: the scratch rows and the results' rows so far. -/
structure Done (a : Args) (n : ℕ) (d11 : Vec Ideal S2048x1024 .bf16) (d12 : Vec Ideal S2048x384 .f32) (d13 : Vec Ideal S2080x384 .f32) (d14 : Vec Ideal S2056x384 .f32) : Prop where
  h13 : ∀ (r : Fin 2080) (q : Fin 384), r.val < 128 * n + 32 → d13 (ix2 r q) = a.gs r.val q.val
  h14 : ∀ (r : Fin 2056) (q : Fin 384), r.val < 128 * n + 8 → d14 (ix2 r q) = a.ccs r.val q.val
  h11 : ∀ (r : Fin 2048) (q : Fin 1024), r.val < 128 * n → d11 (ix2 r q) = a.cat (r.val / 128) (r.val % 128) q.val
  h12 : ∀ (r : Fin 2048) (q : Fin 384), r.val < 128 * n → d12 (ix2 r q) = a.ca r.val q.val

theorem windowB {n m a b : ℕ} {sp : Space} (M : Memref sig .tc sp ⟨2, ![n, m]⟩ .bf16) (f : BufTy.Contents (Elt Ideal) M.view.ty) (off : Fin 2 → ℕ)
    (inb : ∀ x, off x + (![a, b] : Fin 2 → ℕ) x ≤ (![n, m] : Fin 2 → ℕ) x) (p : Fin a) (q : Fin b) :
    (M.view.readAt (Elt Ideal) (Rect.unit (s := ⟨2, ![n, m]⟩) off ![a, b] inb).toLoadRect f (ix2 p q) : EReal) = ent (e := .bf16) (M.view.read (Elt Ideal) f) (0 : EReal) (off 0 + p.val) (off 1 + q.val) := by
  have h0 : off 0 + p.val < n := lt_of_lt_of_le (Nat.add_lt_add_left p.isLt _) (inb 0)
  have h1 : off 1 + q.val < m := lt_of_lt_of_le (Nat.add_lt_add_left q.isLt _) (inb 1)
  rw [ent, dif_pos ⟨h0, h1⟩]
  show M.view.read (Elt Ideal) f _ = M.view.read (Elt Ideal) f _
  congr 1
  funext x
  fin_cases x <;> exact Fin.ext (by show off _ + 1 * _ = _; rw [Nat.one_mul]; rfl)

theorem window3 {sp : Space} (M : Memref sig .tc sp S4x128x128 .bf16) (f : BufTy.Contents (Elt Ideal) M.view.ty) (h : ℕ) (hh : h < 4)
    (inb : ∀ x, (![h, 0, 0] : Fin 3 → ℕ) x + (![1, 128, 128] : Fin 3 → ℕ) x ≤ (![4, 128, 128] : Fin 3 → ℕ) x) (p s : Fin 128) :
    (M.view.readAt (Elt Ideal) (Rect.unit (s := S4x128x128) ![h, 0, 0] ![1, 128, 128] inb).toLoadRect f (ix3 0 p s) : EReal) = entW (M.view.read (Elt Ideal) f) h p.val s.val := by
  rw [entW, dif_pos ⟨hh, p.isLt, s.isLt⟩]
  show M.view.read (Elt Ideal) f _ = M.view.read (Elt Ideal) f _
  congr 1
  funext x
  fin_cases x
  · exact Fin.ext (show h + 1 * 0 = h by omega)
  · exact Fin.ext (show 0 + 1 * p.val = p.val by omega)
  · exact Fin.ext (show 0 + 1 * s.val = s.val by omega)

/-- Where a chunk's loads and stores begin. -/
theorem starts : ∀ k : Fin k0_t1_loop.trips, k0_off1 k = ![128 * k.val, 0] ∧ k0_off2 k = ![128 * k.val, 384] ∧ k0_off12 k = ![128 * k.val, 768] ∧ k0_off13 k = ![128 * k.val, 1024]
    ∧ k0_off15 k = ![128 * k.val, 1664] ∧ k0_off16 k = ![128 * k.val, 2048] ∧ k0_off24 k = ![128 * k.val, 1280] := by decide +kernel
theorem stores : ∀ k : Fin k0_t1_loop.trips, k0_off3 k = ![128 * k.val + 32, 0] ∧ k0_off17 k = ![128 * k.val + 8, 0] ∧ k0_off10 k = ![128 * k.val, 0] ∧ k0_off11 k = ![128 * k.val, 0]
    ∧ k0_off14 k = ![128 * k.val, 384] ∧ k0_off25 k = ![128 * k.val, 640] := by decide +kernel
theorem trip_lt (k : Fin k0_t1_loop.trips) : k.val < 16 := lt_of_lt_of_eq k.isLt (by decide +kernel)

variable (𝒱 : Variants) (c : Dev nD) (bd : Option 𝒱.V) (i : grid0.Coords)
  (arg1 : Memref sig .tc .vmem S2048x2432 .bf16) (harg1 : arg1.IsWhole) (arg2 : Memref sig .tc .vmem S32x384 .f32) (harg2 : arg2.IsWhole) (arg3 :
  Memref sig .tc .vmem S1x384 .f32) (harg3 : arg3.IsWhole) (arg4 : Memref sig .tc .vmem S1x384 .f32) (harg4 : arg4.IsWhole) (arg5 : Memref sig .tc
  .vmem S1x384 .f32) (harg5 : arg5.IsWhole) (arg6 : Memref sig .tc .vmem S1x256 .f32) (harg6 : arg6.IsWhole) (arg7 : Memref sig .tc .vmem S1x256 .f32)
  (harg7 : arg7.IsWhole) (arg8 : Memref sig .tc .vmem S4x128x128 .bf16) (harg8 : arg8.IsWhole) (arg9 : Memref sig .tc .vmem S128x256 .f32) (harg9 :
  arg9.IsWhole) (arg10 : Memref sig .tc .vmem S8x384 .f32) (harg10 : arg10.IsWhole) (arg11 : Memref sig .tc .vmem S2048x1024 .bf16) (harg11 :
  arg11.IsWhole) (arg12 : Memref sig .tc .vmem S2048x384 .f32) (harg12 : arg12.IsWhole) (arg13 : Memref sig .tc .vmem S2080x384 .f32) (harg13 :
  arg13.IsWhole) (arg14 : Memref sig .tc .vmem S2056x384 .f32) (harg14 : arg14.IsWhole)

  (X1 : BufTy.Contents (Elt Ideal) arg1.view.ty) (X2 : BufTy.Contents (Elt Ideal) arg2.view.ty) (X3 : BufTy.Contents (Elt Ideal) arg3.view.ty) (X4 :
  BufTy.Contents (Elt Ideal) arg4.view.ty) (X5 : BufTy.Contents (Elt Ideal) arg5.view.ty) (X6 : BufTy.Contents (Elt Ideal) arg6.view.ty) (X7 :
  BufTy.Contents (Elt Ideal) arg7.view.ty) (X8 : BufTy.Contents (Elt Ideal) arg8.view.ty) (X9 : BufTy.Contents (Elt Ideal) arg9.view.ty) (X10 :
  BufTy.Contents (Elt Ideal) arg10.view.ty)
  (G11 : BufTy.Contents (Elt Ideal) arg11.view.ty) (G12 : BufTy.Contents (Elt Ideal) arg12.view.ty) (G13 : BufTy.Contents (Elt Ideal) arg13.view.ty) (G14 : BufTy.Contents (Elt Ideal) arg14.view.ty) (k : Fin k0_t1_loop.trips)

/-- The pieces one chunk writes. -/
theorem trip_pieces : tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 k G11 G12 G13 G14
    = ([⟨Rect.unit (s := S2048x1024) (k0_off25 k) S128x384.size (k0_off25_inb k), k0_pay4 (F := Ideal) (trip_k0_t1.sl.r_53 arg1 arg10 arg14 X1 X10 k G14) (trip_k0_t1.sl.r_55 arg1 arg10 arg14 X1 X10 k G14) (trip_k0_t1.sl.r_56 arg1 arg10 arg14 X1 X10 k G14) k0_pay70 (trip_k0_t1.sl.r_57 arg1 arg10 arg14 X1 X10 k G14) (View.readAt (Elt Ideal) arg1.view (Rect.unit (s := S2048x2432) (k0_off24 k) S128x384.size (k0_off24_inb k)).toLoadRect X1)⟩, ⟨Rect.unit (s := S2048x1024) (k0_off14 k) S128x256.size (k0_off14_inb k), k0_pay61 (F := Ideal) (trip_k0_t1.sl.r_48 arg1 X1 k) (trip_k0_t1.sl.r_50 arg1 arg6 arg7 arg8 X1 X6 X7 X8 k) (View.readAt (Elt Ideal) arg9.view (Rect.unit (s := S128x256) ![0, 0] S128x256.size inb_S128x256_S128x256_0_0).toLoadRect X9)⟩, ⟨Rect.unit (s := S2048x1024) (k0_off11 k) S128x384.size (k0_off11_inb k), k0_pay57 (F := Ideal) (trip_k0_t1.sl.r_12 arg1 arg2 arg13 X1 X2 k G13) (trip_k0_t1.sl.r_29 arg1 arg2 arg13 X1 X2 k G13) (trip_k0_t1.sl.r_45 arg1 arg2 arg13 X1 X2 k G13) (trip_k0_t1.sl.r_46 arg1 arg2 arg13 X1 X2 k G13) (View.readAt (Elt Ideal) arg13.view (Rect.unit (s := S2080x384) (k0_off9 k 24#32) S136x128.size (k0_off9_inb k 3)).toLoadRect (arg13.view.writes (Elt Ideal) G13 (trip_k0_t1.sl.HW_arg13_1 arg1 X1 k))) (View.readAt (Elt Ideal) arg2.view (Rect.unit (s := S32x384) ![29, 256] S1x128.size inb_S32x384_S1x128_29_256).toLoadRect X2) (View.readAt (Elt Ideal) arg3.view (Rect.unit (s := S1x384) ![0, 0] S1x384.size inb_S1x384_S1x384_0_0).toLoadRect X3) (View.readAt (Elt Ideal) arg4.view (Rect.unit (s := S1x384) ![0, 0] S1x384.size inb_S1x384_S1x384_0_0).toLoadRect X4) (View.readAt (Elt Ideal) arg5.view (Rect.unit (s := S1x384) ![0, 0] S1x384.size inb_S1x384_S1x384_0_0).toLoadRect X5)⟩],
      [⟨Rect.unit (s := S2048x384) (k0_off10 k) S128x384.size (k0_off10_inb k), k0_pay56 (F := Ideal) (trip_k0_t1.sl.r_12 arg1 arg2 arg13 X1 X2 k G13) (trip_k0_t1.sl.r_29 arg1 arg2 arg13 X1 X2 k G13) (trip_k0_t1.sl.r_45 arg1 arg2 arg13 X1 X2 k G13) (trip_k0_t1.sl.r_46 arg1 arg2 arg13 X1 X2 k G13) (View.readAt (Elt Ideal) arg13.view (Rect.unit (s := S2080x384) (k0_off9 k 24#32) S136x128.size (k0_off9_inb k 3)).toLoadRect (arg13.view.writes (Elt Ideal) G13 (trip_k0_t1.sl.HW_arg13_1 arg1 X1 k))) (View.readAt (Elt Ideal) arg2.view (Rect.unit (s := S32x384) ![29, 256] S1x128.size inb_S32x384_S1x128_29_256).toLoadRect X2) (View.readAt (Elt Ideal) arg3.view (Rect.unit (s := S1x384) ![0, 0] S1x384.size inb_S1x384_S1x384_0_0).toLoadRect X3)⟩], (trip_k0_t1.sl.HW_arg13_1 arg1 X1 k), (trip_k0_t1.sl.HW_arg14_1 arg1 X1 k)) := by
  unfold tripL_k0_t1 trip_k0_t1
  rfl

/-- The gated rows join the scratch of the long convolution. -/
theorem grow13 (h : ∀ (r : Fin 2080) (q : Fin 384), r.val < 128 * k.val + 32 → arg13.view.read (Elt Ideal) G13 (ix2 r q) = (argsOf (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)).gs r.val q.val)
    (r : Fin 2080) (q : Fin 384) (hr : r.val < 128 * (k.val + 1) + 32) : (arg13.view.read (Elt Ideal) (arg13.view.writes (Elt Ideal) G13 (trip_k0_t1.sl.HW_arg13_1 arg1 X1 k))) (ix2 r q) = (argsOf (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)).gs r.val q.val := by
  unfold trip_k0_t1.sl.HW_arg13_1
  by_cases hl : r.val < 128 * k.val + 32
  · exact (View.read_writes_cons_rows_of_not_mem _ _ _ _ _ (ix2 r q) (stores k).1 rfl (Or.inl hl)).trans (h r q hl)
  · refine (View.read_writes_cons_rows_of_mem (size := S128x384.size) _ _ _ _ _ (ix2 r q) (ix2 ⟨r.val - (128 * k.val + 32), by omega⟩ q) (stores k).1 (show r.val = 128 * k.val + 32 + (r.val - (128 * k.val + 32)) by omega) rfl).trans ?_
    refine (gs_tile _ _ _ q).trans ?_
    simp only [windowB, (starts k).1, (starts k).2.1, Matrix.cons_val_zero, Matrix.cons_val_one, Matrix.cons_val_fin_one, Nat.zero_add]
    rw [Args.gs, if_neg (by omega), show r.val - 32 = 128 * k.val + (r.val - (128 * k.val + 32)) by omega]
    rfl

/-- The products join the scratch of the short convolution. -/
theorem grow14 (h : ∀ (r : Fin 2056) (q : Fin 384), r.val < 128 * k.val + 8 → arg14.view.read (Elt Ideal) G14 (ix2 r q) = (argsOf (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)).ccs r.val q.val)
    (r : Fin 2056) (q : Fin 384) (hr : r.val < 128 * (k.val + 1) + 8) : (arg14.view.read (Elt Ideal) (arg14.view.writes (Elt Ideal) G14 (trip_k0_t1.sl.HW_arg14_1 arg1 X1 k))) (ix2 r q) = (argsOf (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)).ccs r.val q.val := by
  unfold trip_k0_t1.sl.HW_arg14_1
  by_cases hl : r.val < 128 * k.val + 8
  · exact (View.read_writes_cons_rows_of_not_mem _ _ _ _ _ (ix2 r q) (stores k).2.1 rfl (Or.inl hl)).trans (h r q hl)
  · refine (View.read_writes_cons_rows_of_mem (size := S128x384.size) _ _ _ _ _ (ix2 r q) (ix2 ⟨r.val - (128 * k.val + 8), by omega⟩ q) (stores k).2.1 (show r.val = 128 * k.val + 8 + (r.val - (128 * k.val + 8)) by omega) rfl).trans ?_
    refine (ccs_tile _ _ _ q).trans ?_
    simp only [windowB, (starts k).2.2.2.2.1, (starts k).2.2.2.2.2.1, Matrix.cons_val_zero, Matrix.cons_val_one, Matrix.cons_val_fin_one]
    rw [Args.ccs, if_neg (by omega), show r.val - 8 = 128 * k.val + (r.val - (128 * k.val + 8)) by omega]
    rfl

section long
variable (h : ∀ (r : Fin 2080) (q : Fin 384), r.val < 128 * (k.val + 1) + 32 → (arg13.view.read (Elt Ideal) (arg13.view.writes (Elt Ideal) G13 (trip_k0_t1.sl.HW_arg13_1 arg1 X1 k))) (ix2 r q) = (argsOf (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)).gs r.val q.val)
include h

/-- The long convolution of the chunk's rows. -/
theorem ca_pt (p : Fin 128) (q : Fin 384) : k0_pay56 (F := Ideal) (trip_k0_t1.sl.r_12 arg1 arg2 arg13 X1 X2 k G13) (trip_k0_t1.sl.r_29 arg1 arg2 arg13 X1 X2 k G13) (trip_k0_t1.sl.r_45 arg1 arg2 arg13 X1 X2 k G13) (trip_k0_t1.sl.r_46 arg1 arg2 arg13 X1 X2 k G13) (View.readAt (Elt Ideal) arg13.view (Rect.unit (s := S2080x384) (k0_off9 k 24#32) S136x128.size (k0_off9_inb k 3)).toLoadRect (arg13.view.writes (Elt Ideal) G13 (trip_k0_t1.sl.HW_arg13_1 arg1 X1 k))) (View.readAt (Elt Ideal) arg2.view (Rect.unit (s := S32x384) ![29, 256] S1x128.size inb_S32x384_S1x128_29_256).toLoadRect X2) (View.readAt (Elt Ideal) arg3.view (Rect.unit (s := S1x384) ![0, 0] S1x384.size inb_S1x384_S1x384_0_0).toLoadRect X3) (ix2 p q) = (argsOf (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)).ca (128 * k.val + p.val) q.val := by
  have hk := trip_lt k
  refine (conv_all arg1 arg2 arg3 arg13 X1 X2 X3 G13 k p q).trans ?_
  refine congrArg₂ (HAdd.hAdd (α := EReal) (β := EReal)) (Finset.sum_congr rfl fun t ht => ?_) rfl
  have h31 := Finset.mem_range.mp ht
  refine congrArg₂ (HMul.hMul (α := EReal) (β := EReal)) ?_ rfl
  rw [ent, dif_pos ⟨by omega, q.isLt⟩]
  exact h ⟨128 * k.val + p.val + 2 + t, by omega⟩ q (by show 128 * k.val + p.val + 2 + t < _; omega)

/-- The first columns of the chunk's rows. -/
theorem ao_pt (p : Fin 128) (q : Fin 384) : k0_pay57 (F := Ideal) (trip_k0_t1.sl.r_12 arg1 arg2 arg13 X1 X2 k G13) (trip_k0_t1.sl.r_29 arg1 arg2 arg13 X1 X2 k G13) (trip_k0_t1.sl.r_45 arg1 arg2 arg13 X1 X2 k G13) (trip_k0_t1.sl.r_46 arg1 arg2 arg13 X1 X2 k G13) (View.readAt (Elt Ideal) arg13.view (Rect.unit (s := S2080x384) (k0_off9 k 24#32) S136x128.size (k0_off9_inb k 3)).toLoadRect (arg13.view.writes (Elt Ideal) G13 (trip_k0_t1.sl.HW_arg13_1 arg1 X1 k))) (View.readAt (Elt Ideal) arg2.view (Rect.unit (s := S32x384) ![29, 256] S1x128.size inb_S32x384_S1x128_29_256).toLoadRect X2) (View.readAt (Elt Ideal) arg3.view (Rect.unit (s := S1x384) ![0, 0] S1x384.size inb_S1x384_S1x384_0_0).toLoadRect X3) (View.readAt (Elt Ideal) arg4.view (Rect.unit (s := S1x384) ![0, 0] S1x384.size inb_S1x384_S1x384_0_0).toLoadRect X4) (View.readAt (Elt Ideal) arg5.view (Rect.unit (s := S1x384) ![0, 0] S1x384.size inb_S1x384_S1x384_0_0).toLoadRect X5) (ix2 p q) = (argsOf (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)).ao (128 * k.val + p.val) q := by
  refine (ao_tile _ _ _ _ _ _ _ _ _ (fun p q => (argsOf (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)).ca (128 * k.val + p.val) q.val) (ca_pt (arg1 := arg1) (h := h)) p q).trans ?_
  simp only [window, Matrix.cons_val_zero, Matrix.cons_val_one, Matrix.cons_val_fin_one, Fin.val_eq_zero, Nat.zero_add]
  rfl
end long

/-- The middle columns of the chunk's rows. -/
theorem bo_pt (p : Fin 128) (q : Fin 256) : k0_pay61 (F := Ideal) (trip_k0_t1.sl.r_48 arg1 X1 k) (trip_k0_t1.sl.r_50 arg1 arg6 arg7 arg8 X1 X6 X7 X8 k) (View.readAt (Elt Ideal) arg9.view (Rect.unit (s := S128x256) ![0, 0] S128x256.size inb_S128x256_S128x256_0_0).toLoadRect X9) (ix2 p q) = (argsOf (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)).bo k.val p.val q := by
  refine (bo_tile _ _ _ p q).trans ?_
  unfold trip_k0_t1.sl.r_48 trip_k0_t1.sl.r_50 trip_k0_t1.sl.r_49
  rw [u_tile, mixed_tile _ _ _ _ _ _ (entW (arg8.view.read (Elt Ideal) X8)) (window3 arg8 X8 0 (by decide) _) (window3 arg8 X8 1 (by decide) _) (window3 arg8 X8 2 (by decide) _) (window3 arg8 X8 3 (by decide) _)]
  simp only [vn_tile, window, windowB, (starts k).2.2.1, (starts k).2.2.2.1, Matrix.cons_val_zero, Matrix.cons_val_one, Matrix.cons_val_fin_one, Fin.val_eq_zero, Nat.zero_add]
  rfl

/-- The last columns of the chunk's rows. -/
theorem co_pt (h : ∀ (r : Fin 2056) (q : Fin 384), r.val < 128 * (k.val + 1) + 8 → (arg14.view.read (Elt Ideal) (arg14.view.writes (Elt Ideal) G14 (trip_k0_t1.sl.HW_arg14_1 arg1 X1 k))) (ix2 r q) = (argsOf (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)).ccs r.val q.val)
    (p : Fin 128) (q : Fin 384) : k0_pay4 (F := Ideal) (trip_k0_t1.sl.r_53 arg1 arg10 arg14 X1 X10 k G14) (trip_k0_t1.sl.r_55 arg1 arg10 arg14 X1 X10 k G14) (trip_k0_t1.sl.r_56 arg1 arg10 arg14 X1 X10 k G14) k0_pay70 (trip_k0_t1.sl.r_57 arg1 arg10 arg14 X1 X10 k G14) (View.readAt (Elt Ideal) arg1.view (Rect.unit (s := S2048x2432) (k0_off24 k) S128x384.size (k0_off24_inb k)).toLoadRect X1) (ix2 p q) = (argsOf (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)).co (128 * k.val + p.val) q.val := by
  have hk := trip_lt k
  refine (short_all arg1 arg10 arg14 X1 X10 G14 k _ p q).trans ?_
  simp only [windowB, (starts k).2.2.2.2.2.2, Matrix.cons_val_zero, Matrix.cons_val_one, Matrix.cons_val_fin_one]
  refine congrArg₂ (HMul.hMul (α := EReal) (β := EReal)) rfl (Finset.sum_congr rfl fun t ht => ?_)
  have h3 := Finset.mem_range.mp ht
  refine congrArg₂ (HMul.hMul (α := EReal) (β := EReal)) ?_ rfl
  rw [ent, dif_pos ⟨by omega, q.isLt⟩]
  exact h ⟨128 * k.val + p.val + 6 + t, by omega⟩ q (by show 128 * k.val + p.val + 6 + t < _; omega)

end Cert.MxfIdeal.Mixer
end
-- ==== Proof.Mxf.Chunks.lean ====
module

public import proofs.«01_k».proof.Proof.Mxf.Trip
public import proofs.«01_k».proof.Proof.Mxf.Owned
public import Idealize.ShloMosaic.Lib.Pipeline.ValueKit
public import Idealize.ShloMosaic.Lib.Pipeline.ReadBack

/-!
# What the sixteen chunks leave
-/

@[expose] public section
set_option maxRecDepth 16384
set_option maxHeartbeats 40000000
noncomputable section
namespace Cert.MxfIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MxfIdeal.Gen

variable (𝒱 : Variants) (c : Dev nD) (bd : Option 𝒱.V) (i : grid0.Coords)
  (arg1 : Memref sig .tc .vmem S2048x2432 .bf16) (harg1 : arg1.IsWhole) (arg2 : Memref sig .tc .vmem S32x384 .f32) (harg2 : arg2.IsWhole) (arg3 :
  Memref sig .tc .vmem S1x384 .f32) (harg3 : arg3.IsWhole) (arg4 : Memref sig .tc .vmem S1x384 .f32) (harg4 : arg4.IsWhole) (arg5 : Memref sig .tc
  .vmem S1x384 .f32) (harg5 : arg5.IsWhole) (arg6 : Memref sig .tc .vmem S1x256 .f32) (harg6 : arg6.IsWhole) (arg7 : Memref sig .tc .vmem S1x256 .f32)
  (harg7 : arg7.IsWhole) (arg8 : Memref sig .tc .vmem S4x128x128 .bf16) (harg8 : arg8.IsWhole) (arg9 : Memref sig .tc .vmem S128x256 .f32) (harg9 :
  arg9.IsWhole) (arg10 : Memref sig .tc .vmem S8x384 .f32) (harg10 : arg10.IsWhole) (arg11 : Memref sig .tc .vmem S2048x1024 .bf16) (harg11 :
  arg11.IsWhole) (arg12 : Memref sig .tc .vmem S2048x384 .f32) (harg12 : arg12.IsWhole) (arg13 : Memref sig .tc .vmem S2080x384 .f32) (harg13 :
  arg13.IsWhole) (arg14 : Memref sig .tc .vmem S2056x384 .f32) (harg14 : arg14.IsWhole)

  (X1 : BufTy.Contents (Elt Ideal) arg1.view.ty) (X2 : BufTy.Contents (Elt Ideal) arg2.view.ty) (X3 : BufTy.Contents (Elt Ideal) arg3.view.ty) (X4 :
  BufTy.Contents (Elt Ideal) arg4.view.ty) (X5 : BufTy.Contents (Elt Ideal) arg5.view.ty) (X6 : BufTy.Contents (Elt Ideal) arg6.view.ty) (X7 :
  BufTy.Contents (Elt Ideal) arg7.view.ty) (X8 : BufTy.Contents (Elt Ideal) arg8.view.ty) (X9 : BufTy.Contents (Elt Ideal) arg9.view.ty) (X10 :
  BufTy.Contents (Elt Ideal) arg10.view.ty)

section step
variable (G11 : BufTy.Contents (Elt Ideal) arg11.view.ty) (G12 : BufTy.Contents (Elt Ideal) arg12.view.ty) (G13 : BufTy.Contents (Elt Ideal) arg13.view.ty) (G14 : BufTy.Contents (Elt Ideal) arg14.view.ty) (k : Fin k0_t1_loop.trips)
  (hd : Done (argsOf (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)) k.val (arg11.view.read (Elt Ideal) G11) (arg12.view.read (Elt Ideal) G12) (arg13.view.read (Elt Ideal) G13) (arg14.view.read (Elt Ideal) G14))
include hd

theorem grow12 (r : Fin 2048) (q : Fin 384) (hr : r.val < 128 * (k.val + 1)) : (arg12.view.read (Elt Ideal) (arg12.view.writes (Elt Ideal) G12 [⟨Rect.unit (s := S2048x384) (k0_off10 k) S128x384.size (k0_off10_inb k), k0_pay56 (F := Ideal) (trip_k0_t1.sl.r_12 arg1 arg2 arg13 X1 X2 k G13) (trip_k0_t1.sl.r_29 arg1 arg2 arg13 X1 X2 k G13) (trip_k0_t1.sl.r_45 arg1 arg2 arg13 X1 X2 k G13) (trip_k0_t1.sl.r_46 arg1 arg2 arg13 X1 X2 k G13) (View.readAt (Elt Ideal) arg13.view (Rect.unit (s := S2080x384) (k0_off9 k 24#32) S136x128.size (k0_off9_inb k 3)).toLoadRect (arg13.view.writes (Elt Ideal) G13 (trip_k0_t1.sl.HW_arg13_1 arg1 X1 k))) (View.readAt (Elt Ideal) arg2.view (Rect.unit (s := S32x384) ![29, 256] S1x128.size inb_S32x384_S1x128_29_256).toLoadRect X2) (View.readAt (Elt Ideal) arg3.view (Rect.unit (s := S1x384) ![0, 0] S1x384.size inb_S1x384_S1x384_0_0).toLoadRect X3)⟩])) (ix2 r q) = (argsOf (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)).ca r.val q.val := by
  by_cases hl : r.val < 128 * k.val
  · exact (View.read_writes_cons_rows_of_not_mem _ _ _ _ _ (ix2 r q) (stores k).2.2.1 rfl (Or.inl hl)).trans (hd.h12 r q hl)
  · refine (View.read_writes_cons_rows_of_mem (size := S128x384.size) _ _ _ _ _ (ix2 r q) (ix2 ⟨r.val - 128 * k.val, by omega⟩ q) (stores k).2.2.1 (show r.val = 128 * k.val + (r.val - 128 * k.val) by omega) rfl).trans ?_
    refine (ca_pt (h := grow13 (k := k) (h := hd.h13)) (p := _) (q := q)).trans ?_
    show Args.ca _ (128 * k.val + (r.val - 128 * k.val)) q.val = _
    rw [show 128 * k.val + (r.val - 128 * k.val) = r.val by omega]

theorem grow11 (r : Fin 2048) (q : Fin 1024) (hr : r.val < 128 * (k.val + 1)) : (arg11.view.read (Elt Ideal) (arg11.view.writes (Elt Ideal) G11 [⟨Rect.unit (s := S2048x1024) (k0_off25 k) S128x384.size (k0_off25_inb k), k0_pay4 (F := Ideal) (trip_k0_t1.sl.r_53 arg1 arg10 arg14 X1 X10 k G14) (trip_k0_t1.sl.r_55 arg1 arg10 arg14 X1 X10 k G14) (trip_k0_t1.sl.r_56 arg1 arg10 arg14 X1 X10 k G14) k0_pay70 (trip_k0_t1.sl.r_57 arg1 arg10 arg14 X1 X10 k G14) (View.readAt (Elt Ideal) arg1.view (Rect.unit (s := S2048x2432) (k0_off24 k) S128x384.size (k0_off24_inb k)).toLoadRect X1)⟩, ⟨Rect.unit (s := S2048x1024) (k0_off14 k) S128x256.size (k0_off14_inb k), k0_pay61 (F := Ideal) (trip_k0_t1.sl.r_48 arg1 X1 k) (trip_k0_t1.sl.r_50 arg1 arg6 arg7 arg8 X1 X6 X7 X8 k) (View.readAt (Elt Ideal) arg9.view (Rect.unit (s := S128x256) ![0, 0] S128x256.size inb_S128x256_S128x256_0_0).toLoadRect X9)⟩, ⟨Rect.unit (s := S2048x1024) (k0_off11 k) S128x384.size (k0_off11_inb k), k0_pay57 (F := Ideal) (trip_k0_t1.sl.r_12 arg1 arg2 arg13 X1 X2 k G13) (trip_k0_t1.sl.r_29 arg1 arg2 arg13 X1 X2 k G13) (trip_k0_t1.sl.r_45 arg1 arg2 arg13 X1 X2 k G13) (trip_k0_t1.sl.r_46 arg1 arg2 arg13 X1 X2 k G13) (View.readAt (Elt Ideal) arg13.view (Rect.unit (s := S2080x384) (k0_off9 k 24#32) S136x128.size (k0_off9_inb k 3)).toLoadRect (arg13.view.writes (Elt Ideal) G13 (trip_k0_t1.sl.HW_arg13_1 arg1 X1 k))) (View.readAt (Elt Ideal) arg2.view (Rect.unit (s := S32x384) ![29, 256] S1x128.size inb_S32x384_S1x128_29_256).toLoadRect X2) (View.readAt (Elt Ideal) arg3.view (Rect.unit (s := S1x384) ![0, 0] S1x384.size inb_S1x384_S1x384_0_0).toLoadRect X3) (View.readAt (Elt Ideal) arg4.view (Rect.unit (s := S1x384) ![0, 0] S1x384.size inb_S1x384_S1x384_0_0).toLoadRect X4) (View.readAt (Elt Ideal) arg5.view (Rect.unit (s := S1x384) ![0, 0] S1x384.size inb_S1x384_S1x384_0_0).toLoadRect X5)⟩])) (ix2 r q) = (argsOf (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)).cat (r.val / 128) (r.val % 128) q.val := by
  by_cases hl : r.val < 128 * k.val
  · refine (View.read_writes_cons_unit_of_not_mem _ _ _ _ _ (ix2 r q) (stores k).2.2.2.2.2 (0 : Fin 2) (Or.inl hl)).trans ?_
    refine (View.read_writes_cons_unit_of_not_mem _ _ _ _ _ (ix2 r q) (stores k).2.2.2.2.1 (0 : Fin 2) (Or.inl hl)).trans ?_
    exact (View.read_writes_cons_unit_of_not_mem _ _ _ _ _ (ix2 r q) (stores k).2.2.2.1 (0 : Fin 2) (Or.inl hl)).trans (hd.h11 r q hl)
  have e0 : r.val / 128 = k.val := by omega
  have e1 : r.val % 128 = r.val - 128 * k.val := by omega
  have er : r.val = 128 * k.val + (r.val - 128 * k.val) := by omega
  have hq := q.isLt
  rw [e0, e1, Args.cat]
  by_cases h0 : q.val < 384
  · rw [dif_pos h0]
    refine (View.read_writes_cons_unit_of_not_mem _ _ _ _ _ (ix2 r q) (stores k).2.2.2.2.2 (1 : Fin 2) (Or.inl (show q.val < 640 by omega))).trans ?_
    refine (View.read_writes_cons_unit_of_not_mem _ _ _ _ _ (ix2 r q) (stores k).2.2.2.2.1 (1 : Fin 2) (Or.inl h0)).trans ?_
    refine (View.read_writes_cons_rows_of_mem (size := S128x384.size) _ _ _ _ _ (ix2 r q) (ix2 ⟨r.val - 128 * k.val, by omega⟩ ⟨q.val, h0⟩) (stores k).2.2.2.1 er rfl).trans ?_
    exact ao_pt (h := grow13 (k := k) (h := hd.h13)) (p := _) (q := _)
  rw [dif_neg h0]
  by_cases h1 : q.val - 384 < 256
  · rw [dif_pos h1]
    refine (View.read_writes_cons_unit_of_not_mem _ _ _ _ _ (ix2 r q) (stores k).2.2.2.2.2 (1 : Fin 2) (Or.inl (show q.val < 640 by omega))).trans ?_
    refine (View.read_writes_cons_unit_of_mem (s := S2048x1024) (size := S128x256.size) _ _ _ _ _ (ix2 r q) (ix2 ⟨r.val - 128 * k.val, by omega⟩ ⟨q.val - 384, h1⟩) (stores k).2.2.2.2.1
      (Fin.forall_fin_two.mpr ⟨er, show q.val = 384 + (q.val - 384) by omega⟩)).trans ?_
    exact bo_pt (k := k) ..
  · rw [dif_neg h1]
    refine (View.read_writes_cons_unit_of_mem (s := S2048x1024) (size := S128x384.size) _ _ _ _ _ (ix2 r q) (ix2 ⟨r.val - 128 * k.val, by omega⟩ ⟨q.val - 640, by omega⟩) (stores k).2.2.2.2.2
      (Fin.forall_fin_two.mpr ⟨er, show q.val = 640 + (q.val - 640) by omega⟩)).trans ?_
    exact co_pt (h := grow14 (k := k) (h := hd.h14)) (p := _) (q := _)

/-- One chunk more. -/
theorem done_step : Done (argsOf (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)) (k.val + 1) (arg11.view.read (Elt Ideal) (arg11.view.writes (Elt Ideal) G11 [⟨Rect.unit (s := S2048x1024) (k0_off25 k) S128x384.size (k0_off25_inb k), k0_pay4 (F := Ideal) (trip_k0_t1.sl.r_53 arg1 arg10 arg14 X1 X10 k G14) (trip_k0_t1.sl.r_55 arg1 arg10 arg14 X1 X10 k G14) (trip_k0_t1.sl.r_56 arg1 arg10 arg14 X1 X10 k G14) k0_pay70 (trip_k0_t1.sl.r_57 arg1 arg10 arg14 X1 X10 k G14) (View.readAt (Elt Ideal) arg1.view (Rect.unit (s := S2048x2432) (k0_off24 k) S128x384.size (k0_off24_inb k)).toLoadRect X1)⟩, ⟨Rect.unit (s := S2048x1024) (k0_off14 k) S128x256.size (k0_off14_inb k), k0_pay61 (F := Ideal) (trip_k0_t1.sl.r_48 arg1 X1 k) (trip_k0_t1.sl.r_50 arg1 arg6 arg7 arg8 X1 X6 X7 X8 k) (View.readAt (Elt Ideal) arg9.view (Rect.unit (s := S128x256) ![0, 0] S128x256.size inb_S128x256_S128x256_0_0).toLoadRect X9)⟩, ⟨Rect.unit (s := S2048x1024) (k0_off11 k) S128x384.size (k0_off11_inb k), k0_pay57 (F := Ideal) (trip_k0_t1.sl.r_12 arg1 arg2 arg13 X1 X2 k G13) (trip_k0_t1.sl.r_29 arg1 arg2 arg13 X1 X2 k G13) (trip_k0_t1.sl.r_45 arg1 arg2 arg13 X1 X2 k G13) (trip_k0_t1.sl.r_46 arg1 arg2 arg13 X1 X2 k G13) (View.readAt (Elt Ideal) arg13.view (Rect.unit (s := S2080x384) (k0_off9 k 24#32) S136x128.size (k0_off9_inb k 3)).toLoadRect (arg13.view.writes (Elt Ideal) G13 (trip_k0_t1.sl.HW_arg13_1 arg1 X1 k))) (View.readAt (Elt Ideal) arg2.view (Rect.unit (s := S32x384) ![29, 256] S1x128.size inb_S32x384_S1x128_29_256).toLoadRect X2) (View.readAt (Elt Ideal) arg3.view (Rect.unit (s := S1x384) ![0, 0] S1x384.size inb_S1x384_S1x384_0_0).toLoadRect X3) (View.readAt (Elt Ideal) arg4.view (Rect.unit (s := S1x384) ![0, 0] S1x384.size inb_S1x384_S1x384_0_0).toLoadRect X4) (View.readAt (Elt Ideal) arg5.view (Rect.unit (s := S1x384) ![0, 0] S1x384.size inb_S1x384_S1x384_0_0).toLoadRect X5)⟩])) (arg12.view.read (Elt Ideal) (arg12.view.writes (Elt Ideal) G12 [⟨Rect.unit (s := S2048x384) (k0_off10 k) S128x384.size (k0_off10_inb k), k0_pay56 (F := Ideal) (trip_k0_t1.sl.r_12 arg1 arg2 arg13 X1 X2 k G13) (trip_k0_t1.sl.r_29 arg1 arg2 arg13 X1 X2 k G13) (trip_k0_t1.sl.r_45 arg1 arg2 arg13 X1 X2 k G13) (trip_k0_t1.sl.r_46 arg1 arg2 arg13 X1 X2 k G13) (View.readAt (Elt Ideal) arg13.view (Rect.unit (s := S2080x384) (k0_off9 k 24#32) S136x128.size (k0_off9_inb k 3)).toLoadRect (arg13.view.writes (Elt Ideal) G13 (trip_k0_t1.sl.HW_arg13_1 arg1 X1 k))) (View.readAt (Elt Ideal) arg2.view (Rect.unit (s := S32x384) ![29, 256] S1x128.size inb_S32x384_S1x128_29_256).toLoadRect X2) (View.readAt (Elt Ideal) arg3.view (Rect.unit (s := S1x384) ![0, 0] S1x384.size inb_S1x384_S1x384_0_0).toLoadRect X3)⟩])) (arg13.view.read (Elt Ideal) (arg13.view.writes (Elt Ideal) G13 (trip_k0_t1.sl.HW_arg13_1 arg1 X1 k))) (arg14.view.read (Elt Ideal) (arg14.view.writes (Elt Ideal) G14 (trip_k0_t1.sl.HW_arg14_1 arg1 X1 k))) :=
  ⟨grow13 (k := k) (h := hd.h13), grow14 (k := k) (h := hd.h14), grow11 (hd := hd), grow12 (hd := hd)⟩
end step

variable (f11 : BufTy.Contents (Elt Ideal) arg11.view.ty) (f12 : BufTy.Contents (Elt Ideal) arg12.view.ty) (f13 : BufTy.Contents (Elt Ideal) arg13.view.ty) (f14 : BufTy.Contents (Elt Ideal) arg14.view.ty)

/-- Every chunk. -/
theorem done_all (n : ℕ) (hn : n ≤ 16) :
    Done (argsOf (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)) n (arg11.view.read (Elt Ideal) (arg11.view.writes (Elt Ideal) f11 (pieces (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 f11 f12 f13 f14 n).1)) (arg12.view.read (Elt Ideal) (arg12.view.writes (Elt Ideal) f12 (pieces (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 f11 f12 f13 f14 n).2.1))
      (arg13.view.read (Elt Ideal) (arg13.view.writes (Elt Ideal) (zeroed13 arg13 f13) (pieces (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 f11 f12 f13 f14 n).2.2.1)) (arg14.view.read (Elt Ideal) (arg14.view.writes (Elt Ideal) (zeroed14 arg14 f14) (pieces (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 f11 f12 f13 f14 n).2.2.2)) := by
  induction n with
  | zero =>
    refine ⟨fun r q hr => ?_, fun r q hr => ?_, fun r q hr => absurd hr (Nat.not_lt_zero _), fun r q hr => absurd hr (Nat.not_lt_zero _)⟩
    · show arg13.view.read (Elt Ideal) (zeroed13 arg13 f13) (ix2 r q) = _
      refine (View.read_writes_cons_rows_of_mem (o := 0) (size := S32x384.size) _ _ _ _ _ (ix2 r q) (ix2 ⟨r.val, by omega⟩ q) rfl (Nat.zero_add _).symm rfl).trans ?_
      rw [Args.gs, if_pos (by omega)]
      pointwise [k0_pay1]
    · show arg14.view.read (Elt Ideal) (zeroed14 arg14 f14) (ix2 r q) = _
      refine (View.read_writes_cons_rows_of_mem (o := 0) (size := S8x384.size) _ _ _ _ _ (ix2 r q) (ix2 ⟨r.val, by omega⟩ q) rfl (Nat.zero_add _).symm rfl).trans ?_
      rw [Args.ccs, if_pos (by omega)]
      pointwise [k0_pay2]
  | succ n ih =>
    have hs := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 f11 f12 (zeroed13 arg13 f13) (zeroed14 arg14 f14) ⟨n, lt_of_lt_of_eq (Nat.lt_of_succ_le hn) (by decide +kernel)⟩
    rw [trip_pieces] at hs
    have hd := done_step (k := ⟨n, lt_of_lt_of_eq (Nat.lt_of_succ_le hn) (by decide +kernel)⟩) (hd := ih (Nat.le_of_succ_le hn))
    dsimp only at hs hd
    show Done _ (n + 1) _ _ _ _
    unfold pieces
    rw [hs]
    simp only [View.writes_append]
    exact hd

end Cert.MxfIdeal.Mixer
end
-- ==== Proof.Mxf.Laid.lean ====
module

public import proofs.«01_k».proof.Proof.Mxf.Trip
public import proofs.«01_k».proof.Proof.Gen.MxfIdeal.Frame
public import Idealize.ShloMosaic.Lib.KernelVsHost
public import Idealize.ShloMosaic.Lib.Pipeline.ValueKit
public import Idealize.ShloMosaic.Lib.Pipeline.ReadBack

/-!
# The arguments of one sequence, from the arrays

The host pads the taps with rows of zeros, clears the spatial weights above the diagonal, and repeats the spatial
bias along the columns of its head. Read back, a grid point's blocks are the arrays' entries of its sequence.
-/

@[expose] public section
set_option maxRecDepth 16384
noncomputable section
namespace Cert.MxfIdeal.Mixer

open Idealize.ShloMosaic Idealize.ShloMosaic.TcCoe Idealize.SL.Sem
open Cert.MxfIdeal.Gen

/-- An entry of a list at a place given as a number. -/
def ent1 {n : ℕ} (x : Vec Ideal ⟨1, ![n]⟩ .f32) (j : ℕ) : EReal := if h : j < n then x (ix1 ⟨j, h⟩) else 0

/-- Sequence `b`'s arguments. -/
def argsAt (A0 : Vec Ideal S8192x2432 .bf16) (A1 : Vec Ideal S31x384 .f32) (A2 A3 A4 : Vec Ideal S384 .f32) (A5 A6 : Vec Ideal S256 .f32)
    (A7 : Vec Ideal S4x128x128 .f32) (A8 : Vec Ideal S4x128 .f32) (A9 : Vec Ideal S3x384 .f32) (b : Fin 4) : Args where
  x := fun r j => if h : r < 2048 ∧ j < 2432 then A0 (ix2 ⟨b.val * 2048 + r, by omega⟩ ⟨j, h.2⟩) else 0
  wA := ent (e := .f32) A1 (0 : EReal)
  bA := ent1 A2
  gA := ent1 A3
  hA := ent1 A4
  gV := ent1 A5
  hV := ent1 A6
  wS := fun h p s => if d : h < 4 ∧ p < 128 ∧ s < 128 then (if s ≤ p then A7 (ix3 ⟨h, d.1⟩ ⟨p, d.2.1⟩ ⟨s, d.2.2⟩) else 0) else 0
  bS := fun p q => if d : p < 128 ∧ q < 256 then A8 (ix2 ⟨q / 64, by omega⟩ ⟨p, d.1⟩) else 0
  wC := ent (e := .f32) A9 (0 : EReal)

variable (m : (ℓ : Loc nD τ sig) → Buf (Elt Ideal) ℓ) (c : Dev nD)

/-- The arguments of the kernel's sequence `b`. -/
abbrev seqArgs (b : Fin 4) : Args :=
  argsAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) b

theorem laid_bA (x : Fin 1) (j : Fin 384) : V (F := Ideal) m c main_v3 (ix2 x j) = m ((c.tc : Thread nD τ).loc main_arg2) (ix1 j) := by
  simp only [V, hostOps0, hostOps0_1, hostOps0_2, hostOps0_3, hostOps0_4, hostOps0_5, hostOps0_6, hostOps0_7, List.flatten_cons, List.flatten_nil, List.cons_append, List.nil_append, List.append_nil]
  after_results_simp
  pointwise []

theorem laid_gA (x : Fin 1) (j : Fin 384) : V (F := Ideal) m c main_v4 (ix2 x j) = m ((c.tc : Thread nD τ).loc main_arg3) (ix1 j) := by
  simp only [V, hostOps0, hostOps0_1, hostOps0_2, hostOps0_3, hostOps0_4, hostOps0_5, hostOps0_6, hostOps0_7, List.flatten_cons, List.flatten_nil, List.cons_append, List.nil_append, List.append_nil]
  after_results_simp
  pointwise []

theorem laid_hA (x : Fin 1) (j : Fin 384) : V (F := Ideal) m c main_v5 (ix2 x j) = m ((c.tc : Thread nD τ).loc main_arg4) (ix1 j) := by
  simp only [V, hostOps0, hostOps0_1, hostOps0_2, hostOps0_3, hostOps0_4, hostOps0_5, hostOps0_6, hostOps0_7, List.flatten_cons, List.flatten_nil, List.cons_append, List.nil_append, List.append_nil]
  after_results_simp
  pointwise []

theorem laid_gV (x : Fin 1) (j : Fin 256) : V (F := Ideal) m c main_v6 (ix2 x j) = m ((c.tc : Thread nD τ).loc main_arg5) (ix1 j) := by
  simp only [V, hostOps0, hostOps0_1, hostOps0_2, hostOps0_3, hostOps0_4, hostOps0_5, hostOps0_6, hostOps0_7, List.flatten_cons, List.flatten_nil, List.cons_append, List.nil_append, List.append_nil]
  after_results_simp
  pointwise []

theorem laid_hV (x : Fin 1) (j : Fin 256) : V (F := Ideal) m c main_v7 (ix2 x j) = m ((c.tc : Thread nD τ).loc main_arg6) (ix1 j) := by
  simp only [V, hostOps0, hostOps0_1, hostOps0_2, hostOps0_3, hostOps0_4, hostOps0_5, hostOps0_6, hostOps0_7, List.flatten_cons, List.flatten_nil, List.cons_append, List.nil_append, List.append_nil]
  after_results_simp
  pointwise []

/-- Rows of zeros after an array's rows. -/
theorem pad_rows {k n w q : ℕ} (x : Vec Ideal ⟨2, ![k, w]⟩ .f32) (h : (⟨2, ![k, w]⟩ : Shape).Pads ![0, 0] ![q, 0] ![0, 0] ⟨2, ![n, w]⟩) (hu : 0 < S_.numel) (t : Fin n) (j : Fin w) :
    pad ⟨2, ![n, w]⟩ ![0, 0] ![q, 0] ![0, 0] x (sitofp (F := Ideal) .f32 (constantI S_ 32 0#32)) h hu (ix2 t j) = ent (e := .f32) x (0 : EReal) t.val j.val := by
  by_cases d : t.val < k
  · rw [ent, dif_pos ⟨d, j.isLt⟩]
    refine pad_apply_of_inside _ _ _ _ _ h hu (ix2 t j) (ix2 ⟨t.val, d⟩ j) fun a => ?_
    fin_cases a
    · show t.val = 0 + t.val * (0 + 1); omega
    · show j.val = 0 + j.val * (0 + 1); omega
  · rw [ent, dif_neg fun e => d e.1]
    refine (pad_apply_of_not_inside _ _ _ _ _ h hu (ix2 t j) 0 fun e => d ?_).trans ?_
    · have := e.2.2
      change (t.val - 0) / (0 + 1) < k at this
      simpa using this
    · exact sitofp_zero (φ := .f32)

theorem under : ∀ p s : Fin 128, Scalar.select (IntOp.cmpi CmpIPredicate.sge (IntOp.addi (BitVec.ofNat 32 p.val) 0#32) (BitVec.ofNat 32 s.val)) 1#1 0#1 = if s.val ≤ p.val then 1#1 else 0#1 := by
  decide +kernel

/-- A weight on or under the diagonal is kept, another is zero. -/
theorem tril_at (x : Vec Ideal S4x128x128 .f32) (h : Fin 4) (p s : Fin 128) :
    select (broadcastInDim S4x128x128 ![0, 1, 2] bcast_S1x128x128_S4x128x128_0_1_2 (broadcastInDim S1x128x128 ![1, 2] bcast_S128x128_S1x128x128_1_2
      (select (cmpi .sge (addi (iotaInDim S128x128 32 0) (broadcastInDim S128x128 ![] bcast_S_S128x128 (constantI S_ 32 0#32))) (iotaInDim S128x128 32 1))
        (broadcastInDim S128x128 ![] bcast_S_S128x128 (constantI S_ 1 1#1)) (broadcastInDim S128x128 ![] bcast_S_S128x128 (constantI S_ 1 0#1)))))
      x (broadcastInDim S4x128x128 ![] bcast_S_S4x128x128 (constant (F := Ideal) S_ .f32 0x00000000#32)) (ix3 h p s)
    = if s.val ≤ p.val then x (ix3 h p s) else (0 : EReal) := by
  pointwise []
  rw [under p s]
  split_ifs <;> rfl

theorem laid_wA (t : Fin 32) (j : Fin 384) : V (F := Ideal) m c main_v2 (ix2 t j) = ent (e := .f32) (m ((c.tc : Thread nD τ).loc main_arg1)) (0 : EReal) t.val j.val := by
  simp only [V, hostOps0, hostOps0_1, hostOps0_2, hostOps0_3, hostOps0_4, hostOps0_5, hostOps0_6, hostOps0_7, List.flatten_cons, List.flatten_nil, List.cons_append, List.nil_append, List.append_nil]
  after_results_simp
  exact pad_rows (m ((c.tc : Thread nD τ).loc main_arg1)) pads_S31x384_S32x384_010_000 h_S_ t j

theorem laid_wC (t : Fin 8) (j : Fin 384) : V (F := Ideal) m c main_v14 (ix2 t j) = ent (e := .f32) (m ((c.tc : Thread nD τ).loc main_arg9)) (0 : EReal) t.val j.val := by
  simp only [V, hostOps0, hostOps0_1, hostOps0_2, hostOps0_3, hostOps0_4, hostOps0_5, hostOps0_6, hostOps0_7, List.flatten_cons, List.flatten_nil, List.cons_append, List.nil_append, List.append_nil]
  after_results_simp
  exact pad_rows (m ((c.tc : Thread nD τ).loc main_arg9)) pads_S3x384_S8x384_050_000 h_S_ t j

theorem laid_wS (h : Fin 4) (p s : Fin 128) : V (F := Ideal) m c main_v10 (ix3 h p s) = if s.val ≤ p.val then m ((c.tc : Thread nD τ).loc main_arg7) (ix3 h p s) else (0 : EReal) := by
  simp only [V, hostOps0, hostOps0_1, hostOps0_2, hostOps0_3, hostOps0_4, hostOps0_5, hostOps0_6, hostOps0_7, List.flatten_cons, List.flatten_nil, List.cons_append, List.nil_append, List.append_nil]
  after_results_simp
  exact tril_at (m ((c.tc : Thread nD τ).loc main_arg7)) h p s

theorem laid_bS (p : Fin 128) (q : Fin 256) : V (F := Ideal) m c main_v13 (ix2 p q) = m ((c.tc : Thread nD τ).loc main_arg8) (ix2 ⟨q.val / 64, by omega⟩ p) := by
  simp only [V, hostOps0, hostOps0_1, hostOps0_2, hostOps0_3, hostOps0_4, hostOps0_5, hostOps0_6, hostOps0_7, List.flatten_cons, List.flatten_nil, List.cons_append, List.nil_append, List.append_nil]
  after_results_simp
  pointwise []

theorem index_maps : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0, 0] ∧ win0_8.index t = ![0, 0] ∧ win0_9.index t = ![0, 0] ∧ win0_10.index t = ![t.val, 0] ∧ win0_11.index t = ![t.val, 0] :=
  (by decide +kernel : ∀ t : Fin grid0.N, _)

/-- The sequence of a grid point. -/
def seqOf (t : Fin cfg0.N) : Fin 4 := ⟨t.val, lt_of_lt_of_eq t.isLt N_0⟩

theorem blk_x (t : Fin cfg0.N) (r : Fin 2048) (j : Fin 2432) : iblk (F := Ideal) m c 0 t (ix2 r j) = m ((c.tc : Thread nD τ).loc main_arg0) (ix2 ⟨(seqOf t).val * 2048 + r.val, by have := (seqOf t).isLt; omega⟩ j) := by
  blk_simp [iblk]; rw [V_main_arg0]; unfold seqOf; blk_ext [index_maps t]
theorem blk_wA (t : Fin cfg0.N) (r : Fin 32) (j : Fin 384) : iblk (F := Ideal) m c 1 t (ix2 r j) = ent (e := .f32) (m ((c.tc : Thread nD τ).loc main_arg1)) (0 : EReal) r.val j.val := by
  rw [← laid_wA m c r j]; blk_simp [iblk]; blk_ext [index_maps t]
theorem blk_bA (t : Fin cfg0.N) (x : Fin 1) (j : Fin 384) : iblk (F := Ideal) m c 2 t (ix2 x j) = m ((c.tc : Thread nD τ).loc main_arg2) (ix1 j) := by
  rw [← laid_bA m c x j]; blk_simp [iblk]; blk_ext [index_maps t]
theorem blk_gA (t : Fin cfg0.N) (x : Fin 1) (j : Fin 384) : iblk (F := Ideal) m c 3 t (ix2 x j) = m ((c.tc : Thread nD τ).loc main_arg3) (ix1 j) := by
  rw [← laid_gA m c x j]; blk_simp [iblk]; blk_ext [index_maps t]
theorem blk_hA (t : Fin cfg0.N) (x : Fin 1) (j : Fin 384) : iblk (F := Ideal) m c 4 t (ix2 x j) = m ((c.tc : Thread nD τ).loc main_arg4) (ix1 j) := by
  rw [← laid_hA m c x j]; blk_simp [iblk]; blk_ext [index_maps t]
theorem blk_gV (t : Fin cfg0.N) (x : Fin 1) (j : Fin 256) : iblk (F := Ideal) m c 5 t (ix2 x j) = m ((c.tc : Thread nD τ).loc main_arg5) (ix1 j) := by
  rw [← laid_gV m c x j]; blk_simp [iblk]; blk_ext [index_maps t]
theorem blk_hV (t : Fin cfg0.N) (x : Fin 1) (j : Fin 256) : iblk (F := Ideal) m c 6 t (ix2 x j) = m ((c.tc : Thread nD τ).loc main_arg6) (ix1 j) := by
  rw [← laid_hV m c x j]; blk_simp [iblk]; blk_ext [index_maps t]
theorem blk_wS (t : Fin cfg0.N) (h : Fin 4) (p s : Fin 128) : iblk (F := Ideal) m c 7 t (ix3 h p s) = if s.val ≤ p.val then m ((c.tc : Thread nD τ).loc main_arg7) (ix3 h p s) else (0 : EReal) := by
  rw [← laid_wS m c h p s]; blk_simp [iblk]; blk_ext [index_maps t]
theorem blk_bS (t : Fin cfg0.N) (p : Fin 128) (q : Fin 256) : iblk (F := Ideal) m c 8 t (ix2 p q) = m ((c.tc : Thread nD τ).loc main_arg8) (ix2 ⟨q.val / 64, by omega⟩ p) := by
  rw [← laid_bS m c p q]; blk_simp [iblk]; blk_ext [index_maps t]
theorem blk_wC (t : Fin cfg0.N) (r : Fin 8) (j : Fin 384) : iblk (F := Ideal) m c 9 t (ix2 r j) = ent (e := .f32) (m ((c.tc : Thread nD τ).loc main_arg9)) (0 : EReal) r.val j.val := by
  rw [← laid_wC m c r j]; blk_simp [iblk]; blk_ext [index_maps t]

theorem ent_zero {n m : ℕ} {e : EltTy} (x : Vec Ideal ⟨2, ![n, m]⟩ e) (d : Elt Ideal e) (r j : ℕ) (h : ¬(r < n ∧ j < m)) : ent x d r j = d := dif_neg h

theorem ent_one {n : ℕ} (x : Vec Ideal ⟨2, ![1, n]⟩ .f32) (y : Vec Ideal ⟨1, ![n]⟩ .f32) (h : ∀ j : Fin n, x (ix2 0 j) = y (ix1 j)) : ent (e := .f32) x (0 : EReal) 0 = ent1 y := by
  funext j
  by_cases hj : j < n
  · rw [ent, dif_pos ⟨Nat.one_pos, hj⟩, ent1, dif_pos hj]; exact h ⟨j, hj⟩
  · rw [ent, dif_neg fun d => hj d.2, ent1, dif_neg hj]

theorem ent_pad {n k w : ℕ} (x : Vec Ideal ⟨2, ![n, w]⟩ .f32) (y : Vec Ideal ⟨2, ![k, w]⟩ .f32) (hk : k ≤ n) (h : ∀ (t : Fin n) (j : Fin w), x (ix2 t j) = ent (e := .f32) y (0 : EReal) t.val j.val) :
    ent (e := .f32) x (0 : EReal) = ent (e := .f32) y (0 : EReal) := by
  funext t j
  by_cases ht : t < n ∧ j < w
  · rw [ent, dif_pos ht]; exact h ⟨t, ht.1⟩ ⟨j, ht.2⟩
  · rw [ent_zero _ _ _ _ ht, ent_zero _ _ _ _ fun d => ht ⟨lt_of_lt_of_le d.1 hk, d.2⟩]

/-- A grid point's blocks are its sequence's arguments. -/
theorem tile_args (t : Fin cfg0.N) : argsOf (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t)
    = seqArgs m c (seqOf t) := by
  unfold argsOf seqArgs argsAt
  congr 1
  · funext r j
    by_cases h : r < 2048 ∧ j < 2432
    · rw [dif_pos h, ent, dif_pos h]; exact blk_x m c t ⟨r, h.1⟩ ⟨j, h.2⟩
    · rw [dif_neg h]; exact ent_zero _ _ _ _ h
  · exact ent_pad _ _ (by decide) (blk_wA m c t)
  · exact ent_one _ _ (blk_bA m c t 0)
  · exact ent_one _ _ (blk_gA m c t 0)
  · exact ent_one _ _ (blk_hA m c t 0)
  · exact ent_one _ _ (blk_gV m c t 0)
  · exact ent_one _ _ (blk_hV m c t 0)
  · funext h p s
    by_cases d : h < 4 ∧ p < 128 ∧ s < 128
    · rw [entW, dif_pos d, dif_pos d]; exact blk_wS m c t ⟨h, d.1⟩ ⟨p, d.2.1⟩ ⟨s, d.2.2⟩
    · rw [entW, dif_neg d, dif_neg d]
  · funext p q
    by_cases d : p < 128 ∧ q < 256
    · rw [ent, dif_pos d, dif_pos d]; exact blk_bS m c t ⟨p, d.1⟩ ⟨q, d.2⟩
    · rw [dif_neg d]; exact ent_zero _ _ _ _ d
  · exact ent_pad _ _ (by decide) (blk_wC m c t)

end Cert.MxfIdeal.Mixer
end
-- ==== Proof.Mxf.Window.lean ====
module

public import proofs.«01_k».proof.Defs
public import proofs.«01_k».proof.Proof.Mxf.Laid
public import proofs.«01_k».proof.Proof.Gen.MxfRefIdeal
public import proofs.«01_k».proof.Proof.Gen.MxfRefIdeal.Run
public import Idealize.ShloMosaic.Lib.KernelVsHost
public import Idealize.ShloMosaic.Lib.Pipeline.ReadBack

/-!
# The reference's windows of rows

The convolution reads, for each row, the window of rows ending at it out of the array with rows of zeros before it.
-/

@[expose] public section
set_option maxRecDepth 16384
noncomputable section
namespace Cert.MxfRefIdeal.Mixer

open Idealize.ShloMosaic Idealize.ShloMosaic.TcCoe Idealize.SL.Sem Idealize.ShloMosaic.StableHlo
open Cert.MxfRefIdeal Cert.MxfRefIdeal.Gen

/-- The windows' dimension numbers. -/
abbrev windowDims (B N R T W : ℕ) (wf : GatherDims.WF ⟨3, ![B, N, W]⟩ ⟨3, ![R, T, 1]⟩ ⟨4, ![B, R, T, W]⟩ [0, 3] [1] [] [1] [] 2 ![B, 1, W]) :
    GatherDims ⟨3, ![B, N, W]⟩ ⟨3, ![R, T, 1]⟩ ⟨4, ![B, R, T, W]⟩ where
  offsetDims := [0, 3]
  collapsedSliceDims := [1]
  operandBatchingDims := []
  startIndicesBatchingDims := []
  startIndexMap := [1]
  indexVectorDim := 2
  sliceSizes := ![B, 1, W]
  wf := wf

/-- A window's entry is the array's at the named row. -/
theorem window_at {B N R T W : ℕ} (wf : GatherDims.WF ⟨3, ![B, N, W]⟩ ⟨3, ![R, T, 1]⟩ ⟨4, ![B, R, T, W]⟩ [0, 3] [1] [] [1] [] 2 ![B, 1, W])
    (x : Vec Ideal ⟨3, ![B, N, W]⟩ .f32) (idx : IVec ⟨3, ![R, T, 1]⟩ 32) (b : Fin B) (s : Fin R) (t : Fin T) (j : Fin W) (n : Fin N)
    (h : (idx (ix3 s t 0)).toInt.toNat = n.val) :
    Host.gather (windowDims B N R T W wf) x idx (ix4 b s t j) = x (ix3 b n j) := by
  unfold Host.gather
  congr 1
  funext a
  refine Fin.ext ?_
  show (windowDims B N R T W wf).start (ix4 b s t j) idx a + (windowDims B N R T W wf).batchCoord (ix4 b s t j) a
      + (windowDims B N R T W wf).offCoord (ix4 b s t j) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · have hs : (windowDims B N R T W wf).start (ix4 b s t j) idx 0 = 0 := by
      unfold GatherDims.start
      exact dif_neg (by simp [windowDims])
    have ho : (windowDims B N R T W wf).offCoord (ix4 b s t j) 0 = b.val := by
      unfold GatherDims.offCoord
      rw [dif_pos (show (0 : Fin 3) ∈ (windowDims B N R T W wf).sKept from (GatherDims.mem_sKept _ _).mpr ⟨by simp [windowDims], List.not_mem_nil⟩)]
      rfl
    rw [hs, ho]; exact Nat.zero_add _
  · rw [GatherDims.offCoord_eq_zero _ _ _ (fun h => ((GatherDims.mem_sKept _ _).mp h).1 (List.mem_singleton.mpr rfl))]
    simp only [Nat.add_zero]
    unfold GatherDims.start
    rw [dif_pos (show (1 : Fin 3) ∈ (windowDims B N R T W wf).startIndexMap from List.mem_singleton.mpr rfl)]
    have hsi : (windowDims B N R T W wf).siIdx (ix4 b s t j) ⟨List.idxOf (1 : Fin 3) (windowDims B N R T W wf).startIndexMap,
        List.idxOf_lt_length_iff.2 (List.mem_singleton.mpr rfl)⟩ = ix3 s t 0 := by
      funext b; refine Fin.ext ?_
      match b with
      | ⟨0, _⟩ => rfl
      | ⟨1, _⟩ => rfl
      | ⟨2, _⟩ => rfl
    rw [hsi]
    show min (idx (ix3 s t 0)).toInt.toNat (N - 1) = n.val
    rw [h]; have := n.isLt; omega
  · have hs : (windowDims B N R T W wf).start (ix4 b s t j) idx 2 = 0 := by
      unfold GatherDims.start
      exact dif_neg (by simp [windowDims])
    have ho : (windowDims B N R T W wf).offCoord (ix4 b s t j) 2 = j.val := by
      unfold GatherDims.offCoord
      rw [dif_pos (show (2 : Fin 3) ∈ (windowDims B N R T W wf).sKept from (GatherDims.mem_sKept _ _).mpr ⟨by simp [windowDims], List.not_mem_nil⟩)]
      rfl
    rw [hs, ho]; exact Nat.zero_add _

/-- The rows read: the window of row `s` starts at row `s` of the padded array. -/
theorem row_number : ∀ n s t : ℕ, s < 2048 → t < 31 →
    (Scalar.select (IntOp.cmpi CmpIPredicate.slt (IntOp.addi (BitVec.ofNat 32 s) (BitVec.ofNat 32 t)) 0#32) (IntOp.addi (IntOp.addi (BitVec.ofNat 32 s) (BitVec.ofNat 32 t)) (BitVec.ofNat 32 n)) (IntOp.addi (BitVec.ofNat 32 s) (BitVec.ofNat 32 t))).toInt.toNat = s + t := by
  intro n s t hs ht
  have e : IntOp.addi (BitVec.ofNat 32 s) (BitVec.ofNat 32 t) = BitVec.ofNat 32 (s + t) := by
    exact (BitVec.ofNat_add s t).symm
  have hi : (BitVec.ofNat 32 (s + t)).toInt = ((s + t : ℕ) : ℤ) := by
    have ht : (BitVec.ofNat 32 (s + t)).toNat = s + t := by rw [BitVec.toNat_ofNat]; exact Nat.mod_eq_of_lt (by omega)
    rw [BitVec.toInt_eq_toNat_of_lt (by rw [ht]; omega), ht]
  have hn : IntOp.cmpi CmpIPredicate.slt (BitVec.ofNat 32 (s + t)) 0#32 = 0#1 := by
    show BitVec.ofBool ((BitVec.ofNat 32 (s + t)).slt 0#32) = 0#1
    rw [BitVec.slt, hi, show ((0#32).toInt) = 0 from rfl, decide_eq_false (by omega)]
    rfl
  rw [e, hn]
  show (BitVec.ofNat 32 (s + t)).toInt.toNat = s + t
  rw [hi]; rfl

/-- The long convolution. -/
abbrev longConv (C : Vec Ideal S4x2048x384 .f32) (w : Vec Ideal S31x384 .f32) : Vec Ideal S4x2048x384 .f32 :=
  Host.reduceAdd (mulf (Host.gather gather_S4x2078x384_S2048x31x1_S4x2048x31x384_03_1_n_n_1_2_41384
      (concatenate S4x2078x384 1 [⟨S4x30x384, (broadcastInDim S4x30x384 ![] bcast_S_S4x30x384 (constant (F := Ideal) S_ .f32 0x00000000#32))⟩, ⟨S4x2048x384, C⟩] concatenates_S4x30x384_S4x2048x384_S4x2078x384_d1)
      (broadcastInDim S2048x31x1 ![0, 1] bcast_S2048x31_S2048x31x1_0_1 (select (cmpi .slt
        (addi (broadcastInDim S2048x31 ![0, 1] bcast_S2048x1_S2048x31_0_1 (broadcastInDim S2048x1 ![0] bcast_S2048_S2048x1_0 (iotaInDim S2048 32 0))) (broadcastInDim S2048x31 ![0, 1] bcast_S1x31_S2048x31_0_1 (broadcastInDim S1x31 ![1] bcast_S31_S1x31_1 (iotaInDim S31 32 0)))) (broadcastInDim S2048x31 ![] bcast_S_S2048x31 (constantI S_ 32 0#32)))
        (addi (addi (broadcastInDim S2048x31 ![0, 1] bcast_S2048x1_S2048x31_0_1 (broadcastInDim S2048x1 ![0] bcast_S2048_S2048x1_0 (iotaInDim S2048 32 0))) (broadcastInDim S2048x31 ![0, 1] bcast_S1x31_S2048x31_0_1 (broadcastInDim S1x31 ![1] bcast_S31_S1x31_1 (iotaInDim S31 32 0)))) (broadcastInDim S2048x31 ![] bcast_S_S2048x31 (constantI S_ 32 2078#32)))
        (addi (broadcastInDim S2048x31 ![0, 1] bcast_S2048x1_S2048x31_0_1 (broadcastInDim S2048x1 ![0] bcast_S2048_S2048x1_0 (iotaInDim S2048 32 0))) (broadcastInDim S2048x31 ![0, 1] bcast_S1x31_S2048x31_0_1 (broadcastInDim S1x31 ![1] bcast_S31_S1x31_1 (iotaInDim S31 32 0)))))))
    (broadcastInDim S4x2048x31x384 ![0, 1, 2, 3] bcast_S1x1x31x384_S4x2048x31x384_0_1_2_3 (broadcastInDim S1x1x31x384 ![2, 3] bcast_S31x384_S1x1x31x384_2_3 w)))
    (constant (F := Ideal) S_ .f32 0x00000000#32) reducesTo_S4x2048x31x384_S4x2048x384_d2 h_S_

/-- The rows with zeros before them. -/
theorem before_at (C : Vec Ideal S4x2048x384 .f32) (b : Fin 4) (n : Fin 2078) (j : Fin 384) :
    concatenate S4x2078x384 1 [⟨S4x30x384, (broadcastInDim S4x30x384 ![] bcast_S_S4x30x384 (constant (F := Ideal) S_ .f32 0x00000000#32))⟩, ⟨S4x2048x384, C⟩] concatenates_S4x30x384_S4x2048x384_S4x2078x384_d1 (ix3 b n j)
      = if h : n.val < 30 then (0 : EReal) else C (ix3 b ⟨n.val - 30, by omega⟩ j) := by
  pointwise []

theorem longConv_at (C : Vec Ideal S4x2048x384 .f32) (w : Vec Ideal S31x384 .f32) (b : Fin 4) (s : Fin 2048) (j : Fin 384) :
    longConv C w (ix3 b s j) = ∑ t : Fin 31, (if h : s.val + t.val < 30 then (0 : EReal) else C (ix3 b ⟨s.val + t.val - 30, by omega⟩ j)) * w (ix2 t j) := by
  unfold longConv
  pointwise []
  refine Finset.sum_congr rfl fun t _ => ?_
  refine congrArg (· * w (ix2 t j)) ?_
  refine (window_at gather_S4x2078x384_S2048x31x1_S4x2048x31x384_03_1_n_n_1_2_41384_wf _ _ b s t j ⟨s.val + t.val, by omega⟩ ?_).trans ?_
  · pointwise []
    exact row_number 2078 s.val t.val s.isLt t.isLt
  · exact before_at C b ⟨s.val + t.val, by omega⟩ j

/-- The short convolution. -/
abbrev shortConv (C : Vec Ideal S4x2048x384 .f32) (w : Vec Ideal S3x384 .f32) : Vec Ideal S4x2048x384 .f32 :=
  Host.reduceAdd (mulf (Host.gather gather_S4x2050x384_S2048x3x1_S4x2048x3x384_03_1_n_n_1_2_41384
      (concatenate S4x2050x384 1 [⟨S4x2x384, (broadcastInDim S4x2x384 ![] bcast_S_S4x2x384 (constant (F := Ideal) S_ .f32 0x00000000#32))⟩, ⟨S4x2048x384, C⟩] concatenates_S4x2x384_S4x2048x384_S4x2050x384_d1)
      (broadcastInDim S2048x3x1 ![0, 1] bcast_S2048x3_S2048x3x1_0_1 (select (cmpi .slt
        (addi (broadcastInDim S2048x3 ![0, 1] bcast_S2048x1_S2048x3_0_1 (broadcastInDim S2048x1 ![0] bcast_S2048_S2048x1_0 (iotaInDim S2048 32 0))) (broadcastInDim S2048x3 ![0, 1] bcast_S1x3_S2048x3_0_1 (broadcastInDim S1x3 ![1] bcast_S3_S1x3_1 (iotaInDim S3 32 0)))) (broadcastInDim S2048x3 ![] bcast_S_S2048x3 (constantI S_ 32 0#32)))
        (addi (addi (broadcastInDim S2048x3 ![0, 1] bcast_S2048x1_S2048x3_0_1 (broadcastInDim S2048x1 ![0] bcast_S2048_S2048x1_0 (iotaInDim S2048 32 0))) (broadcastInDim S2048x3 ![0, 1] bcast_S1x3_S2048x3_0_1 (broadcastInDim S1x3 ![1] bcast_S3_S1x3_1 (iotaInDim S3 32 0)))) (broadcastInDim S2048x3 ![] bcast_S_S2048x3 (constantI S_ 32 2050#32)))
        (addi (broadcastInDim S2048x3 ![0, 1] bcast_S2048x1_S2048x3_0_1 (broadcastInDim S2048x1 ![0] bcast_S2048_S2048x1_0 (iotaInDim S2048 32 0))) (broadcastInDim S2048x3 ![0, 1] bcast_S1x3_S2048x3_0_1 (broadcastInDim S1x3 ![1] bcast_S3_S1x3_1 (iotaInDim S3 32 0)))))))
    (broadcastInDim S4x2048x3x384 ![0, 1, 2, 3] bcast_S1x1x3x384_S4x2048x3x384_0_1_2_3 (broadcastInDim S1x1x3x384 ![2, 3] bcast_S3x384_S1x1x3x384_2_3 w)))
    (constant (F := Ideal) S_ .f32 0x00000000#32) reducesTo_S4x2048x3x384_S4x2048x384_d2 h_S_

/-- The rows with two rows of zeros before them. -/
theorem before_short (C : Vec Ideal S4x2048x384 .f32) (b : Fin 4) (n : Fin 2050) (j : Fin 384) :
    concatenate S4x2050x384 1 [⟨S4x2x384, (broadcastInDim S4x2x384 ![] bcast_S_S4x2x384 (constant (F := Ideal) S_ .f32 0x00000000#32))⟩, ⟨S4x2048x384, C⟩] concatenates_S4x2x384_S4x2048x384_S4x2050x384_d1 (ix3 b n j)
      = if h : n.val < 2 then (0 : EReal) else C (ix3 b ⟨n.val - 2, by omega⟩ j) := by
  pointwise []

theorem shortConv_at (C : Vec Ideal S4x2048x384 .f32) (w : Vec Ideal S3x384 .f32) (b : Fin 4) (s : Fin 2048) (j : Fin 384) :
    shortConv C w (ix3 b s j) = ∑ t : Fin 3, (if h : s.val + t.val < 2 then (0 : EReal) else C (ix3 b ⟨s.val + t.val - 2, by omega⟩ j)) * w (ix2 t j) := by
  unfold shortConv
  pointwise []
  refine Finset.sum_congr rfl fun t _ => ?_
  refine congrArg (· * w (ix2 t j)) ?_
  refine (window_at gather_S4x2050x384_S2048x3x1_S4x2048x3x384_03_1_n_n_1_2_41384_wf _ _ b s t j ⟨s.val + t.val, by omega⟩ ?_).trans ?_
  · pointwise []
    exact row_number 2050 s.val t.val s.isLt (by omega)
  · exact before_short C b ⟨s.val + t.val, by omega⟩ j

end Cert.MxfRefIdeal.Mixer
end
-- ==== Proof.Mxf.Ref.lean ====
module

public import proofs.«01_k».proof.Proof.Mxf.Window
public import Idealize.ShloMosaic.Lib.Pipeline.ReadBack

/-!
# The reference at one row
-/

@[expose] public section
set_option maxRecDepth 16384
set_option maxHeartbeats 4000000
noncomputable section
namespace Cert.MxfRefIdeal.Mixer

open Idealize.ShloMosaic Idealize.ShloMosaic.TcCoe Idealize.SL.Sem Idealize.ShloMosaic.StableHlo
open Cert.MxfRefIdeal Cert.MxfRefIdeal.Gen Cert.MxfRefIdeal.Value
open Cert.MxfIdeal.Mixer (Args argsAt ent ent1 normed mean gelu len384 len256)

variable (V0 : Valuation τ sig (Elt Ideal)) (b : Fin 4)

/-- The arguments of the reference's sequence `b`. -/
abbrev refArgs : Args :=
  argsAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) b

theorem x_at (r : Fin 2048) (j : Fin 2432) : res_main_v1 V0 (ix3 b r j) = (refArgs V0 b).x r.val j.val := by
  show _ = dite _ _ _
  rw [dif_pos ⟨r.isLt, j.isLt⟩]
  pointwise [res_main_v1]

theorem wA_at (t : Fin 31) (j : Fin 384) : V0 (Proc.devRef .tc main_arg1) (ix2 t j) = (refArgs V0 b).wA t.val j.val := by
  show _ = ent _ _ _ _
  exact (Cert.MxfIdeal.Mixer.ent_mk _ _ t j).symm
theorem wC_at (t : Fin 3) (j : Fin 384) : V0 (Proc.devRef .tc main_arg9) (ix2 t j) = (refArgs V0 b).wC t.val j.val := by
  show _ = ent _ _ _ _
  exact (Cert.MxfIdeal.Mixer.ent_mk _ _ t j).symm
theorem ent1_mk {n : ℕ} (x : Vec Ideal ⟨1, ![n]⟩ .f32) (j : Fin n) : x (ix1 j) = ent1 x j.val := by
  rw [ent1, dif_pos j.isLt]
theorem bA_at (j : Fin 384) : V0 (Proc.devRef .tc main_arg2) (ix1 j) = (refArgs V0 b).bA j.val := ent1_mk _ j
theorem gA_at (j : Fin 384) : V0 (Proc.devRef .tc main_arg3) (ix1 j) = (refArgs V0 b).gA j.val := ent1_mk _ j
theorem hA_at (j : Fin 384) : V0 (Proc.devRef .tc main_arg4) (ix1 j) = (refArgs V0 b).hA j.val := ent1_mk _ j
theorem gV_at (j : Fin 256) : V0 (Proc.devRef .tc main_arg5) (ix1 j) = (refArgs V0 b).gV j.val := ent1_mk _ j
theorem hV_at (j : Fin 256) : V0 (Proc.devRef .tc main_arg6) (ix1 j) = (refArgs V0 b).hV j.val := ent1_mk _ j
theorem bS_at (p : Fin 128) (q : Fin 256) : V0 (Proc.devRef .tc main_arg8) (ix2 ⟨q.val / 64, by omega⟩ p) = (refArgs V0 b).bS p.val q.val := by
  show _ = dite _ _ _
  rw [dif_pos ⟨p.isLt, q.isLt⟩]

/-- A gate as the reference writes it. -/
theorem sigmoid (x : EReal) : Ideal.div 1 (1 + Ideal.exp (-x)) = Ideal.logistic x := rfl

/-- The gated columns. -/
theorem gated_at (s : Fin 2048) (j : Fin 384) :
    mulf (extractStridedSlice S4x2048x384 ![0, 0, 0] (res_main_v1 V0) slices_S4x2048x2432_S4x2048x384_0_0_0) (Host.divf (broadcastInDim S4x2048x384 ![] bcast_S_S4x2048x384 (constant (F := Ideal) S_ .f32 0x3F800000#32)) (addf (broadcastInDim S4x2048x384 ![] bcast_S_S4x2048x384 (constant S_ .f32 0x3F800000#32)) (Host.exp (Host.negf (extractStridedSlice S4x2048x384 ![0, 0, 384] (res_main_v1 V0) slices_S4x2048x2432_S4x2048x384_0_0_384))))) (ix3 b s j)
      = (refArgs V0 b).x s.val j.val * Ideal.logistic ((refArgs V0 b).x s.val (384 + j.val)) := by
  pointwise [sigmoid]
  rw [x_at, x_at]

theorem ca_at (s : Fin 2048) (j : Fin 384) : res_main_v70 V0 (ix3 b s j) = (refArgs V0 b).ca s.val j.val := by
  show longConv (mulf (F := Ideal) _ _) (V0 (Proc.devRef .tc main_arg1)) (ix3 b s j) + (broadcastInDim S4x2048x384 ![0, 1, 2] bcast_S1x1x384_S4x2048x384_0_1_2 (broadcastInDim S1x1x384 ![2] bcast_S384_S1x1x384_2 (V0 (Proc.devRef .tc main_arg2)))) (ix3 b s j) = _
  rw [longConv_at, Args.ca, Finset.sum_range]
  refine congrArg₂ HAdd.hAdd (Finset.sum_congr rfl fun t _ => ?_) ?_
  · rw [Args.gs, wA_at V0 b]
    refine congrArg (· * _) ?_
    by_cases h : s.val + t.val < 30
    · rw [dif_pos h, if_pos (by omega)]
    · rw [dif_neg h, if_neg (by omega), gated_at V0 b ⟨s.val + t.val - 30, by omega⟩ j, show s.val + 2 + t.val - 32 = s.val + t.val - 30 by omega]
  · rw [← bA_at]
    pointwise []

theorem lna_at (s : Fin 2048) (j : Fin 384) : res_main_v94 V0 (ix3 b s j) = (refArgs V0 b).lna s.val j := by
  rw [Args.lna, ← gA_at, ← hA_at]
  pointwise [res_main_v94, res_main_v76, res_main_v74, ca_at, normed, mean]

/-- The first columns. -/
theorem ao_at (s : Fin 2048) (j : Fin 384) :
    (mulf (res_main_v94 V0) (Host.divf (broadcastInDim S4x2048x384 ![] bcast_S_S4x2048x384 (constant (F := Ideal) S_ .f32 0x3F800000#32)) (addf (broadcastInDim S4x2048x384 ![] bcast_S_S4x2048x384 (constant (F := Ideal) S_ .f32 0x3F800000#32)) (Host.exp (Host.negf (res_main_v94 V0)))))) (ix3 b s j) = (refArgs V0 b).ao s.val j := by
  rw [Args.ao]
  pointwise [sigmoid, lna_at]

theorem unit (x : EReal) : Ideal.ofBits .f32 0x3F000000#32 * x * Ideal.erfc (-x * Ideal.ofBits .f32 0x3F3504F3#32) = gelu x := by
  rw [gelu, EReal.neg_mul, Ideal.erfc_neg]
  pointwise []

theorem v109_at (s : Fin 2048) (j : Fin 256) : res_main_v109 V0 (ix3 b s j) = gelu ((refArgs V0 b).x s.val (1024 + j.val)) := by
  pointwise [res_main_v109, res_main_v37]
  rw [x_at, unit]

/-- The values mixed along a chunk. -/
abbrev vT : Vec Ideal S4x2048x256 .f32 :=
  (addf (mulf (mulf (subf (res_main_v109 V0) (broadcastInDim S4x2048x256 ![0, 1, 2] bcast_S4x2048x1_S4x2048x256_0_1_2 (res_main_v113 V0))) (broadcastInDim S4x2048x256 ![0, 1, 2] bcast_S4x2048x1_S4x2048x256_0_1_2 (Host.rsqrt (addf (Host.divf (broadcastInDim S4x2048x1 ![0, 1] bcast_S4x2048_S4x2048x1_0_1 (Host.reduceAdd (mulf (res_main_v115 V0) (res_main_v115 V0)) (constant (F := Ideal) S_ .f32 0x00000000#32) reducesTo_S4x2048x256_S4x2048_d2 h_S_)) (broadcastInDim S4x2048x1 ![] bcast_S_S4x2048x1 (constant (F := Ideal) S_ .f32 0x43800000#32))) (broadcastInDim S4x2048x1 ![] bcast_S_S4x2048x1 (constant (F := Ideal) S_ .f32 0x3727C5AC#32)))))) (broadcastInDim S4x2048x256 ![0, 1, 2] bcast_S1x1x256_S4x2048x256_0_1_2 (broadcastInDim S1x1x256 ![2] bcast_S256_S1x1x256_2 (V0 (Proc.devRef .tc main_arg5))))) (broadcastInDim S4x2048x256 ![0, 1, 2] bcast_S1x1x256_S4x2048x256_0_1_2 (broadcastInDim S1x1x256 ![2] bcast_S256_S1x1x256_2 (V0 (Proc.devRef .tc main_arg6)))))

theorem v_at (s : Fin 2048) (j : Fin 256) : vT V0 (ix3 b s j) = (refArgs V0 b).v s.val j := by
  rw [Args.v, ← gV_at, ← hV_at]
  unfold vT
  pointwise [res_main_v115, res_main_v113, v109_at, normed, mean]

/-- The spatial weights. -/
abbrev wT : Vec Ideal S4x128x128 .f32 :=
  (select (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (V0 (Proc.devRef .tc main_arg7)) (broadcastInDim S4x128x128 ![] bcast_S_S4x128x128 (constant (F := Ideal) S_ .f32 0x00000000#32)))

theorem wS_at (h : Fin 4) (p s : Fin 128) : wT V0 (ix3 h p s) = (refArgs V0 b).wS h.val p.val s.val := by
  refine (Cert.MxfIdeal.Mixer.tril_at (V0 (Proc.devRef .tc main_arg7)) h p s).trans ?_
  show _ = dite _ _ _
  rw [dif_pos ⟨h.isLt, p.isLt, s.isLt⟩]

/-- A chunk's rows mixed, at one entry. -/
theorem mixed_at (X : FVec Ideal S4x2048x256 .f32) (W : FVec Ideal S4x128x128 .f32) (h : Fin 4) (k : Fin 16) (d : Fin 64) (p : Fin 128) :
    Host.dotGeneral (F := Ideal) (φ₁ := .f32) (φ₂ := .f32) dot_S4x16x128x4x64_S4x128x128_S4x4x16x64x128_2_2_014_1_3_0 none (shapeCast (α := EReal) _ X shapeCasts_S4x2048x256_S4x16x128x4x64) W (ix5 h b k d p)
      = ∑ s : Fin 128, W (ix3 h p s) * X (ix3 b ⟨k.val * 128 + s.val, by omega⟩ ⟨h.val * 64 + d.val, by omega⟩) := by
  refine Eq.trans (b := ∑ s : Fin 128, X (ix3 b ⟨k.val * 128 + s.val, by omega⟩ ⟨h.val * 64 + d.val, by omega⟩) * W (ix3 h p s)) ?_ (Finset.sum_congr rfl fun s _ => mul_comm _ _)
  pointwise []

/-- The values mixed. -/
def mixT : FVec Ideal S4x4x16x64x128 .f32 :=
  Host.dotGeneral (F := Ideal) (φ₁ := .f32) (φ₂ := .f32) dot_S4x16x128x4x64_S4x128x128_S4x4x16x64x128_2_2_014_1_3_0 none (shapeCast (α := EReal) _ (vT V0 : FVec Ideal S4x2048x256 .f32) shapeCasts_S4x2048x256_S4x16x128x4x64) (wT V0 : FVec Ideal S4x128x128 .f32)

theorem mix_at (h : Fin 4) (k : Fin 16) (d : Fin 64) (p : Fin 128) :
    mixT V0 (ix5 h b k d p) = ∑ s : Fin 128, (refArgs V0 b).wS h.val p.val s.val * (refArgs V0 b).v (128 * k.val + s.val) ⟨64 * h.val + d.val, by omega⟩ := by
  refine (mixed_at b (vT V0) (wT V0) h k d p).trans (Finset.sum_congr rfl fun s _ => ?_)
  rw [wS_at V0 b, v_at]
  congr! 2
  · exact Nat.add_right_cancel_iff.2 (Nat.mul_comm _ _)
  · exact Fin.ext (Nat.add_right_cancel_iff.2 (Nat.mul_comm _ _))

/-- The middle columns. -/
theorem bo_at (s : Fin 2048) (j : Fin 256) :
    (mulf (mulf (mulf (broadcastInDim S4x2048x256 ![] bcast_S_S4x2048x256 (constant (F := Ideal) S_ .f32 0x3F000000#32)) (res_main_v36 V0)) (Host.erfc (mulf (Host.negf (res_main_v36 V0)) (broadcastInDim S4x2048x256 ![] bcast_S_S4x2048x256 (constant (F := Ideal) S_ .f32 0x3F3504F3#32))))) (shapeCast _ (addf (transpose S4x16x128x4x64 [1, 2, 4, 0, 3] (mixT V0) transposes_S4x4x16x64x128_S4x16x128x4x64_1_2_4_0_3) (broadcastInDim S4x16x128x4x64 ![0, 1, 2, 3, 4] bcast_S1x1x128x4x1_S4x16x128x4x64_0_1_2_3_4 (broadcastInDim S1x1x128x4x1 ![2, 3] bcast_S128x4_S1x1x128x4x1_2_3 (transpose S128x4 [1, 0] (V0 (Proc.devRef .tc main_arg8)) transposes_S4x128_S128x4_1_0)))) shapeCasts_S4x16x128x4x64_S4x2048x256)) (ix3 b s j) = (refArgs V0 b).bo (s.val / 128) (s.val % 128) j := by
  pointwise [res_main_v36]
  rw [unit, x_at, mix_at, bS_at V0 b ⟨s.val % 128, Nat.mod_lt _ (by decide)⟩ j, Args.bo, show 128 * (s.val / 128) + s.val % 128 = s.val by omega]
  congr! 8 with t
  exact Nat.div_add_mod j.val 64

/-- The last columns. -/
theorem co_at (s : Fin 2048) (j : Fin 384) :
    (mulf (extractStridedSlice S4x2048x384 ![0, 0, 1280] (res_main_v1 V0) slices_S4x2048x2432_S4x2048x384_0_0_1280) (Host.reduceAdd (mulf (Host.gather gather_S4x2050x384_S2048x3x1_S4x2048x3x384_03_1_n_n_1_2_41384 (concatenate S4x2050x384 1 [⟨S4x2x384, (broadcastInDim S4x2x384 ![] bcast_S_S4x2x384 (constant (F := Ideal) S_ .f32 0x00000000#32))⟩, ⟨S4x2048x384, (mulf (extractStridedSlice S4x2048x384 ![0, 0, 1664] (res_main_v1 V0) slices_S4x2048x2432_S4x2048x384_0_0_1664) (extractStridedSlice S4x2048x384 ![0, 0, 2048] (res_main_v1 V0) slices_S4x2048x2432_S4x2048x384_0_0_2048))⟩] concatenates_S4x2x384_S4x2048x384_S4x2050x384_d1) (broadcastInDim S2048x3x1 ![0, 1] bcast_S2048x3_S2048x3x1_0_1 (select (cmpi .slt (res_main_v155 V0) (broadcastInDim S2048x3 ![] bcast_S_S2048x3 (constantI S_ 32 0#32))) (addi (res_main_v155 V0) (broadcastInDim S2048x3 ![] bcast_S_S2048x3 (constantI S_ 32 2050#32))) (res_main_v155 V0)))) (broadcastInDim S4x2048x3x384 ![0, 1, 2, 3] bcast_S1x1x3x384_S4x2048x3x384_0_1_2_3 (broadcastInDim S1x1x3x384 ![2, 3] bcast_S3x384_S1x1x3x384_2_3 (V0 (Proc.devRef .tc main_arg9))))) (constant (F := Ideal) S_ .f32 0x00000000#32) reducesTo_S4x2048x3x384_S4x2048x384_d2 h_S_)) (ix3 b s j) = (refArgs V0 b).co s.val j.val := by
  show HMul.hMul (α := EReal) (β := EReal) (γ := EReal) (extractStridedSlice S4x2048x384 ![0, 0, 1280] (res_main_v1 V0) slices_S4x2048x2432_S4x2048x384_0_0_1280 (ix3 b s j)) (shortConv (mulf (extractStridedSlice S4x2048x384 ![0, 0, 1664] (res_main_v1 V0) slices_S4x2048x2432_S4x2048x384_0_0_1664) (extractStridedSlice S4x2048x384 ![0, 0, 2048] (res_main_v1 V0) slices_S4x2048x2432_S4x2048x384_0_0_2048)) (V0 (Proc.devRef .tc main_arg9)) (ix3 b s j)) = _
  rw [shortConv_at, Args.co, Finset.sum_range]
  refine congrArg₂ HMul.hMul ?_ (Finset.sum_congr rfl fun t _ => ?_)
  · pointwise []
    rw [x_at]
  · rw [Args.ccs, wC_at V0 b]
    refine congrArg (· * _) ?_
    by_cases h : s.val + t.val < 2
    · rw [dif_pos h, if_pos (by omega)]
    · rw [dif_neg h, if_neg (by omega), show s.val + 6 + t.val - 8 = s.val + t.val - 2 by omega]
      pointwise []
      rw [x_at, x_at]

end Cert.MxfRefIdeal.Mixer
end
-- ==== Proof.Mxf.Value.lean ====
module

public import proofs.«01_k».proof.Defs
public import proofs.«01_k».proof.Proof.Gen.MxfIdeal
public import proofs.«01_k».proof.Proof.Gen.MxfRefIdeal
public import proofs.«01_k».proof.Proof.Gen.MxfRefIdeal.Run
public import proofs.«01_k».proof.Proof.Mxf.Frame
public import proofs.«01_k».proof.Proof.Mxf.Chunks
public import proofs.«01_k».proof.Proof.Mxf.Laid
public import proofs.«01_k».proof.Proof.Mxf.Ref
public import Idealize.ShloMosaic.Lib.Pipeline.ValueKit
public import Idealize.ShloMosaic.Lib.Pipeline.ReadBack

/-!
# The mixer: kernel and reference agree

Each grid point takes one sequence. What its chunks leave, side by side, is the reference's concatenation of the gated
long convolution, the chunked spatial gate and the gated short convolution, and beside it the long convolution itself.
-/

@[expose] public section
set_option maxRecDepth 16384
set_option maxHeartbeats 4000000
noncomputable section

open Idealize.ShloMosaic Idealize.ShloMosaic.TcCoe Idealize.ShloMosaic.Tactic Idealize.SL.Sem

namespace Cert.MxfIdeal.Mixer

open Cert.MxfIdeal Cert.MxfIdeal.Gen

variable (m : (ℓ : Loc nD τ sig) → Buf (Elt Ideal) ℓ) (ρ : Dev nD → PrngReg) (c : Dev nD)

/-- A grid point's rows of the first result. -/
def tile10 (c : Dev nD) (t : Fin cfg0.N) : Vec Ideal S2048x1024 .bf16 := fun y : S2048x1024.Idx => (seqArgs m c (seqOf t)).cat ((y 0).val / 128) ((y 0).val % 128) (y 1).val
/-- A grid point's rows of the second result. -/
def tile11 (c : Dev nD) (t : Fin cfg0.N) : Vec Ideal S2048x384 .f32 := fun y : S2048x384.Idx => (seqArgs m c (seqOf t)).ca (y 0).val (y 1).val

theorem sixteen : k0_t1_loop.trips = 16 := by decide +kernel

theorem names : Named (F := Ideal) m (tile10 m) (tile11 m) false := by
  intro c t 𝒱 bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 f11 f12 f13 f14 e1 e2 e3 e4 e5 e6 e7 e8 e9 e10 _
  have h := done_all 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 f11 f12 f13 f14 16 le_rfl
  rw [e1, e2, e3, e4, e5, e6, e7, e8, e9, e10, tile_args] at h
  rw [sixteen]
  refine ⟨funext fun y => ?_, funext fun y => ?_⟩
  · have ey : y = ix2 (y 0) (y 1) := by funext a; fin_cases a <;> rfl
    exact (congrArg _ ey).trans (h.h11 (y 0) (y 1) (y 0).isLt)
  · have ey : y = ix2 (y 0) (y 1) := by funext a; fin_cases a <;> rfl
    exact (congrArg _ ey).trans (h.h12 (y 0) (y 1) (y 0).isLt)

theorem seq_lt (r : Fin 8192) : r.val / 2048 < 4 := by omega

/-- The first result. -/
def outCat : Buf (Elt Ideal) ((c.tc : Thread nD τ).loc main_v15_0) := fun i : S8192x1024.Idx =>
  (seqArgs m c ⟨(i 0).val / 2048, seq_lt (i 0)⟩).cat ((i 0).val % 2048 / 128) ((i 0).val % 2048 % 128) (i 1).val
/-- The second result. -/
def outCa : Buf (Elt Ideal) ((c.tc : Thread nD τ).loc main_v15_1) := fun i : S8192x384.Idx =>
  (seqArgs m c ⟨(i 0).val / 2048, seq_lt (i 0)⟩).ca ((i 0).val % 2048) (i 1).val

/-- Row `p` of a grid point's tile is row `2048 t + p` of the whole. -/
theorem tile_row {β : Type} {n : Nat} (f : Fin 4 → Nat → Nat → β) (t : Fin cfg0.N) (p : Fin 2048) (j : Fin n) (r q : Nat) (h : r / 2048 < 4)
    (hr : r = t.val * 2048 + p.val) (hq : q = j.val) : f (seqOf t) p.val j.val = f ⟨r / 2048, h⟩ (r % 2048) q := by
  subst hq
  have e : seqOf t = ⟨r / 2048, h⟩ := Fin.ext (by show t.val = r / 2048; omega)
  rw [← e, show r % 2048 = p.val by omega]

theorem finalCat : (dats (F := Ideal) m (tile10 m) (tile11 m) 0 c).arrAt 10 cfg0.N = outCat m c := by
  refine (dats (F := Ideal) m (tile10 m) (tile11 m) 0 c).arrAt_eq_of_covers 10 _ (by decide +kernel) fun t hf y => ?_
  blk_simp
  rw [after0_10]
  unfold tile10 outCat
  refine (tile_row (fun q r j => (seqArgs m c q).cat (r / 128) (r % 128) j) t (y 0) (y 1) _ _ _ ?_ ?_)
  · blk_simp [index_maps t]
  · blk_simp [index_maps t]

theorem finalCa : (dats (F := Ideal) m (tile10 m) (tile11 m) 0 c).arrAt 11 cfg0.N = outCa m c := by
  refine (dats (F := Ideal) m (tile10 m) (tile11 m) 0 c).arrAt_eq_of_covers 11 _ (by decide +kernel) fun t hf y => ?_
  blk_simp
  rw [after0_11]
  unfold tile11 outCa
  refine (tile_row (fun q r j => (seqArgs m c q).ca r j) t (y 0) (y 1) _ _ _ ?_ ?_)
  · blk_simp [index_maps t]
  · blk_simp [index_maps t]

/-- What the kernel leaves: its results, and its arguments as they were. -/
theorem run : θ_run defs (onTc (τ := τ) (main (F := Ideal))) ⟨m, fun _ => 0, ρ⟩ (fun r => ∀ c : Dev nD,
      r.2.mem ((c.tc : Thread nD τ).loc main_v15_0) = outCat m c
      ∧ r.2.mem ((c.tc : Thread nD τ).loc main_v15_1) = outCa m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run _ _ _).mono (fun r h c => ⟨(h.1 c).1.trans (finalCat m c), (h.1 c).2.trans (finalCa m c), h.2.1 c⟩)
    (θ_run_and (named m ρ _ _ (names m)) (kept m ρ _ _ _ (names m)))

end Cert.MxfIdeal.Mixer

namespace Cert.MxfRefIdeal.Mixer

open Cert.MxfRefIdeal Cert.MxfRefIdeal.Gen Cert.MxfRefIdeal.Value Idealize.ShloMosaic.StableHlo
open Cert.MxfIdeal.Mixer (Args argsAt seqArgs outCat outCa seq_lt)

/-- Three groups of columns side by side. -/
theorem beside (X : Vec Ideal S4x2048x384 .f32) (Y : Vec Ideal S4x2048x256 .f32) (Z : Vec Ideal S4x2048x384 .f32) (b : Fin 4) (s : Fin 2048) (j : Fin 1024) :
    concatenate (α := EReal) S4x2048x1024 2 [⟨S4x2048x384, X⟩, ⟨S4x2048x256, Y⟩, ⟨S4x2048x384, Z⟩] concatenates_S4x2048x384_S4x2048x256_S4x2048x384_S4x2048x1024_d2 (ix3 b s j)
      = if h : j.val < 384 then X (ix3 b s ⟨j.val, h⟩) else if h' : j.val - 384 < 256 then Y (ix3 b s ⟨j.val - 384, h'⟩) else Z (ix3 b s ⟨j.val - 640, by omega⟩) := by
  pointwise []
  refine dite_congr rfl (fun _ => rfl) fun h => dite_congr rfl (fun _ => rfl) fun h' => ?_
  exact congrArg (fun q => Z (ix3 b s q)) (Fin.ext (by show j.val - 384 - 256 = j.val - 640; omega))

/-- The concatenated columns, at one entry. -/
theorem cat_at (V0 : Valuation τ sig (Elt Ideal)) (b : Fin 4) (s : Fin 2048) (j : Fin 1024) :
    res_main_v170 V0 (ix3 b s j) = (refArgs V0 b).cat (s.val / 128) (s.val % 128) j.val := by
  rw [Args.cat, show 128 * (s.val / 128) + s.val % 128 = s.val by omega]
  refine (beside _ _ _ b s j).trans ?_
  refine dite_congr rfl (fun h => ao_at V0 b s ⟨j.val, h⟩) fun h => ?_
  exact dite_congr rfl (fun h' => bo_at V0 b s ⟨j.val - 384, h'⟩) fun h' => co_at V0 b s ⟨j.val - 640, by omega⟩

variable (m : (ℓ : Loc Cert.MxfIdeal.nD Cert.MxfIdeal.τ Cert.MxfIdeal.sig) → Buf (Elt Ideal) ℓ)
  (m' : (ℓ : Loc nD τ sig) → Buf (Elt Ideal) ℓ) (c : Dev Cert.MxfIdeal.nD)

/-- The two programs hold the same arguments. -/
def Same : Prop :=
  m' ((c.tc : Thread nD τ).loc main_arg0) = m ((c.tc : Thread Cert.MxfIdeal.nD Cert.MxfIdeal.τ).loc Cert.MxfIdeal.main_arg0)
  ∧ m' ((c.tc : Thread nD τ).loc main_arg1) = m ((c.tc : Thread Cert.MxfIdeal.nD Cert.MxfIdeal.τ).loc Cert.MxfIdeal.main_arg1)
  ∧ m' ((c.tc : Thread nD τ).loc main_arg2) = m ((c.tc : Thread Cert.MxfIdeal.nD Cert.MxfIdeal.τ).loc Cert.MxfIdeal.main_arg2)
  ∧ m' ((c.tc : Thread nD τ).loc main_arg3) = m ((c.tc : Thread Cert.MxfIdeal.nD Cert.MxfIdeal.τ).loc Cert.MxfIdeal.main_arg3)
  ∧ m' ((c.tc : Thread nD τ).loc main_arg4) = m ((c.tc : Thread Cert.MxfIdeal.nD Cert.MxfIdeal.τ).loc Cert.MxfIdeal.main_arg4)
  ∧ m' ((c.tc : Thread nD τ).loc main_arg5) = m ((c.tc : Thread Cert.MxfIdeal.nD Cert.MxfIdeal.τ).loc Cert.MxfIdeal.main_arg5)
  ∧ m' ((c.tc : Thread nD τ).loc main_arg6) = m ((c.tc : Thread Cert.MxfIdeal.nD Cert.MxfIdeal.τ).loc Cert.MxfIdeal.main_arg6)
  ∧ m' ((c.tc : Thread nD τ).loc main_arg7) = m ((c.tc : Thread Cert.MxfIdeal.nD Cert.MxfIdeal.τ).loc Cert.MxfIdeal.main_arg7)
  ∧ m' ((c.tc : Thread nD τ).loc main_arg8) = m ((c.tc : Thread Cert.MxfIdeal.nD Cert.MxfIdeal.τ).loc Cert.MxfIdeal.main_arg8)
  ∧ m' ((c.tc : Thread nD τ).loc main_arg9) = m ((c.tc : Thread Cert.MxfIdeal.nD Cert.MxfIdeal.τ).loc Cert.MxfIdeal.main_arg9)

theorem args_eq (h : Same m m' c) (b : Fin 4) : refArgs (launchContents m' c) b = seqArgs m c b := by
  obtain ⟨h0, h1, h2, h3, h4, h5, h6, h7, h8, h9⟩ := h
  show argsAt (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) b = _
  rw [h0, h1, h2, h3, h4, h5, h6, h7, h8, h9]

theorem agreeCat (h : Same m m' c) : truncf (F := Ideal) .bf16 (shapeCast _ (res_main_v170 (launchContents m' c)) shapeCasts_S4x2048x1024_S8192x1024) bitsLt_bf16_f32 = outCat m c := by
  funext i
  have ei : i = ix2 (i 0) (i 1) := by funext a; fin_cases a <;> rfl
  unfold outCat
  rw [← args_eq m m' c h]
  refine (congrArg _ ei).trans ?_
  refine Eq.trans ?_ (cat_at (launchContents m' c) ⟨(i 0).val / 2048, seq_lt (i 0)⟩ ⟨(i 0).val % 2048, Nat.mod_lt _ (by decide)⟩ (i 1))
  pointwise []

theorem agreeCa (h : Same m m' c) : shapeCast S8192x384 (res_main_v70 (F := Ideal) (launchContents m' c)) shapeCasts_S4x2048x384_S8192x384 = outCa m c := by
  funext i
  have ei : i = ix2 (i 0) (i 1) := by funext a; fin_cases a <;> rfl
  unfold outCa
  rw [← args_eq m m' c h]
  refine (congrArg _ ei).trans ?_
  refine Eq.trans ?_ (ca_at (launchContents m' c) ⟨(i 0).val / 2048, seq_lt (i 0)⟩ ⟨(i 0).val % 2048, Nat.mod_lt _ (by decide)⟩ (i 1))
  pointwise []

end Cert.MxfRefIdeal.Mixer

namespace Cert.MxfIdeal

/-- The mixer's kernel and its reference agree on both results. -/
theorem pair : Cert.algebraic_MxfIdeal_MxfRefIdeal (hMxfIdeal := Cert.MxfIdeal.Gen.facts) (hMxfRefIdeal := Cert.MxfRefIdeal.Gen.facts) := by
  intro m g m' g' _ hag
  refine ⟨fun c => Mixer.outCat m c, fun c => Mixer.outCa m c, Mixer.run m g, ?_⟩
  exact (θ_run (Cert.MxfRefIdeal.defs (F := Ideal)) _ _).mono (fun r p c => ⟨(p c).1.trans (Cert.MxfRefIdeal.Mixer.agreeCat m m' c (hag c)),
    (p c).2.1.trans (Cert.MxfRefIdeal.Mixer.agreeCa m m' c (hag c)), (p c).2.2⟩) (Cert.MxfRefIdeal.Value.run m' g')

end Cert.MxfIdeal
end
-- ==== Proof.LayerNorm.lean ====
module

public import proofs.«01_k».proof.Proof.Reals
public import Idealize.ShloMosaic.Lib.Pipeline.ValueKit

/-!
# One row of the layer norm, and its gradient

The gradient of the layer norm with respect to its argument, in two forms: the closed form over the saved normalised
row and its saved scale, and the one that differentiates the mean, the variance and the reciprocal square root in turn.
They agree on real rows.
-/

@[expose] public section
noncomputable section
namespace Cert.LayerNorm

open Idealize.ShloMosaic Cert.Reals

/-- The row's length. -/
abbrev len : EReal := Ideal.ofBits .f32 0x44800000#32
/-- What is added to the variance. -/
abbrev eps : EReal := Ideal.ofBits .f32 0x3727C5AC#32
abbrev negHalf : EReal := Ideal.ofBits .f32 0xBF000000#32
abbrev two : EReal := Ideal.ofBits .f32 0x40000000#32

/-- The mean of a row. -/
def mean (f : Fin 1024 → EReal) : EReal := Ideal.div (∑ k, f k) len
/-- A row less its mean. -/
def cen (z : Fin 1024 → EReal) (j : Fin 1024) : EReal := z j - mean z
/-- The variance, made positive. -/
def spread (z : Fin 1024 → EReal) : EReal := mean (fun k => cen z k * cen z k) + eps
/-- The reciprocal square root of the variance. -/
def rstd (z : Fin 1024 → EReal) : EReal := Ideal.rsqrt (spread z)
/-- The normalised row. -/
def xhat (z : Fin 1024 → EReal) (j : Fin 1024) : EReal := cen z j * rstd z

/-- The gradient from the normalised row `x`, its scale `r` and the cotangent `e`. -/
def back (e x : Fin 1024 → EReal) (r : EReal) (j : Fin 1024) : EReal :=
  r * (e j - mean e - x j * mean (fun k => e k * x k))

/-- The cotangent of the centred row that comes through the variance. -/
def through (z e : Fin 1024 → EReal) (j : Fin 1024) : EReal :=
  Ideal.div ((∑ k, cen z k * e k) * (negHalf * Ideal.div (rstd z) (spread z))) len * (two * cen z j)

/-- The gradient by the chain rule. -/
def chain (z e : Fin 1024 → EReal) (j : Fin 1024) : EReal :=
  e j * rstd z + through z e j + Ideal.div (∑ k, -(e k * rstd z) + ∑ k, -through z e k) len

theorem len_eq : len = ((1024 : ℝ) : EReal) := by
  simp [Ideal.ofBits, Ideal.ieee, -EReal.coe_mul]; norm_num
theorem negHalf_eq : negHalf = ((-1 / 2 : ℝ) : EReal) := by
  simp [Ideal.ofBits, Ideal.ieee, -EReal.coe_mul]; norm_num
theorem two_eq : two = ((2 : ℝ) : EReal) := by
  simp [Ideal.ofBits, Ideal.ieee, -EReal.coe_mul]; norm_num
theorem eps_pos : ∃ r : ℝ, 0 < r ∧ eps = r := by
  refine ⟨_, ?_, by simp [Ideal.ofBits, Ideal.ieee, -EReal.coe_mul]; rfl⟩
  norm_num

theorem mean_coe (f : Fin 1024 → ℝ) : mean (fun k => (f k : EReal)) = (((∑ k, f k) / 1024 : ℝ) : EReal) := by
  rw [mean, coe_sum, len_eq, div_coe _ _ (by norm_num)]

/-- The parts of a real row, as real numbers. -/
theorem parts (z : Fin 1024 → ℝ) : ∃ (c : Fin 1024 → ℝ) (s r : ℝ), (∑ k, c k = 0) ∧ s ≠ 0 ∧ r / s = r * r * r
    ∧ (cen fun k => (z k : EReal)) = (fun k => (c k : EReal)) ∧ (spread fun k => (z k : EReal)) = s ∧ (rstd fun k => (z k : EReal)) = r := by
  obtain ⟨ε, hε, he⟩ := eps_pos
  let c (k : Fin 1024) : ℝ := z k - (∑ k, z k) / 1024
  let s : ℝ := (∑ k, c k * c k) / 1024 + ε
  have hs : 0 < s := add_pos_of_nonneg_of_pos (div_nonneg (Finset.sum_nonneg fun k _ => mul_self_nonneg _) (by norm_num)) hε
  have hc : (cen fun k => (z k : EReal)) = (fun k => (c k : EReal)) := by
    funext j; rw [cen, mean_coe, ← EReal.coe_sub]
  have hsp : (spread fun k => (z k : EReal)) = s := by
    simp only [spread, hc, ← EReal.coe_mul]
    rw [mean_coe, he, ← EReal.coe_add]
  refine ⟨c, s, (Real.sqrt s)⁻¹, ?_, hs.ne', ?_, hc, hsp, ?_⟩
  · simp only [c, Finset.sum_sub_distrib, Finset.sum_const, Finset.card_univ, Fintype.card_fin, nsmul_eq_mul]
    push_cast; ring
  · have hq := Real.mul_self_sqrt hs.le
    have hn := (Real.sqrt_pos.mpr hs).ne'
    field_simp
    linarith [sq (Real.sqrt s)]
  · rw [rstd, hsp]
    show (if s < 0 then ⊥ else if s = 0 then ⊤ else (((Real.sqrt s)⁻¹ : ℝ) : EReal)) = _
    rw [if_neg hs.le.not_gt, if_neg hs.ne']

/-- The two forms of the gradient agree on real rows. -/
theorem chain_eq_back {z e : Fin 1024 → EReal} (hz : ∀ k, IsReal (z k)) (he : ∀ k, IsReal (e k)) (j : Fin 1024) :
    chain z e j = back e (xhat z) (rstd z) j := by
  choose z' hz' using hz
  choose e' he' using he
  obtain rfl : z = fun k => (z' k : EReal) := funext hz'
  obtain rfl : e = fun k => (e' k : EReal) := funext he'
  obtain ⟨c, s, r, h0, hs, hr, hc, hsp, hrs⟩ := parts z'
  simp only [chain, back, through, xhat, hc, hsp, hrs, len_eq, negHalf_eq, two_eq]
  rw [div_coe _ _ hs, hr]
  simp only [← EReal.coe_mul, ← EReal.coe_neg, coe_sum, ← EReal.coe_add, mean_coe, ← EReal.coe_sub, div_coe _ _ (show (1024 : ℝ) ≠ 0 by norm_num)]
  refine congrArg Real.toEReal ?_
  have e1 : ∑ k, e' k * (c k * r) = r * ∑ k, c k * e' k := by rw [Finset.mul_sum]; exact Finset.sum_congr rfl fun k _ => by ring
  have e2 (a : ℝ) : ∑ k, -(a * (2 * c k)) = 0 := by
    rw [Finset.sum_neg_distrib, ← Finset.mul_sum, ← Finset.mul_sum, h0]; ring
  have e3 : ∑ k, -(e' k * r) = -(r * ∑ k, e' k) := by rw [Finset.sum_neg_distrib, ← Finset.sum_mul]; ring
  rw [e1, e2, e3]
  ring

theorem IsReal_xhat {z : Fin 1024 → EReal} (hz : ∀ k, IsReal (z k)) (j : Fin 1024) : IsReal (xhat z j) := by
  choose z' hz' using hz
  obtain rfl : z = fun k => (z' k : EReal) := funext hz'
  obtain ⟨c, s, r, -, -, -, hc, -, hrs⟩ := parts z'
  exact ⟨c j * r, by rw [xhat, hc, hrs, EReal.coe_mul]⟩

/-! ## The cotangent that enters a layer norm from above -/

/-- The factor of the residual path. -/
abbrev alpha : EReal := Ideal.ofBits .f32 0x3FD744FD#32

/-- The residual's cotangent `d`, scaled, and the product of the branch's cotangent `a` with the branch's weight. -/
def cot {K : ℕ} (d : Fin 8192 → Fin 1024 → EReal) (a : Fin 8192 → Fin K → EReal) (w : Fin 1024 → Fin K → EReal)
    (r : Fin 8192) (j : Fin 1024) : EReal := alpha * d r j + ∑ k, a r k * w j k

theorem alpha_real : IsReal alpha := ⟨_, by simp [Ideal.ofBits, Ideal.ieee, -EReal.coe_mul]; rfl⟩

theorem IsReal_add {x y : EReal} (hx : IsReal x) (hy : IsReal y) : IsReal (x + y) := by
  obtain ⟨a, rfl⟩ := hx
  obtain ⟨b, rfl⟩ := hy
  exact ⟨a + b, (EReal.coe_add a b).symm⟩

theorem IsReal_cot {K : ℕ} {d : Fin 8192 → Fin 1024 → EReal} {a : Fin 8192 → Fin K → EReal} {w : Fin 1024 → Fin K → EReal}
    (hd : ∀ r j, IsReal (d r j)) (ha : ∀ r k, IsReal (a r k)) (hw : ∀ j k, IsReal (w j k)) (r j) : IsReal (cot d a w r j) :=
  IsReal_add (alpha_real.mul (hd r j)) (IsReal.sum _ fun k => (ha r k).mul (hw j k))

/-- The gradient of the scale: the sum over rows of the cotangent times the normalised row. -/
def dscale (z c : Fin 8192 → Fin 1024 → EReal) (j : Fin 1024) : EReal := ∑ r, c r j * xhat (z r) j
/-- The gradient of the shift: the sum over rows of the cotangent. -/
def dshift (c : Fin 8192 → Fin 1024 → EReal) (j : Fin 1024) : EReal := ∑ r, c r j
/-- The gradient of the normalised argument. -/
def darg (z c : Fin 8192 → Fin 1024 → EReal) (g : Fin 1024 → EReal) (r : Fin 8192) : Fin 1024 → EReal :=
  back (fun k => c r k * g k) (xhat (z r)) (rstd (z r))

/-- A tile's rows, folded into eight. -/
def fold (f : Fin 8192 → EReal) (t : Fin 16) (a : Fin 8) : EReal := ∑ b : Fin 64, f ⟨t.val * 512 + (b.val * 8 + a.val), by omega⟩

/-- The folded sums over all tiles make the sum over all rows. -/
theorem sum_fold (f : Fin 8192 → EReal) : ∑ a : Fin 8, ∑ t : Fin 16, fold f t a = ∑ r, f r := by
  unfold fold
  rw [Finset.sum_comm]
  have e (t : Fin 16) : ∑ a : Fin 8, ∑ b : Fin 64, f ⟨t.val * 512 + (b.val * 8 + a.val), by omega⟩ = ∑ x : Fin 512, f ⟨t.val * 512 + x.val, by omega⟩ := by
    rw [Finset.sum_comm]
    exact Fin.sum_mul_add_congr fun b a _ => rfl
  simp only [e]
  exact Fin.sum_mul_add_congr fun t x _ => rfl

end Cert.LayerNorm
-- ==== Proof.Bwd.Norm.lean ====
module

public import proofs.«01_k».proof.Proof.Gen.BwdRefIdeal.Run
public import proofs.«01_k».proof.Proof.LayerNorm
public import Idealize.ShloMosaic.Lib.Pointwise

/-!
# The reference's layer norm over all rows

The steps of the layer norm and of its derivative over the whole array, and each at an index.
-/

@[expose] public section
set_option maxRecDepth 16384
noncomputable section
namespace Cert.NormRef

open Idealize.ShloMosaic Idealize.ShloMosaic.TcCoe Idealize.SL.Sem
open Cert.BwdRefIdeal Cert.BwdRefIdeal.Gen Cert.LayerNorm Cert.Reals

section ops
variable {F : FTy → Type} [FloatOps F]

/-- The mean of each row. -/
def means (x : FVec F S8192x1024 .f32) : FVec F S8192x1 .f32 :=
  Host.divf (broadcastInDim S8192x1 ![0] bcast_S8192_S8192x1_0 (Host.reduceAdd x (constant S_ .f32 0x00000000#32) reducesTo_S8192x1024_S8192_d1 h_S_))
    (broadcastInDim S8192x1 ![] bcast_S_S8192x1 (constant S_ .f32 0x44800000#32))
/-- A column beside every entry of its row. -/
def spreadOut (x : FVec F S8192x1 .f32) : FVec F S8192x1024 .f32 := broadcastInDim S8192x1024 ![0, 1] bcast_S8192x1_S8192x1024_0_1 x
/-- The rows less their means. -/
def centred (z : FVec F S8192x1024 .f32) : FVec F S8192x1024 .f32 := subf z (spreadOut (means z))
/-- The variances, made positive. -/
def spreads (z : FVec F S8192x1024 .f32) : FVec F S8192x1 .f32 :=
  addf (means (mulf (centred z) (centred z))) (broadcastInDim S8192x1 ![] bcast_S_S8192x1 (constant S_ .f32 0x3727C5AC#32))
/-- Their reciprocal square roots. -/
def scales (z : FVec F S8192x1024 .f32) : FVec F S8192x1 .f32 := Host.rsqrt (spreads z)
/-- The normalised rows. -/
def normed (z : FVec F S8192x1024 .f32) : FVec F S8192x1024 .f32 := mulf (centred z) (spreadOut (scales z))
/-- A vector under every row. -/
def under (g : FVec F S1024 .f32) : FVec F S8192x1024 .f32 :=
  broadcastInDim S8192x1024 ![0, 1] bcast_S1x1024_S8192x1024_0_1 (broadcastInDim S1x1024 ![1] bcast_S1024_S1x1024_1 g)
/-- Each row's sum, as a column. -/
def sums (x : FVec F S8192x1024 .f32) : FVec F S8192x1 .f32 :=
  shapeCast S8192x1 (Host.reduceAdd x (constant S_ .f32 0x00000000#32) reducesTo_S8192x1024_S8192_d1 h_S_) shapeCasts_S8192_S8192x1
/-- A column divided by the row's length, beside every entry of its row. -/
def shared (x : FVec F S8192x1 .f32) : FVec F S8192x1024 .f32 :=
  broadcastInDim S8192x1024 ![0] bcast_S8192_S8192x1024_0 (Host.reduceAdd (Host.divf x (broadcastInDim S8192x1 ![] bcast_S_S8192x1 (constant S_ .f32 0x44800000#32)))
    (constant S_ .f32 0x00000000#32) reducesTo_S8192x1_S8192_d1 h_S_)
/-- The part of the gradient that comes through the variance. -/
def throughs (z e : FVec F S8192x1024 .f32) : FVec F S8192x1024 .f32 :=
  mulf (shared (mulf (sums (mulf (centred z) e)) (mulf (broadcastInDim S8192x1 ![] bcast_S_S8192x1 (constant S_ .f32 0xBF000000#32)) (Host.divf (scales z) (spreads z)))))
    (mulf (broadcastInDim S8192x1024 ![] bcast_S_S8192x1024 (constant S_ .f32 0x40000000#32)) (centred z))
/-- The gradient of the layer norm's argument. -/
def chains (z e : FVec F S8192x1024 .f32) : FVec F S8192x1024 .f32 :=
  addf (addf (mulf e (spreadOut (scales z))) (throughs z e))
    (shared (addf (sums (Host.negf (mulf e (spreadOut (scales z))))) (sums (Host.negf (throughs z e)))))
/-- The sum over rows. -/
def down (x : FVec F S8192x1024 .f32) : FVec F S1024 .f32 :=
  Host.reduceAdd (shapeCast S1x1024 (Host.reduceAdd x (constant S_ .f32 0x00000000#32) reducesTo_S8192x1024_S1024_d0 h_S_) shapeCasts_S1024_S1x1024)
    (constant S_ .f32 0x00000000#32) reducesTo_S1x1024_S1024_d0 h_S_
end ops

variable (z e : FVec Ideal S8192x1024 .f32) (g : FVec Ideal S1024 .f32)

/-- A row of an array. -/
def row (r : Fin 8192) (j : Fin 1024) : EReal := z (ix2 r j)

theorem means_at (r : Fin 8192) (x : Fin 1) : means z (ix2 r x) = mean (row z r) := by
  pointwise [means, mean, row]

theorem centred_at (r : Fin 8192) (j : Fin 1024) : centred z (ix2 r j) = cen (row z r) j := by
  pointwise [centred, spreadOut, cen, row, means_at]

theorem spreads_at (r : Fin 8192) (x : Fin 1) : spreads z (ix2 r x) = spread (row z r) := by
  pointwise [spreads, spread, means_at]
  unfold mean row
  pointwise [centred_at]
  rfl

theorem scales_at (r : Fin 8192) (x : Fin 1) : scales z (ix2 r x) = rstd (row z r) := by
  pointwise [scales, rstd, spreads_at]

theorem normed_at (r : Fin 8192) (j : Fin 1024) : normed z (ix2 r j) = xhat (row z r) j := by
  pointwise [normed, xhat, spreadOut, centred_at, scales_at]

theorem under_at (r : Fin 8192) (j : Fin 1024) : under g (ix2 r j) = g (ix1 j) := by
  pointwise [under]

theorem sums_at (r : Fin 8192) (x : Fin 1) : sums z (ix2 r x) = ∑ k, row z r k := by
  pointwise [sums, row]

theorem shared_at (x : FVec Ideal S8192x1 .f32) (r : Fin 8192) (j : Fin 1024) : shared x (ix2 r j) = Ideal.div (x (ix2 r 0)) len := by
  pointwise [shared]
  exact Fin.sum_univ_one _

theorem throughs_at (r : Fin 8192) (j : Fin 1024) : throughs z e (ix2 r j) = through (row z r) (row e r) j := by
  pointwise [throughs, through, shared_at, sums_at, scales_at, spreads_at, centred_at, row]

theorem chains_at (r : Fin 8192) (j : Fin 1024) : chains z e (ix2 r j) = chain (row z r) (row e r) j := by
  pointwise [chains, chain, shared_at, sums_at, scales_at, spreadOut, throughs_at, row]

theorem down_at (j : Fin 1024) : down z (ix1 j) = ∑ r, row z r j := by
  pointwise [down, row]
  exact Fin.sum_univ_one _

end Cert.NormRef
-- ==== Proof.Bwd.Ref.lean ====
module

public import proofs.«01_k».proof.Proof.Bwd.Norm

/-!
# The reference's gradients of the layer norm between two products
-/

@[expose] public section
set_option maxRecDepth 16384
noncomputable section
namespace Cert.BwdRefIdeal.Bridge

open Idealize.ShloMosaic Idealize.ShloMosaic.TcCoe Idealize.SL.Sem
open Cert.BwdRefIdeal Cert.BwdRefIdeal.Gen Cert.LayerNorm Cert.NormRef Cert.Reals

section ops
variable {F : FTy → Type} [FloatOps F] (m : (ℓ : Loc nD τ sig) → Buf (Elt F) ℓ) (c : Dev nD)

abbrev argZ : Vec F S8192x1024 .f32 := m ((c.tc : Thread nD τ).loc main_arg0)
abbrev argG : Vec F S1024 .f32 := m ((c.tc : Thread nD τ).loc main_arg1)
abbrev argW : Vec F S1024x4096 .bf16 := m ((c.tc : Thread nD τ).loc main_arg3)
abbrev argV : Vec F S1024x1024 .bf16 := m ((c.tc : Thread nD τ).loc main_arg4)
abbrev argD : Vec F S8192x1024 .f32 := m ((c.tc : Thread nD τ).loc main_arg5)
abbrev argA : Vec F S8192x4096 .bf16 := m ((c.tc : Thread nD τ).loc main_arg6)

/-- The cotangent that enters the layer norm. -/
def cots : FVec F S8192x1024 .f32 :=
  addf (Host.dotGeneral (F := F) (φ₁ := .f32) (φ₂ := .f32) dot_S8192x4096_S1024x4096_S8192x1024_1_1_0_0_n_n none (extf .f32 (argA m c) bitsLt_bf16_f32) (extf .f32 (argW m c) bitsLt_bf16_f32))
    (mulf (broadcastInDim S8192x1024 ![] bcast_S_S8192x1024 (constant S_ .f32 0x3FD744FD#32)) (argD m c))

/-- The gradient of the layer norm's argument. -/
def out0 : FVec F S8192x1024 .f32 := chains (argZ m c) (mulf (cots m c) (under (argG m c)))

theorem res0_eq : Value.res_main_v70 m c = out0 m c := rfl
theorem res3_eq : Value.res_main_v75 m c = truncf .bf16 (Host.dotGeneral (F := F) (φ₁ := .f32) (φ₂ := .f32) dot_S8192x1024_S1024x1024_S8192x1024_1_1_0_0_n_n none
    (out0 m c) (extf .f32 (argV m c) bitsLt_bf16_f32)) bitsLt_bf16_f32 := rfl

/-- The gradients of the scale and the shift. -/
def out1 : FVec F S1024 .f32 := down (mulf (normed (argZ m c)) (cots m c))
def out2 : FVec F S1024 .f32 := down (cots m c)
end ops

variable (m : (ℓ : Loc nD τ sig) → Buf (Elt Ideal) ℓ) (c : Dev nD)

theorem cots_at (r : Fin 8192) (j : Fin 1024) : cots m c (ix2 r j)
    = cot (fun r j => argD m c (ix2 r j)) (fun r k => argA m c (ix2 r k)) (fun j k => argW m c (ix2 j k)) r j := by
  pointwise [cots, cot]
  exact add_comm _ _

/-- The cotangents by coordinates. -/
def rC : Fin 8192 → Fin 1024 → EReal := cot (fun r j => argD m c (ix2 r j)) (fun r k => argA m c (ix2 r k)) (fun j k => argW m c (ix2 j k))

section real
variable (hz : ∀ i, IsReal (argZ m c i)) (hg : ∀ i, IsReal (argG m c i)) (hd : ∀ i, IsReal (argD m c i)) (ha : ∀ i, IsReal (argA m c i)) (hw : ∀ i, IsReal (argW m c i))
include hz hg hd ha hw

theorem out0_at (r : Fin 8192) (j : Fin 1024) : out0 m c (ix2 r j)
    = darg (row (argZ m c)) (rC m c) (fun j => argG m c (ix1 j)) r j := by
  rw [out0, chains_at, darg]
  have e : row (mulf (cots m c) (under (argG m c))) r = fun k => rC m c r k * argG m c (ix1 k) := by
    funext k
    show cots m c (ix2 r k) * under (argG m c) (ix2 r k) = _
    rw [cots_at, under_at]; rfl
  rw [e]
  exact chain_eq_back (fun k => hz _) (fun k => (IsReal_cot (fun _ _ => hd _) (fun _ _ => ha _) (fun _ _ => hw _) r k).mul (hg _)) j

theorem res3_at (r : Fin 8192) (j : Fin 1024) : Value.res_main_v75 m c (ix2 r j)
    = ∑ k : Fin 1024, darg (row (argZ m c)) (rC m c) (fun j => argG m c (ix1 j)) r k * argV m c (ix2 j k) := by
  rw [res3_eq]
  simp only [← out0_at m c hz hg hd ha hw]
  pointwise
end real

theorem out1_at (j : Fin 1024) : out1 m c (ix1 j) = dscale (row (argZ m c)) (rC m c) j := by
  rw [out1, down_at, dscale]
  refine Finset.sum_congr rfl fun r _ => ?_
  show normed (argZ m c) (ix2 r j) * cots m c (ix2 r j) = _
  rw [normed_at, cots_at, mul_comm]; rfl

theorem out2_at (j : Fin 1024) : out2 m c (ix1 j) = dshift (rC m c) j := by
  rw [out2, down_at, dshift]
  exact Finset.sum_congr rfl fun r _ => cots_at m c r j

end Cert.BwdRefIdeal.Bridge
-- ==== Proof.Bwd.Kernel.lean ====
module

public import proofs.«01_k».proof.Proof.Gen.BwdIdeal.Frame
public import proofs.«01_k».proof.Proof.LayerNorm
public import Idealize.ShloMosaic.Lib.Pipeline.ReadBack

/-!
# The layer norm's backward kernel, fused with the product below it

Each grid point takes a tile of 512 rows. It forms the cotangent that enters the layer norm, writes the tile's gradient
of the layer norm's argument and its product with the next weight, and adds the tile's rows, folded into eight, to the
gradients of the scale and the shift.
-/

@[expose] public section
set_option maxRecDepth 16384
noncomputable section
namespace Cert.BwdIdeal.Bridge

open Idealize.ShloMosaic Idealize.ShloMosaic.TcCoe Idealize.SL.Sem
open Cert.BwdIdeal Cert.BwdIdeal.Gen Cert.LayerNorm
open Idealize.ShloMosaic.Pipeline (Dat)

/-! ## One tile -/

section tile
variable (d : Vec Ideal S512x1024 .f32) (a : Vec Ideal S512x4096 .bf16) (w : Vec Ideal S1024x4096 .bf16)
  (x : Vec Ideal S512x1024 .f32) (r : Vec Ideal S512x1 .f32) (g : Vec Ideal S1x1024 .f32) (v : Vec Ideal S1024x1024 .bf16) (acc : Vec Ideal S8x1024 .f32)

/-- The cotangent of a tile's row. -/
def tcot (s : Fin 512) (j : Fin 1024) : EReal := alpha * d (ix2 s j) + ∑ k : Fin 4096, a (ix2 s k) * w (ix2 j k)

theorem cot_at (s : Fin 512) (j : Fin 1024) : k0_pay5 (F := Ideal) d a w (ix2 s j) = tcot d a w s j := by
  pointwise [k0_pay5, tcot]

theorem scaled_at (s : Fin 512) (j : Fin 1024) : k0_pay9 (F := Ideal) d a w g (ix2 s j) = tcot d a w s j * g (ix2 0 j) := by
  pointwise [k0_pay9, cot_at]

/-- The gradient of a tile's row. -/
def tback (s : Fin 512) : Fin 1024 → EReal :=
  back (fun k => tcot d a w s k * g (ix2 0 k)) (fun k => x (ix2 s k)) (r (ix2 s 0))

theorem back_at (s : Fin 512) (j : Fin 1024) : k0_pay1 (F := Ideal) (k0_pay6 (F := Ideal) x) (k0_pay9 (F := Ideal) d a w g) r (ix2 s j) = tback d a w x r g s j := by
  pointwise [k0_pay1, k0_pay6, scaled_at, tback, back, mean]

theorem next_at (s : Fin 512) (j : Fin 1024) : k0_pay2 (F := Ideal) (k0_pay6 (F := Ideal) x) (k0_pay9 (F := Ideal) d a w g) r v (ix2 s j) = ∑ k : Fin 1024, tback d a w x r g s k * v (ix2 j k) := by
  pointwise [k0_pay2, back_at]

theorem scale_at (s : Fin 8) (j : Fin 1024) : k0_pay7 (F := Ideal) d a w x acc (ix2 s j)
    = acc (ix2 s j) + ∑ b : Fin 64, tcot d a w ⟨b.val * 8 + s.val, by omega⟩ j * x (ix2 ⟨b.val * 8 + s.val, by omega⟩ j) := by
  pointwise [k0_pay7, k0_pay6, cot_at]

theorem shift_at (s : Fin 8) (j : Fin 1024) : k0_pay8 (F := Ideal) d a w acc (ix2 s j)
    = acc (ix2 s j) + ∑ b : Fin 64, tcot d a w ⟨b.val * 8 + s.val, by omega⟩ j := by
  pointwise [k0_pay8, cot_at]

end tile

/-! ## The arguments and the saved values -/

variable (m : (ℓ : Loc nD τ sig) → Buf (Elt Ideal) ℓ) (c : Dev nD)

def aZ (r : Fin 8192) (j : Fin 1024) : EReal := m ((c.tc : Thread nD τ).loc main_arg0) (ix2 r j)
def aG (j : Fin 1024) : EReal := m ((c.tc : Thread nD τ).loc main_arg1) (ix1 j)
def aW (j : Fin 1024) (k : Fin 4096) : EReal := m ((c.tc : Thread nD τ).loc main_arg3) (ix2 j k)
def aV (j : Fin 1024) (k : Fin 1024) : EReal := m ((c.tc : Thread nD τ).loc main_arg4) (ix2 j k)
def aD (r : Fin 8192) (j : Fin 1024) : EReal := m ((c.tc : Thread nD τ).loc main_arg5) (ix2 r j)
def aA (r : Fin 8192) (k : Fin 4096) : EReal := m ((c.tc : Thread nD τ).loc main_arg6) (ix2 r k)
/-- The cotangent of every row. -/
def aC : Fin 8192 → Fin 1024 → EReal := cot (aD m c) (aA m c) (aW m c)

theorem saved_rstd (r : Fin 8192) (x : Fin 1) : V (F := Ideal) m c main_v13 (ix2 r x) = rstd (aZ m c r) := by
  show StableHlo.after hostOps0 _ _ _ = _
  after_results_simp
  pointwise [rstd, spread, cen, mean, aZ]

theorem saved_xhat (r : Fin 8192) (j : Fin 1024) : V (F := Ideal) m c main_v15 (ix2 r j) = xhat (aZ m c r) j := by
  show StableHlo.after hostOps0 _ _ _ = _
  after_results_simp
  pointwise [xhat, rstd, spread, cen, mean, aZ]

theorem saved_g (x : Fin 1) (j : Fin 1024) : V (F := Ideal) m c main_v16 (ix2 x j) = aG m c j := by
  show StableHlo.after hostOps0 _ _ _ = _
  after_results_simp
  pointwise [aG]

theorem index_maps : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] ∧ win0_9.index t = ![0, 0] ∧ win0_10.index t = ![t.val, 0] :=
  (by decide +kernel : ∀ t : Fin grid0.N, _)

/-- The tile of a grid point, and its rows. -/
def tileOf (t : Fin cfg0.N) : Fin 16 := ⟨t.val, lt_of_lt_of_eq t.isLt N_0⟩
def rowOf (t : Fin cfg0.N) (s : Fin 512) : Fin 8192 := ⟨t.val * 512 + s.val, by have := lt_of_lt_of_eq t.isLt N_0; omega⟩

theorem blk_d (t : Fin cfg0.N) (s : Fin 512) (j : Fin 1024) : iblk (F := Ideal) m c 0 t (ix2 s j) = aD m c (rowOf t s) j := by
  blk_simp [iblk]; rw [V_main_arg5]; unfold aD rowOf; blk_ext [index_maps t]
theorem blk_a (t : Fin cfg0.N) (s : Fin 512) (k : Fin 4096) : iblk (F := Ideal) m c 1 t (ix2 s k) = aA m c (rowOf t s) k := by
  blk_simp [iblk]; rw [V_main_arg6]; unfold aA rowOf; blk_ext [index_maps t]
theorem blk_w (t : Fin cfg0.N) (j : Fin 1024) (k : Fin 4096) : iblk (F := Ideal) m c 2 t (ix2 j k) = aW m c j k := by
  blk_simp [iblk]; rw [V_main_arg3]; unfold aW; blk_ext [index_maps t]
theorem blk_x (t : Fin cfg0.N) (s : Fin 512) (j : Fin 1024) : iblk (F := Ideal) m c 3 t (ix2 s j) = xhat (aZ m c (rowOf t s)) j := by
  rw [← saved_xhat]; blk_simp [iblk]; unfold rowOf; blk_ext [index_maps t]
theorem blk_r (t : Fin cfg0.N) (s : Fin 512) (x : Fin 1) : iblk (F := Ideal) m c 4 t (ix2 s x) = rstd (aZ m c (rowOf t s)) := by
  rw [← saved_rstd m c _ x]; blk_simp [iblk]; unfold rowOf; blk_ext [index_maps t]
theorem blk_g (t : Fin cfg0.N) (x : Fin 1) (j : Fin 1024) : iblk (F := Ideal) m c 5 t (ix2 x j) = aG m c j := by
  rw [← saved_g m c x j]; blk_simp [iblk]; blk_ext [index_maps t]
theorem blk_v (t : Fin cfg0.N) (j k : Fin 1024) : iblk (F := Ideal) m c 6 t (ix2 j k) = aV m c j k := by
  blk_simp [iblk]; rw [V_main_arg4]; unfold aV; blk_ext [index_maps t]

theorem tcot_eq (t : Fin cfg0.N) (s : Fin 512) : tcot (iblk (F := Ideal) m c 0 t) (iblk (F := Ideal) m c 1 t) (iblk (F := Ideal) m c 2 t) s = aC m c (rowOf t s) := by
  funext j
  unfold tcot aC cot
  rw [blk_d]
  simp only [blk_a, blk_w]

theorem tback_eq (t : Fin cfg0.N) (s : Fin 512) : tback (iblk (F := Ideal) m c 0 t) (iblk (F := Ideal) m c 1 t) (iblk (F := Ideal) m c 2 t)
    (iblk (F := Ideal) m c 3 t) (iblk (F := Ideal) m c 4 t) (iblk (F := Ideal) m c 5 t) s = darg (aZ m c) (aC m c) (aG m c) (rowOf t s) := by
  unfold tback darg
  simp only [tcot_eq, blk_x, blk_r, blk_g]

/-! ## What a point leaves -/

set_option maxHeartbeats 4000000 in
theorem out7 (t : Fin cfg0.N) (s : Fin 512) (j : Fin 1024) :
    (outsAt0 (F := Ideal) m c t.val t.isLt).1 (ix2 s j) = darg (aZ m c) (aC m c) (aG m c) (rowOf t s) j := by
  rw [← tback_eq, ← back_at]
  by_cases e : t.val % 16 = 0
  · rw [outsAt0_A m c t e]; frame_out
  · rw [outsAt0_B m c t e]; frame_out

set_option maxHeartbeats 4000000 in
theorem out10 (t : Fin cfg0.N) (s : Fin 512) (j : Fin 1024) :
    (outsAt0 (F := Ideal) m c t.val t.isLt).2.2.2 (ix2 s j) = ∑ k : Fin 1024, darg (aZ m c) (aC m c) (aG m c) (rowOf t s) k * aV m c j k := by
  simp only [← tback_eq, ← blk_v m c t]
  rw [← next_at]
  by_cases e : t.val % 16 = 0
  · rw [outsAt0_A m c t e]; frame_out
  · rw [outsAt0_B m c t e]; frame_out

/-- What a point adds to the gradients of the scale and the shift. -/
def part8 (t : Fin cfg0.N) (s : Fin 8) (j : Fin 1024) : EReal := fold (fun r => aC m c r j * xhat (aZ m c r) j) (tileOf t) s
def part9 (t : Fin cfg0.N) (s : Fin 8) (j : Fin 1024) : EReal := fold (fun r => aC m c r j) (tileOf t) s

theorem scale_part (t : Fin cfg0.N) (acc : Vec Ideal S8x1024 .f32) (s : Fin 8) (j : Fin 1024) :
    k0_pay7 (F := Ideal) (iblk (F := Ideal) m c 0 t) (iblk (F := Ideal) m c 1 t) (iblk (F := Ideal) m c 2 t) (iblk (F := Ideal) m c 3 t) acc (ix2 s j)
      = acc (ix2 s j) + part8 m c t s j := by
  rw [scale_at]
  simp only [tcot_eq, blk_x]
  rfl

theorem shift_part (t : Fin cfg0.N) (acc : Vec Ideal S8x1024 .f32) (s : Fin 8) (j : Fin 1024) :
    k0_pay8 (F := Ideal) (iblk (F := Ideal) m c 0 t) (iblk (F := Ideal) m c 1 t) (iblk (F := Ideal) m c 2 t) acc (ix2 s j)
      = acc (ix2 s j) + part9 m c t s j := by
  rw [shift_at]
  simp only [tcot_eq]
  rfl

set_option maxHeartbeats 4000000 in
theorem first (t : Fin cfg0.N) (e : t.val % 16 = 0) (s : Fin 8) (j : Fin 1024) :
    (outsAt0 (F := Ideal) m c t.val t.isLt).2.1 (ix2 s j) = 0 + part8 m c t s j
    ∧ (outsAt0 (F := Ideal) m c t.val t.isLt).2.2.1 (ix2 s j) = 0 + part9 m c t s j := by
  rw [outsAt0_A m c t e]
  constructor
  · frame_out
    refine (scale_part m c t _ s j).trans (congrArg₂ _ ?_ rfl)
    pointwise [k0_pay3]
  · frame_out
    refine (shift_part m c t _ s j).trans (congrArg₂ _ ?_ rfl)
    pointwise [k0_pay4]

set_option maxHeartbeats 4000000 in
theorem later (t : Fin cfg0.N) (e : ¬ t.val % 16 = 0) (lt' : t.val - 1 < cfg0.N) (s : Fin 8) (j : Fin 1024) :
    (outsAt0 (F := Ideal) m c t.val t.isLt).2.1 (ix2 s j) = (outsAt0 (F := Ideal) m c (t.val - 1) lt').2.1 (ix2 s j) + part8 m c t s j
    ∧ (outsAt0 (F := Ideal) m c t.val t.isLt).2.2.1 (ix2 s j) = (outsAt0 (F := Ideal) m c (t.val - 1) lt').2.2.1 (ix2 s j) + part9 m c t s j := by
  rw [outsAt0_B m c t e]
  constructor
  · frame_out
    exact scale_part m c t _ s j
  · frame_out
    exact shift_part m c t _ s j

/-! ## The result arrays -/

theorem final7 : (dats (F := Ideal) m 0 c).arrAt 7 (cfgs 0).N = fun i : S8192x1024.Idx => darg (aZ m c) (aC m c) (aG m c) (i 0) (i 1) := by
  refine (dats (F := Ideal) m 0 c).arrAt_eq_of_covers 7 _ (by decide +kernel) fun t hf y => ?_
  have ey : y = ix2 (y 0) (y 1) := by funext a; fin_cases a <;> rfl
  blk_simp
  rw [after0_7]
  refine (congrArg _ ey).trans ((out7 m c t (y 0) (y 1)).trans ?_)
  refine congrArg₂ _ (Fin.ext ?_) (Fin.ext ?_)
  · dsimp only [rowOf]; blk_simp [index_maps t]
  · dsimp only; blk_simp [index_maps t]

theorem final10 : (dats (F := Ideal) m 0 c).arrAt 10 (cfgs 0).N
    = fun i : S8192x1024.Idx => ∑ k : Fin 1024, darg (aZ m c) (aC m c) (aG m c) (i 0) k * aV m c (i 1) k := by
  refine (dats (F := Ideal) m 0 c).arrAt_eq_of_covers 10 _ (by decide +kernel) fun t hf y => ?_
  have ey : y = ix2 (y 0) (y 1) := by funext a; fin_cases a <;> rfl
  blk_simp
  rw [after0_10]
  refine (congrArg _ ey).trans ((out10 m c t (y 0) (y 1)).trans ?_)
  refine congrArg₂ (fun r j => ∑ k : Fin 1024, darg (aZ m c) (aC m c) (aG m c) r k * aV m c j k) (Fin.ext ?_) (Fin.ext ?_)
  · dsimp only [rowOf]; blk_simp [index_maps t]
  · dsimp only; blk_simp [index_maps t]

theorem sum_part8 (t : Fin cfg0.N) (h : ∀ s : Fin 16, 16 * (t.val / 16) + s.val < cfg0.N) (a a' : Fin 8) (j j' : Fin 1024) (ea : a'.val = a.val) (ej : j'.val = j.val) :
    ∑ s : Fin 16, part8 m c ⟨16 * (t.val / 16) + s.val, h s⟩ a j = ∑ p : Fin 16, fold (fun r => aC m c r j' * xhat (aZ m c r) j') p a' := by
  obtain rfl : a' = a := Fin.ext ea
  obtain rfl : j' = j := Fin.ext ej
  have lt : t.val < 16 := lt_of_lt_of_eq t.isLt N_0
  refine Finset.sum_congr rfl fun s _ => ?_
  exact congrArg (fun p => fold (fun r => aC m c r j' * xhat (aZ m c r) j') p a') (Fin.ext (by dsimp only [tileOf]; omega))

theorem final8 : (dats (F := Ideal) m 0 c).arrAt 8 (cfgs 0).N = fun i : S8x1024.Idx => ∑ t : Fin 16, fold (fun r => aC m c r (i 1) * xhat (aZ m c r) (i 1)) t (i 0) := by
  refine (dats (F := Ideal) m 0 c).arrAt_eq_of_covers 8 _ (by decide +kernel) fun t hf y => ?_
  have ey : y = ix2 (y 0) (y 1) := by funext a; fin_cases a <;> rfl
  blk_simp
  rw [after0_8, Pipeline.eq_sum_fin_of_reset_step_apply_of_flush (fun n h => (outsAt0 (F := Ideal) m c n h).2.1) 16 (fun _ => 0) (fun t j => part8 m c t (j 0) (j 1))
      (fun t h j => by rw [show j = ix2 (j 0) (j 1) by funext a; fin_cases a <;> rfl]; exact (first m c t h (j 0) (j 1)).1)
      (fun t h j => by rw [show j = ix2 (j 0) (j 1) by funext a; fin_cases a <;> rfl]; exact (later m c t h _ (j 0) (j 1)).1) t ((flush0_8 t).mp hf) _, zero_add]
  show (∑ s : Fin 16, part8 m c ⟨16 * (t.val / 16) + s.val, Pipeline.run_point_lt_of_flush t ((flush0_8 t).mp hf) s⟩ (y 0) (y 1) : EReal) = (_ : EReal)
  refine sum_part8 m c t _ (y 0) _ (y 1) _ ?_ ?_
  · blk_simp [index_maps t]
  · blk_simp [index_maps t]

theorem sum_part9 (t : Fin cfg0.N) (h : ∀ s : Fin 16, 16 * (t.val / 16) + s.val < cfg0.N) (a a' : Fin 8) (j j' : Fin 1024) (ea : a'.val = a.val) (ej : j'.val = j.val) :
    ∑ s : Fin 16, part9 m c ⟨16 * (t.val / 16) + s.val, h s⟩ a j = ∑ p : Fin 16, fold (fun r => aC m c r j') p a' := by
  obtain rfl : a' = a := Fin.ext ea
  obtain rfl : j' = j := Fin.ext ej
  have lt : t.val < 16 := lt_of_lt_of_eq t.isLt N_0
  refine Finset.sum_congr rfl fun s _ => ?_
  exact congrArg (fun p => fold (fun r => aC m c r j') p a') (Fin.ext (by dsimp only [tileOf]; omega))

theorem final9 : (dats (F := Ideal) m 0 c).arrAt 9 (cfgs 0).N = fun i : S8x1024.Idx => ∑ t : Fin 16, fold (fun r => aC m c r (i 1)) t (i 0) := by
  refine (dats (F := Ideal) m 0 c).arrAt_eq_of_covers 9 _ (by decide +kernel) fun t hf y => ?_
  have ey : y = ix2 (y 0) (y 1) := by funext a; fin_cases a <;> rfl
  blk_simp
  rw [after0_9, Pipeline.eq_sum_fin_of_reset_step_apply_of_flush (fun n h => (outsAt0 (F := Ideal) m c n h).2.2.1) 16 (fun _ => 0) (fun t j => part9 m c t (j 0) (j 1))
      (fun t h j => by rw [show j = ix2 (j 0) (j 1) by funext a; fin_cases a <;> rfl]; exact (first m c t h (j 0) (j 1)).2)
      (fun t h j => by rw [show j = ix2 (j 0) (j 1) by funext a; fin_cases a <;> rfl]; exact (later m c t h _ (j 0) (j 1)).2) t ((flush0_9 t).mp hf) _, zero_add]
  show (∑ s : Fin 16, part9 m c ⟨16 * (t.val / 16) + s.val, Pipeline.run_point_lt_of_flush t ((flush0_9 t).mp hf) s⟩ (y 0) (y 1) : EReal) = (_ : EReal)
  refine sum_part9 m c t _ (y 0) _ (y 1) _ ?_ ?_
  · blk_simp [index_maps t]
  · blk_simp [index_maps t]

end Cert.BwdIdeal.Bridge
-- ==== Proof.Bwd.Value.lean ====
module

public import proofs.«01_k».proof.Defs
public import proofs.«01_k».proof.Proof.Gen.BwdIdeal
public import proofs.«01_k».proof.Proof.Gen.BwdRefIdeal
public import proofs.«01_k».proof.Proof.Bwd.Ref
public import proofs.«01_k».proof.Proof.Bwd.Kernel

/-!
# The layer norm's backward pass between two products: kernel and reference agree
-/

@[expose] public section
set_option maxRecDepth 16384
noncomputable section

open Idealize.ShloMosaic Idealize.ShloMosaic.TcCoe Idealize.SL.Sem Cert.Reals Cert.LayerNorm

namespace Cert.Pre_finite_bwd

instance facts : Cert.Pre_finite_bwd.Facts := by constructor <;> decide

variable (z : FVec Ideal S8192x1024 .f32) (g b : FVec Ideal S1024 .f32) (w : FVec Ideal S1024x4096 .bf16) (v : FVec Ideal S1024x1024 .bf16)
  (d : FVec Ideal S8192x1024 .f32) (a : FVec Ideal S8192x4096 .bf16)

theorem realZ (i) (h : (fn (F := Ideal) z g b w v d a).1 i = 1#1) : IsReal (z i) := by
  refine IsReal.of_finite (Eq.trans ?_ h); unfold fn; pointwise

theorem realG (i) (h : (fn (F := Ideal) z g b w v d a).2.1 i = 1#1) : IsReal (g i) := by
  refine IsReal.of_finite (Eq.trans ?_ h); unfold fn; pointwise

theorem realW (i) (h : (fn (F := Ideal) z g b w v d a).2.2.1 i = 1#1) : IsReal (w i) := by
  refine IsReal.of_finite (Eq.trans ?_ h); unfold fn; pointwise

theorem realD (i) (h : (fn (F := Ideal) z g b w v d a).2.2.2.1 i = 1#1) : IsReal (d i) := by
  refine IsReal.of_finite (Eq.trans ?_ h); unfold fn; pointwise

theorem realA (i) (h : (fn (F := Ideal) z g b w v d a).2.2.2.2 i = 1#1) : IsReal (a i) := by
  refine IsReal.of_finite (Eq.trans ?_ h); unfold fn; pointwise

end Cert.Pre_finite_bwd

namespace Cert.BwdIdeal.Bridge

open Cert.BwdIdeal Cert.BwdIdeal.Gen

variable (m : (ℓ : Loc nD τ sig) → Buf (Elt Ideal) ℓ) (ρ : Dev nD → PrngReg) (c : Dev nD)

/-- The gradient of the normed rows' argument. -/
def outZ : Buf (Elt Ideal) ((c.tc : Thread nD τ).loc main_v17_0) := fun i : S8192x1024.Idx => darg (aZ m c) (aC m c) (aG m c) (i 0) (i 1)
/-- The gradient of the norm's scale. -/
def outG : Buf (Elt Ideal) ((c.tc : Thread nD τ).loc main_v18) := fun i : S1024.Idx => dscale (aZ m c) (aC m c) (i 0)
/-- The gradient of the norm's shift. -/
def outB : Buf (Elt Ideal) ((c.tc : Thread nD τ).loc main_v19) := fun i : S1024.Idx => dshift (aC m c) (i 0)
/-- The gradient of the rows that the product before the norm took. -/
def outO : Buf (Elt Ideal) ((c.tc : Thread nD τ).loc main_v17_3) :=
  fun i : S8192x1024.Idx => (∑ k : Fin 1024, darg (aZ m c) (aC m c) (aG m c) (i 0) k * aV m c (i 1) k : EReal)

theorem arr_apart : Function.Injective (Pipeline.arrRef spec0) := by decide

theorem folded_sum (f : Fin 8 → Fin 1024 → EReal) (x : Vec Ideal S8x1024 .f32) (hx : x = fun i : S8x1024.Idx => f (i 0) (i 1)) (j : Fin 1024) :
    Host.reduceAdd (F := Ideal) x (constant S_ .f32 0x00000000#32) reducesTo_S8x1024_S1024_d0 h_S_ (ix1 j) = ∑ a, f a j := by
  subst hx; pointwise

/-- The scale's gradient: the eight rows of partial sums that the call leaves, added. -/
theorem tail_scale : Pipeline.afterTail₀ cfgs (dats (F := Ideal) m) 0 (V0 m) [hostOps1] c main_v18 = outG m c := by
  unfold Pipeline.afterTail₀
  show StableHlo.after hostOps1 _ _ = _
  after_results_simp
  rw [Pipeline.withArrays_arr spec0 arr_apart c _ _ 8]
  funext i
  have ei : i = ix1 (i 0) := by funext a; fin_cases a; rfl
  rw [ei]
  refine (folded_sum (fun a j => ∑ t : Fin 16, fold (fun r => aC m c r j * xhat (aZ m c r) j) t a) _ (final8 m c) (i 0)).trans ?_
  exact (sum_fold (fun r => aC m c r (i 0) * xhat (aZ m c r) (i 0)))

/-- The shift's gradient, likewise. -/
theorem tail_shift : Pipeline.afterTail₀ cfgs (dats (F := Ideal) m) 0 (V0 m) [hostOps1] c main_v19 = outB m c := by
  unfold Pipeline.afterTail₀
  show StableHlo.after hostOps1 _ _ = _
  after_results_simp
  rw [Pipeline.withArrays_arr spec0 arr_apart c _ _ 9]
  funext i
  have ei : i = ix1 (i 0) := by funext a; fin_cases a; rfl
  rw [ei]
  refine (folded_sum (fun a j => ∑ t : Fin 16, fold (fun r => aC m c r j) t a) _ (final9 m c) (i 0)).trans ?_
  exact (sum_fold (fun r => aC m c r (i 0)))

/-- What the kernel leaves: its four results, and its arguments as they were. -/
theorem run : θ_run defs (onTc (τ := τ) (main (F := Ideal))) ⟨m, fun _ => 0, ρ⟩ (fun r => ∀ c : Dev nD,
      r.2.mem ((c.tc : Thread nD τ).loc main_v17_0) = outZ m c
      ∧ r.2.mem ((c.tc : Thread nD τ).loc main_v18) = outG m c
      ∧ r.2.mem ((c.tc : Thread nD τ).loc main_v19) = outB m c
      ∧ r.2.mem ((c.tc : Thread nD τ).loc main_v17_3) = outO m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run _ _ _).mono (fun r h c => ⟨((h.1 c).1 7).trans (final7 m c), ((h.1 c).2 main_v18 (by decide)).trans (tail_scale m c),
    ((h.1 c).2 main_v19 (by decide)).trans (tail_shift m c), ((h.1 c).1 10).trans (final10 m c), h.2 c⟩) (θ_run_and (Gen.run_main m ρ) (Gen.unchanged m ρ))

end Cert.BwdIdeal.Bridge

namespace Cert.BwdRefIdeal.Bridge

open Cert.BwdIdeal.Bridge Cert.NormRef

variable (m : (ℓ : Loc Cert.BwdIdeal.nD Cert.BwdIdeal.τ Cert.BwdIdeal.sig) → Buf (Elt Ideal) ℓ)
  (m' : (ℓ : Loc Cert.BwdRefIdeal.nD Cert.BwdRefIdeal.τ Cert.BwdRefIdeal.sig) → Buf (Elt Ideal) ℓ) (c : Dev Cert.BwdIdeal.nD)

/-- The two programs hold the same arguments. -/
def Same : Prop :=
  argZ m' c = m ((c.tc : Thread Cert.BwdIdeal.nD Cert.BwdIdeal.τ).loc Cert.BwdIdeal.main_arg0)
  ∧ argG m' c = m ((c.tc : Thread Cert.BwdIdeal.nD Cert.BwdIdeal.τ).loc Cert.BwdIdeal.main_arg1)
  ∧ argW m' c = m ((c.tc : Thread Cert.BwdIdeal.nD Cert.BwdIdeal.τ).loc Cert.BwdIdeal.main_arg3)
  ∧ argV m' c = m ((c.tc : Thread Cert.BwdIdeal.nD Cert.BwdIdeal.τ).loc Cert.BwdIdeal.main_arg4)
  ∧ argD m' c = m ((c.tc : Thread Cert.BwdIdeal.nD Cert.BwdIdeal.τ).loc Cert.BwdIdeal.main_arg5)
  ∧ argA m' c = m ((c.tc : Thread Cert.BwdIdeal.nD Cert.BwdIdeal.τ).loc Cert.BwdIdeal.main_arg6)

/-- The arguments whose values enter a quotient or a difference are finite. -/
def Real : Prop := (∀ i, IsReal (argZ m' c i)) ∧ (∀ i, IsReal (argG m' c i)) ∧ (∀ i, IsReal (argD m' c i)) ∧ (∀ i, IsReal (argA m' c i)) ∧ ∀ i, IsReal (argW m' c i)

variable (e : Same m m' c)
include e

theorem same_z : row (argZ m' c) = aZ m c := by funext r j; exact congrFun e.1 _
theorem same_g : (fun j => argG m' c (ix1 j)) = aG m c := by funext j; exact congrFun e.2.1 _
theorem same_v (j k : Fin 1024) : argV m' c (ix2 j k) = aV m c j k := congrFun e.2.2.2.1 _
theorem same_c : rC m' c = aC m c := by
  unfold rC aC
  rw [e.2.2.1, e.2.2.2.2.1, e.2.2.2.2.2]; rfl

theorem agree1 : out1 m' c = outG m c := by
  funext i
  have ei : i = ix1 (i 0) := by funext a; fin_cases a; rfl
  rw [ei]; refine (out1_at m' c (i 0)).trans ?_
  rw [same_z m m' c e, same_c m m' c e]; rfl

theorem agree2 : out2 m' c = outB m c := by
  funext i
  have ei : i = ix1 (i 0) := by funext a; fin_cases a; rfl
  rw [ei]; refine (out2_at m' c (i 0)).trans ?_
  rw [same_c m m' c e]; rfl

variable (h : Real m' c)
include h

theorem agree0 : out0 m' c = outZ m c := by
  funext i
  have ei : i = ix2 (i 0) (i 1) := by funext a; fin_cases a <;> rfl
  rw [ei]; refine (out0_at m' c h.1 h.2.1 h.2.2.1 h.2.2.2.1 h.2.2.2.2 (i 0) (i 1)).trans ?_
  rw [same_z m m' c e, same_c m m' c e, same_g m m' c e]; rfl

theorem agree3 : Value.res_main_v75 m' c = outO m c := by
  funext i
  have ei : i = ix2 (i 0) (i 1) := by funext a; fin_cases a <;> rfl
  rw [ei]; refine (res3_at m' c h.1 h.2.1 h.2.2.1 h.2.2.2.1 h.2.2.2.2 (i 0) (i 1)).trans ?_
  rw [same_z m m' c e, same_c m m' c e, same_g m m' c e]
  exact Finset.sum_congr (M := EReal) rfl fun k _ => congrArg (_ * ·) (same_v m m' c e _ _)

end Cert.BwdRefIdeal.Bridge

/-- The call's four results are those of the derivative of the forward lines. -/
theorem Cert.BwdIdeal.pair : Cert.algebraic_BwdIdeal_BwdRefIdeal_pre_finite_bwd (hBwdIdeal := Cert.BwdIdeal.Gen.facts)
    (hBwdRefIdeal := Cert.BwdRefIdeal.Gen.facts) (hPre_finite_bwd := Cert.Pre_finite_bwd.facts) := by
  intro m g m' g' hpre hagree
  refine ⟨fun c => Cert.BwdIdeal.Bridge.outZ m c, fun c => Cert.BwdIdeal.Bridge.outG m c, fun c => Cert.BwdIdeal.Bridge.outB m c,
    fun c => Cert.BwdIdeal.Bridge.outO m c, Cert.BwdIdeal.Bridge.run m g, ?_⟩
  have e (c) : Cert.BwdRefIdeal.Bridge.Same m m' c := ⟨(hagree c).1, (hagree c).2.1, (hagree c).2.2.2.1, (hagree c).2.2.2.2.1, (hagree c).2.2.2.2.2.1, (hagree c).2.2.2.2.2.2⟩
  have h (c) : Cert.BwdRefIdeal.Bridge.Real m' c := by
    refine ⟨fun i => ?_, fun i => ?_, fun i => ?_, fun i => ?_, fun i => ?_⟩
    · rw [(e c).1]; exact Cert.Pre_finite_bwd.realZ _ _ _ _ _ _ _ i (congrFun (hpre c).1 i)
    · rw [(e c).2.1]; exact Cert.Pre_finite_bwd.realG _ _ _ _ _ _ _ i (congrFun (hpre c).2.1 i)
    · rw [(e c).2.2.2.2.1]; exact Cert.Pre_finite_bwd.realD _ _ _ _ _ _ _ i (congrFun (hpre c).2.2.2.1 i)
    · rw [(e c).2.2.2.2.2]; exact Cert.Pre_finite_bwd.realA _ _ _ _ _ _ _ i (congrFun (hpre c).2.2.2.2 i)
    · rw [(e c).2.2.1]; exact Cert.Pre_finite_bwd.realW _ _ _ _ _ _ _ i (congrFun (hpre c).2.2.1 i)
  exact (θ_run _ _ _).mono (fun r p c => ⟨(p c).1.trans (Cert.BwdRefIdeal.Bridge.agree0 m m' c (e c) (h c)),
    (p c).2.1.trans (Cert.BwdRefIdeal.Bridge.agree1 m m' c (e c)), (p c).2.2.1.trans (Cert.BwdRefIdeal.Bridge.agree2 m m' c (e c)),
    (p c).2.2.2.1.trans (Cert.BwdRefIdeal.Bridge.agree3 m m' c (e c) (h c)), (p c).2.2.2.2⟩) (Cert.BwdRefIdeal.Value.run m' g')

end
-- ==== Proof.Loss.Row.lean ====
module

public import proofs.«01_k».proof.Proof.LayerNorm

/-!
# The squared loss over all rows

The error of the normed rows against the target, the cotangent it sends into the layer norm, and the loss, which the
kernel adds up by tiles and the reference by rows.
-/

@[expose] public section
noncomputable section
namespace Cert.LayerNorm

open Idealize.ShloMosaic Cert.Reals

abbrev half : EReal := Ideal.ofBits .f32 0x3F000000#32
abbrev one : EReal := Ideal.ofBits .f32 0x3F800000#32
/-- The reciprocal of the row's length. -/
abbrev share : EReal := Ideal.ofBits .f32 0x3A800000#32

theorem half_eq : half = ((1 / 2 : ℝ) : EReal) := by
  simp [Ideal.ofBits, Ideal.ieee, -EReal.coe_mul]; norm_num
theorem one_eq : one = ((1 : ℝ) : EReal) := by
  simp [Ideal.ofBits, Ideal.ieee, -EReal.coe_mul]
theorem share_eq : share = ((1 / 1024 : ℝ) : EReal) := by
  simp [Ideal.ofBits, Ideal.ieee, -EReal.coe_mul]; norm_num

/-- The error of the normed, scaled and shifted rows. -/
def errs (z t : Fin 8192 → Fin 1024 → EReal) (g b : Fin 1024 → EReal) (r : Fin 8192) (j : Fin 1024) : EReal :=
  xhat (z r) j * g j + b j - t r j

/-- The cotangent that the loss sends into the layer norm. -/
def lossCot (z t : Fin 8192 → Fin 1024 → EReal) (g b : Fin 1024 → EReal) (r : Fin 8192) (j : Fin 1024) : EReal := errs z t g b r j * share

/-- The loss, added up by rows. -/
def lossByRows (e : Fin 8192 → Fin 1024 → EReal) : EReal := half * ∑ r, Ideal.div (∑ j, e r j * e r j) len
/-- The loss, added up over tiles of folded rows. -/
def lossByTiles (e : Fin 8192 → Fin 1024 → EReal) : EReal :=
  Ideal.div (half * ∑ a : Fin 8, ∑ j : Fin 1024, ∑ t : Fin 16, fold (fun r => e r j * e r j) t a) len

theorem cot_factor (x : EReal) : Ideal.div (half * one) len * (two * x) = x * share := by
  rw [half_eq, one_eq, len_eq, two_eq, share_eq, ← EReal.coe_mul, div_coe _ _ (by norm_num), ← mul_assoc, ← EReal.coe_mul, mul_comm]
  norm_num

theorem IsReal_sub {x y : EReal} (hx : IsReal x) (hy : IsReal y) : IsReal (x - y) := by
  obtain ⟨a, rfl⟩ := hx
  obtain ⟨b, rfl⟩ := hy
  exact ⟨a - b, (EReal.coe_sub a b).symm⟩

theorem IsReal_errs {z t : Fin 8192 → Fin 1024 → EReal} {g b : Fin 1024 → EReal} (hz : ∀ r j, IsReal (z r j)) (ht : ∀ r j, IsReal (t r j))
    (hg : ∀ j, IsReal (g j)) (hb : ∀ j, IsReal (b j)) (r j) : IsReal (errs z t g b r j) :=
  IsReal_sub (IsReal_add ((IsReal_xhat (hz r) j).mul (hg j)) (hb j)) (ht r j)

theorem loss_eq {e : Fin 8192 → Fin 1024 → EReal} (he : ∀ r j, IsReal (e r j)) : lossByTiles e = lossByRows e := by
  choose e' he' using he
  obtain rfl : e = fun r j => (e' r j : EReal) := funext fun r => funext fun j => he' r j
  unfold lossByTiles lossByRows
  rw [Finset.sum_comm]
  simp only [sum_fold]
  rw [Finset.sum_comm]
  simp only [← EReal.coe_mul, coe_sum, len_eq, half_eq, div_coe _ _ (show (1024 : ℝ) ≠ 0 by norm_num)]
  refine congrArg Real.toEReal ?_
  rw [← Finset.sum_div]
  ring

/-- A sum over the sixteen tiles of a call, its points taken in turn. -/
theorem sum_parts (f : Fin 16 → Fin 8 → Fin 1024 → EReal) (q : ℕ) (hq : q < 16) (p : Fin 16 → Fin 16) (hp : ∀ s, (p s).val = 16 * (q / 16) + s.val)
    {a a' : Fin 8} {j j' : Fin 1024} (ea : a'.val = a.val) (ej : j'.val = j.val) : ∑ s, f (p s) a j = ∑ t, f t a' j' := by
  obtain rfl : a' = a := Fin.ext ea
  obtain rfl : j' = j := Fin.ext ej
  exact Finset.sum_congr rfl fun s _ => congrArg (fun t => f t a' j') (Fin.ext (by rw [hp]; omega))

end Cert.LayerNorm
-- ==== Proof.Loss.Ref.lean ====
module

public import proofs.«01_k».proof.Proof.Gen.LossRefIdeal.Run
public import proofs.«01_k».proof.Proof.Bwd.Norm
public import proofs.«01_k».proof.Proof.Loss.Row

/-!
# The reference's loss and its gradients
-/

@[expose] public section
set_option maxRecDepth 16384
noncomputable section
namespace Cert.LossRefIdeal.Bridge

open Idealize.ShloMosaic Idealize.ShloMosaic.TcCoe Idealize.SL.Sem
open Cert.LossRefIdeal Cert.LossRefIdeal.Gen Cert.LayerNorm Cert.NormRef Cert.Reals

section ops
variable {F : FTy → Type} [FloatOps F] (m : (ℓ : Loc nD τ sig) → Buf (Elt F) ℓ) (c : Dev nD)

abbrev argZ : Vec F S8192x1024 .f32 := m ((c.tc : Thread nD τ).loc main_arg0)
abbrev argG : Vec F S1024 .f32 := m ((c.tc : Thread nD τ).loc main_arg1)
abbrev argB : Vec F S1024 .f32 := m ((c.tc : Thread nD τ).loc main_arg2)
abbrev argT : Vec F S8192x1024 .f32 := m ((c.tc : Thread nD τ).loc main_arg3)

/-- The error against the target. -/
def errors : FVec F S8192x1024 .f32 := subf (addf (mulf (normed (argZ m c)) (under (argG m c))) (under (argB m c))) (argT m c)
/-- The cotangent that the loss sends into the layer norm. -/
def cots : FVec F S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32)))
    (broadcastInDim S8192 ![] bcast_S_S8192 (constant S_ .f32 0x44800000#32))))
    (mulf (broadcastInDim S8192x1024 ![] bcast_S_S8192x1024 (constant S_ .f32 0x40000000#32)) (errors m c))

/-- The loss. -/
def outL : FVec F S_ .f32 :=
  mulf (constant S_ .f32 0x3F000000#32) (Host.reduceAdd (Host.divf (Host.reduceAdd (mulf (errors m c) (errors m c)) (constant S_ .f32 0x00000000#32) reducesTo_S8192x1024_S8192_d1 h_S_)
    (broadcastInDim S8192 ![] bcast_S_S8192 (constant S_ .f32 0x44800000#32))) (constant S_ .f32 0x00000000#32) reducesTo_S8192_S_d0 h_S_)
def out0 : FVec F S8192x1024 .f32 := chains (argZ m c) (mulf (cots m c) (under (argG m c)))
def out1 : FVec F S1024 .f32 := down (mulf (normed (argZ m c)) (cots m c))
def out2 : FVec F S1024 .f32 := down (cots m c)

theorem resL_eq : Value.res_main_v37 m c = outL m c := rfl
theorem res0_eq : Value.res_main_v76 m c = out0 m c := rfl
theorem res1_eq : Value.res_main_v52 m c = out1 m c := rfl
end ops

variable (m : (ℓ : Loc nD τ sig) → Buf (Elt Ideal) ℓ) (c : Dev nD)

/-- The errors and the cotangents by coordinates. -/
def rE : Fin 8192 → Fin 1024 → EReal := errs (row (argZ m c)) (row (argT m c)) (fun j => argG m c (ix1 j)) (fun j => argB m c (ix1 j))
def rC : Fin 8192 → Fin 1024 → EReal := lossCot (row (argZ m c)) (row (argT m c)) (fun j => argG m c (ix1 j)) (fun j => argB m c (ix1 j))

theorem errors_at (r : Fin 8192) (j : Fin 1024) : errors m c (ix2 r j) = rE m c r j := by
  show normed (argZ m c) (ix2 r j) * under (argG m c) (ix2 r j) + under (argB m c) (ix2 r j) - argT m c (ix2 r j) = _
  rw [normed_at, under_at, under_at]; rfl

theorem cots_at (r : Fin 8192) (j : Fin 1024) : cots m c (ix2 r j) = rC m c r j := by
  refine Eq.trans ?_ (cot_factor (rE m c r j))
  pointwise [cots, errors_at]

theorem outL_at (i : S_.Idx) : outL m c i = lossByRows (rE m c) := by
  pointwise [outL, errors_at, lossByRows]

theorem out0_at (hz : ∀ i, IsReal (argZ m c i)) (hg : ∀ i, IsReal (argG m c i)) (hc : ∀ r j, IsReal (rC m c r j)) (r : Fin 8192) (j : Fin 1024) :
    out0 m c (ix2 r j) = darg (row (argZ m c)) (rC m c) (fun j => argG m c (ix1 j)) r j := by
  rw [out0, chains_at, darg]
  have e : row (mulf (cots m c) (under (argG m c))) r = fun k => rC m c r k * argG m c (ix1 k) := by
    funext k
    show cots m c (ix2 r k) * under (argG m c) (ix2 r k) = _
    rw [cots_at, under_at]
  rw [e]
  exact chain_eq_back (fun k => hz _) (fun k => (hc r k).mul (hg _)) j

theorem out1_at (j : Fin 1024) : out1 m c (ix1 j) = dscale (row (argZ m c)) (rC m c) j := by
  rw [out1, down_at, dscale]
  refine Finset.sum_congr rfl fun r _ => ?_
  show normed (argZ m c) (ix2 r j) * cots m c (ix2 r j) = _
  rw [normed_at, cots_at, mul_comm]

theorem out2_at (j : Fin 1024) : out2 m c (ix1 j) = dshift (rC m c) j := by
  rw [out2, down_at, dshift]
  exact Finset.sum_congr rfl fun r _ => cots_at m c r j

end Cert.LossRefIdeal.Bridge
-- ==== Proof.Loss.Kernel.lean ====
module

public import proofs.«01_k».proof.Proof.Gen.LossIdeal.Frame
public import proofs.«01_k».proof.Proof.Loss.Row
public import Idealize.ShloMosaic.Lib.Pipeline.ReadBack

/-!
# The loss's kernel, with the gradient of the layer norm before it

Each grid point takes a tile of 512 rows. It forms the error against the target, writes the tile's gradient of the layer
norm's argument, and adds the tile's rows, folded into eight, to the squared error and to the gradients of the scale and
the shift.
-/

@[expose] public section
set_option maxRecDepth 16384
noncomputable section
namespace Cert.LossIdeal.Bridge

open Idealize.ShloMosaic Idealize.ShloMosaic.TcCoe Idealize.SL.Sem
open Cert.LossIdeal Cert.LossIdeal.Gen Cert.LayerNorm

/-! ## One tile -/

section tile
variable (y : Vec Ideal S512x1024 .f32) (t : Vec Ideal S512x1024 .f32) (x : Vec Ideal S512x1024 .f32) (r : Vec Ideal S512x1 .f32) (g : Vec Ideal S1x1024 .f32)
  (acc : Vec Ideal S8x1024 .f32)

def terr (s : Fin 512) (j : Fin 1024) : EReal := y (ix2 s j) - t (ix2 s j)

theorem err_at (s : Fin 512) (j : Fin 1024) : k0_pay5 (F := Ideal) y t (ix2 s j) = terr y t s j := by
  pointwise [k0_pay5, terr]

theorem cot_at (s : Fin 512) (j : Fin 1024) : k0_pay7 (F := Ideal) y t (ix2 s j) = terr y t s j * share := by
  pointwise [k0_pay7, err_at]

/-- The gradient of a tile's row. -/
def tback (s : Fin 512) : Fin 1024 → EReal :=
  back (fun k => terr y t s k * share * g (ix2 0 k)) (fun k => x (ix2 s k)) (r (ix2 s 0))

theorem back_at (s : Fin 512) (j : Fin 1024) : k0_pay1 (F := Ideal) (k0_pay7 (F := Ideal) y t) (k0_pay8 (F := Ideal) x) g r (ix2 s j) = tback y t x r g s j := by
  pointwise [k0_pay1, k0_pay8, cot_at, tback, back, mean]

theorem square_at (s : Fin 8) (j : Fin 1024) : k0_pay6 (F := Ideal) y t acc (ix2 s j)
    = acc (ix2 s j) + ∑ b : Fin 64, terr y t ⟨b.val * 8 + s.val, by omega⟩ j * terr y t ⟨b.val * 8 + s.val, by omega⟩ j := by
  pointwise [k0_pay6, err_at]

theorem scale_at (s : Fin 8) (j : Fin 1024) : k0_pay9 (F := Ideal) y t x acc (ix2 s j)
    = acc (ix2 s j) + ∑ b : Fin 64, terr y t ⟨b.val * 8 + s.val, by omega⟩ j * share * x (ix2 ⟨b.val * 8 + s.val, by omega⟩ j) := by
  pointwise [k0_pay9, k0_pay8, cot_at]

theorem shift_at (s : Fin 8) (j : Fin 1024) : k0_pay10 (F := Ideal) y t acc (ix2 s j)
    = acc (ix2 s j) + ∑ b : Fin 64, terr y t ⟨b.val * 8 + s.val, by omega⟩ j * share := by
  pointwise [k0_pay10, cot_at]

end tile

/-! ## The arguments and the saved values -/

variable (m : (ℓ : Loc nD τ sig) → Buf (Elt Ideal) ℓ) (c : Dev nD)

def aZ (r : Fin 8192) (j : Fin 1024) : EReal := m ((c.tc : Thread nD τ).loc main_arg0) (ix2 r j)
def aG (j : Fin 1024) : EReal := m ((c.tc : Thread nD τ).loc main_arg1) (ix1 j)
def aB (j : Fin 1024) : EReal := m ((c.tc : Thread nD τ).loc main_arg2) (ix1 j)
def aT (r : Fin 8192) (j : Fin 1024) : EReal := m ((c.tc : Thread nD τ).loc main_arg3) (ix2 r j)
/-- The error of every row, and the cotangent it sends back. -/
def aE : Fin 8192 → Fin 1024 → EReal := errs (aZ m c) (aT m c) (aG m c) (aB m c)
def aC : Fin 8192 → Fin 1024 → EReal := lossCot (aZ m c) (aT m c) (aG m c) (aB m c)

theorem saved_rstd (r : Fin 8192) (x : Fin 1) : V (F := Ideal) m c main_v13 (ix2 r x) = rstd (aZ m c r) := by
  show StableHlo.after hostOps0 _ _ _ = _
  after_results_simp
  pointwise [rstd, spread, cen, mean, aZ]

theorem saved_xhat (r : Fin 8192) (j : Fin 1024) : V (F := Ideal) m c main_v15 (ix2 r j) = xhat (aZ m c r) j := by
  show StableHlo.after hostOps0 _ _ _ = _
  after_results_simp
  pointwise [xhat, rstd, spread, cen, mean, aZ]

theorem saved_y (r : Fin 8192) (j : Fin 1024) : V (F := Ideal) m c main_v21 (ix2 r j) = xhat (aZ m c r) j * aG m c j + aB m c j := by
  show StableHlo.after hostOps0 _ _ _ = _
  after_results_simp
  pointwise [xhat, rstd, spread, cen, mean, aZ, aG, aB]

theorem saved_g (x : Fin 1) (j : Fin 1024) : V (F := Ideal) m c main_v22 (ix2 x j) = aG m c j := by
  show StableHlo.after hostOps0 _ _ _ = _
  after_results_simp
  pointwise [aG]

theorem index_maps : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] :=
  (by decide +kernel : ∀ t : Fin grid0.N, _)

/-- The tile of a grid point, and its rows. -/
def tileOf (t : Fin cfg0.N) : Fin 16 := ⟨t.val, lt_of_lt_of_eq t.isLt N_0⟩
def rowOf (t : Fin cfg0.N) (s : Fin 512) : Fin 8192 := ⟨t.val * 512 + s.val, by have := lt_of_lt_of_eq t.isLt N_0; omega⟩

theorem blk_y (t : Fin cfg0.N) (s : Fin 512) (j : Fin 1024) : iblk (F := Ideal) m c 0 t (ix2 s j) = xhat (aZ m c (rowOf t s)) j * aG m c j + aB m c j := by
  rw [← saved_y]; blk_simp [iblk]; unfold rowOf; blk_ext [index_maps t]
theorem blk_t (t : Fin cfg0.N) (s : Fin 512) (j : Fin 1024) : iblk (F := Ideal) m c 1 t (ix2 s j) = aT m c (rowOf t s) j := by
  blk_simp [iblk]; rw [V_main_arg3]; unfold aT rowOf; blk_ext [index_maps t]
theorem blk_x (t : Fin cfg0.N) (s : Fin 512) (j : Fin 1024) : iblk (F := Ideal) m c 2 t (ix2 s j) = xhat (aZ m c (rowOf t s)) j := by
  rw [← saved_xhat]; blk_simp [iblk]; unfold rowOf; blk_ext [index_maps t]
theorem blk_r (t : Fin cfg0.N) (s : Fin 512) (x : Fin 1) : iblk (F := Ideal) m c 3 t (ix2 s x) = rstd (aZ m c (rowOf t s)) := by
  rw [← saved_rstd m c _ x]; blk_simp [iblk]; unfold rowOf; blk_ext [index_maps t]
theorem blk_g (t : Fin cfg0.N) (x : Fin 1) (j : Fin 1024) : iblk (F := Ideal) m c 4 t (ix2 x j) = aG m c j := by
  rw [← saved_g m c x j]; blk_simp [iblk]; blk_ext [index_maps t]

theorem terr_eq (t : Fin cfg0.N) (s : Fin 512) : terr (iblk (F := Ideal) m c 0 t) (iblk (F := Ideal) m c 1 t) s = aE m c (rowOf t s) := by
  funext j
  unfold terr aE errs
  rw [blk_y, blk_t]

theorem tback_eq (t : Fin cfg0.N) (s : Fin 512) : tback (iblk (F := Ideal) m c 0 t) (iblk (F := Ideal) m c 1 t) (iblk (F := Ideal) m c 2 t)
    (iblk (F := Ideal) m c 3 t) (iblk (F := Ideal) m c 4 t) s = darg (aZ m c) (aC m c) (aG m c) (rowOf t s) := by
  unfold tback darg
  simp only [terr_eq, blk_x, blk_r, blk_g]
  rfl

/-! ## What a point leaves -/

set_option maxHeartbeats 4000000 in
theorem out6 (t : Fin cfg0.N) (s : Fin 512) (j : Fin 1024) :
    (outsAt0 (F := Ideal) m c t.val t.isLt).2.1 (ix2 s j) = darg (aZ m c) (aC m c) (aG m c) (rowOf t s) j := by
  rw [← tback_eq, ← back_at]
  by_cases e : t.val % 16 = 0
  · rw [outsAt0_A m c t e]; frame_out
  · rw [outsAt0_B m c t e]; frame_out

/-- What a tile adds to the squared error and to the gradients of the scale and the shift. -/
def part5 (p : Fin 16) (s : Fin 8) (j : Fin 1024) : EReal := fold (fun r => aE m c r j * aE m c r j) p s
def part7 (p : Fin 16) (s : Fin 8) (j : Fin 1024) : EReal := fold (fun r => aC m c r j * xhat (aZ m c r) j) p s
def part8 (p : Fin 16) (s : Fin 8) (j : Fin 1024) : EReal := fold (fun r => aC m c r j) p s

theorem square_part (t : Fin cfg0.N) (acc : Vec Ideal S8x1024 .f32) (s : Fin 8) (j : Fin 1024) :
    k0_pay6 (F := Ideal) (iblk (F := Ideal) m c 0 t) (iblk (F := Ideal) m c 1 t) acc (ix2 s j) = acc (ix2 s j) + part5 m c (tileOf t) s j := by
  rw [square_at]
  simp only [terr_eq]
  rfl

theorem scale_part (t : Fin cfg0.N) (acc : Vec Ideal S8x1024 .f32) (s : Fin 8) (j : Fin 1024) :
    k0_pay9 (F := Ideal) (iblk (F := Ideal) m c 0 t) (iblk (F := Ideal) m c 1 t) (iblk (F := Ideal) m c 2 t) acc (ix2 s j)
      = acc (ix2 s j) + part7 m c (tileOf t) s j := by
  rw [scale_at]
  simp only [terr_eq, blk_x]
  rfl

theorem shift_part (t : Fin cfg0.N) (acc : Vec Ideal S8x1024 .f32) (s : Fin 8) (j : Fin 1024) :
    k0_pay10 (F := Ideal) (iblk (F := Ideal) m c 0 t) (iblk (F := Ideal) m c 1 t) acc (ix2 s j) = acc (ix2 s j) + part8 m c (tileOf t) s j := by
  rw [shift_at]
  simp only [terr_eq]
  rfl

set_option maxHeartbeats 4000000 in
theorem first (t : Fin cfg0.N) (e : t.val % 16 = 0) (s : Fin 8) (j : Fin 1024) :
    (outsAt0 (F := Ideal) m c t.val t.isLt).1 (ix2 s j) = 0 + part5 m c (tileOf t) s j
    ∧ (outsAt0 (F := Ideal) m c t.val t.isLt).2.2.1 (ix2 s j) = 0 + part7 m c (tileOf t) s j
    ∧ (outsAt0 (F := Ideal) m c t.val t.isLt).2.2.2 (ix2 s j) = 0 + part8 m c (tileOf t) s j := by
  rw [outsAt0_A m c t e]
  refine ⟨?_, ?_, ?_⟩
  · frame_out
    refine (square_part m c t _ s j).trans (congrArg₂ _ ?_ rfl)
    pointwise [k0_pay2]
  · frame_out
    refine (scale_part m c t _ s j).trans (congrArg₂ _ ?_ rfl)
    pointwise [k0_pay3]
  · frame_out
    refine (shift_part m c t _ s j).trans (congrArg₂ _ ?_ rfl)
    pointwise [k0_pay4]

set_option maxHeartbeats 4000000 in
theorem later (t : Fin cfg0.N) (e : ¬ t.val % 16 = 0) (lt' : t.val - 1 < cfg0.N) (s : Fin 8) (j : Fin 1024) :
    (outsAt0 (F := Ideal) m c t.val t.isLt).1 (ix2 s j) = (outsAt0 (F := Ideal) m c (t.val - 1) lt').1 (ix2 s j) + part5 m c (tileOf t) s j
    ∧ (outsAt0 (F := Ideal) m c t.val t.isLt).2.2.1 (ix2 s j) = (outsAt0 (F := Ideal) m c (t.val - 1) lt').2.2.1 (ix2 s j) + part7 m c (tileOf t) s j
    ∧ (outsAt0 (F := Ideal) m c t.val t.isLt).2.2.2 (ix2 s j) = (outsAt0 (F := Ideal) m c (t.val - 1) lt').2.2.2 (ix2 s j) + part8 m c (tileOf t) s j := by
  rw [outsAt0_B m c t e]
  refine ⟨?_, ?_, ?_⟩
  · frame_out
    exact square_part m c t _ s j
  · frame_out
    exact scale_part m c t _ s j
  · frame_out
    exact shift_part m c t _ s j

/-! ## The result arrays -/

theorem final6 : (dats (F := Ideal) m 0 c).arrAt 6 (cfgs 0).N = fun i : S8192x1024.Idx => darg (aZ m c) (aC m c) (aG m c) (i 0) (i 1) := by
  refine (dats (F := Ideal) m 0 c).arrAt_eq_of_covers 6 _ (by decide +kernel) fun t hf y => ?_
  have ey : y = ix2 (y 0) (y 1) := by funext a; fin_cases a <;> rfl
  blk_simp
  rw [after0_6]
  refine (congrArg _ ey).trans ((out6 m c t (y 0) (y 1)).trans ?_)
  refine congrArg₂ _ (Fin.ext ?_) (Fin.ext ?_)
  · dsimp only [rowOf]; blk_simp [index_maps t]
  · dsimp only; blk_simp [index_maps t]

theorem lt16 (t : Fin cfg0.N) : t.val < 16 := lt_of_lt_of_eq t.isLt N_0

theorem final5 : (dats (F := Ideal) m 0 c).arrAt 5 (cfgs 0).N = fun i : S8x1024.Idx => ∑ p : Fin 16, part5 m c p (i 0) (i 1) := by
  refine (dats (F := Ideal) m 0 c).arrAt_eq_of_covers 5 _ (by decide +kernel) fun t hf y => ?_
  have ey : y = ix2 (y 0) (y 1) := by funext a; fin_cases a <;> rfl
  blk_simp
  rw [after0_5, Pipeline.eq_sum_fin_of_reset_step_apply_of_flush (fun n h => (outsAt0 (F := Ideal) m c n h).1) 16 (fun _ => 0) (fun t j => part5 m c (tileOf t) (j 0) (j 1))
      (fun t h j => by rw [show j = ix2 (j 0) (j 1) by funext a; fin_cases a <;> rfl]; exact (first m c t h (j 0) (j 1)).1)
      (fun t h j => by rw [show j = ix2 (j 0) (j 1) by funext a; fin_cases a <;> rfl]; exact (later m c t h _ (j 0) (j 1)).1) t ((flush0_5 t).mp hf) _, zero_add]
  show (∑ s : Fin 16, part5 m c (tileOf ⟨16 * (t.val / 16) + s.val, Pipeline.run_point_lt_of_flush t ((flush0_5 t).mp hf) s⟩) (y 0) (y 1) : EReal) = (_ : EReal)
  refine sum_parts (part5 m c) t.val (lt16 t) _ (fun _ => rfl) ?_ ?_
  · blk_simp [index_maps t]
  · blk_simp [index_maps t]

theorem final7 : (dats (F := Ideal) m 0 c).arrAt 7 (cfgs 0).N = fun i : S8x1024.Idx => ∑ p : Fin 16, part7 m c p (i 0) (i 1) := by
  refine (dats (F := Ideal) m 0 c).arrAt_eq_of_covers 7 _ (by decide +kernel) fun t hf y => ?_
  have ey : y = ix2 (y 0) (y 1) := by funext a; fin_cases a <;> rfl
  blk_simp
  rw [after0_7, Pipeline.eq_sum_fin_of_reset_step_apply_of_flush (fun n h => (outsAt0 (F := Ideal) m c n h).2.2.1) 16 (fun _ => 0) (fun t j => part7 m c (tileOf t) (j 0) (j 1))
      (fun t h j => by rw [show j = ix2 (j 0) (j 1) by funext a; fin_cases a <;> rfl]; exact (first m c t h (j 0) (j 1)).2.1)
      (fun t h j => by rw [show j = ix2 (j 0) (j 1) by funext a; fin_cases a <;> rfl]; exact (later m c t h _ (j 0) (j 1)).2.1) t ((flush0_7 t).mp hf) _, zero_add]
  show (∑ s : Fin 16, part7 m c (tileOf ⟨16 * (t.val / 16) + s.val, Pipeline.run_point_lt_of_flush t ((flush0_7 t).mp hf) s⟩) (y 0) (y 1) : EReal) = (_ : EReal)
  refine sum_parts (part7 m c) t.val (lt16 t) _ (fun _ => rfl) ?_ ?_
  · blk_simp [index_maps t]
  · blk_simp [index_maps t]

theorem final8 : (dats (F := Ideal) m 0 c).arrAt 8 (cfgs 0).N = fun i : S8x1024.Idx => ∑ p : Fin 16, part8 m c p (i 0) (i 1) := by
  refine (dats (F := Ideal) m 0 c).arrAt_eq_of_covers 8 _ (by decide +kernel) fun t hf y => ?_
  have ey : y = ix2 (y 0) (y 1) := by funext a; fin_cases a <;> rfl
  blk_simp
  rw [after0_8, Pipeline.eq_sum_fin_of_reset_step_apply_of_flush (fun n h => (outsAt0 (F := Ideal) m c n h).2.2.2) 16 (fun _ => 0) (fun t j => part8 m c (tileOf t) (j 0) (j 1))
      (fun t h j => by rw [show j = ix2 (j 0) (j 1) by funext a; fin_cases a <;> rfl]; exact (first m c t h (j 0) (j 1)).2.2)
      (fun t h j => by rw [show j = ix2 (j 0) (j 1) by funext a; fin_cases a <;> rfl]; exact (later m c t h _ (j 0) (j 1)).2.2) t ((flush0_8 t).mp hf) _, zero_add]
  show (∑ s : Fin 16, part8 m c (tileOf ⟨16 * (t.val / 16) + s.val, Pipeline.run_point_lt_of_flush t ((flush0_8 t).mp hf) s⟩) (y 0) (y 1) : EReal) = (_ : EReal)
  refine sum_parts (part8 m c) t.val (lt16 t) _ (fun _ => rfl) ?_ ?_
  · blk_simp [index_maps t]
  · blk_simp [index_maps t]

end Cert.LossIdeal.Bridge
-- ==== Proof.Loss.Value.lean ====
module

public import proofs.«01_k».proof.Defs
public import proofs.«01_k».proof.Proof.Gen.LossIdeal
public import proofs.«01_k».proof.Proof.Gen.LossRefIdeal
public import proofs.«01_k».proof.Proof.Loss.Ref
public import proofs.«01_k».proof.Proof.Loss.Kernel

/-!
# The loss and the layer norm's gradients before it: kernel and reference agree
-/

@[expose] public section
set_option maxRecDepth 16384
noncomputable section

open Idealize.ShloMosaic Idealize.ShloMosaic.TcCoe Idealize.SL.Sem Cert.Reals Cert.LayerNorm

namespace Cert.Pre_finite_loss

instance facts : Cert.Pre_finite_loss.Facts := by constructor <;> decide

variable (z : FVec Ideal S8192x1024 .f32) (g b : FVec Ideal S1024 .f32) (t : FVec Ideal S8192x1024 .f32)

theorem realZ (i) (h : (fn (F := Ideal) z g b t).1 i = 1#1) : IsReal (z i) := by
  refine IsReal.of_finite (Eq.trans ?_ h); unfold fn; pointwise

theorem realG (i) (h : (fn (F := Ideal) z g b t).2.1 i = 1#1) : IsReal (g i) := by
  refine IsReal.of_finite (Eq.trans ?_ h); unfold fn; pointwise

theorem realB (i) (h : (fn (F := Ideal) z g b t).2.2.1 i = 1#1) : IsReal (b i) := by
  refine IsReal.of_finite (Eq.trans ?_ h); unfold fn; pointwise

theorem realT (i) (h : (fn (F := Ideal) z g b t).2.2.2 i = 1#1) : IsReal (t i) := by
  refine IsReal.of_finite (Eq.trans ?_ h); unfold fn; pointwise

end Cert.Pre_finite_loss

namespace Cert.LossIdeal.Bridge

open Cert.LossIdeal Cert.LossIdeal.Gen

variable (m : (ℓ : Loc nD τ sig) → Buf (Elt Ideal) ℓ) (ρ : Dev nD → PrngReg) (c : Dev nD)

/-- The loss. -/
def outL : Buf (Elt Ideal) ((c.tc : Thread nD τ).loc main_v26) := fun _ : S_.Idx => (lossByTiles (aE m c) : EReal)
/-- The gradient of the normed rows' argument. -/
def outZ : Buf (Elt Ideal) ((c.tc : Thread nD τ).loc main_v23_1) := fun i : S8192x1024.Idx => darg (aZ m c) (aC m c) (aG m c) (i 0) (i 1)
/-- The gradient of the norm's scale. -/
def outG : Buf (Elt Ideal) ((c.tc : Thread nD τ).loc main_v27) := fun i : S1024.Idx => dscale (aZ m c) (aC m c) (i 0)
/-- The gradient of the norm's shift. -/
def outB : Buf (Elt Ideal) ((c.tc : Thread nD τ).loc main_v28) := fun i : S1024.Idx => dshift (aC m c) (i 0)

theorem arr_apart : Function.Injective (Pipeline.arrRef spec0) := by decide

theorem folded_sum (f : Fin 8 → Fin 1024 → EReal) (x : Vec Ideal S8x1024 .f32) (hx : x = fun i : S8x1024.Idx => f (i 0) (i 1)) (j : Fin 1024) :
    Host.reduceAdd (F := Ideal) x (constant S_ .f32 0x00000000#32) reducesTo_S8x1024_S1024_d0 h_S_ (ix1 j) = ∑ a, f a j := by
  subst hx; pointwise

theorem whole_sum (f : Fin 8 → Fin 1024 → EReal) (x : Vec Ideal S8x1024 .f32) (hx : x = fun i : S8x1024.Idx => f (i 0) (i 1)) (i : S_.Idx) :
    Host.divf (F := Ideal) (mulf (constant S_ .f32 0x3F000000#32) (Host.reduceAdd (F := Ideal) x (constant S_ .f32 0x00000000#32) reducesTo_S8x1024_S_d0_1 h_S_))
      (constant S_ .f32 0x44800000#32) i = Ideal.div (half * ∑ a, ∑ j, f a j) len := by
  subst hx; pointwise

/-- The loss, from the partial sums of squares that the call leaves. -/
theorem tail_loss : Pipeline.afterTail₀ cfgs (dats (F := Ideal) m) 0 (V0 m) [hostOps1] c main_v26 = outL m c := by
  unfold Pipeline.afterTail₀
  show StableHlo.after hostOps1 _ _ = _
  after_results_simp
  rw [Pipeline.withArrays_arr spec0 arr_apart c _ _ 5]
  funext i
  exact whole_sum (fun a j => ∑ t : Fin 16, part5 m c t a j) _ (final5 m c) i

/-- The scale's gradient: the eight rows of partial sums that the call leaves, added. -/
theorem tail_scale : Pipeline.afterTail₀ cfgs (dats (F := Ideal) m) 0 (V0 m) [hostOps1] c main_v27 = outG m c := by
  unfold Pipeline.afterTail₀
  show StableHlo.after hostOps1 _ _ = _
  after_results_simp
  rw [Pipeline.withArrays_arr spec0 arr_apart c _ _ 7]
  funext i
  have ei : i = ix1 (i 0) := by funext a; fin_cases a; rfl
  rw [ei]
  refine (folded_sum (fun a j => ∑ t : Fin 16, part7 m c t a j) _ (final7 m c) (i 0)).trans ?_
  exact sum_fold (fun r => aC m c r (i 0) * xhat (aZ m c r) (i 0))

/-- The shift's gradient, likewise. -/
theorem tail_shift : Pipeline.afterTail₀ cfgs (dats (F := Ideal) m) 0 (V0 m) [hostOps1] c main_v28 = outB m c := by
  unfold Pipeline.afterTail₀
  show StableHlo.after hostOps1 _ _ = _
  after_results_simp
  rw [Pipeline.withArrays_arr spec0 arr_apart c _ _ 8]
  funext i
  have ei : i = ix1 (i 0) := by funext a; fin_cases a; rfl
  rw [ei]
  refine (folded_sum (fun a j => ∑ t : Fin 16, part8 m c t a j) _ (final8 m c) (i 0)).trans ?_
  exact sum_fold (fun r => aC m c r (i 0))

/-- What the kernel leaves: its four results, and its arguments as they were. -/
theorem run : θ_run defs (onTc (τ := τ) (main (F := Ideal))) ⟨m, fun _ => 0, ρ⟩ (fun r => ∀ c : Dev nD,
      r.2.mem ((c.tc : Thread nD τ).loc main_v26) = outL m c
      ∧ r.2.mem ((c.tc : Thread nD τ).loc main_v23_1) = outZ m c
      ∧ r.2.mem ((c.tc : Thread nD τ).loc main_v27) = outG m c
      ∧ r.2.mem ((c.tc : Thread nD τ).loc main_v28) = outB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ⟨((h.1 c).2 main_v26 (by decide)).trans (tail_loss m c), ((h.1 c).1 6).trans (final6 m c),
    ((h.1 c).2 main_v27 (by decide)).trans (tail_scale m c), ((h.1 c).2 main_v28 (by decide)).trans (tail_shift m c), h.2 c⟩)
    (θ_run_and (Gen.run_main m ρ) (Gen.unchanged m ρ))

end Cert.LossIdeal.Bridge

namespace Cert.LossRefIdeal.Bridge

open Cert.LossIdeal.Bridge Cert.NormRef

variable (m : (ℓ : Loc Cert.LossIdeal.nD Cert.LossIdeal.τ Cert.LossIdeal.sig) → Buf (Elt Ideal) ℓ)
  (m' : (ℓ : Loc Cert.LossRefIdeal.nD Cert.LossRefIdeal.τ Cert.LossRefIdeal.sig) → Buf (Elt Ideal) ℓ) (c : Dev Cert.LossIdeal.nD)

/-- The two programs hold the same arguments. -/
def Same : Prop :=
  argZ m' c = m ((c.tc : Thread Cert.LossIdeal.nD Cert.LossIdeal.τ).loc Cert.LossIdeal.main_arg0)
  ∧ argG m' c = m ((c.tc : Thread Cert.LossIdeal.nD Cert.LossIdeal.τ).loc Cert.LossIdeal.main_arg1)
  ∧ argB m' c = m ((c.tc : Thread Cert.LossIdeal.nD Cert.LossIdeal.τ).loc Cert.LossIdeal.main_arg2)
  ∧ argT m' c = m ((c.tc : Thread Cert.LossIdeal.nD Cert.LossIdeal.τ).loc Cert.LossIdeal.main_arg3)

/-- The arguments are finite. -/
def Real : Prop := (∀ i, IsReal (argZ m' c i)) ∧ (∀ i, IsReal (argG m' c i)) ∧ (∀ i, IsReal (argB m' c i)) ∧ ∀ i, IsReal (argT m' c i)

variable (e : Same m m' c)
include e

theorem same_z : row (argZ m' c) = aZ m c := by funext r j; exact congrFun e.1 _
theorem same_g : (fun j => argG m' c (ix1 j)) = aG m c := by funext j; exact congrFun e.2.1 _
theorem same_e : rE m' c = aE m c := by
  unfold rE aE
  rw [same_z m m' c e, same_g m m' c e, e.2.2.1, e.2.2.2]; rfl
theorem same_c : rC m' c = aC m c := by
  funext r j
  exact congrArg (· * share) (congrFun (congrFun (same_e m m' c e) r) j)

theorem agree2 : out1 m' c = outG m c := by
  funext i
  have ei : i = ix1 (i 0) := by funext a; fin_cases a; rfl
  rw [ei]; refine (out1_at m' c (i 0)).trans ?_
  rw [same_z m m' c e, same_c m m' c e]; rfl

theorem agree3 : out2 m' c = outB m c := by
  funext i
  have ei : i = ix1 (i 0) := by funext a; fin_cases a; rfl
  rw [ei]; refine (out2_at m' c (i 0)).trans ?_
  rw [same_c m m' c e]; rfl

variable (h : Real m' c)
include h

omit e in
theorem real_e (r j) : IsReal (rE m' c r j) := IsReal_errs (fun _ _ => h.1 _) (fun _ _ => h.2.2.2 _) (fun _ => h.2.1 _) (fun _ => h.2.2.1 _) r j

theorem agree0 : Cert.LossRefIdeal.Bridge.outL m' c = Cert.LossIdeal.Bridge.outL m c := by
  funext i
  refine (outL_at m' c i).trans ((loss_eq (real_e m' c h)).symm.trans ?_)
  rw [same_e m m' c e]; rfl

theorem agree1 : out0 m' c = outZ m c := by
  funext i
  have ei : i = ix2 (i 0) (i 1) := by funext a; fin_cases a <;> rfl
  rw [ei]; refine (out0_at m' c h.1 h.2.1 (fun r j => (real_e m' c h r j).mul ⟨_, share_eq⟩) (i 0) (i 1)).trans ?_
  rw [same_z m m' c e, same_c m m' c e, same_g m m' c e]; rfl

end Cert.LossRefIdeal.Bridge

/-- The loss and the three gradients are those of the forward lines and their derivative. -/
theorem Cert.LossIdeal.pair : Cert.algebraic_LossIdeal_LossRefIdeal_pre_finite_loss (hLossIdeal := Cert.LossIdeal.Gen.facts)
    (hLossRefIdeal := Cert.LossRefIdeal.Gen.facts) (hPre_finite_loss := Cert.Pre_finite_loss.facts) := by
  intro m g m' g' hpre hagree
  refine ⟨fun c => Cert.LossIdeal.Bridge.outL m c, fun c => Cert.LossIdeal.Bridge.outZ m c, fun c => Cert.LossIdeal.Bridge.outG m c,
    fun c => Cert.LossIdeal.Bridge.outB m c, Cert.LossIdeal.Bridge.run m g, ?_⟩
  have e (c) : Cert.LossRefIdeal.Bridge.Same m m' c := hagree c
  have h (c) : Cert.LossRefIdeal.Bridge.Real m' c := by
    refine ⟨fun i => ?_, fun i => ?_, fun i => ?_, fun i => ?_⟩
    · rw [(e c).1]; exact Cert.Pre_finite_loss.realZ _ _ _ _ i (congrFun (hpre c).1 i)
    · rw [(e c).2.1]; exact Cert.Pre_finite_loss.realG _ _ _ _ i (congrFun (hpre c).2.1 i)
    · rw [(e c).2.2.1]; exact Cert.Pre_finite_loss.realB _ _ _ _ i (congrFun (hpre c).2.2.1 i)
    · rw [(e c).2.2.2]; exact Cert.Pre_finite_loss.realT _ _ _ _ i (congrFun (hpre c).2.2.2 i)
  exact (θ_run _ _ _).mono (fun r p c => ⟨(p c).1.trans (Cert.LossRefIdeal.Bridge.agree0 m m' c (e c) (h c)),
    (p c).2.1.trans (Cert.LossRefIdeal.Bridge.agree1 m m' c (e c) (h c)), (p c).2.2.1.trans (Cert.LossRefIdeal.Bridge.agree2 m m' c (e c)),
    (p c).2.2.2.1.trans (Cert.LossRefIdeal.Bridge.agree3 m m' c (e c)), (p c).2.2.2.2⟩) (Cert.LossRefIdeal.Value.run m' g')

end
-- ==== Proof.WgValue.lean ====
module

public import proofs.«01_k».proof.Defs
public import proofs.«01_k».proof.Proof.Gen.WgIdeal.Frame
public import proofs.«01_k».proof.Proof.Gen.WgRefIdeal.Run
public import Idealize.ShloMosaic.Lib.Pipeline.ValueKit
public import Idealize.ShloMosaic.Lib.Pointwise
public import Idealize.ShloMosaic.Lib.Pipeline.ReadBack

/-!
# The gradient of the squared-ReLU layer's weight

The kernel adds up, over eight tiles of 1024 rows, the products of the squared ReLU with the cotangent.
-/

@[expose] public section
set_option maxRecDepth 16384
noncomputable section
namespace Cert.WgIdeal.Bridge

open Idealize.ShloMosaic Idealize.ShloMosaic.TcCoe Idealize.SL.Sem
open Cert.WgIdeal Cert.WgIdeal.Gen

/-- The squared ReLU. -/
def act (x : EReal) : EReal := max x 0 * max x 0

theorem tile_at (h : Vec Ideal S1024x2048 .bf16) (acc : Vec Ideal S2048x1024 .f32) (d : Vec Ideal S1024x1024 .f32) (k : Fin 2048) (j : Fin 1024) :
    k0_pay2 (F := Ideal) h acc d (ix2 k j) = acc (ix2 k j) + ∑ s : Fin 1024, act (h (ix2 s k)) * d (ix2 s j) := by
  pointwise [k0_pay2, act]

variable (m : (ℓ : Loc nD τ sig) → Buf (Elt Ideal) ℓ) (c : Dev nD)

/-- The arguments by coordinates. -/
def aH (r : Fin 8192) (k : Fin 4096) : EReal := m ((c.tc : Thread nD τ).loc main_arg0) (ix2 r k)
def aD (r : Fin 8192) (j : Fin 1024) : EReal := m ((c.tc : Thread nD τ).loc main_arg1) (ix2 r j)

/-- What a tile of rows adds. -/
def part (k : Fin 4096) (j : Fin 1024) (p : Fin 8) : EReal :=
  ∑ s : Fin 1024, act (aH m c ⟨p.val * 1024 + s.val, by omega⟩ k) * aD m c ⟨p.val * 1024 + s.val, by omega⟩ j
/-- The whole gradient. -/
def grad (k : Fin 4096) (j : Fin 1024) : EReal := ∑ r : Fin 8192, act (aH m c r k) * aD m c r j

theorem sum_part (k : Fin 4096) (j : Fin 1024) : ∑ p, part m c k j p = grad m c k j :=
  Fin.sum_mul_add_congr fun p s _ => rfl

theorem index_maps : ∀ t : Fin cfg0.N, win0_0.index t = ![t.val % 8, t.val / 8] ∧ win0_1.index t = ![t.val % 8, 0] ∧ win0_2.index t = ![t.val / 8, 0] :=
  (by decide +kernel : ∀ t : Fin grid0.N, _)

/-- The tile of a grid point, and the columns it works on. -/
def tileOf (t : Fin cfg0.N) : Fin 8 := ⟨t.val % 8, by omega⟩
def colOf (t : Fin cfg0.N) (k : Fin 2048) : Fin 4096 := ⟨t.val / 8 * 2048 + k.val, by have : t.val < 16 := lt_of_lt_of_eq t.isLt N_0; omega⟩

theorem blk_h (t : Fin cfg0.N) (s : Fin 1024) (k : Fin 2048) : iblk (F := Ideal) m c 0 t (ix2 s k) = aH m c ⟨(tileOf t).val * 1024 + s.val, by omega⟩ (colOf t k) := by
  blk_simp [iblk]; rw [V_main_arg0]; unfold aH tileOf colOf; blk_ext [index_maps t]
theorem blk_d (t : Fin cfg0.N) (s : Fin 1024) (j : Fin 1024) : iblk (F := Ideal) m c 1 t (ix2 s j) = aD m c ⟨(tileOf t).val * 1024 + s.val, by omega⟩ j := by
  blk_simp [iblk]; rw [V_main_arg1]; unfold aD tileOf; blk_ext [index_maps t]

theorem tile_part (t : Fin cfg0.N) (acc : Vec Ideal S2048x1024 .f32) (k : Fin 2048) (j : Fin 1024) :
    k0_pay2 (F := Ideal) (iblk (F := Ideal) m c 0 t) acc (iblk (F := Ideal) m c 1 t) (ix2 k j) = acc (ix2 k j) + part m c (colOf t k) j (tileOf t) := by
  rw [tile_at]
  simp only [blk_h, blk_d]
  rfl

theorem first (t : Fin cfg0.N) (e : t.val % 8 = 0) (k : Fin 2048) (j : Fin 1024) :
    outsAt0 (F := Ideal) m c t.val t.isLt (ix2 k j) = 0 + part m c (colOf t k) j (tileOf t) := by
  rw [outsAt0_A m c t e]; frame_out
  refine (tile_part m c t _ k j).trans (congrArg₂ _ ?_ rfl)
  pointwise [k0_pay1]

theorem later (t : Fin cfg0.N) (e : ¬ t.val % 8 = 0) (lt' : t.val - 1 < cfg0.N) (k : Fin 2048) (j : Fin 1024) :
    outsAt0 (F := Ideal) m c t.val t.isLt (ix2 k j) = outsAt0 (F := Ideal) m c (t.val - 1) lt' (ix2 k j) + part m c (colOf t k) j (tileOf t) := by
  rw [outsAt0_B m c t e]; frame_out
  exact tile_part m c t _ k j

theorem final : (dats (F := Ideal) m 0 c).arrAt 2 (cfgs 0).N = fun i : S4096x1024.Idx => grad m c (i 0) (i 1) := by
  refine (dats (F := Ideal) m 0 c).arrAt_eq_of_covers 2 _ (by decide +kernel) fun t hf y => ?_
  blk_simp
  rw [after0_2, Pipeline.eq_sum_fin_of_reset_step_apply_of_flush (fun n h => outsAt0 (F := Ideal) m c n h) 8 (fun _ => 0) (fun t j => part m c (colOf t (j 0)) (j 1) (tileOf t))
      (fun t h j => by rw [show j = ix2 (j 0) (j 1) by funext a; fin_cases a <;> rfl]; exact first m c t h (j 0) (j 1))
      (fun t h j => by rw [show j = ix2 (j 0) (j 1) by funext a; fin_cases a <;> rfl]; exact later m c t h _ (j 0) (j 1)) t ((flush0_2 t).mp hf) _, zero_add]
  refine Eq.trans (Finset.sum_congr (M := EReal) rfl fun s _ => ?_) (sum_part m c _ _)
  have lt : t.val < 16 := lt_of_lt_of_eq t.isLt N_0
  refine congr (congrArg₂ (part m c) (Fin.ext ?_) (Fin.ext ?_)) (Fin.ext ?_)
  · dsimp only [colOf]; blk_simp [index_maps t]; omega
  · blk_simp [index_maps t]
  · dsimp only [tileOf]; omega

end Cert.WgIdeal.Bridge

namespace Cert.WgIdeal

open Idealize.ShloMosaic Idealize.ShloMosaic.TcCoe Idealize.SL.Sem

/-- From the same arguments the two programs leave the same result. -/
theorem pair : Cert.algebraic_WgIdeal_WgRefIdeal (hWgIdeal := Cert.WgIdeal.Gen.facts) (hWgRefIdeal := Cert.WgRefIdeal.Gen.facts) := by
  pair_intro
  · run_from Cert.WgIdeal.Gen.run_main m g
  · run_from Cert.WgRefIdeal.Value.run m' g'
    refine Eq.trans (funext fun i => ?_) (Bridge.final m c).symm
    rw [show i = ix2 (i 0) (i 1) by funext a; fin_cases a <;> rfl]
    pointwise [Bridge.grad, Bridge.act, Bridge.aH, Bridge.aD]
    exact Finset.sum_congr rfl fun _ _ => mul_comm _ _

end Cert.WgIdeal
-- ==== Proof.Inp.Ref.lean ====
module

public import proofs.«01_k».proof.Proof.Gen.InpRefIdeal.Run
public import proofs.«01_k».proof.Proof.Bwd.Norm

/-!
# The reference's gradients of the last layer norm, with the product after it
-/

@[expose] public section
set_option maxRecDepth 16384
noncomputable section
namespace Cert.InpRefIdeal.Bridge

open Idealize.ShloMosaic Idealize.ShloMosaic.TcCoe Idealize.SL.Sem
open Cert.InpRefIdeal Cert.InpRefIdeal.Gen Cert.LayerNorm Cert.NormRef Cert.Reals

section ops
variable {F : FTy → Type} [FloatOps F] (m : (ℓ : Loc nD τ sig) → Buf (Elt F) ℓ) (c : Dev nD)

abbrev argZ : Vec F S8192x1024 .f32 := m ((c.tc : Thread nD τ).loc main_arg0)
abbrev argG : Vec F S1024 .f32 := m ((c.tc : Thread nD τ).loc main_arg1)
abbrev argW : Vec F S1024x2432 .bf16 := m ((c.tc : Thread nD τ).loc main_arg3)
abbrev argD : Vec F S8192x1024 .f32 := m ((c.tc : Thread nD τ).loc main_arg4)
abbrev argA : Vec F S8192x2432 .bf16 := m ((c.tc : Thread nD τ).loc main_arg5)

/-- The cotangent that enters the layer norm. -/
def cots : FVec F S8192x1024 .f32 :=
  addf (Host.dotGeneral (F := F) (φ₁ := .f32) (φ₂ := .f32) dot_S8192x2432_S1024x2432_S8192x1024_1_1_0_0_n_n none (extf .f32 (argA m c) bitsLt_bf16_f32) (extf .f32 (argW m c) bitsLt_bf16_f32))
    (mulf (broadcastInDim S8192x1024 ![] bcast_S_S8192x1024 (constant S_ .f32 0x3FD744FD#32)) (argD m c))

/-- The gradient of the layer norm's argument. -/
def out0 : FVec F S8192x1024 .f32 := chains (argZ m c) (mulf (cots m c) (under (argG m c)))

theorem res0_eq : Value.res_main_v70 m c = out0 m c := rfl
/-- The gradients of the scale and the shift. -/
def out1 : FVec F S1024 .f32 := down (mulf (normed (argZ m c)) (cots m c))
def out2 : FVec F S1024 .f32 := down (cots m c)
end ops

variable (m : (ℓ : Loc nD τ sig) → Buf (Elt Ideal) ℓ) (c : Dev nD)

theorem cots_at (r : Fin 8192) (j : Fin 1024) : cots m c (ix2 r j)
    = cot (fun r j => argD m c (ix2 r j)) (fun r k => argA m c (ix2 r k)) (fun j k => argW m c (ix2 j k)) r j := by
  pointwise [cots, cot]
  exact add_comm _ _

/-- The cotangents by coordinates. -/
def rC : Fin 8192 → Fin 1024 → EReal := cot (fun r j => argD m c (ix2 r j)) (fun r k => argA m c (ix2 r k)) (fun j k => argW m c (ix2 j k))

section real
variable (hz : ∀ i, IsReal (argZ m c i)) (hg : ∀ i, IsReal (argG m c i)) (hd : ∀ i, IsReal (argD m c i)) (ha : ∀ i, IsReal (argA m c i)) (hw : ∀ i, IsReal (argW m c i))
include hz hg hd ha hw

theorem out0_at (r : Fin 8192) (j : Fin 1024) : out0 m c (ix2 r j)
    = darg (row (argZ m c)) (rC m c) (fun j => argG m c (ix1 j)) r j := by
  rw [out0, chains_at, darg]
  have e : row (mulf (cots m c) (under (argG m c))) r = fun k => rC m c r k * argG m c (ix1 k) := by
    funext k
    show cots m c (ix2 r k) * under (argG m c) (ix2 r k) = _
    rw [cots_at, under_at]; rfl
  rw [e]
  exact chain_eq_back (fun k => hz _) (fun k => (IsReal_cot (fun _ _ => hd _) (fun _ _ => ha _) (fun _ _ => hw _) r k).mul (hg _)) j

end real

theorem out1_at (j : Fin 1024) : out1 m c (ix1 j) = dscale (row (argZ m c)) (rC m c) j := by
  rw [out1, down_at, dscale]
  refine Finset.sum_congr rfl fun r _ => ?_
  show normed (argZ m c) (ix2 r j) * cots m c (ix2 r j) = _
  rw [normed_at, cots_at, mul_comm]; rfl

theorem out2_at (j : Fin 1024) : out2 m c (ix1 j) = dshift (rC m c) j := by
  rw [out2, down_at, dshift]
  exact Finset.sum_congr rfl fun r _ => cots_at m c r j

end Cert.InpRefIdeal.Bridge
-- ==== Proof.Inp.Kernel.lean ====
module

public import proofs.«01_k».proof.Proof.Gen.InpIdeal.Frame
public import proofs.«01_k».proof.Proof.Loss.Row
public import Idealize.ShloMosaic.Lib.Pipeline.ReadBack

/-!
# The last layer norm's backward kernel, with the product before it

Each grid point takes a tile of 512 rows. It forms the cotangent from the residual branch and the product, writes the
tile's gradient of the layer norm's argument, and adds the tile's rows, folded into eight, to the gradients of the scale
and the shift.
-/

@[expose] public section
set_option maxRecDepth 16384
noncomputable section
namespace Cert.InpIdeal.Bridge

open Idealize.ShloMosaic Idealize.ShloMosaic.TcCoe Idealize.SL.Sem
open Cert.InpIdeal Cert.InpIdeal.Gen Cert.LayerNorm

/-! ## One tile -/

section tile
variable (d : Vec Ideal S512x1024 .f32) (a : Vec Ideal S512x2432 .bf16) (w : Vec Ideal S1024x2432 .bf16)
  (x : Vec Ideal S512x1024 .f32) (r : Vec Ideal S512x1 .f32) (g : Vec Ideal S1x1024 .f32) (acc : Vec Ideal S8x1024 .f32)

/-- The cotangent of a tile's row. -/
def tcot (s : Fin 512) (j : Fin 1024) : EReal := alpha * d (ix2 s j) + ∑ k : Fin 2432, a (ix2 s k) * w (ix2 j k)

theorem cot_at (s : Fin 512) (j : Fin 1024) : k0_pay4 (F := Ideal) d a w (ix2 s j) = tcot d a w s j := by
  pointwise [k0_pay4, tcot]

theorem scaled_at (s : Fin 512) (j : Fin 1024) : k0_pay8 (F := Ideal) d a w g (ix2 s j) = tcot d a w s j * g (ix2 0 j) := by
  pointwise [k0_pay8, cot_at]

/-- The gradient of a tile's row. -/
def tback (s : Fin 512) : Fin 1024 → EReal :=
  back (fun k => tcot d a w s k * g (ix2 0 k)) (fun k => x (ix2 s k)) (r (ix2 s 0))

theorem back_at (s : Fin 512) (j : Fin 1024) : k0_pay1 (F := Ideal) (k0_pay5 (F := Ideal) x) (k0_pay8 (F := Ideal) d a w g) r (ix2 s j) = tback d a w x r g s j := by
  pointwise [k0_pay1, k0_pay5, scaled_at, tback, back, mean]

theorem scale_at (s : Fin 8) (j : Fin 1024) : k0_pay6 (F := Ideal) d a w x acc (ix2 s j)
    = acc (ix2 s j) + ∑ b : Fin 64, tcot d a w ⟨b.val * 8 + s.val, by omega⟩ j * x (ix2 ⟨b.val * 8 + s.val, by omega⟩ j) := by
  pointwise [k0_pay6, k0_pay5, cot_at]

theorem shift_at (s : Fin 8) (j : Fin 1024) : k0_pay7 (F := Ideal) d a w acc (ix2 s j)
    = acc (ix2 s j) + ∑ b : Fin 64, tcot d a w ⟨b.val * 8 + s.val, by omega⟩ j := by
  pointwise [k0_pay7, cot_at]

end tile

/-! ## The arguments and the saved values -/

variable (m : (ℓ : Loc nD τ sig) → Buf (Elt Ideal) ℓ) (c : Dev nD)

def aZ (r : Fin 8192) (j : Fin 1024) : EReal := m ((c.tc : Thread nD τ).loc main_arg0) (ix2 r j)
def aG (j : Fin 1024) : EReal := m ((c.tc : Thread nD τ).loc main_arg1) (ix1 j)
def aW (j : Fin 1024) (k : Fin 2432) : EReal := m ((c.tc : Thread nD τ).loc main_arg3) (ix2 j k)
def aD (r : Fin 8192) (j : Fin 1024) : EReal := m ((c.tc : Thread nD τ).loc main_arg4) (ix2 r j)
def aA (r : Fin 8192) (k : Fin 2432) : EReal := m ((c.tc : Thread nD τ).loc main_arg5) (ix2 r k)
/-- The cotangent that enters the layer norm. -/
def aC : Fin 8192 → Fin 1024 → EReal := cot (aD m c) (aA m c) (aW m c)

theorem saved_rstd (r : Fin 8192) (x : Fin 1) : V (F := Ideal) m c main_v13 (ix2 r x) = rstd (aZ m c r) := by
  show StableHlo.after hostOps0 _ _ _ = _
  after_results_simp
  pointwise [rstd, spread, cen, mean, aZ]

theorem saved_xhat (r : Fin 8192) (j : Fin 1024) : V (F := Ideal) m c main_v15 (ix2 r j) = xhat (aZ m c r) j := by
  show StableHlo.after hostOps0 _ _ _ = _
  after_results_simp
  pointwise [xhat, rstd, spread, cen, mean, aZ]

theorem saved_g (x : Fin 1) (j : Fin 1024) : V (F := Ideal) m c main_v16 (ix2 x j) = aG m c j := by
  show StableHlo.after hostOps0 _ _ _ = _
  after_results_simp
  pointwise [aG]

theorem index_maps : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0]
    ∧ win0_7.index t = ![0, 0] ∧ win0_8.index t = ![0, 0] :=
  (by decide +kernel : ∀ t : Fin grid0.N, _)

/-- The tile of a grid point, and its rows. -/
def tileOf (t : Fin cfg0.N) : Fin 16 := ⟨t.val, lt_of_lt_of_eq t.isLt N_0⟩
def rowOf (t : Fin cfg0.N) (s : Fin 512) : Fin 8192 := ⟨t.val * 512 + s.val, by have := lt_of_lt_of_eq t.isLt N_0; omega⟩

theorem blk_d (t : Fin cfg0.N) (s : Fin 512) (j : Fin 1024) : iblk (F := Ideal) m c 0 t (ix2 s j) = aD m c (rowOf t s) j := by
  blk_simp [iblk]; rw [V_main_arg4]; unfold aD rowOf; blk_ext [index_maps t]
theorem blk_a (t : Fin cfg0.N) (s : Fin 512) (k : Fin 2432) : iblk (F := Ideal) m c 1 t (ix2 s k) = aA m c (rowOf t s) k := by
  blk_simp [iblk]; rw [V_main_arg5]; unfold aA rowOf; blk_ext [index_maps t]
theorem blk_w (t : Fin cfg0.N) (j : Fin 1024) (k : Fin 2432) : iblk (F := Ideal) m c 2 t (ix2 j k) = aW m c j k := by
  blk_simp [iblk]; rw [V_main_arg3]; unfold aW; blk_ext [index_maps t]
theorem blk_x (t : Fin cfg0.N) (s : Fin 512) (j : Fin 1024) : iblk (F := Ideal) m c 3 t (ix2 s j) = xhat (aZ m c (rowOf t s)) j := by
  rw [← saved_xhat]; blk_simp [iblk]; unfold rowOf; blk_ext [index_maps t]
theorem blk_r (t : Fin cfg0.N) (s : Fin 512) (x : Fin 1) : iblk (F := Ideal) m c 4 t (ix2 s x) = rstd (aZ m c (rowOf t s)) := by
  rw [← saved_rstd m c _ x]; blk_simp [iblk]; unfold rowOf; blk_ext [index_maps t]
theorem blk_g (t : Fin cfg0.N) (x : Fin 1) (j : Fin 1024) : iblk (F := Ideal) m c 5 t (ix2 x j) = aG m c j := by
  rw [← saved_g m c x j]; blk_simp [iblk]; blk_ext [index_maps t]

theorem tcot_eq (t : Fin cfg0.N) (s : Fin 512) : tcot (iblk (F := Ideal) m c 0 t) (iblk (F := Ideal) m c 1 t) (iblk (F := Ideal) m c 2 t) s = aC m c (rowOf t s) := by
  funext j
  unfold tcot aC cot
  simp only [blk_d, blk_a, blk_w]

theorem tback_eq (t : Fin cfg0.N) (s : Fin 512) : tback (iblk (F := Ideal) m c 0 t) (iblk (F := Ideal) m c 1 t) (iblk (F := Ideal) m c 2 t)
    (iblk (F := Ideal) m c 3 t) (iblk (F := Ideal) m c 4 t) (iblk (F := Ideal) m c 5 t) s = darg (aZ m c) (aC m c) (aG m c) (rowOf t s) := by
  unfold tback darg
  simp only [tcot_eq, blk_x, blk_r, blk_g]

/-! ## What a point leaves -/

set_option maxHeartbeats 4000000 in
theorem out6 (t : Fin cfg0.N) (s : Fin 512) (j : Fin 1024) :
    (outsAt0 (F := Ideal) m c t.val t.isLt).1 (ix2 s j) = darg (aZ m c) (aC m c) (aG m c) (rowOf t s) j := by
  rw [← tback_eq, ← back_at]
  by_cases e : t.val % 16 = 0
  · rw [outsAt0_A m c t e]; frame_out
  · rw [outsAt0_B m c t e]; frame_out

/-- What a tile adds to the gradients of the scale and the shift. -/
def part7 (p : Fin 16) (s : Fin 8) (j : Fin 1024) : EReal := fold (fun r => aC m c r j * xhat (aZ m c r) j) p s
def part8 (p : Fin 16) (s : Fin 8) (j : Fin 1024) : EReal := fold (fun r => aC m c r j) p s

theorem scale_part (t : Fin cfg0.N) (acc : Vec Ideal S8x1024 .f32) (s : Fin 8) (j : Fin 1024) :
    k0_pay6 (F := Ideal) (iblk (F := Ideal) m c 0 t) (iblk (F := Ideal) m c 1 t) (iblk (F := Ideal) m c 2 t) (iblk (F := Ideal) m c 3 t) acc (ix2 s j)
      = acc (ix2 s j) + part7 m c (tileOf t) s j := by
  rw [scale_at]
  simp only [tcot_eq, blk_x]
  rfl

theorem shift_part (t : Fin cfg0.N) (acc : Vec Ideal S8x1024 .f32) (s : Fin 8) (j : Fin 1024) :
    k0_pay7 (F := Ideal) (iblk (F := Ideal) m c 0 t) (iblk (F := Ideal) m c 1 t) (iblk (F := Ideal) m c 2 t) acc (ix2 s j) = acc (ix2 s j) + part8 m c (tileOf t) s j := by
  rw [shift_at]
  simp only [tcot_eq]
  rfl

set_option maxHeartbeats 4000000 in
theorem first (t : Fin cfg0.N) (e : t.val % 16 = 0) (s : Fin 8) (j : Fin 1024) :
    (outsAt0 (F := Ideal) m c t.val t.isLt).2.1 (ix2 s j) = 0 + part7 m c (tileOf t) s j
    ∧ (outsAt0 (F := Ideal) m c t.val t.isLt).2.2 (ix2 s j) = 0 + part8 m c (tileOf t) s j := by
  rw [outsAt0_A m c t e]
  refine ⟨?_, ?_⟩
  · frame_out
    refine (scale_part m c t _ s j).trans (congrArg₂ _ ?_ rfl)
    pointwise [k0_pay2]
  · frame_out
    refine (shift_part m c t _ s j).trans (congrArg₂ _ ?_ rfl)
    pointwise [k0_pay3]

set_option maxHeartbeats 4000000 in
theorem later (t : Fin cfg0.N) (e : ¬ t.val % 16 = 0) (lt' : t.val - 1 < cfg0.N) (s : Fin 8) (j : Fin 1024) :
    (outsAt0 (F := Ideal) m c t.val t.isLt).2.1 (ix2 s j) = (outsAt0 (F := Ideal) m c (t.val - 1) lt').2.1 (ix2 s j) + part7 m c (tileOf t) s j
    ∧ (outsAt0 (F := Ideal) m c t.val t.isLt).2.2 (ix2 s j) = (outsAt0 (F := Ideal) m c (t.val - 1) lt').2.2 (ix2 s j) + part8 m c (tileOf t) s j := by
  rw [outsAt0_B m c t e]
  refine ⟨?_, ?_⟩
  · frame_out
    exact scale_part m c t _ s j
  · frame_out
    exact shift_part m c t _ s j

/-! ## The result arrays -/

theorem final6 : (dats (F := Ideal) m 0 c).arrAt 6 (cfgs 0).N = fun i : S8192x1024.Idx => darg (aZ m c) (aC m c) (aG m c) (i 0) (i 1) := by
  refine (dats (F := Ideal) m 0 c).arrAt_eq_of_covers 6 _ (by decide +kernel) fun t hf y => ?_
  have ey : y = ix2 (y 0) (y 1) := by funext a; fin_cases a <;> rfl
  blk_simp
  rw [after0_6]
  refine (congrArg _ ey).trans ((out6 m c t (y 0) (y 1)).trans ?_)
  refine congrArg₂ _ (Fin.ext ?_) (Fin.ext ?_)
  · dsimp only [rowOf]; blk_simp [index_maps t]
  · dsimp only; blk_simp [index_maps t]

theorem lt16 (t : Fin cfg0.N) : t.val < 16 := lt_of_lt_of_eq t.isLt N_0

theorem final7 : (dats (F := Ideal) m 0 c).arrAt 7 (cfgs 0).N = fun i : S8x1024.Idx => ∑ p : Fin 16, part7 m c p (i 0) (i 1) := by
  refine (dats (F := Ideal) m 0 c).arrAt_eq_of_covers 7 _ (by decide +kernel) fun t hf y => ?_
  have ey : y = ix2 (y 0) (y 1) := by funext a; fin_cases a <;> rfl
  blk_simp
  rw [after0_7, Pipeline.eq_sum_fin_of_reset_step_apply_of_flush (fun n h => (outsAt0 (F := Ideal) m c n h).2.1) 16 (fun _ => 0) (fun t j => part7 m c (tileOf t) (j 0) (j 1))
      (fun t h j => by rw [show j = ix2 (j 0) (j 1) by funext a; fin_cases a <;> rfl]; exact (first m c t h (j 0) (j 1)).1)
      (fun t h j => by rw [show j = ix2 (j 0) (j 1) by funext a; fin_cases a <;> rfl]; exact (later m c t h _ (j 0) (j 1)).1) t ((flush0_7 t).mp hf) _, zero_add]
  show (∑ s : Fin 16, part7 m c (tileOf ⟨16 * (t.val / 16) + s.val, Pipeline.run_point_lt_of_flush t ((flush0_7 t).mp hf) s⟩) (y 0) (y 1) : EReal) = (_ : EReal)
  refine sum_parts (part7 m c) t.val (lt16 t) _ (fun _ => rfl) ?_ ?_
  · blk_simp [index_maps t]
  · blk_simp [index_maps t]

theorem final8 : (dats (F := Ideal) m 0 c).arrAt 8 (cfgs 0).N = fun i : S8x1024.Idx => ∑ p : Fin 16, part8 m c p (i 0) (i 1) := by
  refine (dats (F := Ideal) m 0 c).arrAt_eq_of_covers 8 _ (by decide +kernel) fun t hf y => ?_
  have ey : y = ix2 (y 0) (y 1) := by funext a; fin_cases a <;> rfl
  blk_simp
  rw [after0_8, Pipeline.eq_sum_fin_of_reset_step_apply_of_flush (fun n h => (outsAt0 (F := Ideal) m c n h).2.2) 16 (fun _ => 0) (fun t j => part8 m c (tileOf t) (j 0) (j 1))
      (fun t h j => by rw [show j = ix2 (j 0) (j 1) by funext a; fin_cases a <;> rfl]; exact (first m c t h (j 0) (j 1)).2)
      (fun t h j => by rw [show j = ix2 (j 0) (j 1) by funext a; fin_cases a <;> rfl]; exact (later m c t h _ (j 0) (j 1)).2) t ((flush0_8 t).mp hf) _, zero_add]
  show (∑ s : Fin 16, part8 m c (tileOf ⟨16 * (t.val / 16) + s.val, Pipeline.run_point_lt_of_flush t ((flush0_8 t).mp hf) s⟩) (y 0) (y 1) : EReal) = (_ : EReal)
  refine sum_parts (part8 m c) t.val (lt16 t) _ (fun _ => rfl) ?_ ?_
  · blk_simp [index_maps t]
  · blk_simp [index_maps t]

end Cert.InpIdeal.Bridge
-- ==== Proof.Inp.Value.lean ====
module

public import proofs.«01_k».proof.Defs
public import proofs.«01_k».proof.Proof.Gen.InpIdeal
public import proofs.«01_k».proof.Proof.Gen.InpRefIdeal
public import proofs.«01_k».proof.Proof.Inp.Ref
public import proofs.«01_k».proof.Proof.Inp.Kernel

/-!
# The last layer norm's backward pass: kernel and reference agree
-/

@[expose] public section
set_option maxRecDepth 16384
noncomputable section

open Idealize.ShloMosaic Idealize.ShloMosaic.TcCoe Idealize.SL.Sem Cert.Reals Cert.LayerNorm

namespace Cert.Pre_finite_inp

instance facts : Cert.Pre_finite_inp.Facts := by constructor <;> decide

variable (z : FVec Ideal S8192x1024 .f32) (g b : FVec Ideal S1024 .f32) (w : FVec Ideal S1024x2432 .bf16)
  (d : FVec Ideal S8192x1024 .f32) (a : FVec Ideal S8192x2432 .bf16)

theorem realZ (i) (h : (fn (F := Ideal) z g b w d a).1 i = 1#1) : IsReal (z i) := by
  refine IsReal.of_finite (Eq.trans ?_ h); unfold fn; pointwise

theorem realG (i) (h : (fn (F := Ideal) z g b w d a).2.1 i = 1#1) : IsReal (g i) := by
  refine IsReal.of_finite (Eq.trans ?_ h); unfold fn; pointwise

theorem realW (i) (h : (fn (F := Ideal) z g b w d a).2.2.1 i = 1#1) : IsReal (w i) := by
  refine IsReal.of_finite (Eq.trans ?_ h); unfold fn; pointwise

theorem realD (i) (h : (fn (F := Ideal) z g b w d a).2.2.2.1 i = 1#1) : IsReal (d i) := by
  refine IsReal.of_finite (Eq.trans ?_ h); unfold fn; pointwise

theorem realA (i) (h : (fn (F := Ideal) z g b w d a).2.2.2.2 i = 1#1) : IsReal (a i) := by
  refine IsReal.of_finite (Eq.trans ?_ h); unfold fn; pointwise

end Cert.Pre_finite_inp

namespace Cert.InpIdeal.Bridge

open Cert.InpIdeal Cert.InpIdeal.Gen

variable (m : (ℓ : Loc nD τ sig) → Buf (Elt Ideal) ℓ) (ρ : Dev nD → PrngReg) (c : Dev nD)

/-- The gradient of the normed rows' argument. -/
def outZ : Buf (Elt Ideal) ((c.tc : Thread nD τ).loc main_v17_0) := fun i : S8192x1024.Idx => darg (aZ m c) (aC m c) (aG m c) (i 0) (i 1)
/-- The gradient of the norm's scale. -/
def outG : Buf (Elt Ideal) ((c.tc : Thread nD τ).loc main_v18) := fun i : S1024.Idx => dscale (aZ m c) (aC m c) (i 0)
/-- The gradient of the norm's shift. -/
def outB : Buf (Elt Ideal) ((c.tc : Thread nD τ).loc main_v19) := fun i : S1024.Idx => dshift (aC m c) (i 0)
theorem arr_apart : Function.Injective (Pipeline.arrRef spec0) := by decide

theorem folded_sum (f : Fin 8 → Fin 1024 → EReal) (x : Vec Ideal S8x1024 .f32) (hx : x = fun i : S8x1024.Idx => f (i 0) (i 1)) (j : Fin 1024) :
    Host.reduceAdd (F := Ideal) x (constant S_ .f32 0x00000000#32) reducesTo_S8x1024_S1024_d0 h_S_ (ix1 j) = ∑ a, f a j := by
  subst hx; pointwise

/-- The scale's gradient: the eight rows of partial sums that the call leaves, added. -/
theorem tail_scale : Pipeline.afterTail₀ cfgs (dats (F := Ideal) m) 0 (V0 m) [hostOps1] c main_v18 = outG m c := by
  unfold Pipeline.afterTail₀
  show StableHlo.after hostOps1 _ _ = _
  after_results_simp
  rw [Pipeline.withArrays_arr spec0 arr_apart c _ _ 7]
  funext i
  have ei : i = ix1 (i 0) := by funext a; fin_cases a; rfl
  rw [ei]
  refine (folded_sum (fun a j => ∑ t : Fin 16, part7 m c t a j) _ (final7 m c) (i 0)).trans ?_
  exact (sum_fold (fun r => aC m c r (i 0) * xhat (aZ m c r) (i 0)))

/-- The shift's gradient, likewise. -/
theorem tail_shift : Pipeline.afterTail₀ cfgs (dats (F := Ideal) m) 0 (V0 m) [hostOps1] c main_v19 = outB m c := by
  unfold Pipeline.afterTail₀
  show StableHlo.after hostOps1 _ _ = _
  after_results_simp
  rw [Pipeline.withArrays_arr spec0 arr_apart c _ _ 8]
  funext i
  have ei : i = ix1 (i 0) := by funext a; fin_cases a; rfl
  rw [ei]
  refine (folded_sum (fun a j => ∑ t : Fin 16, part8 m c t a j) _ (final8 m c) (i 0)).trans ?_
  exact (sum_fold (fun r => aC m c r (i 0)))

/-- What the kernel leaves: its three results, and its arguments as they were. -/
theorem run : θ_run defs (onTc (τ := τ) (main (F := Ideal))) ⟨m, fun _ => 0, ρ⟩ (fun r => ∀ c : Dev nD,
      r.2.mem ((c.tc : Thread nD τ).loc main_v17_0) = outZ m c
      ∧ r.2.mem ((c.tc : Thread nD τ).loc main_v18) = outG m c
      ∧ r.2.mem ((c.tc : Thread nD τ).loc main_v19) = outB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run _ _ _).mono (fun r h c => ⟨((h.1 c).1 6).trans (final6 m c), ((h.1 c).2 main_v18 (by decide)).trans (tail_scale m c),
    ((h.1 c).2 main_v19 (by decide)).trans (tail_shift m c), h.2 c⟩) (θ_run_and (Gen.run_main m ρ) (Gen.unchanged m ρ))

end Cert.InpIdeal.Bridge

namespace Cert.InpRefIdeal.Bridge

open Cert.InpIdeal.Bridge Cert.NormRef

variable (m : (ℓ : Loc Cert.InpIdeal.nD Cert.InpIdeal.τ Cert.InpIdeal.sig) → Buf (Elt Ideal) ℓ)
  (m' : (ℓ : Loc Cert.InpRefIdeal.nD Cert.InpRefIdeal.τ Cert.InpRefIdeal.sig) → Buf (Elt Ideal) ℓ) (c : Dev Cert.InpIdeal.nD)

/-- The two programs hold the same arguments. -/
def Same : Prop :=
  argZ m' c = m ((c.tc : Thread Cert.InpIdeal.nD Cert.InpIdeal.τ).loc Cert.InpIdeal.main_arg0)
  ∧ argG m' c = m ((c.tc : Thread Cert.InpIdeal.nD Cert.InpIdeal.τ).loc Cert.InpIdeal.main_arg1)
  ∧ argW m' c = m ((c.tc : Thread Cert.InpIdeal.nD Cert.InpIdeal.τ).loc Cert.InpIdeal.main_arg3)
  ∧ argD m' c = m ((c.tc : Thread Cert.InpIdeal.nD Cert.InpIdeal.τ).loc Cert.InpIdeal.main_arg4)
  ∧ argA m' c = m ((c.tc : Thread Cert.InpIdeal.nD Cert.InpIdeal.τ).loc Cert.InpIdeal.main_arg5)

/-- The arguments whose values enter a quotient or a difference are finite. -/
def Real : Prop := (∀ i, IsReal (argZ m' c i)) ∧ (∀ i, IsReal (argG m' c i)) ∧ (∀ i, IsReal (argD m' c i)) ∧ (∀ i, IsReal (argA m' c i)) ∧ ∀ i, IsReal (argW m' c i)

variable (e : Same m m' c)
include e

theorem same_z : row (argZ m' c) = aZ m c := by funext r j; exact congrFun e.1 _
theorem same_g : (fun j => argG m' c (ix1 j)) = aG m c := by funext j; exact congrFun e.2.1 _
theorem same_c : rC m' c = aC m c := by
  unfold rC aC
  rw [e.2.2.1, e.2.2.2.1, e.2.2.2.2]; rfl

theorem agree1 : out1 m' c = outG m c := by
  funext i
  have ei : i = ix1 (i 0) := by funext a; fin_cases a; rfl
  rw [ei]; refine (out1_at m' c (i 0)).trans ?_
  rw [same_z m m' c e, same_c m m' c e]; rfl

theorem agree2 : out2 m' c = outB m c := by
  funext i
  have ei : i = ix1 (i 0) := by funext a; fin_cases a; rfl
  rw [ei]; refine (out2_at m' c (i 0)).trans ?_
  rw [same_c m m' c e]; rfl

variable (h : Real m' c)
include h

theorem agree0 : out0 m' c = outZ m c := by
  funext i
  have ei : i = ix2 (i 0) (i 1) := by funext a; fin_cases a <;> rfl
  rw [ei]; refine (out0_at m' c h.1 h.2.1 h.2.2.1 h.2.2.2.1 h.2.2.2.2 (i 0) (i 1)).trans ?_
  rw [same_z m m' c e, same_c m m' c e, same_g m m' c e]; rfl

end Cert.InpRefIdeal.Bridge

/-- The call's three results are those of the derivative of the forward lines. -/
theorem Cert.InpIdeal.pair : Cert.algebraic_InpIdeal_InpRefIdeal_pre_finite_inp (hInpIdeal := Cert.InpIdeal.Gen.facts)
    (hInpRefIdeal := Cert.InpRefIdeal.Gen.facts) (hPre_finite_inp := Cert.Pre_finite_inp.facts) := by
  intro m g m' g' hpre hagree
  refine ⟨fun c => Cert.InpIdeal.Bridge.outZ m c, fun c => Cert.InpIdeal.Bridge.outG m c, fun c => Cert.InpIdeal.Bridge.outB m c,
    Cert.InpIdeal.Bridge.run m g, ?_⟩
  have e (c) : Cert.InpRefIdeal.Bridge.Same m m' c := ⟨(hagree c).1, (hagree c).2.1, (hagree c).2.2.2.1, (hagree c).2.2.2.2.1, (hagree c).2.2.2.2.2⟩
  have h (c) : Cert.InpRefIdeal.Bridge.Real m' c := by
    refine ⟨fun i => ?_, fun i => ?_, fun i => ?_, fun i => ?_, fun i => ?_⟩
    · rw [(e c).1]; exact Cert.Pre_finite_inp.realZ _ _ _ _ _ _ i (congrFun (hpre c).1 i)
    · rw [(e c).2.1]; exact Cert.Pre_finite_inp.realG _ _ _ _ _ _ i (congrFun (hpre c).2.1 i)
    · rw [(e c).2.2.2.1]; exact Cert.Pre_finite_inp.realD _ _ _ _ _ _ i (congrFun (hpre c).2.2.2.1 i)
    · rw [(e c).2.2.2.2]; exact Cert.Pre_finite_inp.realA _ _ _ _ _ _ i (congrFun (hpre c).2.2.2.2 i)
    · rw [(e c).2.2.1]; exact Cert.Pre_finite_inp.realW _ _ _ _ _ _ i (congrFun (hpre c).2.2.1 i)
  exact (θ_run _ _ _).mono (fun r p c => ⟨(p c).1.trans (Cert.InpRefIdeal.Bridge.agree0 m m' c (e c) (h c)),
    (p c).2.1.trans (Cert.InpRefIdeal.Bridge.agree1 m m' c (e c)), (p c).2.2.1.trans (Cert.InpRefIdeal.Bridge.agree2 m m' c (e c)), (p c).2.2.2⟩) (Cert.InpRefIdeal.Value.run m' g')

end
-- ==== Proof.InzValue.lean ====
module

public import proofs.«01_k».proof.Proof.Gen.InzIdeal.Frame
public import proofs.«01_k».proof.Proof.Gen.InzRefIdeal.Run
public import proofs.«01_k».proof.Defs
public import Idealize.ShloMosaic.Lib.Pipeline.ValueKit
public import Idealize.ShloMosaic.Lib.Pointwise

/-!
# The first layer's gradient of the step's input

The product with the transposed weight, plus the scaled gradient of the residual branch.
-/

@[expose] public section
set_option maxRecDepth 16384
noncomputable section
namespace Cert.InzIdeal.Bridge

open Idealize.ShloMosaic Idealize.ShloMosaic.TcCoe Idealize.SL.Sem
open Cert.InzIdeal Cert.InzIdeal.Gen

variable (m : (ℓ : Loc nD τ sig) → Buf (Elt Ideal) ℓ) (c : Dev nD)

/-- The reference's term over the weight, the residual branch's gradient and the cotangent. -/
def ref (w : FVec Ideal S1024x2432 .bf16) (z : FVec Ideal S8192x1024 .f32) (a : FVec Ideal S8192x2432 .bf16) : FVec Ideal S8192x1024 .f32 :=
  addf (Host.dotGeneral Cert.InzRefIdeal.dot_S8192x2432_S1024x2432_S8192x1024_1_1_0_0_n_n none (extf .f32 a Cert.InzRefIdeal.Gen.bitsLt_bf16_f32) (extf .f32 w Cert.InzRefIdeal.Gen.bitsLt_bf16_f32))
    (mulf (broadcastInDim Cert.InzRefIdeal.S8192x1024 ![] Cert.InzRefIdeal.Gen.bcast_S_S8192x1024 (constant Cert.InzRefIdeal.S_ .f32 0x3FD744FD#32)) z)

theorem index_maps : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

theorem point (t : Fin cfg0.N) (y) : k0_pay1 (F := Ideal) (iblk m c 0 t) (iblk m c 1 t) (iblk m c 2 t) y
    = ref (m ((c : Thread nD τ).loc main_arg0)) (m ((c : Thread nD τ).loc main_arg1)) (m ((c : Thread nD τ).loc main_arg2))
      (((cfg0.win 3).blk t).view.emb y) := by
  pointwise [k0_pay1, ref]
  refine (add_comm _ _).trans ?_
  blk_point [iblk, V, index_maps t]

theorem final : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.InzIdeal.Bridge

namespace Cert.InzIdeal

open Idealize.ShloMosaic Idealize.ShloMosaic.TcCoe Idealize.SL.Sem

/-- From the same arguments the two programs leave the same result. -/
theorem pair : Cert.algebraic_InzIdeal_InzRefIdeal (hInzIdeal := Cert.InzIdeal.Gen.facts) (hInzRefIdeal := Cert.InzRefIdeal.Gen.facts) := by
  pair_intro
  · run_from Cert.InzIdeal.Gen.run_main m g
  · run_from Cert.InzRefIdeal.Value.run m' g'
    exact (Bridge.final m c).symm

end Cert.InzIdeal
-- ==== Proof.Att.Kernel.lean ====
module

public import proofs.«01_k».proof.Proof.Gen.AttIdeal.Frame
public import proofs.«01_k».proof.Proof.Attn.Row
public import Idealize.ShloMosaic.Lib.Pipeline.ValueKit
public import Idealize.ShloMosaic.Lib.Pointwise

/-!
# The attention's forward kernel

Each grid point handles a tile of 512 query rows of one sequence, head by head: the scores, their softmax, and the
softmax times the values.
-/

@[expose] public section
set_option maxRecDepth 16384
noncomputable section

namespace Cert.AttnRow

/-- The attention of sequence `b`, head `h`, query row `s`. -/
def mixed (q : Fin 8192 → Fin 1024 → EReal) (kv : Fin 1024 → Fin 2048 → EReal) (b h : Fin 4) (s : Fin 2048) (d : Fin 256) : EReal :=
  ∑ j : Fin 256, soft (score q kv b h s) j * kv ⟨b.val * 256 + j.val, by omega⟩ ⟨1024 + h.val * 256 + d.val, by omega⟩

end Cert.AttnRow

namespace Cert.AttIdeal.Bridge

open Idealize.ShloMosaic Idealize.ShloMosaic.TcCoe Idealize.SL.Sem
open Cert.AttIdeal Cert.AttIdeal.Gen Cert.AttnRow

/-! ## One head's tile -/

section tiles
variable (q : Vec Ideal S512x256 .bf16) (k v : Vec Ideal S256x256 .bf16)

/-- The scores of a tile's row. -/
def rowS (s : Fin 512) (j : Fin 256) : EReal := (∑ x : Fin 256, q (ix2 s x) * k (ix2 j x)) * scale

theorem head_at (x : S512x256.Idx) : k0_pay2 (F := Ideal) q k v x = ∑ j : Fin 256, soft (rowS q k (x 0)) j * v (ix2 j (x 1)) := by
  pointwise [k0_pay2, soft, ex, top, rowS]

/-- The four heads do the same. -/
theorem head1 : k0_pay4 (F := Ideal) (k0_pay3 (F := Ideal) q k) v = k0_pay2 (F := Ideal) q k v := rfl
theorem head2 : k0_pay5 (F := Ideal) q k v = k0_pay2 (F := Ideal) q k v := rfl
theorem head3 : k0_pay1 (F := Ideal) (k0_pay6 (F := Ideal) q k) (k0_pay7 (F := Ideal) q k) v = k0_pay2 (F := Ideal) q k v := rfl

variable {q k v} {Q : Fin 8192 → Fin 1024 → EReal} {KV : Fin 1024 → Fin 2048 → EReal} {b h p : Fin 4}

theorem head_tiles (hq : ∀ (s : Fin 512) (x : Fin 256), q (ix2 s x) = Q ⟨b.val * 2048 + (p.val * 512 + s.val), by omega⟩ ⟨h.val * 256 + x.val, by omega⟩)
    (hk : ∀ (j : Fin 256) (x : Fin 256), k (ix2 j x) = KV ⟨b.val * 256 + j.val, by omega⟩ ⟨h.val * 256 + x.val, by omega⟩)
    (hv : ∀ (j : Fin 256) (x : Fin 256), v (ix2 j x) = KV ⟨b.val * 256 + j.val, by omega⟩ ⟨1024 + h.val * 256 + x.val, by omega⟩)
    (x : S512x256.Idx) (s : Fin 2048) (d : Fin 256) (e0 : s.val = p.val * 512 + (x 0).val) (e1 : d.val = (x 1).val) :
    k0_pay2 (F := Ideal) q k v x = mixed Q KV b h s d := by
  obtain rfl : d = x 1 := Fin.ext e1
  obtain ⟨n, hn⟩ := s
  obtain rfl : n = p.val * 512 + (x 0).val := e0
  have eS : rowS q k (x 0) = score Q KV b h ⟨p.val * 512 + (x 0).val, hn⟩ := by
    funext j
    unfold rowS score
    exact congrArg (· * scale) (Finset.sum_congr rfl fun y _ => congrArg₂ (· * ·) (hq (x 0) y) (hk j y))
  rw [head_at, eS]
  exact Finset.sum_congr rfl fun j _ => congrArg _ (hv j (x 1))

end tiles

variable (m : (ℓ : Loc nD τ sig) → Buf (Elt Ideal) ℓ) (c : Dev nD)

theorem index_maps : ∀ t : Fin cfg0.N, win0_0.index t = ![t.val, 0] ∧ win0_1.index t = ![t.val / 4, 0] ∧ win0_2.index t = ![t.val / 4, 1]
    ∧ win0_3.index t = ![t.val, 0] :=
  (by decide +kernel : ∀ t : Fin grid0.N, _)

/-- The arguments by coordinates. -/
def aQ (r : Fin 8192) (x : Fin 1024) : EReal := m ((c.tc : Thread nD τ).loc main_arg0) (ix2 r x)
def aKV (r : Fin 1024) (x : Fin 2048) : EReal := m ((c.tc : Thread nD τ).loc main_arg1) (ix2 r x)

/-- The sequence and the tile of a grid point. -/
def seqOf (t : Fin cfg0.N) : Fin 4 := ⟨t.val / 4, by have := lt_of_lt_of_eq t.isLt N_0; omega⟩
def tileOf (t : Fin cfg0.N) : Fin 4 := ⟨t.val % 4, by omega⟩

set_option maxHeartbeats 4000000 in
theorem point (t : Fin cfg0.N) (y : S512x1024.Idx) (s : Fin 2048) (x : Fin 1024) (e0 : s.val = t.val % 4 * 512 + (y 0).val) (e1 : x.val = (y 1).val) :
    out0_3 (F := Ideal) (iblk m c 0 t) (iblk m c 1 t) (iblk m c 2 t) y = mixed (aQ m c) (aKV m c) (seqOf t) ⟨x.val / 256, by omega⟩ s ⟨x.val % 256, by omega⟩ := by
  have lt : t.val < 16 := lt_of_lt_of_eq t.isLt N_0
  unfold out0_3
  simp only [head1, head2, head3]
  canon_tiles z h
  all_goals
    refine head_tiles (p := tileOf t) (fun s' x' => ?_) (fun s' x' => ?_) (fun s' x' => ?_) z s _ ?_ ?_
    all_goals first | (dsimp only [tileOf]; omega) | (dsimp only [aQ, aKV, seqOf, tileOf]; pointwise; blk_ext [iblk, V, index_maps t])

/-- The result array. -/
theorem final : (dats (F := Ideal) m 0 c).arrAt 3 (cfgs 0).N = fun i : S8192x1024.Idx =>
      mixed (aQ m c) (aKV m c) ⟨(i 0).val / 2048, by have : (i 0).val < 8192 := (i 0).isLt; omega⟩
        ⟨(i 1).val / 256, by have : (i 1).val < 1024 := (i 1).isLt; omega⟩ ⟨(i 0).val % 2048, by omega⟩ ⟨(i 1).val % 256, by omega⟩ := by
  refine (dats (F := Ideal) m 0 c).arrAt_eq_of_covers 3 _ (by decide +kernel) fun t hf y => ?_
  blk_simp
  rw [after0_3]
  have lt : t.val < 16 := lt_of_lt_of_eq t.isLt N_0
  have y0 : (y 0).val < 512 := (y 0).isLt
  have y1 : (y 1).val < 1024 := (y 1).isLt
  have e0 : win0_3.index t 0 = t.val := by rw [(index_maps t).2.2.2]; rfl
  have e1 : win0_3.index t 1 = 0 := by rw [(index_maps t).2.2.2]; rfl
  simp only [e0, e1]
  refine (point m c t y ⟨(t.val * 512 + (y 0).val) % 2048, by omega⟩ ⟨0 * 1024 + (y 1).val, by omega⟩ (by dsimp only; omega) (by dsimp only; omega)).trans ?_
  congr 1
  exact Fin.ext (by dsimp only [seqOf]; omega)

end Cert.AttIdeal.Bridge
-- ==== Proof.Att.Value.lean ====
module

public import proofs.«01_k».proof.Proof.Gen.AttRefIdeal.Run
public import proofs.«01_k».proof.Proof.Att.Kernel
public import proofs.«01_k».proof.Defs

/-!
# The attention: the kernel's result is the reference's
-/

@[expose] public section
set_option maxRecDepth 16384
noncomputable section
namespace Cert.AttRefIdeal.Bridge

open Idealize.ShloMosaic Idealize.ShloMosaic.TcCoe Idealize.SL.Sem
open Cert.AttRefIdeal Cert.AttRefIdeal.Gen Cert.AttnRow

section ops
variable {F : FTy → Type} [FloatOps F]

/-- The queries by sequence and head. -/
def heads (a : Vec F S8192x1024 .bf16) : FVec F S4x2048x4x256 .f32 := shapeCast _ (extf .f32 a bitsLt_bf16_f32) shapeCasts_S8192x1024_S4x2048x4x256
/-- The keys, or the values, by sequence and head. -/
def cut (o : Fin 3 → ℕ) (h : S4x256x2048.Slices o S4x256x1024) (kv : Vec F S1024x2048 .bf16) : FVec F S4x256x4x256 .f32 :=
  shapeCast _ (extractStridedSlice S4x256x1024 o (shapeCast _ (extf .f32 kv bitsLt_bf16_f32) shapeCasts_S1024x2048_S4x256x2048) h) shapeCasts_S4x256x1024_S4x256x4x256
def keys (kv : Vec F S1024x2048 .bf16) : FVec F S4x256x4x256 .f32 := cut ![0, 0, 0] slices_S4x256x2048_S4x256x1024_0_0_0 kv
def vals (kv : Vec F S1024x2048 .bf16) : FVec F S4x256x4x256 .f32 := cut ![0, 0, 1024] slices_S4x256x2048_S4x256x1024_0_0_1024 kv
/-- The scaled scores. -/
def scores (q : Vec F S8192x1024 .bf16) (kv : Vec F S1024x2048 .bf16) : FVec F S4x4x2048x256 .f32 :=
  mulf (Host.dotGeneral dot_S4x2048x4x256_S4x256x4x256_S4x4x2048x256_3_3_1_1_02_02 none (heads q) (keys kv)) (broadcastInDim S4x4x2048x256 ![] bcast_S_S4x4x2048x256 (constant S_ .f32 0x3D800000#32))
/-- A value for each row, along the row. -/
def along (t : FVec F S4x4x2048 .f32) : FVec F S4x4x2048x256 .f32 :=
  broadcastInDim S4x4x2048x256 ![0, 1, 2, 3] bcast_S4x4x2048x1_S4x4x2048x256_0_1_2_3 (broadcastInDim S4x4x2048x1 ![0, 1, 2] bcast_S4x4x2048_S4x4x2048x1_0_1_2 t)
/-- The largest score of each row. -/
def maxes (s : FVec F S4x4x2048x256 .f32) : FVec F S4x4x2048 .f32 :=
  Host.reduce FloatOps.maximumf s (constant S_ .f32 0xFF800000#32) reducesTo_S4x4x2048x256_S4x4x2048_d3 h_S_
/-- The exponentials, once each row's largest score is given. -/
def shifted (s : FVec F S4x4x2048x256 .f32) (t : FVec F S4x4x2048 .f32) : FVec F S4x4x2048x256 .f32 :=
  Host.exp (subf s (along (maximumf (broadcastInDim S4x4x2048 ![] bcast_S_S4x4x2048 (constant S_ .f32 0xFF800000#32)) t)))
/-- The softmax, from the exponentials. -/
def quots (e : FVec F S4x4x2048x256 .f32) : FVec F S4x4x2048x256 .f32 :=
  Host.divf e (along (Host.reduceAdd e (constant S_ .f32 0x00000000#32) reducesTo_S4x4x2048x256_S4x4x2048_d3 h_S_))
/-- The softmax times the values. -/
def out (p : FVec F S4x4x2048x256 .f32) (kv : Vec F S1024x2048 .bf16) : FVec F S8192x1024 .bf16 :=
  truncf .bf16 (shapeCast _ (transpose S4x2048x4x256 [0, 3, 1, 2] (Host.dotGeneral dot_S4x256x4x256_S4x4x2048x256_S4x4x256x2048_1_3_3_2_02_01 none (vals kv) p) transposes_S4x4x256x2048_S4x2048x4x256_0_3_1_2) shapeCasts_S4x2048x4x256_S8192x1024) bitsLt_bf16_f32
/-- The reference's result. -/
def ref (q : Vec F S8192x1024 .bf16) (kv : Vec F S1024x2048 .bf16) : FVec F S8192x1024 .bf16 := out (quots (shifted (scores q kv) (maxes (scores q kv)))) kv
end ops

variable (q : Vec Ideal S8192x1024 .bf16) (kv : Vec Ideal S1024x2048 .bf16)

theorem scores_at (b h : Fin 4) (s : Fin 2048) (j : Fin 256) : scores q kv (ix4 b h s j) = score (fun r x => q (ix2 r x)) (fun r x => kv (ix2 r x)) b h s j := by
  pointwise [scores, heads, keys, cut, score]

/-- A maximum along the last axis, at shapes left open. -/
theorem maxes_open {n0 n1 n2 : ℕ} (S : FVec Ideal ⟨4, ![n0, n1, n2, 256]⟩ .f32) (hr : (⟨4, ![n0, n1, n2, 256]⟩ : Shape).ReducesTo [3] ⟨3, ![n0, n1, n2]⟩)
    (b : Fin n0) (h : Fin n1) (s : Fin n2) :
    Host.reduce FloatOps.maximumf S (constant S_ .f32 0xFF800000#32) hr h_S_ (ix3 b h s) = top (fun l => S (ix4 b h s l)) := by
  pointwise [top]

theorem exps_at (S : FVec Ideal S4x4x2048x256 .f32) (b h : Fin 4) (s : Fin 2048) (j : Fin 256) : shifted S (maxes S) (ix4 b h s j) = ex (fun l => S (ix4 b h s l)) j := by
  have e (M : FVec Ideal S4x4x2048 .f32) : shifted S M (ix4 b h s j) = Ideal.exp (S (ix4 b h s j) - max (Ideal.ofBits .f32 0xFF800000#32) (M (ix3 b h s))) := by
    pointwise [shifted, along]
  rw [e, maxes, maxes_open S _ b h s, max_top, ex]

theorem quots_at (E : FVec Ideal S4x4x2048x256 .f32) (b h : Fin 4) (s : Fin 2048) (j : Fin 256) :
    quots E (ix4 b h s j) = Ideal.div (E (ix4 b h s j)) (∑ l, E (ix4 b h s l)) := by
  pointwise [quots, along]

theorem out_at (P : FVec Ideal S4x4x2048x256 .f32) (r : Fin 8192) (x : Fin 1024) : out P kv (ix2 r x)
    = ∑ j : Fin 256, P (ix4 ⟨r / 2048, by omega⟩ ⟨x / 256, by omega⟩ ⟨r % 2048, by omega⟩ j) * kv (ix2 ⟨r / 2048 * 256 + j, by omega⟩ ⟨1024 + x / 256 * 256 + x % 256, by omega⟩) := by
  pointwise [out, vals, cut]
  refine Finset.sum_congr rfl fun k _ => ?_
  rw [mul_comm]
  congr 1
  blk_ext

theorem ref_at (r : Fin 8192) (x : Fin 1024) : ref q kv (ix2 r x)
    = mixed (fun r x => q (ix2 r x)) (fun r x => kv (ix2 r x)) ⟨r / 2048, by omega⟩ ⟨x / 256, by omega⟩ ⟨r % 2048, by omega⟩ ⟨x % 256, by omega⟩ := by
  rw [ref, out_at]
  refine Finset.sum_congr rfl fun j _ => ?_
  rw [quots_at]
  simp only [exps_at, scores_at]
  rfl

end Cert.AttRefIdeal.Bridge

namespace Cert.AttIdeal

open Idealize.ShloMosaic Idealize.ShloMosaic.TcCoe Idealize.SL.Sem

/-- From the same arguments the two programs leave the same result. -/
theorem pair : Cert.algebraic_AttIdeal_AttRefIdeal (hAttIdeal := Cert.AttIdeal.Gen.facts) (hAttRefIdeal := Cert.AttRefIdeal.Gen.facts) := by
  pair_intro
  · run_from Cert.AttIdeal.Gen.run_main m g
  · run_from Cert.AttRefIdeal.Value.run m' g'
    refine Eq.trans (funext fun i => ?_) (Bridge.final m c).symm
    rw [show i = ix2 (i 0) (i 1) by funext a; fin_cases a <;> rfl]
    exact Cert.AttRefIdeal.Bridge.ref_at _ _ (i 0) (i 1)

end Cert.AttIdeal
-- ==== Proof.RlnValue.lean ====
module

public import proofs.«01_k».proof.Defs
public import proofs.«01_k».proof.Proof.Gen.RlnIdeal
public import proofs.«01_k».proof.Proof.Gen.RlnRefIdeal
public import proofs.«01_k».proof.Proof.Gen.RlnIdeal.Frame
public import proofs.«01_k».proof.Proof.Gen.RlnRefIdeal.Run
public import proofs.«01_k».proof.Proof.Bwd.Norm
public import Idealize.ShloMosaic.Lib.Pipeline.ReadBack

/-!
# The layer norm after the output product, and the product after it: kernel and reference agree

Each grid point takes 512 rows: the product added to the weighted residual, the rows normed, scaled and shifted, and
the next product taken of them.
-/

@[expose] public section
set_option maxRecDepth 16384
noncomputable section

open Idealize.ShloMosaic Idealize.ShloMosaic.TcCoe Idealize.SL.Sem Cert.LayerNorm

namespace Cert.RlnIdeal.Bridge

open Cert.RlnIdeal Cert.RlnIdeal.Gen

/-- The weight of the residual. -/
abbrev alpha : EReal := Ideal.ofBits .f32 0x3FD744FD#32

/-! ## One tile -/

section tile
variable (a : Vec Ideal S512x1024 .bf16) (w : Vec Ideal S1024x1024 .bf16) (res : Vec Ideal S512x1024 .f32) (g b : Vec Ideal S1x1024 .f32) (wn : Vec Ideal S1024x4096 .bf16)

/-- A row before its norm. -/
def tz (s : Fin 512) (j : Fin 1024) : EReal := alpha * res (ix2 s j) + ∑ k : Fin 1024, a (ix2 s k) * w (ix2 k j)

theorem cen_at (s : Fin 512) (j : Fin 1024) : k0_pay2 (F := Ideal) a res w (ix2 s j) = cen (tz a w res s) j := by
  pointwise [k0_pay2, cen, mean, tz]

theorem rstd_at (s : Fin 512) (x : Fin 1) : k0_pay3 (F := Ideal) a res w (ix2 s x) = rstd (tz a w res s) := by
  pointwise [k0_pay3, cen_at, rstd, spread, mean]

theorem xhat_at (s : Fin 512) (j : Fin 1024) : k0_pay4 (F := Ideal) a res w (ix2 s j) = xhat (tz a w res s) j := by
  pointwise [k0_pay4, cen_at, rstd_at, xhat]

/-- The normed row under its scale and shift. -/
def ty (s : Fin 512) (j : Fin 1024) : EReal := xhat (tz a w res s) j * g (ix2 0 j) + b (ix2 0 j)

theorem y_at (s : Fin 512) (j : Fin 1024) : k0_pay5 (F := Ideal) a res w g b (ix2 s j) = ty a w res g b s j := by
  pointwise [k0_pay5, xhat_at, ty]

theorem next_at (s : Fin 512) (j : Fin 4096) : k0_pay1 (F := Ideal) (k0_pay5 (F := Ideal) a res w g b) wn (ix2 s j)
    = ∑ k : Fin 1024, ty a w res g b s k * wn (ix2 k j) := by
  pointwise [k0_pay1, y_at]

end tile

/-! ## The arguments -/

variable (m : (ℓ : Loc nD τ sig) → Buf (Elt Ideal) ℓ) (ρ : Dev nD → PrngReg) (c : Dev nD)

def aA (r : Fin 8192) (k : Fin 1024) : EReal := m ((c.tc : Thread nD τ).loc main_arg0) (ix2 r k)
def aW (k : Fin 1024) (j : Fin 1024) : EReal := m ((c.tc : Thread nD τ).loc main_arg1) (ix2 k j)
def aR (r : Fin 8192) (j : Fin 1024) : EReal := m ((c.tc : Thread nD τ).loc main_arg2) (ix2 r j)
def aG (j : Fin 1024) : EReal := m ((c.tc : Thread nD τ).loc main_arg3) (ix1 j)
def aB (j : Fin 1024) : EReal := m ((c.tc : Thread nD τ).loc main_arg4) (ix1 j)
def aN (k : Fin 1024) (j : Fin 4096) : EReal := m ((c.tc : Thread nD τ).loc main_arg5) (ix2 k j)

/-- A row before its norm. -/
def aZ (r : Fin 8192) (j : Fin 1024) : EReal := alpha * aR m c r j + ∑ k, aA m c r k * aW m c k j

theorem laid_g (x : Fin 1) (j : Fin 1024) : V (F := Ideal) m c main_v0 (ix2 x j) = aG m c j := by
  show StableHlo.after hostOps0 _ _ _ = _
  after_results_simp
  pointwise [aG]

theorem laid_b (x : Fin 1) (j : Fin 1024) : V (F := Ideal) m c main_v1 (ix2 x j) = aB m c j := by
  show StableHlo.after hostOps0 _ _ _ = _
  after_results_simp
  pointwise [aB]

theorem index_maps : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] :=
  (by decide +kernel : ∀ t : Fin grid0.N, _)

/-- The rows of a grid point. -/
def rowOf (t : Fin cfg0.N) (s : Fin 512) : Fin 8192 := ⟨t.val * 512 + s.val, by have := lt_of_lt_of_eq t.isLt N_0; omega⟩

theorem blk_a (t : Fin cfg0.N) (s : Fin 512) (k : Fin 1024) : iblk (F := Ideal) m c 0 t (ix2 s k) = aA m c (rowOf t s) k := by
  blk_simp [iblk]; rw [V_main_arg0]; unfold aA rowOf; blk_ext [index_maps t]
theorem blk_w (t : Fin cfg0.N) (k : Fin 1024) (j : Fin 1024) : iblk (F := Ideal) m c 1 t (ix2 k j) = aW m c k j := by
  blk_simp [iblk]; rw [V_main_arg1]; unfold aW; blk_ext [index_maps t]
theorem blk_r (t : Fin cfg0.N) (s : Fin 512) (j : Fin 1024) : iblk (F := Ideal) m c 2 t (ix2 s j) = aR m c (rowOf t s) j := by
  blk_simp [iblk]; rw [V_main_arg2]; unfold aR rowOf; blk_ext [index_maps t]
theorem blk_g (t : Fin cfg0.N) (x : Fin 1) (j : Fin 1024) : iblk (F := Ideal) m c 3 t (ix2 x j) = aG m c j := by
  rw [← laid_g m c x j]; blk_simp [iblk]; blk_ext [index_maps t]
theorem blk_b (t : Fin cfg0.N) (x : Fin 1) (j : Fin 1024) : iblk (F := Ideal) m c 4 t (ix2 x j) = aB m c j := by
  rw [← laid_b m c x j]; blk_simp [iblk]; blk_ext [index_maps t]
theorem blk_n (t : Fin cfg0.N) (k : Fin 1024) (j : Fin 4096) : iblk (F := Ideal) m c 5 t (ix2 k j) = aN m c k j := by
  blk_simp [iblk]; rw [V_main_arg5]; unfold aN; blk_ext [index_maps t]

theorem tz_eq (t : Fin cfg0.N) (s : Fin 512) : tz (iblk (F := Ideal) m c 0 t) (iblk (F := Ideal) m c 1 t) (iblk (F := Ideal) m c 2 t) s = aZ m c (rowOf t s) := by
  funext j
  unfold tz aZ
  simp only [blk_a, blk_w, blk_r]

/-! ## The results -/

/-- The normed rows under their scale and shift. -/
def aY (r : Fin 8192) (j : Fin 1024) : EReal := xhat (aZ m c r) j * aG m c j + aB m c j
def outY : Buf (Elt Ideal) ((c.tc : Thread nD τ).loc main_v2_0) := fun i : S8192x1024.Idx => aY m c (i 0) (i 1)
/-- The normed rows. -/
def outX : Buf (Elt Ideal) ((c.tc : Thread nD τ).loc main_v2_1) := fun i : S8192x1024.Idx => xhat (aZ m c (i 0)) (i 1)
/-- The rows' reciprocal deviations. -/
def outR : Buf (Elt Ideal) ((c.tc : Thread nD τ).loc main_v2_2) := fun i : S8192x1.Idx => rstd (aZ m c (i 0))
/-- The next product. -/
def outN : Buf (Elt Ideal) ((c.tc : Thread nD τ).loc main_v2_3) := fun i : S8192x4096.Idx => (∑ k, aY m c (i 0) k * aN m c k (i 1) : EReal)

theorem ty_eq (t : Fin cfg0.N) (s : Fin 512) (j : Fin 1024) : ty (iblk (F := Ideal) m c 0 t) (iblk (F := Ideal) m c 1 t) (iblk (F := Ideal) m c 2 t) (iblk (F := Ideal) m c 3 t) (iblk (F := Ideal) m c 4 t) s j = aY m c (rowOf t s) j := by
  unfold ty aY
  rw [tz_eq, blk_g, blk_b]

theorem y_pt (t : Fin cfg0.N) (s : Fin 512) (j : Fin 1024) : k0_pay5 (F := Ideal) (iblk (F := Ideal) m c 0 t) (iblk (F := Ideal) m c 2 t) (iblk (F := Ideal) m c 1 t) (iblk (F := Ideal) m c 3 t) (iblk (F := Ideal) m c 4 t) (ix2 s j) = aY m c (rowOf t s) j :=
  (y_at _ _ _ _ _ s j).trans (ty_eq m c t s j)

theorem x_pt (t : Fin cfg0.N) (s : Fin 512) (j : Fin 1024) : k0_pay4 (F := Ideal) (iblk (F := Ideal) m c 0 t) (iblk (F := Ideal) m c 2 t) (iblk (F := Ideal) m c 1 t) (ix2 s j) = xhat (aZ m c (rowOf t s)) j :=
  (xhat_at _ _ _ s j).trans (congrArg (fun z => xhat z j) (tz_eq m c t s))

theorem r_pt (t : Fin cfg0.N) (s : Fin 512) (x : Fin 1) : k0_pay3 (F := Ideal) (iblk (F := Ideal) m c 0 t) (iblk (F := Ideal) m c 2 t) (iblk (F := Ideal) m c 1 t) (ix2 s x) = rstd (aZ m c (rowOf t s)) :=
  (rstd_at _ _ _ s x).trans (congrArg rstd (tz_eq m c t s))

theorem n_pt (t : Fin cfg0.N) (s : Fin 512) (j : Fin 4096) : k0_pay1 (F := Ideal) (k0_pay5 (F := Ideal) (iblk (F := Ideal) m c 0 t) (iblk (F := Ideal) m c 2 t) (iblk (F := Ideal) m c 1 t) (iblk (F := Ideal) m c 3 t) (iblk (F := Ideal) m c 4 t)) (iblk (F := Ideal) m c 5 t) (ix2 s j)
    = (∑ k, aY m c (rowOf t s) k * aN m c k j : EReal) := by
  rw [next_at]
  simp only [ty_eq, blk_n]

theorem finalY : (dats (F := Ideal) m 0 c).arrAt 6 (cfgs 0).N = outY m c := by
  refine (dats (F := Ideal) m 0 c).arrAt_eq_of_covers 6 _ (by decide +kernel) fun t hf y => ?_
  have ey : y = ix2 (y 0) (y 1) := by funext a; fin_cases a <;> rfl
  blk_simp
  rw [after0_6]
  refine (congrArg _ ey).trans ?_
  frame_out [k0_pay6]
  refine (y_pt m c t (y 0) (y 1)).trans ?_
  refine congrArg₂ (aY m c) (Fin.ext ?_) (Fin.ext ?_)
  · dsimp only [rowOf]; blk_simp [index_maps t]
  · dsimp only; blk_simp [index_maps t]

theorem finalX : (dats (F := Ideal) m 0 c).arrAt 7 (cfgs 0).N = outX m c := by
  refine (dats (F := Ideal) m 0 c).arrAt_eq_of_covers 7 _ (by decide +kernel) fun t hf y => ?_
  have ey : y = ix2 (y 0) (y 1) := by funext a; fin_cases a <;> rfl
  blk_simp
  rw [after0_7]
  refine (congrArg _ ey).trans ?_
  frame_out [k0_pay6]
  refine (x_pt m c t (y 0) (y 1)).trans ?_
  refine congrArg₂ (fun r j => xhat (aZ m c r) j) (Fin.ext ?_) (Fin.ext ?_)
  · dsimp only [rowOf]; blk_simp [index_maps t]
  · dsimp only; blk_simp [index_maps t]

theorem finalR : (dats (F := Ideal) m 0 c).arrAt 8 (cfgs 0).N = outR m c := by
  refine (dats (F := Ideal) m 0 c).arrAt_eq_of_covers 8 _ (by decide +kernel) fun t hf y => ?_
  have ey : y = ix2 (y 0) (y 1) := by funext a; fin_cases a <;> rfl
  blk_simp
  rw [after0_8]
  refine (congrArg _ ey).trans ?_
  frame_out [k0_pay6]
  refine (r_pt m c t (y 0) (y 1)).trans ?_
  refine congrArg (fun r => rstd (aZ m c r)) (Fin.ext ?_)
  dsimp only [rowOf]; blk_simp [index_maps t]

theorem finalN : (dats (F := Ideal) m 0 c).arrAt 9 (cfgs 0).N = outN m c := by
  refine (dats (F := Ideal) m 0 c).arrAt_eq_of_covers 9 _ (by decide +kernel) fun t hf y => ?_
  have ey : y = ix2 (y 0) (y 1) := by funext a; fin_cases a <;> rfl
  blk_simp
  rw [after0_9]
  refine (congrArg _ ey).trans ?_
  frame_out [k0_pay6]
  refine (n_pt m c t (y 0) (y 1)).trans ?_
  refine congrArg₂ (fun r j => (∑ k, aY m c r k * aN m c k j : EReal)) (Fin.ext ?_) (Fin.ext ?_)
  · dsimp only [rowOf]; blk_simp [index_maps t]
  · dsimp only; blk_simp [index_maps t]

/-- What the kernel leaves: its results, and its arguments as they were. -/
theorem run : θ_run defs (onTc (τ := τ) (main (F := Ideal))) ⟨m, fun _ => 0, ρ⟩ (fun r => ∀ c : Dev nD,
      r.2.mem ((c.tc : Thread nD τ).loc main_v2_0) = outY m c
      ∧ r.2.mem ((c.tc : Thread nD τ).loc main_v2_1) = outX m c
      ∧ r.2.mem ((c.tc : Thread nD τ).loc main_v2_2) = outR m c
      ∧ r.2.mem ((c.tc : Thread nD τ).loc main_v2_3) = outN m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run _ _ _).mono (fun r h c => ⟨((h.1 c).1 6).trans (finalY m c), ((h.1 c).1 7).trans (finalX m c),
    ((h.1 c).1 8).trans (finalR m c), ((h.1 c).1 9).trans (finalN m c), h.2 c⟩) (θ_run_and (Gen.run_main m ρ) (Gen.unchanged m ρ))

end Cert.RlnIdeal.Bridge

namespace Cert.RlnRefIdeal.Bridge

open Cert.RlnRefIdeal Cert.RlnRefIdeal.Gen Cert.NormRef
open Cert.RlnIdeal.Bridge (aA aW aR aG aB aZ aY outY outX outR aN outN)

section ops
variable {F : FTy → Type} [FloatOps F] (m : (ℓ : Loc nD τ sig) → Buf (Elt F) ℓ) (c : Dev nD)

/-- The rows before their norm. -/
def zs : FVec F S8192x1024 .f32 :=
  addf (mulf (broadcastInDim S8192x1024 ![] bcast_S_S8192x1024 (constant S_ .f32 0x3FD744FD#32)) (m ((c.tc : Thread nD τ).loc main_arg2)))
    (Host.dotGeneral dot_S8192x1024_S1024x1024_S8192x1024_1_0_0_1_n_n none (extf .f32 (m ((c.tc : Thread nD τ).loc main_arg0)) bitsLt_bf16_f32) (extf .f32 (m ((c.tc : Thread nD τ).loc main_arg1)) bitsLt_bf16_f32))
/-- The normed rows under their scale and shift. -/
def ys : FVec F S8192x1024 .f32 :=
  addf (mulf (normed (zs m c)) (under (m ((c.tc : Thread nD τ).loc main_arg3)))) (under (m ((c.tc : Thread nD τ).loc main_arg4)))
/-- The next product. -/
def nexts : FVec F S8192x4096 .bf16 :=
  truncf .bf16 (Host.dotGeneral dot_S8192x1024_S1024x4096_S8192x4096_1_0_0_1_n_n none (ys m c) (extf .f32 (m ((c.tc : Thread nD τ).loc main_arg5)) bitsLt_bf16_f32)) bitsLt_bf16_f32

end ops

variable (m : (ℓ : Loc Cert.RlnIdeal.nD Cert.RlnIdeal.τ Cert.RlnIdeal.sig) → Buf (Elt Ideal) ℓ)
  (m' : (ℓ : Loc nD τ sig) → Buf (Elt Ideal) ℓ) (c : Dev Cert.RlnIdeal.nD)

/-- The two programs hold the same arguments. -/
def Same : Prop :=
  m' ((c.tc : Thread nD τ).loc main_arg0) = m ((c.tc : Thread Cert.RlnIdeal.nD Cert.RlnIdeal.τ).loc Cert.RlnIdeal.main_arg0)
  ∧ m' ((c.tc : Thread nD τ).loc main_arg1) = m ((c.tc : Thread Cert.RlnIdeal.nD Cert.RlnIdeal.τ).loc Cert.RlnIdeal.main_arg1)
  ∧ m' ((c.tc : Thread nD τ).loc main_arg2) = m ((c.tc : Thread Cert.RlnIdeal.nD Cert.RlnIdeal.τ).loc Cert.RlnIdeal.main_arg2)
  ∧ m' ((c.tc : Thread nD τ).loc main_arg3) = m ((c.tc : Thread Cert.RlnIdeal.nD Cert.RlnIdeal.τ).loc Cert.RlnIdeal.main_arg3)
  ∧ m' ((c.tc : Thread nD τ).loc main_arg4) = m ((c.tc : Thread Cert.RlnIdeal.nD Cert.RlnIdeal.τ).loc Cert.RlnIdeal.main_arg4)
  ∧ m' ((c.tc : Thread nD τ).loc main_arg5) = m ((c.tc : Thread Cert.RlnIdeal.nD Cert.RlnIdeal.τ).loc Cert.RlnIdeal.main_arg5)

variable (e : Same m m' c)
include e

theorem same_z (r : Fin 8192) : row (zs m' c) r = aZ m c r := by
  funext j
  unfold row zs aZ aA aW aR
  rw [e.1, e.2.1, e.2.2.1]
  pointwise

theorem ys_at (r : Fin 8192) (j : Fin 1024) : ys m' c (ix2 r j) = aY m c r j := by
  show normed (zs m' c) (ix2 r j) * under _ (ix2 r j) + under _ (ix2 r j) = _
  rw [normed_at, under_at, under_at, same_z m m' c e, e.2.2.2.1, e.2.2.2.2.1]; rfl

theorem agreeY : ys m' c = outY m c := by
  funext i
  have ei : i = ix2 (i 0) (i 1) := by funext a; fin_cases a <;> rfl
  rw [ei]; exact ys_at m m' c e (i 0) (i 1)

theorem agreeX : normed (zs m' c) = outX m c := by
  funext i
  have ei : i = ix2 (i 0) (i 1) := by funext a; fin_cases a <;> rfl
  rw [ei]; refine (normed_at _ (i 0) (i 1)).trans ?_
  exact congrArg (fun z => xhat z (i 1)) (same_z m m' c e (i 0))

theorem agreeR : scales (zs m' c) = outR m c := by
  funext i
  have ei : i = ix2 (i 0) (i 1) := by funext a; fin_cases a <;> rfl
  rw [ei]; refine (scales_at _ (i 0) (i 1)).trans ?_
  exact congrArg rstd (same_z m m' c e (i 0))

theorem agreeN : nexts m' c = outN m c := by
  funext i
  have ei : i = ix2 (i 0) (i 1) := by funext a; fin_cases a <;> rfl
  rw [ei]; unfold nexts outN aN
  rw [e.2.2.2.2.2]
  pointwise [ys_at m m' c e]

end Cert.RlnRefIdeal.Bridge

/-- The normed rows, what is saved of them and the next product are those of the forward lines. -/
theorem Cert.RlnIdeal.pair : Cert.algebraic_RlnIdeal_RlnRefIdeal (hRlnIdeal := Cert.RlnIdeal.Gen.facts) (hRlnRefIdeal := Cert.RlnRefIdeal.Gen.facts) := by
  intro m g m' g' _ hagree
  refine ⟨fun c => Cert.RlnIdeal.Bridge.outY m c, fun c => Cert.RlnIdeal.Bridge.outX m c, fun c => Cert.RlnIdeal.Bridge.outR m c,
    fun c => Cert.RlnIdeal.Bridge.outN m c, Cert.RlnIdeal.Bridge.run m g, ?_⟩
  have e (c) : Cert.RlnRefIdeal.Bridge.Same m m' c := hagree c
  exact (θ_run _ _ _).mono (fun r p c => ⟨(p c).1.trans (Cert.RlnRefIdeal.Bridge.agreeY m m' c (e c)),
    (p c).2.1.trans (Cert.RlnRefIdeal.Bridge.agreeX m m' c (e c)), (p c).2.2.1.trans (Cert.RlnRefIdeal.Bridge.agreeR m m' c (e c)), (p c).2.2.2.1.trans (Cert.RlnRefIdeal.Bridge.agreeN m m' c (e c)), (p c).2.2.2.2⟩)
    (Cert.RlnRefIdeal.Value.run m' g')

end
-- ==== Proof.RlrValue.lean ====
module

public import proofs.«01_k».proof.Defs
public import proofs.«01_k».proof.Proof.Gen.RlrIdeal
public import proofs.«01_k».proof.Proof.Gen.RlrRefIdeal
public import proofs.«01_k».proof.Proof.Gen.RlrIdeal.Frame
public import proofs.«01_k».proof.Proof.Gen.RlrRefIdeal.Run
public import proofs.«01_k».proof.Proof.Bwd.Norm
public import Idealize.ShloMosaic.Lib.Pipeline.ReadBack

/-!
# The layer norm after the second feed-forward product: kernel and reference agree

Each grid point takes 512 rows: the square of their positive part times the weight, added to the weighted residual, then
normed, scaled and shifted.
-/

@[expose] public section
set_option maxRecDepth 16384
noncomputable section

open Idealize.ShloMosaic Idealize.ShloMosaic.TcCoe Idealize.SL.Sem Cert.LayerNorm

namespace Cert.RlrIdeal.Bridge

open Cert.RlrIdeal Cert.RlrIdeal.Gen

/-- The weight of the residual. -/
abbrev alpha : EReal := Ideal.ofBits .f32 0x3FD744FD#32

/-- The square of the positive part. -/
def act (x : EReal) : EReal := max x (Ideal.ofBits .f32 0x00000000#32) * max x (Ideal.ofBits .f32 0x00000000#32)

/-! ## One tile -/

section tile
variable (a : Vec Ideal S512x4096 .bf16) (w : Vec Ideal S4096x1024 .bf16) (res : Vec Ideal S512x1024 .f32) (g b : Vec Ideal S1x1024 .f32)

/-- A row before its norm. -/
def tz (s : Fin 512) (j : Fin 1024) : EReal := alpha * res (ix2 s j) + ∑ k : Fin 4096, act (a (ix2 s k)) * w (ix2 k j)

theorem cen_at (s : Fin 512) (j : Fin 1024) : k0_pay2 (F := Ideal) a res w (ix2 s j) = cen (tz a w res s) j := by
  pointwise [k0_pay2, cen, mean, tz, act]

theorem rstd_at (s : Fin 512) (x : Fin 1) : k0_pay3 (F := Ideal) a res w (ix2 s x) = rstd (tz a w res s) := by
  pointwise [k0_pay3, cen_at, rstd, spread, mean]

theorem xhat_at (s : Fin 512) (j : Fin 1024) : k0_pay4 (F := Ideal) a res w (ix2 s j) = xhat (tz a w res s) j := by
  pointwise [k0_pay4, cen_at, rstd_at, xhat]

/-- The normed row under its scale and shift. -/
def ty (s : Fin 512) (j : Fin 1024) : EReal := xhat (tz a w res s) j * g (ix2 0 j) + b (ix2 0 j)

theorem y_at (s : Fin 512) (j : Fin 1024) : k0_pay1 (F := Ideal) (k0_pay5 (F := Ideal) a res w g) b (ix2 s j) = ty a w res g b s j := by
  pointwise [k0_pay1, k0_pay5, xhat_at, ty]

end tile

/-! ## The arguments -/

variable (m : (ℓ : Loc nD τ sig) → Buf (Elt Ideal) ℓ) (ρ : Dev nD → PrngReg) (c : Dev nD)

def aA (r : Fin 8192) (k : Fin 4096) : EReal := m ((c.tc : Thread nD τ).loc main_arg0) (ix2 r k)
def aW (k : Fin 4096) (j : Fin 1024) : EReal := m ((c.tc : Thread nD τ).loc main_arg1) (ix2 k j)
def aR (r : Fin 8192) (j : Fin 1024) : EReal := m ((c.tc : Thread nD τ).loc main_arg2) (ix2 r j)
def aG (j : Fin 1024) : EReal := m ((c.tc : Thread nD τ).loc main_arg3) (ix1 j)
def aB (j : Fin 1024) : EReal := m ((c.tc : Thread nD τ).loc main_arg4) (ix1 j)

/-- A row before its norm. -/
def aZ (r : Fin 8192) (j : Fin 1024) : EReal := alpha * aR m c r j + ∑ k, act (aA m c r k) * aW m c k j

theorem laid_g (x : Fin 1) (j : Fin 1024) : V (F := Ideal) m c main_v0 (ix2 x j) = aG m c j := by
  show StableHlo.after hostOps0 _ _ _ = _
  after_results_simp
  pointwise [aG]

theorem laid_b (x : Fin 1) (j : Fin 1024) : V (F := Ideal) m c main_v1 (ix2 x j) = aB m c j := by
  show StableHlo.after hostOps0 _ _ _ = _
  after_results_simp
  pointwise [aB]

theorem index_maps : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

/-- The rows of a grid point. -/
def rowOf (t : Fin cfg0.N) (s : Fin 512) : Fin 8192 := ⟨t.val * 512 + s.val, by have := lt_of_lt_of_eq t.isLt N_0; omega⟩

theorem blk_a (t : Fin cfg0.N) (s : Fin 512) (k : Fin 4096) : iblk (F := Ideal) m c 0 t (ix2 s k) = aA m c (rowOf t s) k := by
  blk_simp [iblk]; rw [V_main_arg0]; unfold aA rowOf; blk_ext [index_maps t]
theorem blk_w (t : Fin cfg0.N) (k : Fin 4096) (j : Fin 1024) : iblk (F := Ideal) m c 1 t (ix2 k j) = aW m c k j := by
  blk_simp [iblk]; rw [V_main_arg1]; unfold aW; blk_ext [index_maps t]
theorem blk_r (t : Fin cfg0.N) (s : Fin 512) (j : Fin 1024) : iblk (F := Ideal) m c 2 t (ix2 s j) = aR m c (rowOf t s) j := by
  blk_simp [iblk]; rw [V_main_arg2]; unfold aR rowOf; blk_ext [index_maps t]
theorem blk_g (t : Fin cfg0.N) (x : Fin 1) (j : Fin 1024) : iblk (F := Ideal) m c 3 t (ix2 x j) = aG m c j := by
  rw [← laid_g m c x j]; blk_simp [iblk]; blk_ext [index_maps t]
theorem blk_b (t : Fin cfg0.N) (x : Fin 1) (j : Fin 1024) : iblk (F := Ideal) m c 4 t (ix2 x j) = aB m c j := by
  rw [← laid_b m c x j]; blk_simp [iblk]; blk_ext [index_maps t]

theorem tz_eq (t : Fin cfg0.N) (s : Fin 512) : tz (iblk (F := Ideal) m c 0 t) (iblk (F := Ideal) m c 1 t) (iblk (F := Ideal) m c 2 t) s = aZ m c (rowOf t s) := by
  funext j
  unfold tz aZ
  simp only [blk_a, blk_w, blk_r]

/-! ## The results -/

/-- The normed rows under their scale and shift. -/
def aY (r : Fin 8192) (j : Fin 1024) : EReal := xhat (aZ m c r) j * aG m c j + aB m c j
def outY : Buf (Elt Ideal) ((c.tc : Thread nD τ).loc main_v2_0) := fun i : S8192x1024.Idx => aY m c (i 0) (i 1)
/-- The normed rows. -/
def outX : Buf (Elt Ideal) ((c.tc : Thread nD τ).loc main_v2_1) := fun i : S8192x1024.Idx => xhat (aZ m c (i 0)) (i 1)
/-- The rows' reciprocal deviations. -/
def outR : Buf (Elt Ideal) ((c.tc : Thread nD τ).loc main_v2_2) := fun i : S8192x1.Idx => rstd (aZ m c (i 0))

theorem ty_eq (t : Fin cfg0.N) (s : Fin 512) (j : Fin 1024) : ty (iblk (F := Ideal) m c 0 t) (iblk (F := Ideal) m c 1 t) (iblk (F := Ideal) m c 2 t) (iblk (F := Ideal) m c 3 t) (iblk (F := Ideal) m c 4 t) s j = aY m c (rowOf t s) j := by
  unfold ty aY
  rw [tz_eq, blk_g, blk_b]

theorem y_pt (t : Fin cfg0.N) (s : Fin 512) (j : Fin 1024) : k0_pay1 (F := Ideal) (k0_pay5 (F := Ideal) (iblk (F := Ideal) m c 0 t) (iblk (F := Ideal) m c 2 t) (iblk (F := Ideal) m c 1 t) (iblk (F := Ideal) m c 3 t)) (iblk (F := Ideal) m c 4 t) (ix2 s j) = aY m c (rowOf t s) j :=
  (y_at _ _ _ _ _ s j).trans (ty_eq m c t s j)

theorem x_pt (t : Fin cfg0.N) (s : Fin 512) (j : Fin 1024) : k0_pay4 (F := Ideal) (iblk (F := Ideal) m c 0 t) (iblk (F := Ideal) m c 2 t) (iblk (F := Ideal) m c 1 t) (ix2 s j) = xhat (aZ m c (rowOf t s)) j :=
  (xhat_at _ _ _ s j).trans (congrArg (fun z => xhat z j) (tz_eq m c t s))

theorem r_pt (t : Fin cfg0.N) (s : Fin 512) (x : Fin 1) : k0_pay3 (F := Ideal) (iblk (F := Ideal) m c 0 t) (iblk (F := Ideal) m c 2 t) (iblk (F := Ideal) m c 1 t) (ix2 s x) = rstd (aZ m c (rowOf t s)) :=
  (rstd_at _ _ _ s x).trans (congrArg rstd (tz_eq m c t s))

theorem finalY : (dats (F := Ideal) m 0 c).arrAt 5 (cfgs 0).N = outY m c := by
  refine (dats (F := Ideal) m 0 c).arrAt_eq_of_covers 5 _ (by decide +kernel) fun t hf y => ?_
  have ey : y = ix2 (y 0) (y 1) := by funext a; fin_cases a <;> rfl
  blk_simp
  rw [after0_5]
  refine (congrArg _ ey).trans ?_
  frame_out
  refine (y_pt m c t (y 0) (y 1)).trans ?_
  refine congrArg₂ (aY m c) (Fin.ext ?_) (Fin.ext ?_)
  · dsimp only [rowOf]; blk_simp [index_maps t]
  · dsimp only; blk_simp [index_maps t]

theorem finalX : (dats (F := Ideal) m 0 c).arrAt 6 (cfgs 0).N = outX m c := by
  refine (dats (F := Ideal) m 0 c).arrAt_eq_of_covers 6 _ (by decide +kernel) fun t hf y => ?_
  have ey : y = ix2 (y 0) (y 1) := by funext a; fin_cases a <;> rfl
  blk_simp
  rw [after0_6]
  refine (congrArg _ ey).trans ?_
  frame_out
  refine (x_pt m c t (y 0) (y 1)).trans ?_
  refine congrArg₂ (fun r j => xhat (aZ m c r) j) (Fin.ext ?_) (Fin.ext ?_)
  · dsimp only [rowOf]; blk_simp [index_maps t]
  · dsimp only; blk_simp [index_maps t]

theorem finalR : (dats (F := Ideal) m 0 c).arrAt 7 (cfgs 0).N = outR m c := by
  refine (dats (F := Ideal) m 0 c).arrAt_eq_of_covers 7 _ (by decide +kernel) fun t hf y => ?_
  have ey : y = ix2 (y 0) (y 1) := by funext a; fin_cases a <;> rfl
  blk_simp
  rw [after0_7]
  refine (congrArg _ ey).trans ?_
  frame_out
  refine (r_pt m c t (y 0) (y 1)).trans ?_
  refine congrArg (fun r => rstd (aZ m c r)) (Fin.ext ?_)
  dsimp only [rowOf]; blk_simp [index_maps t]

/-- What the kernel leaves: its results, and its arguments as they were. -/
theorem run : θ_run defs (onTc (τ := τ) (main (F := Ideal))) ⟨m, fun _ => 0, ρ⟩ (fun r => ∀ c : Dev nD,
      r.2.mem ((c.tc : Thread nD τ).loc main_v2_0) = outY m c
      ∧ r.2.mem ((c.tc : Thread nD τ).loc main_v2_1) = outX m c
      ∧ r.2.mem ((c.tc : Thread nD τ).loc main_v2_2) = outR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono (fun r h c => ⟨((h.1 c).1 5).trans (finalY m c), ((h.1 c).1 6).trans (finalX m c),
    ((h.1 c).1 7).trans (finalR m c), h.2 c⟩) (θ_run_and (Gen.run_main m ρ) (Gen.unchanged m ρ))

end Cert.RlrIdeal.Bridge

namespace Cert.RlrRefIdeal.Bridge

open Cert.RlrRefIdeal Cert.RlrRefIdeal.Gen Cert.NormRef
open Cert.RlrIdeal.Bridge (aA aW aR aG aB aZ aY outY outX outR act)

section ops
variable {F : FTy → Type} [FloatOps F] (m : (ℓ : Loc nD τ sig) → Buf (Elt F) ℓ) (c : Dev nD)

/-- The rows before their norm. -/
def zs : FVec F S8192x1024 .f32 :=
  addf (mulf (broadcastInDim S8192x1024 ![] bcast_S_S8192x1024 (constant S_ .f32 0x3FD744FD#32)) (m ((c.tc : Thread nD τ).loc main_arg2)))
    (Host.dotGeneral dot_S8192x4096_S4096x1024_S8192x1024_1_0_0_1_n_n none
      (mulf (maximumf (extf .f32 (m ((c.tc : Thread nD τ).loc main_arg0)) bitsLt_bf16_f32) (broadcastInDim S8192x4096 ![] bcast_S_S8192x4096 (constant S_ .f32 0x00000000#32)))
        (maximumf (extf .f32 (m ((c.tc : Thread nD τ).loc main_arg0)) bitsLt_bf16_f32) (broadcastInDim S8192x4096 ![] bcast_S_S8192x4096 (constant S_ .f32 0x00000000#32)))) (extf .f32 (m ((c.tc : Thread nD τ).loc main_arg1)) bitsLt_bf16_f32))
/-- The normed rows under their scale and shift. -/
def ys : FVec F S8192x1024 .f32 :=
  addf (mulf (normed (zs m c)) (under (m ((c.tc : Thread nD τ).loc main_arg3)))) (under (m ((c.tc : Thread nD τ).loc main_arg4)))

end ops

variable (m : (ℓ : Loc Cert.RlrIdeal.nD Cert.RlrIdeal.τ Cert.RlrIdeal.sig) → Buf (Elt Ideal) ℓ)
  (m' : (ℓ : Loc nD τ sig) → Buf (Elt Ideal) ℓ) (c : Dev Cert.RlrIdeal.nD)

/-- The two programs hold the same arguments. -/
def Same : Prop :=
  m' ((c.tc : Thread nD τ).loc main_arg0) = m ((c.tc : Thread Cert.RlrIdeal.nD Cert.RlrIdeal.τ).loc Cert.RlrIdeal.main_arg0)
  ∧ m' ((c.tc : Thread nD τ).loc main_arg1) = m ((c.tc : Thread Cert.RlrIdeal.nD Cert.RlrIdeal.τ).loc Cert.RlrIdeal.main_arg1)
  ∧ m' ((c.tc : Thread nD τ).loc main_arg2) = m ((c.tc : Thread Cert.RlrIdeal.nD Cert.RlrIdeal.τ).loc Cert.RlrIdeal.main_arg2)
  ∧ m' ((c.tc : Thread nD τ).loc main_arg3) = m ((c.tc : Thread Cert.RlrIdeal.nD Cert.RlrIdeal.τ).loc Cert.RlrIdeal.main_arg3)
  ∧ m' ((c.tc : Thread nD τ).loc main_arg4) = m ((c.tc : Thread Cert.RlrIdeal.nD Cert.RlrIdeal.τ).loc Cert.RlrIdeal.main_arg4)

variable (e : Same m m' c)
include e

theorem same_z (r : Fin 8192) : row (zs m' c) r = aZ m c r := by
  funext j
  unfold row zs aZ aA aW aR act
  rw [e.1, e.2.1, e.2.2.1]
  pointwise

theorem ys_at (r : Fin 8192) (j : Fin 1024) : ys m' c (ix2 r j) = aY m c r j := by
  show normed (zs m' c) (ix2 r j) * under _ (ix2 r j) + under _ (ix2 r j) = _
  rw [normed_at, under_at, under_at, same_z m m' c e, e.2.2.2.1, e.2.2.2.2]; rfl

theorem agreeY : ys m' c = outY m c := by
  funext i
  have ei : i = ix2 (i 0) (i 1) := by funext a; fin_cases a <;> rfl
  rw [ei]; exact ys_at m m' c e (i 0) (i 1)

theorem agreeX : normed (zs m' c) = outX m c := by
  funext i
  have ei : i = ix2 (i 0) (i 1) := by funext a; fin_cases a <;> rfl
  rw [ei]; refine (normed_at _ (i 0) (i 1)).trans ?_
  exact congrArg (fun z => xhat z (i 1)) (same_z m m' c e (i 0))

theorem agreeR : scales (zs m' c) = outR m c := by
  funext i
  have ei : i = ix2 (i 0) (i 1) := by funext a; fin_cases a <;> rfl
  rw [ei]; refine (scales_at _ (i 0) (i 1)).trans ?_
  exact congrArg rstd (same_z m m' c e (i 0))

end Cert.RlrRefIdeal.Bridge

/-- The normed rows and what is saved of them are those of the forward lines. -/
theorem Cert.RlrIdeal.pair : Cert.algebraic_RlrIdeal_RlrRefIdeal (hRlrIdeal := Cert.RlrIdeal.Gen.facts) (hRlrRefIdeal := Cert.RlrRefIdeal.Gen.facts) := by
  intro m g m' g' _ hagree
  refine ⟨fun c => Cert.RlrIdeal.Bridge.outY m c, fun c => Cert.RlrIdeal.Bridge.outX m c, fun c => Cert.RlrIdeal.Bridge.outR m c,
    Cert.RlrIdeal.Bridge.run m g, ?_⟩
  have e (c) : Cert.RlrRefIdeal.Bridge.Same m m' c := hagree c
  exact (θ_run _ _ _).mono (fun r p c => ⟨(p c).1.trans (Cert.RlrRefIdeal.Bridge.agreeY m m' c (e c)),
    (p c).2.1.trans (Cert.RlrRefIdeal.Bridge.agreeX m m' c (e c)), (p c).2.2.1.trans (Cert.RlrRefIdeal.Bridge.agreeR m m' c (e c)), (p c).2.2.2⟩)
    (Cert.RlrRefIdeal.Value.run m' g')

end
-- ==== Proof.lean ====
/- The proof of the claims: each program's frame, and for each pair that the kernel computes what its reference computes. -/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Attn.Value
public import proofs.«01_k».proof.Proof.Gen.Ff2.Frame
public import proofs.«01_k».proof.Proof.Gen.Ff2Ideal.Frame
public import proofs.«01_k».proof.Proof.Gen.Ff2RefIdeal.Run
public import proofs.«01_k».proof.Proof.Ff2Value
public import proofs.«01_k».proof.Proof.Gen.Mix
public import proofs.«01_k».proof.Proof.Gen.MixRefIdeal.Run
public import proofs.«01_k».proof.Proof.Mix.Frame
public import proofs.«01_k».proof.Proof.Mix.Rounded
public import proofs.«01_k».proof.Proof.Gen.Mxf
public import proofs.«01_k».proof.Proof.Gen.MxfRefIdeal.Run
public import proofs.«01_k».proof.Proof.Mxf.Rounded
public import proofs.«01_k».proof.Proof.Mxf.Value
public import proofs.«01_k».proof.Proof.Gen.Bwd.Frame
public import proofs.«01_k».proof.Proof.Gen.BwdIdeal.Frame
public import proofs.«01_k».proof.Proof.Gen.BwdRefIdeal.Run
public import proofs.«01_k».proof.Proof.Gen.Loss.Frame
public import proofs.«01_k».proof.Proof.Gen.LossIdeal.Frame
public import proofs.«01_k».proof.Proof.Gen.LossRefIdeal.Run
public import proofs.«01_k».proof.Proof.Gen.Wg.Frame
public import proofs.«01_k».proof.Proof.Gen.WgIdeal.Frame
public import proofs.«01_k».proof.Proof.Gen.WgRefIdeal.Run
public import proofs.«01_k».proof.Proof.Gen.Inp.Frame
public import proofs.«01_k».proof.Proof.Gen.InpIdeal.Frame
public import proofs.«01_k».proof.Proof.Gen.InpRefIdeal.Run
public import proofs.«01_k».proof.Proof.Gen.Inz.Frame
public import proofs.«01_k».proof.Proof.Gen.InzIdeal.Frame
public import proofs.«01_k».proof.Proof.Gen.InzRefIdeal.Run
public import proofs.«01_k».proof.Proof.Gen.Att.Frame
public import proofs.«01_k».proof.Proof.Gen.AttIdeal.Frame
public import proofs.«01_k».proof.Proof.Gen.AttRefIdeal.Run
public import proofs.«01_k».proof.Proof.Gen.Rln.Frame
public import proofs.«01_k».proof.Proof.Gen.RlnIdeal.Frame
public import proofs.«01_k».proof.Proof.Gen.RlnRefIdeal.Run
public import proofs.«01_k».proof.Proof.Gen.Rlr.Frame
public import proofs.«01_k».proof.Proof.Gen.RlrIdeal.Frame
public import proofs.«01_k».proof.Proof.Gen.RlrRefIdeal.Run
public import proofs.«01_k».proof.Proof.Bwd.Value
public import proofs.«01_k».proof.Proof.Loss.Value
public import proofs.«01_k».proof.Proof.WgValue
public import proofs.«01_k».proof.Proof.Inp.Value
public import proofs.«01_k».proof.Proof.InzValue
public import proofs.«01_k».proof.Proof.Att.Value
public import proofs.«01_k».proof.Proof.RlnValue
public import proofs.«01_k».proof.Proof.RlrValue
public import Idealize.ShloMosaic.Lib.Claim

@[expose] public section

noncomputable section

namespace Cert.Proof

open Idealize.ShloMosaic Idealize.SL.Sem

theorem frame_attn_ref : Cert.quiescent_AttnRefIdeal (hAttnRefIdeal := Cert.AttnRefIdeal.Gen.facts) := by
  exact fun m g _ => (θ_run _ _ _).mono (fun r h => ⟨fun c => (h c).2.2, sem_eq_zero_of_no_sems rfl r.2⟩) (Cert.AttnRefIdeal.Value.run m g)

theorem attn_bwd : Cert.algebraic_AttnIdeal_AttnRefIdeal_pre_finite_attn (hAttnIdeal := Cert.AttnIdeal.Gen.facts)
    (hAttnRefIdeal := Cert.AttnRefIdeal.Gen.facts) (hPre_finite_attn := Cert.Pre_finite_attn.facts) := by
  pair_intro
  · run_from Cert.AttnIdeal.Gen.run_main m g
  · have e (c) : Cert.AttnRefIdeal.Bridge.argQ m' c = _ ∧ Cert.AttnRefIdeal.Bridge.argKV m' c = _ ∧ Cert.AttnRefIdeal.Bridge.argO m' c = _ := hagree c
    have q (c) := fun i => Cert.Pre_finite_attn.real0 _ _ _ i (congrFun (hpre c).1 i)
    have k (c) := fun i => Cert.Pre_finite_attn.real1 _ _ _ i (congrFun (hpre c).2.1 i)
    have o (c) := fun i => Cert.Pre_finite_attn.real2 _ _ _ i (congrFun (hpre c).2.2 i)
    run_from Cert.AttnRefIdeal.Value.run m' g'
    · exact Cert.AttnIdeal.Bridge.agree0 m m' c (e c).1 (e c).2.1 (e c).2.2 (q c) (k c) (o c)
    · exact Cert.AttnIdeal.Bridge.agree1 m m' c (e c).1 (e c).2.1 (e c).2.2 (q c) (k c) (o c)

theorem frame_ff2_ref : Cert.quiescent_Ff2RefIdeal (hFf2RefIdeal := Cert.Ff2RefIdeal.Gen.facts) := by
  exact fun m g _ => (θ_run _ _ _).mono (fun r h => ⟨fun c => (h c).2, sem_eq_zero_of_no_sems rfl r.2⟩) (Cert.Ff2RefIdeal.Value.run m g)

theorem ff2_bwd : Cert.algebraic_Ff2Ideal_Ff2RefIdeal (hFf2Ideal := Cert.Ff2Ideal.Gen.facts) (hFf2RefIdeal := Cert.Ff2RefIdeal.Gen.facts) := by
  pair_intro
  · run_from Cert.Ff2Ideal.Gen.run_main m g
  · run_from Cert.Ff2RefIdeal.Value.run m' g'
    exact (Cert.Ff2Ideal.Bridge.final m c).symm

theorem frame_mix_ref : Cert.quiescent_MixRefIdeal (hMixRefIdeal := Cert.MixRefIdeal.Gen.facts) := by
  exact fun m g _ => (θ_run _ _ _).mono (fun r h => ⟨fun c => (h c).2.2.2.2.2.2.2.2.2.2, sem_eq_zero_of_no_sems rfl r.2⟩) (Cert.MixRefIdeal.Value.run m g)

theorem frame_mxf_ref : Cert.quiescent_MxfRefIdeal (hMxfRefIdeal := Cert.MxfRefIdeal.Gen.facts) := by
  exact fun m g _ => (θ_run _ _ _).mono (fun r h => ⟨fun c => (h c).2.2, sem_eq_zero_of_no_sems rfl r.2⟩) (Cert.MxfRefIdeal.Value.run m g)

theorem frame_bwd_ref : Cert.quiescent_BwdRefIdeal (hBwdRefIdeal := Cert.BwdRefIdeal.Gen.facts) := by
  exact fun m g _ => (θ_run _ _ _).mono (fun r h => ⟨fun c => (h c).2.2.2.2, sem_eq_zero_of_no_sems rfl r.2⟩) (Cert.BwdRefIdeal.Value.run m g)

theorem frame_loss_ref : Cert.quiescent_LossRefIdeal (hLossRefIdeal := Cert.LossRefIdeal.Gen.facts) := by
  exact fun m g _ => (θ_run _ _ _).mono (fun r h => ⟨fun c => (h c).2.2.2.2, sem_eq_zero_of_no_sems rfl r.2⟩) (Cert.LossRefIdeal.Value.run m g)

theorem frame_wg_ref : Cert.quiescent_WgRefIdeal (hWgRefIdeal := Cert.WgRefIdeal.Gen.facts) := by
  exact fun m g _ => (θ_run _ _ _).mono (fun r h => ⟨fun c => (h c).2, sem_eq_zero_of_no_sems rfl r.2⟩) (Cert.WgRefIdeal.Value.run m g)

theorem frame_inp_ref : Cert.quiescent_InpRefIdeal (hInpRefIdeal := Cert.InpRefIdeal.Gen.facts) := by
  exact fun m g _ => (θ_run _ _ _).mono (fun r h => ⟨fun c => (h c).2.2.2, sem_eq_zero_of_no_sems rfl r.2⟩) (Cert.InpRefIdeal.Value.run m g)

theorem frame_inz_ref : Cert.quiescent_InzRefIdeal (hInzRefIdeal := Cert.InzRefIdeal.Gen.facts) := by
  exact fun m g _ => (θ_run _ _ _).mono (fun r h => ⟨fun c => (h c).2, sem_eq_zero_of_no_sems rfl r.2⟩) (Cert.InzRefIdeal.Value.run m g)

theorem frame_att_ref : Cert.quiescent_AttRefIdeal (hAttRefIdeal := Cert.AttRefIdeal.Gen.facts) := by
  exact fun m g _ => (θ_run _ _ _).mono (fun r h => ⟨fun c => (h c).2, sem_eq_zero_of_no_sems rfl r.2⟩) (Cert.AttRefIdeal.Value.run m g)

theorem frame_rln_ref : Cert.quiescent_RlnRefIdeal (hRlnRefIdeal := Cert.RlnRefIdeal.Gen.facts) := by
  exact fun m g _ => (θ_run _ _ _).mono (fun r h => ⟨fun c => (h c).2.2.2.2, sem_eq_zero_of_no_sems rfl r.2⟩) (Cert.RlnRefIdeal.Value.run m g)

theorem frame_rlr_ref : Cert.quiescent_RlrRefIdeal (hRlrRefIdeal := Cert.RlrRefIdeal.Gen.facts) := by
  exact fun m g _ => (θ_run _ _ _).mono (fun r h => ⟨fun c => (h c).2.2.2, sem_eq_zero_of_no_sems rfl r.2⟩) (Cert.RlrRefIdeal.Value.run m g)

theorem claim : Cert.Claim := ⟨Cert.Attn.Gen.facts, Cert.AttnIdeal.Gen.facts, Cert.AttnRefIdeal.Gen.facts,
  Cert.Ff2.Gen.facts, Cert.Ff2Ideal.Gen.facts, Cert.Ff2RefIdeal.Gen.facts,
  Cert.Mix.Gen.facts, Cert.MixIdeal.Gen.facts, Cert.MixRefIdeal.Gen.facts,
  Cert.Bwd.Gen.facts, Cert.BwdIdeal.Gen.facts, Cert.BwdRefIdeal.Gen.facts,
  Cert.Loss.Gen.facts, Cert.LossIdeal.Gen.facts, Cert.LossRefIdeal.Gen.facts,
  Cert.Wg.Gen.facts, Cert.WgIdeal.Gen.facts, Cert.WgRefIdeal.Gen.facts,
  Cert.Inp.Gen.facts, Cert.InpIdeal.Gen.facts, Cert.InpRefIdeal.Gen.facts,
  Cert.Inz.Gen.facts, Cert.InzIdeal.Gen.facts, Cert.InzRefIdeal.Gen.facts,
  Cert.Att.Gen.facts, Cert.AttIdeal.Gen.facts, Cert.AttRefIdeal.Gen.facts,
  Cert.Rln.Gen.facts, Cert.RlnIdeal.Gen.facts, Cert.RlnRefIdeal.Gen.facts,
  Cert.Rlr.Gen.facts, Cert.RlrIdeal.Gen.facts, Cert.RlrRefIdeal.Gen.facts,
  Cert.Mxf.Gen.facts, Cert.MxfIdeal.Gen.facts, Cert.MxfRefIdeal.Gen.facts,
  Cert.Pre_finite_attn.facts, Cert.Pre_finite_bwd.facts, Cert.Pre_finite_loss.facts, Cert.Pre_finite_inp.facts,
  fun m ρ _ => Cert.Attn.Gen.frame m ρ, fun m ρ _ => Cert.AttnIdeal.Gen.frame m ρ, fun m ρ _ => Cert.AttnIdeal.Gen.frame m ρ, frame_attn_ref,
  fun m ρ _ => frame_attn_ref m ρ trivial,
  fun m ρ _ => Cert.Ff2.Gen.frame m ρ, fun m ρ _ => Cert.Ff2Ideal.Gen.frame m ρ, frame_ff2_ref,
  Cert.Mix.frame, fun m ρ _ => Cert.MixIdeal.Pass.frame m ρ, frame_mix_ref,
  fun m ρ _ => Cert.Bwd.Gen.frame m ρ, fun m ρ _ => Cert.BwdIdeal.Gen.frame m ρ, fun m ρ _ => Cert.BwdIdeal.Gen.frame m ρ, frame_bwd_ref, fun m ρ _ => frame_bwd_ref m ρ trivial,
  fun m ρ _ => Cert.Loss.Gen.frame m ρ, fun m ρ _ => Cert.LossIdeal.Gen.frame m ρ, fun m ρ _ => Cert.LossIdeal.Gen.frame m ρ, frame_loss_ref, fun m ρ _ => frame_loss_ref m ρ trivial,
  fun m ρ _ => Cert.Wg.Gen.frame m ρ, fun m ρ _ => Cert.WgIdeal.Gen.frame m ρ, frame_wg_ref,
  fun m ρ _ => Cert.Inp.Gen.frame m ρ, fun m ρ _ => Cert.InpIdeal.Gen.frame m ρ, fun m ρ _ => Cert.InpIdeal.Gen.frame m ρ, frame_inp_ref, fun m ρ _ => frame_inp_ref m ρ trivial,
  fun m ρ _ => Cert.Inz.Gen.frame m ρ, fun m ρ _ => Cert.InzIdeal.Gen.frame m ρ, frame_inz_ref,
  fun m ρ _ => Cert.Att.Gen.frame m ρ, fun m ρ _ => Cert.AttIdeal.Gen.frame m ρ, frame_att_ref,
  fun m ρ _ => Cert.Rln.Gen.frame m ρ, fun m ρ _ => Cert.RlnIdeal.Gen.frame m ρ, frame_rln_ref,
  fun m ρ _ => Cert.Rlr.Gen.frame m ρ, fun m ρ _ => Cert.RlrIdeal.Gen.frame m ρ, frame_rlr_ref,
  Cert.Mxf.frame, fun m ρ _ => Cert.MxfIdeal.Mixer.frame m ρ, frame_mxf_ref,
  trivial, attn_bwd, trivial, ff2_bwd, trivial, trivial, Cert.BwdIdeal.pair, trivial, Cert.LossIdeal.pair, trivial, Cert.WgIdeal.pair, trivial, Cert.InpIdeal.pair, trivial, Cert.InzIdeal.pair, trivial, Cert.AttIdeal.pair, trivial, Cert.RlnIdeal.pair, trivial, Cert.RlrIdeal.pair, trivial, Cert.MxfIdeal.pair⟩

end Cert.Proof

end
